-- ==== Defs.lean ====
def Pre_LossK (m : (ℓ : Loc Cert.LossK.nD Cert.LossK.τ Cert.LossK.sig) → Buf (Elt Bits) ℓ) : Prop :=
  True

def Pre_LossKIdeal (m : (ℓ : Loc Cert.LossKIdeal.nD Cert.LossKIdeal.τ Cert.LossKIdeal.sig) → Buf (Elt Ideal) ℓ) : Prop :=
  True

def Pre_LossKIdeal_loss_finite [hPre_loss_finite : Cert.Pre_loss_finite.Facts] (m : (ℓ : Loc Cert.LossKIdeal.nD Cert.LossKIdeal.τ Cert.LossKIdeal.sig) → Buf (Elt Ideal) ℓ) : Prop :=
  ∀ c : Dev Cert.LossKIdeal.nD,
    (Cert.Pre_loss_finite.fn (F := Ideal) (m ((c.tc : Thread Cert.LossKIdeal.nD Cert.LossKIdeal.τ).loc Cert.LossKIdeal.main_arg0)) (m ((c.tc : Thread Cert.LossKIdeal.nD Cert.LossKIdeal.τ).loc Cert.LossKIdeal.main_arg1)) (m ((c.tc : Thread Cert.LossKIdeal.nD Cert.LossKIdeal.τ).loc Cert.LossKIdeal.main_arg2)) (m ((c.tc : Thread Cert.LossKIdeal.nD Cert.LossKIdeal.τ).loc Cert.LossKIdeal.main_arg3)) (m ((c.tc : Thread Cert.LossKIdeal.nD Cert.LossKIdeal.τ).loc Cert.LossKIdeal.main_arg4))).1 = (fun _ => 1#1)
    ∧ (Cert.Pre_loss_finite.fn (F := Ideal) (m ((c.tc : Thread Cert.LossKIdeal.nD Cert.LossKIdeal.τ).loc Cert.LossKIdeal.main_arg0)) (m ((c.tc : Thread Cert.LossKIdeal.nD Cert.LossKIdeal.τ).loc Cert.LossKIdeal.main_arg1)) (m ((c.tc : Thread Cert.LossKIdeal.nD Cert.LossKIdeal.τ).loc Cert.LossKIdeal.main_arg2)) (m ((c.tc : Thread Cert.LossKIdeal.nD Cert.LossKIdeal.τ).loc Cert.LossKIdeal.main_arg3)) (m ((c.tc : Thread Cert.LossKIdeal.nD Cert.LossKIdeal.τ).loc Cert.LossKIdeal.main_arg4))).2.1 = (fun _ => 1#1)
    ∧ (Cert.Pre_loss_finite.fn (F := Ideal) (m ((c.tc : Thread Cert.LossKIdeal.nD Cert.LossKIdeal.τ).loc Cert.LossKIdeal.main_arg0)) (m ((c.tc : Thread Cert.LossKIdeal.nD Cert.LossKIdeal.τ).loc Cert.LossKIdeal.main_arg1)) (m ((c.tc : Thread Cert.LossKIdeal.nD Cert.LossKIdeal.τ).loc Cert.LossKIdeal.main_arg2)) (m ((c.tc : Thread Cert.LossKIdeal.nD Cert.LossKIdeal.τ).loc Cert.LossKIdeal.main_arg3)) (m ((c.tc : Thread Cert.LossKIdeal.nD Cert.LossKIdeal.τ).loc Cert.LossKIdeal.main_arg4))).2.2.1 = (fun _ => 1#1)
    ∧ (Cert.Pre_loss_finite.fn (F := Ideal) (m ((c.tc : Thread Cert.LossKIdeal.nD Cert.LossKIdeal.τ).loc Cert.LossKIdeal.main_arg0)) (m ((c.tc : Thread Cert.LossKIdeal.nD Cert.LossKIdeal.τ).loc Cert.LossKIdeal.main_arg1)) (m ((c.tc : Thread Cert.LossKIdeal.nD Cert.LossKIdeal.τ).loc Cert.LossKIdeal.main_arg2)) (m ((c.tc : Thread Cert.LossKIdeal.nD Cert.LossKIdeal.τ).loc Cert.LossKIdeal.main_arg3)) (m ((c.tc : Thread Cert.LossKIdeal.nD Cert.LossKIdeal.τ).loc Cert.LossKIdeal.main_arg4))).2.2.2.1 = (fun _ => 1#1)
    ∧ (Cert.Pre_loss_finite.fn (F := Ideal) (m ((c.tc : Thread Cert.LossKIdeal.nD Cert.LossKIdeal.τ).loc Cert.LossKIdeal.main_arg0)) (m ((c.tc : Thread Cert.LossKIdeal.nD Cert.LossKIdeal.τ).loc Cert.LossKIdeal.main_arg1)) (m ((c.tc : Thread Cert.LossKIdeal.nD Cert.LossKIdeal.τ).loc Cert.LossKIdeal.main_arg2)) (m ((c.tc : Thread Cert.LossKIdeal.nD Cert.LossKIdeal.τ).loc Cert.LossKIdeal.main_arg3)) (m ((c.tc : Thread Cert.LossKIdeal.nD Cert.LossKIdeal.τ).loc Cert.LossKIdeal.main_arg4))).2.2.2.2 = (fun _ => 1#1)

def Pre_LossRIdeal (m : (ℓ : Loc Cert.LossRIdeal.nD Cert.LossRIdeal.τ Cert.LossRIdeal.sig) → Buf (Elt Ideal) ℓ) : Prop :=
  True

def Pre_LossRIdeal_loss_finite [hPre_loss_finite : Cert.Pre_loss_finite.Facts] (m : (ℓ : Loc Cert.LossRIdeal.nD Cert.LossRIdeal.τ Cert.LossRIdeal.sig) → Buf (Elt Ideal) ℓ) : Prop :=
  ∀ c : Dev Cert.LossRIdeal.nD,
    (Cert.Pre_loss_finite.fn (F := Ideal) (m ((c.tc : Thread Cert.LossRIdeal.nD Cert.LossRIdeal.τ).loc Cert.LossRIdeal.main_arg0)) (m ((c.tc : Thread Cert.LossRIdeal.nD Cert.LossRIdeal.τ).loc Cert.LossRIdeal.main_arg1)) (m ((c.tc : Thread Cert.LossRIdeal.nD Cert.LossRIdeal.τ).loc Cert.LossRIdeal.main_arg2)) (m ((c.tc : Thread Cert.LossRIdeal.nD Cert.LossRIdeal.τ).loc Cert.LossRIdeal.main_arg3)) (m ((c.tc : Thread Cert.LossRIdeal.nD Cert.LossRIdeal.τ).loc Cert.LossRIdeal.main_arg4))).1 = (fun _ => 1#1)
    ∧ (Cert.Pre_loss_finite.fn (F := Ideal) (m ((c.tc : Thread Cert.LossRIdeal.nD Cert.LossRIdeal.τ).loc Cert.LossRIdeal.main_arg0)) (m ((c.tc : Thread Cert.LossRIdeal.nD Cert.LossRIdeal.τ).loc Cert.LossRIdeal.main_arg1)) (m ((c.tc : Thread Cert.LossRIdeal.nD Cert.LossRIdeal.τ).loc Cert.LossRIdeal.main_arg2)) (m ((c.tc : Thread Cert.LossRIdeal.nD Cert.LossRIdeal.τ).loc Cert.LossRIdeal.main_arg3)) (m ((c.tc : Thread Cert.LossRIdeal.nD Cert.LossRIdeal.τ).loc Cert.LossRIdeal.main_arg4))).2.1 = (fun _ => 1#1)
    ∧ (Cert.Pre_loss_finite.fn (F := Ideal) (m ((c.tc : Thread Cert.LossRIdeal.nD Cert.LossRIdeal.τ).loc Cert.LossRIdeal.main_arg0)) (m ((c.tc : Thread Cert.LossRIdeal.nD Cert.LossRIdeal.τ).loc Cert.LossRIdeal.main_arg1)) (m ((c.tc : Thread Cert.LossRIdeal.nD Cert.LossRIdeal.τ).loc Cert.LossRIdeal.main_arg2)) (m ((c.tc : Thread Cert.LossRIdeal.nD Cert.LossRIdeal.τ).loc Cert.LossRIdeal.main_arg3)) (m ((c.tc : Thread Cert.LossRIdeal.nD Cert.LossRIdeal.τ).loc Cert.LossRIdeal.main_arg4))).2.2.1 = (fun _ => 1#1)
    ∧ (Cert.Pre_loss_finite.fn (F := Ideal) (m ((c.tc : Thread Cert.LossRIdeal.nD Cert.LossRIdeal.τ).loc Cert.LossRIdeal.main_arg0)) (m ((c.tc : Thread Cert.LossRIdeal.nD Cert.LossRIdeal.τ).loc Cert.LossRIdeal.main_arg1)) (m ((c.tc : Thread Cert.LossRIdeal.nD Cert.LossRIdeal.τ).loc Cert.LossRIdeal.main_arg2)) (m ((c.tc : Thread Cert.LossRIdeal.nD Cert.LossRIdeal.τ).loc Cert.LossRIdeal.main_arg3)) (m ((c.tc : Thread Cert.LossRIdeal.nD Cert.LossRIdeal.τ).loc Cert.LossRIdeal.main_arg4))).2.2.2.1 = (fun _ => 1#1)
    ∧ (Cert.Pre_loss_finite.fn (F := Ideal) (m ((c.tc : Thread Cert.LossRIdeal.nD Cert.LossRIdeal.τ).loc Cert.LossRIdeal.main_arg0)) (m ((c.tc : Thread Cert.LossRIdeal.nD Cert.LossRIdeal.τ).loc Cert.LossRIdeal.main_arg1)) (m ((c.tc : Thread Cert.LossRIdeal.nD Cert.LossRIdeal.τ).loc Cert.LossRIdeal.main_arg2)) (m ((c.tc : Thread Cert.LossRIdeal.nD Cert.LossRIdeal.τ).loc Cert.LossRIdeal.main_arg3)) (m ((c.tc : Thread Cert.LossRIdeal.nD Cert.LossRIdeal.τ).loc Cert.LossRIdeal.main_arg4))).2.2.2.2 = (fun _ => 1#1)

def Pre_ReluK (m : (ℓ : Loc Cert.ReluK.nD Cert.ReluK.τ Cert.ReluK.sig) → Buf (Elt Bits) ℓ) : Prop :=
  True

def Pre_ReluKIdeal (m : (ℓ : Loc Cert.ReluKIdeal.nD Cert.ReluKIdeal.τ Cert.ReluKIdeal.sig) → Buf (Elt Ideal) ℓ) : Prop :=
  True

def Pre_ReluKIdeal_ff2_finite [hPre_ff2_finite : Cert.Pre_ff2_finite.Facts] (m : (ℓ : Loc Cert.ReluKIdeal.nD Cert.ReluKIdeal.τ Cert.ReluKIdeal.sig) → Buf (Elt Ideal) ℓ) : Prop :=
  ∀ c : Dev Cert.ReluKIdeal.nD,
    (Cert.Pre_ff2_finite.fn (F := Ideal) (m ((c.tc : Thread Cert.ReluKIdeal.nD Cert.ReluKIdeal.τ).loc Cert.ReluKIdeal.main_arg0)) (m ((c.tc : Thread Cert.ReluKIdeal.nD Cert.ReluKIdeal.τ).loc Cert.ReluKIdeal.main_arg1)) (m ((c.tc : Thread Cert.ReluKIdeal.nD Cert.ReluKIdeal.τ).loc Cert.ReluKIdeal.main_arg2)) (m ((c.tc : Thread Cert.ReluKIdeal.nD Cert.ReluKIdeal.τ).loc Cert.ReluKIdeal.main_arg3))).1 = (fun _ => 1#1)
    ∧ (Cert.Pre_ff2_finite.fn (F := Ideal) (m ((c.tc : Thread Cert.ReluKIdeal.nD Cert.ReluKIdeal.τ).loc Cert.ReluKIdeal.main_arg0)) (m ((c.tc : Thread Cert.ReluKIdeal.nD Cert.ReluKIdeal.τ).loc Cert.ReluKIdeal.main_arg1)) (m ((c.tc : Thread Cert.ReluKIdeal.nD Cert.ReluKIdeal.τ).loc Cert.ReluKIdeal.main_arg2)) (m ((c.tc : Thread Cert.ReluKIdeal.nD Cert.ReluKIdeal.τ).loc Cert.ReluKIdeal.main_arg3))).2 = (fun _ => 1#1)

def Pre_ReluRIdeal (m : (ℓ : Loc Cert.ReluRIdeal.nD Cert.ReluRIdeal.τ Cert.ReluRIdeal.sig) → Buf (Elt Ideal) ℓ) : Prop :=
  True

def Pre_ReluRIdeal_ff2_finite [hPre_ff2_finite : Cert.Pre_ff2_finite.Facts] (m : (ℓ : Loc Cert.ReluRIdeal.nD Cert.ReluRIdeal.τ Cert.ReluRIdeal.sig) → Buf (Elt Ideal) ℓ) : Prop :=
  ∀ c : Dev Cert.ReluRIdeal.nD,
    (Cert.Pre_ff2_finite.fn (F := Ideal) (m ((c.tc : Thread Cert.ReluRIdeal.nD Cert.ReluRIdeal.τ).loc Cert.ReluRIdeal.main_arg0)) (m ((c.tc : Thread Cert.ReluRIdeal.nD Cert.ReluRIdeal.τ).loc Cert.ReluRIdeal.main_arg1)) (m ((c.tc : Thread Cert.ReluRIdeal.nD Cert.ReluRIdeal.τ).loc Cert.ReluRIdeal.main_arg2)) (m ((c.tc : Thread Cert.ReluRIdeal.nD Cert.ReluRIdeal.τ).loc Cert.ReluRIdeal.main_arg3))).1 = (fun _ => 1#1)
    ∧ (Cert.Pre_ff2_finite.fn (F := Ideal) (m ((c.tc : Thread Cert.ReluRIdeal.nD Cert.ReluRIdeal.τ).loc Cert.ReluRIdeal.main_arg0)) (m ((c.tc : Thread Cert.ReluRIdeal.nD Cert.ReluRIdeal.τ).loc Cert.ReluRIdeal.main_arg1)) (m ((c.tc : Thread Cert.ReluRIdeal.nD Cert.ReluRIdeal.τ).loc Cert.ReluRIdeal.main_arg2)) (m ((c.tc : Thread Cert.ReluRIdeal.nD Cert.ReluRIdeal.τ).loc Cert.ReluRIdeal.main_arg3))).2 = (fun _ => 1#1)

def Pre_NormK (m : (ℓ : Loc Cert.NormK.nD Cert.NormK.τ Cert.NormK.sig) → Buf (Elt Bits) ℓ) : Prop :=
  True

def Pre_NormKIdeal (m : (ℓ : Loc Cert.NormKIdeal.nD Cert.NormKIdeal.τ Cert.NormKIdeal.sig) → Buf (Elt Ideal) ℓ) : Prop :=
  True

def Pre_NormKIdeal_ff1_finite [hPre_ff1_finite : Cert.Pre_ff1_finite.Facts] (m : (ℓ : Loc Cert.NormKIdeal.nD Cert.NormKIdeal.τ Cert.NormKIdeal.sig) → Buf (Elt Ideal) ℓ) : Prop :=
  ∀ c : Dev Cert.NormKIdeal.nD,
    (Cert.Pre_ff1_finite.fn (F := Ideal) (m ((c.tc : Thread Cert.NormKIdeal.nD Cert.NormKIdeal.τ).loc Cert.NormKIdeal.main_arg0)) (m ((c.tc : Thread Cert.NormKIdeal.nD Cert.NormKIdeal.τ).loc Cert.NormKIdeal.main_arg1)) (m ((c.tc : Thread Cert.NormKIdeal.nD Cert.NormKIdeal.τ).loc Cert.NormKIdeal.main_arg2)) (m ((c.tc : Thread Cert.NormKIdeal.nD Cert.NormKIdeal.τ).loc Cert.NormKIdeal.main_arg3)) (m ((c.tc : Thread Cert.NormKIdeal.nD Cert.NormKIdeal.τ).loc Cert.NormKIdeal.main_arg4)) (m ((c.tc : Thread Cert.NormKIdeal.nD Cert.NormKIdeal.τ).loc Cert.NormKIdeal.main_arg5)) (m ((c.tc : Thread Cert.NormKIdeal.nD Cert.NormKIdeal.τ).loc Cert.NormKIdeal.main_arg6))).1 = (fun _ => 1#1)
    ∧ (Cert.Pre_ff1_finite.fn (F := Ideal) (m ((c.tc : Thread Cert.NormKIdeal.nD Cert.NormKIdeal.τ).loc Cert.NormKIdeal.main_arg0)) (m ((c.tc : Thread Cert.NormKIdeal.nD Cert.NormKIdeal.τ).loc Cert.NormKIdeal.main_arg1)) (m ((c.tc : Thread Cert.NormKIdeal.nD Cert.NormKIdeal.τ).loc Cert.NormKIdeal.main_arg2)) (m ((c.tc : Thread Cert.NormKIdeal.nD Cert.NormKIdeal.τ).loc Cert.NormKIdeal.main_arg3)) (m ((c.tc : Thread Cert.NormKIdeal.nD Cert.NormKIdeal.τ).loc Cert.NormKIdeal.main_arg4)) (m ((c.tc : Thread Cert.NormKIdeal.nD Cert.NormKIdeal.τ).loc Cert.NormKIdeal.main_arg5)) (m ((c.tc : Thread Cert.NormKIdeal.nD Cert.NormKIdeal.τ).loc Cert.NormKIdeal.main_arg6))).2.1 = (fun _ => 1#1)
    ∧ (Cert.Pre_ff1_finite.fn (F := Ideal) (m ((c.tc : Thread Cert.NormKIdeal.nD Cert.NormKIdeal.τ).loc Cert.NormKIdeal.main_arg0)) (m ((c.tc : Thread Cert.NormKIdeal.nD Cert.NormKIdeal.τ).loc Cert.NormKIdeal.main_arg1)) (m ((c.tc : Thread Cert.NormKIdeal.nD Cert.NormKIdeal.τ).loc Cert.NormKIdeal.main_arg2)) (m ((c.tc : Thread Cert.NormKIdeal.nD Cert.NormKIdeal.τ).loc Cert.NormKIdeal.main_arg3)) (m ((c.tc : Thread Cert.NormKIdeal.nD Cert.NormKIdeal.τ).loc Cert.NormKIdeal.main_arg4)) (m ((c.tc : Thread Cert.NormKIdeal.nD Cert.NormKIdeal.τ).loc Cert.NormKIdeal.main_arg5)) (m ((c.tc : Thread Cert.NormKIdeal.nD Cert.NormKIdeal.τ).loc Cert.NormKIdeal.main_arg6))).2.2.1 = (fun _ => 1#1)
    ∧ (Cert.Pre_ff1_finite.fn (F := Ideal) (m ((c.tc : Thread Cert.NormKIdeal.nD Cert.NormKIdeal.τ).loc Cert.NormKIdeal.main_arg0)) (m ((c.tc : Thread Cert.NormKIdeal.nD Cert.NormKIdeal.τ).loc Cert.NormKIdeal.main_arg1)) (m ((c.tc : Thread Cert.NormKIdeal.nD Cert.NormKIdeal.τ).loc Cert.NormKIdeal.main_arg2)) (m ((c.tc : Thread Cert.NormKIdeal.nD Cert.NormKIdeal.τ).loc Cert.NormKIdeal.main_arg3)) (m ((c.tc : Thread Cert.NormKIdeal.nD Cert.NormKIdeal.τ).loc Cert.NormKIdeal.main_arg4)) (m ((c.tc : Thread Cert.NormKIdeal.nD Cert.NormKIdeal.τ).loc Cert.NormKIdeal.main_arg5)) (m ((c.tc : Thread Cert.NormKIdeal.nD Cert.NormKIdeal.τ).loc Cert.NormKIdeal.main_arg6))).2.2.2.1 = (fun _ => 1#1)
    ∧ (Cert.Pre_ff1_finite.fn (F := Ideal) (m ((c.tc : Thread Cert.NormKIdeal.nD Cert.NormKIdeal.τ).loc Cert.NormKIdeal.main_arg0)) (m ((c.tc : Thread Cert.NormKIdeal.nD Cert.NormKIdeal.τ).loc Cert.NormKIdeal.main_arg1)) (m ((c.tc : Thread Cert.NormKIdeal.nD Cert.NormKIdeal.τ).loc Cert.NormKIdeal.main_arg2)) (m ((c.tc : Thread Cert.NormKIdeal.nD Cert.NormKIdeal.τ).loc Cert.NormKIdeal.main_arg3)) (m ((c.tc : Thread Cert.NormKIdeal.nD Cert.NormKIdeal.τ).loc Cert.NormKIdeal.main_arg4)) (m ((c.tc : Thread Cert.NormKIdeal.nD Cert.NormKIdeal.τ).loc Cert.NormKIdeal.main_arg5)) (m ((c.tc : Thread Cert.NormKIdeal.nD Cert.NormKIdeal.τ).loc Cert.NormKIdeal.main_arg6))).2.2.2.2.1 = (fun _ => 1#1)
    ∧ (Cert.Pre_ff1_finite.fn (F := Ideal) (m ((c.tc : Thread Cert.NormKIdeal.nD Cert.NormKIdeal.τ).loc Cert.NormKIdeal.main_arg0)) (m ((c.tc : Thread Cert.NormKIdeal.nD Cert.NormKIdeal.τ).loc Cert.NormKIdeal.main_arg1)) (m ((c.tc : Thread Cert.NormKIdeal.nD Cert.NormKIdeal.τ).loc Cert.NormKIdeal.main_arg2)) (m ((c.tc : Thread Cert.NormKIdeal.nD Cert.NormKIdeal.τ).loc Cert.NormKIdeal.main_arg3)) (m ((c.tc : Thread Cert.NormKIdeal.nD Cert.NormKIdeal.τ).loc Cert.NormKIdeal.main_arg4)) (m ((c.tc : Thread Cert.NormKIdeal.nD Cert.NormKIdeal.τ).loc Cert.NormKIdeal.main_arg5)) (m ((c.tc : Thread Cert.NormKIdeal.nD Cert.NormKIdeal.τ).loc Cert.NormKIdeal.main_arg6))).2.2.2.2.2.1 = (fun _ => 1#1)
    ∧ (Cert.Pre_ff1_finite.fn (F := Ideal) (m ((c.tc : Thread Cert.NormKIdeal.nD Cert.NormKIdeal.τ).loc Cert.NormKIdeal.main_arg0)) (m ((c.tc : Thread Cert.NormKIdeal.nD Cert.NormKIdeal.τ).loc Cert.NormKIdeal.main_arg1)) (m ((c.tc : Thread Cert.NormKIdeal.nD Cert.NormKIdeal.τ).loc Cert.NormKIdeal.main_arg2)) (m ((c.tc : Thread Cert.NormKIdeal.nD Cert.NormKIdeal.τ).loc Cert.NormKIdeal.main_arg3)) (m ((c.tc : Thread Cert.NormKIdeal.nD Cert.NormKIdeal.τ).loc Cert.NormKIdeal.main_arg4)) (m ((c.tc : Thread Cert.NormKIdeal.nD Cert.NormKIdeal.τ).loc Cert.NormKIdeal.main_arg5)) (m ((c.tc : Thread Cert.NormKIdeal.nD Cert.NormKIdeal.τ).loc Cert.NormKIdeal.main_arg6))).2.2.2.2.2.2 = (fun _ => 1#1)

def Pre_NormRIdeal (m : (ℓ : Loc Cert.NormRIdeal.nD Cert.NormRIdeal.τ Cert.NormRIdeal.sig) → Buf (Elt Ideal) ℓ) : Prop :=
  True

def Pre_NormRIdeal_ff1_finite [hPre_ff1_finite : Cert.Pre_ff1_finite.Facts] (m : (ℓ : Loc Cert.NormRIdeal.nD Cert.NormRIdeal.τ Cert.NormRIdeal.sig) → Buf (Elt Ideal) ℓ) : Prop :=
  ∀ c : Dev Cert.NormRIdeal.nD,
    (Cert.Pre_ff1_finite.fn (F := Ideal) (m ((c.tc : Thread Cert.NormRIdeal.nD Cert.NormRIdeal.τ).loc Cert.NormRIdeal.main_arg0)) (m ((c.tc : Thread Cert.NormRIdeal.nD Cert.NormRIdeal.τ).loc Cert.NormRIdeal.main_arg1)) (m ((c.tc : Thread Cert.NormRIdeal.nD Cert.NormRIdeal.τ).loc Cert.NormRIdeal.main_arg2)) (m ((c.tc : Thread Cert.NormRIdeal.nD Cert.NormRIdeal.τ).loc Cert.NormRIdeal.main_arg3)) (m ((c.tc : Thread Cert.NormRIdeal.nD Cert.NormRIdeal.τ).loc Cert.NormRIdeal.main_arg4)) (m ((c.tc : Thread Cert.NormRIdeal.nD Cert.NormRIdeal.τ).loc Cert.NormRIdeal.main_arg5)) (m ((c.tc : Thread Cert.NormRIdeal.nD Cert.NormRIdeal.τ).loc Cert.NormRIdeal.main_arg6))).1 = (fun _ => 1#1)
    ∧ (Cert.Pre_ff1_finite.fn (F := Ideal) (m ((c.tc : Thread Cert.NormRIdeal.nD Cert.NormRIdeal.τ).loc Cert.NormRIdeal.main_arg0)) (m ((c.tc : Thread Cert.NormRIdeal.nD Cert.NormRIdeal.τ).loc Cert.NormRIdeal.main_arg1)) (m ((c.tc : Thread Cert.NormRIdeal.nD Cert.NormRIdeal.τ).loc Cert.NormRIdeal.main_arg2)) (m ((c.tc : Thread Cert.NormRIdeal.nD Cert.NormRIdeal.τ).loc Cert.NormRIdeal.main_arg3)) (m ((c.tc : Thread Cert.NormRIdeal.nD Cert.NormRIdeal.τ).loc Cert.NormRIdeal.main_arg4)) (m ((c.tc : Thread Cert.NormRIdeal.nD Cert.NormRIdeal.τ).loc Cert.NormRIdeal.main_arg5)) (m ((c.tc : Thread Cert.NormRIdeal.nD Cert.NormRIdeal.τ).loc Cert.NormRIdeal.main_arg6))).2.1 = (fun _ => 1#1)
    ∧ (Cert.Pre_ff1_finite.fn (F := Ideal) (m ((c.tc : Thread Cert.NormRIdeal.nD Cert.NormRIdeal.τ).loc Cert.NormRIdeal.main_arg0)) (m ((c.tc : Thread Cert.NormRIdeal.nD Cert.NormRIdeal.τ).loc Cert.NormRIdeal.main_arg1)) (m ((c.tc : Thread Cert.NormRIdeal.nD Cert.NormRIdeal.τ).loc Cert.NormRIdeal.main_arg2)) (m ((c.tc : Thread Cert.NormRIdeal.nD Cert.NormRIdeal.τ).loc Cert.NormRIdeal.main_arg3)) (m ((c.tc : Thread Cert.NormRIdeal.nD Cert.NormRIdeal.τ).loc Cert.NormRIdeal.main_arg4)) (m ((c.tc : Thread Cert.NormRIdeal.nD Cert.NormRIdeal.τ).loc Cert.NormRIdeal.main_arg5)) (m ((c.tc : Thread Cert.NormRIdeal.nD Cert.NormRIdeal.τ).loc Cert.NormRIdeal.main_arg6))).2.2.1 = (fun _ => 1#1)
    ∧ (Cert.Pre_ff1_finite.fn (F := Ideal) (m ((c.tc : Thread Cert.NormRIdeal.nD Cert.NormRIdeal.τ).loc Cert.NormRIdeal.main_arg0)) (m ((c.tc : Thread Cert.NormRIdeal.nD Cert.NormRIdeal.τ).loc Cert.NormRIdeal.main_arg1)) (m ((c.tc : Thread Cert.NormRIdeal.nD Cert.NormRIdeal.τ).loc Cert.NormRIdeal.main_arg2)) (m ((c.tc : Thread Cert.NormRIdeal.nD Cert.NormRIdeal.τ).loc Cert.NormRIdeal.main_arg3)) (m ((c.tc : Thread Cert.NormRIdeal.nD Cert.NormRIdeal.τ).loc Cert.NormRIdeal.main_arg4)) (m ((c.tc : Thread Cert.NormRIdeal.nD Cert.NormRIdeal.τ).loc Cert.NormRIdeal.main_arg5)) (m ((c.tc : Thread Cert.NormRIdeal.nD Cert.NormRIdeal.τ).loc Cert.NormRIdeal.main_arg6))).2.2.2.1 = (fun _ => 1#1)
    ∧ (Cert.Pre_ff1_finite.fn (F := Ideal) (m ((c.tc : Thread Cert.NormRIdeal.nD Cert.NormRIdeal.τ).loc Cert.NormRIdeal.main_arg0)) (m ((c.tc : Thread Cert.NormRIdeal.nD Cert.NormRIdeal.τ).loc Cert.NormRIdeal.main_arg1)) (m ((c.tc : Thread Cert.NormRIdeal.nD Cert.NormRIdeal.τ).loc Cert.NormRIdeal.main_arg2)) (m ((c.tc : Thread Cert.NormRIdeal.nD Cert.NormRIdeal.τ).loc Cert.NormRIdeal.main_arg3)) (m ((c.tc : Thread Cert.NormRIdeal.nD Cert.NormRIdeal.τ).loc Cert.NormRIdeal.main_arg4)) (m ((c.tc : Thread Cert.NormRIdeal.nD Cert.NormRIdeal.τ).loc Cert.NormRIdeal.main_arg5)) (m ((c.tc : Thread Cert.NormRIdeal.nD Cert.NormRIdeal.τ).loc Cert.NormRIdeal.main_arg6))).2.2.2.2.1 = (fun _ => 1#1)
    ∧ (Cert.Pre_ff1_finite.fn (F := Ideal) (m ((c.tc : Thread Cert.NormRIdeal.nD Cert.NormRIdeal.τ).loc Cert.NormRIdeal.main_arg0)) (m ((c.tc : Thread Cert.NormRIdeal.nD Cert.NormRIdeal.τ).loc Cert.NormRIdeal.main_arg1)) (m ((c.tc : Thread Cert.NormRIdeal.nD Cert.NormRIdeal.τ).loc Cert.NormRIdeal.main_arg2)) (m ((c.tc : Thread Cert.NormRIdeal.nD Cert.NormRIdeal.τ).loc Cert.NormRIdeal.main_arg3)) (m ((c.tc : Thread Cert.NormRIdeal.nD Cert.NormRIdeal.τ).loc Cert.NormRIdeal.main_arg4)) (m ((c.tc : Thread Cert.NormRIdeal.nD Cert.NormRIdeal.τ).loc Cert.NormRIdeal.main_arg5)) (m ((c.tc : Thread Cert.NormRIdeal.nD Cert.NormRIdeal.τ).loc Cert.NormRIdeal.main_arg6))).2.2.2.2.2.1 = (fun _ => 1#1)
    ∧ (Cert.Pre_ff1_finite.fn (F := Ideal) (m ((c.tc : Thread Cert.NormRIdeal.nD Cert.NormRIdeal.τ).loc Cert.NormRIdeal.main_arg0)) (m ((c.tc : Thread Cert.NormRIdeal.nD Cert.NormRIdeal.τ).loc Cert.NormRIdeal.main_arg1)) (m ((c.tc : Thread Cert.NormRIdeal.nD Cert.NormRIdeal.τ).loc Cert.NormRIdeal.main_arg2)) (m ((c.tc : Thread Cert.NormRIdeal.nD Cert.NormRIdeal.τ).loc Cert.NormRIdeal.main_arg3)) (m ((c.tc : Thread Cert.NormRIdeal.nD Cert.NormRIdeal.τ).loc Cert.NormRIdeal.main_arg4)) (m ((c.tc : Thread Cert.NormRIdeal.nD Cert.NormRIdeal.τ).loc Cert.NormRIdeal.main_arg5)) (m ((c.tc : Thread Cert.NormRIdeal.nD Cert.NormRIdeal.τ).loc Cert.NormRIdeal.main_arg6))).2.2.2.2.2.2 = (fun _ => 1#1)

def Pre_InK (m : (ℓ : Loc Cert.InK.nD Cert.InK.τ Cert.InK.sig) → Buf (Elt Bits) ℓ) : Prop :=
  True

def Pre_InKIdeal (m : (ℓ : Loc Cert.InKIdeal.nD Cert.InKIdeal.τ Cert.InKIdeal.sig) → Buf (Elt Ideal) ℓ) : Prop :=
  True

def Pre_InKIdeal_in_finite [hPre_in_finite : Cert.Pre_in_finite.Facts] (m : (ℓ : Loc Cert.InKIdeal.nD Cert.InKIdeal.τ Cert.InKIdeal.sig) → Buf (Elt Ideal) ℓ) : Prop :=
  ∀ c : Dev Cert.InKIdeal.nD,
    (Cert.Pre_in_finite.fn (F := Ideal) (m ((c.tc : Thread Cert.InKIdeal.nD Cert.InKIdeal.τ).loc Cert.InKIdeal.main_arg0)) (m ((c.tc : Thread Cert.InKIdeal.nD Cert.InKIdeal.τ).loc Cert.InKIdeal.main_arg1)) (m ((c.tc : Thread Cert.InKIdeal.nD Cert.InKIdeal.τ).loc Cert.InKIdeal.main_arg2)) (m ((c.tc : Thread Cert.InKIdeal.nD Cert.InKIdeal.τ).loc Cert.InKIdeal.main_arg3)) (m ((c.tc : Thread Cert.InKIdeal.nD Cert.InKIdeal.τ).loc Cert.InKIdeal.main_arg4)) (m ((c.tc : Thread Cert.InKIdeal.nD Cert.InKIdeal.τ).loc Cert.InKIdeal.main_arg5)) (m ((c.tc : Thread Cert.InKIdeal.nD Cert.InKIdeal.τ).loc Cert.InKIdeal.main_arg6)) (m ((c.tc : Thread Cert.InKIdeal.nD Cert.InKIdeal.τ).loc Cert.InKIdeal.main_arg7)) (m ((c.tc : Thread Cert.InKIdeal.nD Cert.InKIdeal.τ).loc Cert.InKIdeal.main_arg8)) (m ((c.tc : Thread Cert.InKIdeal.nD Cert.InKIdeal.τ).loc Cert.InKIdeal.main_arg9))).1 = (fun _ => 1#1)
    ∧ (Cert.Pre_in_finite.fn (F := Ideal) (m ((c.tc : Thread Cert.InKIdeal.nD Cert.InKIdeal.τ).loc Cert.InKIdeal.main_arg0)) (m ((c.tc : Thread Cert.InKIdeal.nD Cert.InKIdeal.τ).loc Cert.InKIdeal.main_arg1)) (m ((c.tc : Thread Cert.InKIdeal.nD Cert.InKIdeal.τ).loc Cert.InKIdeal.main_arg2)) (m ((c.tc : Thread Cert.InKIdeal.nD Cert.InKIdeal.τ).loc Cert.InKIdeal.main_arg3)) (m ((c.tc : Thread Cert.InKIdeal.nD Cert.InKIdeal.τ).loc Cert.InKIdeal.main_arg4)) (m ((c.tc : Thread Cert.InKIdeal.nD Cert.InKIdeal.τ).loc Cert.InKIdeal.main_arg5)) (m ((c.tc : Thread Cert.InKIdeal.nD Cert.InKIdeal.τ).loc Cert.InKIdeal.main_arg6)) (m ((c.tc : Thread Cert.InKIdeal.nD Cert.InKIdeal.τ).loc Cert.InKIdeal.main_arg7)) (m ((c.tc : Thread Cert.InKIdeal.nD Cert.InKIdeal.τ).loc Cert.InKIdeal.main_arg8)) (m ((c.tc : Thread Cert.InKIdeal.nD Cert.InKIdeal.τ).loc Cert.InKIdeal.main_arg9))).2.1 = (fun _ => 1#1)
    ∧ (Cert.Pre_in_finite.fn (F := Ideal) (m ((c.tc : Thread Cert.InKIdeal.nD Cert.InKIdeal.τ).loc Cert.InKIdeal.main_arg0)) (m ((c.tc : Thread Cert.InKIdeal.nD Cert.InKIdeal.τ).loc Cert.InKIdeal.main_arg1)) (m ((c.tc : Thread Cert.InKIdeal.nD Cert.InKIdeal.τ).loc Cert.InKIdeal.main_arg2)) (m ((c.tc : Thread Cert.InKIdeal.nD Cert.InKIdeal.τ).loc Cert.InKIdeal.main_arg3)) (m ((c.tc : Thread Cert.InKIdeal.nD Cert.InKIdeal.τ).loc Cert.InKIdeal.main_arg4)) (m ((c.tc : Thread Cert.InKIdeal.nD Cert.InKIdeal.τ).loc Cert.InKIdeal.main_arg5)) (m ((c.tc : Thread Cert.InKIdeal.nD Cert.InKIdeal.τ).loc Cert.InKIdeal.main_arg6)) (m ((c.tc : Thread Cert.InKIdeal.nD Cert.InKIdeal.τ).loc Cert.InKIdeal.main_arg7)) (m ((c.tc : Thread Cert.InKIdeal.nD Cert.InKIdeal.τ).loc Cert.InKIdeal.main_arg8)) (m ((c.tc : Thread Cert.InKIdeal.nD Cert.InKIdeal.τ).loc Cert.InKIdeal.main_arg9))).2.2.1 = (fun _ => 1#1)
    ∧ (Cert.Pre_in_finite.fn (F := Ideal) (m ((c.tc : Thread Cert.InKIdeal.nD Cert.InKIdeal.τ).loc Cert.InKIdeal.main_arg0)) (m ((c.tc : Thread Cert.InKIdeal.nD Cert.InKIdeal.τ).loc Cert.InKIdeal.main_arg1)) (m ((c.tc : Thread Cert.InKIdeal.nD Cert.InKIdeal.τ).loc Cert.InKIdeal.main_arg2)) (m ((c.tc : Thread Cert.InKIdeal.nD Cert.InKIdeal.τ).loc Cert.InKIdeal.main_arg3)) (m ((c.tc : Thread Cert.InKIdeal.nD Cert.InKIdeal.τ).loc Cert.InKIdeal.main_arg4)) (m ((c.tc : Thread Cert.InKIdeal.nD Cert.InKIdeal.τ).loc Cert.InKIdeal.main_arg5)) (m ((c.tc : Thread Cert.InKIdeal.nD Cert.InKIdeal.τ).loc Cert.InKIdeal.main_arg6)) (m ((c.tc : Thread Cert.InKIdeal.nD Cert.InKIdeal.τ).loc Cert.InKIdeal.main_arg7)) (m ((c.tc : Thread Cert.InKIdeal.nD Cert.InKIdeal.τ).loc Cert.InKIdeal.main_arg8)) (m ((c.tc : Thread Cert.InKIdeal.nD Cert.InKIdeal.τ).loc Cert.InKIdeal.main_arg9))).2.2.2.1 = (fun _ => 1#1)
    ∧ (Cert.Pre_in_finite.fn (F := Ideal) (m ((c.tc : Thread Cert.InKIdeal.nD Cert.InKIdeal.τ).loc Cert.InKIdeal.main_arg0)) (m ((c.tc : Thread Cert.InKIdeal.nD Cert.InKIdeal.τ).loc Cert.InKIdeal.main_arg1)) (m ((c.tc : Thread Cert.InKIdeal.nD Cert.InKIdeal.τ).loc Cert.InKIdeal.main_arg2)) (m ((c.tc : Thread Cert.InKIdeal.nD Cert.InKIdeal.τ).loc Cert.InKIdeal.main_arg3)) (m ((c.tc : Thread Cert.InKIdeal.nD Cert.InKIdeal.τ).loc Cert.InKIdeal.main_arg4)) (m ((c.tc : Thread Cert.InKIdeal.nD Cert.InKIdeal.τ).loc Cert.InKIdeal.main_arg5)) (m ((c.tc : Thread Cert.InKIdeal.nD Cert.InKIdeal.τ).loc Cert.InKIdeal.main_arg6)) (m ((c.tc : Thread Cert.InKIdeal.nD Cert.InKIdeal.τ).loc Cert.InKIdeal.main_arg7)) (m ((c.tc : Thread Cert.InKIdeal.nD Cert.InKIdeal.τ).loc Cert.InKIdeal.main_arg8)) (m ((c.tc : Thread Cert.InKIdeal.nD Cert.InKIdeal.τ).loc Cert.InKIdeal.main_arg9))).2.2.2.2.1 = (fun _ => 1#1)
    ∧ (Cert.Pre_in_finite.fn (F := Ideal) (m ((c.tc : Thread Cert.InKIdeal.nD Cert.InKIdeal.τ).loc Cert.InKIdeal.main_arg0)) (m ((c.tc : Thread Cert.InKIdeal.nD Cert.InKIdeal.τ).loc Cert.InKIdeal.main_arg1)) (m ((c.tc : Thread Cert.InKIdeal.nD Cert.InKIdeal.τ).loc Cert.InKIdeal.main_arg2)) (m ((c.tc : Thread Cert.InKIdeal.nD Cert.InKIdeal.τ).loc Cert.InKIdeal.main_arg3)) (m ((c.tc : Thread Cert.InKIdeal.nD Cert.InKIdeal.τ).loc Cert.InKIdeal.main_arg4)) (m ((c.tc : Thread Cert.InKIdeal.nD Cert.InKIdeal.τ).loc Cert.InKIdeal.main_arg5)) (m ((c.tc : Thread Cert.InKIdeal.nD Cert.InKIdeal.τ).loc Cert.InKIdeal.main_arg6)) (m ((c.tc : Thread Cert.InKIdeal.nD Cert.InKIdeal.τ).loc Cert.InKIdeal.main_arg7)) (m ((c.tc : Thread Cert.InKIdeal.nD Cert.InKIdeal.τ).loc Cert.InKIdeal.main_arg8)) (m ((c.tc : Thread Cert.InKIdeal.nD Cert.InKIdeal.τ).loc Cert.InKIdeal.main_arg9))).2.2.2.2.2.1 = (fun _ => 1#1)
    ∧ (Cert.Pre_in_finite.fn (F := Ideal) (m ((c.tc : Thread Cert.InKIdeal.nD Cert.InKIdeal.τ).loc Cert.InKIdeal.main_arg0)) (m ((c.tc : Thread Cert.InKIdeal.nD Cert.InKIdeal.τ).loc Cert.InKIdeal.main_arg1)) (m ((c.tc : Thread Cert.InKIdeal.nD Cert.InKIdeal.τ).loc Cert.InKIdeal.main_arg2)) (m ((c.tc : Thread Cert.InKIdeal.nD Cert.InKIdeal.τ).loc Cert.InKIdeal.main_arg3)) (m ((c.tc : Thread Cert.InKIdeal.nD Cert.InKIdeal.τ).loc Cert.InKIdeal.main_arg4)) (m ((c.tc : Thread Cert.InKIdeal.nD Cert.InKIdeal.τ).loc Cert.InKIdeal.main_arg5)) (m ((c.tc : Thread Cert.InKIdeal.nD Cert.InKIdeal.τ).loc Cert.InKIdeal.main_arg6)) (m ((c.tc : Thread Cert.InKIdeal.nD Cert.InKIdeal.τ).loc Cert.InKIdeal.main_arg7)) (m ((c.tc : Thread Cert.InKIdeal.nD Cert.InKIdeal.τ).loc Cert.InKIdeal.main_arg8)) (m ((c.tc : Thread Cert.InKIdeal.nD Cert.InKIdeal.τ).loc Cert.InKIdeal.main_arg9))).2.2.2.2.2.2.1 = (fun _ => 1#1)
    ∧ (Cert.Pre_in_finite.fn (F := Ideal) (m ((c.tc : Thread Cert.InKIdeal.nD Cert.InKIdeal.τ).loc Cert.InKIdeal.main_arg0)) (m ((c.tc : Thread Cert.InKIdeal.nD Cert.InKIdeal.τ).loc Cert.InKIdeal.main_arg1)) (m ((c.tc : Thread Cert.InKIdeal.nD Cert.InKIdeal.τ).loc Cert.InKIdeal.main_arg2)) (m ((c.tc : Thread Cert.InKIdeal.nD Cert.InKIdeal.τ).loc Cert.InKIdeal.main_arg3)) (m ((c.tc : Thread Cert.InKIdeal.nD Cert.InKIdeal.τ).loc Cert.InKIdeal.main_arg4)) (m ((c.tc : Thread Cert.InKIdeal.nD Cert.InKIdeal.τ).loc Cert.InKIdeal.main_arg5)) (m ((c.tc : Thread Cert.InKIdeal.nD Cert.InKIdeal.τ).loc Cert.InKIdeal.main_arg6)) (m ((c.tc : Thread Cert.InKIdeal.nD Cert.InKIdeal.τ).loc Cert.InKIdeal.main_arg7)) (m ((c.tc : Thread Cert.InKIdeal.nD Cert.InKIdeal.τ).loc Cert.InKIdeal.main_arg8)) (m ((c.tc : Thread Cert.InKIdeal.nD Cert.InKIdeal.τ).loc Cert.InKIdeal.main_arg9))).2.2.2.2.2.2.2.1 = (fun _ => 1#1)
    ∧ (Cert.Pre_in_finite.fn (F := Ideal) (m ((c.tc : Thread Cert.InKIdeal.nD Cert.InKIdeal.τ).loc Cert.InKIdeal.main_arg0)) (m ((c.tc : Thread Cert.InKIdeal.nD Cert.InKIdeal.τ).loc Cert.InKIdeal.main_arg1)) (m ((c.tc : Thread Cert.InKIdeal.nD Cert.InKIdeal.τ).loc Cert.InKIdeal.main_arg2)) (m ((c.tc : Thread Cert.InKIdeal.nD Cert.InKIdeal.τ).loc Cert.InKIdeal.main_arg3)) (m ((c.tc : Thread Cert.InKIdeal.nD Cert.InKIdeal.τ).loc Cert.InKIdeal.main_arg4)) (m ((c.tc : Thread Cert.InKIdeal.nD Cert.InKIdeal.τ).loc Cert.InKIdeal.main_arg5)) (m ((c.tc : Thread Cert.InKIdeal.nD Cert.InKIdeal.τ).loc Cert.InKIdeal.main_arg6)) (m ((c.tc : Thread Cert.InKIdeal.nD Cert.InKIdeal.τ).loc Cert.InKIdeal.main_arg7)) (m ((c.tc : Thread Cert.InKIdeal.nD Cert.InKIdeal.τ).loc Cert.InKIdeal.main_arg8)) (m ((c.tc : Thread Cert.InKIdeal.nD Cert.InKIdeal.τ).loc Cert.InKIdeal.main_arg9))).2.2.2.2.2.2.2.2.1 = (fun _ => 1#1)
    ∧ (Cert.Pre_in_finite.fn (F := Ideal) (m ((c.tc : Thread Cert.InKIdeal.nD Cert.InKIdeal.τ).loc Cert.InKIdeal.main_arg0)) (m ((c.tc : Thread Cert.InKIdeal.nD Cert.InKIdeal.τ).loc Cert.InKIdeal.main_arg1)) (m ((c.tc : Thread Cert.InKIdeal.nD Cert.InKIdeal.τ).loc Cert.InKIdeal.main_arg2)) (m ((c.tc : Thread Cert.InKIdeal.nD Cert.InKIdeal.τ).loc Cert.InKIdeal.main_arg3)) (m ((c.tc : Thread Cert.InKIdeal.nD Cert.InKIdeal.τ).loc Cert.InKIdeal.main_arg4)) (m ((c.tc : Thread Cert.InKIdeal.nD Cert.InKIdeal.τ).loc Cert.InKIdeal.main_arg5)) (m ((c.tc : Thread Cert.InKIdeal.nD Cert.InKIdeal.τ).loc Cert.InKIdeal.main_arg6)) (m ((c.tc : Thread Cert.InKIdeal.nD Cert.InKIdeal.τ).loc Cert.InKIdeal.main_arg7)) (m ((c.tc : Thread Cert.InKIdeal.nD Cert.InKIdeal.τ).loc Cert.InKIdeal.main_arg8)) (m ((c.tc : Thread Cert.InKIdeal.nD Cert.InKIdeal.τ).loc Cert.InKIdeal.main_arg9))).2.2.2.2.2.2.2.2.2 = (fun _ => 1#1)

def Pre_InRIdeal (m : (ℓ : Loc Cert.InRIdeal.nD Cert.InRIdeal.τ Cert.InRIdeal.sig) → Buf (Elt Ideal) ℓ) : Prop :=
  True

def Pre_InRIdeal_in_finite [hPre_in_finite : Cert.Pre_in_finite.Facts] (m : (ℓ : Loc Cert.InRIdeal.nD Cert.InRIdeal.τ Cert.InRIdeal.sig) → Buf (Elt Ideal) ℓ) : Prop :=
  ∀ c : Dev Cert.InRIdeal.nD,
    (Cert.Pre_in_finite.fn (F := Ideal) (m ((c.tc : Thread Cert.InRIdeal.nD Cert.InRIdeal.τ).loc Cert.InRIdeal.main_arg0)) (m ((c.tc : Thread Cert.InRIdeal.nD Cert.InRIdeal.τ).loc Cert.InRIdeal.main_arg1)) (m ((c.tc : Thread Cert.InRIdeal.nD Cert.InRIdeal.τ).loc Cert.InRIdeal.main_arg2)) (m ((c.tc : Thread Cert.InRIdeal.nD Cert.InRIdeal.τ).loc Cert.InRIdeal.main_arg3)) (m ((c.tc : Thread Cert.InRIdeal.nD Cert.InRIdeal.τ).loc Cert.InRIdeal.main_arg4)) (m ((c.tc : Thread Cert.InRIdeal.nD Cert.InRIdeal.τ).loc Cert.InRIdeal.main_arg5)) (m ((c.tc : Thread Cert.InRIdeal.nD Cert.InRIdeal.τ).loc Cert.InRIdeal.main_arg6)) (m ((c.tc : Thread Cert.InRIdeal.nD Cert.InRIdeal.τ).loc Cert.InRIdeal.main_arg7)) (m ((c.tc : Thread Cert.InRIdeal.nD Cert.InRIdeal.τ).loc Cert.InRIdeal.main_arg8)) (m ((c.tc : Thread Cert.InRIdeal.nD Cert.InRIdeal.τ).loc Cert.InRIdeal.main_arg9))).1 = (fun _ => 1#1)
    ∧ (Cert.Pre_in_finite.fn (F := Ideal) (m ((c.tc : Thread Cert.InRIdeal.nD Cert.InRIdeal.τ).loc Cert.InRIdeal.main_arg0)) (m ((c.tc : Thread Cert.InRIdeal.nD Cert.InRIdeal.τ).loc Cert.InRIdeal.main_arg1)) (m ((c.tc : Thread Cert.InRIdeal.nD Cert.InRIdeal.τ).loc Cert.InRIdeal.main_arg2)) (m ((c.tc : Thread Cert.InRIdeal.nD Cert.InRIdeal.τ).loc Cert.InRIdeal.main_arg3)) (m ((c.tc : Thread Cert.InRIdeal.nD Cert.InRIdeal.τ).loc Cert.InRIdeal.main_arg4)) (m ((c.tc : Thread Cert.InRIdeal.nD Cert.InRIdeal.τ).loc Cert.InRIdeal.main_arg5)) (m ((c.tc : Thread Cert.InRIdeal.nD Cert.InRIdeal.τ).loc Cert.InRIdeal.main_arg6)) (m ((c.tc : Thread Cert.InRIdeal.nD Cert.InRIdeal.τ).loc Cert.InRIdeal.main_arg7)) (m ((c.tc : Thread Cert.InRIdeal.nD Cert.InRIdeal.τ).loc Cert.InRIdeal.main_arg8)) (m ((c.tc : Thread Cert.InRIdeal.nD Cert.InRIdeal.τ).loc Cert.InRIdeal.main_arg9))).2.1 = (fun _ => 1#1)
    ∧ (Cert.Pre_in_finite.fn (F := Ideal) (m ((c.tc : Thread Cert.InRIdeal.nD Cert.InRIdeal.τ).loc Cert.InRIdeal.main_arg0)) (m ((c.tc : Thread Cert.InRIdeal.nD Cert.InRIdeal.τ).loc Cert.InRIdeal.main_arg1)) (m ((c.tc : Thread Cert.InRIdeal.nD Cert.InRIdeal.τ).loc Cert.InRIdeal.main_arg2)) (m ((c.tc : Thread Cert.InRIdeal.nD Cert.InRIdeal.τ).loc Cert.InRIdeal.main_arg3)) (m ((c.tc : Thread Cert.InRIdeal.nD Cert.InRIdeal.τ).loc Cert.InRIdeal.main_arg4)) (m ((c.tc : Thread Cert.InRIdeal.nD Cert.InRIdeal.τ).loc Cert.InRIdeal.main_arg5)) (m ((c.tc : Thread Cert.InRIdeal.nD Cert.InRIdeal.τ).loc Cert.InRIdeal.main_arg6)) (m ((c.tc : Thread Cert.InRIdeal.nD Cert.InRIdeal.τ).loc Cert.InRIdeal.main_arg7)) (m ((c.tc : Thread Cert.InRIdeal.nD Cert.InRIdeal.τ).loc Cert.InRIdeal.main_arg8)) (m ((c.tc : Thread Cert.InRIdeal.nD Cert.InRIdeal.τ).loc Cert.InRIdeal.main_arg9))).2.2.1 = (fun _ => 1#1)
    ∧ (Cert.Pre_in_finite.fn (F := Ideal) (m ((c.tc : Thread Cert.InRIdeal.nD Cert.InRIdeal.τ).loc Cert.InRIdeal.main_arg0)) (m ((c.tc : Thread Cert.InRIdeal.nD Cert.InRIdeal.τ).loc Cert.InRIdeal.main_arg1)) (m ((c.tc : Thread Cert.InRIdeal.nD Cert.InRIdeal.τ).loc Cert.InRIdeal.main_arg2)) (m ((c.tc : Thread Cert.InRIdeal.nD Cert.InRIdeal.τ).loc Cert.InRIdeal.main_arg3)) (m ((c.tc : Thread Cert.InRIdeal.nD Cert.InRIdeal.τ).loc Cert.InRIdeal.main_arg4)) (m ((c.tc : Thread Cert.InRIdeal.nD Cert.InRIdeal.τ).loc Cert.InRIdeal.main_arg5)) (m ((c.tc : Thread Cert.InRIdeal.nD Cert.InRIdeal.τ).loc Cert.InRIdeal.main_arg6)) (m ((c.tc : Thread Cert.InRIdeal.nD Cert.InRIdeal.τ).loc Cert.InRIdeal.main_arg7)) (m ((c.tc : Thread Cert.InRIdeal.nD Cert.InRIdeal.τ).loc Cert.InRIdeal.main_arg8)) (m ((c.tc : Thread Cert.InRIdeal.nD Cert.InRIdeal.τ).loc Cert.InRIdeal.main_arg9))).2.2.2.1 = (fun _ => 1#1)
    ∧ (Cert.Pre_in_finite.fn (F := Ideal) (m ((c.tc : Thread Cert.InRIdeal.nD Cert.InRIdeal.τ).loc Cert.InRIdeal.main_arg0)) (m ((c.tc : Thread Cert.InRIdeal.nD Cert.InRIdeal.τ).loc Cert.InRIdeal.main_arg1)) (m ((c.tc : Thread Cert.InRIdeal.nD Cert.InRIdeal.τ).loc Cert.InRIdeal.main_arg2)) (m ((c.tc : Thread Cert.InRIdeal.nD Cert.InRIdeal.τ).loc Cert.InRIdeal.main_arg3)) (m ((c.tc : Thread Cert.InRIdeal.nD Cert.InRIdeal.τ).loc Cert.InRIdeal.main_arg4)) (m ((c.tc : Thread Cert.InRIdeal.nD Cert.InRIdeal.τ).loc Cert.InRIdeal.main_arg5)) (m ((c.tc : Thread Cert.InRIdeal.nD Cert.InRIdeal.τ).loc Cert.InRIdeal.main_arg6)) (m ((c.tc : Thread Cert.InRIdeal.nD Cert.InRIdeal.τ).loc Cert.InRIdeal.main_arg7)) (m ((c.tc : Thread Cert.InRIdeal.nD Cert.InRIdeal.τ).loc Cert.InRIdeal.main_arg8)) (m ((c.tc : Thread Cert.InRIdeal.nD Cert.InRIdeal.τ).loc Cert.InRIdeal.main_arg9))).2.2.2.2.1 = (fun _ => 1#1)
    ∧ (Cert.Pre_in_finite.fn (F := Ideal) (m ((c.tc : Thread Cert.InRIdeal.nD Cert.InRIdeal.τ).loc Cert.InRIdeal.main_arg0)) (m ((c.tc : Thread Cert.InRIdeal.nD Cert.InRIdeal.τ).loc Cert.InRIdeal.main_arg1)) (m ((c.tc : Thread Cert.InRIdeal.nD Cert.InRIdeal.τ).loc Cert.InRIdeal.main_arg2)) (m ((c.tc : Thread Cert.InRIdeal.nD Cert.InRIdeal.τ).loc Cert.InRIdeal.main_arg3)) (m ((c.tc : Thread Cert.InRIdeal.nD Cert.InRIdeal.τ).loc Cert.InRIdeal.main_arg4)) (m ((c.tc : Thread Cert.InRIdeal.nD Cert.InRIdeal.τ).loc Cert.InRIdeal.main_arg5)) (m ((c.tc : Thread Cert.InRIdeal.nD Cert.InRIdeal.τ).loc Cert.InRIdeal.main_arg6)) (m ((c.tc : Thread Cert.InRIdeal.nD Cert.InRIdeal.τ).loc Cert.InRIdeal.main_arg7)) (m ((c.tc : Thread Cert.InRIdeal.nD Cert.InRIdeal.τ).loc Cert.InRIdeal.main_arg8)) (m ((c.tc : Thread Cert.InRIdeal.nD Cert.InRIdeal.τ).loc Cert.InRIdeal.main_arg9))).2.2.2.2.2.1 = (fun _ => 1#1)
    ∧ (Cert.Pre_in_finite.fn (F := Ideal) (m ((c.tc : Thread Cert.InRIdeal.nD Cert.InRIdeal.τ).loc Cert.InRIdeal.main_arg0)) (m ((c.tc : Thread Cert.InRIdeal.nD Cert.InRIdeal.τ).loc Cert.InRIdeal.main_arg1)) (m ((c.tc : Thread Cert.InRIdeal.nD Cert.InRIdeal.τ).loc Cert.InRIdeal.main_arg2)) (m ((c.tc : Thread Cert.InRIdeal.nD Cert.InRIdeal.τ).loc Cert.InRIdeal.main_arg3)) (m ((c.tc : Thread Cert.InRIdeal.nD Cert.InRIdeal.τ).loc Cert.InRIdeal.main_arg4)) (m ((c.tc : Thread Cert.InRIdeal.nD Cert.InRIdeal.τ).loc Cert.InRIdeal.main_arg5)) (m ((c.tc : Thread Cert.InRIdeal.nD Cert.InRIdeal.τ).loc Cert.InRIdeal.main_arg6)) (m ((c.tc : Thread Cert.InRIdeal.nD Cert.InRIdeal.τ).loc Cert.InRIdeal.main_arg7)) (m ((c.tc : Thread Cert.InRIdeal.nD Cert.InRIdeal.τ).loc Cert.InRIdeal.main_arg8)) (m ((c.tc : Thread Cert.InRIdeal.nD Cert.InRIdeal.τ).loc Cert.InRIdeal.main_arg9))).2.2.2.2.2.2.1 = (fun _ => 1#1)
    ∧ (Cert.Pre_in_finite.fn (F := Ideal) (m ((c.tc : Thread Cert.InRIdeal.nD Cert.InRIdeal.τ).loc Cert.InRIdeal.main_arg0)) (m ((c.tc : Thread Cert.InRIdeal.nD Cert.InRIdeal.τ).loc Cert.InRIdeal.main_arg1)) (m ((c.tc : Thread Cert.InRIdeal.nD Cert.InRIdeal.τ).loc Cert.InRIdeal.main_arg2)) (m ((c.tc : Thread Cert.InRIdeal.nD Cert.InRIdeal.τ).loc Cert.InRIdeal.main_arg3)) (m ((c.tc : Thread Cert.InRIdeal.nD Cert.InRIdeal.τ).loc Cert.InRIdeal.main_arg4)) (m ((c.tc : Thread Cert.InRIdeal.nD Cert.InRIdeal.τ).loc Cert.InRIdeal.main_arg5)) (m ((c.tc : Thread Cert.InRIdeal.nD Cert.InRIdeal.τ).loc Cert.InRIdeal.main_arg6)) (m ((c.tc : Thread Cert.InRIdeal.nD Cert.InRIdeal.τ).loc Cert.InRIdeal.main_arg7)) (m ((c.tc : Thread Cert.InRIdeal.nD Cert.InRIdeal.τ).loc Cert.InRIdeal.main_arg8)) (m ((c.tc : Thread Cert.InRIdeal.nD Cert.InRIdeal.τ).loc Cert.InRIdeal.main_arg9))).2.2.2.2.2.2.2.1 = (fun _ => 1#1)
    ∧ (Cert.Pre_in_finite.fn (F := Ideal) (m ((c.tc : Thread Cert.InRIdeal.nD Cert.InRIdeal.τ).loc Cert.InRIdeal.main_arg0)) (m ((c.tc : Thread Cert.InRIdeal.nD Cert.InRIdeal.τ).loc Cert.InRIdeal.main_arg1)) (m ((c.tc : Thread Cert.InRIdeal.nD Cert.InRIdeal.τ).loc Cert.InRIdeal.main_arg2)) (m ((c.tc : Thread Cert.InRIdeal.nD Cert.InRIdeal.τ).loc Cert.InRIdeal.main_arg3)) (m ((c.tc : Thread Cert.InRIdeal.nD Cert.InRIdeal.τ).loc Cert.InRIdeal.main_arg4)) (m ((c.tc : Thread Cert.InRIdeal.nD Cert.InRIdeal.τ).loc Cert.InRIdeal.main_arg5)) (m ((c.tc : Thread Cert.InRIdeal.nD Cert.InRIdeal.τ).loc Cert.InRIdeal.main_arg6)) (m ((c.tc : Thread Cert.InRIdeal.nD Cert.InRIdeal.τ).loc Cert.InRIdeal.main_arg7)) (m ((c.tc : Thread Cert.InRIdeal.nD Cert.InRIdeal.τ).loc Cert.InRIdeal.main_arg8)) (m ((c.tc : Thread Cert.InRIdeal.nD Cert.InRIdeal.τ).loc Cert.InRIdeal.main_arg9))).2.2.2.2.2.2.2.2.1 = (fun _ => 1#1)
    ∧ (Cert.Pre_in_finite.fn (F := Ideal) (m ((c.tc : Thread Cert.InRIdeal.nD Cert.InRIdeal.τ).loc Cert.InRIdeal.main_arg0)) (m ((c.tc : Thread Cert.InRIdeal.nD Cert.InRIdeal.τ).loc Cert.InRIdeal.main_arg1)) (m ((c.tc : Thread Cert.InRIdeal.nD Cert.InRIdeal.τ).loc Cert.InRIdeal.main_arg2)) (m ((c.tc : Thread Cert.InRIdeal.nD Cert.InRIdeal.τ).loc Cert.InRIdeal.main_arg3)) (m ((c.tc : Thread Cert.InRIdeal.nD Cert.InRIdeal.τ).loc Cert.InRIdeal.main_arg4)) (m ((c.tc : Thread Cert.InRIdeal.nD Cert.InRIdeal.τ).loc Cert.InRIdeal.main_arg5)) (m ((c.tc : Thread Cert.InRIdeal.nD Cert.InRIdeal.τ).loc Cert.InRIdeal.main_arg6)) (m ((c.tc : Thread Cert.InRIdeal.nD Cert.InRIdeal.τ).loc Cert.InRIdeal.main_arg7)) (m ((c.tc : Thread Cert.InRIdeal.nD Cert.InRIdeal.τ).loc Cert.InRIdeal.main_arg8)) (m ((c.tc : Thread Cert.InRIdeal.nD Cert.InRIdeal.τ).loc Cert.InRIdeal.main_arg9))).2.2.2.2.2.2.2.2.2 = (fun _ => 1#1)

def Pre_MixK (m : (ℓ : Loc Cert.MixK.nD Cert.MixK.τ Cert.MixK.sig) → Buf (Elt Bits) ℓ) : Prop :=
  True

def Pre_MixKIdeal (m : (ℓ : Loc Cert.MixKIdeal.nD Cert.MixKIdeal.τ Cert.MixKIdeal.sig) → Buf (Elt Ideal) ℓ) : Prop :=
  True

def Pre_MixKIdeal_mix_finite [hPre_mix_finite : Cert.Pre_mix_finite.Facts] (m : (ℓ : Loc Cert.MixKIdeal.nD Cert.MixKIdeal.τ Cert.MixKIdeal.sig) → Buf (Elt Ideal) ℓ) : Prop :=
  ∀ c : Dev Cert.MixKIdeal.nD,
    (Cert.Pre_mix_finite.fn (F := Ideal) (m ((c.tc : Thread Cert.MixKIdeal.nD Cert.MixKIdeal.τ).loc Cert.MixKIdeal.main_arg0)) (m ((c.tc : Thread Cert.MixKIdeal.nD Cert.MixKIdeal.τ).loc Cert.MixKIdeal.main_arg1)) (m ((c.tc : Thread Cert.MixKIdeal.nD Cert.MixKIdeal.τ).loc Cert.MixKIdeal.main_arg2)) (m ((c.tc : Thread Cert.MixKIdeal.nD Cert.MixKIdeal.τ).loc Cert.MixKIdeal.main_arg3)) (m ((c.tc : Thread Cert.MixKIdeal.nD Cert.MixKIdeal.τ).loc Cert.MixKIdeal.main_arg4)) (m ((c.tc : Thread Cert.MixKIdeal.nD Cert.MixKIdeal.τ).loc Cert.MixKIdeal.main_arg5)) (m ((c.tc : Thread Cert.MixKIdeal.nD Cert.MixKIdeal.τ).loc Cert.MixKIdeal.main_arg6)) (m ((c.tc : Thread Cert.MixKIdeal.nD Cert.MixKIdeal.τ).loc Cert.MixKIdeal.main_arg7))).1 = (fun _ => 1#1)
    ∧ (Cert.Pre_mix_finite.fn (F := Ideal) (m ((c.tc : Thread Cert.MixKIdeal.nD Cert.MixKIdeal.τ).loc Cert.MixKIdeal.main_arg0)) (m ((c.tc : Thread Cert.MixKIdeal.nD Cert.MixKIdeal.τ).loc Cert.MixKIdeal.main_arg1)) (m ((c.tc : Thread Cert.MixKIdeal.nD Cert.MixKIdeal.τ).loc Cert.MixKIdeal.main_arg2)) (m ((c.tc : Thread Cert.MixKIdeal.nD Cert.MixKIdeal.τ).loc Cert.MixKIdeal.main_arg3)) (m ((c.tc : Thread Cert.MixKIdeal.nD Cert.MixKIdeal.τ).loc Cert.MixKIdeal.main_arg4)) (m ((c.tc : Thread Cert.MixKIdeal.nD Cert.MixKIdeal.τ).loc Cert.MixKIdeal.main_arg5)) (m ((c.tc : Thread Cert.MixKIdeal.nD Cert.MixKIdeal.τ).loc Cert.MixKIdeal.main_arg6)) (m ((c.tc : Thread Cert.MixKIdeal.nD Cert.MixKIdeal.τ).loc Cert.MixKIdeal.main_arg7))).2.1 = (fun _ => 1#1)
    ∧ (Cert.Pre_mix_finite.fn (F := Ideal) (m ((c.tc : Thread Cert.MixKIdeal.nD Cert.MixKIdeal.τ).loc Cert.MixKIdeal.main_arg0)) (m ((c.tc : Thread Cert.MixKIdeal.nD Cert.MixKIdeal.τ).loc Cert.MixKIdeal.main_arg1)) (m ((c.tc : Thread Cert.MixKIdeal.nD Cert.MixKIdeal.τ).loc Cert.MixKIdeal.main_arg2)) (m ((c.tc : Thread Cert.MixKIdeal.nD Cert.MixKIdeal.τ).loc Cert.MixKIdeal.main_arg3)) (m ((c.tc : Thread Cert.MixKIdeal.nD Cert.MixKIdeal.τ).loc Cert.MixKIdeal.main_arg4)) (m ((c.tc : Thread Cert.MixKIdeal.nD Cert.MixKIdeal.τ).loc Cert.MixKIdeal.main_arg5)) (m ((c.tc : Thread Cert.MixKIdeal.nD Cert.MixKIdeal.τ).loc Cert.MixKIdeal.main_arg6)) (m ((c.tc : Thread Cert.MixKIdeal.nD Cert.MixKIdeal.τ).loc Cert.MixKIdeal.main_arg7))).2.2.1 = (fun _ => 1#1)
    ∧ (Cert.Pre_mix_finite.fn (F := Ideal) (m ((c.tc : Thread Cert.MixKIdeal.nD Cert.MixKIdeal.τ).loc Cert.MixKIdeal.main_arg0)) (m ((c.tc : Thread Cert.MixKIdeal.nD Cert.MixKIdeal.τ).loc Cert.MixKIdeal.main_arg1)) (m ((c.tc : Thread Cert.MixKIdeal.nD Cert.MixKIdeal.τ).loc Cert.MixKIdeal.main_arg2)) (m ((c.tc : Thread Cert.MixKIdeal.nD Cert.MixKIdeal.τ).loc Cert.MixKIdeal.main_arg3)) (m ((c.tc : Thread Cert.MixKIdeal.nD Cert.MixKIdeal.τ).loc Cert.MixKIdeal.main_arg4)) (m ((c.tc : Thread Cert.MixKIdeal.nD Cert.MixKIdeal.τ).loc Cert.MixKIdeal.main_arg5)) (m ((c.tc : Thread Cert.MixKIdeal.nD Cert.MixKIdeal.τ).loc Cert.MixKIdeal.main_arg6)) (m ((c.tc : Thread Cert.MixKIdeal.nD Cert.MixKIdeal.τ).loc Cert.MixKIdeal.main_arg7))).2.2.2.1 = (fun _ => 1#1)
    ∧ (Cert.Pre_mix_finite.fn (F := Ideal) (m ((c.tc : Thread Cert.MixKIdeal.nD Cert.MixKIdeal.τ).loc Cert.MixKIdeal.main_arg0)) (m ((c.tc : Thread Cert.MixKIdeal.nD Cert.MixKIdeal.τ).loc Cert.MixKIdeal.main_arg1)) (m ((c.tc : Thread Cert.MixKIdeal.nD Cert.MixKIdeal.τ).loc Cert.MixKIdeal.main_arg2)) (m ((c.tc : Thread Cert.MixKIdeal.nD Cert.MixKIdeal.τ).loc Cert.MixKIdeal.main_arg3)) (m ((c.tc : Thread Cert.MixKIdeal.nD Cert.MixKIdeal.τ).loc Cert.MixKIdeal.main_arg4)) (m ((c.tc : Thread Cert.MixKIdeal.nD Cert.MixKIdeal.τ).loc Cert.MixKIdeal.main_arg5)) (m ((c.tc : Thread Cert.MixKIdeal.nD Cert.MixKIdeal.τ).loc Cert.MixKIdeal.main_arg6)) (m ((c.tc : Thread Cert.MixKIdeal.nD Cert.MixKIdeal.τ).loc Cert.MixKIdeal.main_arg7))).2.2.2.2.1 = (fun _ => 1#1)
    ∧ (Cert.Pre_mix_finite.fn (F := Ideal) (m ((c.tc : Thread Cert.MixKIdeal.nD Cert.MixKIdeal.τ).loc Cert.MixKIdeal.main_arg0)) (m ((c.tc : Thread Cert.MixKIdeal.nD Cert.MixKIdeal.τ).loc Cert.MixKIdeal.main_arg1)) (m ((c.tc : Thread Cert.MixKIdeal.nD Cert.MixKIdeal.τ).loc Cert.MixKIdeal.main_arg2)) (m ((c.tc : Thread Cert.MixKIdeal.nD Cert.MixKIdeal.τ).loc Cert.MixKIdeal.main_arg3)) (m ((c.tc : Thread Cert.MixKIdeal.nD Cert.MixKIdeal.τ).loc Cert.MixKIdeal.main_arg4)) (m ((c.tc : Thread Cert.MixKIdeal.nD Cert.MixKIdeal.τ).loc Cert.MixKIdeal.main_arg5)) (m ((c.tc : Thread Cert.MixKIdeal.nD Cert.MixKIdeal.τ).loc Cert.MixKIdeal.main_arg6)) (m ((c.tc : Thread Cert.MixKIdeal.nD Cert.MixKIdeal.τ).loc Cert.MixKIdeal.main_arg7))).2.2.2.2.2.1 = (fun _ => 1#1)
    ∧ (Cert.Pre_mix_finite.fn (F := Ideal) (m ((c.tc : Thread Cert.MixKIdeal.nD Cert.MixKIdeal.τ).loc Cert.MixKIdeal.main_arg0)) (m ((c.tc : Thread Cert.MixKIdeal.nD Cert.MixKIdeal.τ).loc Cert.MixKIdeal.main_arg1)) (m ((c.tc : Thread Cert.MixKIdeal.nD Cert.MixKIdeal.τ).loc Cert.MixKIdeal.main_arg2)) (m ((c.tc : Thread Cert.MixKIdeal.nD Cert.MixKIdeal.τ).loc Cert.MixKIdeal.main_arg3)) (m ((c.tc : Thread Cert.MixKIdeal.nD Cert.MixKIdeal.τ).loc Cert.MixKIdeal.main_arg4)) (m ((c.tc : Thread Cert.MixKIdeal.nD Cert.MixKIdeal.τ).loc Cert.MixKIdeal.main_arg5)) (m ((c.tc : Thread Cert.MixKIdeal.nD Cert.MixKIdeal.τ).loc Cert.MixKIdeal.main_arg6)) (m ((c.tc : Thread Cert.MixKIdeal.nD Cert.MixKIdeal.τ).loc Cert.MixKIdeal.main_arg7))).2.2.2.2.2.2.1 = (fun _ => 1#1)
    ∧ (Cert.Pre_mix_finite.fn (F := Ideal) (m ((c.tc : Thread Cert.MixKIdeal.nD Cert.MixKIdeal.τ).loc Cert.MixKIdeal.main_arg0)) (m ((c.tc : Thread Cert.MixKIdeal.nD Cert.MixKIdeal.τ).loc Cert.MixKIdeal.main_arg1)) (m ((c.tc : Thread Cert.MixKIdeal.nD Cert.MixKIdeal.τ).loc Cert.MixKIdeal.main_arg2)) (m ((c.tc : Thread Cert.MixKIdeal.nD Cert.MixKIdeal.τ).loc Cert.MixKIdeal.main_arg3)) (m ((c.tc : Thread Cert.MixKIdeal.nD Cert.MixKIdeal.τ).loc Cert.MixKIdeal.main_arg4)) (m ((c.tc : Thread Cert.MixKIdeal.nD Cert.MixKIdeal.τ).loc Cert.MixKIdeal.main_arg5)) (m ((c.tc : Thread Cert.MixKIdeal.nD Cert.MixKIdeal.τ).loc Cert.MixKIdeal.main_arg6)) (m ((c.tc : Thread Cert.MixKIdeal.nD Cert.MixKIdeal.τ).loc Cert.MixKIdeal.main_arg7))).2.2.2.2.2.2.2 = (fun _ => 1#1)

def Pre_MixRIdeal (m : (ℓ : Loc Cert.MixRIdeal.nD Cert.MixRIdeal.τ Cert.MixRIdeal.sig) → Buf (Elt Ideal) ℓ) : Prop :=
  True

def Pre_MixRIdeal_mix_finite [hPre_mix_finite : Cert.Pre_mix_finite.Facts] (m : (ℓ : Loc Cert.MixRIdeal.nD Cert.MixRIdeal.τ Cert.MixRIdeal.sig) → Buf (Elt Ideal) ℓ) : Prop :=
  ∀ c : Dev Cert.MixRIdeal.nD,
    (Cert.Pre_mix_finite.fn (F := Ideal) (m ((c.tc : Thread Cert.MixRIdeal.nD Cert.MixRIdeal.τ).loc Cert.MixRIdeal.main_arg0)) (m ((c.tc : Thread Cert.MixRIdeal.nD Cert.MixRIdeal.τ).loc Cert.MixRIdeal.main_arg1)) (m ((c.tc : Thread Cert.MixRIdeal.nD Cert.MixRIdeal.τ).loc Cert.MixRIdeal.main_arg2)) (m ((c.tc : Thread Cert.MixRIdeal.nD Cert.MixRIdeal.τ).loc Cert.MixRIdeal.main_arg3)) (m ((c.tc : Thread Cert.MixRIdeal.nD Cert.MixRIdeal.τ).loc Cert.MixRIdeal.main_arg4)) (m ((c.tc : Thread Cert.MixRIdeal.nD Cert.MixRIdeal.τ).loc Cert.MixRIdeal.main_arg5)) (m ((c.tc : Thread Cert.MixRIdeal.nD Cert.MixRIdeal.τ).loc Cert.MixRIdeal.main_arg6)) (m ((c.tc : Thread Cert.MixRIdeal.nD Cert.MixRIdeal.τ).loc Cert.MixRIdeal.main_arg7))).1 = (fun _ => 1#1)
    ∧ (Cert.Pre_mix_finite.fn (F := Ideal) (m ((c.tc : Thread Cert.MixRIdeal.nD Cert.MixRIdeal.τ).loc Cert.MixRIdeal.main_arg0)) (m ((c.tc : Thread Cert.MixRIdeal.nD Cert.MixRIdeal.τ).loc Cert.MixRIdeal.main_arg1)) (m ((c.tc : Thread Cert.MixRIdeal.nD Cert.MixRIdeal.τ).loc Cert.MixRIdeal.main_arg2)) (m ((c.tc : Thread Cert.MixRIdeal.nD Cert.MixRIdeal.τ).loc Cert.MixRIdeal.main_arg3)) (m ((c.tc : Thread Cert.MixRIdeal.nD Cert.MixRIdeal.τ).loc Cert.MixRIdeal.main_arg4)) (m ((c.tc : Thread Cert.MixRIdeal.nD Cert.MixRIdeal.τ).loc Cert.MixRIdeal.main_arg5)) (m ((c.tc : Thread Cert.MixRIdeal.nD Cert.MixRIdeal.τ).loc Cert.MixRIdeal.main_arg6)) (m ((c.tc : Thread Cert.MixRIdeal.nD Cert.MixRIdeal.τ).loc Cert.MixRIdeal.main_arg7))).2.1 = (fun _ => 1#1)
    ∧ (Cert.Pre_mix_finite.fn (F := Ideal) (m ((c.tc : Thread Cert.MixRIdeal.nD Cert.MixRIdeal.τ).loc Cert.MixRIdeal.main_arg0)) (m ((c.tc : Thread Cert.MixRIdeal.nD Cert.MixRIdeal.τ).loc Cert.MixRIdeal.main_arg1)) (m ((c.tc : Thread Cert.MixRIdeal.nD Cert.MixRIdeal.τ).loc Cert.MixRIdeal.main_arg2)) (m ((c.tc : Thread Cert.MixRIdeal.nD Cert.MixRIdeal.τ).loc Cert.MixRIdeal.main_arg3)) (m ((c.tc : Thread Cert.MixRIdeal.nD Cert.MixRIdeal.τ).loc Cert.MixRIdeal.main_arg4)) (m ((c.tc : Thread Cert.MixRIdeal.nD Cert.MixRIdeal.τ).loc Cert.MixRIdeal.main_arg5)) (m ((c.tc : Thread Cert.MixRIdeal.nD Cert.MixRIdeal.τ).loc Cert.MixRIdeal.main_arg6)) (m ((c.tc : Thread Cert.MixRIdeal.nD Cert.MixRIdeal.τ).loc Cert.MixRIdeal.main_arg7))).2.2.1 = (fun _ => 1#1)
    ∧ (Cert.Pre_mix_finite.fn (F := Ideal) (m ((c.tc : Thread Cert.MixRIdeal.nD Cert.MixRIdeal.τ).loc Cert.MixRIdeal.main_arg0)) (m ((c.tc : Thread Cert.MixRIdeal.nD Cert.MixRIdeal.τ).loc Cert.MixRIdeal.main_arg1)) (m ((c.tc : Thread Cert.MixRIdeal.nD Cert.MixRIdeal.τ).loc Cert.MixRIdeal.main_arg2)) (m ((c.tc : Thread Cert.MixRIdeal.nD Cert.MixRIdeal.τ).loc Cert.MixRIdeal.main_arg3)) (m ((c.tc : Thread Cert.MixRIdeal.nD Cert.MixRIdeal.τ).loc Cert.MixRIdeal.main_arg4)) (m ((c.tc : Thread Cert.MixRIdeal.nD Cert.MixRIdeal.τ).loc Cert.MixRIdeal.main_arg5)) (m ((c.tc : Thread Cert.MixRIdeal.nD Cert.MixRIdeal.τ).loc Cert.MixRIdeal.main_arg6)) (m ((c.tc : Thread Cert.MixRIdeal.nD Cert.MixRIdeal.τ).loc Cert.MixRIdeal.main_arg7))).2.2.2.1 = (fun _ => 1#1)
    ∧ (Cert.Pre_mix_finite.fn (F := Ideal) (m ((c.tc : Thread Cert.MixRIdeal.nD Cert.MixRIdeal.τ).loc Cert.MixRIdeal.main_arg0)) (m ((c.tc : Thread Cert.MixRIdeal.nD Cert.MixRIdeal.τ).loc Cert.MixRIdeal.main_arg1)) (m ((c.tc : Thread Cert.MixRIdeal.nD Cert.MixRIdeal.τ).loc Cert.MixRIdeal.main_arg2)) (m ((c.tc : Thread Cert.MixRIdeal.nD Cert.MixRIdeal.τ).loc Cert.MixRIdeal.main_arg3)) (m ((c.tc : Thread Cert.MixRIdeal.nD Cert.MixRIdeal.τ).loc Cert.MixRIdeal.main_arg4)) (m ((c.tc : Thread Cert.MixRIdeal.nD Cert.MixRIdeal.τ).loc Cert.MixRIdeal.main_arg5)) (m ((c.tc : Thread Cert.MixRIdeal.nD Cert.MixRIdeal.τ).loc Cert.MixRIdeal.main_arg6)) (m ((c.tc : Thread Cert.MixRIdeal.nD Cert.MixRIdeal.τ).loc Cert.MixRIdeal.main_arg7))).2.2.2.2.1 = (fun _ => 1#1)
    ∧ (Cert.Pre_mix_finite.fn (F := Ideal) (m ((c.tc : Thread Cert.MixRIdeal.nD Cert.MixRIdeal.τ).loc Cert.MixRIdeal.main_arg0)) (m ((c.tc : Thread Cert.MixRIdeal.nD Cert.MixRIdeal.τ).loc Cert.MixRIdeal.main_arg1)) (m ((c.tc : Thread Cert.MixRIdeal.nD Cert.MixRIdeal.τ).loc Cert.MixRIdeal.main_arg2)) (m ((c.tc : Thread Cert.MixRIdeal.nD Cert.MixRIdeal.τ).loc Cert.MixRIdeal.main_arg3)) (m ((c.tc : Thread Cert.MixRIdeal.nD Cert.MixRIdeal.τ).loc Cert.MixRIdeal.main_arg4)) (m ((c.tc : Thread Cert.MixRIdeal.nD Cert.MixRIdeal.τ).loc Cert.MixRIdeal.main_arg5)) (m ((c.tc : Thread Cert.MixRIdeal.nD Cert.MixRIdeal.τ).loc Cert.MixRIdeal.main_arg6)) (m ((c.tc : Thread Cert.MixRIdeal.nD Cert.MixRIdeal.τ).loc Cert.MixRIdeal.main_arg7))).2.2.2.2.2.1 = (fun _ => 1#1)
    ∧ (Cert.Pre_mix_finite.fn (F := Ideal) (m ((c.tc : Thread Cert.MixRIdeal.nD Cert.MixRIdeal.τ).loc Cert.MixRIdeal.main_arg0)) (m ((c.tc : Thread Cert.MixRIdeal.nD Cert.MixRIdeal.τ).loc Cert.MixRIdeal.main_arg1)) (m ((c.tc : Thread Cert.MixRIdeal.nD Cert.MixRIdeal.τ).loc Cert.MixRIdeal.main_arg2)) (m ((c.tc : Thread Cert.MixRIdeal.nD Cert.MixRIdeal.τ).loc Cert.MixRIdeal.main_arg3)) (m ((c.tc : Thread Cert.MixRIdeal.nD Cert.MixRIdeal.τ).loc Cert.MixRIdeal.main_arg4)) (m ((c.tc : Thread Cert.MixRIdeal.nD Cert.MixRIdeal.τ).loc Cert.MixRIdeal.main_arg5)) (m ((c.tc : Thread Cert.MixRIdeal.nD Cert.MixRIdeal.τ).loc Cert.MixRIdeal.main_arg6)) (m ((c.tc : Thread Cert.MixRIdeal.nD Cert.MixRIdeal.τ).loc Cert.MixRIdeal.main_arg7))).2.2.2.2.2.2.1 = (fun _ => 1#1)
    ∧ (Cert.Pre_mix_finite.fn (F := Ideal) (m ((c.tc : Thread Cert.MixRIdeal.nD Cert.MixRIdeal.τ).loc Cert.MixRIdeal.main_arg0)) (m ((c.tc : Thread Cert.MixRIdeal.nD Cert.MixRIdeal.τ).loc Cert.MixRIdeal.main_arg1)) (m ((c.tc : Thread Cert.MixRIdeal.nD Cert.MixRIdeal.τ).loc Cert.MixRIdeal.main_arg2)) (m ((c.tc : Thread Cert.MixRIdeal.nD Cert.MixRIdeal.τ).loc Cert.MixRIdeal.main_arg3)) (m ((c.tc : Thread Cert.MixRIdeal.nD Cert.MixRIdeal.τ).loc Cert.MixRIdeal.main_arg4)) (m ((c.tc : Thread Cert.MixRIdeal.nD Cert.MixRIdeal.τ).loc Cert.MixRIdeal.main_arg5)) (m ((c.tc : Thread Cert.MixRIdeal.nD Cert.MixRIdeal.τ).loc Cert.MixRIdeal.main_arg6)) (m ((c.tc : Thread Cert.MixRIdeal.nD Cert.MixRIdeal.τ).loc Cert.MixRIdeal.main_arg7))).2.2.2.2.2.2.2 = (fun _ => 1#1)

def Pre_GateK (m : (ℓ : Loc Cert.GateK.nD Cert.GateK.τ Cert.GateK.sig) → Buf (Elt Bits) ℓ) : Prop :=
  True

def Pre_GateKIdeal (m : (ℓ : Loc Cert.GateKIdeal.nD Cert.GateKIdeal.τ Cert.GateKIdeal.sig) → Buf (Elt Ideal) ℓ) : Prop :=
  True

def Pre_GateRIdeal (m : (ℓ : Loc Cert.GateRIdeal.nD Cert.GateRIdeal.τ Cert.GateRIdeal.sig) → Buf (Elt Ideal) ℓ) : Prop :=
  True

def Pre_AttnK (m : (ℓ : Loc Cert.AttnK.nD Cert.AttnK.τ Cert.AttnK.sig) → Buf (Elt Bits) ℓ) : Prop :=
  True

def Pre_AttnKIdeal (m : (ℓ : Loc Cert.AttnKIdeal.nD Cert.AttnKIdeal.τ Cert.AttnKIdeal.sig) → Buf (Elt Ideal) ℓ) : Prop :=
  True

def Pre_AttnKIdeal_attn_finite [hPre_attn_finite : Cert.Pre_attn_finite.Facts] (m : (ℓ : Loc Cert.AttnKIdeal.nD Cert.AttnKIdeal.τ Cert.AttnKIdeal.sig) → Buf (Elt Ideal) ℓ) : Prop :=
  ∀ c : Dev Cert.AttnKIdeal.nD,
    (Cert.Pre_attn_finite.fn (F := Ideal) (m ((c.tc : Thread Cert.AttnKIdeal.nD Cert.AttnKIdeal.τ).loc Cert.AttnKIdeal.main_arg0)) (m ((c.tc : Thread Cert.AttnKIdeal.nD Cert.AttnKIdeal.τ).loc Cert.AttnKIdeal.main_arg1)) (m ((c.tc : Thread Cert.AttnKIdeal.nD Cert.AttnKIdeal.τ).loc Cert.AttnKIdeal.main_arg2)) (m ((c.tc : Thread Cert.AttnKIdeal.nD Cert.AttnKIdeal.τ).loc Cert.AttnKIdeal.main_arg3)) (m ((c.tc : Thread Cert.AttnKIdeal.nD Cert.AttnKIdeal.τ).loc Cert.AttnKIdeal.main_arg4))).1 = (fun _ => 1#1)
    ∧ (Cert.Pre_attn_finite.fn (F := Ideal) (m ((c.tc : Thread Cert.AttnKIdeal.nD Cert.AttnKIdeal.τ).loc Cert.AttnKIdeal.main_arg0)) (m ((c.tc : Thread Cert.AttnKIdeal.nD Cert.AttnKIdeal.τ).loc Cert.AttnKIdeal.main_arg1)) (m ((c.tc : Thread Cert.AttnKIdeal.nD Cert.AttnKIdeal.τ).loc Cert.AttnKIdeal.main_arg2)) (m ((c.tc : Thread Cert.AttnKIdeal.nD Cert.AttnKIdeal.τ).loc Cert.AttnKIdeal.main_arg3)) (m ((c.tc : Thread Cert.AttnKIdeal.nD Cert.AttnKIdeal.τ).loc Cert.AttnKIdeal.main_arg4))).2.1 = (fun _ => 1#1)
    ∧ (Cert.Pre_attn_finite.fn (F := Ideal) (m ((c.tc : Thread Cert.AttnKIdeal.nD Cert.AttnKIdeal.τ).loc Cert.AttnKIdeal.main_arg0)) (m ((c.tc : Thread Cert.AttnKIdeal.nD Cert.AttnKIdeal.τ).loc Cert.AttnKIdeal.main_arg1)) (m ((c.tc : Thread Cert.AttnKIdeal.nD Cert.AttnKIdeal.τ).loc Cert.AttnKIdeal.main_arg2)) (m ((c.tc : Thread Cert.AttnKIdeal.nD Cert.AttnKIdeal.τ).loc Cert.AttnKIdeal.main_arg3)) (m ((c.tc : Thread Cert.AttnKIdeal.nD Cert.AttnKIdeal.τ).loc Cert.AttnKIdeal.main_arg4))).2.2.1 = (fun _ => 1#1)
    ∧ (Cert.Pre_attn_finite.fn (F := Ideal) (m ((c.tc : Thread Cert.AttnKIdeal.nD Cert.AttnKIdeal.τ).loc Cert.AttnKIdeal.main_arg0)) (m ((c.tc : Thread Cert.AttnKIdeal.nD Cert.AttnKIdeal.τ).loc Cert.AttnKIdeal.main_arg1)) (m ((c.tc : Thread Cert.AttnKIdeal.nD Cert.AttnKIdeal.τ).loc Cert.AttnKIdeal.main_arg2)) (m ((c.tc : Thread Cert.AttnKIdeal.nD Cert.AttnKIdeal.τ).loc Cert.AttnKIdeal.main_arg3)) (m ((c.tc : Thread Cert.AttnKIdeal.nD Cert.AttnKIdeal.τ).loc Cert.AttnKIdeal.main_arg4))).2.2.2 = (fun _ => 1#1)

def Pre_AttnRIdeal (m : (ℓ : Loc Cert.AttnRIdeal.nD Cert.AttnRIdeal.τ Cert.AttnRIdeal.sig) → Buf (Elt Ideal) ℓ) : Prop :=
  True

def Pre_AttnRIdeal_attn_finite [hPre_attn_finite : Cert.Pre_attn_finite.Facts] (m : (ℓ : Loc Cert.AttnRIdeal.nD Cert.AttnRIdeal.τ Cert.AttnRIdeal.sig) → Buf (Elt Ideal) ℓ) : Prop :=
  ∀ c : Dev Cert.AttnRIdeal.nD,
    (Cert.Pre_attn_finite.fn (F := Ideal) (m ((c.tc : Thread Cert.AttnRIdeal.nD Cert.AttnRIdeal.τ).loc Cert.AttnRIdeal.main_arg0)) (m ((c.tc : Thread Cert.AttnRIdeal.nD Cert.AttnRIdeal.τ).loc Cert.AttnRIdeal.main_arg1)) (m ((c.tc : Thread Cert.AttnRIdeal.nD Cert.AttnRIdeal.τ).loc Cert.AttnRIdeal.main_arg2)) (m ((c.tc : Thread Cert.AttnRIdeal.nD Cert.AttnRIdeal.τ).loc Cert.AttnRIdeal.main_arg3)) (m ((c.tc : Thread Cert.AttnRIdeal.nD Cert.AttnRIdeal.τ).loc Cert.AttnRIdeal.main_arg4))).1 = (fun _ => 1#1)
    ∧ (Cert.Pre_attn_finite.fn (F := Ideal) (m ((c.tc : Thread Cert.AttnRIdeal.nD Cert.AttnRIdeal.τ).loc Cert.AttnRIdeal.main_arg0)) (m ((c.tc : Thread Cert.AttnRIdeal.nD Cert.AttnRIdeal.τ).loc Cert.AttnRIdeal.main_arg1)) (m ((c.tc : Thread Cert.AttnRIdeal.nD Cert.AttnRIdeal.τ).loc Cert.AttnRIdeal.main_arg2)) (m ((c.tc : Thread Cert.AttnRIdeal.nD Cert.AttnRIdeal.τ).loc Cert.AttnRIdeal.main_arg3)) (m ((c.tc : Thread Cert.AttnRIdeal.nD Cert.AttnRIdeal.τ).loc Cert.AttnRIdeal.main_arg4))).2.1 = (fun _ => 1#1)
    ∧ (Cert.Pre_attn_finite.fn (F := Ideal) (m ((c.tc : Thread Cert.AttnRIdeal.nD Cert.AttnRIdeal.τ).loc Cert.AttnRIdeal.main_arg0)) (m ((c.tc : Thread Cert.AttnRIdeal.nD Cert.AttnRIdeal.τ).loc Cert.AttnRIdeal.main_arg1)) (m ((c.tc : Thread Cert.AttnRIdeal.nD Cert.AttnRIdeal.τ).loc Cert.AttnRIdeal.main_arg2)) (m ((c.tc : Thread Cert.AttnRIdeal.nD Cert.AttnRIdeal.τ).loc Cert.AttnRIdeal.main_arg3)) (m ((c.tc : Thread Cert.AttnRIdeal.nD Cert.AttnRIdeal.τ).loc Cert.AttnRIdeal.main_arg4))).2.2.1 = (fun _ => 1#1)
    ∧ (Cert.Pre_attn_finite.fn (F := Ideal) (m ((c.tc : Thread Cert.AttnRIdeal.nD Cert.AttnRIdeal.τ).loc Cert.AttnRIdeal.main_arg0)) (m ((c.tc : Thread Cert.AttnRIdeal.nD Cert.AttnRIdeal.τ).loc Cert.AttnRIdeal.main_arg1)) (m ((c.tc : Thread Cert.AttnRIdeal.nD Cert.AttnRIdeal.τ).loc Cert.AttnRIdeal.main_arg2)) (m ((c.tc : Thread Cert.AttnRIdeal.nD Cert.AttnRIdeal.τ).loc Cert.AttnRIdeal.main_arg3)) (m ((c.tc : Thread Cert.AttnRIdeal.nD Cert.AttnRIdeal.τ).loc Cert.AttnRIdeal.main_arg4))).2.2.2 = (fun _ => 1#1)

def Pre_DiscK (m : (ℓ : Loc Cert.DiscK.nD Cert.DiscK.τ Cert.DiscK.sig) → Buf (Elt Bits) ℓ) : Prop :=
  True

def Pre_DiscKIdeal (m : (ℓ : Loc Cert.DiscKIdeal.nD Cert.DiscKIdeal.τ Cert.DiscKIdeal.sig) → Buf (Elt Ideal) ℓ) : Prop :=
  True

def Pre_DiscRIdeal (m : (ℓ : Loc Cert.DiscRIdeal.nD Cert.DiscRIdeal.τ Cert.DiscRIdeal.sig) → Buf (Elt Ideal) ℓ) : Prop :=
  True

def Pre_AttendK (m : (ℓ : Loc Cert.AttendK.nD Cert.AttendK.τ Cert.AttendK.sig) → Buf (Elt Bits) ℓ) : Prop :=
  True

def Pre_AttendKIdeal (m : (ℓ : Loc Cert.AttendKIdeal.nD Cert.AttendKIdeal.τ Cert.AttendKIdeal.sig) → Buf (Elt Ideal) ℓ) : Prop :=
  True

def Pre_AttendKIdeal_attend_finite [hPre_attend_finite : Cert.Pre_attend_finite.Facts] (m : (ℓ : Loc Cert.AttendKIdeal.nD Cert.AttendKIdeal.τ Cert.AttendKIdeal.sig) → Buf (Elt Ideal) ℓ) : Prop :=
  ∀ c : Dev Cert.AttendKIdeal.nD,
    (Cert.Pre_attend_finite.fn (F := Ideal) (m ((c.tc : Thread Cert.AttendKIdeal.nD Cert.AttendKIdeal.τ).loc Cert.AttendKIdeal.main_arg0)) (m ((c.tc : Thread Cert.AttendKIdeal.nD Cert.AttendKIdeal.τ).loc Cert.AttendKIdeal.main_arg1)) (m ((c.tc : Thread Cert.AttendKIdeal.nD Cert.AttendKIdeal.τ).loc Cert.AttendKIdeal.main_arg2)) (m ((c.tc : Thread Cert.AttendKIdeal.nD Cert.AttendKIdeal.τ).loc Cert.AttendKIdeal.main_arg3))).1 = (fun _ => 1#1)
    ∧ (Cert.Pre_attend_finite.fn (F := Ideal) (m ((c.tc : Thread Cert.AttendKIdeal.nD Cert.AttendKIdeal.τ).loc Cert.AttendKIdeal.main_arg0)) (m ((c.tc : Thread Cert.AttendKIdeal.nD Cert.AttendKIdeal.τ).loc Cert.AttendKIdeal.main_arg1)) (m ((c.tc : Thread Cert.AttendKIdeal.nD Cert.AttendKIdeal.τ).loc Cert.AttendKIdeal.main_arg2)) (m ((c.tc : Thread Cert.AttendKIdeal.nD Cert.AttendKIdeal.τ).loc Cert.AttendKIdeal.main_arg3))).2.1 = (fun _ => 1#1)
    ∧ (Cert.Pre_attend_finite.fn (F := Ideal) (m ((c.tc : Thread Cert.AttendKIdeal.nD Cert.AttendKIdeal.τ).loc Cert.AttendKIdeal.main_arg0)) (m ((c.tc : Thread Cert.AttendKIdeal.nD Cert.AttendKIdeal.τ).loc Cert.AttendKIdeal.main_arg1)) (m ((c.tc : Thread Cert.AttendKIdeal.nD Cert.AttendKIdeal.τ).loc Cert.AttendKIdeal.main_arg2)) (m ((c.tc : Thread Cert.AttendKIdeal.nD Cert.AttendKIdeal.τ).loc Cert.AttendKIdeal.main_arg3))).2.2 = (fun _ => 1#1)

def Pre_AttendRIdeal (m : (ℓ : Loc Cert.AttendRIdeal.nD Cert.AttendRIdeal.τ Cert.AttendRIdeal.sig) → Buf (Elt Ideal) ℓ) : Prop :=
  True

def Pre_AttendRIdeal_attend_finite [hPre_attend_finite : Cert.Pre_attend_finite.Facts] (m : (ℓ : Loc Cert.AttendRIdeal.nD Cert.AttendRIdeal.τ Cert.AttendRIdeal.sig) → Buf (Elt Ideal) ℓ) : Prop :=
  ∀ c : Dev Cert.AttendRIdeal.nD,
    (Cert.Pre_attend_finite.fn (F := Ideal) (m ((c.tc : Thread Cert.AttendRIdeal.nD Cert.AttendRIdeal.τ).loc Cert.AttendRIdeal.main_arg0)) (m ((c.tc : Thread Cert.AttendRIdeal.nD Cert.AttendRIdeal.τ).loc Cert.AttendRIdeal.main_arg1)) (m ((c.tc : Thread Cert.AttendRIdeal.nD Cert.AttendRIdeal.τ).loc Cert.AttendRIdeal.main_arg2)) (m ((c.tc : Thread Cert.AttendRIdeal.nD Cert.AttendRIdeal.τ).loc Cert.AttendRIdeal.main_arg3))).1 = (fun _ => 1#1)
    ∧ (Cert.Pre_attend_finite.fn (F := Ideal) (m ((c.tc : Thread Cert.AttendRIdeal.nD Cert.AttendRIdeal.τ).loc Cert.AttendRIdeal.main_arg0)) (m ((c.tc : Thread Cert.AttendRIdeal.nD Cert.AttendRIdeal.τ).loc Cert.AttendRIdeal.main_arg1)) (m ((c.tc : Thread Cert.AttendRIdeal.nD Cert.AttendRIdeal.τ).loc Cert.AttendRIdeal.main_arg2)) (m ((c.tc : Thread Cert.AttendRIdeal.nD Cert.AttendRIdeal.τ).loc Cert.AttendRIdeal.main_arg3))).2.1 = (fun _ => 1#1)
    ∧ (Cert.Pre_attend_finite.fn (F := Ideal) (m ((c.tc : Thread Cert.AttendRIdeal.nD Cert.AttendRIdeal.τ).loc Cert.AttendRIdeal.main_arg0)) (m ((c.tc : Thread Cert.AttendRIdeal.nD Cert.AttendRIdeal.τ).loc Cert.AttendRIdeal.main_arg1)) (m ((c.tc : Thread Cert.AttendRIdeal.nD Cert.AttendRIdeal.τ).loc Cert.AttendRIdeal.main_arg2)) (m ((c.tc : Thread Cert.AttendRIdeal.nD Cert.AttendRIdeal.τ).loc Cert.AttendRIdeal.main_arg3))).2.2 = (fun _ => 1#1)

def Pre_ActK (m : (ℓ : Loc Cert.ActK.nD Cert.ActK.τ Cert.ActK.sig) → Buf (Elt Bits) ℓ) : Prop :=
  True

def Pre_ActKIdeal (m : (ℓ : Loc Cert.ActKIdeal.nD Cert.ActKIdeal.τ Cert.ActKIdeal.sig) → Buf (Elt Ideal) ℓ) : Prop :=
  True

def Pre_ActRIdeal (m : (ℓ : Loc Cert.ActRIdeal.nD Cert.ActRIdeal.τ Cert.ActRIdeal.sig) → Buf (Elt Ideal) ℓ) : Prop :=
  True

def Pre_PostK (m : (ℓ : Loc Cert.PostK.nD Cert.PostK.τ Cert.PostK.sig) → Buf (Elt Bits) ℓ) : Prop :=
  True

def Pre_PostKIdeal (m : (ℓ : Loc Cert.PostKIdeal.nD Cert.PostKIdeal.τ Cert.PostKIdeal.sig) → Buf (Elt Ideal) ℓ) : Prop :=
  True

def Pre_PostRIdeal (m : (ℓ : Loc Cert.PostRIdeal.nD Cert.PostRIdeal.τ Cert.PostRIdeal.sig) → Buf (Elt Ideal) ℓ) : Prop :=
  True

def Pre_OutK (m : (ℓ : Loc Cert.OutK.nD Cert.OutK.τ Cert.OutK.sig) → Buf (Elt Bits) ℓ) : Prop :=
  True

def Pre_OutKIdeal (m : (ℓ : Loc Cert.OutKIdeal.nD Cert.OutKIdeal.τ Cert.OutKIdeal.sig) → Buf (Elt Ideal) ℓ) : Prop :=
  True

def Pre_OutRIdeal (m : (ℓ : Loc Cert.OutRIdeal.nD Cert.OutRIdeal.τ Cert.OutRIdeal.sig) → Buf (Elt Ideal) ℓ) : Prop :=
  True

def Pre_JoinK (m : (ℓ : Loc Cert.JoinK.nD Cert.JoinK.τ Cert.JoinK.sig) → Buf (Elt Bits) ℓ) : Prop :=
  True

def Pre_JoinKIdeal (m : (ℓ : Loc Cert.JoinKIdeal.nD Cert.JoinKIdeal.τ Cert.JoinKIdeal.sig) → Buf (Elt Ideal) ℓ) : Prop :=
  True

def Pre_JoinRIdeal (m : (ℓ : Loc Cert.JoinRIdeal.nD Cert.JoinRIdeal.τ Cert.JoinRIdeal.sig) → Buf (Elt Ideal) ℓ) : Prop :=
  True

def Pre_FirstK (m : (ℓ : Loc Cert.FirstK.nD Cert.FirstK.τ Cert.FirstK.sig) → Buf (Elt Bits) ℓ) : Prop :=
  True

def Pre_FirstKIdeal (m : (ℓ : Loc Cert.FirstKIdeal.nD Cert.FirstKIdeal.τ Cert.FirstKIdeal.sig) → Buf (Elt Ideal) ℓ) : Prop :=
  True

def Pre_FirstRIdeal (m : (ℓ : Loc Cert.FirstRIdeal.nD Cert.FirstRIdeal.τ Cert.FirstRIdeal.sig) → Buf (Elt Ideal) ℓ) : Prop :=
  True

def Pre_ParamsK (m : (ℓ : Loc Cert.ParamsK.nD Cert.ParamsK.τ Cert.ParamsK.sig) → Buf (Elt Bits) ℓ) : Prop :=
  True

def Pre_ParamsKIdeal (m : (ℓ : Loc Cert.ParamsKIdeal.nD Cert.ParamsKIdeal.τ Cert.ParamsKIdeal.sig) → Buf (Elt Ideal) ℓ) : Prop :=
  True

def Pre_ParamsRIdeal (m : (ℓ : Loc Cert.ParamsRIdeal.nD Cert.ParamsRIdeal.τ Cert.ParamsRIdeal.sig) → Buf (Elt Ideal) ℓ) : Prop :=
  True

def Pre_ProjK (m : (ℓ : Loc Cert.ProjK.nD Cert.ProjK.τ Cert.ProjK.sig) → Buf (Elt Bits) ℓ) : Prop :=
  True

def Pre_ProjKIdeal (m : (ℓ : Loc Cert.ProjKIdeal.nD Cert.ProjKIdeal.τ Cert.ProjKIdeal.sig) → Buf (Elt Ideal) ℓ) : Prop :=
  True

def Pre_ProjRIdeal (m : (ℓ : Loc Cert.ProjRIdeal.nD Cert.ProjRIdeal.τ Cert.ProjRIdeal.sig) → Buf (Elt Ideal) ℓ) : Prop :=
  True

def quiescent_LossK [hLossK : Cert.LossK.Facts] : Prop :=
  ∀ (m : (ℓ : Loc Cert.LossK.nD Cert.LossK.τ Cert.LossK.sig) → Buf (Elt Bits) ℓ) (g : Dev Cert.LossK.nD → PrngReg), Pre_LossK m →
    θ_run (Cert.LossK.defs (F := Bits)) (onTc (τ := Cert.LossK.τ) (Cert.LossK.main (F := Bits))) ⟨m, fun _ => 0, g⟩ (fun r => (∀ c : Dev Cert.LossK.nD,
      r.2.mem ((c.tc : Thread Cert.LossK.nD Cert.LossK.τ).loc Cert.LossK.main_arg0) = m ((c.tc : Thread Cert.LossK.nD Cert.LossK.τ).loc Cert.LossK.main_arg0)
      ∧ r.2.mem ((c.tc : Thread Cert.LossK.nD Cert.LossK.τ).loc Cert.LossK.main_arg1) = m ((c.tc : Thread Cert.LossK.nD Cert.LossK.τ).loc Cert.LossK.main_arg1)
      ∧ r.2.mem ((c.tc : Thread Cert.LossK.nD Cert.LossK.τ).loc Cert.LossK.main_arg2) = m ((c.tc : Thread Cert.LossK.nD Cert.LossK.τ).loc Cert.LossK.main_arg2)
      ∧ r.2.mem ((c.tc : Thread Cert.LossK.nD Cert.LossK.τ).loc Cert.LossK.main_arg3) = m ((c.tc : Thread Cert.LossK.nD Cert.LossK.τ).loc Cert.LossK.main_arg3)
      ∧ r.2.mem ((c.tc : Thread Cert.LossK.nD Cert.LossK.τ).loc Cert.LossK.main_arg4) = m ((c.tc : Thread Cert.LossK.nD Cert.LossK.τ).loc Cert.LossK.main_arg4))
      ∧ r.2.sem = fun _ => 0)

def quiescent_LossKIdeal [hLossKIdeal : Cert.LossKIdeal.Facts] : Prop :=
  ∀ (m : (ℓ : Loc Cert.LossKIdeal.nD Cert.LossKIdeal.τ Cert.LossKIdeal.sig) → Buf (Elt Ideal) ℓ) (g : Dev Cert.LossKIdeal.nD → PrngReg), Pre_LossKIdeal m →
    θ_run (Cert.LossKIdeal.defs (F := Ideal)) (onTc (τ := Cert.LossKIdeal.τ) (Cert.LossKIdeal.main (F := Ideal))) ⟨m, fun _ => 0, g⟩ (fun r => (∀ c : Dev Cert.LossKIdeal.nD,
      r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
      ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
      ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2)
      ∧ r.2.mem ((c.tc : Thread Cert.LossKIdeal.nD Cert.LossKIdeal.τ).loc Cert.LossKIdeal.main_arg3) = m ((c.tc : Thread Cert.LossKIdeal.nD Cert.LossKIdeal.τ).loc Cert.LossKIdeal.main_arg3)
      ∧ r.2.mem ((c.tc : Thread Cert.LossKIdeal.nD Cert.LossKIdeal.τ).loc Cert.LossKIdeal.main_arg4) = m ((c.tc : Thread Cert.LossKIdeal.nD Cert.LossKIdeal.τ).loc Cert.LossKIdeal.main_arg4))
      ∧ r.2.sem = fun _ => 0)

def quiescent_LossKIdeal_pre_loss_finite [hLossKIdeal : Cert.LossKIdeal.Facts] [hPre_loss_finite : Cert.Pre_loss_finite.Facts] : Prop :=
  ∀ (m : (ℓ : Loc Cert.LossKIdeal.nD Cert.LossKIdeal.τ Cert.LossKIdeal.sig) → Buf (Elt Ideal) ℓ) (g : Dev Cert.LossKIdeal.nD → PrngReg), Pre_LossKIdeal_loss_finite m →
    θ_run (Cert.LossKIdeal.defs (F := Ideal)) (onTc (τ := Cert.LossKIdeal.τ) (Cert.LossKIdeal.main (F := Ideal))) ⟨m, fun _ => 0, g⟩ (fun r => (∀ c : Dev Cert.LossKIdeal.nD,
      r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
      ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
      ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2)
      ∧ r.2.mem ((c.tc : Thread Cert.LossKIdeal.nD Cert.LossKIdeal.τ).loc Cert.LossKIdeal.main_arg3) = m ((c.tc : Thread Cert.LossKIdeal.nD Cert.LossKIdeal.τ).loc Cert.LossKIdeal.main_arg3)
      ∧ r.2.mem ((c.tc : Thread Cert.LossKIdeal.nD Cert.LossKIdeal.τ).loc Cert.LossKIdeal.main_arg4) = m ((c.tc : Thread Cert.LossKIdeal.nD Cert.LossKIdeal.τ).loc Cert.LossKIdeal.main_arg4))
      ∧ r.2.sem = fun _ => 0)

def quiescent_LossRIdeal [hLossRIdeal : Cert.LossRIdeal.Facts] : Prop :=
  ∀ (m : (ℓ : Loc Cert.LossRIdeal.nD Cert.LossRIdeal.τ Cert.LossRIdeal.sig) → Buf (Elt Ideal) ℓ) (g : Dev Cert.LossRIdeal.nD → PrngReg), Pre_LossRIdeal m →
    θ_run (Cert.LossRIdeal.defs (F := Ideal)) (onTc (τ := Cert.LossRIdeal.τ) (Cert.LossRIdeal.main (F := Ideal))) ⟨m, fun _ => 0, g⟩ (fun r => (∀ c : Dev Cert.LossRIdeal.nD,
      r.2.mem ((c.tc : Thread Cert.LossRIdeal.nD Cert.LossRIdeal.τ).loc Cert.LossRIdeal.main_arg0) = m ((c.tc : Thread Cert.LossRIdeal.nD Cert.LossRIdeal.τ).loc Cert.LossRIdeal.main_arg0)
      ∧ r.2.mem ((c.tc : Thread Cert.LossRIdeal.nD Cert.LossRIdeal.τ).loc Cert.LossRIdeal.main_arg1) = m ((c.tc : Thread Cert.LossRIdeal.nD Cert.LossRIdeal.τ).loc Cert.LossRIdeal.main_arg1)
      ∧ r.2.mem ((c.tc : Thread Cert.LossRIdeal.nD Cert.LossRIdeal.τ).loc Cert.LossRIdeal.main_arg2) = m ((c.tc : Thread Cert.LossRIdeal.nD Cert.LossRIdeal.τ).loc Cert.LossRIdeal.main_arg2)
      ∧ r.2.mem ((c.tc : Thread Cert.LossRIdeal.nD Cert.LossRIdeal.τ).loc Cert.LossRIdeal.main_arg3) = m ((c.tc : Thread Cert.LossRIdeal.nD Cert.LossRIdeal.τ).loc Cert.LossRIdeal.main_arg3)
      ∧ r.2.mem ((c.tc : Thread Cert.LossRIdeal.nD Cert.LossRIdeal.τ).loc Cert.LossRIdeal.main_arg4) = m ((c.tc : Thread Cert.LossRIdeal.nD Cert.LossRIdeal.τ).loc Cert.LossRIdeal.main_arg4))
      ∧ r.2.sem = fun _ => 0)

def quiescent_LossRIdeal_pre_loss_finite [hLossRIdeal : Cert.LossRIdeal.Facts] [hPre_loss_finite : Cert.Pre_loss_finite.Facts] : Prop :=
  ∀ (m : (ℓ : Loc Cert.LossRIdeal.nD Cert.LossRIdeal.τ Cert.LossRIdeal.sig) → Buf (Elt Ideal) ℓ) (g : Dev Cert.LossRIdeal.nD → PrngReg), Pre_LossRIdeal_loss_finite m →
    θ_run (Cert.LossRIdeal.defs (F := Ideal)) (onTc (τ := Cert.LossRIdeal.τ) (Cert.LossRIdeal.main (F := Ideal))) ⟨m, fun _ => 0, g⟩ (fun r => (∀ c : Dev Cert.LossRIdeal.nD,
      r.2.mem ((c.tc : Thread Cert.LossRIdeal.nD Cert.LossRIdeal.τ).loc Cert.LossRIdeal.main_arg0) = m ((c.tc : Thread Cert.LossRIdeal.nD Cert.LossRIdeal.τ).loc Cert.LossRIdeal.main_arg0)
      ∧ r.2.mem ((c.tc : Thread Cert.LossRIdeal.nD Cert.LossRIdeal.τ).loc Cert.LossRIdeal.main_arg1) = m ((c.tc : Thread Cert.LossRIdeal.nD Cert.LossRIdeal.τ).loc Cert.LossRIdeal.main_arg1)
      ∧ r.2.mem ((c.tc : Thread Cert.LossRIdeal.nD Cert.LossRIdeal.τ).loc Cert.LossRIdeal.main_arg2) = m ((c.tc : Thread Cert.LossRIdeal.nD Cert.LossRIdeal.τ).loc Cert.LossRIdeal.main_arg2)
      ∧ r.2.mem ((c.tc : Thread Cert.LossRIdeal.nD Cert.LossRIdeal.τ).loc Cert.LossRIdeal.main_arg3) = m ((c.tc : Thread Cert.LossRIdeal.nD Cert.LossRIdeal.τ).loc Cert.LossRIdeal.main_arg3)
      ∧ r.2.mem ((c.tc : Thread Cert.LossRIdeal.nD Cert.LossRIdeal.τ).loc Cert.LossRIdeal.main_arg4) = m ((c.tc : Thread Cert.LossRIdeal.nD Cert.LossRIdeal.τ).loc Cert.LossRIdeal.main_arg4))
      ∧ r.2.sem = fun _ => 0)

def quiescent_ReluK [hReluK : Cert.ReluK.Facts] : Prop :=
  ∀ (m : (ℓ : Loc Cert.ReluK.nD Cert.ReluK.τ Cert.ReluK.sig) → Buf (Elt Bits) ℓ) (g : Dev Cert.ReluK.nD → PrngReg), Pre_ReluK m →
    θ_run (Cert.ReluK.defs (F := Bits)) (onTc (τ := Cert.ReluK.τ) (Cert.ReluK.main (F := Bits))) ⟨m, fun _ => 0, g⟩ (fun r => (∀ c : Dev Cert.ReluK.nD,
      r.2.mem ((c.tc : Thread Cert.ReluK.nD Cert.ReluK.τ).loc Cert.ReluK.main_arg0) = m ((c.tc : Thread Cert.ReluK.nD Cert.ReluK.τ).loc Cert.ReluK.main_arg0)
      ∧ r.2.mem ((c.tc : Thread Cert.ReluK.nD Cert.ReluK.τ).loc Cert.ReluK.main_arg1) = m ((c.tc : Thread Cert.ReluK.nD Cert.ReluK.τ).loc Cert.ReluK.main_arg1)
      ∧ r.2.mem ((c.tc : Thread Cert.ReluK.nD Cert.ReluK.τ).loc Cert.ReluK.main_arg2) = m ((c.tc : Thread Cert.ReluK.nD Cert.ReluK.τ).loc Cert.ReluK.main_arg2)
      ∧ r.2.mem ((c.tc : Thread Cert.ReluK.nD Cert.ReluK.τ).loc Cert.ReluK.main_arg3) = m ((c.tc : Thread Cert.ReluK.nD Cert.ReluK.τ).loc Cert.ReluK.main_arg3))
      ∧ r.2.sem = fun _ => 0)

def quiescent_ReluKIdeal [hReluKIdeal : Cert.ReluKIdeal.Facts] : Prop :=
  ∀ (m : (ℓ : Loc Cert.ReluKIdeal.nD Cert.ReluKIdeal.τ Cert.ReluKIdeal.sig) → Buf (Elt Ideal) ℓ) (g : Dev Cert.ReluKIdeal.nD → PrngReg), Pre_ReluKIdeal m →
    θ_run (Cert.ReluKIdeal.defs (F := Ideal)) (onTc (τ := Cert.ReluKIdeal.τ) (Cert.ReluKIdeal.main (F := Ideal))) ⟨m, fun _ => 0, g⟩ (fun r => (∀ c : Dev Cert.ReluKIdeal.nD,
      r.2.mem ((c.tc : Thread Cert.ReluKIdeal.nD Cert.ReluKIdeal.τ).loc Cert.ReluKIdeal.main_arg0) = m ((c.tc : Thread Cert.ReluKIdeal.nD Cert.ReluKIdeal.τ).loc Cert.ReluKIdeal.main_arg0)
      ∧ r.2.mem ((c.tc : Thread Cert.ReluKIdeal.nD Cert.ReluKIdeal.τ).loc Cert.ReluKIdeal.main_arg1) = m ((c.tc : Thread Cert.ReluKIdeal.nD Cert.ReluKIdeal.τ).loc Cert.ReluKIdeal.main_arg1)
      ∧ r.2.mem ((c.tc : Thread Cert.ReluKIdeal.nD Cert.ReluKIdeal.τ).loc Cert.ReluKIdeal.main_arg2) = m ((c.tc : Thread Cert.ReluKIdeal.nD Cert.ReluKIdeal.τ).loc Cert.ReluKIdeal.main_arg2)
      ∧ r.2.mem ((c.tc : Thread Cert.ReluKIdeal.nD Cert.ReluKIdeal.τ).loc Cert.ReluKIdeal.main_arg3) = m ((c.tc : Thread Cert.ReluKIdeal.nD Cert.ReluKIdeal.τ).loc Cert.ReluKIdeal.main_arg3))
      ∧ r.2.sem = fun _ => 0)

def quiescent_ReluKIdeal_pre_ff2_finite [hReluKIdeal : Cert.ReluKIdeal.Facts] [hPre_ff2_finite : Cert.Pre_ff2_finite.Facts] : Prop :=
  ∀ (m : (ℓ : Loc Cert.ReluKIdeal.nD Cert.ReluKIdeal.τ Cert.ReluKIdeal.sig) → Buf (Elt Ideal) ℓ) (g : Dev Cert.ReluKIdeal.nD → PrngReg), Pre_ReluKIdeal_ff2_finite m →
    θ_run (Cert.ReluKIdeal.defs (F := Ideal)) (onTc (τ := Cert.ReluKIdeal.τ) (Cert.ReluKIdeal.main (F := Ideal))) ⟨m, fun _ => 0, g⟩ (fun r => (∀ c : Dev Cert.ReluKIdeal.nD,
      r.2.mem ((c.tc : Thread Cert.ReluKIdeal.nD Cert.ReluKIdeal.τ).loc Cert.ReluKIdeal.main_arg0) = m ((c.tc : Thread Cert.ReluKIdeal.nD Cert.ReluKIdeal.τ).loc Cert.ReluKIdeal.main_arg0)
      ∧ r.2.mem ((c.tc : Thread Cert.ReluKIdeal.nD Cert.ReluKIdeal.τ).loc Cert.ReluKIdeal.main_arg1) = m ((c.tc : Thread Cert.ReluKIdeal.nD Cert.ReluKIdeal.τ).loc Cert.ReluKIdeal.main_arg1)
      ∧ r.2.mem ((c.tc : Thread Cert.ReluKIdeal.nD Cert.ReluKIdeal.τ).loc Cert.ReluKIdeal.main_arg2) = m ((c.tc : Thread Cert.ReluKIdeal.nD Cert.ReluKIdeal.τ).loc Cert.ReluKIdeal.main_arg2)
      ∧ r.2.mem ((c.tc : Thread Cert.ReluKIdeal.nD Cert.ReluKIdeal.τ).loc Cert.ReluKIdeal.main_arg3) = m ((c.tc : Thread Cert.ReluKIdeal.nD Cert.ReluKIdeal.τ).loc Cert.ReluKIdeal.main_arg3))
      ∧ r.2.sem = fun _ => 0)

def quiescent_ReluRIdeal [hReluRIdeal : Cert.ReluRIdeal.Facts] : Prop :=
  ∀ (m : (ℓ : Loc Cert.ReluRIdeal.nD Cert.ReluRIdeal.τ Cert.ReluRIdeal.sig) → Buf (Elt Ideal) ℓ) (g : Dev Cert.ReluRIdeal.nD → PrngReg), Pre_ReluRIdeal m →
    θ_run (Cert.ReluRIdeal.defs (F := Ideal)) (onTc (τ := Cert.ReluRIdeal.τ) (Cert.ReluRIdeal.main (F := Ideal))) ⟨m, fun _ => 0, g⟩ (fun r => (∀ c : Dev Cert.ReluRIdeal.nD,
      r.2.mem ((c.tc : Thread Cert.ReluRIdeal.nD Cert.ReluRIdeal.τ).loc Cert.ReluRIdeal.main_arg0) = m ((c.tc : Thread Cert.ReluRIdeal.nD Cert.ReluRIdeal.τ).loc Cert.ReluRIdeal.main_arg0)
      ∧ r.2.mem ((c.tc : Thread Cert.ReluRIdeal.nD Cert.ReluRIdeal.τ).loc Cert.ReluRIdeal.main_arg1) = m ((c.tc : Thread Cert.ReluRIdeal.nD Cert.ReluRIdeal.τ).loc Cert.ReluRIdeal.main_arg1)
      ∧ r.2.mem ((c.tc : Thread Cert.ReluRIdeal.nD Cert.ReluRIdeal.τ).loc Cert.ReluRIdeal.main_arg2) = m ((c.tc : Thread Cert.ReluRIdeal.nD Cert.ReluRIdeal.τ).loc Cert.ReluRIdeal.main_arg2)
      ∧ r.2.mem ((c.tc : Thread Cert.ReluRIdeal.nD Cert.ReluRIdeal.τ).loc Cert.ReluRIdeal.main_arg3) = m ((c.tc : Thread Cert.ReluRIdeal.nD Cert.ReluRIdeal.τ).loc Cert.ReluRIdeal.main_arg3))
      ∧ r.2.sem = fun _ => 0)

def quiescent_ReluRIdeal_pre_ff2_finite [hReluRIdeal : Cert.ReluRIdeal.Facts] [hPre_ff2_finite : Cert.Pre_ff2_finite.Facts] : Prop :=
  ∀ (m : (ℓ : Loc Cert.ReluRIdeal.nD Cert.ReluRIdeal.τ Cert.ReluRIdeal.sig) → Buf (Elt Ideal) ℓ) (g : Dev Cert.ReluRIdeal.nD → PrngReg), Pre_ReluRIdeal_ff2_finite m →
    θ_run (Cert.ReluRIdeal.defs (F := Ideal)) (onTc (τ := Cert.ReluRIdeal.τ) (Cert.ReluRIdeal.main (F := Ideal))) ⟨m, fun _ => 0, g⟩ (fun r => (∀ c : Dev Cert.ReluRIdeal.nD,
      r.2.mem ((c.tc : Thread Cert.ReluRIdeal.nD Cert.ReluRIdeal.τ).loc Cert.ReluRIdeal.main_arg0) = m ((c.tc : Thread Cert.ReluRIdeal.nD Cert.ReluRIdeal.τ).loc Cert.ReluRIdeal.main_arg0)
      ∧ r.2.mem ((c.tc : Thread Cert.ReluRIdeal.nD Cert.ReluRIdeal.τ).loc Cert.ReluRIdeal.main_arg1) = m ((c.tc : Thread Cert.ReluRIdeal.nD Cert.ReluRIdeal.τ).loc Cert.ReluRIdeal.main_arg1)
      ∧ r.2.mem ((c.tc : Thread Cert.ReluRIdeal.nD Cert.ReluRIdeal.τ).loc Cert.ReluRIdeal.main_arg2) = m ((c.tc : Thread Cert.ReluRIdeal.nD Cert.ReluRIdeal.τ).loc Cert.ReluRIdeal.main_arg2)
      ∧ r.2.mem ((c.tc : Thread Cert.ReluRIdeal.nD Cert.ReluRIdeal.τ).loc Cert.ReluRIdeal.main_arg3) = m ((c.tc : Thread Cert.ReluRIdeal.nD Cert.ReluRIdeal.τ).loc Cert.ReluRIdeal.main_arg3))
      ∧ r.2.sem = fun _ => 0)

def quiescent_NormK [hNormK : Cert.NormK.Facts] : Prop :=
  ∀ (m : (ℓ : Loc Cert.NormK.nD Cert.NormK.τ Cert.NormK.sig) → Buf (Elt Bits) ℓ) (g : Dev Cert.NormK.nD → PrngReg), Pre_NormK m →
    θ_run (Cert.NormK.defs (F := Bits)) (onTc (τ := Cert.NormK.τ) (Cert.NormK.main (F := Bits))) ⟨m, fun _ => 0, g⟩ (fun r => (∀ c : Dev Cert.NormK.nD,
      r.2.mem ((c.tc : Thread Cert.NormK.nD Cert.NormK.τ).loc Cert.NormK.main_arg0) = m ((c.tc : Thread Cert.NormK.nD Cert.NormK.τ).loc Cert.NormK.main_arg0)
      ∧ r.2.mem ((c.tc : Thread Cert.NormK.nD Cert.NormK.τ).loc Cert.NormK.main_arg1) = m ((c.tc : Thread Cert.NormK.nD Cert.NormK.τ).loc Cert.NormK.main_arg1)
      ∧ r.2.mem ((c.tc : Thread Cert.NormK.nD Cert.NormK.τ).loc Cert.NormK.main_arg2) = m ((c.tc : Thread Cert.NormK.nD Cert.NormK.τ).loc Cert.NormK.main_arg2)
      ∧ r.2.mem ((c.tc : Thread Cert.NormK.nD Cert.NormK.τ).loc Cert.NormK.main_arg3) = m ((c.tc : Thread Cert.NormK.nD Cert.NormK.τ).loc Cert.NormK.main_arg3)
      ∧ r.2.mem ((c.tc : Thread Cert.NormK.nD Cert.NormK.τ).loc Cert.NormK.main_arg4) = m ((c.tc : Thread Cert.NormK.nD Cert.NormK.τ).loc Cert.NormK.main_arg4)
      ∧ r.2.mem ((c.tc : Thread Cert.NormK.nD Cert.NormK.τ).loc Cert.NormK.main_arg5) = m ((c.tc : Thread Cert.NormK.nD Cert.NormK.τ).loc Cert.NormK.main_arg5)
      ∧ r.2.mem ((c.tc : Thread Cert.NormK.nD Cert.NormK.τ).loc Cert.NormK.main_arg6) = m ((c.tc : Thread Cert.NormK.nD Cert.NormK.τ).loc Cert.NormK.main_arg6))
      ∧ r.2.sem = fun _ => 0)

def quiescent_NormKIdeal [hNormKIdeal : Cert.NormKIdeal.Facts] : Prop :=
  ∀ (m : (ℓ : Loc Cert.NormKIdeal.nD Cert.NormKIdeal.τ Cert.NormKIdeal.sig) → Buf (Elt Ideal) ℓ) (g : Dev Cert.NormKIdeal.nD → PrngReg), Pre_NormKIdeal m →
    θ_run (Cert.NormKIdeal.defs (F := Ideal)) (onTc (τ := Cert.NormKIdeal.τ) (Cert.NormKIdeal.main (F := Ideal))) ⟨m, fun _ => 0, g⟩ (fun r => (∀ c : Dev Cert.NormKIdeal.nD,
      r.2.mem ((c.tc : Thread Cert.NormKIdeal.nD Cert.NormKIdeal.τ).loc Cert.NormKIdeal.main_arg0) = m ((c.tc : Thread Cert.NormKIdeal.nD Cert.NormKIdeal.τ).loc Cert.NormKIdeal.main_arg0)
      ∧ r.2.mem ((c.tc : Thread Cert.NormKIdeal.nD Cert.NormKIdeal.τ).loc Cert.NormKIdeal.main_arg1) = m ((c.tc : Thread Cert.NormKIdeal.nD Cert.NormKIdeal.τ).loc Cert.NormKIdeal.main_arg1)
      ∧ r.2.mem ((c.tc : Thread Cert.NormKIdeal.nD Cert.NormKIdeal.τ).loc Cert.NormKIdeal.main_arg2) = m ((c.tc : Thread Cert.NormKIdeal.nD Cert.NormKIdeal.τ).loc Cert.NormKIdeal.main_arg2)
      ∧ r.2.mem ((c.tc : Thread Cert.NormKIdeal.nD Cert.NormKIdeal.τ).loc Cert.NormKIdeal.main_arg3) = m ((c.tc : Thread Cert.NormKIdeal.nD Cert.NormKIdeal.τ).loc Cert.NormKIdeal.main_arg3)
      ∧ r.2.mem ((c.tc : Thread Cert.NormKIdeal.nD Cert.NormKIdeal.τ).loc Cert.NormKIdeal.main_arg4) = m ((c.tc : Thread Cert.NormKIdeal.nD Cert.NormKIdeal.τ).loc Cert.NormKIdeal.main_arg4)
      ∧ r.2.mem ((c.tc : Thread Cert.NormKIdeal.nD Cert.NormKIdeal.τ).loc Cert.NormKIdeal.main_arg5) = m ((c.tc : Thread Cert.NormKIdeal.nD Cert.NormKIdeal.τ).loc Cert.NormKIdeal.main_arg5)
      ∧ r.2.mem ((c.tc : Thread Cert.NormKIdeal.nD Cert.NormKIdeal.τ).loc Cert.NormKIdeal.main_arg6) = m ((c.tc : Thread Cert.NormKIdeal.nD Cert.NormKIdeal.τ).loc Cert.NormKIdeal.main_arg6))
      ∧ r.2.sem = fun _ => 0)

def quiescent_NormKIdeal_pre_ff1_finite [hNormKIdeal : Cert.NormKIdeal.Facts] [hPre_ff1_finite : Cert.Pre_ff1_finite.Facts] : Prop :=
  ∀ (m : (ℓ : Loc Cert.NormKIdeal.nD Cert.NormKIdeal.τ Cert.NormKIdeal.sig) → Buf (Elt Ideal) ℓ) (g : Dev Cert.NormKIdeal.nD → PrngReg), Pre_NormKIdeal_ff1_finite m →
    θ_run (Cert.NormKIdeal.defs (F := Ideal)) (onTc (τ := Cert.NormKIdeal.τ) (Cert.NormKIdeal.main (F := Ideal))) ⟨m, fun _ => 0, g⟩ (fun r => (∀ c : Dev Cert.NormKIdeal.nD,
      r.2.mem ((c.tc : Thread Cert.NormKIdeal.nD Cert.NormKIdeal.τ).loc Cert.NormKIdeal.main_arg0) = m ((c.tc : Thread Cert.NormKIdeal.nD Cert.NormKIdeal.τ).loc Cert.NormKIdeal.main_arg0)
      ∧ r.2.mem ((c.tc : Thread Cert.NormKIdeal.nD Cert.NormKIdeal.τ).loc Cert.NormKIdeal.main_arg1) = m ((c.tc : Thread Cert.NormKIdeal.nD Cert.NormKIdeal.τ).loc Cert.NormKIdeal.main_arg1)
      ∧ r.2.mem ((c.tc : Thread Cert.NormKIdeal.nD Cert.NormKIdeal.τ).loc Cert.NormKIdeal.main_arg2) = m ((c.tc : Thread Cert.NormKIdeal.nD Cert.NormKIdeal.τ).loc Cert.NormKIdeal.main_arg2)
      ∧ r.2.mem ((c.tc : Thread Cert.NormKIdeal.nD Cert.NormKIdeal.τ).loc Cert.NormKIdeal.main_arg3) = m ((c.tc : Thread Cert.NormKIdeal.nD Cert.NormKIdeal.τ).loc Cert.NormKIdeal.main_arg3)
      ∧ r.2.mem ((c.tc : Thread Cert.NormKIdeal.nD Cert.NormKIdeal.τ).loc Cert.NormKIdeal.main_arg4) = m ((c.tc : Thread Cert.NormKIdeal.nD Cert.NormKIdeal.τ).loc Cert.NormKIdeal.main_arg4)
      ∧ r.2.mem ((c.tc : Thread Cert.NormKIdeal.nD Cert.NormKIdeal.τ).loc Cert.NormKIdeal.main_arg5) = m ((c.tc : Thread Cert.NormKIdeal.nD Cert.NormKIdeal.τ).loc Cert.NormKIdeal.main_arg5)
      ∧ r.2.mem ((c.tc : Thread Cert.NormKIdeal.nD Cert.NormKIdeal.τ).loc Cert.NormKIdeal.main_arg6) = m ((c.tc : Thread Cert.NormKIdeal.nD Cert.NormKIdeal.τ).loc Cert.NormKIdeal.main_arg6))
      ∧ r.2.sem = fun _ => 0)

def quiescent_NormRIdeal [hNormRIdeal : Cert.NormRIdeal.Facts] : Prop :=
  ∀ (m : (ℓ : Loc Cert.NormRIdeal.nD Cert.NormRIdeal.τ Cert.NormRIdeal.sig) → Buf (Elt Ideal) ℓ) (g : Dev Cert.NormRIdeal.nD → PrngReg), Pre_NormRIdeal m →
    θ_run (Cert.NormRIdeal.defs (F := Ideal)) (onTc (τ := Cert.NormRIdeal.τ) (Cert.NormRIdeal.main (F := Ideal))) ⟨m, fun _ => 0, g⟩ (fun r => (∀ c : Dev Cert.NormRIdeal.nD,
      r.2.mem ((c.tc : Thread Cert.NormRIdeal.nD Cert.NormRIdeal.τ).loc Cert.NormRIdeal.main_arg0) = m ((c.tc : Thread Cert.NormRIdeal.nD Cert.NormRIdeal.τ).loc Cert.NormRIdeal.main_arg0)
      ∧ r.2.mem ((c.tc : Thread Cert.NormRIdeal.nD Cert.NormRIdeal.τ).loc Cert.NormRIdeal.main_arg1) = m ((c.tc : Thread Cert.NormRIdeal.nD Cert.NormRIdeal.τ).loc Cert.NormRIdeal.main_arg1)
      ∧ r.2.mem ((c.tc : Thread Cert.NormRIdeal.nD Cert.NormRIdeal.τ).loc Cert.NormRIdeal.main_arg2) = m ((c.tc : Thread Cert.NormRIdeal.nD Cert.NormRIdeal.τ).loc Cert.NormRIdeal.main_arg2)
      ∧ r.2.mem ((c.tc : Thread Cert.NormRIdeal.nD Cert.NormRIdeal.τ).loc Cert.NormRIdeal.main_arg3) = m ((c.tc : Thread Cert.NormRIdeal.nD Cert.NormRIdeal.τ).loc Cert.NormRIdeal.main_arg3)
      ∧ r.2.mem ((c.tc : Thread Cert.NormRIdeal.nD Cert.NormRIdeal.τ).loc Cert.NormRIdeal.main_arg4) = m ((c.tc : Thread Cert.NormRIdeal.nD Cert.NormRIdeal.τ).loc Cert.NormRIdeal.main_arg4)
      ∧ r.2.mem ((c.tc : Thread Cert.NormRIdeal.nD Cert.NormRIdeal.τ).loc Cert.NormRIdeal.main_arg5) = m ((c.tc : Thread Cert.NormRIdeal.nD Cert.NormRIdeal.τ).loc Cert.NormRIdeal.main_arg5)
      ∧ r.2.mem ((c.tc : Thread Cert.NormRIdeal.nD Cert.NormRIdeal.τ).loc Cert.NormRIdeal.main_arg6) = m ((c.tc : Thread Cert.NormRIdeal.nD Cert.NormRIdeal.τ).loc Cert.NormRIdeal.main_arg6))
      ∧ r.2.sem = fun _ => 0)

def quiescent_NormRIdeal_pre_ff1_finite [hNormRIdeal : Cert.NormRIdeal.Facts] [hPre_ff1_finite : Cert.Pre_ff1_finite.Facts] : Prop :=
  ∀ (m : (ℓ : Loc Cert.NormRIdeal.nD Cert.NormRIdeal.τ Cert.NormRIdeal.sig) → Buf (Elt Ideal) ℓ) (g : Dev Cert.NormRIdeal.nD → PrngReg), Pre_NormRIdeal_ff1_finite m →
    θ_run (Cert.NormRIdeal.defs (F := Ideal)) (onTc (τ := Cert.NormRIdeal.τ) (Cert.NormRIdeal.main (F := Ideal))) ⟨m, fun _ => 0, g⟩ (fun r => (∀ c : Dev Cert.NormRIdeal.nD,
      r.2.mem ((c.tc : Thread Cert.NormRIdeal.nD Cert.NormRIdeal.τ).loc Cert.NormRIdeal.main_arg0) = m ((c.tc : Thread Cert.NormRIdeal.nD Cert.NormRIdeal.τ).loc Cert.NormRIdeal.main_arg0)
      ∧ r.2.mem ((c.tc : Thread Cert.NormRIdeal.nD Cert.NormRIdeal.τ).loc Cert.NormRIdeal.main_arg1) = m ((c.tc : Thread Cert.NormRIdeal.nD Cert.NormRIdeal.τ).loc Cert.NormRIdeal.main_arg1)
      ∧ r.2.mem ((c.tc : Thread Cert.NormRIdeal.nD Cert.NormRIdeal.τ).loc Cert.NormRIdeal.main_arg2) = m ((c.tc : Thread Cert.NormRIdeal.nD Cert.NormRIdeal.τ).loc Cert.NormRIdeal.main_arg2)
      ∧ r.2.mem ((c.tc : Thread Cert.NormRIdeal.nD Cert.NormRIdeal.τ).loc Cert.NormRIdeal.main_arg3) = m ((c.tc : Thread Cert.NormRIdeal.nD Cert.NormRIdeal.τ).loc Cert.NormRIdeal.main_arg3)
      ∧ r.2.mem ((c.tc : Thread Cert.NormRIdeal.nD Cert.NormRIdeal.τ).loc Cert.NormRIdeal.main_arg4) = m ((c.tc : Thread Cert.NormRIdeal.nD Cert.NormRIdeal.τ).loc Cert.NormRIdeal.main_arg4)
      ∧ r.2.mem ((c.tc : Thread Cert.NormRIdeal.nD Cert.NormRIdeal.τ).loc Cert.NormRIdeal.main_arg5) = m ((c.tc : Thread Cert.NormRIdeal.nD Cert.NormRIdeal.τ).loc Cert.NormRIdeal.main_arg5)
      ∧ r.2.mem ((c.tc : Thread Cert.NormRIdeal.nD Cert.NormRIdeal.τ).loc Cert.NormRIdeal.main_arg6) = m ((c.tc : Thread Cert.NormRIdeal.nD Cert.NormRIdeal.τ).loc Cert.NormRIdeal.main_arg6))
      ∧ r.2.sem = fun _ => 0)

def quiescent_InK [hInK : Cert.InK.Facts] : Prop :=
  ∀ (m : (ℓ : Loc Cert.InK.nD Cert.InK.τ Cert.InK.sig) → Buf (Elt Bits) ℓ) (g : Dev Cert.InK.nD → PrngReg), Pre_InK m →
    θ_run (Cert.InK.defs (F := Bits)) (onTc (τ := Cert.InK.τ) (Cert.InK.main (F := Bits))) ⟨m, fun _ => 0, g⟩ (fun r => (∀ c : Dev Cert.InK.nD,
      r.2.mem ((c.tc : Thread Cert.InK.nD Cert.InK.τ).loc Cert.InK.main_arg0) = m ((c.tc : Thread Cert.InK.nD Cert.InK.τ).loc Cert.InK.main_arg0)
      ∧ r.2.mem ((c.tc : Thread Cert.InK.nD Cert.InK.τ).loc Cert.InK.main_arg1) = m ((c.tc : Thread Cert.InK.nD Cert.InK.τ).loc Cert.InK.main_arg1)
      ∧ r.2.mem ((c.tc : Thread Cert.InK.nD Cert.InK.τ).loc Cert.InK.main_arg2) = m ((c.tc : Thread Cert.InK.nD Cert.InK.τ).loc Cert.InK.main_arg2)
      ∧ r.2.mem ((c.tc : Thread Cert.InK.nD Cert.InK.τ).loc Cert.InK.main_arg3) = m ((c.tc : Thread Cert.InK.nD Cert.InK.τ).loc Cert.InK.main_arg3)
      ∧ r.2.mem ((c.tc : Thread Cert.InK.nD Cert.InK.τ).loc Cert.InK.main_arg4) = m ((c.tc : Thread Cert.InK.nD Cert.InK.τ).loc Cert.InK.main_arg4)
      ∧ r.2.mem ((c.tc : Thread Cert.InK.nD Cert.InK.τ).loc Cert.InK.main_arg5) = m ((c.tc : Thread Cert.InK.nD Cert.InK.τ).loc Cert.InK.main_arg5)
      ∧ r.2.mem ((c.tc : Thread Cert.InK.nD Cert.InK.τ).loc Cert.InK.main_arg6) = m ((c.tc : Thread Cert.InK.nD Cert.InK.τ).loc Cert.InK.main_arg6)
      ∧ r.2.mem ((c.tc : Thread Cert.InK.nD Cert.InK.τ).loc Cert.InK.main_arg7) = m ((c.tc : Thread Cert.InK.nD Cert.InK.τ).loc Cert.InK.main_arg7)
      ∧ r.2.mem ((c.tc : Thread Cert.InK.nD Cert.InK.τ).loc Cert.InK.main_arg8) = m ((c.tc : Thread Cert.InK.nD Cert.InK.τ).loc Cert.InK.main_arg8)
      ∧ r.2.mem ((c.tc : Thread Cert.InK.nD Cert.InK.τ).loc Cert.InK.main_arg9) = m ((c.tc : Thread Cert.InK.nD Cert.InK.τ).loc Cert.InK.main_arg9))
      ∧ r.2.sem = fun _ => 0)

def quiescent_InKIdeal [hInKIdeal : Cert.InKIdeal.Facts] : Prop :=
  ∀ (m : (ℓ : Loc Cert.InKIdeal.nD Cert.InKIdeal.τ Cert.InKIdeal.sig) → Buf (Elt Ideal) ℓ) (g : Dev Cert.InKIdeal.nD → PrngReg), Pre_InKIdeal m →
    θ_run (Cert.InKIdeal.defs (F := Ideal)) (onTc (τ := Cert.InKIdeal.τ) (Cert.InKIdeal.main (F := Ideal))) ⟨m, fun _ => 0, g⟩ (fun r => (∀ c : Dev Cert.InKIdeal.nD,
      r.2.mem ((c.tc : Thread Cert.InKIdeal.nD Cert.InKIdeal.τ).loc Cert.InKIdeal.main_arg0) = m ((c.tc : Thread Cert.InKIdeal.nD Cert.InKIdeal.τ).loc Cert.InKIdeal.main_arg0)
      ∧ r.2.mem ((c.tc : Thread Cert.InKIdeal.nD Cert.InKIdeal.τ).loc Cert.InKIdeal.main_arg1) = m ((c.tc : Thread Cert.InKIdeal.nD Cert.InKIdeal.τ).loc Cert.InKIdeal.main_arg1)
      ∧ r.2.mem ((c.tc : Thread Cert.InKIdeal.nD Cert.InKIdeal.τ).loc Cert.InKIdeal.main_arg2) = m ((c.tc : Thread Cert.InKIdeal.nD Cert.InKIdeal.τ).loc Cert.InKIdeal.main_arg2)
      ∧ r.2.mem ((c.tc : Thread Cert.InKIdeal.nD Cert.InKIdeal.τ).loc Cert.InKIdeal.main_arg3) = m ((c.tc : Thread Cert.InKIdeal.nD Cert.InKIdeal.τ).loc Cert.InKIdeal.main_arg3)
      ∧ r.2.mem ((c.tc : Thread Cert.InKIdeal.nD Cert.InKIdeal.τ).loc Cert.InKIdeal.main_arg4) = m ((c.tc : Thread Cert.InKIdeal.nD Cert.InKIdeal.τ).loc Cert.InKIdeal.main_arg4)
      ∧ r.2.mem ((c.tc : Thread Cert.InKIdeal.nD Cert.InKIdeal.τ).loc Cert.InKIdeal.main_arg5) = m ((c.tc : Thread Cert.InKIdeal.nD Cert.InKIdeal.τ).loc Cert.InKIdeal.main_arg5)
      ∧ r.2.mem ((c.tc : Thread Cert.InKIdeal.nD Cert.InKIdeal.τ).loc Cert.InKIdeal.main_arg6) = m ((c.tc : Thread Cert.InKIdeal.nD Cert.InKIdeal.τ).loc Cert.InKIdeal.main_arg6)
      ∧ r.2.mem ((c.tc : Thread Cert.InKIdeal.nD Cert.InKIdeal.τ).loc Cert.InKIdeal.main_arg7) = m ((c.tc : Thread Cert.InKIdeal.nD Cert.InKIdeal.τ).loc Cert.InKIdeal.main_arg7)
      ∧ r.2.mem ((c.tc : Thread Cert.InKIdeal.nD Cert.InKIdeal.τ).loc Cert.InKIdeal.main_arg8) = m ((c.tc : Thread Cert.InKIdeal.nD Cert.InKIdeal.τ).loc Cert.InKIdeal.main_arg8)
      ∧ r.2.mem ((c.tc : Thread Cert.InKIdeal.nD Cert.InKIdeal.τ).loc Cert.InKIdeal.main_arg9) = m ((c.tc : Thread Cert.InKIdeal.nD Cert.InKIdeal.τ).loc Cert.InKIdeal.main_arg9))
      ∧ r.2.sem = fun _ => 0)

def quiescent_InKIdeal_pre_in_finite [hInKIdeal : Cert.InKIdeal.Facts] [hPre_in_finite : Cert.Pre_in_finite.Facts] : Prop :=
  ∀ (m : (ℓ : Loc Cert.InKIdeal.nD Cert.InKIdeal.τ Cert.InKIdeal.sig) → Buf (Elt Ideal) ℓ) (g : Dev Cert.InKIdeal.nD → PrngReg), Pre_InKIdeal_in_finite m →
    θ_run (Cert.InKIdeal.defs (F := Ideal)) (onTc (τ := Cert.InKIdeal.τ) (Cert.InKIdeal.main (F := Ideal))) ⟨m, fun _ => 0, g⟩ (fun r => (∀ c : Dev Cert.InKIdeal.nD,
      r.2.mem ((c.tc : Thread Cert.InKIdeal.nD Cert.InKIdeal.τ).loc Cert.InKIdeal.main_arg0) = m ((c.tc : Thread Cert.InKIdeal.nD Cert.InKIdeal.τ).loc Cert.InKIdeal.main_arg0)
      ∧ r.2.mem ((c.tc : Thread Cert.InKIdeal.nD Cert.InKIdeal.τ).loc Cert.InKIdeal.main_arg1) = m ((c.tc : Thread Cert.InKIdeal.nD Cert.InKIdeal.τ).loc Cert.InKIdeal.main_arg1)
      ∧ r.2.mem ((c.tc : Thread Cert.InKIdeal.nD Cert.InKIdeal.τ).loc Cert.InKIdeal.main_arg2) = m ((c.tc : Thread Cert.InKIdeal.nD Cert.InKIdeal.τ).loc Cert.InKIdeal.main_arg2)
      ∧ r.2.mem ((c.tc : Thread Cert.InKIdeal.nD Cert.InKIdeal.τ).loc Cert.InKIdeal.main_arg3) = m ((c.tc : Thread Cert.InKIdeal.nD Cert.InKIdeal.τ).loc Cert.InKIdeal.main_arg3)
      ∧ r.2.mem ((c.tc : Thread Cert.InKIdeal.nD Cert.InKIdeal.τ).loc Cert.InKIdeal.main_arg4) = m ((c.tc : Thread Cert.InKIdeal.nD Cert.InKIdeal.τ).loc Cert.InKIdeal.main_arg4)
      ∧ r.2.mem ((c.tc : Thread Cert.InKIdeal.nD Cert.InKIdeal.τ).loc Cert.InKIdeal.main_arg5) = m ((c.tc : Thread Cert.InKIdeal.nD Cert.InKIdeal.τ).loc Cert.InKIdeal.main_arg5)
      ∧ r.2.mem ((c.tc : Thread Cert.InKIdeal.nD Cert.InKIdeal.τ).loc Cert.InKIdeal.main_arg6) = m ((c.tc : Thread Cert.InKIdeal.nD Cert.InKIdeal.τ).loc Cert.InKIdeal.main_arg6)
      ∧ r.2.mem ((c.tc : Thread Cert.InKIdeal.nD Cert.InKIdeal.τ).loc Cert.InKIdeal.main_arg7) = m ((c.tc : Thread Cert.InKIdeal.nD Cert.InKIdeal.τ).loc Cert.InKIdeal.main_arg7)
      ∧ r.2.mem ((c.tc : Thread Cert.InKIdeal.nD Cert.InKIdeal.τ).loc Cert.InKIdeal.main_arg8) = m ((c.tc : Thread Cert.InKIdeal.nD Cert.InKIdeal.τ).loc Cert.InKIdeal.main_arg8)
      ∧ r.2.mem ((c.tc : Thread Cert.InKIdeal.nD Cert.InKIdeal.τ).loc Cert.InKIdeal.main_arg9) = m ((c.tc : Thread Cert.InKIdeal.nD Cert.InKIdeal.τ).loc Cert.InKIdeal.main_arg9))
      ∧ r.2.sem = fun _ => 0)

def quiescent_InRIdeal [hInRIdeal : Cert.InRIdeal.Facts] : Prop :=
  ∀ (m : (ℓ : Loc Cert.InRIdeal.nD Cert.InRIdeal.τ Cert.InRIdeal.sig) → Buf (Elt Ideal) ℓ) (g : Dev Cert.InRIdeal.nD → PrngReg), Pre_InRIdeal m →
    θ_run (Cert.InRIdeal.defs (F := Ideal)) (onTc (τ := Cert.InRIdeal.τ) (Cert.InRIdeal.main (F := Ideal))) ⟨m, fun _ => 0, g⟩ (fun r => (∀ c : Dev Cert.InRIdeal.nD,
      r.2.mem ((c.tc : Thread Cert.InRIdeal.nD Cert.InRIdeal.τ).loc Cert.InRIdeal.main_arg0) = m ((c.tc : Thread Cert.InRIdeal.nD Cert.InRIdeal.τ).loc Cert.InRIdeal.main_arg0)
      ∧ r.2.mem ((c.tc : Thread Cert.InRIdeal.nD Cert.InRIdeal.τ).loc Cert.InRIdeal.main_arg1) = m ((c.tc : Thread Cert.InRIdeal.nD Cert.InRIdeal.τ).loc Cert.InRIdeal.main_arg1)
      ∧ r.2.mem ((c.tc : Thread Cert.InRIdeal.nD Cert.InRIdeal.τ).loc Cert.InRIdeal.main_arg2) = m ((c.tc : Thread Cert.InRIdeal.nD Cert.InRIdeal.τ).loc Cert.InRIdeal.main_arg2)
      ∧ r.2.mem ((c.tc : Thread Cert.InRIdeal.nD Cert.InRIdeal.τ).loc Cert.InRIdeal.main_arg3) = m ((c.tc : Thread Cert.InRIdeal.nD Cert.InRIdeal.τ).loc Cert.InRIdeal.main_arg3)
      ∧ r.2.mem ((c.tc : Thread Cert.InRIdeal.nD Cert.InRIdeal.τ).loc Cert.InRIdeal.main_arg4) = m ((c.tc : Thread Cert.InRIdeal.nD Cert.InRIdeal.τ).loc Cert.InRIdeal.main_arg4)
      ∧ r.2.mem ((c.tc : Thread Cert.InRIdeal.nD Cert.InRIdeal.τ).loc Cert.InRIdeal.main_arg5) = m ((c.tc : Thread Cert.InRIdeal.nD Cert.InRIdeal.τ).loc Cert.InRIdeal.main_arg5)
      ∧ r.2.mem ((c.tc : Thread Cert.InRIdeal.nD Cert.InRIdeal.τ).loc Cert.InRIdeal.main_arg6) = m ((c.tc : Thread Cert.InRIdeal.nD Cert.InRIdeal.τ).loc Cert.InRIdeal.main_arg6)
      ∧ r.2.mem ((c.tc : Thread Cert.InRIdeal.nD Cert.InRIdeal.τ).loc Cert.InRIdeal.main_arg7) = m ((c.tc : Thread Cert.InRIdeal.nD Cert.InRIdeal.τ).loc Cert.InRIdeal.main_arg7)
      ∧ r.2.mem ((c.tc : Thread Cert.InRIdeal.nD Cert.InRIdeal.τ).loc Cert.InRIdeal.main_arg8) = m ((c.tc : Thread Cert.InRIdeal.nD Cert.InRIdeal.τ).loc Cert.InRIdeal.main_arg8)
      ∧ r.2.mem ((c.tc : Thread Cert.InRIdeal.nD Cert.InRIdeal.τ).loc Cert.InRIdeal.main_arg9) = m ((c.tc : Thread Cert.InRIdeal.nD Cert.InRIdeal.τ).loc Cert.InRIdeal.main_arg9))
      ∧ r.2.sem = fun _ => 0)

def quiescent_InRIdeal_pre_in_finite [hInRIdeal : Cert.InRIdeal.Facts] [hPre_in_finite : Cert.Pre_in_finite.Facts] : Prop :=
  ∀ (m : (ℓ : Loc Cert.InRIdeal.nD Cert.InRIdeal.τ Cert.InRIdeal.sig) → Buf (Elt Ideal) ℓ) (g : Dev Cert.InRIdeal.nD → PrngReg), Pre_InRIdeal_in_finite m →
    θ_run (Cert.InRIdeal.defs (F := Ideal)) (onTc (τ := Cert.InRIdeal.τ) (Cert.InRIdeal.main (F := Ideal))) ⟨m, fun _ => 0, g⟩ (fun r => (∀ c : Dev Cert.InRIdeal.nD,
      r.2.mem ((c.tc : Thread Cert.InRIdeal.nD Cert.InRIdeal.τ).loc Cert.InRIdeal.main_arg0) = m ((c.tc : Thread Cert.InRIdeal.nD Cert.InRIdeal.τ).loc Cert.InRIdeal.main_arg0)
      ∧ r.2.mem ((c.tc : Thread Cert.InRIdeal.nD Cert.InRIdeal.τ).loc Cert.InRIdeal.main_arg1) = m ((c.tc : Thread Cert.InRIdeal.nD Cert.InRIdeal.τ).loc Cert.InRIdeal.main_arg1)
      ∧ r.2.mem ((c.tc : Thread Cert.InRIdeal.nD Cert.InRIdeal.τ).loc Cert.InRIdeal.main_arg2) = m ((c.tc : Thread Cert.InRIdeal.nD Cert.InRIdeal.τ).loc Cert.InRIdeal.main_arg2)
      ∧ r.2.mem ((c.tc : Thread Cert.InRIdeal.nD Cert.InRIdeal.τ).loc Cert.InRIdeal.main_arg3) = m ((c.tc : Thread Cert.InRIdeal.nD Cert.InRIdeal.τ).loc Cert.InRIdeal.main_arg3)
      ∧ r.2.mem ((c.tc : Thread Cert.InRIdeal.nD Cert.InRIdeal.τ).loc Cert.InRIdeal.main_arg4) = m ((c.tc : Thread Cert.InRIdeal.nD Cert.InRIdeal.τ).loc Cert.InRIdeal.main_arg4)
      ∧ r.2.mem ((c.tc : Thread Cert.InRIdeal.nD Cert.InRIdeal.τ).loc Cert.InRIdeal.main_arg5) = m ((c.tc : Thread Cert.InRIdeal.nD Cert.InRIdeal.τ).loc Cert.InRIdeal.main_arg5)
      ∧ r.2.mem ((c.tc : Thread Cert.InRIdeal.nD Cert.InRIdeal.τ).loc Cert.InRIdeal.main_arg6) = m ((c.tc : Thread Cert.InRIdeal.nD Cert.InRIdeal.τ).loc Cert.InRIdeal.main_arg6)
      ∧ r.2.mem ((c.tc : Thread Cert.InRIdeal.nD Cert.InRIdeal.τ).loc Cert.InRIdeal.main_arg7) = m ((c.tc : Thread Cert.InRIdeal.nD Cert.InRIdeal.τ).loc Cert.InRIdeal.main_arg7)
      ∧ r.2.mem ((c.tc : Thread Cert.InRIdeal.nD Cert.InRIdeal.τ).loc Cert.InRIdeal.main_arg8) = m ((c.tc : Thread Cert.InRIdeal.nD Cert.InRIdeal.τ).loc Cert.InRIdeal.main_arg8)
      ∧ r.2.mem ((c.tc : Thread Cert.InRIdeal.nD Cert.InRIdeal.τ).loc Cert.InRIdeal.main_arg9) = m ((c.tc : Thread Cert.InRIdeal.nD Cert.InRIdeal.τ).loc Cert.InRIdeal.main_arg9))
      ∧ r.2.sem = fun _ => 0)

def quiescent_MixK [hMixK : Cert.MixK.Facts] : Prop :=
  ∀ (m : (ℓ : Loc Cert.MixK.nD Cert.MixK.τ Cert.MixK.sig) → Buf (Elt Bits) ℓ) (g : Dev Cert.MixK.nD → PrngReg), Pre_MixK m →
    θ_run (Cert.MixK.defs (F := Bits)) (onTc (τ := Cert.MixK.τ) (Cert.MixK.main (F := Bits))) ⟨m, fun _ => 0, g⟩ (fun r => (∀ c : Dev Cert.MixK.nD,
      r.2.mem ((c.tc : Thread Cert.MixK.nD Cert.MixK.τ).loc Cert.MixK.main_arg0) = m ((c.tc : Thread Cert.MixK.nD Cert.MixK.τ).loc Cert.MixK.main_arg0)
      ∧ r.2.mem ((c.tc : Thread Cert.MixK.nD Cert.MixK.τ).loc Cert.MixK.main_arg1) = m ((c.tc : Thread Cert.MixK.nD Cert.MixK.τ).loc Cert.MixK.main_arg1)
      ∧ r.2.mem ((c.tc : Thread Cert.MixK.nD Cert.MixK.τ).loc Cert.MixK.main_arg2) = m ((c.tc : Thread Cert.MixK.nD Cert.MixK.τ).loc Cert.MixK.main_arg2)
      ∧ r.2.mem ((c.tc : Thread Cert.MixK.nD Cert.MixK.τ).loc Cert.MixK.main_arg3) = m ((c.tc : Thread Cert.MixK.nD Cert.MixK.τ).loc Cert.MixK.main_arg3)
      ∧ r.2.mem ((c.tc : Thread Cert.MixK.nD Cert.MixK.τ).loc Cert.MixK.main_arg4) = m ((c.tc : Thread Cert.MixK.nD Cert.MixK.τ).loc Cert.MixK.main_arg4)
      ∧ r.2.mem ((c.tc : Thread Cert.MixK.nD Cert.MixK.τ).loc Cert.MixK.main_arg5) = m ((c.tc : Thread Cert.MixK.nD Cert.MixK.τ).loc Cert.MixK.main_arg5)
      ∧ r.2.mem ((c.tc : Thread Cert.MixK.nD Cert.MixK.τ).loc Cert.MixK.main_arg6) = m ((c.tc : Thread Cert.MixK.nD Cert.MixK.τ).loc Cert.MixK.main_arg6)
      ∧ r.2.mem ((c.tc : Thread Cert.MixK.nD Cert.MixK.τ).loc Cert.MixK.main_arg7) = m ((c.tc : Thread Cert.MixK.nD Cert.MixK.τ).loc Cert.MixK.main_arg7))
      ∧ r.2.sem = fun _ => 0)

def quiescent_MixKIdeal [hMixKIdeal : Cert.MixKIdeal.Facts] : Prop :=
  ∀ (m : (ℓ : Loc Cert.MixKIdeal.nD Cert.MixKIdeal.τ Cert.MixKIdeal.sig) → Buf (Elt Ideal) ℓ) (g : Dev Cert.MixKIdeal.nD → PrngReg), Pre_MixKIdeal m →
    θ_run (Cert.MixKIdeal.defs (F := Ideal)) (onTc (τ := Cert.MixKIdeal.τ) (Cert.MixKIdeal.main (F := Ideal))) ⟨m, fun _ => 0, g⟩ (fun r => (∀ c : Dev Cert.MixKIdeal.nD,
      r.2.mem ((c.tc : Thread Cert.MixKIdeal.nD Cert.MixKIdeal.τ).loc Cert.MixKIdeal.main_arg0) = m ((c.tc : Thread Cert.MixKIdeal.nD Cert.MixKIdeal.τ).loc Cert.MixKIdeal.main_arg0)
      ∧ r.2.mem ((c.tc : Thread Cert.MixKIdeal.nD Cert.MixKIdeal.τ).loc Cert.MixKIdeal.main_arg1) = m ((c.tc : Thread Cert.MixKIdeal.nD Cert.MixKIdeal.τ).loc Cert.MixKIdeal.main_arg1)
      ∧ r.2.mem ((c.tc : Thread Cert.MixKIdeal.nD Cert.MixKIdeal.τ).loc Cert.MixKIdeal.main_arg2) = m ((c.tc : Thread Cert.MixKIdeal.nD Cert.MixKIdeal.τ).loc Cert.MixKIdeal.main_arg2)
      ∧ r.2.mem ((c.tc : Thread Cert.MixKIdeal.nD Cert.MixKIdeal.τ).loc Cert.MixKIdeal.main_arg3) = m ((c.tc : Thread Cert.MixKIdeal.nD Cert.MixKIdeal.τ).loc Cert.MixKIdeal.main_arg3)
      ∧ r.2.mem ((c.tc : Thread Cert.MixKIdeal.nD Cert.MixKIdeal.τ).loc Cert.MixKIdeal.main_arg4) = m ((c.tc : Thread Cert.MixKIdeal.nD Cert.MixKIdeal.τ).loc Cert.MixKIdeal.main_arg4)
      ∧ r.2.mem ((c.tc : Thread Cert.MixKIdeal.nD Cert.MixKIdeal.τ).loc Cert.MixKIdeal.main_arg5) = m ((c.tc : Thread Cert.MixKIdeal.nD Cert.MixKIdeal.τ).loc Cert.MixKIdeal.main_arg5)
      ∧ r.2.mem ((c.tc : Thread Cert.MixKIdeal.nD Cert.MixKIdeal.τ).loc Cert.MixKIdeal.main_arg6) = m ((c.tc : Thread Cert.MixKIdeal.nD Cert.MixKIdeal.τ).loc Cert.MixKIdeal.main_arg6)
      ∧ r.2.mem ((c.tc : Thread Cert.MixKIdeal.nD Cert.MixKIdeal.τ).loc Cert.MixKIdeal.main_arg7) = m ((c.tc : Thread Cert.MixKIdeal.nD Cert.MixKIdeal.τ).loc Cert.MixKIdeal.main_arg7))
      ∧ r.2.sem = fun _ => 0)

def quiescent_MixKIdeal_pre_mix_finite [hMixKIdeal : Cert.MixKIdeal.Facts] [hPre_mix_finite : Cert.Pre_mix_finite.Facts] : Prop :=
  ∀ (m : (ℓ : Loc Cert.MixKIdeal.nD Cert.MixKIdeal.τ Cert.MixKIdeal.sig) → Buf (Elt Ideal) ℓ) (g : Dev Cert.MixKIdeal.nD → PrngReg), Pre_MixKIdeal_mix_finite m →
    θ_run (Cert.MixKIdeal.defs (F := Ideal)) (onTc (τ := Cert.MixKIdeal.τ) (Cert.MixKIdeal.main (F := Ideal))) ⟨m, fun _ => 0, g⟩ (fun r => (∀ c : Dev Cert.MixKIdeal.nD,
      r.2.mem ((c.tc : Thread Cert.MixKIdeal.nD Cert.MixKIdeal.τ).loc Cert.MixKIdeal.main_arg0) = m ((c.tc : Thread Cert.MixKIdeal.nD Cert.MixKIdeal.τ).loc Cert.MixKIdeal.main_arg0)
      ∧ r.2.mem ((c.tc : Thread Cert.MixKIdeal.nD Cert.MixKIdeal.τ).loc Cert.MixKIdeal.main_arg1) = m ((c.tc : Thread Cert.MixKIdeal.nD Cert.MixKIdeal.τ).loc Cert.MixKIdeal.main_arg1)
      ∧ r.2.mem ((c.tc : Thread Cert.MixKIdeal.nD Cert.MixKIdeal.τ).loc Cert.MixKIdeal.main_arg2) = m ((c.tc : Thread Cert.MixKIdeal.nD Cert.MixKIdeal.τ).loc Cert.MixKIdeal.main_arg2)
      ∧ r.2.mem ((c.tc : Thread Cert.MixKIdeal.nD Cert.MixKIdeal.τ).loc Cert.MixKIdeal.main_arg3) = m ((c.tc : Thread Cert.MixKIdeal.nD Cert.MixKIdeal.τ).loc Cert.MixKIdeal.main_arg3)
      ∧ r.2.mem ((c.tc : Thread Cert.MixKIdeal.nD Cert.MixKIdeal.τ).loc Cert.MixKIdeal.main_arg4) = m ((c.tc : Thread Cert.MixKIdeal.nD Cert.MixKIdeal.τ).loc Cert.MixKIdeal.main_arg4)
      ∧ r.2.mem ((c.tc : Thread Cert.MixKIdeal.nD Cert.MixKIdeal.τ).loc Cert.MixKIdeal.main_arg5) = m ((c.tc : Thread Cert.MixKIdeal.nD Cert.MixKIdeal.τ).loc Cert.MixKIdeal.main_arg5)
      ∧ r.2.mem ((c.tc : Thread Cert.MixKIdeal.nD Cert.MixKIdeal.τ).loc Cert.MixKIdeal.main_arg6) = m ((c.tc : Thread Cert.MixKIdeal.nD Cert.MixKIdeal.τ).loc Cert.MixKIdeal.main_arg6)
      ∧ r.2.mem ((c.tc : Thread Cert.MixKIdeal.nD Cert.MixKIdeal.τ).loc Cert.MixKIdeal.main_arg7) = m ((c.tc : Thread Cert.MixKIdeal.nD Cert.MixKIdeal.τ).loc Cert.MixKIdeal.main_arg7))
      ∧ r.2.sem = fun _ => 0)

def quiescent_MixRIdeal [hMixRIdeal : Cert.MixRIdeal.Facts] : Prop :=
  ∀ (m : (ℓ : Loc Cert.MixRIdeal.nD Cert.MixRIdeal.τ Cert.MixRIdeal.sig) → Buf (Elt Ideal) ℓ) (g : Dev Cert.MixRIdeal.nD → PrngReg), Pre_MixRIdeal m →
    θ_run (Cert.MixRIdeal.defs (F := Ideal)) (onTc (τ := Cert.MixRIdeal.τ) (Cert.MixRIdeal.main (F := Ideal))) ⟨m, fun _ => 0, g⟩ (fun r => (∀ c : Dev Cert.MixRIdeal.nD,
      r.2.mem ((c.tc : Thread Cert.MixRIdeal.nD Cert.MixRIdeal.τ).loc Cert.MixRIdeal.main_arg0) = m ((c.tc : Thread Cert.MixRIdeal.nD Cert.MixRIdeal.τ).loc Cert.MixRIdeal.main_arg0)
      ∧ r.2.mem ((c.tc : Thread Cert.MixRIdeal.nD Cert.MixRIdeal.τ).loc Cert.MixRIdeal.main_arg1) = m ((c.tc : Thread Cert.MixRIdeal.nD Cert.MixRIdeal.τ).loc Cert.MixRIdeal.main_arg1)
      ∧ r.2.mem ((c.tc : Thread Cert.MixRIdeal.nD Cert.MixRIdeal.τ).loc Cert.MixRIdeal.main_arg2) = m ((c.tc : Thread Cert.MixRIdeal.nD Cert.MixRIdeal.τ).loc Cert.MixRIdeal.main_arg2)
      ∧ r.2.mem ((c.tc : Thread Cert.MixRIdeal.nD Cert.MixRIdeal.τ).loc Cert.MixRIdeal.main_arg3) = m ((c.tc : Thread Cert.MixRIdeal.nD Cert.MixRIdeal.τ).loc Cert.MixRIdeal.main_arg3)
      ∧ r.2.mem ((c.tc : Thread Cert.MixRIdeal.nD Cert.MixRIdeal.τ).loc Cert.MixRIdeal.main_arg4) = m ((c.tc : Thread Cert.MixRIdeal.nD Cert.MixRIdeal.τ).loc Cert.MixRIdeal.main_arg4)
      ∧ r.2.mem ((c.tc : Thread Cert.MixRIdeal.nD Cert.MixRIdeal.τ).loc Cert.MixRIdeal.main_arg5) = m ((c.tc : Thread Cert.MixRIdeal.nD Cert.MixRIdeal.τ).loc Cert.MixRIdeal.main_arg5)
      ∧ r.2.mem ((c.tc : Thread Cert.MixRIdeal.nD Cert.MixRIdeal.τ).loc Cert.MixRIdeal.main_arg6) = m ((c.tc : Thread Cert.MixRIdeal.nD Cert.MixRIdeal.τ).loc Cert.MixRIdeal.main_arg6)
      ∧ r.2.mem ((c.tc : Thread Cert.MixRIdeal.nD Cert.MixRIdeal.τ).loc Cert.MixRIdeal.main_arg7) = m ((c.tc : Thread Cert.MixRIdeal.nD Cert.MixRIdeal.τ).loc Cert.MixRIdeal.main_arg7))
      ∧ r.2.sem = fun _ => 0)

def quiescent_MixRIdeal_pre_mix_finite [hMixRIdeal : Cert.MixRIdeal.Facts] [hPre_mix_finite : Cert.Pre_mix_finite.Facts] : Prop :=
  ∀ (m : (ℓ : Loc Cert.MixRIdeal.nD Cert.MixRIdeal.τ Cert.MixRIdeal.sig) → Buf (Elt Ideal) ℓ) (g : Dev Cert.MixRIdeal.nD → PrngReg), Pre_MixRIdeal_mix_finite m →
    θ_run (Cert.MixRIdeal.defs (F := Ideal)) (onTc (τ := Cert.MixRIdeal.τ) (Cert.MixRIdeal.main (F := Ideal))) ⟨m, fun _ => 0, g⟩ (fun r => (∀ c : Dev Cert.MixRIdeal.nD,
      r.2.mem ((c.tc : Thread Cert.MixRIdeal.nD Cert.MixRIdeal.τ).loc Cert.MixRIdeal.main_arg0) = m ((c.tc : Thread Cert.MixRIdeal.nD Cert.MixRIdeal.τ).loc Cert.MixRIdeal.main_arg0)
      ∧ r.2.mem ((c.tc : Thread Cert.MixRIdeal.nD Cert.MixRIdeal.τ).loc Cert.MixRIdeal.main_arg1) = m ((c.tc : Thread Cert.MixRIdeal.nD Cert.MixRIdeal.τ).loc Cert.MixRIdeal.main_arg1)
      ∧ r.2.mem ((c.tc : Thread Cert.MixRIdeal.nD Cert.MixRIdeal.τ).loc Cert.MixRIdeal.main_arg2) = m ((c.tc : Thread Cert.MixRIdeal.nD Cert.MixRIdeal.τ).loc Cert.MixRIdeal.main_arg2)
      ∧ r.2.mem ((c.tc : Thread Cert.MixRIdeal.nD Cert.MixRIdeal.τ).loc Cert.MixRIdeal.main_arg3) = m ((c.tc : Thread Cert.MixRIdeal.nD Cert.MixRIdeal.τ).loc Cert.MixRIdeal.main_arg3)
      ∧ r.2.mem ((c.tc : Thread Cert.MixRIdeal.nD Cert.MixRIdeal.τ).loc Cert.MixRIdeal.main_arg4) = m ((c.tc : Thread Cert.MixRIdeal.nD Cert.MixRIdeal.τ).loc Cert.MixRIdeal.main_arg4)
      ∧ r.2.mem ((c.tc : Thread Cert.MixRIdeal.nD Cert.MixRIdeal.τ).loc Cert.MixRIdeal.main_arg5) = m ((c.tc : Thread Cert.MixRIdeal.nD Cert.MixRIdeal.τ).loc Cert.MixRIdeal.main_arg5)
      ∧ r.2.mem ((c.tc : Thread Cert.MixRIdeal.nD Cert.MixRIdeal.τ).loc Cert.MixRIdeal.main_arg6) = m ((c.tc : Thread Cert.MixRIdeal.nD Cert.MixRIdeal.τ).loc Cert.MixRIdeal.main_arg6)
      ∧ r.2.mem ((c.tc : Thread Cert.MixRIdeal.nD Cert.MixRIdeal.τ).loc Cert.MixRIdeal.main_arg7) = m ((c.tc : Thread Cert.MixRIdeal.nD Cert.MixRIdeal.τ).loc Cert.MixRIdeal.main_arg7))
      ∧ r.2.sem = fun _ => 0)

def quiescent_GateK [hGateK : Cert.GateK.Facts] : Prop :=
  ∀ (m : (ℓ : Loc Cert.GateK.nD Cert.GateK.τ Cert.GateK.sig) → Buf (Elt Bits) ℓ) (g : Dev Cert.GateK.nD → PrngReg), Pre_GateK m →
    θ_run (Cert.GateK.defs (F := Bits)) (onTc (τ := Cert.GateK.τ) (Cert.GateK.main (F := Bits))) ⟨m, fun _ => 0, g⟩ (fun r => (∀ c : Dev Cert.GateK.nD,
      r.2.mem ((c.tc : Thread Cert.GateK.nD Cert.GateK.τ).loc Cert.GateK.main_arg0) = m ((c.tc : Thread Cert.GateK.nD Cert.GateK.τ).loc Cert.GateK.main_arg0)
      ∧ r.2.mem ((c.tc : Thread Cert.GateK.nD Cert.GateK.τ).loc Cert.GateK.main_arg1) = m ((c.tc : Thread Cert.GateK.nD Cert.GateK.τ).loc Cert.GateK.main_arg1))
      ∧ r.2.sem = fun _ => 0)

def quiescent_GateKIdeal [hGateKIdeal : Cert.GateKIdeal.Facts] : Prop :=
  ∀ (m : (ℓ : Loc Cert.GateKIdeal.nD Cert.GateKIdeal.τ Cert.GateKIdeal.sig) → Buf (Elt Ideal) ℓ) (g : Dev Cert.GateKIdeal.nD → PrngReg), Pre_GateKIdeal m →
    θ_run (Cert.GateKIdeal.defs (F := Ideal)) (onTc (τ := Cert.GateKIdeal.τ) (Cert.GateKIdeal.main (F := Ideal))) ⟨m, fun _ => 0, g⟩ (fun r => (∀ c : Dev Cert.GateKIdeal.nD,
      r.2.mem ((c.tc : Thread Cert.GateKIdeal.nD Cert.GateKIdeal.τ).loc Cert.GateKIdeal.main_arg0) = m ((c.tc : Thread Cert.GateKIdeal.nD Cert.GateKIdeal.τ).loc Cert.GateKIdeal.main_arg0)
      ∧ r.2.mem ((c.tc : Thread Cert.GateKIdeal.nD Cert.GateKIdeal.τ).loc Cert.GateKIdeal.main_arg1) = m ((c.tc : Thread Cert.GateKIdeal.nD Cert.GateKIdeal.τ).loc Cert.GateKIdeal.main_arg1))
      ∧ r.2.sem = fun _ => 0)

def quiescent_GateRIdeal [hGateRIdeal : Cert.GateRIdeal.Facts] : Prop :=
  ∀ (m : (ℓ : Loc Cert.GateRIdeal.nD Cert.GateRIdeal.τ Cert.GateRIdeal.sig) → Buf (Elt Ideal) ℓ) (g : Dev Cert.GateRIdeal.nD → PrngReg), Pre_GateRIdeal m →
    θ_run (Cert.GateRIdeal.defs (F := Ideal)) (onTc (τ := Cert.GateRIdeal.τ) (Cert.GateRIdeal.main (F := Ideal))) ⟨m, fun _ => 0, g⟩ (fun r => (∀ c : Dev Cert.GateRIdeal.nD,
      r.2.mem ((c.tc : Thread Cert.GateRIdeal.nD Cert.GateRIdeal.τ).loc Cert.GateRIdeal.main_arg0) = m ((c.tc : Thread Cert.GateRIdeal.nD Cert.GateRIdeal.τ).loc Cert.GateRIdeal.main_arg0)
      ∧ r.2.mem ((c.tc : Thread Cert.GateRIdeal.nD Cert.GateRIdeal.τ).loc Cert.GateRIdeal.main_arg1) = m ((c.tc : Thread Cert.GateRIdeal.nD Cert.GateRIdeal.τ).loc Cert.GateRIdeal.main_arg1))
      ∧ r.2.sem = fun _ => 0)

def quiescent_AttnK [hAttnK : Cert.AttnK.Facts] : Prop :=
  ∀ (m : (ℓ : Loc Cert.AttnK.nD Cert.AttnK.τ Cert.AttnK.sig) → Buf (Elt Bits) ℓ) (g : Dev Cert.AttnK.nD → PrngReg), Pre_AttnK m →
    θ_run (Cert.AttnK.defs (F := Bits)) (onTc (τ := Cert.AttnK.τ) (Cert.AttnK.main (F := Bits))) ⟨m, fun _ => 0, g⟩ (fun r => (∀ c : Dev Cert.AttnK.nD,
      r.2.mem ((c.tc : Thread Cert.AttnK.nD Cert.AttnK.τ).loc Cert.AttnK.main_arg0) = m ((c.tc : Thread Cert.AttnK.nD Cert.AttnK.τ).loc Cert.AttnK.main_arg0)
      ∧ r.2.mem ((c.tc : Thread Cert.AttnK.nD Cert.AttnK.τ).loc Cert.AttnK.main_arg1) = m ((c.tc : Thread Cert.AttnK.nD Cert.AttnK.τ).loc Cert.AttnK.main_arg1)
      ∧ r.2.mem ((c.tc : Thread Cert.AttnK.nD Cert.AttnK.τ).loc Cert.AttnK.main_arg2) = m ((c.tc : Thread Cert.AttnK.nD Cert.AttnK.τ).loc Cert.AttnK.main_arg2)
      ∧ r.2.mem ((c.tc : Thread Cert.AttnK.nD Cert.AttnK.τ).loc Cert.AttnK.main_arg3) = m ((c.tc : Thread Cert.AttnK.nD Cert.AttnK.τ).loc Cert.AttnK.main_arg3)
      ∧ r.2.mem ((c.tc : Thread Cert.AttnK.nD Cert.AttnK.τ).loc Cert.AttnK.main_arg4) = m ((c.tc : Thread Cert.AttnK.nD Cert.AttnK.τ).loc Cert.AttnK.main_arg4))
      ∧ r.2.sem = fun _ => 0)

def quiescent_AttnKIdeal [hAttnKIdeal : Cert.AttnKIdeal.Facts] : Prop :=
  ∀ (m : (ℓ : Loc Cert.AttnKIdeal.nD Cert.AttnKIdeal.τ Cert.AttnKIdeal.sig) → Buf (Elt Ideal) ℓ) (g : Dev Cert.AttnKIdeal.nD → PrngReg), Pre_AttnKIdeal m →
    θ_run (Cert.AttnKIdeal.defs (F := Ideal)) (onTc (τ := Cert.AttnKIdeal.τ) (Cert.AttnKIdeal.main (F := Ideal))) ⟨m, fun _ => 0, g⟩ (fun r => (∀ c : Dev Cert.AttnKIdeal.nD,
      r.2.mem ((c.tc : Thread Cert.AttnKIdeal.nD Cert.AttnKIdeal.τ).loc Cert.AttnKIdeal.main_arg0) = m ((c.tc : Thread Cert.AttnKIdeal.nD Cert.AttnKIdeal.τ).loc Cert.AttnKIdeal.main_arg0)
      ∧ r.2.mem ((c.tc : Thread Cert.AttnKIdeal.nD Cert.AttnKIdeal.τ).loc Cert.AttnKIdeal.main_arg1) = m ((c.tc : Thread Cert.AttnKIdeal.nD Cert.AttnKIdeal.τ).loc Cert.AttnKIdeal.main_arg1)
      ∧ r.2.mem ((c.tc : Thread Cert.AttnKIdeal.nD Cert.AttnKIdeal.τ).loc Cert.AttnKIdeal.main_arg2) = m ((c.tc : Thread Cert.AttnKIdeal.nD Cert.AttnKIdeal.τ).loc Cert.AttnKIdeal.main_arg2)
      ∧ r.2.mem ((c.tc : Thread Cert.AttnKIdeal.nD Cert.AttnKIdeal.τ).loc Cert.AttnKIdeal.main_arg3) = m ((c.tc : Thread Cert.AttnKIdeal.nD Cert.AttnKIdeal.τ).loc Cert.AttnKIdeal.main_arg3)
      ∧ r.2.mem ((c.tc : Thread Cert.AttnKIdeal.nD Cert.AttnKIdeal.τ).loc Cert.AttnKIdeal.main_arg4) = m ((c.tc : Thread Cert.AttnKIdeal.nD Cert.AttnKIdeal.τ).loc Cert.AttnKIdeal.main_arg4))
      ∧ r.2.sem = fun _ => 0)

def quiescent_AttnKIdeal_pre_attn_finite [hAttnKIdeal : Cert.AttnKIdeal.Facts] [hPre_attn_finite : Cert.Pre_attn_finite.Facts] : Prop :=
  ∀ (m : (ℓ : Loc Cert.AttnKIdeal.nD Cert.AttnKIdeal.τ Cert.AttnKIdeal.sig) → Buf (Elt Ideal) ℓ) (g : Dev Cert.AttnKIdeal.nD → PrngReg), Pre_AttnKIdeal_attn_finite m →
    θ_run (Cert.AttnKIdeal.defs (F := Ideal)) (onTc (τ := Cert.AttnKIdeal.τ) (Cert.AttnKIdeal.main (F := Ideal))) ⟨m, fun _ => 0, g⟩ (fun r => (∀ c : Dev Cert.AttnKIdeal.nD,
      r.2.mem ((c.tc : Thread Cert.AttnKIdeal.nD Cert.AttnKIdeal.τ).loc Cert.AttnKIdeal.main_arg0) = m ((c.tc : Thread Cert.AttnKIdeal.nD Cert.AttnKIdeal.τ).loc Cert.AttnKIdeal.main_arg0)
      ∧ r.2.mem ((c.tc : Thread Cert.AttnKIdeal.nD Cert.AttnKIdeal.τ).loc Cert.AttnKIdeal.main_arg1) = m ((c.tc : Thread Cert.AttnKIdeal.nD Cert.AttnKIdeal.τ).loc Cert.AttnKIdeal.main_arg1)
      ∧ r.2.mem ((c.tc : Thread Cert.AttnKIdeal.nD Cert.AttnKIdeal.τ).loc Cert.AttnKIdeal.main_arg2) = m ((c.tc : Thread Cert.AttnKIdeal.nD Cert.AttnKIdeal.τ).loc Cert.AttnKIdeal.main_arg2)
      ∧ r.2.mem ((c.tc : Thread Cert.AttnKIdeal.nD Cert.AttnKIdeal.τ).loc Cert.AttnKIdeal.main_arg3) = m ((c.tc : Thread Cert.AttnKIdeal.nD Cert.AttnKIdeal.τ).loc Cert.AttnKIdeal.main_arg3)
      ∧ r.2.mem ((c.tc : Thread Cert.AttnKIdeal.nD Cert.AttnKIdeal.τ).loc Cert.AttnKIdeal.main_arg4) = m ((c.tc : Thread Cert.AttnKIdeal.nD Cert.AttnKIdeal.τ).loc Cert.AttnKIdeal.main_arg4))
      ∧ r.2.sem = fun _ => 0)

def quiescent_AttnRIdeal [hAttnRIdeal : Cert.AttnRIdeal.Facts] : Prop :=
  ∀ (m : (ℓ : Loc Cert.AttnRIdeal.nD Cert.AttnRIdeal.τ Cert.AttnRIdeal.sig) → Buf (Elt Ideal) ℓ) (g : Dev Cert.AttnRIdeal.nD → PrngReg), Pre_AttnRIdeal m →
    θ_run (Cert.AttnRIdeal.defs (F := Ideal)) (onTc (τ := Cert.AttnRIdeal.τ) (Cert.AttnRIdeal.main (F := Ideal))) ⟨m, fun _ => 0, g⟩ (fun r => (∀ c : Dev Cert.AttnRIdeal.nD,
      r.2.mem ((c.tc : Thread Cert.AttnRIdeal.nD Cert.AttnRIdeal.τ).loc Cert.AttnRIdeal.main_arg0) = m ((c.tc : Thread Cert.AttnRIdeal.nD Cert.AttnRIdeal.τ).loc Cert.AttnRIdeal.main_arg0)
      ∧ r.2.mem ((c.tc : Thread Cert.AttnRIdeal.nD Cert.AttnRIdeal.τ).loc Cert.AttnRIdeal.main_arg1) = m ((c.tc : Thread Cert.AttnRIdeal.nD Cert.AttnRIdeal.τ).loc Cert.AttnRIdeal.main_arg1)
      ∧ r.2.mem ((c.tc : Thread Cert.AttnRIdeal.nD Cert.AttnRIdeal.τ).loc Cert.AttnRIdeal.main_arg2) = m ((c.tc : Thread Cert.AttnRIdeal.nD Cert.AttnRIdeal.τ).loc Cert.AttnRIdeal.main_arg2)
      ∧ r.2.mem ((c.tc : Thread Cert.AttnRIdeal.nD Cert.AttnRIdeal.τ).loc Cert.AttnRIdeal.main_arg3) = m ((c.tc : Thread Cert.AttnRIdeal.nD Cert.AttnRIdeal.τ).loc Cert.AttnRIdeal.main_arg3)
      ∧ r.2.mem ((c.tc : Thread Cert.AttnRIdeal.nD Cert.AttnRIdeal.τ).loc Cert.AttnRIdeal.main_arg4) = m ((c.tc : Thread Cert.AttnRIdeal.nD Cert.AttnRIdeal.τ).loc Cert.AttnRIdeal.main_arg4))
      ∧ r.2.sem = fun _ => 0)

def quiescent_AttnRIdeal_pre_attn_finite [hAttnRIdeal : Cert.AttnRIdeal.Facts] [hPre_attn_finite : Cert.Pre_attn_finite.Facts] : Prop :=
  ∀ (m : (ℓ : Loc Cert.AttnRIdeal.nD Cert.AttnRIdeal.τ Cert.AttnRIdeal.sig) → Buf (Elt Ideal) ℓ) (g : Dev Cert.AttnRIdeal.nD → PrngReg), Pre_AttnRIdeal_attn_finite m →
    θ_run (Cert.AttnRIdeal.defs (F := Ideal)) (onTc (τ := Cert.AttnRIdeal.τ) (Cert.AttnRIdeal.main (F := Ideal))) ⟨m, fun _ => 0, g⟩ (fun r => (∀ c : Dev Cert.AttnRIdeal.nD,
      r.2.mem ((c.tc : Thread Cert.AttnRIdeal.nD Cert.AttnRIdeal.τ).loc Cert.AttnRIdeal.main_arg0) = m ((c.tc : Thread Cert.AttnRIdeal.nD Cert.AttnRIdeal.τ).loc Cert.AttnRIdeal.main_arg0)
      ∧ r.2.mem ((c.tc : Thread Cert.AttnRIdeal.nD Cert.AttnRIdeal.τ).loc Cert.AttnRIdeal.main_arg1) = m ((c.tc : Thread Cert.AttnRIdeal.nD Cert.AttnRIdeal.τ).loc Cert.AttnRIdeal.main_arg1)
      ∧ r.2.mem ((c.tc : Thread Cert.AttnRIdeal.nD Cert.AttnRIdeal.τ).loc Cert.AttnRIdeal.main_arg2) = m ((c.tc : Thread Cert.AttnRIdeal.nD Cert.AttnRIdeal.τ).loc Cert.AttnRIdeal.main_arg2)
      ∧ r.2.mem ((c.tc : Thread Cert.AttnRIdeal.nD Cert.AttnRIdeal.τ).loc Cert.AttnRIdeal.main_arg3) = m ((c.tc : Thread Cert.AttnRIdeal.nD Cert.AttnRIdeal.τ).loc Cert.AttnRIdeal.main_arg3)
      ∧ r.2.mem ((c.tc : Thread Cert.AttnRIdeal.nD Cert.AttnRIdeal.τ).loc Cert.AttnRIdeal.main_arg4) = m ((c.tc : Thread Cert.AttnRIdeal.nD Cert.AttnRIdeal.τ).loc Cert.AttnRIdeal.main_arg4))
      ∧ r.2.sem = fun _ => 0)

def quiescent_DiscK [hDiscK : Cert.DiscK.Facts] : Prop :=
  ∀ (m : (ℓ : Loc Cert.DiscK.nD Cert.DiscK.τ Cert.DiscK.sig) → Buf (Elt Bits) ℓ) (g : Dev Cert.DiscK.nD → PrngReg), Pre_DiscK m →
    θ_run (Cert.DiscK.defs (F := Bits)) (onTc (τ := Cert.DiscK.τ) (Cert.DiscK.main (F := Bits))) ⟨m, fun _ => 0, g⟩ (fun r => (∀ c : Dev Cert.DiscK.nD,
      r.2.mem ((c.tc : Thread Cert.DiscK.nD Cert.DiscK.τ).loc Cert.DiscK.main_arg0) = m ((c.tc : Thread Cert.DiscK.nD Cert.DiscK.τ).loc Cert.DiscK.main_arg0)
      ∧ r.2.mem ((c.tc : Thread Cert.DiscK.nD Cert.DiscK.τ).loc Cert.DiscK.main_arg1) = m ((c.tc : Thread Cert.DiscK.nD Cert.DiscK.τ).loc Cert.DiscK.main_arg1)
      ∧ r.2.mem ((c.tc : Thread Cert.DiscK.nD Cert.DiscK.τ).loc Cert.DiscK.main_arg2) = m ((c.tc : Thread Cert.DiscK.nD Cert.DiscK.τ).loc Cert.DiscK.main_arg2)
      ∧ r.2.mem ((c.tc : Thread Cert.DiscK.nD Cert.DiscK.τ).loc Cert.DiscK.main_arg3) = m ((c.tc : Thread Cert.DiscK.nD Cert.DiscK.τ).loc Cert.DiscK.main_arg3)
      ∧ r.2.mem ((c.tc : Thread Cert.DiscK.nD Cert.DiscK.τ).loc Cert.DiscK.main_arg4) = m ((c.tc : Thread Cert.DiscK.nD Cert.DiscK.τ).loc Cert.DiscK.main_arg4)
      ∧ r.2.mem ((c.tc : Thread Cert.DiscK.nD Cert.DiscK.τ).loc Cert.DiscK.main_arg5) = m ((c.tc : Thread Cert.DiscK.nD Cert.DiscK.τ).loc Cert.DiscK.main_arg5)
      ∧ r.2.mem ((c.tc : Thread Cert.DiscK.nD Cert.DiscK.τ).loc Cert.DiscK.main_arg6) = m ((c.tc : Thread Cert.DiscK.nD Cert.DiscK.τ).loc Cert.DiscK.main_arg6)
      ∧ r.2.mem ((c.tc : Thread Cert.DiscK.nD Cert.DiscK.τ).loc Cert.DiscK.main_arg7) = m ((c.tc : Thread Cert.DiscK.nD Cert.DiscK.τ).loc Cert.DiscK.main_arg7)
      ∧ r.2.mem ((c.tc : Thread Cert.DiscK.nD Cert.DiscK.τ).loc Cert.DiscK.main_arg8) = m ((c.tc : Thread Cert.DiscK.nD Cert.DiscK.τ).loc Cert.DiscK.main_arg8))
      ∧ r.2.sem = fun _ => 0)

def quiescent_DiscKIdeal [hDiscKIdeal : Cert.DiscKIdeal.Facts] : Prop :=
  ∀ (m : (ℓ : Loc Cert.DiscKIdeal.nD Cert.DiscKIdeal.τ Cert.DiscKIdeal.sig) → Buf (Elt Ideal) ℓ) (g : Dev Cert.DiscKIdeal.nD → PrngReg), Pre_DiscKIdeal m →
    θ_run (Cert.DiscKIdeal.defs (F := Ideal)) (onTc (τ := Cert.DiscKIdeal.τ) (Cert.DiscKIdeal.main (F := Ideal))) ⟨m, fun _ => 0, g⟩ (fun r => (∀ c : Dev Cert.DiscKIdeal.nD,
      r.2.mem ((c.tc : Thread Cert.DiscKIdeal.nD Cert.DiscKIdeal.τ).loc Cert.DiscKIdeal.main_arg0) = m ((c.tc : Thread Cert.DiscKIdeal.nD Cert.DiscKIdeal.τ).loc Cert.DiscKIdeal.main_arg0)
      ∧ r.2.mem ((c.tc : Thread Cert.DiscKIdeal.nD Cert.DiscKIdeal.τ).loc Cert.DiscKIdeal.main_arg1) = m ((c.tc : Thread Cert.DiscKIdeal.nD Cert.DiscKIdeal.τ).loc Cert.DiscKIdeal.main_arg1)
      ∧ r.2.mem ((c.tc : Thread Cert.DiscKIdeal.nD Cert.DiscKIdeal.τ).loc Cert.DiscKIdeal.main_arg2) = m ((c.tc : Thread Cert.DiscKIdeal.nD Cert.DiscKIdeal.τ).loc Cert.DiscKIdeal.main_arg2)
      ∧ r.2.mem ((c.tc : Thread Cert.DiscKIdeal.nD Cert.DiscKIdeal.τ).loc Cert.DiscKIdeal.main_arg3) = m ((c.tc : Thread Cert.DiscKIdeal.nD Cert.DiscKIdeal.τ).loc Cert.DiscKIdeal.main_arg3)
      ∧ r.2.mem ((c.tc : Thread Cert.DiscKIdeal.nD Cert.DiscKIdeal.τ).loc Cert.DiscKIdeal.main_arg4) = m ((c.tc : Thread Cert.DiscKIdeal.nD Cert.DiscKIdeal.τ).loc Cert.DiscKIdeal.main_arg4)
      ∧ r.2.mem ((c.tc : Thread Cert.DiscKIdeal.nD Cert.DiscKIdeal.τ).loc Cert.DiscKIdeal.main_arg5) = m ((c.tc : Thread Cert.DiscKIdeal.nD Cert.DiscKIdeal.τ).loc Cert.DiscKIdeal.main_arg5)
      ∧ r.2.mem ((c.tc : Thread Cert.DiscKIdeal.nD Cert.DiscKIdeal.τ).loc Cert.DiscKIdeal.main_arg6) = m ((c.tc : Thread Cert.DiscKIdeal.nD Cert.DiscKIdeal.τ).loc Cert.DiscKIdeal.main_arg6)
      ∧ r.2.mem ((c.tc : Thread Cert.DiscKIdeal.nD Cert.DiscKIdeal.τ).loc Cert.DiscKIdeal.main_arg7) = m ((c.tc : Thread Cert.DiscKIdeal.nD Cert.DiscKIdeal.τ).loc Cert.DiscKIdeal.main_arg7)
      ∧ r.2.mem ((c.tc : Thread Cert.DiscKIdeal.nD Cert.DiscKIdeal.τ).loc Cert.DiscKIdeal.main_arg8) = m ((c.tc : Thread Cert.DiscKIdeal.nD Cert.DiscKIdeal.τ).loc Cert.DiscKIdeal.main_arg8))
      ∧ r.2.sem = fun _ => 0)

def quiescent_DiscRIdeal [hDiscRIdeal : Cert.DiscRIdeal.Facts] : Prop :=
  ∀ (m : (ℓ : Loc Cert.DiscRIdeal.nD Cert.DiscRIdeal.τ Cert.DiscRIdeal.sig) → Buf (Elt Ideal) ℓ) (g : Dev Cert.DiscRIdeal.nD → PrngReg), Pre_DiscRIdeal m →
    θ_run (Cert.DiscRIdeal.defs (F := Ideal)) (onTc (τ := Cert.DiscRIdeal.τ) (Cert.DiscRIdeal.main (F := Ideal))) ⟨m, fun _ => 0, g⟩ (fun r => (∀ c : Dev Cert.DiscRIdeal.nD,
      r.2.mem ((c.tc : Thread Cert.DiscRIdeal.nD Cert.DiscRIdeal.τ).loc Cert.DiscRIdeal.main_arg0) = m ((c.tc : Thread Cert.DiscRIdeal.nD Cert.DiscRIdeal.τ).loc Cert.DiscRIdeal.main_arg0)
      ∧ r.2.mem ((c.tc : Thread Cert.DiscRIdeal.nD Cert.DiscRIdeal.τ).loc Cert.DiscRIdeal.main_arg1) = m ((c.tc : Thread Cert.DiscRIdeal.nD Cert.DiscRIdeal.τ).loc Cert.DiscRIdeal.main_arg1)
      ∧ r.2.mem ((c.tc : Thread Cert.DiscRIdeal.nD Cert.DiscRIdeal.τ).loc Cert.DiscRIdeal.main_arg2) = m ((c.tc : Thread Cert.DiscRIdeal.nD Cert.DiscRIdeal.τ).loc Cert.DiscRIdeal.main_arg2)
      ∧ r.2.mem ((c.tc : Thread Cert.DiscRIdeal.nD Cert.DiscRIdeal.τ).loc Cert.DiscRIdeal.main_arg3) = m ((c.tc : Thread Cert.DiscRIdeal.nD Cert.DiscRIdeal.τ).loc Cert.DiscRIdeal.main_arg3)
      ∧ r.2.mem ((c.tc : Thread Cert.DiscRIdeal.nD Cert.DiscRIdeal.τ).loc Cert.DiscRIdeal.main_arg4) = m ((c.tc : Thread Cert.DiscRIdeal.nD Cert.DiscRIdeal.τ).loc Cert.DiscRIdeal.main_arg4)
      ∧ r.2.mem ((c.tc : Thread Cert.DiscRIdeal.nD Cert.DiscRIdeal.τ).loc Cert.DiscRIdeal.main_arg5) = m ((c.tc : Thread Cert.DiscRIdeal.nD Cert.DiscRIdeal.τ).loc Cert.DiscRIdeal.main_arg5)
      ∧ r.2.mem ((c.tc : Thread Cert.DiscRIdeal.nD Cert.DiscRIdeal.τ).loc Cert.DiscRIdeal.main_arg6) = m ((c.tc : Thread Cert.DiscRIdeal.nD Cert.DiscRIdeal.τ).loc Cert.DiscRIdeal.main_arg6)
      ∧ r.2.mem ((c.tc : Thread Cert.DiscRIdeal.nD Cert.DiscRIdeal.τ).loc Cert.DiscRIdeal.main_arg7) = m ((c.tc : Thread Cert.DiscRIdeal.nD Cert.DiscRIdeal.τ).loc Cert.DiscRIdeal.main_arg7)
      ∧ r.2.mem ((c.tc : Thread Cert.DiscRIdeal.nD Cert.DiscRIdeal.τ).loc Cert.DiscRIdeal.main_arg8) = m ((c.tc : Thread Cert.DiscRIdeal.nD Cert.DiscRIdeal.τ).loc Cert.DiscRIdeal.main_arg8))
      ∧ r.2.sem = fun _ => 0)

def quiescent_AttendK [hAttendK : Cert.AttendK.Facts] : Prop :=
  ∀ (m : (ℓ : Loc Cert.AttendK.nD Cert.AttendK.τ Cert.AttendK.sig) → Buf (Elt Bits) ℓ) (g : Dev Cert.AttendK.nD → PrngReg), Pre_AttendK m →
    θ_run (Cert.AttendK.defs (F := Bits)) (onTc (τ := Cert.AttendK.τ) (Cert.AttendK.main (F := Bits))) ⟨m, fun _ => 0, g⟩ (fun r => (∀ c : Dev Cert.AttendK.nD,
      r.2.mem ((c.tc : Thread Cert.AttendK.nD Cert.AttendK.τ).loc Cert.AttendK.main_arg0) = m ((c.tc : Thread Cert.AttendK.nD Cert.AttendK.τ).loc Cert.AttendK.main_arg0)
      ∧ r.2.mem ((c.tc : Thread Cert.AttendK.nD Cert.AttendK.τ).loc Cert.AttendK.main_arg1) = m ((c.tc : Thread Cert.AttendK.nD Cert.AttendK.τ).loc Cert.AttendK.main_arg1)
      ∧ r.2.mem ((c.tc : Thread Cert.AttendK.nD Cert.AttendK.τ).loc Cert.AttendK.main_arg2) = m ((c.tc : Thread Cert.AttendK.nD Cert.AttendK.τ).loc Cert.AttendK.main_arg2)
      ∧ r.2.mem ((c.tc : Thread Cert.AttendK.nD Cert.AttendK.τ).loc Cert.AttendK.main_arg3) = m ((c.tc : Thread Cert.AttendK.nD Cert.AttendK.τ).loc Cert.AttendK.main_arg3))
      ∧ r.2.sem = fun _ => 0)

def quiescent_AttendKIdeal [hAttendKIdeal : Cert.AttendKIdeal.Facts] : Prop :=
  ∀ (m : (ℓ : Loc Cert.AttendKIdeal.nD Cert.AttendKIdeal.τ Cert.AttendKIdeal.sig) → Buf (Elt Ideal) ℓ) (g : Dev Cert.AttendKIdeal.nD → PrngReg), Pre_AttendKIdeal m →
    θ_run (Cert.AttendKIdeal.defs (F := Ideal)) (onTc (τ := Cert.AttendKIdeal.τ) (Cert.AttendKIdeal.main (F := Ideal))) ⟨m, fun _ => 0, g⟩ (fun r => (∀ c : Dev Cert.AttendKIdeal.nD,
      r.2.mem ((c.tc : Thread Cert.AttendKIdeal.nD Cert.AttendKIdeal.τ).loc Cert.AttendKIdeal.main_arg0) = m ((c.tc : Thread Cert.AttendKIdeal.nD Cert.AttendKIdeal.τ).loc Cert.AttendKIdeal.main_arg0)
      ∧ r.2.mem ((c.tc : Thread Cert.AttendKIdeal.nD Cert.AttendKIdeal.τ).loc Cert.AttendKIdeal.main_arg1) = m ((c.tc : Thread Cert.AttendKIdeal.nD Cert.AttendKIdeal.τ).loc Cert.AttendKIdeal.main_arg1)
      ∧ r.2.mem ((c.tc : Thread Cert.AttendKIdeal.nD Cert.AttendKIdeal.τ).loc Cert.AttendKIdeal.main_arg2) = m ((c.tc : Thread Cert.AttendKIdeal.nD Cert.AttendKIdeal.τ).loc Cert.AttendKIdeal.main_arg2)
      ∧ r.2.mem ((c.tc : Thread Cert.AttendKIdeal.nD Cert.AttendKIdeal.τ).loc Cert.AttendKIdeal.main_arg3) = m ((c.tc : Thread Cert.AttendKIdeal.nD Cert.AttendKIdeal.τ).loc Cert.AttendKIdeal.main_arg3))
      ∧ r.2.sem = fun _ => 0)

def quiescent_AttendKIdeal_pre_attend_finite [hAttendKIdeal : Cert.AttendKIdeal.Facts] [hPre_attend_finite : Cert.Pre_attend_finite.Facts] : Prop :=
  ∀ (m : (ℓ : Loc Cert.AttendKIdeal.nD Cert.AttendKIdeal.τ Cert.AttendKIdeal.sig) → Buf (Elt Ideal) ℓ) (g : Dev Cert.AttendKIdeal.nD → PrngReg), Pre_AttendKIdeal_attend_finite m →
    θ_run (Cert.AttendKIdeal.defs (F := Ideal)) (onTc (τ := Cert.AttendKIdeal.τ) (Cert.AttendKIdeal.main (F := Ideal))) ⟨m, fun _ => 0, g⟩ (fun r => (∀ c : Dev Cert.AttendKIdeal.nD,
      r.2.mem ((c.tc : Thread Cert.AttendKIdeal.nD Cert.AttendKIdeal.τ).loc Cert.AttendKIdeal.main_arg0) = m ((c.tc : Thread Cert.AttendKIdeal.nD Cert.AttendKIdeal.τ).loc Cert.AttendKIdeal.main_arg0)
      ∧ r.2.mem ((c.tc : Thread Cert.AttendKIdeal.nD Cert.AttendKIdeal.τ).loc Cert.AttendKIdeal.main_arg1) = m ((c.tc : Thread Cert.AttendKIdeal.nD Cert.AttendKIdeal.τ).loc Cert.AttendKIdeal.main_arg1)
      ∧ r.2.mem ((c.tc : Thread Cert.AttendKIdeal.nD Cert.AttendKIdeal.τ).loc Cert.AttendKIdeal.main_arg2) = m ((c.tc : Thread Cert.AttendKIdeal.nD Cert.AttendKIdeal.τ).loc Cert.AttendKIdeal.main_arg2)
      ∧ r.2.mem ((c.tc : Thread Cert.AttendKIdeal.nD Cert.AttendKIdeal.τ).loc Cert.AttendKIdeal.main_arg3) = m ((c.tc : Thread Cert.AttendKIdeal.nD Cert.AttendKIdeal.τ).loc Cert.AttendKIdeal.main_arg3))
      ∧ r.2.sem = fun _ => 0)

def quiescent_AttendRIdeal [hAttendRIdeal : Cert.AttendRIdeal.Facts] : Prop :=
  ∀ (m : (ℓ : Loc Cert.AttendRIdeal.nD Cert.AttendRIdeal.τ Cert.AttendRIdeal.sig) → Buf (Elt Ideal) ℓ) (g : Dev Cert.AttendRIdeal.nD → PrngReg), Pre_AttendRIdeal m →
    θ_run (Cert.AttendRIdeal.defs (F := Ideal)) (onTc (τ := Cert.AttendRIdeal.τ) (Cert.AttendRIdeal.main (F := Ideal))) ⟨m, fun _ => 0, g⟩ (fun r => (∀ c : Dev Cert.AttendRIdeal.nD,
      r.2.mem ((c.tc : Thread Cert.AttendRIdeal.nD Cert.AttendRIdeal.τ).loc Cert.AttendRIdeal.main_arg0) = m ((c.tc : Thread Cert.AttendRIdeal.nD Cert.AttendRIdeal.τ).loc Cert.AttendRIdeal.main_arg0)
      ∧ r.2.mem ((c.tc : Thread Cert.AttendRIdeal.nD Cert.AttendRIdeal.τ).loc Cert.AttendRIdeal.main_arg1) = m ((c.tc : Thread Cert.AttendRIdeal.nD Cert.AttendRIdeal.τ).loc Cert.AttendRIdeal.main_arg1)
      ∧ r.2.mem ((c.tc : Thread Cert.AttendRIdeal.nD Cert.AttendRIdeal.τ).loc Cert.AttendRIdeal.main_arg2) = m ((c.tc : Thread Cert.AttendRIdeal.nD Cert.AttendRIdeal.τ).loc Cert.AttendRIdeal.main_arg2)
      ∧ r.2.mem ((c.tc : Thread Cert.AttendRIdeal.nD Cert.AttendRIdeal.τ).loc Cert.AttendRIdeal.main_arg3) = m ((c.tc : Thread Cert.AttendRIdeal.nD Cert.AttendRIdeal.τ).loc Cert.AttendRIdeal.main_arg3))
      ∧ r.2.sem = fun _ => 0)

def quiescent_AttendRIdeal_pre_attend_finite [hAttendRIdeal : Cert.AttendRIdeal.Facts] [hPre_attend_finite : Cert.Pre_attend_finite.Facts] : Prop :=
  ∀ (m : (ℓ : Loc Cert.AttendRIdeal.nD Cert.AttendRIdeal.τ Cert.AttendRIdeal.sig) → Buf (Elt Ideal) ℓ) (g : Dev Cert.AttendRIdeal.nD → PrngReg), Pre_AttendRIdeal_attend_finite m →
    θ_run (Cert.AttendRIdeal.defs (F := Ideal)) (onTc (τ := Cert.AttendRIdeal.τ) (Cert.AttendRIdeal.main (F := Ideal))) ⟨m, fun _ => 0, g⟩ (fun r => (∀ c : Dev Cert.AttendRIdeal.nD,
      r.2.mem ((c.tc : Thread Cert.AttendRIdeal.nD Cert.AttendRIdeal.τ).loc Cert.AttendRIdeal.main_arg0) = m ((c.tc : Thread Cert.AttendRIdeal.nD Cert.AttendRIdeal.τ).loc Cert.AttendRIdeal.main_arg0)
      ∧ r.2.mem ((c.tc : Thread Cert.AttendRIdeal.nD Cert.AttendRIdeal.τ).loc Cert.AttendRIdeal.main_arg1) = m ((c.tc : Thread Cert.AttendRIdeal.nD Cert.AttendRIdeal.τ).loc Cert.AttendRIdeal.main_arg1)
      ∧ r.2.mem ((c.tc : Thread Cert.AttendRIdeal.nD Cert.AttendRIdeal.τ).loc Cert.AttendRIdeal.main_arg2) = m ((c.tc : Thread Cert.AttendRIdeal.nD Cert.AttendRIdeal.τ).loc Cert.AttendRIdeal.main_arg2)
      ∧ r.2.mem ((c.tc : Thread Cert.AttendRIdeal.nD Cert.AttendRIdeal.τ).loc Cert.AttendRIdeal.main_arg3) = m ((c.tc : Thread Cert.AttendRIdeal.nD Cert.AttendRIdeal.τ).loc Cert.AttendRIdeal.main_arg3))
      ∧ r.2.sem = fun _ => 0)

def quiescent_ActK [hActK : Cert.ActK.Facts] : Prop :=
  ∀ (m : (ℓ : Loc Cert.ActK.nD Cert.ActK.τ Cert.ActK.sig) → Buf (Elt Bits) ℓ) (g : Dev Cert.ActK.nD → PrngReg), Pre_ActK m →
    θ_run (Cert.ActK.defs (F := Bits)) (onTc (τ := Cert.ActK.τ) (Cert.ActK.main (F := Bits))) ⟨m, fun _ => 0, g⟩ (fun r => (∀ c : Dev Cert.ActK.nD,
      r.2.mem ((c.tc : Thread Cert.ActK.nD Cert.ActK.τ).loc Cert.ActK.main_arg0) = m ((c.tc : Thread Cert.ActK.nD Cert.ActK.τ).loc Cert.ActK.main_arg0)
      ∧ r.2.mem ((c.tc : Thread Cert.ActK.nD Cert.ActK.τ).loc Cert.ActK.main_arg1) = m ((c.tc : Thread Cert.ActK.nD Cert.ActK.τ).loc Cert.ActK.main_arg1)
      ∧ r.2.mem ((c.tc : Thread Cert.ActK.nD Cert.ActK.τ).loc Cert.ActK.main_arg2) = m ((c.tc : Thread Cert.ActK.nD Cert.ActK.τ).loc Cert.ActK.main_arg2))
      ∧ r.2.sem = fun _ => 0)

def quiescent_ActKIdeal [hActKIdeal : Cert.ActKIdeal.Facts] : Prop :=
  ∀ (m : (ℓ : Loc Cert.ActKIdeal.nD Cert.ActKIdeal.τ Cert.ActKIdeal.sig) → Buf (Elt Ideal) ℓ) (g : Dev Cert.ActKIdeal.nD → PrngReg), Pre_ActKIdeal m →
    θ_run (Cert.ActKIdeal.defs (F := Ideal)) (onTc (τ := Cert.ActKIdeal.τ) (Cert.ActKIdeal.main (F := Ideal))) ⟨m, fun _ => 0, g⟩ (fun r => (∀ c : Dev Cert.ActKIdeal.nD,
      r.2.mem ((c.tc : Thread Cert.ActKIdeal.nD Cert.ActKIdeal.τ).loc Cert.ActKIdeal.main_arg0) = m ((c.tc : Thread Cert.ActKIdeal.nD Cert.ActKIdeal.τ).loc Cert.ActKIdeal.main_arg0)
      ∧ r.2.mem ((c.tc : Thread Cert.ActKIdeal.nD Cert.ActKIdeal.τ).loc Cert.ActKIdeal.main_arg1) = m ((c.tc : Thread Cert.ActKIdeal.nD Cert.ActKIdeal.τ).loc Cert.ActKIdeal.main_arg1)
      ∧ r.2.mem ((c.tc : Thread Cert.ActKIdeal.nD Cert.ActKIdeal.τ).loc Cert.ActKIdeal.main_arg2) = m ((c.tc : Thread Cert.ActKIdeal.nD Cert.ActKIdeal.τ).loc Cert.ActKIdeal.main_arg2))
      ∧ r.2.sem = fun _ => 0)

def quiescent_ActRIdeal [hActRIdeal : Cert.ActRIdeal.Facts] : Prop :=
  ∀ (m : (ℓ : Loc Cert.ActRIdeal.nD Cert.ActRIdeal.τ Cert.ActRIdeal.sig) → Buf (Elt Ideal) ℓ) (g : Dev Cert.ActRIdeal.nD → PrngReg), Pre_ActRIdeal m →
    θ_run (Cert.ActRIdeal.defs (F := Ideal)) (onTc (τ := Cert.ActRIdeal.τ) (Cert.ActRIdeal.main (F := Ideal))) ⟨m, fun _ => 0, g⟩ (fun r => (∀ c : Dev Cert.ActRIdeal.nD,
      r.2.mem ((c.tc : Thread Cert.ActRIdeal.nD Cert.ActRIdeal.τ).loc Cert.ActRIdeal.main_arg0) = m ((c.tc : Thread Cert.ActRIdeal.nD Cert.ActRIdeal.τ).loc Cert.ActRIdeal.main_arg0)
      ∧ r.2.mem ((c.tc : Thread Cert.ActRIdeal.nD Cert.ActRIdeal.τ).loc Cert.ActRIdeal.main_arg1) = m ((c.tc : Thread Cert.ActRIdeal.nD Cert.ActRIdeal.τ).loc Cert.ActRIdeal.main_arg1)
      ∧ r.2.mem ((c.tc : Thread Cert.ActRIdeal.nD Cert.ActRIdeal.τ).loc Cert.ActRIdeal.main_arg2) = m ((c.tc : Thread Cert.ActRIdeal.nD Cert.ActRIdeal.τ).loc Cert.ActRIdeal.main_arg2))
      ∧ r.2.sem = fun _ => 0)

def quiescent_PostK [hPostK : Cert.PostK.Facts] : Prop :=
  ∀ (m : (ℓ : Loc Cert.PostK.nD Cert.PostK.τ Cert.PostK.sig) → Buf (Elt Bits) ℓ) (g : Dev Cert.PostK.nD → PrngReg), Pre_PostK m →
    θ_run (Cert.PostK.defs (F := Bits)) (onTc (τ := Cert.PostK.τ) (Cert.PostK.main (F := Bits))) ⟨m, fun _ => 0, g⟩ (fun r => (∀ c : Dev Cert.PostK.nD,
      r.2.mem ((c.tc : Thread Cert.PostK.nD Cert.PostK.τ).loc Cert.PostK.main_arg0) = m ((c.tc : Thread Cert.PostK.nD Cert.PostK.τ).loc Cert.PostK.main_arg0)
      ∧ r.2.mem ((c.tc : Thread Cert.PostK.nD Cert.PostK.τ).loc Cert.PostK.main_arg1) = m ((c.tc : Thread Cert.PostK.nD Cert.PostK.τ).loc Cert.PostK.main_arg1)
      ∧ r.2.mem ((c.tc : Thread Cert.PostK.nD Cert.PostK.τ).loc Cert.PostK.main_arg2) = m ((c.tc : Thread Cert.PostK.nD Cert.PostK.τ).loc Cert.PostK.main_arg2)
      ∧ r.2.mem ((c.tc : Thread Cert.PostK.nD Cert.PostK.τ).loc Cert.PostK.main_arg3) = m ((c.tc : Thread Cert.PostK.nD Cert.PostK.τ).loc Cert.PostK.main_arg3)
      ∧ r.2.mem ((c.tc : Thread Cert.PostK.nD Cert.PostK.τ).loc Cert.PostK.main_arg4) = m ((c.tc : Thread Cert.PostK.nD Cert.PostK.τ).loc Cert.PostK.main_arg4)
      ∧ r.2.mem ((c.tc : Thread Cert.PostK.nD Cert.PostK.τ).loc Cert.PostK.main_arg5) = m ((c.tc : Thread Cert.PostK.nD Cert.PostK.τ).loc Cert.PostK.main_arg5))
      ∧ r.2.sem = fun _ => 0)

def quiescent_PostKIdeal [hPostKIdeal : Cert.PostKIdeal.Facts] : Prop :=
  ∀ (m : (ℓ : Loc Cert.PostKIdeal.nD Cert.PostKIdeal.τ Cert.PostKIdeal.sig) → Buf (Elt Ideal) ℓ) (g : Dev Cert.PostKIdeal.nD → PrngReg), Pre_PostKIdeal m →
    θ_run (Cert.PostKIdeal.defs (F := Ideal)) (onTc (τ := Cert.PostKIdeal.τ) (Cert.PostKIdeal.main (F := Ideal))) ⟨m, fun _ => 0, g⟩ (fun r => (∀ c : Dev Cert.PostKIdeal.nD,
      r.2.mem ((c.tc : Thread Cert.PostKIdeal.nD Cert.PostKIdeal.τ).loc Cert.PostKIdeal.main_arg0) = m ((c.tc : Thread Cert.PostKIdeal.nD Cert.PostKIdeal.τ).loc Cert.PostKIdeal.main_arg0)
      ∧ r.2.mem ((c.tc : Thread Cert.PostKIdeal.nD Cert.PostKIdeal.τ).loc Cert.PostKIdeal.main_arg1) = m ((c.tc : Thread Cert.PostKIdeal.nD Cert.PostKIdeal.τ).loc Cert.PostKIdeal.main_arg1)
      ∧ r.2.mem ((c.tc : Thread Cert.PostKIdeal.nD Cert.PostKIdeal.τ).loc Cert.PostKIdeal.main_arg2) = m ((c.tc : Thread Cert.PostKIdeal.nD Cert.PostKIdeal.τ).loc Cert.PostKIdeal.main_arg2)
      ∧ r.2.mem ((c.tc : Thread Cert.PostKIdeal.nD Cert.PostKIdeal.τ).loc Cert.PostKIdeal.main_arg3) = m ((c.tc : Thread Cert.PostKIdeal.nD Cert.PostKIdeal.τ).loc Cert.PostKIdeal.main_arg3)
      ∧ r.2.mem ((c.tc : Thread Cert.PostKIdeal.nD Cert.PostKIdeal.τ).loc Cert.PostKIdeal.main_arg4) = m ((c.tc : Thread Cert.PostKIdeal.nD Cert.PostKIdeal.τ).loc Cert.PostKIdeal.main_arg4)
      ∧ r.2.mem ((c.tc : Thread Cert.PostKIdeal.nD Cert.PostKIdeal.τ).loc Cert.PostKIdeal.main_arg5) = m ((c.tc : Thread Cert.PostKIdeal.nD Cert.PostKIdeal.τ).loc Cert.PostKIdeal.main_arg5))
      ∧ r.2.sem = fun _ => 0)

def quiescent_PostRIdeal [hPostRIdeal : Cert.PostRIdeal.Facts] : Prop :=
  ∀ (m : (ℓ : Loc Cert.PostRIdeal.nD Cert.PostRIdeal.τ Cert.PostRIdeal.sig) → Buf (Elt Ideal) ℓ) (g : Dev Cert.PostRIdeal.nD → PrngReg), Pre_PostRIdeal m →
    θ_run (Cert.PostRIdeal.defs (F := Ideal)) (onTc (τ := Cert.PostRIdeal.τ) (Cert.PostRIdeal.main (F := Ideal))) ⟨m, fun _ => 0, g⟩ (fun r => (∀ c : Dev Cert.PostRIdeal.nD,
      r.2.mem ((c.tc : Thread Cert.PostRIdeal.nD Cert.PostRIdeal.τ).loc Cert.PostRIdeal.main_arg0) = m ((c.tc : Thread Cert.PostRIdeal.nD Cert.PostRIdeal.τ).loc Cert.PostRIdeal.main_arg0)
      ∧ r.2.mem ((c.tc : Thread Cert.PostRIdeal.nD Cert.PostRIdeal.τ).loc Cert.PostRIdeal.main_arg1) = m ((c.tc : Thread Cert.PostRIdeal.nD Cert.PostRIdeal.τ).loc Cert.PostRIdeal.main_arg1)
      ∧ r.2.mem ((c.tc : Thread Cert.PostRIdeal.nD Cert.PostRIdeal.τ).loc Cert.PostRIdeal.main_arg2) = m ((c.tc : Thread Cert.PostRIdeal.nD Cert.PostRIdeal.τ).loc Cert.PostRIdeal.main_arg2)
      ∧ r.2.mem ((c.tc : Thread Cert.PostRIdeal.nD Cert.PostRIdeal.τ).loc Cert.PostRIdeal.main_arg3) = m ((c.tc : Thread Cert.PostRIdeal.nD Cert.PostRIdeal.τ).loc Cert.PostRIdeal.main_arg3)
      ∧ r.2.mem ((c.tc : Thread Cert.PostRIdeal.nD Cert.PostRIdeal.τ).loc Cert.PostRIdeal.main_arg4) = m ((c.tc : Thread Cert.PostRIdeal.nD Cert.PostRIdeal.τ).loc Cert.PostRIdeal.main_arg4)
      ∧ r.2.mem ((c.tc : Thread Cert.PostRIdeal.nD Cert.PostRIdeal.τ).loc Cert.PostRIdeal.main_arg5) = m ((c.tc : Thread Cert.PostRIdeal.nD Cert.PostRIdeal.τ).loc Cert.PostRIdeal.main_arg5))
      ∧ r.2.sem = fun _ => 0)

def quiescent_OutK [hOutK : Cert.OutK.Facts] : Prop :=
  ∀ (m : (ℓ : Loc Cert.OutK.nD Cert.OutK.τ Cert.OutK.sig) → Buf (Elt Bits) ℓ) (g : Dev Cert.OutK.nD → PrngReg), Pre_OutK m →
    θ_run (Cert.OutK.defs (F := Bits)) (onTc (τ := Cert.OutK.τ) (Cert.OutK.main (F := Bits))) ⟨m, fun _ => 0, g⟩ (fun r => (∀ c : Dev Cert.OutK.nD,
      r.2.mem ((c.tc : Thread Cert.OutK.nD Cert.OutK.τ).loc Cert.OutK.main_arg0) = m ((c.tc : Thread Cert.OutK.nD Cert.OutK.τ).loc Cert.OutK.main_arg0)
      ∧ r.2.mem ((c.tc : Thread Cert.OutK.nD Cert.OutK.τ).loc Cert.OutK.main_arg1) = m ((c.tc : Thread Cert.OutK.nD Cert.OutK.τ).loc Cert.OutK.main_arg1)
      ∧ r.2.mem ((c.tc : Thread Cert.OutK.nD Cert.OutK.τ).loc Cert.OutK.main_arg2) = m ((c.tc : Thread Cert.OutK.nD Cert.OutK.τ).loc Cert.OutK.main_arg2)
      ∧ r.2.mem ((c.tc : Thread Cert.OutK.nD Cert.OutK.τ).loc Cert.OutK.main_arg3) = m ((c.tc : Thread Cert.OutK.nD Cert.OutK.τ).loc Cert.OutK.main_arg3)
      ∧ r.2.mem ((c.tc : Thread Cert.OutK.nD Cert.OutK.τ).loc Cert.OutK.main_arg4) = m ((c.tc : Thread Cert.OutK.nD Cert.OutK.τ).loc Cert.OutK.main_arg4)
      ∧ r.2.mem ((c.tc : Thread Cert.OutK.nD Cert.OutK.τ).loc Cert.OutK.main_arg5) = m ((c.tc : Thread Cert.OutK.nD Cert.OutK.τ).loc Cert.OutK.main_arg5))
      ∧ r.2.sem = fun _ => 0)

def quiescent_OutKIdeal [hOutKIdeal : Cert.OutKIdeal.Facts] : Prop :=
  ∀ (m : (ℓ : Loc Cert.OutKIdeal.nD Cert.OutKIdeal.τ Cert.OutKIdeal.sig) → Buf (Elt Ideal) ℓ) (g : Dev Cert.OutKIdeal.nD → PrngReg), Pre_OutKIdeal m →
    θ_run (Cert.OutKIdeal.defs (F := Ideal)) (onTc (τ := Cert.OutKIdeal.τ) (Cert.OutKIdeal.main (F := Ideal))) ⟨m, fun _ => 0, g⟩ (fun r => (∀ c : Dev Cert.OutKIdeal.nD,
      r.2.mem ((c.tc : Thread Cert.OutKIdeal.nD Cert.OutKIdeal.τ).loc Cert.OutKIdeal.main_arg0) = m ((c.tc : Thread Cert.OutKIdeal.nD Cert.OutKIdeal.τ).loc Cert.OutKIdeal.main_arg0)
      ∧ r.2.mem ((c.tc : Thread Cert.OutKIdeal.nD Cert.OutKIdeal.τ).loc Cert.OutKIdeal.main_arg1) = m ((c.tc : Thread Cert.OutKIdeal.nD Cert.OutKIdeal.τ).loc Cert.OutKIdeal.main_arg1)
      ∧ r.2.mem ((c.tc : Thread Cert.OutKIdeal.nD Cert.OutKIdeal.τ).loc Cert.OutKIdeal.main_arg2) = m ((c.tc : Thread Cert.OutKIdeal.nD Cert.OutKIdeal.τ).loc Cert.OutKIdeal.main_arg2)
      ∧ r.2.mem ((c.tc : Thread Cert.OutKIdeal.nD Cert.OutKIdeal.τ).loc Cert.OutKIdeal.main_arg3) = m ((c.tc : Thread Cert.OutKIdeal.nD Cert.OutKIdeal.τ).loc Cert.OutKIdeal.main_arg3)
      ∧ r.2.mem ((c.tc : Thread Cert.OutKIdeal.nD Cert.OutKIdeal.τ).loc Cert.OutKIdeal.main_arg4) = m ((c.tc : Thread Cert.OutKIdeal.nD Cert.OutKIdeal.τ).loc Cert.OutKIdeal.main_arg4)
      ∧ r.2.mem ((c.tc : Thread Cert.OutKIdeal.nD Cert.OutKIdeal.τ).loc Cert.OutKIdeal.main_arg5) = m ((c.tc : Thread Cert.OutKIdeal.nD Cert.OutKIdeal.τ).loc Cert.OutKIdeal.main_arg5))
      ∧ r.2.sem = fun _ => 0)

def quiescent_OutRIdeal [hOutRIdeal : Cert.OutRIdeal.Facts] : Prop :=
  ∀ (m : (ℓ : Loc Cert.OutRIdeal.nD Cert.OutRIdeal.τ Cert.OutRIdeal.sig) → Buf (Elt Ideal) ℓ) (g : Dev Cert.OutRIdeal.nD → PrngReg), Pre_OutRIdeal m →
    θ_run (Cert.OutRIdeal.defs (F := Ideal)) (onTc (τ := Cert.OutRIdeal.τ) (Cert.OutRIdeal.main (F := Ideal))) ⟨m, fun _ => 0, g⟩ (fun r => (∀ c : Dev Cert.OutRIdeal.nD,
      r.2.mem ((c.tc : Thread Cert.OutRIdeal.nD Cert.OutRIdeal.τ).loc Cert.OutRIdeal.main_arg0) = m ((c.tc : Thread Cert.OutRIdeal.nD Cert.OutRIdeal.τ).loc Cert.OutRIdeal.main_arg0)
      ∧ r.2.mem ((c.tc : Thread Cert.OutRIdeal.nD Cert.OutRIdeal.τ).loc Cert.OutRIdeal.main_arg1) = m ((c.tc : Thread Cert.OutRIdeal.nD Cert.OutRIdeal.τ).loc Cert.OutRIdeal.main_arg1)
      ∧ r.2.mem ((c.tc : Thread Cert.OutRIdeal.nD Cert.OutRIdeal.τ).loc Cert.OutRIdeal.main_arg2) = m ((c.tc : Thread Cert.OutRIdeal.nD Cert.OutRIdeal.τ).loc Cert.OutRIdeal.main_arg2)
      ∧ r.2.mem ((c.tc : Thread Cert.OutRIdeal.nD Cert.OutRIdeal.τ).loc Cert.OutRIdeal.main_arg3) = m ((c.tc : Thread Cert.OutRIdeal.nD Cert.OutRIdeal.τ).loc Cert.OutRIdeal.main_arg3)
      ∧ r.2.mem ((c.tc : Thread Cert.OutRIdeal.nD Cert.OutRIdeal.τ).loc Cert.OutRIdeal.main_arg4) = m ((c.tc : Thread Cert.OutRIdeal.nD Cert.OutRIdeal.τ).loc Cert.OutRIdeal.main_arg4)
      ∧ r.2.mem ((c.tc : Thread Cert.OutRIdeal.nD Cert.OutRIdeal.τ).loc Cert.OutRIdeal.main_arg5) = m ((c.tc : Thread Cert.OutRIdeal.nD Cert.OutRIdeal.τ).loc Cert.OutRIdeal.main_arg5))
      ∧ r.2.sem = fun _ => 0)

def quiescent_JoinK [hJoinK : Cert.JoinK.Facts] : Prop :=
  ∀ (m : (ℓ : Loc Cert.JoinK.nD Cert.JoinK.τ Cert.JoinK.sig) → Buf (Elt Bits) ℓ) (g : Dev Cert.JoinK.nD → PrngReg), Pre_JoinK m →
    θ_run (Cert.JoinK.defs (F := Bits)) (onTc (τ := Cert.JoinK.τ) (Cert.JoinK.main (F := Bits))) ⟨m, fun _ => 0, g⟩ (fun r => (∀ c : Dev Cert.JoinK.nD,
      r.2.mem ((c.tc : Thread Cert.JoinK.nD Cert.JoinK.τ).loc Cert.JoinK.main_arg0) = m ((c.tc : Thread Cert.JoinK.nD Cert.JoinK.τ).loc Cert.JoinK.main_arg0)
      ∧ r.2.mem ((c.tc : Thread Cert.JoinK.nD Cert.JoinK.τ).loc Cert.JoinK.main_arg1) = m ((c.tc : Thread Cert.JoinK.nD Cert.JoinK.τ).loc Cert.JoinK.main_arg1)
      ∧ r.2.mem ((c.tc : Thread Cert.JoinK.nD Cert.JoinK.τ).loc Cert.JoinK.main_arg2) = m ((c.tc : Thread Cert.JoinK.nD Cert.JoinK.τ).loc Cert.JoinK.main_arg2)
      ∧ r.2.mem ((c.tc : Thread Cert.JoinK.nD Cert.JoinK.τ).loc Cert.JoinK.main_arg3) = m ((c.tc : Thread Cert.JoinK.nD Cert.JoinK.τ).loc Cert.JoinK.main_arg3)
      ∧ r.2.mem ((c.tc : Thread Cert.JoinK.nD Cert.JoinK.τ).loc Cert.JoinK.main_arg4) = m ((c.tc : Thread Cert.JoinK.nD Cert.JoinK.τ).loc Cert.JoinK.main_arg4)
      ∧ r.2.mem ((c.tc : Thread Cert.JoinK.nD Cert.JoinK.τ).loc Cert.JoinK.main_arg5) = m ((c.tc : Thread Cert.JoinK.nD Cert.JoinK.τ).loc Cert.JoinK.main_arg5))
      ∧ r.2.sem = fun _ => 0)

def quiescent_JoinKIdeal [hJoinKIdeal : Cert.JoinKIdeal.Facts] : Prop :=
  ∀ (m : (ℓ : Loc Cert.JoinKIdeal.nD Cert.JoinKIdeal.τ Cert.JoinKIdeal.sig) → Buf (Elt Ideal) ℓ) (g : Dev Cert.JoinKIdeal.nD → PrngReg), Pre_JoinKIdeal m →
    θ_run (Cert.JoinKIdeal.defs (F := Ideal)) (onTc (τ := Cert.JoinKIdeal.τ) (Cert.JoinKIdeal.main (F := Ideal))) ⟨m, fun _ => 0, g⟩ (fun r => (∀ c : Dev Cert.JoinKIdeal.nD,
      r.2.mem ((c.tc : Thread Cert.JoinKIdeal.nD Cert.JoinKIdeal.τ).loc Cert.JoinKIdeal.main_arg0) = m ((c.tc : Thread Cert.JoinKIdeal.nD Cert.JoinKIdeal.τ).loc Cert.JoinKIdeal.main_arg0)
      ∧ r.2.mem ((c.tc : Thread Cert.JoinKIdeal.nD Cert.JoinKIdeal.τ).loc Cert.JoinKIdeal.main_arg1) = m ((c.tc : Thread Cert.JoinKIdeal.nD Cert.JoinKIdeal.τ).loc Cert.JoinKIdeal.main_arg1)
      ∧ r.2.mem ((c.tc : Thread Cert.JoinKIdeal.nD Cert.JoinKIdeal.τ).loc Cert.JoinKIdeal.main_arg2) = m ((c.tc : Thread Cert.JoinKIdeal.nD Cert.JoinKIdeal.τ).loc Cert.JoinKIdeal.main_arg2)
      ∧ r.2.mem ((c.tc : Thread Cert.JoinKIdeal.nD Cert.JoinKIdeal.τ).loc Cert.JoinKIdeal.main_arg3) = m ((c.tc : Thread Cert.JoinKIdeal.nD Cert.JoinKIdeal.τ).loc Cert.JoinKIdeal.main_arg3)
      ∧ r.2.mem ((c.tc : Thread Cert.JoinKIdeal.nD Cert.JoinKIdeal.τ).loc Cert.JoinKIdeal.main_arg4) = m ((c.tc : Thread Cert.JoinKIdeal.nD Cert.JoinKIdeal.τ).loc Cert.JoinKIdeal.main_arg4)
      ∧ r.2.mem ((c.tc : Thread Cert.JoinKIdeal.nD Cert.JoinKIdeal.τ).loc Cert.JoinKIdeal.main_arg5) = m ((c.tc : Thread Cert.JoinKIdeal.nD Cert.JoinKIdeal.τ).loc Cert.JoinKIdeal.main_arg5))
      ∧ r.2.sem = fun _ => 0)

def quiescent_JoinRIdeal [hJoinRIdeal : Cert.JoinRIdeal.Facts] : Prop :=
  ∀ (m : (ℓ : Loc Cert.JoinRIdeal.nD Cert.JoinRIdeal.τ Cert.JoinRIdeal.sig) → Buf (Elt Ideal) ℓ) (g : Dev Cert.JoinRIdeal.nD → PrngReg), Pre_JoinRIdeal m →
    θ_run (Cert.JoinRIdeal.defs (F := Ideal)) (onTc (τ := Cert.JoinRIdeal.τ) (Cert.JoinRIdeal.main (F := Ideal))) ⟨m, fun _ => 0, g⟩ (fun r => (∀ c : Dev Cert.JoinRIdeal.nD,
      r.2.mem ((c.tc : Thread Cert.JoinRIdeal.nD Cert.JoinRIdeal.τ).loc Cert.JoinRIdeal.main_arg0) = m ((c.tc : Thread Cert.JoinRIdeal.nD Cert.JoinRIdeal.τ).loc Cert.JoinRIdeal.main_arg0)
      ∧ r.2.mem ((c.tc : Thread Cert.JoinRIdeal.nD Cert.JoinRIdeal.τ).loc Cert.JoinRIdeal.main_arg1) = m ((c.tc : Thread Cert.JoinRIdeal.nD Cert.JoinRIdeal.τ).loc Cert.JoinRIdeal.main_arg1)
      ∧ r.2.mem ((c.tc : Thread Cert.JoinRIdeal.nD Cert.JoinRIdeal.τ).loc Cert.JoinRIdeal.main_arg2) = m ((c.tc : Thread Cert.JoinRIdeal.nD Cert.JoinRIdeal.τ).loc Cert.JoinRIdeal.main_arg2)
      ∧ r.2.mem ((c.tc : Thread Cert.JoinRIdeal.nD Cert.JoinRIdeal.τ).loc Cert.JoinRIdeal.main_arg3) = m ((c.tc : Thread Cert.JoinRIdeal.nD Cert.JoinRIdeal.τ).loc Cert.JoinRIdeal.main_arg3)
      ∧ r.2.mem ((c.tc : Thread Cert.JoinRIdeal.nD Cert.JoinRIdeal.τ).loc Cert.JoinRIdeal.main_arg4) = m ((c.tc : Thread Cert.JoinRIdeal.nD Cert.JoinRIdeal.τ).loc Cert.JoinRIdeal.main_arg4)
      ∧ r.2.mem ((c.tc : Thread Cert.JoinRIdeal.nD Cert.JoinRIdeal.τ).loc Cert.JoinRIdeal.main_arg5) = m ((c.tc : Thread Cert.JoinRIdeal.nD Cert.JoinRIdeal.τ).loc Cert.JoinRIdeal.main_arg5))
      ∧ r.2.sem = fun _ => 0)

def quiescent_FirstK [hFirstK : Cert.FirstK.Facts] : Prop :=
  ∀ (m : (ℓ : Loc Cert.FirstK.nD Cert.FirstK.τ Cert.FirstK.sig) → Buf (Elt Bits) ℓ) (g : Dev Cert.FirstK.nD → PrngReg), Pre_FirstK m →
    θ_run (Cert.FirstK.defs (F := Bits)) (onTc (τ := Cert.FirstK.τ) (Cert.FirstK.main (F := Bits))) ⟨m, fun _ => 0, g⟩ (fun r => (∀ c : Dev Cert.FirstK.nD,
      r.2.mem ((c.tc : Thread Cert.FirstK.nD Cert.FirstK.τ).loc Cert.FirstK.main_arg0) = m ((c.tc : Thread Cert.FirstK.nD Cert.FirstK.τ).loc Cert.FirstK.main_arg0)
      ∧ r.2.mem ((c.tc : Thread Cert.FirstK.nD Cert.FirstK.τ).loc Cert.FirstK.main_arg1) = m ((c.tc : Thread Cert.FirstK.nD Cert.FirstK.τ).loc Cert.FirstK.main_arg1)
      ∧ r.2.mem ((c.tc : Thread Cert.FirstK.nD Cert.FirstK.τ).loc Cert.FirstK.main_arg2) = m ((c.tc : Thread Cert.FirstK.nD Cert.FirstK.τ).loc Cert.FirstK.main_arg2)
      ∧ r.2.mem ((c.tc : Thread Cert.FirstK.nD Cert.FirstK.τ).loc Cert.FirstK.main_arg3) = m ((c.tc : Thread Cert.FirstK.nD Cert.FirstK.τ).loc Cert.FirstK.main_arg3)
      ∧ r.2.mem ((c.tc : Thread Cert.FirstK.nD Cert.FirstK.τ).loc Cert.FirstK.main_arg4) = m ((c.tc : Thread Cert.FirstK.nD Cert.FirstK.τ).loc Cert.FirstK.main_arg4)
      ∧ r.2.mem ((c.tc : Thread Cert.FirstK.nD Cert.FirstK.τ).loc Cert.FirstK.main_arg5) = m ((c.tc : Thread Cert.FirstK.nD Cert.FirstK.τ).loc Cert.FirstK.main_arg5))
      ∧ r.2.sem = fun _ => 0)

def quiescent_FirstKIdeal [hFirstKIdeal : Cert.FirstKIdeal.Facts] : Prop :=
  ∀ (m : (ℓ : Loc Cert.FirstKIdeal.nD Cert.FirstKIdeal.τ Cert.FirstKIdeal.sig) → Buf (Elt Ideal) ℓ) (g : Dev Cert.FirstKIdeal.nD → PrngReg), Pre_FirstKIdeal m →
    θ_run (Cert.FirstKIdeal.defs (F := Ideal)) (onTc (τ := Cert.FirstKIdeal.τ) (Cert.FirstKIdeal.main (F := Ideal))) ⟨m, fun _ => 0, g⟩ (fun r => (∀ c : Dev Cert.FirstKIdeal.nD,
      r.2.mem ((c.tc : Thread Cert.FirstKIdeal.nD Cert.FirstKIdeal.τ).loc Cert.FirstKIdeal.main_arg0) = m ((c.tc : Thread Cert.FirstKIdeal.nD Cert.FirstKIdeal.τ).loc Cert.FirstKIdeal.main_arg0)
      ∧ r.2.mem ((c.tc : Thread Cert.FirstKIdeal.nD Cert.FirstKIdeal.τ).loc Cert.FirstKIdeal.main_arg1) = m ((c.tc : Thread Cert.FirstKIdeal.nD Cert.FirstKIdeal.τ).loc Cert.FirstKIdeal.main_arg1)
      ∧ r.2.mem ((c.tc : Thread Cert.FirstKIdeal.nD Cert.FirstKIdeal.τ).loc Cert.FirstKIdeal.main_arg2) = m ((c.tc : Thread Cert.FirstKIdeal.nD Cert.FirstKIdeal.τ).loc Cert.FirstKIdeal.main_arg2)
      ∧ r.2.mem ((c.tc : Thread Cert.FirstKIdeal.nD Cert.FirstKIdeal.τ).loc Cert.FirstKIdeal.main_arg3) = m ((c.tc : Thread Cert.FirstKIdeal.nD Cert.FirstKIdeal.τ).loc Cert.FirstKIdeal.main_arg3)
      ∧ r.2.mem ((c.tc : Thread Cert.FirstKIdeal.nD Cert.FirstKIdeal.τ).loc Cert.FirstKIdeal.main_arg4) = m ((c.tc : Thread Cert.FirstKIdeal.nD Cert.FirstKIdeal.τ).loc Cert.FirstKIdeal.main_arg4)
      ∧ r.2.mem ((c.tc : Thread Cert.FirstKIdeal.nD Cert.FirstKIdeal.τ).loc Cert.FirstKIdeal.main_arg5) = m ((c.tc : Thread Cert.FirstKIdeal.nD Cert.FirstKIdeal.τ).loc Cert.FirstKIdeal.main_arg5))
      ∧ r.2.sem = fun _ => 0)

def quiescent_FirstRIdeal [hFirstRIdeal : Cert.FirstRIdeal.Facts] : Prop :=
  ∀ (m : (ℓ : Loc Cert.FirstRIdeal.nD Cert.FirstRIdeal.τ Cert.FirstRIdeal.sig) → Buf (Elt Ideal) ℓ) (g : Dev Cert.FirstRIdeal.nD → PrngReg), Pre_FirstRIdeal m →
    θ_run (Cert.FirstRIdeal.defs (F := Ideal)) (onTc (τ := Cert.FirstRIdeal.τ) (Cert.FirstRIdeal.main (F := Ideal))) ⟨m, fun _ => 0, g⟩ (fun r => (∀ c : Dev Cert.FirstRIdeal.nD,
      r.2.mem ((c.tc : Thread Cert.FirstRIdeal.nD Cert.FirstRIdeal.τ).loc Cert.FirstRIdeal.main_arg0) = m ((c.tc : Thread Cert.FirstRIdeal.nD Cert.FirstRIdeal.τ).loc Cert.FirstRIdeal.main_arg0)
      ∧ r.2.mem ((c.tc : Thread Cert.FirstRIdeal.nD Cert.FirstRIdeal.τ).loc Cert.FirstRIdeal.main_arg1) = m ((c.tc : Thread Cert.FirstRIdeal.nD Cert.FirstRIdeal.τ).loc Cert.FirstRIdeal.main_arg1)
      ∧ r.2.mem ((c.tc : Thread Cert.FirstRIdeal.nD Cert.FirstRIdeal.τ).loc Cert.FirstRIdeal.main_arg2) = m ((c.tc : Thread Cert.FirstRIdeal.nD Cert.FirstRIdeal.τ).loc Cert.FirstRIdeal.main_arg2)
      ∧ r.2.mem ((c.tc : Thread Cert.FirstRIdeal.nD Cert.FirstRIdeal.τ).loc Cert.FirstRIdeal.main_arg3) = m ((c.tc : Thread Cert.FirstRIdeal.nD Cert.FirstRIdeal.τ).loc Cert.FirstRIdeal.main_arg3)
      ∧ r.2.mem ((c.tc : Thread Cert.FirstRIdeal.nD Cert.FirstRIdeal.τ).loc Cert.FirstRIdeal.main_arg4) = m ((c.tc : Thread Cert.FirstRIdeal.nD Cert.FirstRIdeal.τ).loc Cert.FirstRIdeal.main_arg4)
      ∧ r.2.mem ((c.tc : Thread Cert.FirstRIdeal.nD Cert.FirstRIdeal.τ).loc Cert.FirstRIdeal.main_arg5) = m ((c.tc : Thread Cert.FirstRIdeal.nD Cert.FirstRIdeal.τ).loc Cert.FirstRIdeal.main_arg5))
      ∧ r.2.sem = fun _ => 0)

def quiescent_ParamsK [hParamsK : Cert.ParamsK.Facts] : Prop :=
  ∀ (m : (ℓ : Loc Cert.ParamsK.nD Cert.ParamsK.τ Cert.ParamsK.sig) → Buf (Elt Bits) ℓ) (g : Dev Cert.ParamsK.nD → PrngReg), Pre_ParamsK m →
    θ_run (Cert.ParamsK.defs (F := Bits)) (onTc (τ := Cert.ParamsK.τ) (Cert.ParamsK.main (F := Bits))) ⟨m, fun _ => 0, g⟩ (fun r => (∀ c : Dev Cert.ParamsK.nD,
      r.2.mem ((c.tc : Thread Cert.ParamsK.nD Cert.ParamsK.τ).loc Cert.ParamsK.main_arg0) = m ((c.tc : Thread Cert.ParamsK.nD Cert.ParamsK.τ).loc Cert.ParamsK.main_arg0)
      ∧ r.2.mem ((c.tc : Thread Cert.ParamsK.nD Cert.ParamsK.τ).loc Cert.ParamsK.main_arg1) = m ((c.tc : Thread Cert.ParamsK.nD Cert.ParamsK.τ).loc Cert.ParamsK.main_arg1)
      ∧ r.2.mem ((c.tc : Thread Cert.ParamsK.nD Cert.ParamsK.τ).loc Cert.ParamsK.main_arg2) = m ((c.tc : Thread Cert.ParamsK.nD Cert.ParamsK.τ).loc Cert.ParamsK.main_arg2)
      ∧ r.2.mem ((c.tc : Thread Cert.ParamsK.nD Cert.ParamsK.τ).loc Cert.ParamsK.main_arg3) = m ((c.tc : Thread Cert.ParamsK.nD Cert.ParamsK.τ).loc Cert.ParamsK.main_arg3)
      ∧ r.2.mem ((c.tc : Thread Cert.ParamsK.nD Cert.ParamsK.τ).loc Cert.ParamsK.main_arg4) = m ((c.tc : Thread Cert.ParamsK.nD Cert.ParamsK.τ).loc Cert.ParamsK.main_arg4))
      ∧ r.2.sem = fun _ => 0)

def quiescent_ParamsKIdeal [hParamsKIdeal : Cert.ParamsKIdeal.Facts] : Prop :=
  ∀ (m : (ℓ : Loc Cert.ParamsKIdeal.nD Cert.ParamsKIdeal.τ Cert.ParamsKIdeal.sig) → Buf (Elt Ideal) ℓ) (g : Dev Cert.ParamsKIdeal.nD → PrngReg), Pre_ParamsKIdeal m →
    θ_run (Cert.ParamsKIdeal.defs (F := Ideal)) (onTc (τ := Cert.ParamsKIdeal.τ) (Cert.ParamsKIdeal.main (F := Ideal))) ⟨m, fun _ => 0, g⟩ (fun r => (∀ c : Dev Cert.ParamsKIdeal.nD,
      r.2.mem ((c.tc : Thread Cert.ParamsKIdeal.nD Cert.ParamsKIdeal.τ).loc Cert.ParamsKIdeal.main_arg0) = m ((c.tc : Thread Cert.ParamsKIdeal.nD Cert.ParamsKIdeal.τ).loc Cert.ParamsKIdeal.main_arg0)
      ∧ r.2.mem ((c.tc : Thread Cert.ParamsKIdeal.nD Cert.ParamsKIdeal.τ).loc Cert.ParamsKIdeal.main_arg1) = m ((c.tc : Thread Cert.ParamsKIdeal.nD Cert.ParamsKIdeal.τ).loc Cert.ParamsKIdeal.main_arg1)
      ∧ r.2.mem ((c.tc : Thread Cert.ParamsKIdeal.nD Cert.ParamsKIdeal.τ).loc Cert.ParamsKIdeal.main_arg2) = m ((c.tc : Thread Cert.ParamsKIdeal.nD Cert.ParamsKIdeal.τ).loc Cert.ParamsKIdeal.main_arg2)
      ∧ r.2.mem ((c.tc : Thread Cert.ParamsKIdeal.nD Cert.ParamsKIdeal.τ).loc Cert.ParamsKIdeal.main_arg3) = m ((c.tc : Thread Cert.ParamsKIdeal.nD Cert.ParamsKIdeal.τ).loc Cert.ParamsKIdeal.main_arg3)
      ∧ r.2.mem ((c.tc : Thread Cert.ParamsKIdeal.nD Cert.ParamsKIdeal.τ).loc Cert.ParamsKIdeal.main_arg4) = m ((c.tc : Thread Cert.ParamsKIdeal.nD Cert.ParamsKIdeal.τ).loc Cert.ParamsKIdeal.main_arg4))
      ∧ r.2.sem = fun _ => 0)

def quiescent_ParamsRIdeal [hParamsRIdeal : Cert.ParamsRIdeal.Facts] : Prop :=
  ∀ (m : (ℓ : Loc Cert.ParamsRIdeal.nD Cert.ParamsRIdeal.τ Cert.ParamsRIdeal.sig) → Buf (Elt Ideal) ℓ) (g : Dev Cert.ParamsRIdeal.nD → PrngReg), Pre_ParamsRIdeal m →
    θ_run (Cert.ParamsRIdeal.defs (F := Ideal)) (onTc (τ := Cert.ParamsRIdeal.τ) (Cert.ParamsRIdeal.main (F := Ideal))) ⟨m, fun _ => 0, g⟩ (fun r => (∀ c : Dev Cert.ParamsRIdeal.nD,
      r.2.mem ((c.tc : Thread Cert.ParamsRIdeal.nD Cert.ParamsRIdeal.τ).loc Cert.ParamsRIdeal.main_arg0) = m ((c.tc : Thread Cert.ParamsRIdeal.nD Cert.ParamsRIdeal.τ).loc Cert.ParamsRIdeal.main_arg0)
      ∧ r.2.mem ((c.tc : Thread Cert.ParamsRIdeal.nD Cert.ParamsRIdeal.τ).loc Cert.ParamsRIdeal.main_arg1) = m ((c.tc : Thread Cert.ParamsRIdeal.nD Cert.ParamsRIdeal.τ).loc Cert.ParamsRIdeal.main_arg1)
      ∧ r.2.mem ((c.tc : Thread Cert.ParamsRIdeal.nD Cert.ParamsRIdeal.τ).loc Cert.ParamsRIdeal.main_arg2) = m ((c.tc : Thread Cert.ParamsRIdeal.nD Cert.ParamsRIdeal.τ).loc Cert.ParamsRIdeal.main_arg2)
      ∧ r.2.mem ((c.tc : Thread Cert.ParamsRIdeal.nD Cert.ParamsRIdeal.τ).loc Cert.ParamsRIdeal.main_arg3) = m ((c.tc : Thread Cert.ParamsRIdeal.nD Cert.ParamsRIdeal.τ).loc Cert.ParamsRIdeal.main_arg3)
      ∧ r.2.mem ((c.tc : Thread Cert.ParamsRIdeal.nD Cert.ParamsRIdeal.τ).loc Cert.ParamsRIdeal.main_arg4) = m ((c.tc : Thread Cert.ParamsRIdeal.nD Cert.ParamsRIdeal.τ).loc Cert.ParamsRIdeal.main_arg4))
      ∧ r.2.sem = fun _ => 0)

def quiescent_ProjK [hProjK : Cert.ProjK.Facts] : Prop :=
  ∀ (m : (ℓ : Loc Cert.ProjK.nD Cert.ProjK.τ Cert.ProjK.sig) → Buf (Elt Bits) ℓ) (g : Dev Cert.ProjK.nD → PrngReg), Pre_ProjK m →
    θ_run (Cert.ProjK.defs (F := Bits)) (onTc (τ := Cert.ProjK.τ) (Cert.ProjK.main (F := Bits))) ⟨m, fun _ => 0, g⟩ (fun r => (∀ c : Dev Cert.ProjK.nD,
      r.2.mem ((c.tc : Thread Cert.ProjK.nD Cert.ProjK.τ).loc Cert.ProjK.main_arg0) = m ((c.tc : Thread Cert.ProjK.nD Cert.ProjK.τ).loc Cert.ProjK.main_arg0)
      ∧ r.2.mem ((c.tc : Thread Cert.ProjK.nD Cert.ProjK.τ).loc Cert.ProjK.main_arg1) = m ((c.tc : Thread Cert.ProjK.nD Cert.ProjK.τ).loc Cert.ProjK.main_arg1))
      ∧ r.2.sem = fun _ => 0)

def quiescent_ProjKIdeal [hProjKIdeal : Cert.ProjKIdeal.Facts] : Prop :=
  ∀ (m : (ℓ : Loc Cert.ProjKIdeal.nD Cert.ProjKIdeal.τ Cert.ProjKIdeal.sig) → Buf (Elt Ideal) ℓ) (g : Dev Cert.ProjKIdeal.nD → PrngReg), Pre_ProjKIdeal m →
    θ_run (Cert.ProjKIdeal.defs (F := Ideal)) (onTc (τ := Cert.ProjKIdeal.τ) (Cert.ProjKIdeal.main (F := Ideal))) ⟨m, fun _ => 0, g⟩ (fun r => (∀ c : Dev Cert.ProjKIdeal.nD,
      r.2.mem ((c.tc : Thread Cert.ProjKIdeal.nD Cert.ProjKIdeal.τ).loc Cert.ProjKIdeal.main_arg0) = m ((c.tc : Thread Cert.ProjKIdeal.nD Cert.ProjKIdeal.τ).loc Cert.ProjKIdeal.main_arg0)
      ∧ r.2.mem ((c.tc : Thread Cert.ProjKIdeal.nD Cert.ProjKIdeal.τ).loc Cert.ProjKIdeal.main_arg1) = m ((c.tc : Thread Cert.ProjKIdeal.nD Cert.ProjKIdeal.τ).loc Cert.ProjKIdeal.main_arg1))
      ∧ r.2.sem = fun _ => 0)

def quiescent_ProjRIdeal [hProjRIdeal : Cert.ProjRIdeal.Facts] : Prop :=
  ∀ (m : (ℓ : Loc Cert.ProjRIdeal.nD Cert.ProjRIdeal.τ Cert.ProjRIdeal.sig) → Buf (Elt Ideal) ℓ) (g : Dev Cert.ProjRIdeal.nD → PrngReg), Pre_ProjRIdeal m →
    θ_run (Cert.ProjRIdeal.defs (F := Ideal)) (onTc (τ := Cert.ProjRIdeal.τ) (Cert.ProjRIdeal.main (F := Ideal))) ⟨m, fun _ => 0, g⟩ (fun r => (∀ c : Dev Cert.ProjRIdeal.nD,
      r.2.mem ((c.tc : Thread Cert.ProjRIdeal.nD Cert.ProjRIdeal.τ).loc Cert.ProjRIdeal.main_arg0) = m ((c.tc : Thread Cert.ProjRIdeal.nD Cert.ProjRIdeal.τ).loc Cert.ProjRIdeal.main_arg0)
      ∧ r.2.mem ((c.tc : Thread Cert.ProjRIdeal.nD Cert.ProjRIdeal.τ).loc Cert.ProjRIdeal.main_arg1) = m ((c.tc : Thread Cert.ProjRIdeal.nD Cert.ProjRIdeal.τ).loc Cert.ProjRIdeal.main_arg1))
      ∧ r.2.sem = fun _ => 0)

def preserves_LossK_LossKIdeal : Prop :=
  True

def algebraic_LossKIdeal_LossRIdeal_pre_loss_finite [hLossKIdeal : Cert.LossKIdeal.Facts] [hLossRIdeal : Cert.LossRIdeal.Facts] [hPre_loss_finite : Cert.Pre_loss_finite.Facts] : Prop :=
  ∀ (m : (ℓ : Loc Cert.LossKIdeal.nD Cert.LossKIdeal.τ Cert.LossKIdeal.sig) → Buf (Elt Ideal) ℓ) (g : Dev Cert.LossKIdeal.nD → PrngReg)
    (m' : (ℓ : Loc Cert.LossRIdeal.nD Cert.LossRIdeal.τ Cert.LossRIdeal.sig) → Buf (Elt Ideal) ℓ) (g' : Dev Cert.LossRIdeal.nD → PrngReg), Pre_LossKIdeal_loss_finite m →
    (∀ c : Dev Cert.LossKIdeal.nD,
      m' ((c.tc : Thread Cert.LossRIdeal.nD Cert.LossRIdeal.τ).loc Cert.LossRIdeal.main_arg0) = m ((c.tc : Thread Cert.LossKIdeal.nD Cert.LossKIdeal.τ).loc Cert.LossKIdeal.main_arg0)
      ∧ m' ((c.tc : Thread Cert.LossRIdeal.nD Cert.LossRIdeal.τ).loc Cert.LossRIdeal.main_arg1) = m ((c.tc : Thread Cert.LossKIdeal.nD Cert.LossKIdeal.τ).loc Cert.LossKIdeal.main_arg1)
      ∧ m' ((c.tc : Thread Cert.LossRIdeal.nD Cert.LossRIdeal.τ).loc Cert.LossRIdeal.main_arg2) = m ((c.tc : Thread Cert.LossKIdeal.nD Cert.LossKIdeal.τ).loc Cert.LossKIdeal.main_arg2)
      ∧ m' ((c.tc : Thread Cert.LossRIdeal.nD Cert.LossRIdeal.τ).loc Cert.LossRIdeal.main_arg3) = m ((c.tc : Thread Cert.LossKIdeal.nD Cert.LossKIdeal.τ).loc Cert.LossKIdeal.main_arg3)
      ∧ m' ((c.tc : Thread Cert.LossRIdeal.nD Cert.LossRIdeal.τ).loc Cert.LossRIdeal.main_arg4) = m ((c.tc : Thread Cert.LossKIdeal.nD Cert.LossKIdeal.τ).loc Cert.LossKIdeal.main_arg4)) →
    ∃ (v0 : (c : Dev Cert.LossKIdeal.nD) → Buf (Elt Ideal) ((c.tc : Thread Cert.LossKIdeal.nD Cert.LossKIdeal.τ).loc Cert.LossKIdeal.main_v28_0)) (v1 : (c : Dev Cert.LossKIdeal.nD) → Buf (Elt Ideal) ((c.tc : Thread Cert.LossKIdeal.nD Cert.LossKIdeal.τ).loc Cert.LossKIdeal.main_v28_1)) (v2 : (c : Dev Cert.LossKIdeal.nD) → Buf (Elt Ideal) ((c.tc : Thread Cert.LossKIdeal.nD Cert.LossKIdeal.τ).loc Cert.LossKIdeal.main_v28_2)) (v3 : (c : Dev Cert.LossKIdeal.nD) → Buf (Elt Ideal) ((c.tc : Thread Cert.LossKIdeal.nD Cert.LossKIdeal.τ).loc Cert.LossKIdeal.main_v28_3)) (v4 : (c : Dev Cert.LossKIdeal.nD) → Buf (Elt Ideal) ((c.tc : Thread Cert.LossKIdeal.nD Cert.LossKIdeal.τ).loc Cert.LossKIdeal.main_v28_4)),
      θ_run (Cert.LossKIdeal.defs (F := Ideal)) (onTc (τ := Cert.LossKIdeal.τ) (Cert.LossKIdeal.main (F := Ideal))) ⟨m, fun _ => 0, g⟩ (fun r => ∀ c : Dev Cert.LossKIdeal.nD,
          r.2.mem ((c.tc : Thread Cert.LossKIdeal.nD Cert.LossKIdeal.τ).loc Cert.LossKIdeal.main_v28_0) = v0 c
          ∧ r.2.mem ((c.tc : Thread Cert.LossKIdeal.nD Cert.LossKIdeal.τ).loc Cert.LossKIdeal.main_v28_1) = v1 c
          ∧ r.2.mem ((c.tc : Thread Cert.LossKIdeal.nD Cert.LossKIdeal.τ).loc Cert.LossKIdeal.main_v28_2) = v2 c
          ∧ r.2.mem ((c.tc : Thread Cert.LossKIdeal.nD Cert.LossKIdeal.τ).loc Cert.LossKIdeal.main_v28_3) = v3 c
          ∧ r.2.mem ((c.tc : Thread Cert.LossKIdeal.nD Cert.LossKIdeal.τ).loc Cert.LossKIdeal.main_v28_4) = v4 c
          ∧ r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
          ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
          ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2)
          ∧ r.2.mem ((c.tc : Thread Cert.LossKIdeal.nD Cert.LossKIdeal.τ).loc Cert.LossKIdeal.main_arg3) = m ((c.tc : Thread Cert.LossKIdeal.nD Cert.LossKIdeal.τ).loc Cert.LossKIdeal.main_arg3)
          ∧ r.2.mem ((c.tc : Thread Cert.LossKIdeal.nD Cert.LossKIdeal.τ).loc Cert.LossKIdeal.main_arg4) = m ((c.tc : Thread Cert.LossKIdeal.nD Cert.LossKIdeal.τ).loc Cert.LossKIdeal.main_arg4))
      ∧ θ_run (Cert.LossRIdeal.defs (F := Ideal)) (onTc (τ := Cert.LossRIdeal.τ) (Cert.LossRIdeal.main (F := Ideal))) ⟨m', fun _ => 0, g'⟩ (fun r => ∀ c : Dev Cert.LossRIdeal.nD,
          r.2.mem ((c.tc : Thread Cert.LossRIdeal.nD Cert.LossRIdeal.τ).loc Cert.LossRIdeal.main_v79) = v0 c
          ∧ r.2.mem ((c.tc : Thread Cert.LossRIdeal.nD Cert.LossRIdeal.τ).loc Cert.LossRIdeal.main_v83) = v1 c
          ∧ r.2.mem ((c.tc : Thread Cert.LossRIdeal.nD Cert.LossRIdeal.τ).loc Cert.LossRIdeal.main_v84) = v2 c
          ∧ r.2.mem ((c.tc : Thread Cert.LossRIdeal.nD Cert.LossRIdeal.τ).loc Cert.LossRIdeal.main_v85) = v3 c
          ∧ r.2.mem ((c.tc : Thread Cert.LossRIdeal.nD Cert.LossRIdeal.τ).loc Cert.LossRIdeal.main_v86) = v4 c
          ∧ r.2.mem ((c.tc : Thread Cert.LossRIdeal.nD Cert.LossRIdeal.τ).loc Cert.LossRIdeal.main_arg0) = m' ((c.tc : Thread Cert.LossRIdeal.nD Cert.LossRIdeal.τ).loc Cert.LossRIdeal.main_arg0)
          ∧ r.2.mem ((c.tc : Thread Cert.LossRIdeal.nD Cert.LossRIdeal.τ).loc Cert.LossRIdeal.main_arg1) = m' ((c.tc : Thread Cert.LossRIdeal.nD Cert.LossRIdeal.τ).loc Cert.LossRIdeal.main_arg1)
          ∧ r.2.mem ((c.tc : Thread Cert.LossRIdeal.nD Cert.LossRIdeal.τ).loc Cert.LossRIdeal.main_arg2) = m' ((c.tc : Thread Cert.LossRIdeal.nD Cert.LossRIdeal.τ).loc Cert.LossRIdeal.main_arg2)
          ∧ r.2.mem ((c.tc : Thread Cert.LossRIdeal.nD Cert.LossRIdeal.τ).loc Cert.LossRIdeal.main_arg3) = m' ((c.tc : Thread Cert.LossRIdeal.nD Cert.LossRIdeal.τ).loc Cert.LossRIdeal.main_arg3)
          ∧ r.2.mem ((c.tc : Thread Cert.LossRIdeal.nD Cert.LossRIdeal.τ).loc Cert.LossRIdeal.main_arg4) = m' ((c.tc : Thread Cert.LossRIdeal.nD Cert.LossRIdeal.τ).loc Cert.LossRIdeal.main_arg4))

def preserves_ReluK_ReluKIdeal : Prop :=
  True

def algebraic_ReluKIdeal_ReluRIdeal_pre_ff2_finite [hReluKIdeal : Cert.ReluKIdeal.Facts] [hReluRIdeal : Cert.ReluRIdeal.Facts] [hPre_ff2_finite : Cert.Pre_ff2_finite.Facts] : Prop :=
  ∀ (m : (ℓ : Loc Cert.ReluKIdeal.nD Cert.ReluKIdeal.τ Cert.ReluKIdeal.sig) → Buf (Elt Ideal) ℓ) (g : Dev Cert.ReluKIdeal.nD → PrngReg)
    (m' : (ℓ : Loc Cert.ReluRIdeal.nD Cert.ReluRIdeal.τ Cert.ReluRIdeal.sig) → Buf (Elt Ideal) ℓ) (g' : Dev Cert.ReluRIdeal.nD → PrngReg), Pre_ReluKIdeal_ff2_finite m →
    (∀ c : Dev Cert.ReluKIdeal.nD,
      m' ((c.tc : Thread Cert.ReluRIdeal.nD Cert.ReluRIdeal.τ).loc Cert.ReluRIdeal.main_arg0) = m ((c.tc : Thread Cert.ReluKIdeal.nD Cert.ReluKIdeal.τ).loc Cert.ReluKIdeal.main_arg0)
      ∧ m' ((c.tc : Thread Cert.ReluRIdeal.nD Cert.ReluRIdeal.τ).loc Cert.ReluRIdeal.main_arg1) = m ((c.tc : Thread Cert.ReluKIdeal.nD Cert.ReluKIdeal.τ).loc Cert.ReluKIdeal.main_arg1)
      ∧ m' ((c.tc : Thread Cert.ReluRIdeal.nD Cert.ReluRIdeal.τ).loc Cert.ReluRIdeal.main_arg2) = m ((c.tc : Thread Cert.ReluKIdeal.nD Cert.ReluKIdeal.τ).loc Cert.ReluKIdeal.main_arg2)
      ∧ m' ((c.tc : Thread Cert.ReluRIdeal.nD Cert.ReluRIdeal.τ).loc Cert.ReluRIdeal.main_arg3) = m ((c.tc : Thread Cert.ReluKIdeal.nD Cert.ReluKIdeal.τ).loc Cert.ReluKIdeal.main_arg3)) →
    ∃ (v0 : (c : Dev Cert.ReluKIdeal.nD) → Buf (Elt Ideal) ((c.tc : Thread Cert.ReluKIdeal.nD Cert.ReluKIdeal.τ).loc Cert.ReluKIdeal.main_v7_0)) (v1 : (c : Dev Cert.ReluKIdeal.nD) → Buf (Elt Ideal) ((c.tc : Thread Cert.ReluKIdeal.nD Cert.ReluKIdeal.τ).loc Cert.ReluKIdeal.main_v7_1)),
      θ_run (Cert.ReluKIdeal.defs (F := Ideal)) (onTc (τ := Cert.ReluKIdeal.τ) (Cert.ReluKIdeal.main (F := Ideal))) ⟨m, fun _ => 0, g⟩ (fun r => ∀ c : Dev Cert.ReluKIdeal.nD,
          r.2.mem ((c.tc : Thread Cert.ReluKIdeal.nD Cert.ReluKIdeal.τ).loc Cert.ReluKIdeal.main_v7_0) = v0 c
          ∧ r.2.mem ((c.tc : Thread Cert.ReluKIdeal.nD Cert.ReluKIdeal.τ).loc Cert.ReluKIdeal.main_v7_1) = v1 c
          ∧ r.2.mem ((c.tc : Thread Cert.ReluKIdeal.nD Cert.ReluKIdeal.τ).loc Cert.ReluKIdeal.main_arg0) = m ((c.tc : Thread Cert.ReluKIdeal.nD Cert.ReluKIdeal.τ).loc Cert.ReluKIdeal.main_arg0)
          ∧ r.2.mem ((c.tc : Thread Cert.ReluKIdeal.nD Cert.ReluKIdeal.τ).loc Cert.ReluKIdeal.main_arg1) = m ((c.tc : Thread Cert.ReluKIdeal.nD Cert.ReluKIdeal.τ).loc Cert.ReluKIdeal.main_arg1)
          ∧ r.2.mem ((c.tc : Thread Cert.ReluKIdeal.nD Cert.ReluKIdeal.τ).loc Cert.ReluKIdeal.main_arg2) = m ((c.tc : Thread Cert.ReluKIdeal.nD Cert.ReluKIdeal.τ).loc Cert.ReluKIdeal.main_arg2)
          ∧ r.2.mem ((c.tc : Thread Cert.ReluKIdeal.nD Cert.ReluKIdeal.τ).loc Cert.ReluKIdeal.main_arg3) = m ((c.tc : Thread Cert.ReluKIdeal.nD Cert.ReluKIdeal.τ).loc Cert.ReluKIdeal.main_arg3))
      ∧ θ_run (Cert.ReluRIdeal.defs (F := Ideal)) (onTc (τ := Cert.ReluRIdeal.τ) (Cert.ReluRIdeal.main (F := Ideal))) ⟨m', fun _ => 0, g'⟩ (fun r => ∀ c : Dev Cert.ReluRIdeal.nD,
          r.2.mem ((c.tc : Thread Cert.ReluRIdeal.nD Cert.ReluRIdeal.τ).loc Cert.ReluRIdeal.main_v18) = v0 c
          ∧ r.2.mem ((c.tc : Thread Cert.ReluRIdeal.nD Cert.ReluRIdeal.τ).loc Cert.ReluRIdeal.main_v19) = v1 c
          ∧ r.2.mem ((c.tc : Thread Cert.ReluRIdeal.nD Cert.ReluRIdeal.τ).loc Cert.ReluRIdeal.main_arg0) = m' ((c.tc : Thread Cert.ReluRIdeal.nD Cert.ReluRIdeal.τ).loc Cert.ReluRIdeal.main_arg0)
          ∧ r.2.mem ((c.tc : Thread Cert.ReluRIdeal.nD Cert.ReluRIdeal.τ).loc Cert.ReluRIdeal.main_arg1) = m' ((c.tc : Thread Cert.ReluRIdeal.nD Cert.ReluRIdeal.τ).loc Cert.ReluRIdeal.main_arg1)
          ∧ r.2.mem ((c.tc : Thread Cert.ReluRIdeal.nD Cert.ReluRIdeal.τ).loc Cert.ReluRIdeal.main_arg2) = m' ((c.tc : Thread Cert.ReluRIdeal.nD Cert.ReluRIdeal.τ).loc Cert.ReluRIdeal.main_arg2)
          ∧ r.2.mem ((c.tc : Thread Cert.ReluRIdeal.nD Cert.ReluRIdeal.τ).loc Cert.ReluRIdeal.main_arg3) = m' ((c.tc : Thread Cert.ReluRIdeal.nD Cert.ReluRIdeal.τ).loc Cert.ReluRIdeal.main_arg3))

def preserves_NormK_NormKIdeal : Prop :=
  True

def algebraic_NormKIdeal_NormRIdeal_pre_ff1_finite [hNormKIdeal : Cert.NormKIdeal.Facts] [hNormRIdeal : Cert.NormRIdeal.Facts] [hPre_ff1_finite : Cert.Pre_ff1_finite.Facts] : Prop :=
  ∀ (m : (ℓ : Loc Cert.NormKIdeal.nD Cert.NormKIdeal.τ Cert.NormKIdeal.sig) → Buf (Elt Ideal) ℓ) (g : Dev Cert.NormKIdeal.nD → PrngReg)
    (m' : (ℓ : Loc Cert.NormRIdeal.nD Cert.NormRIdeal.τ Cert.NormRIdeal.sig) → Buf (Elt Ideal) ℓ) (g' : Dev Cert.NormRIdeal.nD → PrngReg), Pre_NormKIdeal_ff1_finite m →
    (∀ c : Dev Cert.NormKIdeal.nD,
      m' ((c.tc : Thread Cert.NormRIdeal.nD Cert.NormRIdeal.τ).loc Cert.NormRIdeal.main_arg0) = m ((c.tc : Thread Cert.NormKIdeal.nD Cert.NormKIdeal.τ).loc Cert.NormKIdeal.main_arg0)
      ∧ m' ((c.tc : Thread Cert.NormRIdeal.nD Cert.NormRIdeal.τ).loc Cert.NormRIdeal.main_arg1) = m ((c.tc : Thread Cert.NormKIdeal.nD Cert.NormKIdeal.τ).loc Cert.NormKIdeal.main_arg1)
      ∧ m' ((c.tc : Thread Cert.NormRIdeal.nD Cert.NormRIdeal.τ).loc Cert.NormRIdeal.main_arg2) = m ((c.tc : Thread Cert.NormKIdeal.nD Cert.NormKIdeal.τ).loc Cert.NormKIdeal.main_arg2)
      ∧ m' ((c.tc : Thread Cert.NormRIdeal.nD Cert.NormRIdeal.τ).loc Cert.NormRIdeal.main_arg3) = m ((c.tc : Thread Cert.NormKIdeal.nD Cert.NormKIdeal.τ).loc Cert.NormKIdeal.main_arg3)
      ∧ m' ((c.tc : Thread Cert.NormRIdeal.nD Cert.NormRIdeal.τ).loc Cert.NormRIdeal.main_arg4) = m ((c.tc : Thread Cert.NormKIdeal.nD Cert.NormKIdeal.τ).loc Cert.NormKIdeal.main_arg4)
      ∧ m' ((c.tc : Thread Cert.NormRIdeal.nD Cert.NormRIdeal.τ).loc Cert.NormRIdeal.main_arg5) = m ((c.tc : Thread Cert.NormKIdeal.nD Cert.NormKIdeal.τ).loc Cert.NormKIdeal.main_arg5)
      ∧ m' ((c.tc : Thread Cert.NormRIdeal.nD Cert.NormRIdeal.τ).loc Cert.NormRIdeal.main_arg6) = m ((c.tc : Thread Cert.NormKIdeal.nD Cert.NormKIdeal.τ).loc Cert.NormKIdeal.main_arg6)) →
    ∃ (v0 : (c : Dev Cert.NormKIdeal.nD) → Buf (Elt Ideal) ((c.tc : Thread Cert.NormKIdeal.nD Cert.NormKIdeal.τ).loc Cert.NormKIdeal.main_v8_0)) (v1 : (c : Dev Cert.NormKIdeal.nD) → Buf (Elt Ideal) ((c.tc : Thread Cert.NormKIdeal.nD Cert.NormKIdeal.τ).loc Cert.NormKIdeal.main_v8_1)) (v2 : (c : Dev Cert.NormKIdeal.nD) → Buf (Elt Ideal) ((c.tc : Thread Cert.NormKIdeal.nD Cert.NormKIdeal.τ).loc Cert.NormKIdeal.main_v8_2)) (v3 : (c : Dev Cert.NormKIdeal.nD) → Buf (Elt Ideal) ((c.tc : Thread Cert.NormKIdeal.nD Cert.NormKIdeal.τ).loc Cert.NormKIdeal.main_v8_3)),
      θ_run (Cert.NormKIdeal.defs (F := Ideal)) (onTc (τ := Cert.NormKIdeal.τ) (Cert.NormKIdeal.main (F := Ideal))) ⟨m, fun _ => 0, g⟩ (fun r => ∀ c : Dev Cert.NormKIdeal.nD,
          r.2.mem ((c.tc : Thread Cert.NormKIdeal.nD Cert.NormKIdeal.τ).loc Cert.NormKIdeal.main_v8_0) = v0 c
          ∧ r.2.mem ((c.tc : Thread Cert.NormKIdeal.nD Cert.NormKIdeal.τ).loc Cert.NormKIdeal.main_v8_1) = v1 c
          ∧ r.2.mem ((c.tc : Thread Cert.NormKIdeal.nD Cert.NormKIdeal.τ).loc Cert.NormKIdeal.main_v8_2) = v2 c
          ∧ r.2.mem ((c.tc : Thread Cert.NormKIdeal.nD Cert.NormKIdeal.τ).loc Cert.NormKIdeal.main_v8_3) = v3 c
          ∧ r.2.mem ((c.tc : Thread Cert.NormKIdeal.nD Cert.NormKIdeal.τ).loc Cert.NormKIdeal.main_arg0) = m ((c.tc : Thread Cert.NormKIdeal.nD Cert.NormKIdeal.τ).loc Cert.NormKIdeal.main_arg0)
          ∧ r.2.mem ((c.tc : Thread Cert.NormKIdeal.nD Cert.NormKIdeal.τ).loc Cert.NormKIdeal.main_arg1) = m ((c.tc : Thread Cert.NormKIdeal.nD Cert.NormKIdeal.τ).loc Cert.NormKIdeal.main_arg1)
          ∧ r.2.mem ((c.tc : Thread Cert.NormKIdeal.nD Cert.NormKIdeal.τ).loc Cert.NormKIdeal.main_arg2) = m ((c.tc : Thread Cert.NormKIdeal.nD Cert.NormKIdeal.τ).loc Cert.NormKIdeal.main_arg2)
          ∧ r.2.mem ((c.tc : Thread Cert.NormKIdeal.nD Cert.NormKIdeal.τ).loc Cert.NormKIdeal.main_arg3) = m ((c.tc : Thread Cert.NormKIdeal.nD Cert.NormKIdeal.τ).loc Cert.NormKIdeal.main_arg3)
          ∧ r.2.mem ((c.tc : Thread Cert.NormKIdeal.nD Cert.NormKIdeal.τ).loc Cert.NormKIdeal.main_arg4) = m ((c.tc : Thread Cert.NormKIdeal.nD Cert.NormKIdeal.τ).loc Cert.NormKIdeal.main_arg4)
          ∧ r.2.mem ((c.tc : Thread Cert.NormKIdeal.nD Cert.NormKIdeal.τ).loc Cert.NormKIdeal.main_arg5) = m ((c.tc : Thread Cert.NormKIdeal.nD Cert.NormKIdeal.τ).loc Cert.NormKIdeal.main_arg5)
          ∧ r.2.mem ((c.tc : Thread Cert.NormKIdeal.nD Cert.NormKIdeal.τ).loc Cert.NormKIdeal.main_arg6) = m ((c.tc : Thread Cert.NormKIdeal.nD Cert.NormKIdeal.τ).loc Cert.NormKIdeal.main_arg6))
      ∧ θ_run (Cert.NormRIdeal.defs (F := Ideal)) (onTc (τ := Cert.NormRIdeal.τ) (Cert.NormRIdeal.main (F := Ideal))) ⟨m', fun _ => 0, g'⟩ (fun r => ∀ c : Dev Cert.NormRIdeal.nD,
          r.2.mem ((c.tc : Thread Cert.NormRIdeal.nD Cert.NormRIdeal.τ).loc Cert.NormRIdeal.main_v71) = v0 c
          ∧ r.2.mem ((c.tc : Thread Cert.NormRIdeal.nD Cert.NormRIdeal.τ).loc Cert.NormRIdeal.main_v75) = v1 c
          ∧ r.2.mem ((c.tc : Thread Cert.NormRIdeal.nD Cert.NormRIdeal.τ).loc Cert.NormRIdeal.main_v76) = v2 c
          ∧ r.2.mem ((c.tc : Thread Cert.NormRIdeal.nD Cert.NormRIdeal.τ).loc Cert.NormRIdeal.main_v77) = v3 c
          ∧ r.2.mem ((c.tc : Thread Cert.NormRIdeal.nD Cert.NormRIdeal.τ).loc Cert.NormRIdeal.main_arg0) = m' ((c.tc : Thread Cert.NormRIdeal.nD Cert.NormRIdeal.τ).loc Cert.NormRIdeal.main_arg0)
          ∧ r.2.mem ((c.tc : Thread Cert.NormRIdeal.nD Cert.NormRIdeal.τ).loc Cert.NormRIdeal.main_arg1) = m' ((c.tc : Thread Cert.NormRIdeal.nD Cert.NormRIdeal.τ).loc Cert.NormRIdeal.main_arg1)
          ∧ r.2.mem ((c.tc : Thread Cert.NormRIdeal.nD Cert.NormRIdeal.τ).loc Cert.NormRIdeal.main_arg2) = m' ((c.tc : Thread Cert.NormRIdeal.nD Cert.NormRIdeal.τ).loc Cert.NormRIdeal.main_arg2)
          ∧ r.2.mem ((c.tc : Thread Cert.NormRIdeal.nD Cert.NormRIdeal.τ).loc Cert.NormRIdeal.main_arg3) = m' ((c.tc : Thread Cert.NormRIdeal.nD Cert.NormRIdeal.τ).loc Cert.NormRIdeal.main_arg3)
          ∧ r.2.mem ((c.tc : Thread Cert.NormRIdeal.nD Cert.NormRIdeal.τ).loc Cert.NormRIdeal.main_arg4) = m' ((c.tc : Thread Cert.NormRIdeal.nD Cert.NormRIdeal.τ).loc Cert.NormRIdeal.main_arg4)
          ∧ r.2.mem ((c.tc : Thread Cert.NormRIdeal.nD Cert.NormRIdeal.τ).loc Cert.NormRIdeal.main_arg5) = m' ((c.tc : Thread Cert.NormRIdeal.nD Cert.NormRIdeal.τ).loc Cert.NormRIdeal.main_arg5)
          ∧ r.2.mem ((c.tc : Thread Cert.NormRIdeal.nD Cert.NormRIdeal.τ).loc Cert.NormRIdeal.main_arg6) = m' ((c.tc : Thread Cert.NormRIdeal.nD Cert.NormRIdeal.τ).loc Cert.NormRIdeal.main_arg6))

def preserves_InK_InKIdeal : Prop :=
  True

def algebraic_InKIdeal_InRIdeal_pre_in_finite [hInKIdeal : Cert.InKIdeal.Facts] [hInRIdeal : Cert.InRIdeal.Facts] [hPre_in_finite : Cert.Pre_in_finite.Facts] : Prop :=
  ∀ (m : (ℓ : Loc Cert.InKIdeal.nD Cert.InKIdeal.τ Cert.InKIdeal.sig) → Buf (Elt Ideal) ℓ) (g : Dev Cert.InKIdeal.nD → PrngReg)
    (m' : (ℓ : Loc Cert.InRIdeal.nD Cert.InRIdeal.τ Cert.InRIdeal.sig) → Buf (Elt Ideal) ℓ) (g' : Dev Cert.InRIdeal.nD → PrngReg), Pre_InKIdeal_in_finite m →
    (∀ c : Dev Cert.InKIdeal.nD,
      m' ((c.tc : Thread Cert.InRIdeal.nD Cert.InRIdeal.τ).loc Cert.InRIdeal.main_arg0) = m ((c.tc : Thread Cert.InKIdeal.nD Cert.InKIdeal.τ).loc Cert.InKIdeal.main_arg0)
      ∧ m' ((c.tc : Thread Cert.InRIdeal.nD Cert.InRIdeal.τ).loc Cert.InRIdeal.main_arg1) = m ((c.tc : Thread Cert.InKIdeal.nD Cert.InKIdeal.τ).loc Cert.InKIdeal.main_arg1)
      ∧ m' ((c.tc : Thread Cert.InRIdeal.nD Cert.InRIdeal.τ).loc Cert.InRIdeal.main_arg2) = m ((c.tc : Thread Cert.InKIdeal.nD Cert.InKIdeal.τ).loc Cert.InKIdeal.main_arg2)
      ∧ m' ((c.tc : Thread Cert.InRIdeal.nD Cert.InRIdeal.τ).loc Cert.InRIdeal.main_arg3) = m ((c.tc : Thread Cert.InKIdeal.nD Cert.InKIdeal.τ).loc Cert.InKIdeal.main_arg3)
      ∧ m' ((c.tc : Thread Cert.InRIdeal.nD Cert.InRIdeal.τ).loc Cert.InRIdeal.main_arg4) = m ((c.tc : Thread Cert.InKIdeal.nD Cert.InKIdeal.τ).loc Cert.InKIdeal.main_arg4)
      ∧ m' ((c.tc : Thread Cert.InRIdeal.nD Cert.InRIdeal.τ).loc Cert.InRIdeal.main_arg5) = m ((c.tc : Thread Cert.InKIdeal.nD Cert.InKIdeal.τ).loc Cert.InKIdeal.main_arg5)
      ∧ m' ((c.tc : Thread Cert.InRIdeal.nD Cert.InRIdeal.τ).loc Cert.InRIdeal.main_arg6) = m ((c.tc : Thread Cert.InKIdeal.nD Cert.InKIdeal.τ).loc Cert.InKIdeal.main_arg6)
      ∧ m' ((c.tc : Thread Cert.InRIdeal.nD Cert.InRIdeal.τ).loc Cert.InRIdeal.main_arg7) = m ((c.tc : Thread Cert.InKIdeal.nD Cert.InKIdeal.τ).loc Cert.InKIdeal.main_arg7)
      ∧ m' ((c.tc : Thread Cert.InRIdeal.nD Cert.InRIdeal.τ).loc Cert.InRIdeal.main_arg8) = m ((c.tc : Thread Cert.InKIdeal.nD Cert.InKIdeal.τ).loc Cert.InKIdeal.main_arg8)
      ∧ m' ((c.tc : Thread Cert.InRIdeal.nD Cert.InRIdeal.τ).loc Cert.InRIdeal.main_arg9) = m ((c.tc : Thread Cert.InKIdeal.nD Cert.InKIdeal.τ).loc Cert.InKIdeal.main_arg9)) →
    ∃ (v0 : (c : Dev Cert.InKIdeal.nD) → Buf (Elt Ideal) ((c.tc : Thread Cert.InKIdeal.nD Cert.InKIdeal.τ).loc Cert.InKIdeal.main_v11_0)) (v1 : (c : Dev Cert.InKIdeal.nD) → Buf (Elt Ideal) ((c.tc : Thread Cert.InKIdeal.nD Cert.InKIdeal.τ).loc Cert.InKIdeal.main_v11_1)) (v2 : (c : Dev Cert.InKIdeal.nD) → Buf (Elt Ideal) ((c.tc : Thread Cert.InKIdeal.nD Cert.InKIdeal.τ).loc Cert.InKIdeal.main_v11_2)) (v3 : (c : Dev Cert.InKIdeal.nD) → Buf (Elt Ideal) ((c.tc : Thread Cert.InKIdeal.nD Cert.InKIdeal.τ).loc Cert.InKIdeal.main_v11_3)),
      θ_run (Cert.InKIdeal.defs (F := Ideal)) (onTc (τ := Cert.InKIdeal.τ) (Cert.InKIdeal.main (F := Ideal))) ⟨m, fun _ => 0, g⟩ (fun r => ∀ c : Dev Cert.InKIdeal.nD,
          r.2.mem ((c.tc : Thread Cert.InKIdeal.nD Cert.InKIdeal.τ).loc Cert.InKIdeal.main_v11_0) = v0 c
          ∧ r.2.mem ((c.tc : Thread Cert.InKIdeal.nD Cert.InKIdeal.τ).loc Cert.InKIdeal.main_v11_1) = v1 c
          ∧ r.2.mem ((c.tc : Thread Cert.InKIdeal.nD Cert.InKIdeal.τ).loc Cert.InKIdeal.main_v11_2) = v2 c
          ∧ r.2.mem ((c.tc : Thread Cert.InKIdeal.nD Cert.InKIdeal.τ).loc Cert.InKIdeal.main_v11_3) = v3 c
          ∧ r.2.mem ((c.tc : Thread Cert.InKIdeal.nD Cert.InKIdeal.τ).loc Cert.InKIdeal.main_arg0) = m ((c.tc : Thread Cert.InKIdeal.nD Cert.InKIdeal.τ).loc Cert.InKIdeal.main_arg0)
          ∧ r.2.mem ((c.tc : Thread Cert.InKIdeal.nD Cert.InKIdeal.τ).loc Cert.InKIdeal.main_arg1) = m ((c.tc : Thread Cert.InKIdeal.nD Cert.InKIdeal.τ).loc Cert.InKIdeal.main_arg1)
          ∧ r.2.mem ((c.tc : Thread Cert.InKIdeal.nD Cert.InKIdeal.τ).loc Cert.InKIdeal.main_arg2) = m ((c.tc : Thread Cert.InKIdeal.nD Cert.InKIdeal.τ).loc Cert.InKIdeal.main_arg2)
          ∧ r.2.mem ((c.tc : Thread Cert.InKIdeal.nD Cert.InKIdeal.τ).loc Cert.InKIdeal.main_arg3) = m ((c.tc : Thread Cert.InKIdeal.nD Cert.InKIdeal.τ).loc Cert.InKIdeal.main_arg3)
          ∧ r.2.mem ((c.tc : Thread Cert.InKIdeal.nD Cert.InKIdeal.τ).loc Cert.InKIdeal.main_arg4) = m ((c.tc : Thread Cert.InKIdeal.nD Cert.InKIdeal.τ).loc Cert.InKIdeal.main_arg4)
          ∧ r.2.mem ((c.tc : Thread Cert.InKIdeal.nD Cert.InKIdeal.τ).loc Cert.InKIdeal.main_arg5) = m ((c.tc : Thread Cert.InKIdeal.nD Cert.InKIdeal.τ).loc Cert.InKIdeal.main_arg5)
          ∧ r.2.mem ((c.tc : Thread Cert.InKIdeal.nD Cert.InKIdeal.τ).loc Cert.InKIdeal.main_arg6) = m ((c.tc : Thread Cert.InKIdeal.nD Cert.InKIdeal.τ).loc Cert.InKIdeal.main_arg6)
          ∧ r.2.mem ((c.tc : Thread Cert.InKIdeal.nD Cert.InKIdeal.τ).loc Cert.InKIdeal.main_arg7) = m ((c.tc : Thread Cert.InKIdeal.nD Cert.InKIdeal.τ).loc Cert.InKIdeal.main_arg7)
          ∧ r.2.mem ((c.tc : Thread Cert.InKIdeal.nD Cert.InKIdeal.τ).loc Cert.InKIdeal.main_arg8) = m ((c.tc : Thread Cert.InKIdeal.nD Cert.InKIdeal.τ).loc Cert.InKIdeal.main_arg8)
          ∧ r.2.mem ((c.tc : Thread Cert.InKIdeal.nD Cert.InKIdeal.τ).loc Cert.InKIdeal.main_arg9) = m ((c.tc : Thread Cert.InKIdeal.nD Cert.InKIdeal.τ).loc Cert.InKIdeal.main_arg9))
      ∧ θ_run (Cert.InRIdeal.defs (F := Ideal)) (onTc (τ := Cert.InRIdeal.τ) (Cert.InRIdeal.main (F := Ideal))) ⟨m', fun _ => 0, g'⟩ (fun r => ∀ c : Dev Cert.InRIdeal.nD,
          r.2.mem ((c.tc : Thread Cert.InRIdeal.nD Cert.InRIdeal.τ).loc Cert.InRIdeal.main_v82) = v0 c
          ∧ r.2.mem ((c.tc : Thread Cert.InRIdeal.nD Cert.InRIdeal.τ).loc Cert.InRIdeal.main_v86) = v1 c
          ∧ r.2.mem ((c.tc : Thread Cert.InRIdeal.nD Cert.InRIdeal.τ).loc Cert.InRIdeal.main_v87) = v2 c
          ∧ r.2.mem ((c.tc : Thread Cert.InRIdeal.nD Cert.InRIdeal.τ).loc Cert.InRIdeal.main_v88) = v3 c
          ∧ r.2.mem ((c.tc : Thread Cert.InRIdeal.nD Cert.InRIdeal.τ).loc Cert.InRIdeal.main_arg0) = m' ((c.tc : Thread Cert.InRIdeal.nD Cert.InRIdeal.τ).loc Cert.InRIdeal.main_arg0)
          ∧ r.2.mem ((c.tc : Thread Cert.InRIdeal.nD Cert.InRIdeal.τ).loc Cert.InRIdeal.main_arg1) = m' ((c.tc : Thread Cert.InRIdeal.nD Cert.InRIdeal.τ).loc Cert.InRIdeal.main_arg1)
          ∧ r.2.mem ((c.tc : Thread Cert.InRIdeal.nD Cert.InRIdeal.τ).loc Cert.InRIdeal.main_arg2) = m' ((c.tc : Thread Cert.InRIdeal.nD Cert.InRIdeal.τ).loc Cert.InRIdeal.main_arg2)
          ∧ r.2.mem ((c.tc : Thread Cert.InRIdeal.nD Cert.InRIdeal.τ).loc Cert.InRIdeal.main_arg3) = m' ((c.tc : Thread Cert.InRIdeal.nD Cert.InRIdeal.τ).loc Cert.InRIdeal.main_arg3)
          ∧ r.2.mem ((c.tc : Thread Cert.InRIdeal.nD Cert.InRIdeal.τ).loc Cert.InRIdeal.main_arg4) = m' ((c.tc : Thread Cert.InRIdeal.nD Cert.InRIdeal.τ).loc Cert.InRIdeal.main_arg4)
          ∧ r.2.mem ((c.tc : Thread Cert.InRIdeal.nD Cert.InRIdeal.τ).loc Cert.InRIdeal.main_arg5) = m' ((c.tc : Thread Cert.InRIdeal.nD Cert.InRIdeal.τ).loc Cert.InRIdeal.main_arg5)
          ∧ r.2.mem ((c.tc : Thread Cert.InRIdeal.nD Cert.InRIdeal.τ).loc Cert.InRIdeal.main_arg6) = m' ((c.tc : Thread Cert.InRIdeal.nD Cert.InRIdeal.τ).loc Cert.InRIdeal.main_arg6)
          ∧ r.2.mem ((c.tc : Thread Cert.InRIdeal.nD Cert.InRIdeal.τ).loc Cert.InRIdeal.main_arg7) = m' ((c.tc : Thread Cert.InRIdeal.nD Cert.InRIdeal.τ).loc Cert.InRIdeal.main_arg7)
          ∧ r.2.mem ((c.tc : Thread Cert.InRIdeal.nD Cert.InRIdeal.τ).loc Cert.InRIdeal.main_arg8) = m' ((c.tc : Thread Cert.InRIdeal.nD Cert.InRIdeal.τ).loc Cert.InRIdeal.main_arg8)
          ∧ r.2.mem ((c.tc : Thread Cert.InRIdeal.nD Cert.InRIdeal.τ).loc Cert.InRIdeal.main_arg9) = m' ((c.tc : Thread Cert.InRIdeal.nD Cert.InRIdeal.τ).loc Cert.InRIdeal.main_arg9))

def preserves_MixK_MixKIdeal : Prop :=
  IdealRules.named_const.Statement Cert.MixKIdeal.κ "gelu_a" .f32 0x3D372713#32 ((8943 / 200000 : ℝ) : EReal)
  ∧ IdealRules.named_const.Statement Cert.MixKIdeal.κ "gelu_a3" .f32 0x3E095D4F#32 ((26829 / 200000 : ℝ) : EReal)

def algebraic_MixKIdeal_MixRIdeal_pre_mix_finite [hMixKIdeal : Cert.MixKIdeal.Facts] [hMixRIdeal : Cert.MixRIdeal.Facts] [hPre_mix_finite : Cert.Pre_mix_finite.Facts] : Prop :=
  ∀ (m : (ℓ : Loc Cert.MixKIdeal.nD Cert.MixKIdeal.τ Cert.MixKIdeal.sig) → Buf (Elt Ideal) ℓ) (g : Dev Cert.MixKIdeal.nD → PrngReg)
    (m' : (ℓ : Loc Cert.MixRIdeal.nD Cert.MixRIdeal.τ Cert.MixRIdeal.sig) → Buf (Elt Ideal) ℓ) (g' : Dev Cert.MixRIdeal.nD → PrngReg), Pre_MixKIdeal_mix_finite m →
    (∀ c : Dev Cert.MixKIdeal.nD,
      m' ((c.tc : Thread Cert.MixRIdeal.nD Cert.MixRIdeal.τ).loc Cert.MixRIdeal.main_arg0) = m ((c.tc : Thread Cert.MixKIdeal.nD Cert.MixKIdeal.τ).loc Cert.MixKIdeal.main_arg0)
      ∧ m' ((c.tc : Thread Cert.MixRIdeal.nD Cert.MixRIdeal.τ).loc Cert.MixRIdeal.main_arg1) = m ((c.tc : Thread Cert.MixKIdeal.nD Cert.MixKIdeal.τ).loc Cert.MixKIdeal.main_arg1)
      ∧ m' ((c.tc : Thread Cert.MixRIdeal.nD Cert.MixRIdeal.τ).loc Cert.MixRIdeal.main_arg2) = m ((c.tc : Thread Cert.MixKIdeal.nD Cert.MixKIdeal.τ).loc Cert.MixKIdeal.main_arg2)
      ∧ m' ((c.tc : Thread Cert.MixRIdeal.nD Cert.MixRIdeal.τ).loc Cert.MixRIdeal.main_arg3) = m ((c.tc : Thread Cert.MixKIdeal.nD Cert.MixKIdeal.τ).loc Cert.MixKIdeal.main_arg3)
      ∧ m' ((c.tc : Thread Cert.MixRIdeal.nD Cert.MixRIdeal.τ).loc Cert.MixRIdeal.main_arg4) = m ((c.tc : Thread Cert.MixKIdeal.nD Cert.MixKIdeal.τ).loc Cert.MixKIdeal.main_arg4)
      ∧ m' ((c.tc : Thread Cert.MixRIdeal.nD Cert.MixRIdeal.τ).loc Cert.MixRIdeal.main_arg5) = m ((c.tc : Thread Cert.MixKIdeal.nD Cert.MixKIdeal.τ).loc Cert.MixKIdeal.main_arg5)
      ∧ m' ((c.tc : Thread Cert.MixRIdeal.nD Cert.MixRIdeal.τ).loc Cert.MixRIdeal.main_arg6) = m ((c.tc : Thread Cert.MixKIdeal.nD Cert.MixKIdeal.τ).loc Cert.MixKIdeal.main_arg6)
      ∧ m' ((c.tc : Thread Cert.MixRIdeal.nD Cert.MixRIdeal.τ).loc Cert.MixRIdeal.main_arg7) = m ((c.tc : Thread Cert.MixKIdeal.nD Cert.MixKIdeal.τ).loc Cert.MixKIdeal.main_arg7)) →
    ∃ (v0 : (c : Dev Cert.MixKIdeal.nD) → Buf (Elt Ideal) ((c.tc : Thread Cert.MixKIdeal.nD Cert.MixKIdeal.τ).loc Cert.MixKIdeal.main_v5_0)) (v1 : (c : Dev Cert.MixKIdeal.nD) → Buf (Elt Ideal) ((c.tc : Thread Cert.MixKIdeal.nD Cert.MixKIdeal.τ).loc Cert.MixKIdeal.main_v5_1)) (v2 : (c : Dev Cert.MixKIdeal.nD) → Buf (Elt Ideal) ((c.tc : Thread Cert.MixKIdeal.nD Cert.MixKIdeal.τ).loc Cert.MixKIdeal.main_v5_2)) (v3 : (c : Dev Cert.MixKIdeal.nD) → Buf (Elt Ideal) ((c.tc : Thread Cert.MixKIdeal.nD Cert.MixKIdeal.τ).loc Cert.MixKIdeal.main_v5_3)) (v4 : (c : Dev Cert.MixKIdeal.nD) → Buf (Elt Ideal) ((c.tc : Thread Cert.MixKIdeal.nD Cert.MixKIdeal.τ).loc Cert.MixKIdeal.main_v5_4)) (v5 : (c : Dev Cert.MixKIdeal.nD) → Buf (Elt Ideal) ((c.tc : Thread Cert.MixKIdeal.nD Cert.MixKIdeal.τ).loc Cert.MixKIdeal.main_v5_5)),
      θ_run (Cert.MixKIdeal.defs (F := Ideal)) (onTc (τ := Cert.MixKIdeal.τ) (Cert.MixKIdeal.main (F := Ideal))) ⟨m, fun _ => 0, g⟩ (fun r => ∀ c : Dev Cert.MixKIdeal.nD,
          r.2.mem ((c.tc : Thread Cert.MixKIdeal.nD Cert.MixKIdeal.τ).loc Cert.MixKIdeal.main_v5_0) = v0 c
          ∧ r.2.mem ((c.tc : Thread Cert.MixKIdeal.nD Cert.MixKIdeal.τ).loc Cert.MixKIdeal.main_v5_1) = v1 c
          ∧ r.2.mem ((c.tc : Thread Cert.MixKIdeal.nD Cert.MixKIdeal.τ).loc Cert.MixKIdeal.main_v5_2) = v2 c
          ∧ r.2.mem ((c.tc : Thread Cert.MixKIdeal.nD Cert.MixKIdeal.τ).loc Cert.MixKIdeal.main_v5_3) = v3 c
          ∧ r.2.mem ((c.tc : Thread Cert.MixKIdeal.nD Cert.MixKIdeal.τ).loc Cert.MixKIdeal.main_v5_4) = v4 c
          ∧ r.2.mem ((c.tc : Thread Cert.MixKIdeal.nD Cert.MixKIdeal.τ).loc Cert.MixKIdeal.main_v5_5) = v5 c
          ∧ r.2.mem ((c.tc : Thread Cert.MixKIdeal.nD Cert.MixKIdeal.τ).loc Cert.MixKIdeal.main_arg0) = m ((c.tc : Thread Cert.MixKIdeal.nD Cert.MixKIdeal.τ).loc Cert.MixKIdeal.main_arg0)
          ∧ r.2.mem ((c.tc : Thread Cert.MixKIdeal.nD Cert.MixKIdeal.τ).loc Cert.MixKIdeal.main_arg1) = m ((c.tc : Thread Cert.MixKIdeal.nD Cert.MixKIdeal.τ).loc Cert.MixKIdeal.main_arg1)
          ∧ r.2.mem ((c.tc : Thread Cert.MixKIdeal.nD Cert.MixKIdeal.τ).loc Cert.MixKIdeal.main_arg2) = m ((c.tc : Thread Cert.MixKIdeal.nD Cert.MixKIdeal.τ).loc Cert.MixKIdeal.main_arg2)
          ∧ r.2.mem ((c.tc : Thread Cert.MixKIdeal.nD Cert.MixKIdeal.τ).loc Cert.MixKIdeal.main_arg3) = m ((c.tc : Thread Cert.MixKIdeal.nD Cert.MixKIdeal.τ).loc Cert.MixKIdeal.main_arg3)
          ∧ r.2.mem ((c.tc : Thread Cert.MixKIdeal.nD Cert.MixKIdeal.τ).loc Cert.MixKIdeal.main_arg4) = m ((c.tc : Thread Cert.MixKIdeal.nD Cert.MixKIdeal.τ).loc Cert.MixKIdeal.main_arg4)
          ∧ r.2.mem ((c.tc : Thread Cert.MixKIdeal.nD Cert.MixKIdeal.τ).loc Cert.MixKIdeal.main_arg5) = m ((c.tc : Thread Cert.MixKIdeal.nD Cert.MixKIdeal.τ).loc Cert.MixKIdeal.main_arg5)
          ∧ r.2.mem ((c.tc : Thread Cert.MixKIdeal.nD Cert.MixKIdeal.τ).loc Cert.MixKIdeal.main_arg6) = m ((c.tc : Thread Cert.MixKIdeal.nD Cert.MixKIdeal.τ).loc Cert.MixKIdeal.main_arg6)
          ∧ r.2.mem ((c.tc : Thread Cert.MixKIdeal.nD Cert.MixKIdeal.τ).loc Cert.MixKIdeal.main_arg7) = m ((c.tc : Thread Cert.MixKIdeal.nD Cert.MixKIdeal.τ).loc Cert.MixKIdeal.main_arg7))
      ∧ θ_run (Cert.MixRIdeal.defs (F := Ideal)) (onTc (τ := Cert.MixRIdeal.τ) (Cert.MixRIdeal.main (F := Ideal))) ⟨m', fun _ => 0, g'⟩ (fun r => ∀ c : Dev Cert.MixRIdeal.nD,
          r.2.mem ((c.tc : Thread Cert.MixRIdeal.nD Cert.MixRIdeal.τ).loc Cert.MixRIdeal.main_v3_0) = v0 c
          ∧ r.2.mem ((c.tc : Thread Cert.MixRIdeal.nD Cert.MixRIdeal.τ).loc Cert.MixRIdeal.main_v3_1) = v1 c
          ∧ r.2.mem ((c.tc : Thread Cert.MixRIdeal.nD Cert.MixRIdeal.τ).loc Cert.MixRIdeal.main_v3_2) = v2 c
          ∧ r.2.mem ((c.tc : Thread Cert.MixRIdeal.nD Cert.MixRIdeal.τ).loc Cert.MixRIdeal.main_v3_3) = v3 c
          ∧ r.2.mem ((c.tc : Thread Cert.MixRIdeal.nD Cert.MixRIdeal.τ).loc Cert.MixRIdeal.main_v3_4) = v4 c
          ∧ r.2.mem ((c.tc : Thread Cert.MixRIdeal.nD Cert.MixRIdeal.τ).loc Cert.MixRIdeal.main_v3_5) = v5 c
          ∧ r.2.mem ((c.tc : Thread Cert.MixRIdeal.nD Cert.MixRIdeal.τ).loc Cert.MixRIdeal.main_arg0) = m' ((c.tc : Thread Cert.MixRIdeal.nD Cert.MixRIdeal.τ).loc Cert.MixRIdeal.main_arg0)
          ∧ r.2.mem ((c.tc : Thread Cert.MixRIdeal.nD Cert.MixRIdeal.τ).loc Cert.MixRIdeal.main_arg1) = m' ((c.tc : Thread Cert.MixRIdeal.nD Cert.MixRIdeal.τ).loc Cert.MixRIdeal.main_arg1)
          ∧ r.2.mem ((c.tc : Thread Cert.MixRIdeal.nD Cert.MixRIdeal.τ).loc Cert.MixRIdeal.main_arg2) = m' ((c.tc : Thread Cert.MixRIdeal.nD Cert.MixRIdeal.τ).loc Cert.MixRIdeal.main_arg2)
          ∧ r.2.mem ((c.tc : Thread Cert.MixRIdeal.nD Cert.MixRIdeal.τ).loc Cert.MixRIdeal.main_arg3) = m' ((c.tc : Thread Cert.MixRIdeal.nD Cert.MixRIdeal.τ).loc Cert.MixRIdeal.main_arg3)
          ∧ r.2.mem ((c.tc : Thread Cert.MixRIdeal.nD Cert.MixRIdeal.τ).loc Cert.MixRIdeal.main_arg4) = m' ((c.tc : Thread Cert.MixRIdeal.nD Cert.MixRIdeal.τ).loc Cert.MixRIdeal.main_arg4)
          ∧ r.2.mem ((c.tc : Thread Cert.MixRIdeal.nD Cert.MixRIdeal.τ).loc Cert.MixRIdeal.main_arg5) = m' ((c.tc : Thread Cert.MixRIdeal.nD Cert.MixRIdeal.τ).loc Cert.MixRIdeal.main_arg5)
          ∧ r.2.mem ((c.tc : Thread Cert.MixRIdeal.nD Cert.MixRIdeal.τ).loc Cert.MixRIdeal.main_arg6) = m' ((c.tc : Thread Cert.MixRIdeal.nD Cert.MixRIdeal.τ).loc Cert.MixRIdeal.main_arg6)
          ∧ r.2.mem ((c.tc : Thread Cert.MixRIdeal.nD Cert.MixRIdeal.τ).loc Cert.MixRIdeal.main_arg7) = m' ((c.tc : Thread Cert.MixRIdeal.nD Cert.MixRIdeal.τ).loc Cert.MixRIdeal.main_arg7))

def preserves_GateK_GateKIdeal : Prop :=
  True

def algebraic_GateKIdeal_GateRIdeal [hGateKIdeal : Cert.GateKIdeal.Facts] [hGateRIdeal : Cert.GateRIdeal.Facts] : Prop :=
  ∀ (m : (ℓ : Loc Cert.GateKIdeal.nD Cert.GateKIdeal.τ Cert.GateKIdeal.sig) → Buf (Elt Ideal) ℓ) (g : Dev Cert.GateKIdeal.nD → PrngReg)
    (m' : (ℓ : Loc Cert.GateRIdeal.nD Cert.GateRIdeal.τ Cert.GateRIdeal.sig) → Buf (Elt Ideal) ℓ) (g' : Dev Cert.GateRIdeal.nD → PrngReg), Pre_GateKIdeal m →
    (∀ c : Dev Cert.GateKIdeal.nD,
      m' ((c.tc : Thread Cert.GateRIdeal.nD Cert.GateRIdeal.τ).loc Cert.GateRIdeal.main_arg0) = m ((c.tc : Thread Cert.GateKIdeal.nD Cert.GateKIdeal.τ).loc Cert.GateKIdeal.main_arg0)
      ∧ m' ((c.tc : Thread Cert.GateRIdeal.nD Cert.GateRIdeal.τ).loc Cert.GateRIdeal.main_arg1) = m ((c.tc : Thread Cert.GateKIdeal.nD Cert.GateKIdeal.τ).loc Cert.GateKIdeal.main_arg1)) →
    ∃ (v0 : (c : Dev Cert.GateKIdeal.nD) → Buf (Elt Ideal) ((c.tc : Thread Cert.GateKIdeal.nD Cert.GateKIdeal.τ).loc Cert.GateKIdeal.main_v1)),
      θ_run (Cert.GateKIdeal.defs (F := Ideal)) (onTc (τ := Cert.GateKIdeal.τ) (Cert.GateKIdeal.main (F := Ideal))) ⟨m, fun _ => 0, g⟩ (fun r => ∀ c : Dev Cert.GateKIdeal.nD,
          r.2.mem ((c.tc : Thread Cert.GateKIdeal.nD Cert.GateKIdeal.τ).loc Cert.GateKIdeal.main_v1) = v0 c
          ∧ r.2.mem ((c.tc : Thread Cert.GateKIdeal.nD Cert.GateKIdeal.τ).loc Cert.GateKIdeal.main_arg0) = m ((c.tc : Thread Cert.GateKIdeal.nD Cert.GateKIdeal.τ).loc Cert.GateKIdeal.main_arg0)
          ∧ r.2.mem ((c.tc : Thread Cert.GateKIdeal.nD Cert.GateKIdeal.τ).loc Cert.GateKIdeal.main_arg1) = m ((c.tc : Thread Cert.GateKIdeal.nD Cert.GateKIdeal.τ).loc Cert.GateKIdeal.main_arg1))
      ∧ θ_run (Cert.GateRIdeal.defs (F := Ideal)) (onTc (τ := Cert.GateRIdeal.τ) (Cert.GateRIdeal.main (F := Ideal))) ⟨m', fun _ => 0, g'⟩ (fun r => ∀ c : Dev Cert.GateRIdeal.nD,
          r.2.mem ((c.tc : Thread Cert.GateRIdeal.nD Cert.GateRIdeal.τ).loc Cert.GateRIdeal.main_v18) = v0 c
          ∧ r.2.mem ((c.tc : Thread Cert.GateRIdeal.nD Cert.GateRIdeal.τ).loc Cert.GateRIdeal.main_arg0) = m' ((c.tc : Thread Cert.GateRIdeal.nD Cert.GateRIdeal.τ).loc Cert.GateRIdeal.main_arg0)
          ∧ r.2.mem ((c.tc : Thread Cert.GateRIdeal.nD Cert.GateRIdeal.τ).loc Cert.GateRIdeal.main_arg1) = m' ((c.tc : Thread Cert.GateRIdeal.nD Cert.GateRIdeal.τ).loc Cert.GateRIdeal.main_arg1))

def preserves_AttnK_AttnKIdeal : Prop :=
  IdealRules.named_const.Statement Cert.AttnKIdeal.κ "mask" .f32 0xF149F2CA#32 ⊥

def algebraic_AttnKIdeal_AttnRIdeal_pre_attn_finite [hAttnKIdeal : Cert.AttnKIdeal.Facts] [hAttnRIdeal : Cert.AttnRIdeal.Facts] [hPre_attn_finite : Cert.Pre_attn_finite.Facts] : Prop :=
  ∀ (m : (ℓ : Loc Cert.AttnKIdeal.nD Cert.AttnKIdeal.τ Cert.AttnKIdeal.sig) → Buf (Elt Ideal) ℓ) (g : Dev Cert.AttnKIdeal.nD → PrngReg)
    (m' : (ℓ : Loc Cert.AttnRIdeal.nD Cert.AttnRIdeal.τ Cert.AttnRIdeal.sig) → Buf (Elt Ideal) ℓ) (g' : Dev Cert.AttnRIdeal.nD → PrngReg), Pre_AttnKIdeal_attn_finite m →
    (∀ c : Dev Cert.AttnKIdeal.nD,
      m' ((c.tc : Thread Cert.AttnRIdeal.nD Cert.AttnRIdeal.τ).loc Cert.AttnRIdeal.main_arg0) = m ((c.tc : Thread Cert.AttnKIdeal.nD Cert.AttnKIdeal.τ).loc Cert.AttnKIdeal.main_arg0)
      ∧ m' ((c.tc : Thread Cert.AttnRIdeal.nD Cert.AttnRIdeal.τ).loc Cert.AttnRIdeal.main_arg1) = m ((c.tc : Thread Cert.AttnKIdeal.nD Cert.AttnKIdeal.τ).loc Cert.AttnKIdeal.main_arg1)
      ∧ m' ((c.tc : Thread Cert.AttnRIdeal.nD Cert.AttnRIdeal.τ).loc Cert.AttnRIdeal.main_arg2) = m ((c.tc : Thread Cert.AttnKIdeal.nD Cert.AttnKIdeal.τ).loc Cert.AttnKIdeal.main_arg2)
      ∧ m' ((c.tc : Thread Cert.AttnRIdeal.nD Cert.AttnRIdeal.τ).loc Cert.AttnRIdeal.main_arg3) = m ((c.tc : Thread Cert.AttnKIdeal.nD Cert.AttnKIdeal.τ).loc Cert.AttnKIdeal.main_arg3)
      ∧ m' ((c.tc : Thread Cert.AttnRIdeal.nD Cert.AttnRIdeal.τ).loc Cert.AttnRIdeal.main_arg4) = m ((c.tc : Thread Cert.AttnKIdeal.nD Cert.AttnKIdeal.τ).loc Cert.AttnKIdeal.main_arg4)) →
    ∃ (v0 : (c : Dev Cert.AttnKIdeal.nD) → Buf (Elt Ideal) ((c.tc : Thread Cert.AttnKIdeal.nD Cert.AttnKIdeal.τ).loc Cert.AttnKIdeal.main_v102_0)) (v1 : (c : Dev Cert.AttnKIdeal.nD) → Buf (Elt Ideal) ((c.tc : Thread Cert.AttnKIdeal.nD Cert.AttnKIdeal.τ).loc Cert.AttnKIdeal.main_v102_1)) (v2 : (c : Dev Cert.AttnKIdeal.nD) → Buf (Elt Ideal) ((c.tc : Thread Cert.AttnKIdeal.nD Cert.AttnKIdeal.τ).loc Cert.AttnKIdeal.main_v102_2)),
      θ_run (Cert.AttnKIdeal.defs (F := Ideal)) (onTc (τ := Cert.AttnKIdeal.τ) (Cert.AttnKIdeal.main (F := Ideal))) ⟨m, fun _ => 0, g⟩ (fun r => ∀ c : Dev Cert.AttnKIdeal.nD,
          r.2.mem ((c.tc : Thread Cert.AttnKIdeal.nD Cert.AttnKIdeal.τ).loc Cert.AttnKIdeal.main_v102_0) = v0 c
          ∧ r.2.mem ((c.tc : Thread Cert.AttnKIdeal.nD Cert.AttnKIdeal.τ).loc Cert.AttnKIdeal.main_v102_1) = v1 c
          ∧ r.2.mem ((c.tc : Thread Cert.AttnKIdeal.nD Cert.AttnKIdeal.τ).loc Cert.AttnKIdeal.main_v102_2) = v2 c
          ∧ r.2.mem ((c.tc : Thread Cert.AttnKIdeal.nD Cert.AttnKIdeal.τ).loc Cert.AttnKIdeal.main_arg0) = m ((c.tc : Thread Cert.AttnKIdeal.nD Cert.AttnKIdeal.τ).loc Cert.AttnKIdeal.main_arg0)
          ∧ r.2.mem ((c.tc : Thread Cert.AttnKIdeal.nD Cert.AttnKIdeal.τ).loc Cert.AttnKIdeal.main_arg1) = m ((c.tc : Thread Cert.AttnKIdeal.nD Cert.AttnKIdeal.τ).loc Cert.AttnKIdeal.main_arg1)
          ∧ r.2.mem ((c.tc : Thread Cert.AttnKIdeal.nD Cert.AttnKIdeal.τ).loc Cert.AttnKIdeal.main_arg2) = m ((c.tc : Thread Cert.AttnKIdeal.nD Cert.AttnKIdeal.τ).loc Cert.AttnKIdeal.main_arg2)
          ∧ r.2.mem ((c.tc : Thread Cert.AttnKIdeal.nD Cert.AttnKIdeal.τ).loc Cert.AttnKIdeal.main_arg3) = m ((c.tc : Thread Cert.AttnKIdeal.nD Cert.AttnKIdeal.τ).loc Cert.AttnKIdeal.main_arg3)
          ∧ r.2.mem ((c.tc : Thread Cert.AttnKIdeal.nD Cert.AttnKIdeal.τ).loc Cert.AttnKIdeal.main_arg4) = m ((c.tc : Thread Cert.AttnKIdeal.nD Cert.AttnKIdeal.τ).loc Cert.AttnKIdeal.main_arg4))
      ∧ θ_run (Cert.AttnRIdeal.defs (F := Ideal)) (onTc (τ := Cert.AttnRIdeal.τ) (Cert.AttnRIdeal.main (F := Ideal))) ⟨m', fun _ => 0, g'⟩ (fun r => ∀ c : Dev Cert.AttnRIdeal.nD,
          r.2.mem ((c.tc : Thread Cert.AttnRIdeal.nD Cert.AttnRIdeal.τ).loc Cert.AttnRIdeal.main_v205) = v0 c
          ∧ r.2.mem ((c.tc : Thread Cert.AttnRIdeal.nD Cert.AttnRIdeal.τ).loc Cert.AttnRIdeal.main_v206) = v1 c
          ∧ r.2.mem ((c.tc : Thread Cert.AttnRIdeal.nD Cert.AttnRIdeal.τ).loc Cert.AttnRIdeal.main_v207) = v2 c
          ∧ r.2.mem ((c.tc : Thread Cert.AttnRIdeal.nD Cert.AttnRIdeal.τ).loc Cert.AttnRIdeal.main_arg0) = m' ((c.tc : Thread Cert.AttnRIdeal.nD Cert.AttnRIdeal.τ).loc Cert.AttnRIdeal.main_arg0)
          ∧ r.2.mem ((c.tc : Thread Cert.AttnRIdeal.nD Cert.AttnRIdeal.τ).loc Cert.AttnRIdeal.main_arg1) = m' ((c.tc : Thread Cert.AttnRIdeal.nD Cert.AttnRIdeal.τ).loc Cert.AttnRIdeal.main_arg1)
          ∧ r.2.mem ((c.tc : Thread Cert.AttnRIdeal.nD Cert.AttnRIdeal.τ).loc Cert.AttnRIdeal.main_arg2) = m' ((c.tc : Thread Cert.AttnRIdeal.nD Cert.AttnRIdeal.τ).loc Cert.AttnRIdeal.main_arg2)
          ∧ r.2.mem ((c.tc : Thread Cert.AttnRIdeal.nD Cert.AttnRIdeal.τ).loc Cert.AttnRIdeal.main_arg3) = m' ((c.tc : Thread Cert.AttnRIdeal.nD Cert.AttnRIdeal.τ).loc Cert.AttnRIdeal.main_arg3)
          ∧ r.2.mem ((c.tc : Thread Cert.AttnRIdeal.nD Cert.AttnRIdeal.τ).loc Cert.AttnRIdeal.main_arg4) = m' ((c.tc : Thread Cert.AttnRIdeal.nD Cert.AttnRIdeal.τ).loc Cert.AttnRIdeal.main_arg4))

def preserves_DiscK_DiscKIdeal : Prop :=
  True

def algebraic_DiscKIdeal_DiscRIdeal [hDiscKIdeal : Cert.DiscKIdeal.Facts] [hDiscRIdeal : Cert.DiscRIdeal.Facts] : Prop :=
  ∀ (m : (ℓ : Loc Cert.DiscKIdeal.nD Cert.DiscKIdeal.τ Cert.DiscKIdeal.sig) → Buf (Elt Ideal) ℓ) (g : Dev Cert.DiscKIdeal.nD → PrngReg)
    (m' : (ℓ : Loc Cert.DiscRIdeal.nD Cert.DiscRIdeal.τ Cert.DiscRIdeal.sig) → Buf (Elt Ideal) ℓ) (g' : Dev Cert.DiscRIdeal.nD → PrngReg), Pre_DiscKIdeal m →
    (∀ c : Dev Cert.DiscKIdeal.nD,
      m' ((c.tc : Thread Cert.DiscRIdeal.nD Cert.DiscRIdeal.τ).loc Cert.DiscRIdeal.main_arg0) = m ((c.tc : Thread Cert.DiscKIdeal.nD Cert.DiscKIdeal.τ).loc Cert.DiscKIdeal.main_arg0)
      ∧ m' ((c.tc : Thread Cert.DiscRIdeal.nD Cert.DiscRIdeal.τ).loc Cert.DiscRIdeal.main_arg1) = m ((c.tc : Thread Cert.DiscKIdeal.nD Cert.DiscKIdeal.τ).loc Cert.DiscKIdeal.main_arg1)
      ∧ m' ((c.tc : Thread Cert.DiscRIdeal.nD Cert.DiscRIdeal.τ).loc Cert.DiscRIdeal.main_arg2) = m ((c.tc : Thread Cert.DiscKIdeal.nD Cert.DiscKIdeal.τ).loc Cert.DiscKIdeal.main_arg2)
      ∧ m' ((c.tc : Thread Cert.DiscRIdeal.nD Cert.DiscRIdeal.τ).loc Cert.DiscRIdeal.main_arg3) = m ((c.tc : Thread Cert.DiscKIdeal.nD Cert.DiscKIdeal.τ).loc Cert.DiscKIdeal.main_arg3)
      ∧ m' ((c.tc : Thread Cert.DiscRIdeal.nD Cert.DiscRIdeal.τ).loc Cert.DiscRIdeal.main_arg4) = m ((c.tc : Thread Cert.DiscKIdeal.nD Cert.DiscKIdeal.τ).loc Cert.DiscKIdeal.main_arg4)
      ∧ m' ((c.tc : Thread Cert.DiscRIdeal.nD Cert.DiscRIdeal.τ).loc Cert.DiscRIdeal.main_arg5) = m ((c.tc : Thread Cert.DiscKIdeal.nD Cert.DiscKIdeal.τ).loc Cert.DiscKIdeal.main_arg5)
      ∧ m' ((c.tc : Thread Cert.DiscRIdeal.nD Cert.DiscRIdeal.τ).loc Cert.DiscRIdeal.main_arg6) = m ((c.tc : Thread Cert.DiscKIdeal.nD Cert.DiscKIdeal.τ).loc Cert.DiscKIdeal.main_arg6)
      ∧ m' ((c.tc : Thread Cert.DiscRIdeal.nD Cert.DiscRIdeal.τ).loc Cert.DiscRIdeal.main_arg7) = m ((c.tc : Thread Cert.DiscKIdeal.nD Cert.DiscKIdeal.τ).loc Cert.DiscKIdeal.main_arg7)
      ∧ m' ((c.tc : Thread Cert.DiscRIdeal.nD Cert.DiscRIdeal.τ).loc Cert.DiscRIdeal.main_arg8) = m ((c.tc : Thread Cert.DiscKIdeal.nD Cert.DiscKIdeal.τ).loc Cert.DiscKIdeal.main_arg8)) →
    ∃ (v0 : (c : Dev Cert.DiscKIdeal.nD) → Buf (Elt Ideal) ((c.tc : Thread Cert.DiscKIdeal.nD Cert.DiscKIdeal.τ).loc Cert.DiscKIdeal.main_v9_0)) (v1 : (c : Dev Cert.DiscKIdeal.nD) → Buf (Elt Ideal) ((c.tc : Thread Cert.DiscKIdeal.nD Cert.DiscKIdeal.τ).loc Cert.DiscKIdeal.main_v9_1)) (v2 : (c : Dev Cert.DiscKIdeal.nD) → Buf (Elt Ideal) ((c.tc : Thread Cert.DiscKIdeal.nD Cert.DiscKIdeal.τ).loc Cert.DiscKIdeal.main_v9_2)) (v3 : (c : Dev Cert.DiscKIdeal.nD) → Buf (Elt Ideal) ((c.tc : Thread Cert.DiscKIdeal.nD Cert.DiscKIdeal.τ).loc Cert.DiscKIdeal.main_v9_3)) (v4 : (c : Dev Cert.DiscKIdeal.nD) → Buf (Elt Ideal) ((c.tc : Thread Cert.DiscKIdeal.nD Cert.DiscKIdeal.τ).loc Cert.DiscKIdeal.main_v9_4)),
      θ_run (Cert.DiscKIdeal.defs (F := Ideal)) (onTc (τ := Cert.DiscKIdeal.τ) (Cert.DiscKIdeal.main (F := Ideal))) ⟨m, fun _ => 0, g⟩ (fun r => ∀ c : Dev Cert.DiscKIdeal.nD,
          r.2.mem ((c.tc : Thread Cert.DiscKIdeal.nD Cert.DiscKIdeal.τ).loc Cert.DiscKIdeal.main_v9_0) = v0 c
          ∧ r.2.mem ((c.tc : Thread Cert.DiscKIdeal.nD Cert.DiscKIdeal.τ).loc Cert.DiscKIdeal.main_v9_1) = v1 c
          ∧ r.2.mem ((c.tc : Thread Cert.DiscKIdeal.nD Cert.DiscKIdeal.τ).loc Cert.DiscKIdeal.main_v9_2) = v2 c
          ∧ r.2.mem ((c.tc : Thread Cert.DiscKIdeal.nD Cert.DiscKIdeal.τ).loc Cert.DiscKIdeal.main_v9_3) = v3 c
          ∧ r.2.mem ((c.tc : Thread Cert.DiscKIdeal.nD Cert.DiscKIdeal.τ).loc Cert.DiscKIdeal.main_v9_4) = v4 c
          ∧ r.2.mem ((c.tc : Thread Cert.DiscKIdeal.nD Cert.DiscKIdeal.τ).loc Cert.DiscKIdeal.main_arg0) = m ((c.tc : Thread Cert.DiscKIdeal.nD Cert.DiscKIdeal.τ).loc Cert.DiscKIdeal.main_arg0)
          ∧ r.2.mem ((c.tc : Thread Cert.DiscKIdeal.nD Cert.DiscKIdeal.τ).loc Cert.DiscKIdeal.main_arg1) = m ((c.tc : Thread Cert.DiscKIdeal.nD Cert.DiscKIdeal.τ).loc Cert.DiscKIdeal.main_arg1)
          ∧ r.2.mem ((c.tc : Thread Cert.DiscKIdeal.nD Cert.DiscKIdeal.τ).loc Cert.DiscKIdeal.main_arg2) = m ((c.tc : Thread Cert.DiscKIdeal.nD Cert.DiscKIdeal.τ).loc Cert.DiscKIdeal.main_arg2)
          ∧ r.2.mem ((c.tc : Thread Cert.DiscKIdeal.nD Cert.DiscKIdeal.τ).loc Cert.DiscKIdeal.main_arg3) = m ((c.tc : Thread Cert.DiscKIdeal.nD Cert.DiscKIdeal.τ).loc Cert.DiscKIdeal.main_arg3)
          ∧ r.2.mem ((c.tc : Thread Cert.DiscKIdeal.nD Cert.DiscKIdeal.τ).loc Cert.DiscKIdeal.main_arg4) = m ((c.tc : Thread Cert.DiscKIdeal.nD Cert.DiscKIdeal.τ).loc Cert.DiscKIdeal.main_arg4)
          ∧ r.2.mem ((c.tc : Thread Cert.DiscKIdeal.nD Cert.DiscKIdeal.τ).loc Cert.DiscKIdeal.main_arg5) = m ((c.tc : Thread Cert.DiscKIdeal.nD Cert.DiscKIdeal.τ).loc Cert.DiscKIdeal.main_arg5)
          ∧ r.2.mem ((c.tc : Thread Cert.DiscKIdeal.nD Cert.DiscKIdeal.τ).loc Cert.DiscKIdeal.main_arg6) = m ((c.tc : Thread Cert.DiscKIdeal.nD Cert.DiscKIdeal.τ).loc Cert.DiscKIdeal.main_arg6)
          ∧ r.2.mem ((c.tc : Thread Cert.DiscKIdeal.nD Cert.DiscKIdeal.τ).loc Cert.DiscKIdeal.main_arg7) = m ((c.tc : Thread Cert.DiscKIdeal.nD Cert.DiscKIdeal.τ).loc Cert.DiscKIdeal.main_arg7)
          ∧ r.2.mem ((c.tc : Thread Cert.DiscKIdeal.nD Cert.DiscKIdeal.τ).loc Cert.DiscKIdeal.main_arg8) = m ((c.tc : Thread Cert.DiscKIdeal.nD Cert.DiscKIdeal.τ).loc Cert.DiscKIdeal.main_arg8))
      ∧ θ_run (Cert.DiscRIdeal.defs (F := Ideal)) (onTc (τ := Cert.DiscRIdeal.τ) (Cert.DiscRIdeal.main (F := Ideal))) ⟨m', fun _ => 0, g'⟩ (fun r => ∀ c : Dev Cert.DiscRIdeal.nD,
          r.2.mem ((c.tc : Thread Cert.DiscRIdeal.nD Cert.DiscRIdeal.τ).loc Cert.DiscRIdeal.main_v135) = v0 c
          ∧ r.2.mem ((c.tc : Thread Cert.DiscRIdeal.nD Cert.DiscRIdeal.τ).loc Cert.DiscRIdeal.main_v136) = v1 c
          ∧ r.2.mem ((c.tc : Thread Cert.DiscRIdeal.nD Cert.DiscRIdeal.τ).loc Cert.DiscRIdeal.main_v137) = v2 c
          ∧ r.2.mem ((c.tc : Thread Cert.DiscRIdeal.nD Cert.DiscRIdeal.τ).loc Cert.DiscRIdeal.main_v138) = v3 c
          ∧ r.2.mem ((c.tc : Thread Cert.DiscRIdeal.nD Cert.DiscRIdeal.τ).loc Cert.DiscRIdeal.main_v139) = v4 c
          ∧ r.2.mem ((c.tc : Thread Cert.DiscRIdeal.nD Cert.DiscRIdeal.τ).loc Cert.DiscRIdeal.main_arg0) = m' ((c.tc : Thread Cert.DiscRIdeal.nD Cert.DiscRIdeal.τ).loc Cert.DiscRIdeal.main_arg0)
          ∧ r.2.mem ((c.tc : Thread Cert.DiscRIdeal.nD Cert.DiscRIdeal.τ).loc Cert.DiscRIdeal.main_arg1) = m' ((c.tc : Thread Cert.DiscRIdeal.nD Cert.DiscRIdeal.τ).loc Cert.DiscRIdeal.main_arg1)
          ∧ r.2.mem ((c.tc : Thread Cert.DiscRIdeal.nD Cert.DiscRIdeal.τ).loc Cert.DiscRIdeal.main_arg2) = m' ((c.tc : Thread Cert.DiscRIdeal.nD Cert.DiscRIdeal.τ).loc Cert.DiscRIdeal.main_arg2)
          ∧ r.2.mem ((c.tc : Thread Cert.DiscRIdeal.nD Cert.DiscRIdeal.τ).loc Cert.DiscRIdeal.main_arg3) = m' ((c.tc : Thread Cert.DiscRIdeal.nD Cert.DiscRIdeal.τ).loc Cert.DiscRIdeal.main_arg3)
          ∧ r.2.mem ((c.tc : Thread Cert.DiscRIdeal.nD Cert.DiscRIdeal.τ).loc Cert.DiscRIdeal.main_arg4) = m' ((c.tc : Thread Cert.DiscRIdeal.nD Cert.DiscRIdeal.τ).loc Cert.DiscRIdeal.main_arg4)
          ∧ r.2.mem ((c.tc : Thread Cert.DiscRIdeal.nD Cert.DiscRIdeal.τ).loc Cert.DiscRIdeal.main_arg5) = m' ((c.tc : Thread Cert.DiscRIdeal.nD Cert.DiscRIdeal.τ).loc Cert.DiscRIdeal.main_arg5)
          ∧ r.2.mem ((c.tc : Thread Cert.DiscRIdeal.nD Cert.DiscRIdeal.τ).loc Cert.DiscRIdeal.main_arg6) = m' ((c.tc : Thread Cert.DiscRIdeal.nD Cert.DiscRIdeal.τ).loc Cert.DiscRIdeal.main_arg6)
          ∧ r.2.mem ((c.tc : Thread Cert.DiscRIdeal.nD Cert.DiscRIdeal.τ).loc Cert.DiscRIdeal.main_arg7) = m' ((c.tc : Thread Cert.DiscRIdeal.nD Cert.DiscRIdeal.τ).loc Cert.DiscRIdeal.main_arg7)
          ∧ r.2.mem ((c.tc : Thread Cert.DiscRIdeal.nD Cert.DiscRIdeal.τ).loc Cert.DiscRIdeal.main_arg8) = m' ((c.tc : Thread Cert.DiscRIdeal.nD Cert.DiscRIdeal.τ).loc Cert.DiscRIdeal.main_arg8))

def preserves_AttendK_AttendKIdeal : Prop :=
  IdealRules.named_const.Statement Cert.AttendKIdeal.κ "mask" .f32 0xF149F2CA#32 ⊥

def algebraic_AttendKIdeal_AttendRIdeal_pre_attend_finite [hAttendKIdeal : Cert.AttendKIdeal.Facts] [hAttendRIdeal : Cert.AttendRIdeal.Facts] [hPre_attend_finite : Cert.Pre_attend_finite.Facts] : Prop :=
  ∀ (m : (ℓ : Loc Cert.AttendKIdeal.nD Cert.AttendKIdeal.τ Cert.AttendKIdeal.sig) → Buf (Elt Ideal) ℓ) (g : Dev Cert.AttendKIdeal.nD → PrngReg)
    (m' : (ℓ : Loc Cert.AttendRIdeal.nD Cert.AttendRIdeal.τ Cert.AttendRIdeal.sig) → Buf (Elt Ideal) ℓ) (g' : Dev Cert.AttendRIdeal.nD → PrngReg), Pre_AttendKIdeal_attend_finite m →
    (∀ c : Dev Cert.AttendKIdeal.nD,
      m' ((c.tc : Thread Cert.AttendRIdeal.nD Cert.AttendRIdeal.τ).loc Cert.AttendRIdeal.main_arg0) = m ((c.tc : Thread Cert.AttendKIdeal.nD Cert.AttendKIdeal.τ).loc Cert.AttendKIdeal.main_arg0)
      ∧ m' ((c.tc : Thread Cert.AttendRIdeal.nD Cert.AttendRIdeal.τ).loc Cert.AttendRIdeal.main_arg1) = m ((c.tc : Thread Cert.AttendKIdeal.nD Cert.AttendKIdeal.τ).loc Cert.AttendKIdeal.main_arg1)
      ∧ m' ((c.tc : Thread Cert.AttendRIdeal.nD Cert.AttendRIdeal.τ).loc Cert.AttendRIdeal.main_arg2) = m ((c.tc : Thread Cert.AttendKIdeal.nD Cert.AttendKIdeal.τ).loc Cert.AttendKIdeal.main_arg2)
      ∧ m' ((c.tc : Thread Cert.AttendRIdeal.nD Cert.AttendRIdeal.τ).loc Cert.AttendRIdeal.main_arg3) = m ((c.tc : Thread Cert.AttendKIdeal.nD Cert.AttendKIdeal.τ).loc Cert.AttendKIdeal.main_arg3)) →
    ∃ (v0 : (c : Dev Cert.AttendKIdeal.nD) → Buf (Elt Ideal) ((c.tc : Thread Cert.AttendKIdeal.nD Cert.AttendKIdeal.τ).loc Cert.AttendKIdeal.main_v20_0)) (v1 : (c : Dev Cert.AttendKIdeal.nD) → Buf (Elt Ideal) ((c.tc : Thread Cert.AttendKIdeal.nD Cert.AttendKIdeal.τ).loc Cert.AttendKIdeal.main_v20_1)),
      θ_run (Cert.AttendKIdeal.defs (F := Ideal)) (onTc (τ := Cert.AttendKIdeal.τ) (Cert.AttendKIdeal.main (F := Ideal))) ⟨m, fun _ => 0, g⟩ (fun r => ∀ c : Dev Cert.AttendKIdeal.nD,
          r.2.mem ((c.tc : Thread Cert.AttendKIdeal.nD Cert.AttendKIdeal.τ).loc Cert.AttendKIdeal.main_v20_0) = v0 c
          ∧ r.2.mem ((c.tc : Thread Cert.AttendKIdeal.nD Cert.AttendKIdeal.τ).loc Cert.AttendKIdeal.main_v20_1) = v1 c
          ∧ r.2.mem ((c.tc : Thread Cert.AttendKIdeal.nD Cert.AttendKIdeal.τ).loc Cert.AttendKIdeal.main_arg0) = m ((c.tc : Thread Cert.AttendKIdeal.nD Cert.AttendKIdeal.τ).loc Cert.AttendKIdeal.main_arg0)
          ∧ r.2.mem ((c.tc : Thread Cert.AttendKIdeal.nD Cert.AttendKIdeal.τ).loc Cert.AttendKIdeal.main_arg1) = m ((c.tc : Thread Cert.AttendKIdeal.nD Cert.AttendKIdeal.τ).loc Cert.AttendKIdeal.main_arg1)
          ∧ r.2.mem ((c.tc : Thread Cert.AttendKIdeal.nD Cert.AttendKIdeal.τ).loc Cert.AttendKIdeal.main_arg2) = m ((c.tc : Thread Cert.AttendKIdeal.nD Cert.AttendKIdeal.τ).loc Cert.AttendKIdeal.main_arg2)
          ∧ r.2.mem ((c.tc : Thread Cert.AttendKIdeal.nD Cert.AttendKIdeal.τ).loc Cert.AttendKIdeal.main_arg3) = m ((c.tc : Thread Cert.AttendKIdeal.nD Cert.AttendKIdeal.τ).loc Cert.AttendKIdeal.main_arg3))
      ∧ θ_run (Cert.AttendRIdeal.defs (F := Ideal)) (onTc (τ := Cert.AttendRIdeal.τ) (Cert.AttendRIdeal.main (F := Ideal))) ⟨m', fun _ => 0, g'⟩ (fun r => ∀ c : Dev Cert.AttendRIdeal.nD,
          r.2.mem ((c.tc : Thread Cert.AttendRIdeal.nD Cert.AttendRIdeal.τ).loc Cert.AttendRIdeal.main_v103) = v0 c
          ∧ r.2.mem ((c.tc : Thread Cert.AttendRIdeal.nD Cert.AttendRIdeal.τ).loc Cert.AttendRIdeal.main_v105) = v1 c
          ∧ r.2.mem ((c.tc : Thread Cert.AttendRIdeal.nD Cert.AttendRIdeal.τ).loc Cert.AttendRIdeal.main_arg0) = m' ((c.tc : Thread Cert.AttendRIdeal.nD Cert.AttendRIdeal.τ).loc Cert.AttendRIdeal.main_arg0)
          ∧ r.2.mem ((c.tc : Thread Cert.AttendRIdeal.nD Cert.AttendRIdeal.τ).loc Cert.AttendRIdeal.main_arg1) = m' ((c.tc : Thread Cert.AttendRIdeal.nD Cert.AttendRIdeal.τ).loc Cert.AttendRIdeal.main_arg1)
          ∧ r.2.mem ((c.tc : Thread Cert.AttendRIdeal.nD Cert.AttendRIdeal.τ).loc Cert.AttendRIdeal.main_arg2) = m' ((c.tc : Thread Cert.AttendRIdeal.nD Cert.AttendRIdeal.τ).loc Cert.AttendRIdeal.main_arg2)
          ∧ r.2.mem ((c.tc : Thread Cert.AttendRIdeal.nD Cert.AttendRIdeal.τ).loc Cert.AttendRIdeal.main_arg3) = m' ((c.tc : Thread Cert.AttendRIdeal.nD Cert.AttendRIdeal.τ).loc Cert.AttendRIdeal.main_arg3))

def preserves_ActK_ActKIdeal : Prop :=
  True

def algebraic_ActKIdeal_ActRIdeal [hActKIdeal : Cert.ActKIdeal.Facts] [hActRIdeal : Cert.ActRIdeal.Facts] : Prop :=
  ∀ (m : (ℓ : Loc Cert.ActKIdeal.nD Cert.ActKIdeal.τ Cert.ActKIdeal.sig) → Buf (Elt Ideal) ℓ) (g : Dev Cert.ActKIdeal.nD → PrngReg)
    (m' : (ℓ : Loc Cert.ActRIdeal.nD Cert.ActRIdeal.τ Cert.ActRIdeal.sig) → Buf (Elt Ideal) ℓ) (g' : Dev Cert.ActRIdeal.nD → PrngReg), Pre_ActKIdeal m →
    (∀ c : Dev Cert.ActKIdeal.nD,
      m' ((c.tc : Thread Cert.ActRIdeal.nD Cert.ActRIdeal.τ).loc Cert.ActRIdeal.main_arg0) = m ((c.tc : Thread Cert.ActKIdeal.nD Cert.ActKIdeal.τ).loc Cert.ActKIdeal.main_arg0)
      ∧ m' ((c.tc : Thread Cert.ActRIdeal.nD Cert.ActRIdeal.τ).loc Cert.ActRIdeal.main_arg1) = m ((c.tc : Thread Cert.ActKIdeal.nD Cert.ActKIdeal.τ).loc Cert.ActKIdeal.main_arg1)
      ∧ m' ((c.tc : Thread Cert.ActRIdeal.nD Cert.ActRIdeal.τ).loc Cert.ActRIdeal.main_arg2) = m ((c.tc : Thread Cert.ActKIdeal.nD Cert.ActKIdeal.τ).loc Cert.ActKIdeal.main_arg2)) →
    ∃ (v0 : (c : Dev Cert.ActKIdeal.nD) → Buf (Elt Ideal) ((c.tc : Thread Cert.ActKIdeal.nD Cert.ActKIdeal.τ).loc Cert.ActKIdeal.main_v4)),
      θ_run (Cert.ActKIdeal.defs (F := Ideal)) (onTc (τ := Cert.ActKIdeal.τ) (Cert.ActKIdeal.main (F := Ideal))) ⟨m, fun _ => 0, g⟩ (fun r => ∀ c : Dev Cert.ActKIdeal.nD,
          r.2.mem ((c.tc : Thread Cert.ActKIdeal.nD Cert.ActKIdeal.τ).loc Cert.ActKIdeal.main_v4) = v0 c
          ∧ r.2.mem ((c.tc : Thread Cert.ActKIdeal.nD Cert.ActKIdeal.τ).loc Cert.ActKIdeal.main_arg0) = m ((c.tc : Thread Cert.ActKIdeal.nD Cert.ActKIdeal.τ).loc Cert.ActKIdeal.main_arg0)
          ∧ r.2.mem ((c.tc : Thread Cert.ActKIdeal.nD Cert.ActKIdeal.τ).loc Cert.ActKIdeal.main_arg1) = m ((c.tc : Thread Cert.ActKIdeal.nD Cert.ActKIdeal.τ).loc Cert.ActKIdeal.main_arg1)
          ∧ r.2.mem ((c.tc : Thread Cert.ActKIdeal.nD Cert.ActKIdeal.τ).loc Cert.ActKIdeal.main_arg2) = m ((c.tc : Thread Cert.ActKIdeal.nD Cert.ActKIdeal.τ).loc Cert.ActKIdeal.main_arg2))
      ∧ θ_run (Cert.ActRIdeal.defs (F := Ideal)) (onTc (τ := Cert.ActRIdeal.τ) (Cert.ActRIdeal.main (F := Ideal))) ⟨m', fun _ => 0, g'⟩ (fun r => ∀ c : Dev Cert.ActRIdeal.nD,
          r.2.mem ((c.tc : Thread Cert.ActRIdeal.nD Cert.ActRIdeal.τ).loc Cert.ActRIdeal.main_v6) = v0 c
          ∧ r.2.mem ((c.tc : Thread Cert.ActRIdeal.nD Cert.ActRIdeal.τ).loc Cert.ActRIdeal.main_arg0) = m' ((c.tc : Thread Cert.ActRIdeal.nD Cert.ActRIdeal.τ).loc Cert.ActRIdeal.main_arg0)
          ∧ r.2.mem ((c.tc : Thread Cert.ActRIdeal.nD Cert.ActRIdeal.τ).loc Cert.ActRIdeal.main_arg1) = m' ((c.tc : Thread Cert.ActRIdeal.nD Cert.ActRIdeal.τ).loc Cert.ActRIdeal.main_arg1)
          ∧ r.2.mem ((c.tc : Thread Cert.ActRIdeal.nD Cert.ActRIdeal.τ).loc Cert.ActRIdeal.main_arg2) = m' ((c.tc : Thread Cert.ActRIdeal.nD Cert.ActRIdeal.τ).loc Cert.ActRIdeal.main_arg2))

def preserves_PostK_PostKIdeal : Prop :=
  True

def algebraic_PostKIdeal_PostRIdeal [hPostKIdeal : Cert.PostKIdeal.Facts] [hPostRIdeal : Cert.PostRIdeal.Facts] : Prop :=
  ∀ (m : (ℓ : Loc Cert.PostKIdeal.nD Cert.PostKIdeal.τ Cert.PostKIdeal.sig) → Buf (Elt Ideal) ℓ) (g : Dev Cert.PostKIdeal.nD → PrngReg)
    (m' : (ℓ : Loc Cert.PostRIdeal.nD Cert.PostRIdeal.τ Cert.PostRIdeal.sig) → Buf (Elt Ideal) ℓ) (g' : Dev Cert.PostRIdeal.nD → PrngReg), Pre_PostKIdeal m →
    (∀ c : Dev Cert.PostKIdeal.nD,
      m' ((c.tc : Thread Cert.PostRIdeal.nD Cert.PostRIdeal.τ).loc Cert.PostRIdeal.main_arg0) = m ((c.tc : Thread Cert.PostKIdeal.nD Cert.PostKIdeal.τ).loc Cert.PostKIdeal.main_arg0)
      ∧ m' ((c.tc : Thread Cert.PostRIdeal.nD Cert.PostRIdeal.τ).loc Cert.PostRIdeal.main_arg1) = m ((c.tc : Thread Cert.PostKIdeal.nD Cert.PostKIdeal.τ).loc Cert.PostKIdeal.main_arg1)
      ∧ m' ((c.tc : Thread Cert.PostRIdeal.nD Cert.PostRIdeal.τ).loc Cert.PostRIdeal.main_arg2) = m ((c.tc : Thread Cert.PostKIdeal.nD Cert.PostKIdeal.τ).loc Cert.PostKIdeal.main_arg2)
      ∧ m' ((c.tc : Thread Cert.PostRIdeal.nD Cert.PostRIdeal.τ).loc Cert.PostRIdeal.main_arg3) = m ((c.tc : Thread Cert.PostKIdeal.nD Cert.PostKIdeal.τ).loc Cert.PostKIdeal.main_arg3)
      ∧ m' ((c.tc : Thread Cert.PostRIdeal.nD Cert.PostRIdeal.τ).loc Cert.PostRIdeal.main_arg4) = m ((c.tc : Thread Cert.PostKIdeal.nD Cert.PostKIdeal.τ).loc Cert.PostKIdeal.main_arg4)
      ∧ m' ((c.tc : Thread Cert.PostRIdeal.nD Cert.PostRIdeal.τ).loc Cert.PostRIdeal.main_arg5) = m ((c.tc : Thread Cert.PostKIdeal.nD Cert.PostKIdeal.τ).loc Cert.PostKIdeal.main_arg5)) →
    ∃ (v0 : (c : Dev Cert.PostKIdeal.nD) → Buf (Elt Ideal) ((c.tc : Thread Cert.PostKIdeal.nD Cert.PostKIdeal.τ).loc Cert.PostKIdeal.main_v5_0)) (v1 : (c : Dev Cert.PostKIdeal.nD) → Buf (Elt Ideal) ((c.tc : Thread Cert.PostKIdeal.nD Cert.PostKIdeal.τ).loc Cert.PostKIdeal.main_v5_1)),
      θ_run (Cert.PostKIdeal.defs (F := Ideal)) (onTc (τ := Cert.PostKIdeal.τ) (Cert.PostKIdeal.main (F := Ideal))) ⟨m, fun _ => 0, g⟩ (fun r => ∀ c : Dev Cert.PostKIdeal.nD,
          r.2.mem ((c.tc : Thread Cert.PostKIdeal.nD Cert.PostKIdeal.τ).loc Cert.PostKIdeal.main_v5_0) = v0 c
          ∧ r.2.mem ((c.tc : Thread Cert.PostKIdeal.nD Cert.PostKIdeal.τ).loc Cert.PostKIdeal.main_v5_1) = v1 c
          ∧ r.2.mem ((c.tc : Thread Cert.PostKIdeal.nD Cert.PostKIdeal.τ).loc Cert.PostKIdeal.main_arg0) = m ((c.tc : Thread Cert.PostKIdeal.nD Cert.PostKIdeal.τ).loc Cert.PostKIdeal.main_arg0)
          ∧ r.2.mem ((c.tc : Thread Cert.PostKIdeal.nD Cert.PostKIdeal.τ).loc Cert.PostKIdeal.main_arg1) = m ((c.tc : Thread Cert.PostKIdeal.nD Cert.PostKIdeal.τ).loc Cert.PostKIdeal.main_arg1)
          ∧ r.2.mem ((c.tc : Thread Cert.PostKIdeal.nD Cert.PostKIdeal.τ).loc Cert.PostKIdeal.main_arg2) = m ((c.tc : Thread Cert.PostKIdeal.nD Cert.PostKIdeal.τ).loc Cert.PostKIdeal.main_arg2)
          ∧ r.2.mem ((c.tc : Thread Cert.PostKIdeal.nD Cert.PostKIdeal.τ).loc Cert.PostKIdeal.main_arg3) = m ((c.tc : Thread Cert.PostKIdeal.nD Cert.PostKIdeal.τ).loc Cert.PostKIdeal.main_arg3)
          ∧ r.2.mem ((c.tc : Thread Cert.PostKIdeal.nD Cert.PostKIdeal.τ).loc Cert.PostKIdeal.main_arg4) = m ((c.tc : Thread Cert.PostKIdeal.nD Cert.PostKIdeal.τ).loc Cert.PostKIdeal.main_arg4)
          ∧ r.2.mem ((c.tc : Thread Cert.PostKIdeal.nD Cert.PostKIdeal.τ).loc Cert.PostKIdeal.main_arg5) = m ((c.tc : Thread Cert.PostKIdeal.nD Cert.PostKIdeal.τ).loc Cert.PostKIdeal.main_arg5))
      ∧ θ_run (Cert.PostRIdeal.defs (F := Ideal)) (onTc (τ := Cert.PostRIdeal.τ) (Cert.PostRIdeal.main (F := Ideal))) ⟨m', fun _ => 0, g'⟩ (fun r => ∀ c : Dev Cert.PostRIdeal.nD,
          r.2.mem ((c.tc : Thread Cert.PostRIdeal.nD Cert.PostRIdeal.τ).loc Cert.PostRIdeal.main_v6) = v0 c
          ∧ r.2.mem ((c.tc : Thread Cert.PostRIdeal.nD Cert.PostRIdeal.τ).loc Cert.PostRIdeal.main_v30) = v1 c
          ∧ r.2.mem ((c.tc : Thread Cert.PostRIdeal.nD Cert.PostRIdeal.τ).loc Cert.PostRIdeal.main_arg0) = m' ((c.tc : Thread Cert.PostRIdeal.nD Cert.PostRIdeal.τ).loc Cert.PostRIdeal.main_arg0)
          ∧ r.2.mem ((c.tc : Thread Cert.PostRIdeal.nD Cert.PostRIdeal.τ).loc Cert.PostRIdeal.main_arg1) = m' ((c.tc : Thread Cert.PostRIdeal.nD Cert.PostRIdeal.τ).loc Cert.PostRIdeal.main_arg1)
          ∧ r.2.mem ((c.tc : Thread Cert.PostRIdeal.nD Cert.PostRIdeal.τ).loc Cert.PostRIdeal.main_arg2) = m' ((c.tc : Thread Cert.PostRIdeal.nD Cert.PostRIdeal.τ).loc Cert.PostRIdeal.main_arg2)
          ∧ r.2.mem ((c.tc : Thread Cert.PostRIdeal.nD Cert.PostRIdeal.τ).loc Cert.PostRIdeal.main_arg3) = m' ((c.tc : Thread Cert.PostRIdeal.nD Cert.PostRIdeal.τ).loc Cert.PostRIdeal.main_arg3)
          ∧ r.2.mem ((c.tc : Thread Cert.PostRIdeal.nD Cert.PostRIdeal.τ).loc Cert.PostRIdeal.main_arg4) = m' ((c.tc : Thread Cert.PostRIdeal.nD Cert.PostRIdeal.τ).loc Cert.PostRIdeal.main_arg4)
          ∧ r.2.mem ((c.tc : Thread Cert.PostRIdeal.nD Cert.PostRIdeal.τ).loc Cert.PostRIdeal.main_arg5) = m' ((c.tc : Thread Cert.PostRIdeal.nD Cert.PostRIdeal.τ).loc Cert.PostRIdeal.main_arg5))

def preserves_OutK_OutKIdeal : Prop :=
  True

def algebraic_OutKIdeal_OutRIdeal [hOutKIdeal : Cert.OutKIdeal.Facts] [hOutRIdeal : Cert.OutRIdeal.Facts] : Prop :=
  ∀ (m : (ℓ : Loc Cert.OutKIdeal.nD Cert.OutKIdeal.τ Cert.OutKIdeal.sig) → Buf (Elt Ideal) ℓ) (g : Dev Cert.OutKIdeal.nD → PrngReg)
    (m' : (ℓ : Loc Cert.OutRIdeal.nD Cert.OutRIdeal.τ Cert.OutRIdeal.sig) → Buf (Elt Ideal) ℓ) (g' : Dev Cert.OutRIdeal.nD → PrngReg), Pre_OutKIdeal m →
    (∀ c : Dev Cert.OutKIdeal.nD,
      m' ((c.tc : Thread Cert.OutRIdeal.nD Cert.OutRIdeal.τ).loc Cert.OutRIdeal.main_arg0) = m ((c.tc : Thread Cert.OutKIdeal.nD Cert.OutKIdeal.τ).loc Cert.OutKIdeal.main_arg0)
      ∧ m' ((c.tc : Thread Cert.OutRIdeal.nD Cert.OutRIdeal.τ).loc Cert.OutRIdeal.main_arg1) = m ((c.tc : Thread Cert.OutKIdeal.nD Cert.OutKIdeal.τ).loc Cert.OutKIdeal.main_arg1)
      ∧ m' ((c.tc : Thread Cert.OutRIdeal.nD Cert.OutRIdeal.τ).loc Cert.OutRIdeal.main_arg2) = m ((c.tc : Thread Cert.OutKIdeal.nD Cert.OutKIdeal.τ).loc Cert.OutKIdeal.main_arg2)
      ∧ m' ((c.tc : Thread Cert.OutRIdeal.nD Cert.OutRIdeal.τ).loc Cert.OutRIdeal.main_arg3) = m ((c.tc : Thread Cert.OutKIdeal.nD Cert.OutKIdeal.τ).loc Cert.OutKIdeal.main_arg3)
      ∧ m' ((c.tc : Thread Cert.OutRIdeal.nD Cert.OutRIdeal.τ).loc Cert.OutRIdeal.main_arg4) = m ((c.tc : Thread Cert.OutKIdeal.nD Cert.OutKIdeal.τ).loc Cert.OutKIdeal.main_arg4)
      ∧ m' ((c.tc : Thread Cert.OutRIdeal.nD Cert.OutRIdeal.τ).loc Cert.OutRIdeal.main_arg5) = m ((c.tc : Thread Cert.OutKIdeal.nD Cert.OutKIdeal.τ).loc Cert.OutKIdeal.main_arg5)) →
    ∃ (v0 : (c : Dev Cert.OutKIdeal.nD) → Buf (Elt Ideal) ((c.tc : Thread Cert.OutKIdeal.nD Cert.OutKIdeal.τ).loc Cert.OutKIdeal.main_v5_0)) (v1 : (c : Dev Cert.OutKIdeal.nD) → Buf (Elt Ideal) ((c.tc : Thread Cert.OutKIdeal.nD Cert.OutKIdeal.τ).loc Cert.OutKIdeal.main_v5_1)),
      θ_run (Cert.OutKIdeal.defs (F := Ideal)) (onTc (τ := Cert.OutKIdeal.τ) (Cert.OutKIdeal.main (F := Ideal))) ⟨m, fun _ => 0, g⟩ (fun r => ∀ c : Dev Cert.OutKIdeal.nD,
          r.2.mem ((c.tc : Thread Cert.OutKIdeal.nD Cert.OutKIdeal.τ).loc Cert.OutKIdeal.main_v5_0) = v0 c
          ∧ r.2.mem ((c.tc : Thread Cert.OutKIdeal.nD Cert.OutKIdeal.τ).loc Cert.OutKIdeal.main_v5_1) = v1 c
          ∧ r.2.mem ((c.tc : Thread Cert.OutKIdeal.nD Cert.OutKIdeal.τ).loc Cert.OutKIdeal.main_arg0) = m ((c.tc : Thread Cert.OutKIdeal.nD Cert.OutKIdeal.τ).loc Cert.OutKIdeal.main_arg0)
          ∧ r.2.mem ((c.tc : Thread Cert.OutKIdeal.nD Cert.OutKIdeal.τ).loc Cert.OutKIdeal.main_arg1) = m ((c.tc : Thread Cert.OutKIdeal.nD Cert.OutKIdeal.τ).loc Cert.OutKIdeal.main_arg1)
          ∧ r.2.mem ((c.tc : Thread Cert.OutKIdeal.nD Cert.OutKIdeal.τ).loc Cert.OutKIdeal.main_arg2) = m ((c.tc : Thread Cert.OutKIdeal.nD Cert.OutKIdeal.τ).loc Cert.OutKIdeal.main_arg2)
          ∧ r.2.mem ((c.tc : Thread Cert.OutKIdeal.nD Cert.OutKIdeal.τ).loc Cert.OutKIdeal.main_arg3) = m ((c.tc : Thread Cert.OutKIdeal.nD Cert.OutKIdeal.τ).loc Cert.OutKIdeal.main_arg3)
          ∧ r.2.mem ((c.tc : Thread Cert.OutKIdeal.nD Cert.OutKIdeal.τ).loc Cert.OutKIdeal.main_arg4) = m ((c.tc : Thread Cert.OutKIdeal.nD Cert.OutKIdeal.τ).loc Cert.OutKIdeal.main_arg4)
          ∧ r.2.mem ((c.tc : Thread Cert.OutKIdeal.nD Cert.OutKIdeal.τ).loc Cert.OutKIdeal.main_arg5) = m ((c.tc : Thread Cert.OutKIdeal.nD Cert.OutKIdeal.τ).loc Cert.OutKIdeal.main_arg5))
      ∧ θ_run (Cert.OutRIdeal.defs (F := Ideal)) (onTc (τ := Cert.OutRIdeal.τ) (Cert.OutRIdeal.main (F := Ideal))) ⟨m', fun _ => 0, g'⟩ (fun r => ∀ c : Dev Cert.OutRIdeal.nD,
          r.2.mem ((c.tc : Thread Cert.OutRIdeal.nD Cert.OutRIdeal.τ).loc Cert.OutRIdeal.main_v6) = v0 c
          ∧ r.2.mem ((c.tc : Thread Cert.OutRIdeal.nD Cert.OutRIdeal.τ).loc Cert.OutRIdeal.main_v30) = v1 c
          ∧ r.2.mem ((c.tc : Thread Cert.OutRIdeal.nD Cert.OutRIdeal.τ).loc Cert.OutRIdeal.main_arg0) = m' ((c.tc : Thread Cert.OutRIdeal.nD Cert.OutRIdeal.τ).loc Cert.OutRIdeal.main_arg0)
          ∧ r.2.mem ((c.tc : Thread Cert.OutRIdeal.nD Cert.OutRIdeal.τ).loc Cert.OutRIdeal.main_arg1) = m' ((c.tc : Thread Cert.OutRIdeal.nD Cert.OutRIdeal.τ).loc Cert.OutRIdeal.main_arg1)
          ∧ r.2.mem ((c.tc : Thread Cert.OutRIdeal.nD Cert.OutRIdeal.τ).loc Cert.OutRIdeal.main_arg2) = m' ((c.tc : Thread Cert.OutRIdeal.nD Cert.OutRIdeal.τ).loc Cert.OutRIdeal.main_arg2)
          ∧ r.2.mem ((c.tc : Thread Cert.OutRIdeal.nD Cert.OutRIdeal.τ).loc Cert.OutRIdeal.main_arg3) = m' ((c.tc : Thread Cert.OutRIdeal.nD Cert.OutRIdeal.τ).loc Cert.OutRIdeal.main_arg3)
          ∧ r.2.mem ((c.tc : Thread Cert.OutRIdeal.nD Cert.OutRIdeal.τ).loc Cert.OutRIdeal.main_arg4) = m' ((c.tc : Thread Cert.OutRIdeal.nD Cert.OutRIdeal.τ).loc Cert.OutRIdeal.main_arg4)
          ∧ r.2.mem ((c.tc : Thread Cert.OutRIdeal.nD Cert.OutRIdeal.τ).loc Cert.OutRIdeal.main_arg5) = m' ((c.tc : Thread Cert.OutRIdeal.nD Cert.OutRIdeal.τ).loc Cert.OutRIdeal.main_arg5))

def preserves_JoinK_JoinKIdeal : Prop :=
  True

def algebraic_JoinKIdeal_JoinRIdeal [hJoinKIdeal : Cert.JoinKIdeal.Facts] [hJoinRIdeal : Cert.JoinRIdeal.Facts] : Prop :=
  ∀ (m : (ℓ : Loc Cert.JoinKIdeal.nD Cert.JoinKIdeal.τ Cert.JoinKIdeal.sig) → Buf (Elt Ideal) ℓ) (g : Dev Cert.JoinKIdeal.nD → PrngReg)
    (m' : (ℓ : Loc Cert.JoinRIdeal.nD Cert.JoinRIdeal.τ Cert.JoinRIdeal.sig) → Buf (Elt Ideal) ℓ) (g' : Dev Cert.JoinRIdeal.nD → PrngReg), Pre_JoinKIdeal m →
    (∀ c : Dev Cert.JoinKIdeal.nD,
      m' ((c.tc : Thread Cert.JoinRIdeal.nD Cert.JoinRIdeal.τ).loc Cert.JoinRIdeal.main_arg0) = m ((c.tc : Thread Cert.JoinKIdeal.nD Cert.JoinKIdeal.τ).loc Cert.JoinKIdeal.main_arg0)
      ∧ m' ((c.tc : Thread Cert.JoinRIdeal.nD Cert.JoinRIdeal.τ).loc Cert.JoinRIdeal.main_arg1) = m ((c.tc : Thread Cert.JoinKIdeal.nD Cert.JoinKIdeal.τ).loc Cert.JoinKIdeal.main_arg1)
      ∧ m' ((c.tc : Thread Cert.JoinRIdeal.nD Cert.JoinRIdeal.τ).loc Cert.JoinRIdeal.main_arg2) = m ((c.tc : Thread Cert.JoinKIdeal.nD Cert.JoinKIdeal.τ).loc Cert.JoinKIdeal.main_arg2)
      ∧ m' ((c.tc : Thread Cert.JoinRIdeal.nD Cert.JoinRIdeal.τ).loc Cert.JoinRIdeal.main_arg3) = m ((c.tc : Thread Cert.JoinKIdeal.nD Cert.JoinKIdeal.τ).loc Cert.JoinKIdeal.main_arg3)
      ∧ m' ((c.tc : Thread Cert.JoinRIdeal.nD Cert.JoinRIdeal.τ).loc Cert.JoinRIdeal.main_arg4) = m ((c.tc : Thread Cert.JoinKIdeal.nD Cert.JoinKIdeal.τ).loc Cert.JoinKIdeal.main_arg4)
      ∧ m' ((c.tc : Thread Cert.JoinRIdeal.nD Cert.JoinRIdeal.τ).loc Cert.JoinRIdeal.main_arg5) = m ((c.tc : Thread Cert.JoinKIdeal.nD Cert.JoinKIdeal.τ).loc Cert.JoinKIdeal.main_arg5)) →
    ∃ (v0 : (c : Dev Cert.JoinKIdeal.nD) → Buf (Elt Ideal) ((c.tc : Thread Cert.JoinKIdeal.nD Cert.JoinKIdeal.τ).loc Cert.JoinKIdeal.main_v4)),
      θ_run (Cert.JoinKIdeal.defs (F := Ideal)) (onTc (τ := Cert.JoinKIdeal.τ) (Cert.JoinKIdeal.main (F := Ideal))) ⟨m, fun _ => 0, g⟩ (fun r => ∀ c : Dev Cert.JoinKIdeal.nD,
          r.2.mem ((c.tc : Thread Cert.JoinKIdeal.nD Cert.JoinKIdeal.τ).loc Cert.JoinKIdeal.main_v4) = v0 c
          ∧ r.2.mem ((c.tc : Thread Cert.JoinKIdeal.nD Cert.JoinKIdeal.τ).loc Cert.JoinKIdeal.main_arg0) = m ((c.tc : Thread Cert.JoinKIdeal.nD Cert.JoinKIdeal.τ).loc Cert.JoinKIdeal.main_arg0)
          ∧ r.2.mem ((c.tc : Thread Cert.JoinKIdeal.nD Cert.JoinKIdeal.τ).loc Cert.JoinKIdeal.main_arg1) = m ((c.tc : Thread Cert.JoinKIdeal.nD Cert.JoinKIdeal.τ).loc Cert.JoinKIdeal.main_arg1)
          ∧ r.2.mem ((c.tc : Thread Cert.JoinKIdeal.nD Cert.JoinKIdeal.τ).loc Cert.JoinKIdeal.main_arg2) = m ((c.tc : Thread Cert.JoinKIdeal.nD Cert.JoinKIdeal.τ).loc Cert.JoinKIdeal.main_arg2)
          ∧ r.2.mem ((c.tc : Thread Cert.JoinKIdeal.nD Cert.JoinKIdeal.τ).loc Cert.JoinKIdeal.main_arg3) = m ((c.tc : Thread Cert.JoinKIdeal.nD Cert.JoinKIdeal.τ).loc Cert.JoinKIdeal.main_arg3)
          ∧ r.2.mem ((c.tc : Thread Cert.JoinKIdeal.nD Cert.JoinKIdeal.τ).loc Cert.JoinKIdeal.main_arg4) = m ((c.tc : Thread Cert.JoinKIdeal.nD Cert.JoinKIdeal.τ).loc Cert.JoinKIdeal.main_arg4)
          ∧ r.2.mem ((c.tc : Thread Cert.JoinKIdeal.nD Cert.JoinKIdeal.τ).loc Cert.JoinKIdeal.main_arg5) = m ((c.tc : Thread Cert.JoinKIdeal.nD Cert.JoinKIdeal.τ).loc Cert.JoinKIdeal.main_arg5))
      ∧ θ_run (Cert.JoinRIdeal.defs (F := Ideal)) (onTc (τ := Cert.JoinRIdeal.τ) (Cert.JoinRIdeal.main (F := Ideal))) ⟨m', fun _ => 0, g'⟩ (fun r => ∀ c : Dev Cert.JoinRIdeal.nD,
          r.2.mem ((c.tc : Thread Cert.JoinRIdeal.nD Cert.JoinRIdeal.τ).loc Cert.JoinRIdeal.main_v51) = v0 c
          ∧ r.2.mem ((c.tc : Thread Cert.JoinRIdeal.nD Cert.JoinRIdeal.τ).loc Cert.JoinRIdeal.main_arg0) = m' ((c.tc : Thread Cert.JoinRIdeal.nD Cert.JoinRIdeal.τ).loc Cert.JoinRIdeal.main_arg0)
          ∧ r.2.mem ((c.tc : Thread Cert.JoinRIdeal.nD Cert.JoinRIdeal.τ).loc Cert.JoinRIdeal.main_arg1) = m' ((c.tc : Thread Cert.JoinRIdeal.nD Cert.JoinRIdeal.τ).loc Cert.JoinRIdeal.main_arg1)
          ∧ r.2.mem ((c.tc : Thread Cert.JoinRIdeal.nD Cert.JoinRIdeal.τ).loc Cert.JoinRIdeal.main_arg2) = m' ((c.tc : Thread Cert.JoinRIdeal.nD Cert.JoinRIdeal.τ).loc Cert.JoinRIdeal.main_arg2)
          ∧ r.2.mem ((c.tc : Thread Cert.JoinRIdeal.nD Cert.JoinRIdeal.τ).loc Cert.JoinRIdeal.main_arg3) = m' ((c.tc : Thread Cert.JoinRIdeal.nD Cert.JoinRIdeal.τ).loc Cert.JoinRIdeal.main_arg3)
          ∧ r.2.mem ((c.tc : Thread Cert.JoinRIdeal.nD Cert.JoinRIdeal.τ).loc Cert.JoinRIdeal.main_arg4) = m' ((c.tc : Thread Cert.JoinRIdeal.nD Cert.JoinRIdeal.τ).loc Cert.JoinRIdeal.main_arg4)
          ∧ r.2.mem ((c.tc : Thread Cert.JoinRIdeal.nD Cert.JoinRIdeal.τ).loc Cert.JoinRIdeal.main_arg5) = m' ((c.tc : Thread Cert.JoinRIdeal.nD Cert.JoinRIdeal.τ).loc Cert.JoinRIdeal.main_arg5))

def preserves_FirstK_FirstKIdeal : Prop :=
  True

def algebraic_FirstKIdeal_FirstRIdeal [hFirstKIdeal : Cert.FirstKIdeal.Facts] [hFirstRIdeal : Cert.FirstRIdeal.Facts] : Prop :=
  ∀ (m : (ℓ : Loc Cert.FirstKIdeal.nD Cert.FirstKIdeal.τ Cert.FirstKIdeal.sig) → Buf (Elt Ideal) ℓ) (g : Dev Cert.FirstKIdeal.nD → PrngReg)
    (m' : (ℓ : Loc Cert.FirstRIdeal.nD Cert.FirstRIdeal.τ Cert.FirstRIdeal.sig) → Buf (Elt Ideal) ℓ) (g' : Dev Cert.FirstRIdeal.nD → PrngReg), Pre_FirstKIdeal m →
    (∀ c : Dev Cert.FirstKIdeal.nD,
      m' ((c.tc : Thread Cert.FirstRIdeal.nD Cert.FirstRIdeal.τ).loc Cert.FirstRIdeal.main_arg0) = m ((c.tc : Thread Cert.FirstKIdeal.nD Cert.FirstKIdeal.τ).loc Cert.FirstKIdeal.main_arg0)
      ∧ m' ((c.tc : Thread Cert.FirstRIdeal.nD Cert.FirstRIdeal.τ).loc Cert.FirstRIdeal.main_arg1) = m ((c.tc : Thread Cert.FirstKIdeal.nD Cert.FirstKIdeal.τ).loc Cert.FirstKIdeal.main_arg1)
      ∧ m' ((c.tc : Thread Cert.FirstRIdeal.nD Cert.FirstRIdeal.τ).loc Cert.FirstRIdeal.main_arg2) = m ((c.tc : Thread Cert.FirstKIdeal.nD Cert.FirstKIdeal.τ).loc Cert.FirstKIdeal.main_arg2)
      ∧ m' ((c.tc : Thread Cert.FirstRIdeal.nD Cert.FirstRIdeal.τ).loc Cert.FirstRIdeal.main_arg3) = m ((c.tc : Thread Cert.FirstKIdeal.nD Cert.FirstKIdeal.τ).loc Cert.FirstKIdeal.main_arg3)
      ∧ m' ((c.tc : Thread Cert.FirstRIdeal.nD Cert.FirstRIdeal.τ).loc Cert.FirstRIdeal.main_arg4) = m ((c.tc : Thread Cert.FirstKIdeal.nD Cert.FirstKIdeal.τ).loc Cert.FirstKIdeal.main_arg4)
      ∧ m' ((c.tc : Thread Cert.FirstRIdeal.nD Cert.FirstRIdeal.τ).loc Cert.FirstRIdeal.main_arg5) = m ((c.tc : Thread Cert.FirstKIdeal.nD Cert.FirstKIdeal.τ).loc Cert.FirstKIdeal.main_arg5)) →
    ∃ (v0 : (c : Dev Cert.FirstKIdeal.nD) → Buf (Elt Ideal) ((c.tc : Thread Cert.FirstKIdeal.nD Cert.FirstKIdeal.τ).loc Cert.FirstKIdeal.main_v7)),
      θ_run (Cert.FirstKIdeal.defs (F := Ideal)) (onTc (τ := Cert.FirstKIdeal.τ) (Cert.FirstKIdeal.main (F := Ideal))) ⟨m, fun _ => 0, g⟩ (fun r => ∀ c : Dev Cert.FirstKIdeal.nD,
          r.2.mem ((c.tc : Thread Cert.FirstKIdeal.nD Cert.FirstKIdeal.τ).loc Cert.FirstKIdeal.main_v7) = v0 c
          ∧ r.2.mem ((c.tc : Thread Cert.FirstKIdeal.nD Cert.FirstKIdeal.τ).loc Cert.FirstKIdeal.main_arg0) = m ((c.tc : Thread Cert.FirstKIdeal.nD Cert.FirstKIdeal.τ).loc Cert.FirstKIdeal.main_arg0)
          ∧ r.2.mem ((c.tc : Thread Cert.FirstKIdeal.nD Cert.FirstKIdeal.τ).loc Cert.FirstKIdeal.main_arg1) = m ((c.tc : Thread Cert.FirstKIdeal.nD Cert.FirstKIdeal.τ).loc Cert.FirstKIdeal.main_arg1)
          ∧ r.2.mem ((c.tc : Thread Cert.FirstKIdeal.nD Cert.FirstKIdeal.τ).loc Cert.FirstKIdeal.main_arg2) = m ((c.tc : Thread Cert.FirstKIdeal.nD Cert.FirstKIdeal.τ).loc Cert.FirstKIdeal.main_arg2)
          ∧ r.2.mem ((c.tc : Thread Cert.FirstKIdeal.nD Cert.FirstKIdeal.τ).loc Cert.FirstKIdeal.main_arg3) = m ((c.tc : Thread Cert.FirstKIdeal.nD Cert.FirstKIdeal.τ).loc Cert.FirstKIdeal.main_arg3)
          ∧ r.2.mem ((c.tc : Thread Cert.FirstKIdeal.nD Cert.FirstKIdeal.τ).loc Cert.FirstKIdeal.main_arg4) = m ((c.tc : Thread Cert.FirstKIdeal.nD Cert.FirstKIdeal.τ).loc Cert.FirstKIdeal.main_arg4)
          ∧ r.2.mem ((c.tc : Thread Cert.FirstKIdeal.nD Cert.FirstKIdeal.τ).loc Cert.FirstKIdeal.main_arg5) = m ((c.tc : Thread Cert.FirstKIdeal.nD Cert.FirstKIdeal.τ).loc Cert.FirstKIdeal.main_arg5))
      ∧ θ_run (Cert.FirstRIdeal.defs (F := Ideal)) (onTc (τ := Cert.FirstRIdeal.τ) (Cert.FirstRIdeal.main (F := Ideal))) ⟨m', fun _ => 0, g'⟩ (fun r => ∀ c : Dev Cert.FirstRIdeal.nD,
          r.2.mem ((c.tc : Thread Cert.FirstRIdeal.nD Cert.FirstRIdeal.τ).loc Cert.FirstRIdeal.main_v18) = v0 c
          ∧ r.2.mem ((c.tc : Thread Cert.FirstRIdeal.nD Cert.FirstRIdeal.τ).loc Cert.FirstRIdeal.main_arg0) = m' ((c.tc : Thread Cert.FirstRIdeal.nD Cert.FirstRIdeal.τ).loc Cert.FirstRIdeal.main_arg0)
          ∧ r.2.mem ((c.tc : Thread Cert.FirstRIdeal.nD Cert.FirstRIdeal.τ).loc Cert.FirstRIdeal.main_arg1) = m' ((c.tc : Thread Cert.FirstRIdeal.nD Cert.FirstRIdeal.τ).loc Cert.FirstRIdeal.main_arg1)
          ∧ r.2.mem ((c.tc : Thread Cert.FirstRIdeal.nD Cert.FirstRIdeal.τ).loc Cert.FirstRIdeal.main_arg2) = m' ((c.tc : Thread Cert.FirstRIdeal.nD Cert.FirstRIdeal.τ).loc Cert.FirstRIdeal.main_arg2)
          ∧ r.2.mem ((c.tc : Thread Cert.FirstRIdeal.nD Cert.FirstRIdeal.τ).loc Cert.FirstRIdeal.main_arg3) = m' ((c.tc : Thread Cert.FirstRIdeal.nD Cert.FirstRIdeal.τ).loc Cert.FirstRIdeal.main_arg3)
          ∧ r.2.mem ((c.tc : Thread Cert.FirstRIdeal.nD Cert.FirstRIdeal.τ).loc Cert.FirstRIdeal.main_arg4) = m' ((c.tc : Thread Cert.FirstRIdeal.nD Cert.FirstRIdeal.τ).loc Cert.FirstRIdeal.main_arg4)
          ∧ r.2.mem ((c.tc : Thread Cert.FirstRIdeal.nD Cert.FirstRIdeal.τ).loc Cert.FirstRIdeal.main_arg5) = m' ((c.tc : Thread Cert.FirstRIdeal.nD Cert.FirstRIdeal.τ).loc Cert.FirstRIdeal.main_arg5))

def preserves_ParamsK_ParamsKIdeal : Prop :=
  True

def algebraic_ParamsKIdeal_ParamsRIdeal [hParamsKIdeal : Cert.ParamsKIdeal.Facts] [hParamsRIdeal : Cert.ParamsRIdeal.Facts] : Prop :=
  ∀ (m : (ℓ : Loc Cert.ParamsKIdeal.nD Cert.ParamsKIdeal.τ Cert.ParamsKIdeal.sig) → Buf (Elt Ideal) ℓ) (g : Dev Cert.ParamsKIdeal.nD → PrngReg)
    (m' : (ℓ : Loc Cert.ParamsRIdeal.nD Cert.ParamsRIdeal.τ Cert.ParamsRIdeal.sig) → Buf (Elt Ideal) ℓ) (g' : Dev Cert.ParamsRIdeal.nD → PrngReg), Pre_ParamsKIdeal m →
    (∀ c : Dev Cert.ParamsKIdeal.nD,
      m' ((c.tc : Thread Cert.ParamsRIdeal.nD Cert.ParamsRIdeal.τ).loc Cert.ParamsRIdeal.main_arg0) = m ((c.tc : Thread Cert.ParamsKIdeal.nD Cert.ParamsKIdeal.τ).loc Cert.ParamsKIdeal.main_arg0)
      ∧ m' ((c.tc : Thread Cert.ParamsRIdeal.nD Cert.ParamsRIdeal.τ).loc Cert.ParamsRIdeal.main_arg1) = m ((c.tc : Thread Cert.ParamsKIdeal.nD Cert.ParamsKIdeal.τ).loc Cert.ParamsKIdeal.main_arg1)
      ∧ m' ((c.tc : Thread Cert.ParamsRIdeal.nD Cert.ParamsRIdeal.τ).loc Cert.ParamsRIdeal.main_arg2) = m ((c.tc : Thread Cert.ParamsKIdeal.nD Cert.ParamsKIdeal.τ).loc Cert.ParamsKIdeal.main_arg2)
      ∧ m' ((c.tc : Thread Cert.ParamsRIdeal.nD Cert.ParamsRIdeal.τ).loc Cert.ParamsRIdeal.main_arg3) = m ((c.tc : Thread Cert.ParamsKIdeal.nD Cert.ParamsKIdeal.τ).loc Cert.ParamsKIdeal.main_arg3)
      ∧ m' ((c.tc : Thread Cert.ParamsRIdeal.nD Cert.ParamsRIdeal.τ).loc Cert.ParamsRIdeal.main_arg4) = m ((c.tc : Thread Cert.ParamsKIdeal.nD Cert.ParamsKIdeal.τ).loc Cert.ParamsKIdeal.main_arg4)) →
    ∃ (v0 : (c : Dev Cert.ParamsKIdeal.nD) → Buf (Elt Ideal) ((c.tc : Thread Cert.ParamsKIdeal.nD Cert.ParamsKIdeal.τ).loc Cert.ParamsKIdeal.main_v5_0)) (v1 : (c : Dev Cert.ParamsKIdeal.nD) → Buf (Elt Ideal) ((c.tc : Thread Cert.ParamsKIdeal.nD Cert.ParamsKIdeal.τ).loc Cert.ParamsKIdeal.main_v5_1)) (v2 : (c : Dev Cert.ParamsKIdeal.nD) → Buf (Elt Ideal) ((c.tc : Thread Cert.ParamsKIdeal.nD Cert.ParamsKIdeal.τ).loc Cert.ParamsKIdeal.main_v5_2)) (v3 : (c : Dev Cert.ParamsKIdeal.nD) → Buf (Elt Ideal) ((c.tc : Thread Cert.ParamsKIdeal.nD Cert.ParamsKIdeal.τ).loc Cert.ParamsKIdeal.main_v5_3)),
      θ_run (Cert.ParamsKIdeal.defs (F := Ideal)) (onTc (τ := Cert.ParamsKIdeal.τ) (Cert.ParamsKIdeal.main (F := Ideal))) ⟨m, fun _ => 0, g⟩ (fun r => ∀ c : Dev Cert.ParamsKIdeal.nD,
          r.2.mem ((c.tc : Thread Cert.ParamsKIdeal.nD Cert.ParamsKIdeal.τ).loc Cert.ParamsKIdeal.main_v5_0) = v0 c
          ∧ r.2.mem ((c.tc : Thread Cert.ParamsKIdeal.nD Cert.ParamsKIdeal.τ).loc Cert.ParamsKIdeal.main_v5_1) = v1 c
          ∧ r.2.mem ((c.tc : Thread Cert.ParamsKIdeal.nD Cert.ParamsKIdeal.τ).loc Cert.ParamsKIdeal.main_v5_2) = v2 c
          ∧ r.2.mem ((c.tc : Thread Cert.ParamsKIdeal.nD Cert.ParamsKIdeal.τ).loc Cert.ParamsKIdeal.main_v5_3) = v3 c
          ∧ r.2.mem ((c.tc : Thread Cert.ParamsKIdeal.nD Cert.ParamsKIdeal.τ).loc Cert.ParamsKIdeal.main_arg0) = m ((c.tc : Thread Cert.ParamsKIdeal.nD Cert.ParamsKIdeal.τ).loc Cert.ParamsKIdeal.main_arg0)
          ∧ r.2.mem ((c.tc : Thread Cert.ParamsKIdeal.nD Cert.ParamsKIdeal.τ).loc Cert.ParamsKIdeal.main_arg1) = m ((c.tc : Thread Cert.ParamsKIdeal.nD Cert.ParamsKIdeal.τ).loc Cert.ParamsKIdeal.main_arg1)
          ∧ r.2.mem ((c.tc : Thread Cert.ParamsKIdeal.nD Cert.ParamsKIdeal.τ).loc Cert.ParamsKIdeal.main_arg2) = m ((c.tc : Thread Cert.ParamsKIdeal.nD Cert.ParamsKIdeal.τ).loc Cert.ParamsKIdeal.main_arg2)
          ∧ r.2.mem ((c.tc : Thread Cert.ParamsKIdeal.nD Cert.ParamsKIdeal.τ).loc Cert.ParamsKIdeal.main_arg3) = m ((c.tc : Thread Cert.ParamsKIdeal.nD Cert.ParamsKIdeal.τ).loc Cert.ParamsKIdeal.main_arg3)
          ∧ r.2.mem ((c.tc : Thread Cert.ParamsKIdeal.nD Cert.ParamsKIdeal.τ).loc Cert.ParamsKIdeal.main_arg4) = m ((c.tc : Thread Cert.ParamsKIdeal.nD Cert.ParamsKIdeal.τ).loc Cert.ParamsKIdeal.main_arg4))
      ∧ θ_run (Cert.ParamsRIdeal.defs (F := Ideal)) (onTc (τ := Cert.ParamsRIdeal.τ) (Cert.ParamsRIdeal.main (F := Ideal))) ⟨m', fun _ => 0, g'⟩ (fun r => ∀ c : Dev Cert.ParamsRIdeal.nD,
          r.2.mem ((c.tc : Thread Cert.ParamsRIdeal.nD Cert.ParamsRIdeal.τ).loc Cert.ParamsRIdeal.main_v38) = v0 c
          ∧ r.2.mem ((c.tc : Thread Cert.ParamsRIdeal.nD Cert.ParamsRIdeal.τ).loc Cert.ParamsRIdeal.main_v39) = v1 c
          ∧ r.2.mem ((c.tc : Thread Cert.ParamsRIdeal.nD Cert.ParamsRIdeal.τ).loc Cert.ParamsRIdeal.main_v40) = v2 c
          ∧ r.2.mem ((c.tc : Thread Cert.ParamsRIdeal.nD Cert.ParamsRIdeal.τ).loc Cert.ParamsRIdeal.main_v41) = v3 c
          ∧ r.2.mem ((c.tc : Thread Cert.ParamsRIdeal.nD Cert.ParamsRIdeal.τ).loc Cert.ParamsRIdeal.main_arg0) = m' ((c.tc : Thread Cert.ParamsRIdeal.nD Cert.ParamsRIdeal.τ).loc Cert.ParamsRIdeal.main_arg0)
          ∧ r.2.mem ((c.tc : Thread Cert.ParamsRIdeal.nD Cert.ParamsRIdeal.τ).loc Cert.ParamsRIdeal.main_arg1) = m' ((c.tc : Thread Cert.ParamsRIdeal.nD Cert.ParamsRIdeal.τ).loc Cert.ParamsRIdeal.main_arg1)
          ∧ r.2.mem ((c.tc : Thread Cert.ParamsRIdeal.nD Cert.ParamsRIdeal.τ).loc Cert.ParamsRIdeal.main_arg2) = m' ((c.tc : Thread Cert.ParamsRIdeal.nD Cert.ParamsRIdeal.τ).loc Cert.ParamsRIdeal.main_arg2)
          ∧ r.2.mem ((c.tc : Thread Cert.ParamsRIdeal.nD Cert.ParamsRIdeal.τ).loc Cert.ParamsRIdeal.main_arg3) = m' ((c.tc : Thread Cert.ParamsRIdeal.nD Cert.ParamsRIdeal.τ).loc Cert.ParamsRIdeal.main_arg3)
          ∧ r.2.mem ((c.tc : Thread Cert.ParamsRIdeal.nD Cert.ParamsRIdeal.τ).loc Cert.ParamsRIdeal.main_arg4) = m' ((c.tc : Thread Cert.ParamsRIdeal.nD Cert.ParamsRIdeal.τ).loc Cert.ParamsRIdeal.main_arg4))

def preserves_ProjK_ProjKIdeal : Prop :=
  True

def algebraic_ProjKIdeal_ProjRIdeal [hProjKIdeal : Cert.ProjKIdeal.Facts] [hProjRIdeal : Cert.ProjRIdeal.Facts] : Prop :=
  ∀ (m : (ℓ : Loc Cert.ProjKIdeal.nD Cert.ProjKIdeal.τ Cert.ProjKIdeal.sig) → Buf (Elt Ideal) ℓ) (g : Dev Cert.ProjKIdeal.nD → PrngReg)
    (m' : (ℓ : Loc Cert.ProjRIdeal.nD Cert.ProjRIdeal.τ Cert.ProjRIdeal.sig) → Buf (Elt Ideal) ℓ) (g' : Dev Cert.ProjRIdeal.nD → PrngReg), Pre_ProjKIdeal m →
    (∀ c : Dev Cert.ProjKIdeal.nD,
      m' ((c.tc : Thread Cert.ProjRIdeal.nD Cert.ProjRIdeal.τ).loc Cert.ProjRIdeal.main_arg0) = m ((c.tc : Thread Cert.ProjKIdeal.nD Cert.ProjKIdeal.τ).loc Cert.ProjKIdeal.main_arg0)
      ∧ m' ((c.tc : Thread Cert.ProjRIdeal.nD Cert.ProjRIdeal.τ).loc Cert.ProjRIdeal.main_arg1) = m ((c.tc : Thread Cert.ProjKIdeal.nD Cert.ProjKIdeal.τ).loc Cert.ProjKIdeal.main_arg1)) →
    ∃ (v0 : (c : Dev Cert.ProjKIdeal.nD) → Buf (Elt Ideal) ((c.tc : Thread Cert.ProjKIdeal.nD Cert.ProjKIdeal.τ).loc Cert.ProjKIdeal.main_v3)),
      θ_run (Cert.ProjKIdeal.defs (F := Ideal)) (onTc (τ := Cert.ProjKIdeal.τ) (Cert.ProjKIdeal.main (F := Ideal))) ⟨m, fun _ => 0, g⟩ (fun r => ∀ c : Dev Cert.ProjKIdeal.nD,
          r.2.mem ((c.tc : Thread Cert.ProjKIdeal.nD Cert.ProjKIdeal.τ).loc Cert.ProjKIdeal.main_v3) = v0 c
          ∧ r.2.mem ((c.tc : Thread Cert.ProjKIdeal.nD Cert.ProjKIdeal.τ).loc Cert.ProjKIdeal.main_arg0) = m ((c.tc : Thread Cert.ProjKIdeal.nD Cert.ProjKIdeal.τ).loc Cert.ProjKIdeal.main_arg0)
          ∧ r.2.mem ((c.tc : Thread Cert.ProjKIdeal.nD Cert.ProjKIdeal.τ).loc Cert.ProjKIdeal.main_arg1) = m ((c.tc : Thread Cert.ProjKIdeal.nD Cert.ProjKIdeal.τ).loc Cert.ProjKIdeal.main_arg1))
      ∧ θ_run (Cert.ProjRIdeal.defs (F := Ideal)) (onTc (τ := Cert.ProjRIdeal.τ) (Cert.ProjRIdeal.main (F := Ideal))) ⟨m', fun _ => 0, g'⟩ (fun r => ∀ c : Dev Cert.ProjRIdeal.nD,
          r.2.mem ((c.tc : Thread Cert.ProjRIdeal.nD Cert.ProjRIdeal.τ).loc Cert.ProjRIdeal.main_v0) = v0 c
          ∧ r.2.mem ((c.tc : Thread Cert.ProjRIdeal.nD Cert.ProjRIdeal.τ).loc Cert.ProjRIdeal.main_arg0) = m' ((c.tc : Thread Cert.ProjRIdeal.nD Cert.ProjRIdeal.τ).loc Cert.ProjRIdeal.main_arg0)
          ∧ r.2.mem ((c.tc : Thread Cert.ProjRIdeal.nD Cert.ProjRIdeal.τ).loc Cert.ProjRIdeal.main_arg1) = m' ((c.tc : Thread Cert.ProjRIdeal.nD Cert.ProjRIdeal.τ).loc Cert.ProjRIdeal.main_arg1))

def Claim : Prop :=
  ∃ (hLossK : Cert.LossK.Facts) (hLossKIdeal : Cert.LossKIdeal.Facts) (hLossRIdeal : Cert.LossRIdeal.Facts) (hReluK : Cert.ReluK.Facts) (hReluKIdeal : Cert.ReluKIdeal.Facts) (hReluRIdeal : Cert.ReluRIdeal.Facts) (hNormK : Cert.NormK.Facts) (hNormKIdeal : Cert.NormKIdeal.Facts) (hNormRIdeal : Cert.NormRIdeal.Facts) (hInK : Cert.InK.Facts) (hInKIdeal : Cert.InKIdeal.Facts) (hInRIdeal : Cert.InRIdeal.Facts) (hMixK : Cert.MixK.Facts) (hMixKIdeal : Cert.MixKIdeal.Facts) (hMixRIdeal : Cert.MixRIdeal.Facts) (hGateK : Cert.GateK.Facts) (hGateKIdeal : Cert.GateKIdeal.Facts) (hGateRIdeal : Cert.GateRIdeal.Facts) (hAttnK : Cert.AttnK.Facts) (hAttnKIdeal : Cert.AttnKIdeal.Facts) (hAttnRIdeal : Cert.AttnRIdeal.Facts) (hDiscK : Cert.DiscK.Facts) (hDiscKIdeal : Cert.DiscKIdeal.Facts) (hDiscRIdeal : Cert.DiscRIdeal.Facts) (hAttendK : Cert.AttendK.Facts) (hAttendKIdeal : Cert.AttendKIdeal.Facts) (hAttendRIdeal : Cert.AttendRIdeal.Facts) (hActK : Cert.ActK.Facts) (hActKIdeal : Cert.ActKIdeal.Facts) (hActRIdeal : Cert.ActRIdeal.Facts) (hPostK : Cert.PostK.Facts) (hPostKIdeal : Cert.PostKIdeal.Facts) (hPostRIdeal : Cert.PostRIdeal.Facts) (hOutK : Cert.OutK.Facts) (hOutKIdeal : Cert.OutKIdeal.Facts) (hOutRIdeal : Cert.OutRIdeal.Facts) (hJoinK : Cert.JoinK.Facts) (hJoinKIdeal : Cert.JoinKIdeal.Facts) (hJoinRIdeal : Cert.JoinRIdeal.Facts) (hFirstK : Cert.FirstK.Facts) (hFirstKIdeal : Cert.FirstKIdeal.Facts) (hFirstRIdeal : Cert.FirstRIdeal.Facts) (hParamsK : Cert.ParamsK.Facts) (hParamsKIdeal : Cert.ParamsKIdeal.Facts) (hParamsRIdeal : Cert.ParamsRIdeal.Facts) (hProjK : Cert.ProjK.Facts) (hProjKIdeal : Cert.ProjKIdeal.Facts) (hProjRIdeal : Cert.ProjRIdeal.Facts) (hPre_loss_finite : Cert.Pre_loss_finite.Facts) (hPre_ff2_finite : Cert.Pre_ff2_finite.Facts) (hPre_ff1_finite : Cert.Pre_ff1_finite.Facts) (hPre_in_finite : Cert.Pre_in_finite.Facts) (hPre_mix_finite : Cert.Pre_mix_finite.Facts) (hPre_attn_finite : Cert.Pre_attn_finite.Facts) (hPre_attend_finite : Cert.Pre_attend_finite.Facts),
    quiescent_LossK (hLossK := hLossK)
    ∧ quiescent_LossKIdeal (hLossKIdeal := hLossKIdeal)
    ∧ quiescent_LossKIdeal_pre_loss_finite (hLossKIdeal := hLossKIdeal) (hPre_loss_finite := hPre_loss_finite)
    ∧ quiescent_LossRIdeal (hLossRIdeal := hLossRIdeal)
    ∧ quiescent_LossRIdeal_pre_loss_finite (hLossRIdeal := hLossRIdeal) (hPre_loss_finite := hPre_loss_finite)
    ∧ quiescent_ReluK (hReluK := hReluK)
    ∧ quiescent_ReluKIdeal (hReluKIdeal := hReluKIdeal)
    ∧ quiescent_ReluKIdeal_pre_ff2_finite (hReluKIdeal := hReluKIdeal) (hPre_ff2_finite := hPre_ff2_finite)
    ∧ quiescent_ReluRIdeal (hReluRIdeal := hReluRIdeal)
    ∧ quiescent_ReluRIdeal_pre_ff2_finite (hReluRIdeal := hReluRIdeal) (hPre_ff2_finite := hPre_ff2_finite)
    ∧ quiescent_NormK (hNormK := hNormK)
    ∧ quiescent_NormKIdeal (hNormKIdeal := hNormKIdeal)
    ∧ quiescent_NormKIdeal_pre_ff1_finite (hNormKIdeal := hNormKIdeal) (hPre_ff1_finite := hPre_ff1_finite)
    ∧ quiescent_NormRIdeal (hNormRIdeal := hNormRIdeal)
    ∧ quiescent_NormRIdeal_pre_ff1_finite (hNormRIdeal := hNormRIdeal) (hPre_ff1_finite := hPre_ff1_finite)
    ∧ quiescent_InK (hInK := hInK)
    ∧ quiescent_InKIdeal (hInKIdeal := hInKIdeal)
    ∧ quiescent_InKIdeal_pre_in_finite (hInKIdeal := hInKIdeal) (hPre_in_finite := hPre_in_finite)
    ∧ quiescent_InRIdeal (hInRIdeal := hInRIdeal)
    ∧ quiescent_InRIdeal_pre_in_finite (hInRIdeal := hInRIdeal) (hPre_in_finite := hPre_in_finite)
    ∧ quiescent_MixK (hMixK := hMixK)
    ∧ quiescent_MixKIdeal (hMixKIdeal := hMixKIdeal)
    ∧ quiescent_MixKIdeal_pre_mix_finite (hMixKIdeal := hMixKIdeal) (hPre_mix_finite := hPre_mix_finite)
    ∧ quiescent_MixRIdeal (hMixRIdeal := hMixRIdeal)
    ∧ quiescent_MixRIdeal_pre_mix_finite (hMixRIdeal := hMixRIdeal) (hPre_mix_finite := hPre_mix_finite)
    ∧ quiescent_GateK (hGateK := hGateK)
    ∧ quiescent_GateKIdeal (hGateKIdeal := hGateKIdeal)
    ∧ quiescent_GateRIdeal (hGateRIdeal := hGateRIdeal)
    ∧ quiescent_AttnK (hAttnK := hAttnK)
    ∧ quiescent_AttnKIdeal (hAttnKIdeal := hAttnKIdeal)
    ∧ quiescent_AttnKIdeal_pre_attn_finite (hAttnKIdeal := hAttnKIdeal) (hPre_attn_finite := hPre_attn_finite)
    ∧ quiescent_AttnRIdeal (hAttnRIdeal := hAttnRIdeal)
    ∧ quiescent_AttnRIdeal_pre_attn_finite (hAttnRIdeal := hAttnRIdeal) (hPre_attn_finite := hPre_attn_finite)
    ∧ quiescent_DiscK (hDiscK := hDiscK)
    ∧ quiescent_DiscKIdeal (hDiscKIdeal := hDiscKIdeal)
    ∧ quiescent_DiscRIdeal (hDiscRIdeal := hDiscRIdeal)
    ∧ quiescent_AttendK (hAttendK := hAttendK)
    ∧ quiescent_AttendKIdeal (hAttendKIdeal := hAttendKIdeal)
    ∧ quiescent_AttendKIdeal_pre_attend_finite (hAttendKIdeal := hAttendKIdeal) (hPre_attend_finite := hPre_attend_finite)
    ∧ quiescent_AttendRIdeal (hAttendRIdeal := hAttendRIdeal)
    ∧ quiescent_AttendRIdeal_pre_attend_finite (hAttendRIdeal := hAttendRIdeal) (hPre_attend_finite := hPre_attend_finite)
    ∧ quiescent_ActK (hActK := hActK)
    ∧ quiescent_ActKIdeal (hActKIdeal := hActKIdeal)
    ∧ quiescent_ActRIdeal (hActRIdeal := hActRIdeal)
    ∧ quiescent_PostK (hPostK := hPostK)
    ∧ quiescent_PostKIdeal (hPostKIdeal := hPostKIdeal)
    ∧ quiescent_PostRIdeal (hPostRIdeal := hPostRIdeal)
    ∧ quiescent_OutK (hOutK := hOutK)
    ∧ quiescent_OutKIdeal (hOutKIdeal := hOutKIdeal)
    ∧ quiescent_OutRIdeal (hOutRIdeal := hOutRIdeal)
    ∧ quiescent_JoinK (hJoinK := hJoinK)
    ∧ quiescent_JoinKIdeal (hJoinKIdeal := hJoinKIdeal)
    ∧ quiescent_JoinRIdeal (hJoinRIdeal := hJoinRIdeal)
    ∧ quiescent_FirstK (hFirstK := hFirstK)
    ∧ quiescent_FirstKIdeal (hFirstKIdeal := hFirstKIdeal)
    ∧ quiescent_FirstRIdeal (hFirstRIdeal := hFirstRIdeal)
    ∧ quiescent_ParamsK (hParamsK := hParamsK)
    ∧ quiescent_ParamsKIdeal (hParamsKIdeal := hParamsKIdeal)
    ∧ quiescent_ParamsRIdeal (hParamsRIdeal := hParamsRIdeal)
    ∧ quiescent_ProjK (hProjK := hProjK)
    ∧ quiescent_ProjKIdeal (hProjKIdeal := hProjKIdeal)
    ∧ quiescent_ProjRIdeal (hProjRIdeal := hProjRIdeal)
    ∧ preserves_LossK_LossKIdeal
    ∧ algebraic_LossKIdeal_LossRIdeal_pre_loss_finite (hLossKIdeal := hLossKIdeal) (hLossRIdeal := hLossRIdeal) (hPre_loss_finite := hPre_loss_finite)
    ∧ preserves_ReluK_ReluKIdeal
    ∧ algebraic_ReluKIdeal_ReluRIdeal_pre_ff2_finite (hReluKIdeal := hReluKIdeal) (hReluRIdeal := hReluRIdeal) (hPre_ff2_finite := hPre_ff2_finite)
    ∧ preserves_NormK_NormKIdeal
    ∧ algebraic_NormKIdeal_NormRIdeal_pre_ff1_finite (hNormKIdeal := hNormKIdeal) (hNormRIdeal := hNormRIdeal) (hPre_ff1_finite := hPre_ff1_finite)
    ∧ preserves_InK_InKIdeal
    ∧ algebraic_InKIdeal_InRIdeal_pre_in_finite (hInKIdeal := hInKIdeal) (hInRIdeal := hInRIdeal) (hPre_in_finite := hPre_in_finite)
    ∧ preserves_MixK_MixKIdeal
    ∧ algebraic_MixKIdeal_MixRIdeal_pre_mix_finite (hMixKIdeal := hMixKIdeal) (hMixRIdeal := hMixRIdeal) (hPre_mix_finite := hPre_mix_finite)
    ∧ preserves_GateK_GateKIdeal
    ∧ algebraic_GateKIdeal_GateRIdeal (hGateKIdeal := hGateKIdeal) (hGateRIdeal := hGateRIdeal)
    ∧ preserves_AttnK_AttnKIdeal
    ∧ algebraic_AttnKIdeal_AttnRIdeal_pre_attn_finite (hAttnKIdeal := hAttnKIdeal) (hAttnRIdeal := hAttnRIdeal) (hPre_attn_finite := hPre_attn_finite)
    ∧ preserves_DiscK_DiscKIdeal
    ∧ algebraic_DiscKIdeal_DiscRIdeal (hDiscKIdeal := hDiscKIdeal) (hDiscRIdeal := hDiscRIdeal)
    ∧ preserves_AttendK_AttendKIdeal
    ∧ algebraic_AttendKIdeal_AttendRIdeal_pre_attend_finite (hAttendKIdeal := hAttendKIdeal) (hAttendRIdeal := hAttendRIdeal) (hPre_attend_finite := hPre_attend_finite)
    ∧ preserves_ActK_ActKIdeal
    ∧ algebraic_ActKIdeal_ActRIdeal (hActKIdeal := hActKIdeal) (hActRIdeal := hActRIdeal)
    ∧ preserves_PostK_PostKIdeal
    ∧ algebraic_PostKIdeal_PostRIdeal (hPostKIdeal := hPostKIdeal) (hPostRIdeal := hPostRIdeal)
    ∧ preserves_OutK_OutKIdeal
    ∧ algebraic_OutKIdeal_OutRIdeal (hOutKIdeal := hOutKIdeal) (hOutRIdeal := hOutRIdeal)
    ∧ preserves_JoinK_JoinKIdeal
    ∧ algebraic_JoinKIdeal_JoinRIdeal (hJoinKIdeal := hJoinKIdeal) (hJoinRIdeal := hJoinRIdeal)
    ∧ preserves_FirstK_FirstKIdeal
    ∧ algebraic_FirstKIdeal_FirstRIdeal (hFirstKIdeal := hFirstKIdeal) (hFirstRIdeal := hFirstRIdeal)
    ∧ preserves_ParamsK_ParamsKIdeal
    ∧ algebraic_ParamsKIdeal_ParamsRIdeal (hParamsKIdeal := hParamsKIdeal) (hParamsRIdeal := hParamsRIdeal)
    ∧ preserves_ProjK_ProjKIdeal
    ∧ algebraic_ProjKIdeal_ProjRIdeal (hProjKIdeal := hProjKIdeal) (hProjRIdeal := hProjRIdeal)
-- ==== Pre_attend_finite.lean ====
abbrev S4x2048x512 : Shape := ⟨3, ![4, 2048, 512]⟩
abbrev S4x2048 : Shape := ⟨2, ![4, 2048]⟩
abbrev S_ : Shape := ⟨0, ![]⟩

class Facts : Prop where
  bcast_S_S4x2048x512 : S_.BroadcastsInDim S4x2048x512 (![] : Fin 0 → Fin S4x2048x512.rank)

variable [Facts]

def fn {F : FTy → Type} [FloatOps F] (main_arg0 : FVec F S4x2048x512 .f32) (main_arg1 : FVec F S4x2048x512 .f32) (main_arg2 : FVec F S4x2048x512 .f32) (main_arg3 : IVec S4x2048 32) : IVec S4x2048x512 1 × IVec S4x2048x512 1 × IVec S4x2048x512 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_v3 : FVec F S4x2048x512 .f32 := Host.absf main_arg1
  let main_cst_0 : FVec F S_ .f32 := constant S_ .f32 0x7F800000#32
  let main_v4 : FVec F S4x2048x512 .f32 := broadcastInDim S4x2048x512 ![] bcast_S_S4x2048x512 main_cst_0
  let main_v5 : IVec S4x2048x512 1 := cmpf .olt main_v3 main_v4
  let main_v6 : FVec F S4x2048x512 .f32 := Host.absf main_arg2
  let main_cst_1 : FVec F S_ .f32 := constant S_ .f32 0x7F800000#32
  let main_v7 : FVec F S4x2048x512 .f32 := broadcastInDim S4x2048x512 ![] bcast_S_S4x2048x512 main_cst_1
  let main_v8 : IVec S4x2048x512 1 := cmpf .olt main_v6 main_v7
  (main_v2, main_v5, main_v8)
-- ==== Pre_attn_finite.lean ====
abbrev S4x2048x512 : Shape := ⟨3, ![4, 2048, 512]⟩
abbrev S4x2048 : Shape := ⟨2, ![4, 2048]⟩
abbrev S_ : Shape := ⟨0, ![]⟩

class Facts : Prop where
  bcast_S_S4x2048x512 : S_.BroadcastsInDim S4x2048x512 (![] : Fin 0 → Fin S4x2048x512.rank)

variable [Facts]

def fn {F : FTy → Type} [FloatOps F] (main_arg0 : FVec F S4x2048x512 .f32) (main_arg1 : FVec F S4x2048x512 .f32) (main_arg2 : FVec F S4x2048x512 .f32) (main_arg3 : IVec S4x2048 32) (main_arg4 : FVec F S4x2048x512 .f32) : IVec S4x2048x512 1 × IVec S4x2048x512 1 × IVec S4x2048x512 1 × IVec S4x2048x512 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_v3 : FVec F S4x2048x512 .f32 := Host.absf main_arg1
  let main_cst_0 : FVec F S_ .f32 := constant S_ .f32 0x7F800000#32
  let main_v4 : FVec F S4x2048x512 .f32 := broadcastInDim S4x2048x512 ![] bcast_S_S4x2048x512 main_cst_0
  let main_v5 : IVec S4x2048x512 1 := cmpf .olt main_v3 main_v4
  let main_v6 : FVec F S4x2048x512 .f32 := Host.absf main_arg2
  let main_cst_1 : FVec F S_ .f32 := constant S_ .f32 0x7F800000#32
  let main_v7 : FVec F S4x2048x512 .f32 := broadcastInDim S4x2048x512 ![] bcast_S_S4x2048x512 main_cst_1
  let main_v8 : IVec S4x2048x512 1 := cmpf .olt main_v6 main_v7
  let main_v9 : FVec F S4x2048x512 .f32 := Host.absf main_arg4
  let main_cst_2 : FVec F S_ .f32 := constant S_ .f32 0x7F800000#32
  let main_v10 : FVec F S4x2048x512 .f32 := broadcastInDim S4x2048x512 ![] bcast_S_S4x2048x512 main_cst_2
  let main_v11 : IVec S4x2048x512 1 := cmpf .olt main_v9 main_v10
  (main_v2, main_v5, main_v8, main_v11)
-- ==== Pre_ff1_finite.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x4096 : S_.BroadcastsInDim S1024x4096 (![] : Fin 0 → Fin S1024x4096.rank)
  bcast_S_S8192x4096 : S_.BroadcastsInDim S8192x4096 (![] : Fin 0 → Fin S8192x4096.rank)

variable [Facts]

def fn_part1 {F : FTy → Type} [FloatOps F] (main_arg6 : FVec F S8192x1024 .f32) (main_v2 : IVec S8192x1024 1) (main_v5 : IVec S1024 1) (main_v8 : IVec S1024 1) (main_v11 : IVec S1024 1) (main_v14 : IVec S1024x4096 1) (main_v17 : IVec S8192x4096 1) : IVec S8192x1024 1 × IVec S1024 1 × IVec S1024 1 × IVec S1024 1 × IVec S1024x4096 1 × IVec S8192x4096 1 × IVec S8192x1024 1 :=
  let main_v18 : FVec F S8192x1024 .f32 := Host.absf main_arg6
  let main_cst_5 : FVec F S_ .f32 := constant S_ .f32 0x7F800000#32
  let main_v19 : FVec F S8192x1024 .f32 := broadcastInDim S8192x1024 ![] bcast_S_S8192x1024 main_cst_5
  let main_v20 : IVec S8192x1024 1 := cmpf .olt main_v18 main_v19
  (main_v2, main_v5, main_v8, main_v11, main_v14, main_v17, main_v20)

def fn {F : FTy → Type} [FloatOps F] (main_arg0 : FVec F S8192x1024 .f32) (main_arg1 : FVec F S1024 .f32) (main_arg2 : FVec F S1024 .f32) (main_arg3 : FVec F S1024 .f32) (main_arg4 : FVec F S1024x4096 .f32) (main_arg5 : FVec F S8192x4096 .f32) (main_arg6 : FVec F S8192x1024 .f32) : IVec S8192x1024 1 × IVec S1024 1 × IVec S1024 1 × IVec S1024 1 × IVec S1024x4096 1 × IVec S8192x4096 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024x4096 .f32 := Host.absf main_arg4
  let main_cst_3 : FVec F S_ .f32 := constant S_ .f32 0x7F800000#32
  let main_v13 : FVec F S1024x4096 .f32 := broadcastInDim S1024x4096 ![] bcast_S_S1024x4096 main_cst_3
  let main_v14 : IVec S1024x4096 1 := cmpf .olt main_v12 main_v13
  let main_v15 : FVec F S8192x4096 .f32 := Host.absf main_arg5
  let main_cst_4 : FVec F S_ .f32 := constant S_ .f32 0x7F800000#32
  let main_v16 : FVec F S8192x4096 .f32 := broadcastInDim S8192x4096 ![] bcast_S_S8192x4096 main_cst_4
  let main_v17 : IVec S8192x4096 1 := cmpf .olt main_v15 main_v16
  fn_part1 (F := F) main_arg6 main_v2 main_v5 main_v8 main_v11 main_v14 main_v17
-- ==== Pre_ff2_finite.lean ====
abbrev S8192x4096 : Shape := ⟨2, ![8192, 4096]⟩
abbrev S4096 : Shape := ⟨1, ![4096]⟩
abbrev S4096x1024 : Shape := ⟨2, ![4096, 1024]⟩
abbrev S8192x1024 : Shape := ⟨2, ![8192, 1024]⟩
abbrev S_ : Shape := ⟨0, ![]⟩

class Facts : Prop where
  bcast_S_S8192x4096 : S_.BroadcastsInDim S8192x4096 (![] : Fin 0 → Fin S8192x4096.rank)
  bcast_S_S4096 : S_.BroadcastsInDim S4096 (![] : Fin 0 → Fin S4096.rank)

variable [Facts]

def fn {F : FTy → Type} [FloatOps F] (main_arg0 : FVec F S8192x4096 .f32) (main_arg1 : FVec F S4096 .f32) (main_arg2 : FVec F S4096x1024 .f32) (main_arg3 : FVec F S8192x1024 .f32) : IVec S8192x4096 1 × IVec S4096 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_v3 : FVec F S4096 .f32 := Host.absf main_arg1
  let main_cst_0 : FVec F S_ .f32 := constant S_ .f32 0x7F800000#32
  let main_v4 : FVec F S4096 .f32 := broadcastInDim S4096 ![] bcast_S_S4096 main_cst_0
  let main_v5 : IVec S4096 1 := cmpf .olt main_v3 main_v4
  (main_v2, main_v5)
-- ==== Pre_in_finite.lean ====
abbrev S8192x1024 : Shape := ⟨2, ![8192, 1024]⟩
abbrev S1024 : Shape := ⟨1, ![1024]⟩
abbrev S1024x2048 : Shape := ⟨2, ![1024, 2048]⟩
abbrev S8192x512 : Shape := ⟨2, ![8192, 512]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x2048 : S_.BroadcastsInDim S1024x2048 (![] : Fin 0 → Fin S1024x2048.rank)
  bcast_S_S8192x512 : S_.BroadcastsInDim S8192x512 (![] : Fin 0 → Fin S8192x512.rank)

variable [Facts]

def fn_part1 {F : FTy → Type} [FloatOps F] (main_arg6 : FVec F S8192x512 .f32) (main_arg7 : FVec F S8192x512 .f32) (main_arg8 : FVec F S8192x512 .f32) (main_arg9 : FVec F S8192x1024 .f32) (main_v2 : IVec S8192x1024 1) (main_v5 : IVec S1024 1) (main_v8 : IVec S1024 1) (main_v11 : IVec S1024 1) (main_v14 : IVec S1024x2048 1) (main_v17 : IVec S8192x512 1) : IVec S8192x1024 1 × IVec S1024 1 × IVec S1024 1 × IVec S1024 1 × IVec S1024x2048 1 × IVec S8192x512 1 × IVec S8192x512 1 × IVec S8192x512 1 × IVec S8192x512 1 × IVec S8192x1024 1 :=
  let main_v18 : FVec F S8192x512 .f32 := Host.absf main_arg6
  let main_cst_5 : FVec F S_ .f32 := constant S_ .f32 0x7F800000#32
  let main_v19 : FVec F S8192x512 .f32 := broadcastInDim S8192x512 ![] bcast_S_S8192x512 main_cst_5
  let main_v20 : IVec S8192x512 1 := cmpf .olt main_v18 main_v19
  let main_v21 : FVec F S8192x512 .f32 := Host.absf main_arg7
  let main_cst_6 : FVec F S_ .f32 := constant S_ .f32 0x7F800000#32
  let main_v22 : FVec F S8192x512 .f32 := broadcastInDim S8192x512 ![] bcast_S_S8192x512 main_cst_6
  let main_v23 : IVec S8192x512 1 := cmpf .olt main_v21 main_v22
  let main_v24 : FVec F S8192x512 .f32 := Host.absf main_arg8
  let main_cst_7 : FVec F S_ .f32 := constant S_ .f32 0x7F800000#32
  let main_v25 : FVec F S8192x512 .f32 := broadcastInDim S8192x512 ![] bcast_S_S8192x512 main_cst_7
  let main_v26 : IVec S8192x512 1 := cmpf .olt main_v24 main_v25
  let main_v27 : FVec F S8192x1024 .f32 := Host.absf main_arg9
  let main_cst_8 : FVec F S_ .f32 := constant S_ .f32 0x7F800000#32
  let main_v28 : FVec F S8192x1024 .f32 := broadcastInDim S8192x1024 ![] bcast_S_S8192x1024 main_cst_8
  let main_v29 : IVec S8192x1024 1 := cmpf .olt main_v27 main_v28
  (main_v2, main_v5, main_v8, main_v11, main_v14, main_v17, main_v20, main_v23, main_v26, main_v29)

def fn {F : FTy → Type} [FloatOps F] (main_arg0 : FVec F S8192x1024 .f32) (main_arg1 : FVec F S1024 .f32) (main_arg2 : FVec F S1024 .f32) (main_arg3 : FVec F S1024 .f32) (main_arg4 : FVec F S1024x2048 .f32) (main_arg5 : FVec F S8192x512 .f32) (main_arg6 : FVec F S8192x512 .f32) (main_arg7 : FVec F S8192x512 .f32) (main_arg8 : FVec F S8192x512 .f32) (main_arg9 : FVec F S8192x1024 .f32) : IVec S8192x1024 1 × IVec S1024 1 × IVec S1024 1 × IVec S1024 1 × IVec S1024x2048 1 × IVec S8192x512 1 × IVec S8192x512 1 × IVec S8192x512 1 × IVec S8192x512 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024x2048 .f32 := Host.absf main_arg4
  let main_cst_3 : FVec F S_ .f32 := constant S_ .f32 0x7F800000#32
  let main_v13 : FVec F S1024x2048 .f32 := broadcastInDim S1024x2048 ![] bcast_S_S1024x2048 main_cst_3
  let main_v14 : IVec S1024x2048 1 := cmpf .olt main_v12 main_v13
  let main_v15 : FVec F S8192x512 .f32 := Host.absf main_arg5
  let main_cst_4 : FVec F S_ .f32 := constant S_ .f32 0x7F800000#32
  let main_v16 : FVec F S8192x512 .f32 := broadcastInDim S8192x512 ![] bcast_S_S8192x512 main_cst_4
  let main_v17 : IVec S8192x512 1 := cmpf .olt main_v15 main_v16
  fn_part1 (F := F) main_arg6 main_arg7 main_arg8 main_arg9 main_v2 main_v5 main_v8 main_v11 main_v14 main_v17
-- ==== Pre_loss_finite.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x1024 .f32) (main_arg1 : FVec F S1024 .f32) (main_arg2 : FVec F S1024 .f32) (main_arg3 : FVec F S1024 .f32) (main_arg4 : FVec F S8192x1024 .f32) : IVec S8192x1024 1 × IVec S1024 1 × IVec S1024 1 × IVec S1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Pre_mix_finite.lean ====
abbrev S8192x512 : Shape := ⟨2, ![8192, 512]⟩
abbrev S512x512 : Shape := ⟨2, ![512, 512]⟩
abbrev S512 : Shape := ⟨1, ![512]⟩
abbrev S1024x1024 : Shape := ⟨2, ![1024, 1024]⟩
abbrev S8192x1024 : Shape := ⟨2, ![8192, 1024]⟩
abbrev S_ : Shape := ⟨0, ![]⟩

class Facts : Prop where
  bcast_S_S8192x512 : S_.BroadcastsInDim S8192x512 (![] : Fin 0 → Fin S8192x512.rank)
  bcast_S_S512x512 : S_.BroadcastsInDim S512x512 (![] : Fin 0 → Fin S512x512.rank)
  bcast_S_S512 : S_.BroadcastsInDim S512 (![] : Fin 0 → Fin S512.rank)
  bcast_S_S1024x1024 : S_.BroadcastsInDim S1024x1024 (![] : Fin 0 → Fin S1024x1024.rank)
  bcast_S_S8192x1024 : S_.BroadcastsInDim S8192x1024 (![] : Fin 0 → Fin S8192x1024.rank)

variable [Facts]

def fn_part1 {F : FTy → Type} [FloatOps F] (main_arg6 : FVec F S1024x1024 .f32) (main_arg7 : FVec F S8192x1024 .f32) (main_v2 : IVec S8192x512 1) (main_v5 : IVec S8192x512 1) (main_v8 : IVec S512x512 1) (main_v11 : IVec S512 1) (main_v14 : IVec S512 1) (main_v17 : IVec S512 1) : IVec S8192x512 1 × IVec S8192x512 1 × IVec S512x512 1 × IVec S512 1 × IVec S512 1 × IVec S512 1 × IVec S1024x1024 1 × IVec S8192x1024 1 :=
  let main_v18 : FVec F S1024x1024 .f32 := Host.absf main_arg6
  let main_cst_5 : FVec F S_ .f32 := constant S_ .f32 0x7F800000#32
  let main_v19 : FVec F S1024x1024 .f32 := broadcastInDim S1024x1024 ![] bcast_S_S1024x1024 main_cst_5
  let main_v20 : IVec S1024x1024 1 := cmpf .olt main_v18 main_v19
  let main_v21 : FVec F S8192x1024 .f32 := Host.absf main_arg7
  let main_cst_6 : FVec F S_ .f32 := constant S_ .f32 0x7F800000#32
  let main_v22 : FVec F S8192x1024 .f32 := broadcastInDim S8192x1024 ![] bcast_S_S8192x1024 main_cst_6
  let main_v23 : IVec S8192x1024 1 := cmpf .olt main_v21 main_v22
  (main_v2, main_v5, main_v8, main_v11, main_v14, main_v17, main_v20, main_v23)

def fn {F : FTy → Type} [FloatOps F] (main_arg0 : FVec F S8192x512 .f32) (main_arg1 : FVec F S8192x512 .f32) (main_arg2 : FVec F S512x512 .f32) (main_arg3 : FVec F S512 .f32) (main_arg4 : FVec F S512 .f32) (main_arg5 : FVec F S512 .f32) (main_arg6 : FVec F S1024x1024 .f32) (main_arg7 : FVec F S8192x1024 .f32) : IVec S8192x512 1 × IVec S8192x512 1 × IVec S512x512 1 × IVec S512 1 × IVec S512 1 × IVec S512 1 × IVec S1024x1024 1 × IVec S8192x1024 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S512x512 .f32 := Host.absf main_arg2
  let main_cst_1 : FVec F S_ .f32 := constant S_ .f32 0x7F800000#32
  let main_v7 : FVec F S512x512 .f32 := broadcastInDim S512x512 ![] bcast_S_S512x512 main_cst_1
  let main_v8 : IVec S512x512 1 := cmpf .olt main_v6 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_v12 : FVec F S512 .f32 := Host.absf main_arg4
  let main_cst_3 : FVec F S_ .f32 := constant S_ .f32 0x7F800000#32
  let main_v13 : FVec F S512 .f32 := broadcastInDim S512 ![] bcast_S_S512 main_cst_3
  let main_v14 : IVec S512 1 := cmpf .olt main_v12 main_v13
  let main_v15 : FVec F S512 .f32 := Host.absf main_arg5
  let main_cst_4 : FVec F S_ .f32 := constant S_ .f32 0x7F800000#32
  let main_v16 : FVec F S512 .f32 := broadcastInDim S512 ![] bcast_S_S512 main_cst_4
  let main_v17 : IVec S512 1 := cmpf .olt main_v15 main_v16
  fn_part1 (F := F) main_arg6 main_arg7 main_v2 main_v5 main_v8 main_v11 main_v14 main_v17
-- ==== LossK.lean ====
abbrev S8192x1024 : Shape := ⟨2, ![8192, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1x128 : Shape := ⟨2, ![1, 128]⟩
abbrev S1024x1024 : Shape := ⟨2, ![1024, 1024]⟩
abbrev S1024x1 : Shape := ⟨2, ![1024, 1]⟩
abbrev S1 : Shape := ⟨1, ![1]⟩
abbrev S1x1 : Shape := ⟨2, ![1, 1]⟩

abbrev nBuf : Space → Nat
  | .hbm => 43
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S1x128, .f32⟩
  | .hbm, ⟨40, _⟩ => ⟨S1x1024, .f32⟩
  | .hbm, ⟨41, _⟩ => ⟨S1x1024, .f32⟩
  | .hbm, ⟨42, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1x128, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28_0 : Ref sig .tc := ⟨.hbm, 38, rfl⟩
abbrev main_v28_1 : Ref sig .tc := ⟨.hbm, 39, rfl⟩
abbrev main_v28_2 : Ref sig .tc := ⟨.hbm, 40, rfl⟩
abbrev main_v28_3 : Ref sig .tc := ⟨.hbm, 41, rfl⟩
abbrev main_v28_4 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v63 : BitVec 1 := Scalar.cmpi .eq arg0 c0_i32
  let v64 : BitVec 32 := Scalar.extui v63
  let c0_i32_25 : BitVec 32 := 0#32
  let v65 : BitVec 1 := Scalar.cmpi .ne v64 c0_i32_25
  v65

def k0_cond2 (i : grid0.Coords) : BitVec 1 :=
  let arg0 : BitVec 32 := BitVec.ofNat 32 (i 0).val
  let c0_i32 : BitVec 32 := 0#32
  let v63 : BitVec 1 := Scalar.cmpi .eq arg0 c0_i32
  let v_true : BitVec 1 := 1#1
  let v66 : BitVec 1 := Scalar.xori v63 v_true
  let v67 : BitVec 32 := Scalar.extui v66
  let c0_i32_26 : BitVec 32 := 0#32
  let v68 : BitVec 1 := Scalar.cmpi .ne v67 c0_i32_26
  v68

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossRIdeal.lean ====
abbrev S8192x1024 : Shape := ⟨2, ![8192, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1x128 : Shape := ⟨2, ![1, 128]⟩

abbrev nBuf : Space → Nat
  | .hbm => 120
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192, .f32⟩
  | .hbm, ⟨51, _⟩ => ⟨S_, .f32⟩
  | .hbm, ⟨52, _⟩ => ⟨S8192, .f32⟩
  | .hbm, ⟨53, _⟩ => ⟨S8192, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S8192, .f32⟩
  | .hbm, ⟨62, _⟩ => ⟨S_, .f32⟩
  | .hbm, ⟨63, _⟩ => ⟨S8192, .f32⟩
  | .hbm, ⟨64, _⟩ => ⟨S8192, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S_, .f32⟩
  | .hbm, ⟨71, _⟩ => ⟨S1024, .f32⟩
  | .hbm, ⟨72, _⟩ => ⟨S8192x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S1024, .f32⟩
  | .hbm, ⟨80, _⟩ => ⟨S8192x1024, .f32⟩
  | .hbm, ⟨81, _⟩ => ⟨S_, .f32⟩
  | .hbm, ⟨82, _⟩ => ⟨S8192, .f32⟩
  | .hbm, ⟨83, _⟩ => ⟨S8192x1, .f32⟩
  | .hbm, ⟨84, _⟩ => ⟨S8192x1024, .f32⟩
  | .hbm, ⟨85, _⟩ => ⟨S8192x1024, .f32⟩
  | .hbm, ⟨86, _⟩ => ⟨S8192x1, .f32⟩
  | .hbm, ⟨87, _⟩ => ⟨S8192x1024, .f32⟩
  | .hbm, ⟨88, _⟩ => ⟨S_, .f32⟩
  | .hbm, ⟨89, _⟩ => ⟨S8192, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S_, .f32⟩
  | .hbm, ⟨100, _⟩ => ⟨S8192, .f32⟩
  | .hbm, ⟨101, _⟩ => ⟨S8192x1, .f32⟩
  | .hbm, ⟨102, _⟩ => ⟨S8192x1024, .f32⟩
  | .hbm, ⟨103, _⟩ => ⟨S8192x1, .f32⟩
  | .hbm, ⟨104, _⟩ => ⟨S_, .f32⟩
  | .hbm, ⟨105, _⟩ => ⟨S8192x1, .f32⟩
  | .hbm, ⟨106, _⟩ => ⟨S8192x1, .f32⟩
  | .hbm, ⟨107, _⟩ => ⟨S_, .f32⟩
  | .hbm, ⟨108, _⟩ => ⟨S8192, .f32⟩
  | .hbm, ⟨109, _⟩ => ⟨S8192x1024, .f32⟩
  | .hbm, ⟨110, _⟩ => ⟨S8192x1024, .f32⟩
  | .hbm, ⟨111, _⟩ => ⟨S_, .f32⟩
  | .hbm, ⟨112, _⟩ => ⟨S1024, .f32⟩
  | .hbm, ⟨113, _⟩ => ⟨S1x1024, .f32⟩
  | .hbm, ⟨114, _⟩ => ⟨S_, .f32⟩
  | .hbm, ⟨115, _⟩ => ⟨S1024, .f32⟩
  | .hbm, ⟨116, _⟩ => ⟨S1x128, .f32⟩
  | .hbm, ⟨117, _⟩ => ⟨S1x1024, .f32⟩
  | .hbm, ⟨118, _⟩ => ⟨S1x1024, .f32⟩
  | .hbm, ⟨119, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_cst_11 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_cst_16 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_17 : Ref sig .tc := ⟨.hbm, 78, rfl⟩
abbrev main_v55 : Ref sig .tc := ⟨.hbm, 79, rfl⟩
abbrev main_v56 : Ref sig .tc := ⟨.hbm, 80, rfl⟩
abbrev main_cst_18 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_19 : Ref sig .tc := ⟨.hbm, 88, rfl⟩
abbrev main_v63 : Ref sig .tc := ⟨.hbm, 89, rfl⟩
abbrev main_v64 : Ref sig .tc := ⟨.hbm, 90, rfl⟩
abbrev main_cst_20 : Ref sig .tc := ⟨.hbm, 91, rfl⟩
abbrev main_v65 : Ref sig .tc := ⟨.hbm, 92, rfl⟩
abbrev main_v66 : Ref sig .tc := ⟨.hbm, 93, rfl⟩
abbrev main_cst_21 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_22 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_23 : Ref sig .tc := ⟨.hbm, 104, rfl⟩
abbrev main_v75 : Ref sig .tc := ⟨.hbm, 105, rfl⟩
abbrev main_v76 : Ref sig .tc := ⟨.hbm, 106, rfl⟩
abbrev main_cst_24 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_25 : Ref sig .tc := ⟨.hbm, 111, rfl⟩
abbrev main_v80 : Ref sig .tc := ⟨.hbm, 112, rfl⟩
abbrev main_v81 : Ref sig .tc := ⟨.hbm, 113, rfl⟩
abbrev main_cst_26 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩

abbrev nD : Nat := 1
abbrev τ : Topo := Topo.v7x

variable {F : FTy → Type} [FloatOps F]
-- ==== ReluK.lean ====
abbrev S8192x4096 : Shape := ⟨2, ![8192, 4096]⟩
abbrev S4096 : Shape := ⟨1, ![4096]⟩
abbrev S4096x1024 : Shape := ⟨2, ![4096, 1024]⟩
abbrev S8192x1024 : Shape := ⟨2, ![8192, 1024]⟩
abbrev S1x4096 : Shape := ⟨2, ![1, 4096]⟩
abbrev S_ : Shape := ⟨0, ![]⟩
abbrev S512x1024 : Shape := ⟨2, ![512, 1024]⟩
abbrev S512x4096 : Shape := ⟨2, ![512, 4096]⟩

abbrev nBuf : Space → Nat
  | .hbm => 15
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096x1024, .f32⟩
  | .hbm, ⟨3, _⟩ => ⟨S8192x1024, .f32⟩
  | .hbm, ⟨4, _⟩ => ⟨S4096x1024, .bf16⟩
  | .hbm, ⟨5, _⟩ => ⟨S1x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .bf16⟩
  | .hbm, ⟨13, _⟩ => ⟨S8192x4096, .bf16⟩
  | .hbm, ⟨14, _⟩ => ⟨S1x4096, .f32⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S4096x1024, .bf16⟩
  | .local _ .vmem, ⟨5, _⟩ => ⟨S512x4096, .bf16⟩
  | .local _ .vmem, ⟨6, _⟩ => ⟨S512x4096, .bf16⟩
  | .local _ .vmem, ⟨7, _⟩ => ⟨S1x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v21 : BitVec 1 := Scalar.cmpi .eq arg0 c0_i32
  let v22 : BitVec 32 := Scalar.extui v21
  let c0_i32_11 : BitVec 32 := 0#32
  let v23 : BitVec 1 := Scalar.cmpi .ne v22 c0_i32_11
  v23

def k0_cond2 (i : grid0.Coords) : BitVec 1 :=
  let arg0 : BitVec 32 := BitVec.ofNat 32 (i 0).val
  let c0_i32 : BitVec 32 := 0#32
  let v21 : BitVec 1 := Scalar.cmpi .eq arg0 c0_i32
  let v_true : BitVec 1 := 1#1
  let v24 : BitVec 1 := Scalar.xori v21 v_true
  let v25 : BitVec 32 := Scalar.extui v24
  let c0_i32_12 : BitVec 32 := 0#32
  let v26 : BitVec 1 := Scalar.cmpi .ne v25 c0_i32_12
  v26

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReluRIdeal.lean ====
abbrev S8192x4096 : Shape := ⟨2, ![8192, 4096]⟩
abbrev S4096 : Shape := ⟨1, ![4096]⟩
abbrev S4096x1024 : Shape := ⟨2, ![4096, 1024]⟩
abbrev S8192x1024 : Shape := ⟨2, ![8192, 1024]⟩
abbrev S1x4096 : Shape := ⟨2, ![1, 4096]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096x1024, .f32⟩
  | .hbm, ⟨3, _⟩ => ⟨S8192x1024, .f32⟩
  | .hbm, ⟨4, _⟩ => ⟨S1x4096, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .i1⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x1024, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S4096, .f32⟩
  | .hbm, ⟨27, _⟩ => ⟨S1x4096, .f32⟩
  | .hbm, ⟨28, _⟩ => ⟨S_, .f32⟩
  | .hbm, ⟨29, _⟩ => ⟨S4096, .f32⟩
  | .hbm, ⟨30, _⟩ => ⟨S8192x4096, .bf16⟩
  | .hbm, ⟨31, _⟩ => ⟨S1x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]
-- ==== NormK.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S1024x8x512 : Shape := ⟨3, ![1024, 8, 512]⟩
abbrev S8x1024x512 : Shape := ⟨3, ![8, 1024, 512]⟩
abbrev S1x1024 : Shape := ⟨2, ![1, 1024]⟩
abbrev S512x4096 : Shape := ⟨2, ![512, 4096]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩

abbrev nBuf : Space → Nat
  | .hbm => 19
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S8192x4096, .f32⟩
  | .hbm, ⟨6, _⟩ => ⟨S8192x1024, .f32⟩
  | .hbm, ⟨7, _⟩ => ⟨S1024x4096, .bf16⟩
  | .hbm, ⟨8, _⟩ => ⟨S1024x8x512, .bf16⟩
  | .hbm, ⟨9, _⟩ => ⟨S8x1024x512, .bf16⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S8192x4096, .bf16⟩
  | .hbm, ⟨14, _⟩ => ⟨S1x1024, .f32⟩
  | .hbm, ⟨15, _⟩ => ⟨S8192x1024, .f32⟩
  | .hbm, ⟨16, _⟩ => ⟨S1x1024, .f32⟩
  | .hbm, ⟨17, _⟩ => ⟨S1x1024, .f32⟩
  | .hbm, ⟨18, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x1024x512, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v91 : BitVec 1 := Scalar.cmpi .eq arg0 c0_i32
  let v92 : BitVec 32 := Scalar.extui v91
  let c0_i32_46 : BitVec 32 := 0#32
  let v93 : BitVec 1 := Scalar.cmpi .ne v92 c0_i32_46
  v93

def k0_cond2 (i : grid0.Coords) : BitVec 1 :=
  let arg0 : BitVec 32 := BitVec.ofNat 32 (i 0).val
  let c0_i32 : BitVec 32 := 0#32
  let v91 : BitVec 1 := Scalar.cmpi .eq arg0 c0_i32
  let v_true : BitVec 1 := 1#1
  let v94 : BitVec 1 := Scalar.xori v91 v_true
  let v95 : BitVec 32 := Scalar.extui v94
  let c0_i32_47 : BitVec 32 := 0#32
  let v96 : BitVec 1 := Scalar.cmpi .ne v95 c0_i32_47
  v96

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormRIdeal.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 107
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S8192x4096, .f32⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S8192x4096, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S1024, .f32⟩
  | .hbm, ⟨60, _⟩ => ⟨S8192x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S1024, .f32⟩
  | .hbm, ⟨68, _⟩ => ⟨S8192x1024, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S8192x1024, .f32⟩
  | .hbm, ⟨73, _⟩ => ⟨S8192x1024, .f32⟩
  | .hbm, ⟨74, _⟩ => ⟨S8192x1, .f32⟩
  | .hbm, ⟨75, _⟩ => ⟨S8192x1024, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S_, .f32⟩
  | .hbm, ⟨83, _⟩ => ⟨S8192, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S8192, .f32⟩
  | .hbm, ⟨89, _⟩ => ⟨S8192x1, .f32⟩
  | .hbm, ⟨90, _⟩ => ⟨S8192x1024, .f32⟩
  | .hbm, ⟨91, _⟩ => ⟨S8192x1, .f32⟩
  | .hbm, ⟨92, _⟩ => ⟨S_, .f32⟩
  | .hbm, ⟨93, _⟩ => ⟨S8192x1, .f32⟩
  | .hbm, ⟨94, _⟩ => ⟨S8192x1, .f32⟩
  | .hbm, ⟨95, _⟩ => ⟨S_, .f32⟩
  | .hbm, ⟨96, _⟩ => ⟨S8192, .f32⟩
  | .hbm, ⟨97, _⟩ => ⟨S8192x1024, .f32⟩
  | .hbm, ⟨98, _⟩ => ⟨S8192x1024, .f32⟩
  | .hbm, ⟨99, _⟩ => ⟨S_, .f32⟩
  | .hbm, ⟨100, _⟩ => ⟨S1024, .f32⟩
  | .hbm, ⟨101, _⟩ => ⟨S1x1024, .f32⟩
  | .hbm, ⟨102, _⟩ => ⟨S_, .f32⟩
  | .hbm, ⟨103, _⟩ => ⟨S1024, .f32⟩
  | .hbm, ⟨104, _⟩ => ⟨S1x1024, .f32⟩
  | .hbm, ⟨105, _⟩ => ⟨S1x1024, .f32⟩
  | .hbm, ⟨106, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_cst_12 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_13 : Ref sig .tc := ⟨.hbm, 76, rfl⟩
abbrev main_v55 : Ref sig .tc := ⟨.hbm, 77, rfl⟩
abbrev main_v56 : Ref sig .tc := ⟨.hbm, 78, rfl⟩
abbrev main_cst_14 : Ref sig .tc := ⟨.hbm, 79, rfl⟩
abbrev main_v57 : Ref sig .tc := ⟨.hbm, 80, rfl⟩
abbrev main_v58 : Ref sig .tc := ⟨.hbm, 81, rfl⟩
abbrev main_cst_15 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_16 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_17 : Ref sig .tc := ⟨.hbm, 92, rfl⟩
abbrev main_v67 : Ref sig .tc := ⟨.hbm, 93, rfl⟩
abbrev main_v68 : Ref sig .tc := ⟨.hbm, 94, rfl⟩
abbrev main_cst_18 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_19 : Ref sig .tc := ⟨.hbm, 99, rfl⟩
abbrev main_v72 : Ref sig .tc := ⟨.hbm, 100, rfl⟩
abbrev main_v73 : Ref sig .tc := ⟨.hbm, 101, rfl⟩
abbrev main_cst_20 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩

abbrev nD : Nat := 1
abbrev τ : Topo := Topo.v7x

variable {F : FTy → Type} [FloatOps F]
-- ==== InK.lean ====
abbrev S8192x1024 : Shape := ⟨2, ![8192, 1024]⟩
abbrev S1024 : Shape := ⟨1, ![1024]⟩
abbrev S1024x2048 : Shape := ⟨2, ![1024, 2048]⟩
abbrev S8192x512 : Shape := ⟨2, ![8192, 512]⟩
abbrev S1024x8x256 : Shape := ⟨3, ![1024, 8, 256]⟩
abbrev S8x1024x256 : Shape := ⟨3, ![8, 1024, 256]⟩
abbrev S1x1024 : Shape := ⟨2, ![1, 1024]⟩
abbrev S1024x512 : Shape := ⟨2, ![1024, 512]⟩
abbrev S1024x1024 : Shape := ⟨2, ![1024, 1024]⟩
abbrev S1024x256 : Shape := ⟨2, ![1024, 256]⟩
abbrev S1x1024x256 : Shape := ⟨3, ![1, 1024, 256]⟩
abbrev S1024x1 : Shape := ⟨2, ![1024, 1]⟩

abbrev nBuf : Space → Nat
  | .hbm => 25
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x2048, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x1024, .f32⟩
  | .hbm, ⟨10, _⟩ => ⟨S1024x2048, .bf16⟩
  | .hbm, ⟨11, _⟩ => ⟨S1024x8x256, .bf16⟩
  | .hbm, ⟨12, _⟩ => ⟨S8x1024x256, .bf16⟩
  | .hbm, ⟨13, _⟩ => ⟨S1x1024, .f32⟩
  | .hbm, ⟨14, _⟩ => ⟨S8192x1024, .f32⟩
  | .hbm, ⟨15, _⟩ => ⟨S8192x1024, .f32⟩
  | .hbm, ⟨16, _⟩ => ⟨S8192x512, .bf16⟩
  | .hbm, ⟨17, _⟩ => ⟨S8192x512, .bf16⟩
  | .hbm, ⟨18, _⟩ => ⟨S8192x512, .bf16⟩
  | .hbm, ⟨19, _⟩ => ⟨S8192x512, .bf16⟩
  | .hbm, ⟨20, _⟩ => ⟨S1x1024, .f32⟩
  | .hbm, ⟨21, _⟩ => ⟨S8192x1024, .f32⟩
  | .hbm, ⟨22, _⟩ => ⟨S1x1024, .f32⟩
  | .hbm, ⟨23, _⟩ => ⟨S1x1024, .f32⟩
  | .hbm, ⟨24, _⟩ => ⟨S1x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S8x1024x256, .bf16⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v98 : BitVec 1 := Scalar.cmpi .eq arg0 c0_i32
  let v99 : BitVec 32 := Scalar.extui v98
  let c0_i32_52 : BitVec 32 := 0#32
  let v100 : BitVec 1 := Scalar.cmpi .ne v99 c0_i32_52
  v100

def k0_cond2 (i : grid0.Coords) : BitVec 1 :=
  let arg0 : BitVec 32 := BitVec.ofNat 32 (i 0).val
  let c0_i32 : BitVec 32 := 0#32
  let v98 : BitVec 1 := Scalar.cmpi .eq arg0 c0_i32
  let v_true : BitVec 1 := 1#1
  let v101 : BitVec 1 := Scalar.xori v98 v_true
  let v102 : BitVec 32 := Scalar.extui v101
  let c0_i32_53 : BitVec 32 := 0#32
  let v103 : BitVec 1 := Scalar.cmpi .ne v102 c0_i32_53
  v103

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== InRIdeal.lean ====
abbrev S8192x1024 : Shape := ⟨2, ![8192, 1024]⟩
abbrev S1024 : Shape := ⟨1, ![1024]⟩
abbrev S1024x2048 : Shape := ⟨2, ![1024, 2048]⟩
abbrev S8192x512 : Shape := ⟨2, ![8192, 512]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩

abbrev nBuf : Space → Nat
  | .hbm => 125
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x2048, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S8192x2048, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192x2048, .f32⟩
  | .hbm, ⟨62, _⟩ => ⟨S_, .f32⟩
  | .hbm, ⟨63, _⟩ => ⟨S8192x2048, .f32⟩
  | .hbm, ⟨64, _⟩ => ⟨S8192x2048, .f32⟩
  | .hbm, ⟨65, _⟩ => ⟨S_, .f32⟩
  | .hbm, ⟨66, _⟩ => ⟨S8192x2048, .f32⟩
  | .hbm, ⟨67, _⟩ => ⟨S8192x2048, .f32⟩
  | .hbm, ⟨68, _⟩ => ⟨S_, .f32⟩
  | .hbm, ⟨69, _⟩ => ⟨S8192x2048, .f32⟩
  | .hbm, ⟨70, _⟩ => ⟨S8192x2048, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S_, .f32⟩
  | .hbm, ⟨77, _⟩ => ⟨S1024, .f32⟩
  | .hbm, ⟨78, _⟩ => ⟨S8192x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S8192x1024, .f32⟩
  | .hbm, ⟨83, _⟩ => ⟨S8192x1024, .f32⟩
  | .hbm, ⟨84, _⟩ => ⟨S_, .f32⟩
  | .hbm, ⟨85, _⟩ => ⟨S1024, .f32⟩
  | .hbm, ⟨86, _⟩ => ⟨S8192x1024, .f32⟩
  | .hbm, ⟨87, _⟩ => ⟨S_, .f32⟩
  | .hbm, ⟨88, _⟩ => ⟨S8192, .f32⟩
  | .hbm, ⟨89, _⟩ => ⟨S8192x1, .f32⟩
  | .hbm, ⟨90, _⟩ => ⟨S8192x1024, .f32⟩
  | .hbm, ⟨91, _⟩ => ⟨S8192x1024, .f32⟩
  | .hbm, ⟨92, _⟩ => ⟨S8192x1, .f32⟩
  | .hbm, ⟨93, _⟩ => ⟨S8192x1024, .f32⟩
  | .hbm, ⟨94, _⟩ => ⟨S_, .f32⟩
  | .hbm, ⟨95, _⟩ => ⟨S8192, .f32⟩
  | .hbm, ⟨96, _⟩ => ⟨S8192x1, .f32⟩
  | .hbm, ⟨97, _⟩ => ⟨S_, .f32⟩
  | .hbm, ⟨98, _⟩ => ⟨S8192x1, .f32⟩
  | .hbm, ⟨99, _⟩ => ⟨S8192x1, .f32⟩
  | .hbm, ⟨100, _⟩ => ⟨S_, .f32⟩
  | .hbm, ⟨101, _⟩ => ⟨S8192, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S_, .f32⟩
  | .hbm, ⟨106, _⟩ => ⟨S8192, .f32⟩
  | .hbm, ⟨107, _⟩ => ⟨S8192x1, .f32⟩
  | .hbm, ⟨108, _⟩ => ⟨S8192x1024, .f32⟩
  | .hbm, ⟨109, _⟩ => ⟨S8192x1, .f32⟩
  | .hbm, ⟨110, _⟩ => ⟨S_, .f32⟩
  | .hbm, ⟨111, _⟩ => ⟨S8192x1, .f32⟩
  | .hbm, ⟨112, _⟩ => ⟨S8192x1, .f32⟩
  | .hbm, ⟨113, _⟩ => ⟨S_, .f32⟩
  | .hbm, ⟨114, _⟩ => ⟨S8192, .f32⟩
  | .hbm, ⟨115, _⟩ => ⟨S8192x1024, .f32⟩
  | .hbm, ⟨116, _⟩ => ⟨S8192x1024, .f32⟩
  | .hbm, ⟨117, _⟩ => ⟨S_, .f32⟩
  | .hbm, ⟨118, _⟩ => ⟨S1024, .f32⟩
  | .hbm, ⟨119, _⟩ => ⟨S1x1024, .f32⟩
  | .hbm, ⟨120, _⟩ => ⟨S_, .f32⟩
  | .hbm, ⟨121, _⟩ => ⟨S1024, .f32⟩
  | .hbm, ⟨122, _⟩ => ⟨S1x1024, .f32⟩
  | .hbm, ⟨123, _⟩ => ⟨S1x1024, .f32⟩
  | .hbm, ⟨124, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_cst_11 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_12 : Ref sig .tc := ⟨.hbm, 73, rfl⟩
abbrev main_v50 : Ref sig .tc := ⟨.hbm, 74, rfl⟩
abbrev main_v51 : Ref sig .tc := ⟨.hbm, 75, rfl⟩
abbrev main_cst_13 : Ref sig .tc := ⟨.hbm, 76, rfl⟩
abbrev main_v52 : Ref sig .tc := ⟨.hbm, 77, rfl⟩
abbrev main_v53 : Ref sig .tc := ⟨.hbm, 78, rfl⟩
abbrev main_cst_14 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_15 : Ref sig .tc := ⟨.hbm, 84, rfl⟩
abbrev main_v58 : Ref sig .tc := ⟨.hbm, 85, rfl⟩
abbrev main_v59 : Ref sig .tc := ⟨.hbm, 86, rfl⟩
abbrev main_cst_16 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_17 : Ref sig .tc := ⟨.hbm, 94, rfl⟩
abbrev main_v66 : Ref sig .tc := ⟨.hbm, 95, rfl⟩
abbrev main_v67 : Ref sig .tc := ⟨.hbm, 96, rfl⟩
abbrev main_cst_18 : Ref sig .tc := ⟨.hbm, 97, rfl⟩
abbrev main_v68 : Ref sig .tc := ⟨.hbm, 98, rfl⟩
abbrev main_v69 : Ref sig .tc := ⟨.hbm, 99, rfl⟩
abbrev main_cst_19 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_20 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_21 : Ref sig .tc := ⟨.hbm, 110, rfl⟩
abbrev main_v78 : Ref sig .tc := ⟨.hbm, 111, rfl⟩
abbrev main_v79 : Ref sig .tc := ⟨.hbm, 112, rfl⟩
abbrev main_cst_22 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_23 : Ref sig .tc := ⟨.hbm, 117, rfl⟩
abbrev main_v83 : Ref sig .tc := ⟨.hbm, 118, rfl⟩
abbrev main_v84 : Ref sig .tc := ⟨.hbm, 119, rfl⟩
abbrev main_cst_24 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩

abbrev nD : Nat := 1
abbrev τ : Topo := Topo.v7x

variable {F : FTy → Type} [FloatOps F]
-- ==== MixK.lean ====
abbrev S8192x512 : Shape := ⟨2, ![8192, 512]⟩
abbrev S512x512 : Shape := ⟨2, ![512, 512]⟩
abbrev S512 : Shape := ⟨1, ![512]⟩
abbrev S1024x1024 : Shape := ⟨2, ![1024, 1024]⟩
abbrev S8192x1024 : Shape := ⟨2, ![8192, 1024]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 19
  | .vmem => 20
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S1024x1024, .f32⟩
  | .hbm, ⟨7, _⟩ => ⟨S8192x1024, .f32⟩
  | .hbm, ⟨8, _⟩ => ⟨S1024x1024, .bf16⟩
  | .hbm, ⟨9, _⟩ => ⟨S512x512, .bf16⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S8192x512, .f32⟩
  | .hbm, ⟨14, _⟩ => ⟨S8192x512, .f32⟩
  | .hbm, ⟨15, _⟩ => ⟨S8192x512, .bf16⟩
  | .hbm, ⟨16, _⟩ => ⟨S1x512, .f32⟩
  | .hbm, ⟨17, _⟩ => ⟨S1x512, .f32⟩
  | .hbm, ⟨18, _⟩ => ⟨S1x512, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x1024, .bf16⟩
  | .local _ .vmem, ⟨7, _⟩ => ⟨S512x512, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .bf16⟩
  | .local _ .vmem, ⟨16, _⟩ => ⟨S1024x512, .bf16⟩
  | .local _ .vmem, ⟨17, _⟩ => ⟨S1x512, .f32⟩
  | .local _ .vmem, ⟨18, _⟩ => ⟨S1x512, .f32⟩
  | .local _ .vmem, ⟨19, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v5_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v139 : BitVec 1 := Scalar.cmpi .eq arg0 c0_i32
  let v140 : BitVec 32 := Scalar.extui v139
  let c0_i32_52 : BitVec 32 := 0#32
  let v141 : BitVec 1 := Scalar.cmpi .ne v140 c0_i32_52
  v141

def k0_cond2 (i : grid0.Coords) : BitVec 1 :=
  let arg0 : BitVec 32 := BitVec.ofNat 32 (i 0).val
  let c0_i32 : BitVec 32 := 0#32
  let v139 : BitVec 1 := Scalar.cmpi .eq arg0 c0_i32
  let v_true : BitVec 1 := 1#1
  let v142 : BitVec 1 := Scalar.xori v139 v_true
  let v143 : BitVec 32 := Scalar.extui v142
  let c0_i32_53 : BitVec 32 := 0#32
  let v144 : BitVec 1 := Scalar.cmpi .ne v143 c0_i32_53
  v144

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MixKIdeal.lean ====
variable {F : FTy → Type} [FloatOps F] [Named F]
def κ : String → Option EReal := fun
  | "gelu_a" => some ((8943 / 200000 : ℝ) : EReal)
  | "gelu_a3" => some ((26829 / 200000 : ℝ) : EReal)
  | _ => none
-- ==== MixRIdeal.lean ====
abbrev S8192x512 : Shape := ⟨2, ![8192, 512]⟩
abbrev S512x512 : Shape := ⟨2, ![512, 512]⟩
abbrev S512 : Shape := ⟨1, ![512]⟩
abbrev S1024x1024 : Shape := ⟨2, ![1024, 1024]⟩
abbrev S8192x1024 : Shape := ⟨2, ![8192, 1024]⟩
abbrev S1x512 : Shape := ⟨2, ![1, 512]⟩
abbrev S8192 : Shape := ⟨1, ![8192]⟩
abbrev S8192x1 : Shape := ⟨2, ![8192, 1]⟩

abbrev nBuf : Space → Nat
  | .hbm => 17
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S1024x1024, .f32⟩
  | .hbm, ⟨7, _⟩ => ⟨S8192x1024, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S8192x512, .f32⟩
  | .hbm, ⟨12, _⟩ => ⟨S8192x512, .f32⟩
  | .hbm, ⟨13, _⟩ => ⟨S8192x512, .bf16⟩
  | .hbm, ⟨14, _⟩ => ⟨S1x512, .f32⟩
  | .hbm, ⟨15, _⟩ => ⟨S1x512, .f32⟩
  | .hbm, ⟨16, _⟩ => ⟨S1x512, .f32⟩
  | .local _ .vmem, ⟨0, _⟩ => ⟨S8192x512, .f32⟩
  | .local _ .vmem, ⟨1, _⟩ => ⟨S8192x512, .f32⟩
  | .local _ .vmem, ⟨2, _⟩ => ⟨S512x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1024x1024, .f32⟩
  | .local _ .vmem, ⟨7, _⟩ => ⟨S8192x1024, .f32⟩
  | .local _ .vmem, ⟨8, _⟩ => ⟨S8192x512, .f32⟩
  | .local _ .vmem, ⟨9, _⟩ => ⟨S8192x512, .f32⟩
  | .local _ .vmem, ⟨10, _⟩ => ⟨S8192x512, .bf16⟩
  | .local _ .vmem, ⟨11, _⟩ => ⟨S1x512, .f32⟩
  | .local _ .vmem, ⟨12, _⟩ => ⟨S1x512, .f32⟩
  | .local _ .vmem, ⟨13, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F] [Named F]

def κ : String → Option EReal := fun
  | "gelu_a" => some ((8943 / 200000 : ℝ) : EReal)
  | "gelu_a3" => some ((26829 / 200000 : ℝ) : EReal)
  | _ => none

abbrev grid0 : Pipeline.Grid := .none

abbrev stage0_0 : Fin 1 → Memref sig .tc .vmem S8192x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8192x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== GateK.lean ====
abbrev S8192x512 : Shape := ⟨2, ![8192, 512]⟩
abbrev S1x512x512 : Shape := ⟨3, ![1, 512, 512]⟩
abbrev S1024x512 : Shape := ⟨2, ![1024, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .bf16⟩
  | .hbm, ⟨3, _⟩ => ⟨S1x512x512, .bf16⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S1x512x512, .bf16⟩
  | .local _ .vmem, ⟨5, _⟩ => ⟨S1x512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_14 : BitVec 32 := 0#32
  let v29 : BitVec 1 := Scalar.cmpi .ne v28 c0_i32_14
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GateRIdeal.lean ====
abbrev S8192x512 : Shape := ⟨2, ![8192, 512]⟩
abbrev S_ : Shape := ⟨0, ![]⟩
abbrev S512x512 : Shape := ⟨2, ![512, 512]⟩
abbrev S1x512x512 : Shape := ⟨3, ![1, 512, 512]⟩

abbrev nBuf : Space → Nat
  | .hbm => 26
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S_, .f32⟩
  | .hbm, ⟨3, _⟩ => ⟨S512x512, .f32⟩
  | .hbm, ⟨4, _⟩ => ⟨S8192x512, .f32⟩
  | .hbm, ⟨5, _⟩ => ⟨S8192x512, .f32⟩
  | .hbm, ⟨6, _⟩ => ⟨S_, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192x512, .f32⟩
  | .hbm, ⟨16, _⟩ => ⟨S8192x512, .f32⟩
  | .hbm, ⟨17, _⟩ => ⟨S_, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S512x512, .f32⟩
  | .hbm, ⟨23, _⟩ => ⟨S512x512, .f32⟩
  | .hbm, ⟨24, _⟩ => ⟨S512x512, .bf16⟩
  | .hbm, ⟨25, _⟩ => ⟨S1x512x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== AttnK.lean ====
abbrev S4x2048x512 : Shape := ⟨3, ![4, 2048, 512]⟩
abbrev S4x2048 : Shape := ⟨2, ![4, 2048]⟩
abbrev S4x2048x1536 : Shape := ⟨3, ![4, 2048, 1536]⟩
abbrev S32 : Shape := ⟨1, ![32]⟩
abbrev S_ : Shape := ⟨0, ![]⟩
abbrev S4x2048x1 : Shape := ⟨3, ![4, 2048, 1]⟩
abbrev S1x1x32 : Shape := ⟨3, ![1, 1, 32]⟩
abbrev S4x2048x32 : Shape := ⟨3, ![4, 2048, 32]⟩
abbrev S4x2048x128 : Shape := ⟨3, ![4, 2048, 128]⟩
abbrev S4x2048x1x32 : Shape := ⟨4, ![4, 2048, 1, 32]⟩
abbrev S4x2048x8x32 : Shape := ⟨4, ![4, 2048, 8, 32]⟩
abbrev S4x2048x8x64 : Shape := ⟨4, ![4, 2048, 8, 64]⟩
abbrev S4x8x2048x2048 : Shape := ⟨4, ![4, 8, 2048, 2048]⟩
abbrev S3x2048x2048 : Shape := ⟨3, ![3, 2048, 2048]⟩
abbrev S3x1x1x2048x2048 : Shape := ⟨5, ![3, 1, 1, 2048, 2048]⟩
abbrev S3x4x8x2048x2048 : Shape := ⟨5, ![3, 4, 8, 2048, 2048]⟩
abbrev S3x4x8x2048 : Shape := ⟨4, ![3, 4, 8, 2048]⟩
abbrev S3x4x8x2048x1 : Shape := ⟨5, ![3, 4, 8, 2048, 1]⟩
abbrev S4x8x64x3x2048 : Shape := ⟨5, ![4, 8, 64, 3, 2048]⟩
abbrev S3x4x8x2048x64 : Shape := ⟨5, ![3, 4, 8, 2048, 64]⟩
abbrev S4x8x2048 : Shape := ⟨3, ![4, 8, 2048]⟩
abbrev S1x4x8x2048 : Shape := ⟨4, ![1, 4, 8, 2048]⟩
abbrev S4x8x2048x64 : Shape := ⟨4, ![4, 8, 2048, 64]⟩
abbrev S4x8x2048x1 : Shape := ⟨4, ![4, 8, 2048, 1]⟩
abbrev S1x2048x128 : Shape := ⟨3, ![1, 2048, 128]⟩
abbrev S2048x128 : Shape := ⟨2, ![2048, 128]⟩
abbrev S2048 : Shape := ⟨1, ![2048]⟩
abbrev S2048x1 : Shape := ⟨2, ![2048, 1]⟩
abbrev S32x64x128 : Shape := ⟨3, ![32, 64, 128]⟩
abbrev S32x128x128 : Shape := ⟨3, ![32, 128, 128]⟩
abbrev S32x128x192 : Shape := ⟨3, ![32, 128, 192]⟩
abbrev S2x64x128 : Shape := ⟨3, ![2, 64, 128]⟩
abbrev S30x64x128 : Shape := ⟨3, ![30, 64, 128]⟩
abbrev S1x64x128 : Shape := ⟨3, ![1, 64, 128]⟩
abbrev S31x64x128 : Shape := ⟨3, ![31, 64, 128]⟩
abbrev S32x192x128 : Shape := ⟨3, ![32, 192, 128]⟩
abbrev S32x64x1 : Shape := ⟨3, ![32, 64, 1]⟩
abbrev S32x128x1 : Shape := ⟨3, ![32, 128, 1]⟩
abbrev S512x128 : Shape := ⟨2, ![512, 128]⟩
abbrev S1x512x128 : Shape := ⟨3, ![1, 512, 128]⟩
abbrev S128x128 : Shape := ⟨2, ![128, 128]⟩
abbrev S1x128x128 : Shape := ⟨3, ![1, 128, 128]⟩
abbrev S16x128x128 : Shape := ⟨3, ![16, 128, 128]⟩
abbrev S16x256x128 : Shape := ⟨3, ![16, 256, 128]⟩
abbrev S1x256x128 : Shape := ⟨3, ![1, 256, 128]⟩
abbrev S16x128x1 : Shape := ⟨3, ![16, 128, 1]⟩
abbrev S16x256x1 : Shape := ⟨3, ![16, 256, 1]⟩

abbrev nBuf : Space → Nat
  | .hbm => 123
  | .vmem => 37
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x512, .f32⟩
  | .hbm, ⟨3, _⟩ => ⟨S4x2048, .i32⟩
  | .hbm, ⟨4, _⟩ => ⟨S4x2048x512, .f32⟩
  | .hbm, ⟨5, _⟩ => ⟨S4x2048x1536, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S4x2048, .f32⟩
  | .hbm, ⟨18, _⟩ => ⟨S4x2048x1, .f32⟩
  | .hbm, ⟨19, _⟩ => ⟨S1x1x32, .f32⟩
  | .hbm, ⟨20, _⟩ => ⟨S4x2048x32, .f32⟩
  | .hbm, ⟨21, _⟩ => ⟨S4x2048x32, .f32⟩
  | .hbm, ⟨22, _⟩ => ⟨S4x2048x32, .f32⟩
  | .hbm, ⟨23, _⟩ => ⟨S4x2048x32, .f32⟩
  | .hbm, ⟨24, _⟩ => ⟨S4x2048x32, .f32⟩
  | .hbm, ⟨25, _⟩ => ⟨S4x2048x128, .f32⟩
  | .hbm, ⟨26, _⟩ => ⟨S4x2048x32, .f32⟩
  | .hbm, ⟨27, _⟩ => ⟨S4x2048x128, .f32⟩
  | .hbm, ⟨28, _⟩ => ⟨S4x2048x1x32, .f32⟩
  | .hbm, ⟨29, _⟩ => ⟨S4x2048x8x32, .f32⟩
  | .hbm, ⟨30, _⟩ => ⟨S4x2048x1x32, .f32⟩
  | .hbm, ⟨31, _⟩ => ⟨S4x2048x8x32, .f32⟩
  | .hbm, ⟨32, _⟩ => ⟨S4x2048x8x64, .f32⟩
  | .hbm, ⟨33, _⟩ => ⟨S4x2048x8x32, .f32⟩
  | .hbm, ⟨34, _⟩ => ⟨S4x2048x8x32, .f32⟩
  | .hbm, ⟨35, _⟩ => ⟨S4x2048x8x32, .f32⟩
  | .hbm, ⟨36, _⟩ => ⟨S4x2048x8x32, .f32⟩
  | .hbm, ⟨37, _⟩ => ⟨S4x2048x8x32, .f32⟩
  | .hbm, ⟨38, _⟩ => ⟨S4x2048x8x32, .f32⟩
  | .hbm, ⟨39, _⟩ => ⟨S4x2048x8x32, .f32⟩
  | .hbm, ⟨40, _⟩ => ⟨S4x2048x8x32, .f32⟩
  | .hbm, ⟨41, _⟩ => ⟨S4x2048x8x64, .f32⟩
  | .hbm, ⟨42, _⟩ => ⟨S4x2048x8x64, .f32⟩
  | .hbm, ⟨43, _⟩ => ⟨S4x2048x8x32, .f32⟩
  | .hbm, ⟨44, _⟩ => ⟨S4x2048x8x32, .f32⟩
  | .hbm, ⟨45, _⟩ => ⟨S4x2048x8x32, .f32⟩
  | .hbm, ⟨46, _⟩ => ⟨S4x2048x8x32, .f32⟩
  | .hbm, ⟨47, _⟩ => ⟨S4x2048x8x32, .f32⟩
  | .hbm, ⟨48, _⟩ => ⟨S4x2048x8x32, .f32⟩
  | .hbm, ⟨49, _⟩ => ⟨S4x2048x8x32, .f32⟩
  | .hbm, ⟨50, _⟩ => ⟨S4x2048x8x32, .f32⟩
  | .hbm, ⟨51, _⟩ => ⟨S4x2048x8x64, .f32⟩
  | .hbm, ⟨52, _⟩ => ⟨S4x2048x8x64, .f32⟩
  | .hbm, ⟨53, _⟩ => ⟨S_, .f32⟩
  | .hbm, ⟨54, _⟩ => ⟨S4x2048x8x64, .f32⟩
  | .hbm, ⟨55, _⟩ => ⟨S4x2048x8x64, .f32⟩
  | .hbm, ⟨56, _⟩ => ⟨S4x8x2048x2048, .f32⟩
  | .hbm, ⟨57, _⟩ => ⟨S3x2048x2048, .i32⟩
  | .hbm, ⟨58, _⟩ => ⟨S3x2048x2048, .i32⟩
  | .hbm, ⟨59, _⟩ => ⟨S3x2048x2048, .i32⟩
  | .hbm, ⟨60, _⟩ => ⟨S3x2048x2048, .i32⟩
  | .hbm, ⟨61, _⟩ => ⟨S_, .i32⟩
  | .hbm, ⟨62, _⟩ => ⟨S3x2048x2048, .i32⟩
  | .hbm, ⟨63, _⟩ => ⟨S3x2048x2048, .i32⟩
  | .hbm, ⟨64, _⟩ => ⟨S3x2048x2048, .i32⟩
  | .hbm, ⟨65, _⟩ => ⟨S_, .i32⟩
  | .hbm, ⟨66, _⟩ => ⟨S3x2048x2048, .i32⟩
  | .hbm, ⟨67, _⟩ => ⟨S3x2048x2048, .i1⟩
  | .hbm, ⟨68, _⟩ => ⟨S_, .i32⟩
  | .hbm, ⟨69, _⟩ => ⟨S3x2048x2048, .i32⟩
  | .hbm, ⟨70, _⟩ => ⟨S3x2048x2048, .i1⟩
  | .hbm, ⟨71, _⟩ => ⟨S3x2048x2048, .i1⟩
  | .hbm, ⟨72, _⟩ => ⟨S3x2048x2048, .i32⟩
  | .hbm, ⟨73, _⟩ => ⟨S3x2048x2048, .i1⟩
  | .hbm, ⟨74, _⟩ => ⟨S3x2048x2048, .i1⟩
  | .hbm, ⟨75, _⟩ => ⟨S3x1x1x2048x2048, .i1⟩
  | .hbm, ⟨76, _⟩ => ⟨S3x4x8x2048x2048, .i1⟩
  | .hbm, ⟨77, _⟩ => ⟨S3x4x8x2048x2048, .f32⟩
  | .hbm, ⟨78, _⟩ => ⟨S_, .f32⟩
  | .hbm, ⟨79, _⟩ => ⟨S3x4x8x2048x2048, .f32⟩
  | .hbm, ⟨80, _⟩ => ⟨S3x4x8x2048x2048, .f32⟩
  | .hbm, ⟨81, _⟩ => ⟨S_, .f32⟩
  | .hbm, ⟨82, _⟩ => ⟨S3x4x8x2048, .f32⟩
  | .hbm, ⟨83, _⟩ => ⟨S3x4x8x2048x1, .f32⟩
  | .hbm, ⟨84, _⟩ => ⟨S3x4x8x2048x2048, .f32⟩
  | .hbm, ⟨85, _⟩ => ⟨S3x4x8x2048x2048, .f32⟩
  | .hbm, ⟨86, _⟩ => ⟨S3x4x8x2048x2048, .f32⟩
  | .hbm, ⟨87, _⟩ => ⟨S_, .f32⟩
  | .hbm, ⟨88, _⟩ => ⟨S3x4x8x2048, .f32⟩
  | .hbm, ⟨89, _⟩ => ⟨S4x8x64x3x2048, .f32⟩
  | .hbm, ⟨90, _⟩ => ⟨S3x4x8x2048x64, .f32⟩
  | .hbm, ⟨91, _⟩ => ⟨S3x4x8x2048x1, .f32⟩
  | .hbm, ⟨92, _⟩ => ⟨S3x4x8x2048x64, .f32⟩
  | .hbm, ⟨93, _⟩ => ⟨S3x4x8x2048x64, .f32⟩
  | .hbm, ⟨94, _⟩ => ⟨S3x4x8x2048, .f32⟩
  | .hbm, ⟨95, _⟩ => ⟨S3x4x8x2048, .f32⟩
  | .hbm, ⟨96, _⟩ => ⟨S_, .f32⟩
  | .hbm, ⟨97, _⟩ => ⟨S4x8x2048, .f32⟩
  | .hbm, ⟨98, _⟩ => ⟨S1x4x8x2048, .f32⟩
  | .hbm, ⟨99, _⟩ => ⟨S3x4x8x2048, .f32⟩
  | .hbm, ⟨100, _⟩ => ⟨S3x4x8x2048, .f32⟩
  | .hbm, ⟨101, _⟩ => ⟨S3x4x8x2048, .f32⟩
  | .hbm, ⟨102, _⟩ => ⟨S_, .f32⟩
  | .hbm, ⟨103, _⟩ => ⟨S4x8x2048, .f32⟩
  | .hbm, ⟨104, _⟩ => ⟨S1x4x8x2048, .f32⟩
  | .hbm, ⟨105, _⟩ => ⟨S3x4x8x2048, .f32⟩
  | .hbm, ⟨106, _⟩ => ⟨S3x4x8x2048, .f32⟩
  | .hbm, ⟨107, _⟩ => ⟨S3x4x8x2048x1, .f32⟩
  | .hbm, ⟨108, _⟩ => ⟨S3x4x8x2048x64, .f32⟩
  | .hbm, ⟨109, _⟩ => ⟨S3x4x8x2048x64, .f32⟩
  | .hbm, ⟨110, _⟩ => ⟨S_, .f32⟩
  | .hbm, ⟨111, _⟩ => ⟨S4x8x2048x64, .f32⟩
  | .hbm, ⟨112, _⟩ => ⟨S4x8x2048, .f32⟩
  | .hbm, ⟨113, _⟩ => ⟨S4x8x2048, .f32⟩
  | .hbm, ⟨114, _⟩ => ⟨S4x8x2048x1, .f32⟩
  | .hbm, ⟨115, _⟩ => ⟨S4x8x2048x64, .f32⟩
  | .hbm, ⟨116, _⟩ => ⟨S4x2048x8x64, .f32⟩
  | .hbm, ⟨117, _⟩ => ⟨S4x2048x512, .f32⟩
  | .hbm, ⟨118, _⟩ => ⟨S4x2048x8x64, .f32⟩
  | .hbm, ⟨119, _⟩ => ⟨S4x2048x512, .f32⟩
  | .hbm, ⟨120, _⟩ => ⟨S4x2048x512, .bf16⟩
  | .hbm, ⟨121, _⟩ => ⟨S4x2048x512, .bf16⟩
  | .hbm, ⟨122, _⟩ => ⟨S4x2048x512, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x128, .f32⟩
  | .local _ .vmem, ⟨15, _⟩ => ⟨S1x2048x128, .f32⟩
  | .local _ .vmem, ⟨16, _⟩ => ⟨S1x2048x128, .bf16⟩
  | .local _ .vmem, ⟨17, _⟩ => ⟨S1x2048x128, .bf16⟩
  | .local _ .vmem, ⟨18, _⟩ => ⟨S1x2048x128, .bf16⟩
  | .local _ .vmem, ⟨19, _⟩ => ⟨S1x2048x128, .bf16⟩
  | .local _ .vmem, ⟨20, _⟩ => ⟨S1x2048x128, .bf16⟩
  | .local _ .vmem, ⟨21, _⟩ => ⟨S1x2048x128, .bf16⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .bf16⟩
  | .local _ .vmem, ⟨26, _⟩ => ⟨S2048x128, .bf16⟩
  | .local _ .vmem, ⟨27, _⟩ => ⟨S2048x128, .bf16⟩
  | .local _ .vmem, ⟨28, _⟩ => ⟨S2048x128, .bf16⟩
  | .local _ .vmem, ⟨29, _⟩ => ⟨S2048x128, .f32⟩
  | .local _ .vmem, ⟨30, _⟩ => ⟨S2048x128, .f32⟩
  | .local _ .vmem, ⟨31, _⟩ => ⟨S2048x128, .f32⟩
  | .local _ .vmem, ⟨32, _⟩ => ⟨S2048x128, .f32⟩
  | .local _ .vmem, ⟨33, _⟩ => ⟨S2048x128, .f32⟩
  | .local _ .vmem, ⟨34, _⟩ => ⟨S2048x128, .f32⟩
  | .local _ .vmem, ⟨35, _⟩ => ⟨S2048x128, .f32⟩
  | .local _ .vmem, ⟨36, _⟩ => ⟨S2048x128, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_2 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_c : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_c_3 : Ref sig .tc := ⟨.hbm, 65, rfl⟩
abbrev main_v55 : Ref sig .tc := ⟨.hbm, 66, rfl⟩
abbrev main_v56 : Ref sig .tc := ⟨.hbm, 67, rfl⟩
abbrev main_c_4 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_cst_5 : Ref sig .tc := ⟨.hbm, 78, rfl⟩
abbrev main_v66 : Ref sig .tc := ⟨.hbm, 79, rfl⟩
abbrev main_v67 : Ref sig .tc := ⟨.hbm, 80, rfl⟩
abbrev main_cst_6 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_cst_7 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_cst_8 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_cst_9 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_cst_10 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102_0 : Ref sig .tc := ⟨.hbm, 120, rfl⟩
abbrev main_v102_1 : Ref sig .tc := ⟨.hbm, 121, rfl⟩
abbrev main_v102_2 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_scratch9 : Ref sig .tc := ⟨.vmem, 31, rfl⟩
abbrev cc0_scratch10 : Ref sig .tc := ⟨.vmem, 32, rfl⟩
abbrev cc0_scratch11 : Ref sig .tc := ⟨.vmem, 33, rfl⟩
abbrev cc0_scratch12 : Ref sig .tc := ⟨.vmem, 34, rfl⟩
abbrev cc0_scratch13 : Ref sig .tc := ⟨.vmem, 35, rfl⟩
abbrev cc0_scratch14 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AttnKIdeal.lean ====
variable {F : FTy → Type} [FloatOps F] [Named F]
def κ : String → Option EReal := fun
  | "mask" => some ⊥
  | _ => none
-- ==== AttnRIdeal.lean ====
abbrev S4x2048x512 : Shape := ⟨3, ![4, 2048, 512]⟩
abbrev S4x2048 : Shape := ⟨2, ![4, 2048]⟩
abbrev S32 : Shape := ⟨1, ![32]⟩
abbrev S_ : Shape := ⟨0, ![]⟩
abbrev S4x2048x1 : Shape := ⟨3, ![4, 2048, 1]⟩
abbrev S1x1x32 : Shape := ⟨3, ![1, 1, 32]⟩
abbrev S4x2048x32 : Shape := ⟨3, ![4, 2048, 32]⟩
abbrev S4x2048x1x32 : Shape := ⟨4, ![4, 2048, 1, 32]⟩
abbrev S4x2048x8x32 : Shape := ⟨4, ![4, 2048, 8, 32]⟩
abbrev S4x2048x8x64 : Shape := ⟨4, ![4, 2048, 8, 64]⟩
abbrev S4x8x2048x2048 : Shape := ⟨4, ![4, 8, 2048, 2048]⟩
abbrev S3x2048x2048 : Shape := ⟨3, ![3, 2048, 2048]⟩
abbrev S3x1x1x2048x2048 : Shape := ⟨5, ![3, 1, 1, 2048, 2048]⟩
abbrev S3x4x8x2048x2048 : Shape := ⟨5, ![3, 4, 8, 2048, 2048]⟩
abbrev S3x4x8x2048 : Shape := ⟨4, ![3, 4, 8, 2048]⟩
abbrev S3x4x8x2048x1 : Shape := ⟨5, ![3, 4, 8, 2048, 1]⟩
abbrev S4x8x64x3x2048 : Shape := ⟨5, ![4, 8, 64, 3, 2048]⟩
abbrev S3x4x8x2048x64 : Shape := ⟨5, ![3, 4, 8, 2048, 64]⟩
abbrev S4x8x2048 : Shape := ⟨3, ![4, 8, 2048]⟩
abbrev S1x4x8x2048 : Shape := ⟨4, ![1, 4, 8, 2048]⟩
abbrev S4x8x2048x64 : Shape := ⟨4, ![4, 8, 2048, 64]⟩
abbrev S4x8x3x2048x2048 : Shape := ⟨5, ![4, 8, 3, 2048, 2048]⟩
abbrev S4x8x64x2048 : Shape := ⟨4, ![4, 8, 64, 2048]⟩

abbrev nBuf : Space → Nat
  | .hbm => 252
  | .vmem => 0
  | .smem => 0
  | _ => 0

abbrev hbmTy0_0 (i : Nat) : BufTy := match i % 128 with
  | 0 => ⟨S4x2048x512, .f32⟩
  | 1 => ⟨S4x2048x512, .f32⟩
  | 2 => ⟨S4x2048x512, .f32⟩
  | 3 => ⟨S4x2048, .i32⟩
  | 4 => ⟨S4x2048x512, .f32⟩
  | 5 => ⟨S32, .f32⟩
  | 6 => ⟨S32, .f32⟩
  | 7 => ⟨S_, .f32⟩
  | 8 => ⟨S32, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S4x2048, .f32⟩
  | 17 => ⟨S4x2048x1, .f32⟩
  | 18 => ⟨S1x1x32, .f32⟩
  | 19 => ⟨S4x2048x32, .f32⟩
  | 20 => ⟨S4x2048x32, .f32⟩
  | 21 => ⟨S4x2048x32, .f32⟩
  | 22 => ⟨S4x2048x32, .f32⟩
  | 23 => ⟨S4x2048x32, .f32⟩
  | 24 => ⟨S4x2048x1x32, .f32⟩
  | 25 => ⟨S4x2048x8x32, .f32⟩
  | 26 => ⟨S4x2048x1x32, .f32⟩
  | 27 => ⟨S4x2048x8x32, .f32⟩
  | 28 => ⟨S4x2048x8x64, .f32⟩
  | 29 => ⟨S4x2048x8x32, .f32⟩
  | 30 => ⟨S4x2048x8x32, .f32⟩
  | 31 => ⟨S4x2048x8x32, .f32⟩
  | 32 => ⟨S4x2048x8x32, .f32⟩
  | 33 => ⟨S4x2048x8x32, .f32⟩
  | 34 => ⟨S4x2048x8x32, .f32⟩
  | 35 => ⟨S4x2048x8x32, .f32⟩
  | 36 => ⟨S4x2048x8x32, .f32⟩
  | 37 => ⟨S4x2048x8x64, .f32⟩
  | 38 => ⟨S4x2048x8x64, .f32⟩
  | 39 => ⟨S4x2048x8x32, .f32⟩
  | 40 => ⟨S4x2048x8x32, .f32⟩
  | 41 => ⟨S4x2048x8x32, .f32⟩
  | 42 => ⟨S4x2048x8x32, .f32⟩
  | 43 => ⟨S4x2048x8x32, .f32⟩
  | 44 => ⟨S4x2048x8x32, .f32⟩
  | 45 => ⟨S4x2048x8x32, .f32⟩
  | 46 => ⟨S4x2048x8x32, .f32⟩
  | 47 => ⟨S4x2048x8x64, .f32⟩
  | 48 => ⟨S4x2048x8x64, .f32⟩
  | 49 => ⟨S_, .f32⟩
  | 50 => ⟨S4x2048x8x64, .f32⟩
  | 51 => ⟨S4x2048x8x64, .f32⟩
  | 52 => ⟨S4x8x2048x2048, .f32⟩
  | 53 => ⟨S3x2048x2048, .i32⟩
  | 54 => ⟨S3x2048x2048, .i32⟩
  | 55 => ⟨S3x2048x2048, .i32⟩
  | 56 => ⟨S3x2048x2048, .i32⟩
  | 57 => ⟨S_, .i32⟩
  | 58 => ⟨S3x2048x2048, .i32⟩
  | 59 => ⟨S3x2048x2048, .i32⟩
  | 60 => ⟨S3x2048x2048, .i32⟩
  | 61 => ⟨S_, .i32⟩
  | 62 => ⟨S3x2048x2048, .i32⟩
  | 63 => ⟨S3x2048x2048, .i1⟩
  | 64 => ⟨S_, .i32⟩
  | 65 => ⟨S3x2048x2048, .i32⟩
  | 66 => ⟨S3x2048x2048, .i1⟩
  | 67 => ⟨S3x2048x2048, .i1⟩
  | 68 => ⟨S3x2048x2048, .i32⟩
  | 69 => ⟨S3x2048x2048, .i1⟩
  | 70 => ⟨S3x2048x2048, .i1⟩
  | 71 => ⟨S3x1x1x2048x2048, .i1⟩
  | 72 => ⟨S3x4x8x2048x2048, .i1⟩
  | 73 => ⟨S3x4x8x2048x2048, .f32⟩
  | 74 => ⟨S_, .f32⟩
  | 75 => ⟨S3x4x8x2048x2048, .f32⟩
  | 76 => ⟨S3x4x8x2048x2048, .f32⟩
  | 77 => ⟨S_, .f32⟩
  | 78 => ⟨S3x4x8x2048x2048, .f32⟩
  | 79 => ⟨S_, .f32⟩
  | 80 => ⟨S3x4x8x2048, .f32⟩
  | 81 => ⟨S3x4x8x2048x1, .f32⟩
  | 82 => ⟨S3x4x8x2048x2048, .f32⟩
  | 83 => ⟨S3x4x8x2048x2048, .i1⟩
  | 84 => ⟨S3x4x8x2048x2048, .f32⟩
  | 85 => ⟨S_, .f32⟩
  | 86 => ⟨S3x4x8x2048, .f32⟩
  | 87 => ⟨S3x4x8x2048x1, .f32⟩
  | 88 => ⟨S3x4x8x2048x2048, .f32⟩
  | 89 => ⟨S3x4x8x2048x2048, .f32⟩
  | 90 => ⟨S3x4x8x2048x2048, .f32⟩
  | 91 => ⟨S_, .f32⟩
  | 92 => ⟨S3x4x8x2048, .f32⟩
  | 93 => ⟨S4x8x64x3x2048, .f32⟩
  | 94 => ⟨S3x4x8x2048x64, .f32⟩
  | 95 => ⟨S3x4x8x2048x1, .f32⟩
  | 96 => ⟨S3x4x8x2048x64, .f32⟩
  | 97 => ⟨S3x4x8x2048x64, .f32⟩
  | 98 => ⟨S3x4x8x2048x1, .f32⟩
  | 99 => ⟨S_, .f32⟩
  | 100 => ⟨S3x4x8x2048x1, .f32⟩
  | 101 => ⟨S3x4x8x2048x1, .f32⟩
  | 102 => ⟨S3x4x8x2048, .f32⟩
  | 103 => ⟨S3x4x8x2048, .f32⟩
  | 104 => ⟨S_, .f32⟩
  | 105 => ⟨S4x8x2048, .f32⟩
  | 106 => ⟨S1x4x8x2048, .f32⟩
  | 107 => ⟨S3x4x8x2048, .f32⟩
  | 108 => ⟨S3x4x8x2048, .i1⟩
  | 109 => ⟨S3x4x8x2048, .f32⟩
  | 110 => ⟨S_, .f32⟩
  | 111 => ⟨S4x8x2048, .f32⟩
  | 112 => ⟨S_, .f32⟩
  | 113 => ⟨S4x8x2048, .f32⟩
  | 114 => ⟨S4x8x2048, .f32⟩
  | 115 => ⟨S_, .f32⟩
  | 116 => ⟨S4x8x2048, .f32⟩
  | 117 => ⟨S4x8x2048, .i1⟩
  | 118 => ⟨S_, .f32⟩
  | 119 => ⟨S4x8x2048, .f32⟩
  | 120 => ⟨S4x8x2048, .i1⟩
  | 121 => ⟨S_, .f32⟩
  | 122 => ⟨S4x8x2048, .f32⟩
  | 123 => ⟨S_, .f32⟩
  | 124 => ⟨S4x8x2048, .f32⟩
  | 125 => ⟨S_, .f32⟩
  | 126 => ⟨S4x8x2048, .f32⟩
  | 127 => ⟨S4x8x2048, .f32⟩
  | _ => ⟨S4x2048x512, .f32⟩

abbrev hbmTy0_1 (i : Nat) : BufTy := match i % 128 with
  | 0 => ⟨S4x8x2048, .f32⟩
  | 1 => ⟨S1x4x8x2048, .f32⟩
  | 2 => ⟨S3x4x8x2048, .f32⟩
  | 3 => ⟨S3x4x8x2048, .f32⟩
  | 4 => ⟨S3x4x8x2048, .f32⟩
  | 5 => ⟨S_, .f32⟩
  | 6 => ⟨S4x8x2048, .f32⟩
  | 7 => ⟨S1x4x8x2048, .f32⟩
  | 8 => ⟨S3x4x8x2048, .f32⟩
  | 9 => ⟨S3x4x8x2048, .f32⟩
  | 10 => ⟨S1x4x8x2048, .f32⟩
  | 11 => ⟨S_, .f32⟩
  | 12 => ⟨S1x4x8x2048, .f32⟩
  | 13 => ⟨S1x4x8x2048, .f32⟩
  | 14 => ⟨S3x4x8x2048x1, .f32⟩
  | 15 => ⟨S3x4x8x2048x64, .f32⟩
  | 16 => ⟨S3x4x8x2048x64, .f32⟩
  | 17 => ⟨S_, .f32⟩
  | 18 => ⟨S4x8x2048x64, .f32⟩
  | 19 => ⟨S4x2048x8x64, .f32⟩
  | 20 => ⟨S4x2048x512, .f32⟩
  | 21 => ⟨S4x2048x8x64, .f32⟩
  | 22 => ⟨S4x8x2048x64, .f32⟩
  | 23 => ⟨S3x4x8x2048x64, .f32⟩
  | 24 => ⟨S3x4x8x2048x64, .f32⟩
  | 25 => ⟨S3x4x8x2048x64, .f32⟩
  | 26 => ⟨S3x4x8x2048x64, .f32⟩
  | 27 => ⟨S_, .f32⟩
  | 28 => ⟨S3x4x8x2048, .f32⟩
  | 29 => ⟨S3x4x8x2048x1, .f32⟩
  | 30 => ⟨S_, .f32⟩
  | 31 => ⟨S3x4x8x2048, .f32⟩
  | 32 => ⟨S3x4x8x2048, .f32⟩
  | 33 => ⟨S3x4x8x2048, .f32⟩
  | 34 => ⟨S3x4x8x2048, .f32⟩
  | 35 => ⟨S_, .f32⟩
  | 36 => ⟨S4x8x2048, .f32⟩
  | 37 => ⟨S1x4x8x2048, .f32⟩
  | 38 => ⟨S1x4x8x2048, .f32⟩
  | 39 => ⟨S3x4x8x2048, .f32⟩
  | 40 => ⟨S3x4x8x2048, .f32⟩
  | 41 => ⟨S_, .f32⟩
  | 42 => ⟨S4x8x2048, .f32⟩
  | 43 => ⟨S3x4x8x2048, .f32⟩
  | 44 => ⟨S3x4x8x2048, .f32⟩
  | 45 => ⟨S3x4x8x2048, .f32⟩
  | 46 => ⟨S3x4x8x2048, .f32⟩
  | 47 => ⟨S3x4x8x2048x64, .f32⟩
  | 48 => ⟨S3x4x8x2048x64, .f32⟩
  | 49 => ⟨S3x4x8x2048x64, .f32⟩
  | 50 => ⟨S_, .f32⟩
  | 51 => ⟨S3x4x8x2048, .f32⟩
  | 52 => ⟨S3x4x8x2048x1, .f32⟩
  | 53 => ⟨S3x4x8x2048x1, .f32⟩
  | 54 => ⟨S3x4x8x2048x64, .f32⟩
  | 55 => ⟨S3x4x8x2048x64, .f32⟩
  | 56 => ⟨S_, .f32⟩
  | 57 => ⟨S3x4x8x2048, .f32⟩
  | 58 => ⟨S3x4x8x2048, .f32⟩
  | 59 => ⟨S4x8x64x3x2048, .f32⟩
  | 60 => ⟨S4x8x3x2048x2048, .f32⟩
  | 61 => ⟨S3x4x8x2048x2048, .f32⟩
  | 62 => ⟨S4x8x64x2048, .f32⟩
  | 63 => ⟨S4x2048x8x64, .f32⟩
  | 64 => ⟨S3x4x8x2048x2048, .f32⟩
  | 65 => ⟨S3x4x8x2048x2048, .f32⟩
  | 66 => ⟨S3x4x8x2048x2048, .f32⟩
  | 67 => ⟨S3x4x8x2048x2048, .f32⟩
  | 68 => ⟨S_, .f32⟩
  | 69 => ⟨S3x4x8x2048, .f32⟩
  | 70 => ⟨S3x4x8x2048x1, .f32⟩
  | 71 => ⟨S_, .f32⟩
  | 72 => ⟨S3x4x8x2048, .f32⟩
  | 73 => ⟨S3x4x8x2048, .f32⟩
  | 74 => ⟨S3x4x8x2048, .f32⟩
  | 75 => ⟨S3x4x8x2048x2048, .f32⟩
  | 76 => ⟨S3x4x8x2048x2048, .f32⟩
  | 77 => ⟨S3x4x8x2048x2048, .f32⟩
  | 78 => ⟨S_, .f32⟩
  | 79 => ⟨S3x4x8x2048x2048, .f32⟩
  | 80 => ⟨S3x4x8x2048x2048, .f32⟩
  | 81 => ⟨S_, .f32⟩
  | 82 => ⟨S4x8x2048x2048, .f32⟩
  | 83 => ⟨S4x8x2048x64, .f32⟩
  | 84 => ⟨S4x2048x8x64, .f32⟩
  | 85 => ⟨S4x8x2048x64, .f32⟩
  | 86 => ⟨S4x2048x8x64, .f32⟩
  | 87 => ⟨S_, .f32⟩
  | 88 => ⟨S4x2048x8x64, .f32⟩
  | 89 => ⟨S4x2048x8x64, .f32⟩
  | 90 => ⟨S4x2048x512, .f32⟩
  | 91 => ⟨S4x2048x8x32, .f32⟩
  | 92 => ⟨S4x2048x8x32, .f32⟩
  | 93 => ⟨S4x2048x8x32, .f32⟩
  | 94 => ⟨S4x2048x8x32, .f32⟩
  | 95 => ⟨S4x2048x8x32, .f32⟩
  | 96 => ⟨S4x2048x8x32, .f32⟩
  | 97 => ⟨S4x2048x8x32, .f32⟩
  | 98 => ⟨S4x2048x8x32, .f32⟩
  | 99 => ⟨S4x2048x8x32, .f32⟩
  | 100 => ⟨S_, .f32⟩
  | 101 => ⟨S4x2048x8x64, .f32⟩
  | 102 => ⟨S_, .f32⟩
  | 103 => ⟨S4x2048x8x64, .f32⟩
  | 104 => ⟨S4x2048x8x64, .f32⟩
  | 105 => ⟨S4x2048x512, .f32⟩
  | 106 => ⟨S4x2048x8x32, .f32⟩
  | 107 => ⟨S4x2048x8x32, .f32⟩
  | 108 => ⟨S4x2048x8x32, .f32⟩
  | 109 => ⟨S4x2048x8x32, .f32⟩
  | 110 => ⟨S4x2048x8x32, .f32⟩
  | 111 => ⟨S4x2048x8x32, .f32⟩
  | 112 => ⟨S4x2048x8x32, .f32⟩
  | 113 => ⟨S4x2048x8x32, .f32⟩
  | 114 => ⟨S4x2048x8x32, .f32⟩
  | 115 => ⟨S_, .f32⟩
  | 116 => ⟨S4x2048x8x64, .f32⟩
  | 117 => ⟨S_, .f32⟩
  | 118 => ⟨S4x2048x8x64, .f32⟩
  | 119 => ⟨S4x2048x8x64, .f32⟩
  | 120 => ⟨S4x2048x512, .f32⟩
  | 121 => ⟨S4x2048x512, .bf16⟩
  | 122 => ⟨S4x2048x512, .bf16⟩
  | 123 => ⟨S4x2048x512, .bf16⟩
  | _ => ⟨S4x2048x512, .f32⟩

abbrev hbmTy (i : Nat) : BufTy := match i / 128 with
  | 0 => hbmTy0_0 i
  | 1 => hbmTy0_1 i
  | _ => ⟨S4x2048x512, .f32⟩

abbrev bufTy : (tb : Table) → Fin (tcTables nBuf tb) → BufTy
  | .hbm, ⟨i, _⟩ => hbmTy i
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_2 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_c : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_c_3 : Ref sig .tc := ⟨.hbm, 61, rfl⟩
abbrev main_v51 : Ref sig .tc := ⟨.hbm, 62, rfl⟩
abbrev main_v52 : Ref sig .tc := ⟨.hbm, 63, rfl⟩
abbrev main_c_4 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_5 : Ref sig .tc := ⟨.hbm, 74, rfl⟩
abbrev main_v62 : Ref sig .tc := ⟨.hbm, 75, rfl⟩
abbrev main_v63 : Ref sig .tc := ⟨.hbm, 76, rfl⟩
abbrev main_cst_6 : Ref sig .tc := ⟨.hbm, 77, rfl⟩
abbrev main_v64 : Ref sig .tc := ⟨.hbm, 78, rfl⟩
abbrev main_cst_7 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_8 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_cst_9 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_cst_10 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_cst_11 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_cst_12 : Ref sig .tc := ⟨.hbm, 110, rfl⟩
abbrev main_v91 : Ref sig .tc := ⟨.hbm, 111, rfl⟩
abbrev main_cst_13 : Ref sig .tc := ⟨.hbm, 112, rfl⟩
abbrev main_v92 : Ref sig .tc := ⟨.hbm, 113, rfl⟩
abbrev main_v93 : Ref sig .tc := ⟨.hbm, 114, rfl⟩
abbrev main_cst_14 : Ref sig .tc := ⟨.hbm, 115, rfl⟩
abbrev main_v94 : Ref sig .tc := ⟨.hbm, 116, rfl⟩
abbrev main_v95 : Ref sig .tc := ⟨.hbm, 117, rfl⟩
abbrev main_cst_15 : Ref sig .tc := ⟨.hbm, 118, rfl⟩
abbrev main_v96 : Ref sig .tc := ⟨.hbm, 119, rfl⟩
abbrev main_v97 : Ref sig .tc := ⟨.hbm, 120, rfl⟩
abbrev main_cst_16 : Ref sig .tc := ⟨.hbm, 121, rfl⟩
abbrev main_v98 : Ref sig .tc := ⟨.hbm, 122, rfl⟩
abbrev main_cst_17 : Ref sig .tc := ⟨.hbm, 123, rfl⟩
abbrev main_v99 : Ref sig .tc := ⟨.hbm, 124, rfl⟩
abbrev main_cst_18 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_cst_19 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_cst_20 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_cst_21 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_cst_22 : Ref sig .tc := ⟨.hbm, 155, rfl⟩
abbrev main_v126 : Ref sig .tc := ⟨.hbm, 156, rfl⟩
abbrev main_v127 : Ref sig .tc := ⟨.hbm, 157, rfl⟩
abbrev main_cst_23 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_cst_24 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_cst_25 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_cst_26 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_cst_27 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_cst_28 : Ref sig .tc := ⟨.hbm, 196, rfl⟩
abbrev main_v161 : Ref sig .tc := ⟨.hbm, 197, rfl⟩
abbrev main_v162 : Ref sig .tc := ⟨.hbm, 198, rfl⟩
abbrev main_cst_29 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_cst_30 : Ref sig .tc := ⟨.hbm, 206, rfl⟩
abbrev main_v169 : Ref sig .tc := ⟨.hbm, 207, rfl⟩
abbrev main_v170 : Ref sig .tc := ⟨.hbm, 208, rfl⟩
abbrev main_cst_31 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_cst_32 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_cst_33 : Ref sig .tc := ⟨.hbm, 228, rfl⟩
abbrev main_v188 : Ref sig .tc := ⟨.hbm, 229, rfl⟩
abbrev main_cst_34 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_cst_35 : Ref sig .tc := ⟨.hbm, 243, rfl⟩
abbrev main_v201 : Ref sig .tc := ⟨.hbm, 244, rfl⟩
abbrev main_cst_36 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_v205 : Ref sig .tc := ⟨.hbm, 249, rfl⟩
abbrev main_v206 : Ref sig .tc := ⟨.hbm, 250, rfl⟩
abbrev main_v207 : Ref sig .tc := ⟨.hbm, 251, rfl⟩

abbrev nD : Nat := 1
abbrev τ : Topo := Topo.v7x

variable {F : FTy → Type} [FloatOps F]
-- ==== DiscK.lean ====
abbrev S32x64 : Shape := ⟨2, ![32, 64]⟩
abbrev S32 : Shape := ⟨1, ![32]⟩
abbrev S32x64x16 : Shape := ⟨3, ![32, 64, 16]⟩
abbrev S32x1x64 : Shape := ⟨3, ![32, 1, 64]⟩
abbrev S32x1x1 : Shape := ⟨3, ![32, 1, 1]⟩
abbrev S32x16x64 : Shape := ⟨3, ![32, 16, 64]⟩
abbrev S32x1 : Shape := ⟨2, ![32, 1]⟩

abbrev nBuf : Space → Nat
  | .hbm => 23
  | .vmem => 14
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32x64, .f32⟩
  | .hbm, ⟨6, _⟩ => ⟨S32x64, .f32⟩
  | .hbm, ⟨7, _⟩ => ⟨S32x64x16, .f32⟩
  | .hbm, ⟨8, _⟩ => ⟨S32x64x16, .f32⟩
  | .hbm, ⟨9, _⟩ => ⟨S32x1x64, .f32⟩
  | .hbm, ⟨10, _⟩ => ⟨S32x1x64, .f32⟩
  | .hbm, ⟨11, _⟩ => ⟨S32x1x1, .f32⟩
  | .hbm, ⟨12, _⟩ => ⟨S32x16x64, .f32⟩
  | .hbm, ⟨13, _⟩ => ⟨S32x16x64, .f32⟩
  | .hbm, ⟨14, _⟩ => ⟨S32x1x64, .f32⟩
  | .hbm, ⟨15, _⟩ => ⟨S32x1x64, .f32⟩
  | .hbm, ⟨16, _⟩ => ⟨S32x16x64, .f32⟩
  | .hbm, ⟨17, _⟩ => ⟨S32x16x64, .f32⟩
  | .hbm, ⟨18, _⟩ => ⟨S32x1x64, .f32⟩
  | .hbm, ⟨19, _⟩ => ⟨S32x1x64, .f32⟩
  | .hbm, ⟨20, _⟩ => ⟨S32x1x1, .f32⟩
  | .hbm, ⟨21, _⟩ => ⟨S32x16x64, .f32⟩
  | .hbm, ⟨22, _⟩ => ⟨S32x16x64, .f32⟩
  | .local _ .vmem, ⟨0, _⟩ => ⟨S32x1x64, .f32⟩
  | .local _ .vmem, ⟨1, _⟩ => ⟨S32x1x64, .f32⟩
  | .local _ .vmem, ⟨2, _⟩ => ⟨S32x1x1, .f32⟩
  | .local _ .vmem, ⟨3, _⟩ => ⟨S32x16x64, .f32⟩
  | .local _ .vmem, ⟨4, _⟩ => ⟨S32x16x64, .f32⟩
  | .local _ .vmem, ⟨5, _⟩ => ⟨S32x1x64, .f32⟩
  | .local _ .vmem, ⟨6, _⟩ => ⟨S32x1x64, .f32⟩
  | .local _ .vmem, ⟨7, _⟩ => ⟨S32x16x64, .f32⟩
  | .local _ .vmem, ⟨8, _⟩ => ⟨S32x16x64, .f32⟩
  | .local _ .vmem, ⟨9, _⟩ => ⟨S32x1x64, .f32⟩
  | .local _ .vmem, ⟨10, _⟩ => ⟨S32x1x64, .f32⟩
  | .local _ .vmem, ⟨11, _⟩ => ⟨S32x1x1, .f32⟩
  | .local _ .vmem, ⟨12, _⟩ => ⟨S32x16x64, .f32⟩
  | .local _ .vmem, ⟨13, _⟩ => ⟨S32x16x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S32x1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x16x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32x16x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== DiscRIdeal.lean ====
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S_ : Shape := ⟨0, ![]⟩
abbrev S32x64x1 : Shape := ⟨3, ![32, 64, 1]⟩
abbrev S32x1x64 : Shape := ⟨3, ![32, 1, 64]⟩
abbrev S32x1x1 : Shape := ⟨3, ![32, 1, 1]⟩
abbrev S32x16x64 : Shape := ⟨3, ![32, 16, 64]⟩

abbrev nBuf : Space → Nat
  | .hbm => 163
  | .vmem => 0
  | .smem => 0
  | _ => 0

abbrev hbmTy0_0 (i : Nat) : BufTy := match i % 128 with
  | 0 => ⟨S32x64, .f32⟩
  | 1 => ⟨S32x64, .f32⟩
  | 2 => ⟨S32, .f32⟩
  | 3 => ⟨S32x64x16, .f32⟩
  | 4 => ⟨S32x64x16, .f32⟩
  | 5 => ⟨S32x64, .f32⟩
  | 6 => ⟨S32x64, .f32⟩
  | 7 => ⟨S32x64x16, .f32⟩
  | 8 => ⟨S32x64x16, .f32⟩
  | 9 => ⟨S32, .f32⟩
  | 10 => ⟨S32x1, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S_, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S_, .f32⟩
  | 34 => ⟨S32x64, .f32⟩
  | 35 => ⟨S32x64, .f32⟩
  | 36 => ⟨S32x64, .f32⟩
  | 37 => ⟨S32x64, .f32⟩
  | 38 => ⟨S32x64, .f32⟩
  | 39 => ⟨S32x64, .f32⟩
  | 40 => ⟨S32x64, .f32⟩
  | 41 => ⟨S_, .f32⟩
  | 42 => ⟨S32x64, .f32⟩
  | 43 => ⟨S32x64, .f32⟩
  | 44 => ⟨S32x64x1, .f32⟩
  | 45 => ⟨S32x64x16, .f32⟩
  | 46 => ⟨S32x64x16, .f32⟩
  | 47 => ⟨S32x64x1, .f32⟩
  | 48 => ⟨S32x64x16, .f32⟩
  | 49 => ⟨S32x64x16, .f32⟩
  | 50 => ⟨S32x64x16, .f32⟩
  | 51 => ⟨S32x64x1, .f32⟩
  | 52 => ⟨S32x64x16, .f32⟩
  | 53 => ⟨S32x64x16, .f32⟩
  | 54 => ⟨S32x64x1, .f32⟩
  | 55 => ⟨S32x64x16, .f32⟩
  | 56 => ⟨S32x64x16, .f32⟩
  | 57 => ⟨S32x64x16, .f32⟩
  | 58 => ⟨S32x64x16, .f32⟩
  | 59 => ⟨S32x64x16, .f32⟩
  | 60 => ⟨S32x64x16, .f32⟩
  | 61 => ⟨S32x64x16, .f32⟩
  | 62 => ⟨S32x64x16, .f32⟩
  | 63 => ⟨S_, .f32⟩
  | 64 => ⟨S32x64, .f32⟩
  | 65 => ⟨S32x64x1, .f32⟩
  | 66 => ⟨S_, .f32⟩
  | 67 => ⟨S32x64, .f32⟩
  | 68 => ⟨S32x64x16, .f32⟩
  | 69 => ⟨S32x64x16, .f32⟩
  | 70 => ⟨S32x64x16, .f32⟩
  | 71 => ⟨S_, .f32⟩
  | 72 => ⟨S32x64, .f32⟩
  | 73 => ⟨S32x64x1, .f32⟩
  | 74 => ⟨S_, .f32⟩
  | 75 => ⟨S32x64, .f32⟩
  | 76 => ⟨S32x64x16, .f32⟩
  | 77 => ⟨S32x64x16, .f32⟩
  | 78 => ⟨S32x64x16, .f32⟩
  | 79 => ⟨S32x64x16, .f32⟩
  | 80 => ⟨S32x64x16, .f32⟩
  | 81 => ⟨S32x64x16, .f32⟩
  | 82 => ⟨S_, .f32⟩
  | 83 => ⟨S32x64, .f32⟩
  | 84 => ⟨S32x64x1, .f32⟩
  | 85 => ⟨S_, .f32⟩
  | 86 => ⟨S32x64, .f32⟩
  | 87 => ⟨S32x64, .f32⟩
  | 88 => ⟨S32x64x16, .f32⟩
  | 89 => ⟨S32x64x16, .f32⟩
  | 90 => ⟨S32x64x16, .f32⟩
  | 91 => ⟨S32x64x16, .f32⟩
  | 92 => ⟨S_, .f32⟩
  | 93 => ⟨S32x64, .f32⟩
  | 94 => ⟨S32x64x1, .f32⟩
  | 95 => ⟨S_, .f32⟩
  | 96 => ⟨S32x64, .f32⟩
  | 97 => ⟨S32x64, .f32⟩
  | 98 => ⟨S32x64, .f32⟩
  | 99 => ⟨S32x64, .f32⟩
  | 100 => ⟨S32x64, .f32⟩
  | 101 => ⟨S32x64, .f32⟩
  | 102 => ⟨S32x64, .f32⟩
  | 103 => ⟨S32x64, .f32⟩
  | 104 => ⟨S32x64, .f32⟩
  | 105 => ⟨S32x64, .f32⟩
  | 106 => ⟨S32x64, .f32⟩
  | 107 => ⟨S32x64, .f32⟩
  | 108 => ⟨S32x64, .f32⟩
  | 109 => ⟨S32x64, .f32⟩
  | 110 => ⟨S32x64, .f32⟩
  | 111 => ⟨S32x64, .f32⟩
  | 112 => ⟨S32x64, .f32⟩
  | 113 => ⟨S32x64, .f32⟩
  | 114 => ⟨S32x64, .f32⟩
  | 115 => ⟨S32x64, .f32⟩
  | 116 => ⟨S32x64, .f32⟩
  | 117 => ⟨S32x64, .f32⟩
  | 118 => ⟨S32x64, .f32⟩
  | 119 => ⟨S32x64, .f32⟩
  | 120 => ⟨S32x64, .f32⟩
  | 121 => ⟨S32x64, .f32⟩
  | 122 => ⟨S32x64, .f32⟩
  | 123 => ⟨S32x64, .f32⟩
  | 124 => ⟨S32x64, .f32⟩
  | 125 => ⟨S32x64, .f32⟩
  | 126 => ⟨S32x64, .f32⟩
  | 127 => ⟨S32x64, .f32⟩
  | _ => ⟨S32x64, .f32⟩

abbrev hbmTy0_1 (i : Nat) : BufTy := match i % 128 with
  | 0 => ⟨S32x64, .f32⟩
  | 1 => ⟨S32x64, .f32⟩
  | 2 => ⟨S32x64, .f32⟩
  | 3 => ⟨S32x64, .f32⟩
  | 4 => ⟨S32x64, .f32⟩
  | 5 => ⟨S32x64, .f32⟩
  | 6 => ⟨S32x64, .f32⟩
  | 7 => ⟨S32x64, .f32⟩
  | 8 => ⟨S32x64, .f32⟩
  | 9 => ⟨S32x64, .f32⟩
  | 10 => ⟨S32x64, .f32⟩
  | 11 => ⟨S32x64, .f32⟩
  | 12 => ⟨S_, .f32⟩
  | 13 => ⟨S32, .f32⟩
  | 14 => ⟨S32x1, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S_, .f32⟩
  | 21 => ⟨S32, .f32⟩
  | 22 => ⟨S32x1, .f32⟩
  | 23 => ⟨S32x1, .f32⟩
  | 24 => ⟨S32x64, .f32⟩
  | 25 => ⟨S32x64, .f32⟩
  | 26 => ⟨S32x64, .f32⟩
  | 27 => ⟨S_, .f32⟩
  | 28 => ⟨S32, .f32⟩
  | 29 => ⟨S32, .f32⟩
  | 30 => ⟨S32x1x64, .f32⟩
  | 31 => ⟨S32x1x64, .f32⟩
  | 32 => ⟨S32x1x1, .f32⟩
  | 33 => ⟨S32x16x64, .f32⟩
  | 34 => ⟨S32x16x64, .f32⟩
  | _ => ⟨S32x64, .f32⟩

abbrev hbmTy (i : Nat) : BufTy := match i / 128 with
  | 0 => hbmTy0_0 i
  | 1 => hbmTy0_1 i
  | _ => ⟨S32x64, .f32⟩

abbrev bufTy : (tb : Table) → Fin (tcTables nBuf tb) → BufTy
  | .hbm, ⟨i, _⟩ => hbmTy i
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_1 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_2 : Ref sig .tc := ⟨.hbm, 63, rfl⟩
abbrev main_v51 : Ref sig .tc := ⟨.hbm, 64, rfl⟩
abbrev main_v52 : Ref sig .tc := ⟨.hbm, 65, rfl⟩
abbrev main_cst_3 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_4 : Ref sig .tc := ⟨.hbm, 71, rfl⟩
abbrev main_v57 : Ref sig .tc := ⟨.hbm, 72, rfl⟩
abbrev main_v58 : Ref sig .tc := ⟨.hbm, 73, rfl⟩
abbrev main_cst_5 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_6 : Ref sig .tc := ⟨.hbm, 82, rfl⟩
abbrev main_v66 : Ref sig .tc := ⟨.hbm, 83, rfl⟩
abbrev main_v67 : Ref sig .tc := ⟨.hbm, 84, rfl⟩
abbrev main_cst_7 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_8 : Ref sig .tc := ⟨.hbm, 92, rfl⟩
abbrev main_v74 : Ref sig .tc := ⟨.hbm, 93, rfl⟩
abbrev main_v75 : Ref sig .tc := ⟨.hbm, 94, rfl⟩
abbrev main_cst_9 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_cst_10 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_cst_11 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_cst_12 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩

abbrev nD : Nat := 1
abbrev τ : Topo := Topo.v7x

variable {F : FTy → Type} [FloatOps F]
-- ==== AttendK.lean ====
abbrev S4x2048x512 : Shape := ⟨3, ![4, 2048, 512]⟩
abbrev S4x2048 : Shape := ⟨2, ![4, 2048]⟩
abbrev S4x2048x1536 : Shape := ⟨3, ![4, 2048, 1536]⟩
abbrev S32 : Shape := ⟨1, ![32]⟩
abbrev S_ : Shape := ⟨0, ![]⟩
abbrev S4x2048x1 : Shape := ⟨3, ![4, 2048, 1]⟩
abbrev S1x1x32 : Shape := ⟨3, ![1, 1, 32]⟩
abbrev S4x2048x32 : Shape := ⟨3, ![4, 2048, 32]⟩
abbrev S4x2048x128 : Shape := ⟨3, ![4, 2048, 128]⟩
abbrev S1x2048x128 : Shape := ⟨3, ![1, 2048, 128]⟩
abbrev S2048x128 : Shape := ⟨2, ![2048, 128]⟩
abbrev S3x2048x128 : Shape := ⟨3, ![3, 2048, 128]⟩
abbrev S32x64x128 : Shape := ⟨3, ![32, 64, 128]⟩
abbrev S32x128x128 : Shape := ⟨3, ![32, 128, 128]⟩
abbrev S32x128x192 : Shape := ⟨3, ![32, 128, 192]⟩
abbrev S2x64x128 : Shape := ⟨3, ![2, 64, 128]⟩
abbrev S30x64x128 : Shape := ⟨3, ![30, 64, 128]⟩
abbrev S1x64x128 : Shape := ⟨3, ![1, 64, 128]⟩
abbrev S31x64x128 : Shape := ⟨3, ![31, 64, 128]⟩
abbrev S32x192x128 : Shape := ⟨3, ![32, 192, 128]⟩
abbrev S32x128 : Shape := ⟨2, ![32, 128]⟩
abbrev S32x128x1 : Shape := ⟨3, ![32, 128, 1]⟩
abbrev S32x64x1 : Shape := ⟨3, ![32, 64, 1]⟩
abbrev S512x128 : Shape := ⟨2, ![512, 128]⟩
abbrev S1x512x128 : Shape := ⟨3, ![1, 512, 128]⟩
abbrev S128x128 : Shape := ⟨2, ![128, 128]⟩
abbrev S1x128x128 : Shape := ⟨3, ![1, 128, 128]⟩
abbrev S16x128x128 : Shape := ⟨3, ![16, 128, 128]⟩
abbrev S16x256x128 : Shape := ⟨3, ![16, 256, 128]⟩
abbrev S1x256x128 : Shape := ⟨3, ![1, 256, 128]⟩
abbrev S16x256 : Shape := ⟨2, ![16, 256]⟩
abbrev S16x256x1 : Shape := ⟨3, ![16, 256, 1]⟩
abbrev S16x128x1 : Shape := ⟨3, ![16, 128, 1]⟩

abbrev nBuf : Space → Nat
  | .hbm => 29
  | .vmem => 23
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x512, .f32⟩
  | .hbm, ⟨3, _⟩ => ⟨S4x2048, .i32⟩
  | .hbm, ⟨4, _⟩ => ⟨S4x2048x1536, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S4x2048, .f32⟩
  | .hbm, ⟨17, _⟩ => ⟨S4x2048x1, .f32⟩
  | .hbm, ⟨18, _⟩ => ⟨S1x1x32, .f32⟩
  | .hbm, ⟨19, _⟩ => ⟨S4x2048x32, .f32⟩
  | .hbm, ⟨20, _⟩ => ⟨S4x2048x32, .f32⟩
  | .hbm, ⟨21, _⟩ => ⟨S4x2048x32, .f32⟩
  | .hbm, ⟨22, _⟩ => ⟨S4x2048x32, .f32⟩
  | .hbm, ⟨23, _⟩ => ⟨S4x2048x32, .f32⟩
  | .hbm, ⟨24, _⟩ => ⟨S4x2048x128, .f32⟩
  | .hbm, ⟨25, _⟩ => ⟨S4x2048x32, .f32⟩
  | .hbm, ⟨26, _⟩ => ⟨S4x2048x128, .f32⟩
  | .hbm, ⟨27, _⟩ => ⟨S4x2048x512, .f32⟩
  | .hbm, ⟨28, _⟩ => ⟨S4x2048x512, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .f32⟩
  | .local _ .vmem, ⟨20, _⟩ => ⟨S2048x128, .f32⟩
  | .local _ .vmem, ⟨21, _⟩ => ⟨S3x2048x128, .f32⟩
  | .local _ .vmem, ⟨22, _⟩ => ⟨S3x2048x128, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20_0 : Ref sig .tc := ⟨.hbm, 27, rfl⟩
abbrev main_v20_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttendKIdeal.lean ====
variable {F : FTy → Type} [FloatOps F] [Named F]
def κ : String → Option EReal := fun
  | "mask" => some ⊥
  | _ => none
-- ==== AttendRIdeal.lean ====
abbrev S4x2048x512 : Shape := ⟨3, ![4, 2048, 512]⟩
abbrev S4x2048 : Shape := ⟨2, ![4, 2048]⟩
abbrev S32 : Shape := ⟨1, ![32]⟩
abbrev S_ : Shape := ⟨0, ![]⟩
abbrev S4x2048x1 : Shape := ⟨3, ![4, 2048, 1]⟩
abbrev S1x1x32 : Shape := ⟨3, ![1, 1, 32]⟩
abbrev S4x2048x32 : Shape := ⟨3, ![4, 2048, 32]⟩
abbrev S4x2048x1x32 : Shape := ⟨4, ![4, 2048, 1, 32]⟩
abbrev S4x2048x8x32 : Shape := ⟨4, ![4, 2048, 8, 32]⟩
abbrev S4x2048x8x64 : Shape := ⟨4, ![4, 2048, 8, 64]⟩
abbrev S4x8x2048x2048 : Shape := ⟨4, ![4, 8, 2048, 2048]⟩
abbrev S3x2048x2048 : Shape := ⟨3, ![3, 2048, 2048]⟩
abbrev S3x1x1x2048x2048 : Shape := ⟨5, ![3, 1, 1, 2048, 2048]⟩
abbrev S3x4x8x2048x2048 : Shape := ⟨5, ![3, 4, 8, 2048, 2048]⟩
abbrev S3x4x8x2048 : Shape := ⟨4, ![3, 4, 8, 2048]⟩
abbrev S3x4x8x2048x1 : Shape := ⟨5, ![3, 4, 8, 2048, 1]⟩
abbrev S4x8x64x3x2048 : Shape := ⟨5, ![4, 8, 64, 3, 2048]⟩
abbrev S3x4x8x2048x64 : Shape := ⟨5, ![3, 4, 8, 2048, 64]⟩
abbrev S4x8x2048 : Shape := ⟨3, ![4, 8, 2048]⟩
abbrev S1x4x8x2048 : Shape := ⟨4, ![1, 4, 8, 2048]⟩
abbrev S4x8x2048x64 : Shape := ⟨4, ![4, 8, 2048, 64]⟩
abbrev S4x8x2048x1 : Shape := ⟨4, ![4, 8, 2048, 1]⟩

abbrev nBuf : Space → Nat
  | .hbm => 126
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x512, .f32⟩
  | .hbm, ⟨3, _⟩ => ⟨S4x2048, .i32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S4x2048, .f32⟩
  | .hbm, ⟨16, _⟩ => ⟨S4x2048x1, .f32⟩
  | .hbm, ⟨17, _⟩ => ⟨S1x1x32, .f32⟩
  | .hbm, ⟨18, _⟩ => ⟨S4x2048x32, .f32⟩
  | .hbm, ⟨19, _⟩ => ⟨S4x2048x32, .f32⟩
  | .hbm, ⟨20, _⟩ => ⟨S4x2048x32, .f32⟩
  | .hbm, ⟨21, _⟩ => ⟨S4x2048x32, .f32⟩
  | .hbm, ⟨22, _⟩ => ⟨S4x2048x32, .f32⟩
  | .hbm, ⟨23, _⟩ => ⟨S4x2048x1x32, .f32⟩
  | .hbm, ⟨24, _⟩ => ⟨S4x2048x8x32, .f32⟩
  | .hbm, ⟨25, _⟩ => ⟨S4x2048x1x32, .f32⟩
  | .hbm, ⟨26, _⟩ => ⟨S4x2048x8x32, .f32⟩
  | .hbm, ⟨27, _⟩ => ⟨S4x2048x8x64, .f32⟩
  | .hbm, ⟨28, _⟩ => ⟨S4x2048x8x32, .f32⟩
  | .hbm, ⟨29, _⟩ => ⟨S4x2048x8x32, .f32⟩
  | .hbm, ⟨30, _⟩ => ⟨S4x2048x8x32, .f32⟩
  | .hbm, ⟨31, _⟩ => ⟨S4x2048x8x32, .f32⟩
  | .hbm, ⟨32, _⟩ => ⟨S4x2048x8x32, .f32⟩
  | .hbm, ⟨33, _⟩ => ⟨S4x2048x8x32, .f32⟩
  | .hbm, ⟨34, _⟩ => ⟨S4x2048x8x32, .f32⟩
  | .hbm, ⟨35, _⟩ => ⟨S4x2048x8x32, .f32⟩
  | .hbm, ⟨36, _⟩ => ⟨S4x2048x8x64, .f32⟩
  | .hbm, ⟨37, _⟩ => ⟨S4x2048x8x64, .f32⟩
  | .hbm, ⟨38, _⟩ => ⟨S4x2048x8x32, .f32⟩
  | .hbm, ⟨39, _⟩ => ⟨S4x2048x8x32, .f32⟩
  | .hbm, ⟨40, _⟩ => ⟨S4x2048x8x32, .f32⟩
  | .hbm, ⟨41, _⟩ => ⟨S4x2048x8x32, .f32⟩
  | .hbm, ⟨42, _⟩ => ⟨S4x2048x8x32, .f32⟩
  | .hbm, ⟨43, _⟩ => ⟨S4x2048x8x32, .f32⟩
  | .hbm, ⟨44, _⟩ => ⟨S4x2048x8x32, .f32⟩
  | .hbm, ⟨45, _⟩ => ⟨S4x2048x8x32, .f32⟩
  | .hbm, ⟨46, _⟩ => ⟨S4x2048x8x64, .f32⟩
  | .hbm, ⟨47, _⟩ => ⟨S4x2048x8x64, .f32⟩
  | .hbm, ⟨48, _⟩ => ⟨S_, .f32⟩
  | .hbm, ⟨49, _⟩ => ⟨S4x2048x8x64, .f32⟩
  | .hbm, ⟨50, _⟩ => ⟨S4x2048x8x64, .f32⟩
  | .hbm, ⟨51, _⟩ => ⟨S4x8x2048x2048, .f32⟩
  | .hbm, ⟨52, _⟩ => ⟨S3x2048x2048, .i32⟩
  | .hbm, ⟨53, _⟩ => ⟨S3x2048x2048, .i32⟩
  | .hbm, ⟨54, _⟩ => ⟨S3x2048x2048, .i32⟩
  | .hbm, ⟨55, _⟩ => ⟨S3x2048x2048, .i32⟩
  | .hbm, ⟨56, _⟩ => ⟨S_, .i32⟩
  | .hbm, ⟨57, _⟩ => ⟨S3x2048x2048, .i32⟩
  | .hbm, ⟨58, _⟩ => ⟨S3x2048x2048, .i32⟩
  | .hbm, ⟨59, _⟩ => ⟨S3x2048x2048, .i32⟩
  | .hbm, ⟨60, _⟩ => ⟨S_, .i32⟩
  | .hbm, ⟨61, _⟩ => ⟨S3x2048x2048, .i32⟩
  | .hbm, ⟨62, _⟩ => ⟨S3x2048x2048, .i1⟩
  | .hbm, ⟨63, _⟩ => ⟨S_, .i32⟩
  | .hbm, ⟨64, _⟩ => ⟨S3x2048x2048, .i32⟩
  | .hbm, ⟨65, _⟩ => ⟨S3x2048x2048, .i1⟩
  | .hbm, ⟨66, _⟩ => ⟨S3x2048x2048, .i1⟩
  | .hbm, ⟨67, _⟩ => ⟨S3x2048x2048, .i32⟩
  | .hbm, ⟨68, _⟩ => ⟨S3x2048x2048, .i1⟩
  | .hbm, ⟨69, _⟩ => ⟨S3x2048x2048, .i1⟩
  | .hbm, ⟨70, _⟩ => ⟨S3x1x1x2048x2048, .i1⟩
  | .hbm, ⟨71, _⟩ => ⟨S3x4x8x2048x2048, .i1⟩
  | .hbm, ⟨72, _⟩ => ⟨S3x4x8x2048x2048, .f32⟩
  | .hbm, ⟨73, _⟩ => ⟨S_, .f32⟩
  | .hbm, ⟨74, _⟩ => ⟨S3x4x8x2048x2048, .f32⟩
  | .hbm, ⟨75, _⟩ => ⟨S3x4x8x2048x2048, .f32⟩
  | .hbm, ⟨76, _⟩ => ⟨S_, .f32⟩
  | .hbm, ⟨77, _⟩ => ⟨S3x4x8x2048, .f32⟩
  | .hbm, ⟨78, _⟩ => ⟨S3x4x8x2048x1, .f32⟩
  | .hbm, ⟨79, _⟩ => ⟨S3x4x8x2048x2048, .f32⟩
  | .hbm, ⟨80, _⟩ => ⟨S3x4x8x2048x2048, .f32⟩
  | .hbm, ⟨81, _⟩ => ⟨S3x4x8x2048x2048, .f32⟩
  | .hbm, ⟨82, _⟩ => ⟨S_, .f32⟩
  | .hbm, ⟨83, _⟩ => ⟨S3x4x8x2048, .f32⟩
  | .hbm, ⟨84, _⟩ => ⟨S4x8x64x3x2048, .f32⟩
  | .hbm, ⟨85, _⟩ => ⟨S3x4x8x2048x64, .f32⟩
  | .hbm, ⟨86, _⟩ => ⟨S3x4x8x2048x1, .f32⟩
  | .hbm, ⟨87, _⟩ => ⟨S3x4x8x2048x64, .f32⟩
  | .hbm, ⟨88, _⟩ => ⟨S3x4x8x2048x64, .f32⟩
  | .hbm, ⟨89, _⟩ => ⟨S3x4x8x2048, .f32⟩
  | .hbm, ⟨90, _⟩ => ⟨S3x4x8x2048, .f32⟩
  | .hbm, ⟨91, _⟩ => ⟨S_, .f32⟩
  | .hbm, ⟨92, _⟩ => ⟨S4x8x2048, .f32⟩
  | .hbm, ⟨93, _⟩ => ⟨S_, .f32⟩
  | .hbm, ⟨94, _⟩ => ⟨S4x8x2048, .f32⟩
  | .hbm, ⟨95, _⟩ => ⟨S4x8x2048, .f32⟩
  | .hbm, ⟨96, _⟩ => ⟨S1x4x8x2048, .f32⟩
  | .hbm, ⟨97, _⟩ => ⟨S3x4x8x2048, .f32⟩
  | .hbm, ⟨98, _⟩ => ⟨S3x4x8x2048, .f32⟩
  | .hbm, ⟨99, _⟩ => ⟨S3x4x8x2048, .f32⟩
  | .hbm, ⟨100, _⟩ => ⟨S_, .f32⟩
  | .hbm, ⟨101, _⟩ => ⟨S4x8x2048, .f32⟩
  | .hbm, ⟨102, _⟩ => ⟨S1x4x8x2048, .f32⟩
  | .hbm, ⟨103, _⟩ => ⟨S3x4x8x2048, .f32⟩
  | .hbm, ⟨104, _⟩ => ⟨S3x4x8x2048, .f32⟩
  | .hbm, ⟨105, _⟩ => ⟨S3x4x8x2048x1, .f32⟩
  | .hbm, ⟨106, _⟩ => ⟨S3x4x8x2048x64, .f32⟩
  | .hbm, ⟨107, _⟩ => ⟨S3x4x8x2048x64, .f32⟩
  | .hbm, ⟨108, _⟩ => ⟨S_, .f32⟩
  | .hbm, ⟨109, _⟩ => ⟨S4x8x2048x64, .f32⟩
  | .hbm, ⟨110, _⟩ => ⟨S_, .f32⟩
  | .hbm, ⟨111, _⟩ => ⟨S4x8x2048, .f32⟩
  | .hbm, ⟨112, _⟩ => ⟨S1x4x8x2048, .f32⟩
  | .hbm, ⟨113, _⟩ => ⟨S3x4x8x2048, .f32⟩
  | .hbm, ⟨114, _⟩ => ⟨S3x4x8x2048, .f32⟩
  | .hbm, ⟨115, _⟩ => ⟨S3x4x8x2048, .f32⟩
  | .hbm, ⟨116, _⟩ => ⟨S_, .f32⟩
  | .hbm, ⟨117, _⟩ => ⟨S4x8x2048, .f32⟩
  | .hbm, ⟨118, _⟩ => ⟨S4x8x2048, .f32⟩
  | .hbm, ⟨119, _⟩ => ⟨S4x8x2048, .f32⟩
  | .hbm, ⟨120, _⟩ => ⟨S4x8x2048x1, .f32⟩
  | .hbm, ⟨121, _⟩ => ⟨S4x8x2048x64, .f32⟩
  | .hbm, ⟨122, _⟩ => ⟨S4x2048x8x64, .f32⟩
  | .hbm, ⟨123, _⟩ => ⟨S4x2048x512, .f32⟩
  | .hbm, ⟨124, _⟩ => ⟨S4x2048x8x64, .f32⟩
  | .hbm, ⟨125, _⟩ => ⟨S4x2048x512, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_2 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_c : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_c_3 : Ref sig .tc := ⟨.hbm, 60, rfl⟩
abbrev main_v51 : Ref sig .tc := ⟨.hbm, 61, rfl⟩
abbrev main_v52 : Ref sig .tc := ⟨.hbm, 62, rfl⟩
abbrev main_c_4 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_cst_5 : Ref sig .tc := ⟨.hbm, 73, rfl⟩
abbrev main_v62 : Ref sig .tc := ⟨.hbm, 74, rfl⟩
abbrev main_v63 : Ref sig .tc := ⟨.hbm, 75, rfl⟩
abbrev main_cst_6 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_cst_7 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_cst_8 : Ref sig .tc := ⟨.hbm, 91, rfl⟩
abbrev main_v77 : Ref sig .tc := ⟨.hbm, 92, rfl⟩
abbrev main_cst_9 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_cst_10 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_cst_11 : Ref sig .tc := ⟨.hbm, 108, rfl⟩
abbrev main_v91 : Ref sig .tc := ⟨.hbm, 109, rfl⟩
abbrev main_cst_12 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_cst_13 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩

abbrev nD : Nat := 1
abbrev τ : Topo := Topo.v7x

variable {F : FTy → Type} [FloatOps F]
-- ==== ActK.lean ====
abbrev S8192x1024 : Shape := ⟨2, ![8192, 1024]⟩
abbrev S1024x4096 : Shape := ⟨2, ![1024, 4096]⟩
abbrev S4096 : Shape := ⟨1, ![4096]⟩
abbrev S1024x8x512 : Shape := ⟨3, ![1024, 8, 512]⟩
abbrev S8x1024x512 : Shape := ⟨3, ![8, 1024, 512]⟩
abbrev S1x4096 : Shape := ⟨2, ![1, 4096]⟩
abbrev S8192x4096 : Shape := ⟨2, ![8192, 4096]⟩
abbrev S512x1024 : Shape := ⟨2, ![512, 1024]⟩
abbrev S512x4096 : Shape := ⟨2, ![512, 4096]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 8
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096, .f32⟩
  | .hbm, ⟨3, _⟩ => ⟨S1024x4096, .bf16⟩
  | .hbm, ⟨4, _⟩ => ⟨S1024x8x512, .bf16⟩
  | .hbm, ⟨5, _⟩ => ⟨S8x1024x512, .bf16⟩
  | .hbm, ⟨6, _⟩ => ⟨S1x4096, .f32⟩
  | .hbm, ⟨7, _⟩ => ⟨S8192x4096, .bf16⟩
  | .local _ .vmem, ⟨0, _⟩ => ⟨S512x1024, .f32⟩
  | .local _ .vmem, ⟨1, _⟩ => ⟨S512x1024, .f32⟩
  | .local _ .vmem, ⟨2, _⟩ => ⟨S8x1024x512, .bf16⟩
  | .local _ .vmem, ⟨3, _⟩ => ⟨S1x4096, .f32⟩
  | .local _ .vmem, ⟨4, _⟩ => ⟨S512x4096, .bf16⟩
  | .local _ .vmem, ⟨5, _⟩ => ⟨S512x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ActRIdeal.lean ====
abbrev S8192x1024 : Shape := ⟨2, ![8192, 1024]⟩
abbrev S1024x4096 : Shape := ⟨2, ![1024, 4096]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== PostK.lean ====
abbrev S8192x4096 : Shape := ⟨2, ![8192, 4096]⟩
abbrev S8192x1024 : Shape := ⟨2, ![8192, 1024]⟩
abbrev S4096x1024 : Shape := ⟨2, ![4096, 1024]⟩
abbrev S1024 : Shape := ⟨1, ![1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S8192x4096, .bf16⟩
  | .hbm, ⟨7, _⟩ => ⟨S4096x1024, .bf16⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S8192x1024, .f32⟩
  | .hbm, ⟨12, _⟩ => ⟨S8192x1024, .f32⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S4096x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PostRIdeal.lean ====
abbrev S8192x4096 : Shape := ⟨2, ![8192, 4096]⟩
abbrev S8192x1024 : Shape := ⟨2, ![8192, 1024]⟩
abbrev S4096x1024 : Shape := ⟨2, ![4096, 1024]⟩
abbrev S1024 : Shape := ⟨1, ![1024]⟩
abbrev S_ : Shape := ⟨0, ![]⟩
abbrev S1x1024 : Shape := ⟨2, ![1, 1024]⟩
abbrev S8192 : Shape := ⟨1, ![8192]⟩
abbrev S8192x1 : Shape := ⟨2, ![8192, 1]⟩

abbrev nBuf : Space → Nat
  | .hbm => 43
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== OutK.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 13
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S8192x1024, .bf16⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S8192x1024, .f32⟩
  | .hbm, ⟨12, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutRIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩
abbrev S8192 : Shape := ⟨1, ![8192]⟩
abbrev S8192x1 : Shape := ⟨2, ![8192, 1]⟩

abbrev nBuf : Space → Nat
  | .hbm => 43
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== JoinK.lean ====
abbrev S8192x512 : Shape := ⟨2, ![8192, 512]⟩
abbrev S512x512 : Shape := ⟨2, ![512, 512]⟩
abbrev S512 : Shape := ⟨1, ![512]⟩
abbrev S1x512 : Shape := ⟨2, ![1, 512]⟩
abbrev S8192x1024 : Shape := ⟨2, ![8192, 1024]⟩
abbrev S1024x512 : Shape := ⟨2, ![1024, 512]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 11
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512x512, .bf16⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S8192x1024, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x512, .bf16⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S1024x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== JoinRIdeal.lean ====
abbrev S8192x512 : Shape := ⟨2, ![8192, 512]⟩
abbrev S512x512 : Shape := ⟨2, ![512, 512]⟩
abbrev S512 : Shape := ⟨1, ![512]⟩
abbrev S_ : Shape := ⟨0, ![]⟩
abbrev S1x512 : Shape := ⟨2, ![1, 512]⟩
abbrev S8192 : Shape := ⟨1, ![8192]⟩
abbrev S8192x1 : Shape := ⟨2, ![8192, 1]⟩
abbrev S8192x1024 : Shape := ⟨2, ![8192, 1024]⟩

abbrev nBuf : Space → Nat
  | .hbm => 70
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S8192x512, .f32⟩
  | .hbm, ⟨7, _⟩ => ⟨S8192x512, .f32⟩
  | .hbm, ⟨8, _⟩ => ⟨S_, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S_, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S1x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S_, .f32⟩
  | .hbm, ⟨30, _⟩ => ⟨S8192x512, .f32⟩
  | .hbm, ⟨31, _⟩ => ⟨S8192x512, .f32⟩
  | .hbm, ⟨32, _⟩ => ⟨S_, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x512, .f32⟩
  | .hbm, ⟨48, _⟩ => ⟨S8192x512, .f32⟩
  | .hbm, ⟨49, _⟩ => ⟨S1x512, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x1, .f32⟩
  | .hbm, ⟨63, _⟩ => ⟨S8192x512, .f32⟩
  | .hbm, ⟨64, _⟩ => ⟨S8192x512, .f32⟩
  | .hbm, ⟨65, _⟩ => ⟨S1x512, .f32⟩
  | .hbm, ⟨66, _⟩ => ⟨S8192x512, .f32⟩
  | .hbm, ⟨67, _⟩ => ⟨S8192x512, .f32⟩
  | .hbm, ⟨68, _⟩ => ⟨S8192x1024, .f32⟩
  | .hbm, ⟨69, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== FirstK.lean ====
abbrev S1024x2048 : Shape := ⟨2, ![1024, 2048]⟩
abbrev S8192x512 : Shape := ⟨2, ![8192, 512]⟩
abbrev S8192x1024 : Shape := ⟨2, ![8192, 1024]⟩
abbrev S1024x8x256 : Shape := ⟨3, ![1024, 8, 256]⟩
abbrev S8x1024x256 : Shape := ⟨3, ![8, 1024, 256]⟩
abbrev S1024x512 : Shape := ⟨2, ![1024, 512]⟩
abbrev S1024x1024 : Shape := ⟨2, ![1024, 1024]⟩
abbrev S1024x256 : Shape := ⟨2, ![1024, 256]⟩
abbrev S1x1024x256 : Shape := ⟨3, ![1, 1024, 256]⟩

abbrev nBuf : Space → Nat
  | .hbm => 14
  | .vmem => 13
  | .smem => 0
  | _ => 0

abbrev bufTy : (tb : Table) → Fin (tcTables nBuf tb) → BufTy
  | .hbm, ⟨0, _⟩ => ⟨S1024x2048, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x1024, .f32⟩
  | .hbm, ⟨6, _⟩ => ⟨S1024x2048, .bf16⟩
  | .hbm, ⟨7, _⟩ => ⟨S1024x8x256, .bf16⟩
  | .hbm, ⟨8, _⟩ => ⟨S8x1024x256, .bf16⟩
  | .hbm, ⟨9, _⟩ => ⟨S8192x512, .bf16⟩
  | .hbm, ⟨10, _⟩ => ⟨S8192x512, .bf16⟩
  | .hbm, ⟨11, _⟩ => ⟨S8192x512, .bf16⟩
  | .hbm, ⟨12, _⟩ => ⟨S8192x512, .bf16⟩
  | .hbm, ⟨13, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x1024, .f32⟩
  | .local _ .vmem, ⟨9, _⟩ => ⟨S1024x1024, .f32⟩
  | .local _ .vmem, ⟨10, _⟩ => ⟨S8x1024x256, .bf16⟩
  | .local _ .vmem, ⟨11, _⟩ => ⟨S1024x1024, .f32⟩
  | .local _ .vmem, ⟨12, _⟩ => ⟨S1024x1024, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FirstRIdeal.lean ====
abbrev S1024x2048 : Shape := ⟨2, ![1024, 2048]⟩
abbrev S8192x512 : Shape := ⟨2, ![8192, 512]⟩
abbrev S8192x1024 : Shape := ⟨2, ![8192, 1024]⟩
abbrev S_ : Shape := ⟨0, ![]⟩
abbrev S8192x2048 : Shape := ⟨2, ![8192, 2048]⟩

abbrev nBuf : Space → Nat
  | .hbm => 32
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x2048, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x1024, .f32⟩
  | .hbm, ⟨31, _⟩ => ⟨S8192x1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_cst_5 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩

abbrev nD : Nat := 1
abbrev τ : Topo := Topo.v7x

variable {F : FTy → Type} [FloatOps F]
-- ==== ParamsK.lean ====
abbrev S32x64 : Shape := ⟨2, ![32, 64]⟩
abbrev S32 : Shape := ⟨1, ![32]⟩
abbrev S32x64x16 : Shape := ⟨3, ![32, 64, 16]⟩
abbrev S32x1x64 : Shape := ⟨3, ![32, 1, 64]⟩
abbrev S32x1x1 : Shape := ⟨3, ![32, 1, 1]⟩
abbrev S32x16x64 : Shape := ⟨3, ![32, 16, 64]⟩

abbrev nBuf : Space → Nat
  | .hbm => 14
  | .vmem => 9
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32x1x64, .f32⟩
  | .hbm, ⟨6, _⟩ => ⟨S32x1x64, .f32⟩
  | .hbm, ⟨7, _⟩ => ⟨S32x1x1, .f32⟩
  | .hbm, ⟨8, _⟩ => ⟨S32x16x64, .f32⟩
  | .hbm, ⟨9, _⟩ => ⟨S32x16x64, .f32⟩
  | .hbm, ⟨10, _⟩ => ⟨S32x1x64, .f32⟩
  | .hbm, ⟨11, _⟩ => ⟨S32x1x64, .f32⟩
  | .hbm, ⟨12, _⟩ => ⟨S32x16x64, .f32⟩
  | .hbm, ⟨13, _⟩ => ⟨S32x16x64, .f32⟩
  | .local _ .vmem, ⟨0, _⟩ => ⟨S32x1x64, .f32⟩
  | .local _ .vmem, ⟨1, _⟩ => ⟨S32x1x64, .f32⟩
  | .local _ .vmem, ⟨2, _⟩ => ⟨S32x1x1, .f32⟩
  | .local _ .vmem, ⟨3, _⟩ => ⟨S32x16x64, .f32⟩
  | .local _ .vmem, ⟨4, _⟩ => ⟨S32x16x64, .f32⟩
  | .local _ .vmem, ⟨5, _⟩ => ⟨S32x1x64, .f32⟩
  | .local _ .vmem, ⟨6, _⟩ => ⟨S32x1x64, .f32⟩
  | .local _ .vmem, ⟨7, _⟩ => ⟨S32x16x64, .f32⟩
  | .local _ .vmem, ⟨8, _⟩ => ⟨S32x16x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S32x1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ParamsRIdeal.lean ====
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S_ : Shape := ⟨0, ![]⟩
abbrev S32x64x1 : Shape := ⟨3, ![32, 64, 1]⟩
abbrev S32x1x64 : Shape := ⟨3, ![32, 1, 64]⟩
abbrev S32x16x64 : Shape := ⟨3, ![32, 16, 64]⟩

abbrev nBuf : Space → Nat
  | .hbm => 48
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32, .f32⟩
  | .hbm, ⟨6, _⟩ => ⟨S32x1, .f32⟩
  | .hbm, ⟨7, _⟩ => ⟨S32x64, .f32⟩
  | .hbm, ⟨8, _⟩ => ⟨S32x64, .f32⟩
  | .hbm, ⟨9, _⟩ => ⟨S32x64, .f32⟩
  | .hbm, ⟨10, _⟩ => ⟨S32x64, .f32⟩
  | .hbm, ⟨11, _⟩ => ⟨S32x64, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S_, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S32x64x1, .f32⟩
  | .hbm, ⟨31, _⟩ => ⟨S32x64x16, .f32⟩
  | .hbm, ⟨32, _⟩ => ⟨S32x64x16, .f32⟩
  | .hbm, ⟨33, _⟩ => ⟨S32x64x1, .f32⟩
  | .hbm, ⟨34, _⟩ => ⟨S32x64x16, .f32⟩
  | .hbm, ⟨35, _⟩ => ⟨S32x64x16, .f32⟩
  | .hbm, ⟨36, _⟩ => ⟨S32x64x16, .f32⟩
  | .hbm, ⟨37, _⟩ => ⟨S32x64x1, .f32⟩
  | .hbm, ⟨38, _⟩ => ⟨S32x64x16, .f32⟩
  | .hbm, ⟨39, _⟩ => ⟨S32x64x16, .f32⟩
  | .hbm, ⟨40, _⟩ => ⟨S32x64x1, .f32⟩
  | .hbm, ⟨41, _⟩ => ⟨S32x64x16, .f32⟩
  | .hbm, ⟨42, _⟩ => ⟨S32x64x16, .f32⟩
  | .hbm, ⟨43, _⟩ => ⟨S32x64x16, .f32⟩
  | .hbm, ⟨44, _⟩ => ⟨S32x1x64, .f32⟩
  | .hbm, ⟨45, _⟩ => ⟨S32x1x64, .f32⟩
  | .hbm, ⟨46, _⟩ => ⟨S32x16x64, .f32⟩
  | .hbm, ⟨47, _⟩ => ⟨S32x16x64, .f32⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩

abbrev nD : Nat := 1
abbrev τ : Topo := Topo.v7x

variable {F : FTy → Type} [FloatOps F]
-- ==== ProjK.lean ====
abbrev S8192x1024 : Shape := ⟨2, ![8192, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S8192x2048 : Shape := ⟨2, ![8192, 2048]⟩
abbrev S1024x1024 : Shape := ⟨2, ![1024, 1024]⟩
abbrev S1x1024x256 : Shape := ⟨3, ![1, 1024, 256]⟩
abbrev S1024x256 : Shape := ⟨2, ![1024, 256]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S1024x2048, .bf16⟩
  | .hbm, ⟨3, _⟩ => ⟨S1024x8x256, .bf16⟩
  | .hbm, ⟨4, _⟩ => ⟨S8x1024x256, .bf16⟩
  | .hbm, ⟨5, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S8x1024x256, .bf16⟩
  | .local _ .vmem, ⟨3, _⟩ => ⟨S1024x2048, .f32⟩
  | .local _ .vmem, ⟨4, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjRIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Reals.lean ====
/-
  Ideal arithmetic on finite values is real arithmetic: the operations of the programs, applied to casts of reals,
  are casts of the real operations; the float constants of the programs as reals; and a comparison `|x| < ∞` that
  answers true makes `x` the cast of a real.
-/
module

public import Idealize.ShloMosaic.Lib.Pointwise
public import Mathlib.Tactic.FieldSimp

@[expose] public section

noncomputable section

namespace Cert.Reals

open Idealize.ShloMosaic

theorem coe_sum {ι : Type} [Fintype ι] (f : ι → ℝ) : (∑ i, ((f i : ℝ) : EReal)) = ((∑ i, f i : ℝ) : EReal) := by
  classical
  induction (Finset.univ : Finset ι) using Finset.induction_on with
  | empty => simp
  | insert a s h ih => rw [Finset.sum_insert h, Finset.sum_insert h, ih, EReal.coe_add]

/-- A sum over the rows of all blocks is the sum over the rows of the array. -/
theorem sum_blocks {α : Type} [AddCommMonoid α] {N S M : Nat} (h : N * S = M) (f : Fin M → α) (row : Fin N → Fin S → Fin M)
    (hrow : ∀ t k, (row t k).val = t.val * S + k.val) : ∑ t, ∑ k, f (row t k) = ∑ r, f r := by
  subst h
  rw [← Fintype.sum_prod_type', ← finProdFinEquiv.sum_comp]
  refine Finset.sum_congr rfl fun x _ => congrArg f (Fin.ext ?_)
  rw [hrow, finProdFinEquiv_apply_val, add_comm, mul_comm]

theorem coe_div (x y : ℝ) (h : y ≠ 0) : Ideal.div (x : EReal) (y : EReal) = ((x / y : ℝ) : EReal) := by
  unfold Ideal.div
  rw [if_neg (by exact_mod_cast h), div_eq_mul_inv, EReal.coe_mul, EReal.coe_inv]

theorem coe_rsqrt (x : ℝ) (h : 0 < x) : Ideal.rsqrt (x : EReal) = (((√x)⁻¹ : ℝ) : EReal) := by
  show (if x < 0 then (⊥ : EReal) else if x = 0 then ⊤ else (((√x)⁻¹ : ℝ) : EReal)) = _
  rw [if_neg (not_lt.2 h.le), if_neg h.ne']

/-- The constants of the two programs that are not read off at once. -/
theorem word_1024 : Ideal.ofBits .f32 0x44800000#32 = ((1024 : ℝ) : EReal) := by
  simp [Ideal.ofBits, Ideal.ieee, -EReal.coe_mul]; norm_num
theorem word_512 : Ideal.ofBits .f32 0x44000000#32 = ((512 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_one : Ideal.ofBits .f32 0x3F800000#32 = ((1 : ℝ) : EReal) := by
  simp [Ideal.ofBits, Ideal.ieee, -EReal.coe_mul]; norm_num
theorem word_zero : Ideal.ofBits .f32 0x00000000#32 = ((0 : ℝ) : EReal) := by
  simp [Ideal.ofBits, Ideal.ieee, -EReal.coe_mul]
theorem word_half : Ideal.ofBits .f32 0x3F000000#32 = ((1 / 2 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul]; norm_num
theorem word_inv_1024 : Ideal.ofBits .f32 0x3A800000#32 = ((1 / 1024 : ℝ) : EReal) := by
  simp [Ideal.ofBits, Ideal.ieee, -EReal.coe_mul]; norm_num

/-- A sum of 1024 values over their number. -/
theorem coe_mean (x : ℝ) : Ideal.div (x : EReal) (Ideal.ofBits .f32 0x44800000#32) = ((x / 1024 : ℝ) : EReal) := by
  rw [word_1024, coe_div _ _ (by norm_num)]

/-- The layer norm's epsilon, as the float both programs write. -/
def lnEps : ℝ := 10995116 / 2 ^ 40
theorem lnEps_pos : 0 < lnEps := by unfold lnEps; norm_num
theorem word_lnEps : Ideal.ofBits .f32 0x3727C5AC#32 = (lnEps : EReal) := by
  unfold lnEps
  simp [Ideal.ofBits, Ideal.ieee, -EReal.coe_mul]; norm_num
theorem word_inf : Ideal.ofBits .f32 0x7F800000#32 = (⊤ : EReal) := by
  simp [Ideal.ofBits, Ideal.ieee]

/-- `|x| < ∞` says that `x` is a real. -/
theorem real_of_abs_lt (x : EReal) (h : Ideal.cmp .olt (max x (-x)) (⊤ : EReal) = 1#1) : x = ((x.toReal : ℝ) : EReal) := by
  refine (EReal.coe_toReal ?_ ?_).symm <;> rintro rfl <;> simp [Ideal.cmp] at h

end Cert.Reals

end
-- ==== Proof.LayerNorm.lean ====
/-
  Layer norm over a row of 1024 reals and its gradient, as real mathematics: the closed form a hand-written backward
  pass computes is what differentiating mean, variance and reciprocal root one after another gives.
-/
module

public import proofs.«01_k».proof.Proof.Reals

@[expose] public section

noncomputable section

namespace Cert.LayerNorm

open Cert.Reals

variable (p dy g b : Fin 1024 → ℝ)

def mean : ℝ := (∑ j, p j) / 1024
/-- The centred row. -/
def cen (j : Fin 1024) : ℝ := p j - mean p
def sigma : ℝ := (∑ j, cen p j * cen p j) / 1024 + lnEps
/-- One over the standard deviation. -/
def rstd : ℝ := (√(sigma p))⁻¹
def hat (j : Fin 1024) : ℝ := cen p j * rstd p
def norm (j : Fin 1024) : ℝ := hat p j * g j + b j
/-- The gradient with respect to the row, in closed form; `dy` is the incoming gradient times the scale. -/
def grad (j : Fin 1024) : ℝ :=
  rstd p * (dy j - mean dy - hat p j * mean fun k => dy k * hat p k)

theorem sigma_pos : 0 < sigma p := by
  have := Finset.sum_nonneg (s := Finset.univ) (f := fun j => cen p j * cen p j) fun j _ => mul_self_nonneg _
  have := lnEps_pos
  unfold sigma; positivity

theorem sum_cen : ∑ j, cen p j = 0 := by
  simp only [cen, Finset.sum_sub_distrib, Finset.sum_const, Finset.card_univ, Fintype.card_fin, mean, nsmul_eq_mul]
  push_cast; ring

/-- The gradient collected operation by operation: through the centred row, through the variance, through the mean. -/
theorem grad_steps (j : Fin 1024) :
    (dy j * rstd p + (∑ k, cen p k * dy k) * (-(1 / 2) * (rstd p / sigma p)) / 1024 * (2 * cen p j))
      + ((∑ k, -(dy k * rstd p))
          + ∑ k, -((∑ i, cen p i * dy i) * (-(1 / 2) * (rstd p / sigma p)) / 1024 * (2 * cen p k))) / 1024
      = grad p dy j := by
  have hs := (sigma_pos p).ne'
  have h1 : ∑ k, -(dy k * rstd p) = -((∑ k, dy k) * rstd p) := by rw [Finset.sum_neg_distrib, Finset.sum_mul]
  have h2 : ∀ a : ℝ, ∑ k, -(a * (2 * cen p k)) = 0 := fun a => by
    rw [Finset.sum_neg_distrib, ← Finset.mul_sum, ← Finset.mul_sum, sum_cen]; ring
  have h3 : ∑ k, dy k * hat p k = (∑ k, cen p k * dy k) * rstd p := by
    rw [Finset.sum_mul]; exact Finset.sum_congr rfl fun k _ => by unfold hat; ring
  have h4 : rstd p / sigma p = rstd p * (rstd p * rstd p) := by
    have h : rstd p * rstd p = (sigma p)⁻¹ := by
      unfold rstd; rw [← mul_inv, Real.mul_self_sqrt (sigma_pos p).le]
    rw [h, div_eq_mul_inv]
  rw [h1, h2]
  unfold grad
  rw [mean, mean, h3, h4]
  unfold hat
  ring

end Cert.LayerNorm

end
-- ==== Proof.Loss.Spec.lean ====
/-
  The loss of one device and its gradients, as real mathematics: `pre = z + b_ff2`, `y` its layer norm with scale `g`
  and shift `b`, the loss half the summed mean square error of `y` against the target.
-/
module

public import proofs.«01_k».proof.Proof.LayerNorm

@[expose] public section

noncomputable section

namespace Cert.Loss

open Idealize.ShloMosaic Cert.Reals Cert.LayerNorm

/-- The call's arguments, as reals. -/
structure Args where
  z : Fin 8192 → Fin 1024 → ℝ
  bff2 : Fin 1024 → ℝ
  g : Fin 1024 → ℝ
  b : Fin 1024 → ℝ
  tgt : Fin 8192 → Fin 1024 → ℝ

namespace Args

variable (a : Args)

def pre (r : Fin 8192) (c : Fin 1024) : ℝ := a.z r c + a.bff2 c
def y (r : Fin 8192) : Fin 1024 → ℝ := norm (a.pre r) a.g a.b
def err (r : Fin 8192) (c : Fin 1024) : ℝ := a.y r c - a.tgt r c
/-- Half the mean square error of one row. -/
def rowLoss (r : Fin 8192) : ℝ := (∑ c, a.err r c * a.err r c) / 1024
def loss : ℝ := 1 / 2 * ∑ r, a.rowLoss r
def dy (r : Fin 8192) (c : Fin 1024) : ℝ := a.err r c * (1 / 1024)
def dyg (r : Fin 8192) (c : Fin 1024) : ℝ := a.dy r c * a.g c
def dpre (r : Fin 8192) : Fin 1024 → ℝ := grad (a.pre r) (a.dyg r)
def dgTerm (r : Fin 8192) (c : Fin 1024) : ℝ := a.dy r c * hat (a.pre r) c

end Args

/-- The arrays a program is given are the reals of `a`. -/
structure Holds (x0 : FVec Ideal ⟨2, ![8192, 1024]⟩ .f32) (x1 x2 x3 : FVec Ideal ⟨1, ![1024]⟩ .f32)
    (x4 : FVec Ideal ⟨2, ![8192, 1024]⟩ .f32) (a : Args) : Prop where
  z : ∀ r j, x0 (ix2 r j) = ((a.z r j : ℝ) : EReal)
  bff2 : ∀ j, x1 (ix1 j) = ((a.bff2 j : ℝ) : EReal)
  g : ∀ j, x2 (ix1 j) = ((a.g j : ℝ) : EReal)
  b : ∀ j, x3 (ix1 j) = ((a.b j : ℝ) : EReal)
  tgt : ∀ r j, x4 (ix2 r j) = ((a.tgt r j : ℝ) : EReal)

/-- A gradient summed over the rows, as a one-row array. -/
abbrev rowArr (f : Fin 1024 → ℝ) : FVec Ideal ⟨2, ![1, 1024]⟩ .f32 := fun i => ((f (i 1) : ℝ) : EReal)
/-- The five results as arrays. -/
def dpreArr (a : Args) : FVec Ideal ⟨2, ![8192, 1024]⟩ .f32 := fun i => ((a.dpre (i 0) (i 1) : ℝ) : EReal)
def lossArr (a : Args) : FVec Ideal ⟨2, ![1, 128]⟩ .f32 := fun _ => ((∑ r, 1 / 2 * a.rowLoss r : ℝ) : EReal)
def dgArr (a : Args) := rowArr fun j => ∑ r, a.dgTerm r j
def dbArr (a : Args) := rowArr fun j => ∑ r, a.dy r j
def dbff2Arr (a : Args) := rowArr fun j => ∑ r, a.dpre r j

end Cert.Loss

end
-- ==== Proof.Rows.lean ====
/-
  A sum collected over the row blocks of an array, one block per grid point, is the sum over the array's rows.
-/
module

public import proofs.«01_k».proof.Proof.Reals
public import Idealize.ShloMosaic.Lib.Pipeline.ValueKit

@[expose] public section

namespace Cert.Rows

open Idealize.ShloMosaic Cert.Reals

/-- Row `k` of block `t`, of `N` blocks of `S` rows in an array of `M`. -/
def row {N S M : Nat} (h : N * S = M) (t : Fin N) (k : Fin S) : Fin M :=
  ⟨t.val * S + k.val, by
    have h1 := Nat.mul_le_mul_right S (Nat.succ_le_of_lt t.isLt)
    have h2 := k.isLt
    rw [h, Nat.succ_mul] at h1; omega⟩

/-- A sum over eight blocks in order, as a sum over all their entries. -/
theorem sum_eight {S M : Nat} (h : 8 * S = M) (f : Fin M → ℝ) :
    ∑ k, f k = ∑ x, f (row h 0 x) + ∑ x, f (row h 1 x) + ∑ x, f (row h 2 x) + ∑ x, f (row h 3 x) + ∑ x, f (row h 4 x)
      + ∑ x, f (row h 5 x) + ∑ x, f (row h 6 x) + ∑ x, f (row h 7 x) := by
  rw [← sum_blocks h f (row h) fun _ _ => rfl, Fin.sum_univ_eight]

/-- A result that the first point sets to its block's sum and each later point increases by its own block's sum
    ends as the sum over all rows. -/
theorem acc_ext {N S M : Nat} (J : Nat) (hM : N * S = M) (hJ : N ≤ J) {ι : Type} (f : (n : Nat) → n < N → ι → EReal) (T : Fin M → ι → EReal)
    (h0 : ∀ t : Fin N, t.val % J = 0 → ∀ i, f t.val t.isLt i = ∑ k, T (row hM t k) i)
    (hs : ∀ t : Fin N, ¬t.val % J = 0 → ∀ i, f t.val t.isLt i
      = f (t.val - 1) (Nat.lt_of_le_of_lt (Nat.sub_le _ _) t.isLt) i + ∑ k, T (row hM t k) i)
    (t : Fin N) (ht : t.val + 1 = N) (i : ι) : f t.val t.isLt i = ∑ r, T r i := by
  rw [Pipeline.eq_sum_fin_of_reset_step_apply_last f J (fun _ => 0) (fun t i => ∑ k, T (row hM t k) i)
    (fun t h i => by rw [h0 t h, zero_add]) hs hJ t ht, zero_add]
  exact sum_blocks hM (fun r => T r i) (row hM) fun _ _ => rfl

/-- The same with real sums. -/
theorem acc_sum {N S M : Nat} (J : Nat) (hM : N * S = M) (hJ : N ≤ J) {ι : Type} (f : (n : Nat) → n < N → ι → EReal) (T : Fin M → ι → ℝ)
    (h0 : ∀ t : Fin N, t.val % J = 0 → ∀ i, f t.val t.isLt i = ((∑ k, T (row hM t k) i : ℝ) : EReal))
    (hs : ∀ t : Fin N, ¬t.val % J = 0 → ∀ i, f t.val t.isLt i
      = f (t.val - 1) (Nat.lt_of_le_of_lt (Nat.sub_le _ _) t.isLt) i + ((∑ k, T (row hM t k) i : ℝ) : EReal))
    (t : Fin N) (ht : t.val + 1 = N) (i : ι) : f t.val t.isLt i = ((∑ r, T r i : ℝ) : EReal) := by
  rw [acc_ext J hM hJ f (fun r i => ((T r i : ℝ) : EReal)) (fun t h i => by rw [h0 t h i, coe_sum])
    (fun t h i => by rw [hs t h i, coe_sum]) t ht i, coe_sum]

end Cert.Rows
-- ==== Proof.Loss.Kernel.lean ====
/-
  What the loss kernel's five results hold: each grid point takes 1024 rows; the rows' gradient is written block by
  block, the loss and the three summed gradients are collected over the points.
-/
module

public import proofs.«01_k».proof.Proof.Gen.LossKIdeal.Value
public import proofs.«01_k».proof.Proof.Loss.Spec
public import proofs.«01_k».proof.Proof.Rows
public import Idealize.ShloMosaic.Lib.Pipeline.ValueKit
public import Idealize.ShloMosaic.Lib.StableHlo.ReadAt

@[expose] public section
set_option maxRecDepth 16384
noncomputable section
namespace Cert.Loss.Kernel
open Idealize.ShloMosaic Idealize.SL.Sem Cert.LossKIdeal Cert.LossKIdeal.Gen
open Idealize.ShloMosaic.TcCoe
open Idealize.ShloMosaic.Pipeline (Dat)
open Cert.Reals Cert.LayerNorm

variable (m : (ℓ : Loc nD τ sig) → Buf (Elt Ideal) ℓ) (c : Dev nD) (a : Args)

/-- The program's arguments on this device are the reals of `a`. -/
abbrev Given : Prop :=
  Holds (m (c, Proc.tc.devRef main_arg0)) (m (c, Proc.tc.devRef main_arg1)) (m (c, Proc.tc.devRef main_arg2))
    (m (c, Proc.tc.devRef main_arg3)) (m (c, Proc.tc.devRef main_arg4)) a

variable {m c a} (h : Given m c a)
include h

theorem entry_pre (r : Fin 8192) (j : Fin 1024) : V m c main_v2 (ix2 r j) = ((a.pre r j : ℝ) : EReal) := by
  unfold V
  after_reads_at
  rw [h.z, h.bff2, ← EReal.coe_add]; rfl

theorem entry_g (j : Fin 1024) : V m c main_v27 (ix2 0 j) = ((a.g j : ℝ) : EReal) := by
  unfold V
  after_reads_at
  rw [h.g]

theorem entry_y (r : Fin 8192) (j : Fin 1024) : V m c main_v26 (ix2 r j) = ((a.y r j : ℝ) : EReal) := by
  unfold V
  after_reads_at
  simp only [h.z, h.bff2, h.g, h.b, ← EReal.coe_add, coe_sum, coe_mean, ← EReal.coe_sub, ← EReal.coe_mul, word_lnEps]
  change _ * Ideal.rsqrt ((sigma (a.pre r) : ℝ) : EReal) * _ + _ = _
  rw [coe_rsqrt _ (sigma_pos (a.pre r))]
  simp only [← EReal.coe_add, ← EReal.coe_mul]
  rfl

omit h
theorem idx : ∀ t : Fin cfg0.N, win0_0.index t = ![t.val, 0] ∧ win0_1.index t = ![t.val, 0] ∧ win0_2.index t = ![t.val, 0]
    ∧ win0_3.index t = ![0, 0] ∧ win0_4.index t = ![t.val, 0] :=
  (by decide +kernel : ∀ t : Fin grid0.N, _)

/-- Row `i` of block `t` of the arrays. -/
abbrev row (t : Fin cfg0.N) (i : Fin 1024) : Fin 8192 := Rows.row (N := cfg0.N) (S := 1024) rfl t i
theorem lt_points (t : Fin cfg0.N) : t.val < 8 := t.isLt

theorem iblk0 (t : Fin cfg0.N) (i j : Fin 1024) : iblk m c 0 t (ix2 i j) = V m c main_v26 (ix2 (row t i) j) := by
  blk_ext [iblk, idx t, row, Rows.row]
theorem iblk1 (t : Fin cfg0.N) (i j : Fin 1024) : iblk m c 1 t (ix2 i j) = V m c main_arg4 (ix2 (row t i) j) := by
  blk_ext [iblk, idx t, row, Rows.row]
theorem iblk3 (t : Fin cfg0.N) (j : Fin 1024) : iblk m c 3 t (ix2 0 j) = V m c main_v27 (ix2 0 j) := by
  blk_ext [iblk, idx t]
theorem emb4 (t : Fin cfg0.N) (i j : Fin 1024) : ((View.whole main_v28_0).slice (win0_4.rect t)).emb (ix2 i j) = ix2 (row t i) j := by
  blk_ext [idx t, row, Rows.row]

include h

theorem blk_y (t : Fin cfg0.N) (i j : Fin 1024) : iblk m c 0 t (ix2 i j) = ((a.y (row t i) j : ℝ) : EReal) := by
  rw [iblk0, entry_y h]
theorem blk_tgt (t : Fin cfg0.N) (i j : Fin 1024) : iblk m c 1 t (ix2 i j) = ((a.tgt (row t i) j : ℝ) : EReal) := by
  have h4 : V m c main_arg4 (ix2 (row t i) j) = m (c, Proc.tc.devRef main_arg4) (ix2 (row t i) j) := by
    unfold V; after_reads_at
  rw [iblk1, h4, h.tgt]
theorem blk_pre (t : Fin cfg0.N) (i j : Fin 1024) : iblk m c 2 t (ix2 i j) = ((a.pre (row t i) j : ℝ) : EReal) := by
  rw [← entry_pre h]; blk_ext [iblk, idx t, row, Rows.row]
theorem blk_g (t : Fin cfg0.N) (j : Fin 1024) : iblk m c 3 t (ix2 0 j) = ((a.g j : ℝ) : EReal) := by
  rw [iblk3, entry_g h]

/-! What the payloads compute of one block. -/

theorem err_blk (t : Fin cfg0.N) (i j : Fin 1024) :
    k0_pay10 (iblk m c 0 t) (iblk m c 1 t) (ix2 i j) = ((a.err (row t i) j : ℝ) : EReal) := by
  pointwise [k0_pay10]
  rw [blk_y h, blk_tgt h, ← EReal.coe_sub]; rfl

theorem dy_blk (t : Fin cfg0.N) (i j : Fin 1024) :
    k0_pay12 (iblk m c 0 t) (iblk m c 1 t) (ix2 i j) = ((a.dy (row t i) j : ℝ) : EReal) := by
  pointwise [k0_pay12]
  rw [err_blk h, word_inv_1024, ← EReal.coe_mul]; rfl

theorem dyg_blk (t : Fin cfg0.N) (i j : Fin 1024) :
    k0_pay16 (iblk m c 0 t) (iblk m c 1 t) (iblk m c 3 t) (ix2 i j) = ((a.dyg (row t i) j : ℝ) : EReal) := by
  pointwise [k0_pay16]
  rw [dy_blk h, blk_g h, ← EReal.coe_mul]; rfl

theorem cen_blk (t : Fin cfg0.N) (i j : Fin 1024) :
    k0_pay13 (iblk m c 2 t) (ix2 i j) = ((cen (a.pre (row t i)) j : ℝ) : EReal) := by
  pointwise [k0_pay13]
  simp only [blk_pre h, coe_sum, coe_mean, ← EReal.coe_sub]; rfl

theorem rstd_blk (t : Fin cfg0.N) (i : Fin 1024) :
    k0_pay14 (iblk m c 2 t) (ix2 i 0) = ((rstd (a.pre (row t i)) : ℝ) : EReal) := by
  pointwise [k0_pay14]
  simp only [cen_blk h, ← EReal.coe_mul, coe_sum, coe_mean, word_lnEps, ← EReal.coe_add]
  exact coe_rsqrt _ (sigma_pos _)

theorem hat_blk (t : Fin cfg0.N) (i j : Fin 1024) :
    k0_pay15 (iblk m c 2 t) (ix2 i j) = ((hat (a.pre (row t i)) j : ℝ) : EReal) := by
  pointwise [k0_pay15]
  rw [cen_blk h, rstd_blk h, ← EReal.coe_mul]; rfl

theorem dpre_blk (t : Fin cfg0.N) (i j : Fin 1024) :
    k0_pay1 (k0_pay14 (iblk m c 2 t)) (k0_pay15 (iblk m c 2 t)) (k0_pay16 (iblk m c 0 t) (iblk m c 1 t) (iblk m c 3 t))
      (k0_pay17 (iblk m c 0 t) (iblk m c 1 t) (iblk m c 3 t)) (Ideal.ofBits .f32 0x44800000#32) (ix2 i j)
      = ((a.dpre (row t i) j : ℝ) : EReal) := by
  pointwise [k0_pay1, k0_pay17]
  simp only [dyg_blk h, rstd_blk h, hat_blk h, ← EReal.coe_mul, coe_sum, coe_mean, ← EReal.coe_sub]; rfl

theorem final_dpre : (dats m 0 c).arrAt 4 cfg0.N = dpreArr a := by
  refine (dats m 0 c).arrAt_eq_of_covers 4 _ (by decide +kernel) fun t hf y => ?_
  blk_simp
  rw [after0_4]
  by_cases h0 : t.val % 8 = 0
  · rw [outsAt0_A m c t h0 (by have := lt_points t; omega)]
    frame_out
    idx_vars y
    rw [emb4]
    exact dpre_blk h t _ _
  · rw [outsAt0_B m c t h0 (by have := lt_points t; omega)]
    frame_out
    idx_vars y
    rw [emb4]
    exact dpre_blk h t _ _

/-- The scale's gradient. -/
theorem final_dg : (dats m 0 c).arrAt 6 cfg0.N = dgArr a := by
  have hpay : ∀ (t : Fin cfg0.N) (i), k0_pay2 (k0_pay12 (iblk m c 0 t) (iblk m c 1 t)) (k0_pay15 (iblk m c 2 t)) i = ((∑ k, a.dgTerm (row t k) (i 1) : ℝ) : EReal) := fun t i => by
    idx_vars i
    pointwise [k0_pay2]
    simp only [dy_blk h, hat_blk h, ← EReal.coe_mul, coe_sum]; rfl
  refine (dats m 0 c).arrAt_eq_of_after_last 6 t0_7 (by decide +kernel) _ fun j => ?_
  blk_simp
  rw [after0_6, Rows.acc_sum (N := cfg0.N) (S := 1024) (M := 8192) 8 rfl (by decide) (fun n h => (outsAt0 m c n h).2.2.1) (fun r i => a.dgTerm r (i 1))
    (fun t h0 i => by
      rw [outsAt0_A m c t h0 (by have := lt_points t; omega)]; frame_out; exact hpay t i)
    (fun t h0 i => by
      rw [outsAt0_B m c t h0 (by have := lt_points t; omega)]; frame_out; rw [← hpay t i]; pointwise [k0_pay7])
    t0_7 rfl]
  rfl

/-- The shift's gradient. -/
theorem final_db : (dats m 0 c).arrAt 7 cfg0.N = dbArr a := by
  have hpay : ∀ (t : Fin cfg0.N) (i), k0_pay3 (k0_pay12 (iblk m c 0 t) (iblk m c 1 t)) i = ((∑ k, a.dy (row t k) (i 1) : ℝ) : EReal) := fun t i => by
    idx_vars i
    pointwise [k0_pay3]
    simp only [dy_blk h, coe_sum]
  refine (dats m 0 c).arrAt_eq_of_after_last 7 t0_7 (by decide +kernel) _ fun j => ?_
  blk_simp
  rw [after0_7, Rows.acc_sum (N := cfg0.N) (S := 1024) (M := 8192) 8 rfl (by decide) (fun n h => (outsAt0 m c n h).2.2.2.1) (fun r i => a.dy r (i 1))
    (fun t h0 i => by
      rw [outsAt0_A m c t h0 (by have := lt_points t; omega)]; frame_out; exact hpay t i)
    (fun t h0 i => by
      rw [outsAt0_B m c t h0 (by have := lt_points t; omega)]; frame_out; rw [← hpay t i]; pointwise [k0_pay8])
    t0_7 rfl]
  rfl

/-- The bias's gradient. -/
theorem final_dbff2 : (dats m 0 c).arrAt 8 cfg0.N = dbff2Arr a := by
  have hpay : ∀ (t : Fin cfg0.N) (i), k0_pay5 (k0_pay14 (iblk m c 2 t)) (k0_pay15 (iblk m c 2 t)) (k0_pay16 (iblk m c 0 t) (iblk m c 1 t) (iblk m c 3 t))
      (k0_pay17 (iblk m c 0 t) (iblk m c 1 t) (iblk m c 3 t)) (FloatOps.ofBits .f32 0x44800000#32) i = ((∑ k, a.dpre (row t k) (i 1) : ℝ) : EReal) := fun t i => by
    idx_vars i
    unfold k0_pay5
    pointwise
    simp only [dpre_blk h, coe_sum]
  refine (dats m 0 c).arrAt_eq_of_after_last 8 t0_7 (by decide +kernel) _ fun j => ?_
  blk_simp
  rw [after0_8, Rows.acc_sum (N := cfg0.N) (S := 1024) (M := 8192) 8 rfl (by decide) (fun n h => (outsAt0 m c n h).2.2.2.2) (fun r i => a.dpre r (i 1))
    (fun t h0 i => by
      rw [outsAt0_A m c t h0 (by have := lt_points t; omega)]; frame_out; exact hpay t i)
    (fun t h0 i => by
      rw [outsAt0_B m c t h0 (by have := lt_points t; omega)]; frame_out; rw [← hpay t i]; pointwise [k0_pay9])
    t0_7 rfl]
  rfl

/-- The loss. -/
theorem final_loss : (dats m 0 c).arrAt 5 cfg0.N = lossArr a := by
  have hpay : ∀ (t : Fin cfg0.N) (i), k0_pay4 (k0_pay11 (iblk m c 0 t) (iblk m c 1 t)) i = ((∑ k, 1 / 2 * a.rowLoss (row t k) : ℝ) : EReal) := fun t i => by
    idx_vars i
    pointwise [k0_pay4, k0_pay11]
    simp only [err_blk h, ← EReal.coe_mul, coe_sum, coe_mean, word_half, Finset.mul_sum]; rfl
  refine (dats m 0 c).arrAt_eq_of_after_last 5 t0_7 (by decide +kernel) _ fun j => ?_
  blk_simp
  rw [after0_5, Rows.acc_sum (N := cfg0.N) (S := 1024) (M := 8192) 8 rfl (by decide) (fun n h => (outsAt0 m c n h).2.1) (fun r i => 1 / 2 * a.rowLoss r)
    (fun t h0 i => by
      rw [outsAt0_A m c t h0 (by have := lt_points t; omega)]; frame_out; exact hpay t i)
    (fun t h0 i => by
      rw [outsAt0_B m c t h0 (by have := lt_points t; omega)]; frame_out; rw [← hpay t i]; pointwise [k0_pay6])
    t0_7 rfl]
  rfl

end Cert.Loss.Kernel

end
-- ==== Proof.Loss.Reference.lean ====
/-
  What the reference of the loss call computes: the stages of the differentiated forward pass, read as reals.
-/
module

public import proofs.«01_k».proof.Proof.Gen.LossRIdeal.Read
public import proofs.«01_k».proof.Proof.Loss.Spec
public import Idealize.ShloMosaic.Lib.Pointwise

@[expose] public section

set_option maxRecDepth 16384

noncomputable section

namespace Cert.Loss.Reference

open Idealize.ShloMosaic Cert.LossRIdeal Cert.LossRIdeal.Read
open Cert.Reals Cert.LayerNorm

variable {x0 : FVec Ideal S8192x1024 .f32} {x1 x2 x3 : FVec Ideal S1024 .f32} {x4 : FVec Ideal S8192x1024 .f32} {a : Args}
  (h : Holds x0 x1 x2 x3 x4 a)
include h

theorem pre_eq (r : Fin 8192) (j : Fin 1024) : val_main_v2 (F := Ideal) x0 x1 (ix2 r j) = ((a.pre r j : ℝ) : EReal) := by
  pointwise [val_main_v2, val_main_v1, val_main_v0]
  rw [h.z, h.bff2, ← EReal.coe_add]; rfl

theorem mean_eq (r : Fin 8192) : val_main_v6 (F := Ideal) x0 x1 (ix2 r 0) = ((mean (a.pre r) : ℝ) : EReal) := by
  pointwise [val_main_v6, val_main_v5, val_main_v4, val_main_v3, val_main_cst, val_main_cst_0]
  simp only [pre_eq h, coe_sum, coe_mean]; rfl

theorem cen_eq (r : Fin 8192) (j : Fin 1024) : val_main_v8 (F := Ideal) x0 x1 (ix2 r j) = ((cen (a.pre r) j : ℝ) : EReal) := by
  pointwise [val_main_v8, val_main_v7]
  rw [pre_eq h, mean_eq h, ← EReal.coe_sub]; rfl

theorem cen_eq' (r : Fin 8192) (j : Fin 1024) : val_main_v17 (F := Ideal) x0 x1 (ix2 r j) = ((cen (a.pre r) j : ℝ) : EReal) := by
  pointwise [val_main_v17, val_main_v16]
  rw [pre_eq h, mean_eq h, ← EReal.coe_sub]; rfl

theorem sigma_eq (r : Fin 8192) : val_main_v19 (F := Ideal) x0 x1 (ix2 r 0) = ((sigma (a.pre r) : ℝ) : EReal) := by
  pointwise [val_main_v19, val_main_v18, val_main_v15, val_main_v14, val_main_v13, val_main_v12, val_main_v9, val_main_cst_2,
    val_main_cst_3, val_main_cst_4]
  simp only [cen_eq h, ← EReal.coe_mul, coe_sum, coe_mean, word_lnEps, ← EReal.coe_add]; rfl

theorem rstd_eq (r : Fin 8192) : val_main_v20 (F := Ideal) x0 x1 (ix2 r 0) = ((rstd (a.pre r) : ℝ) : EReal) := by
  pointwise [val_main_v20]
  rw [sigma_eq h]; exact coe_rsqrt _ (sigma_pos _)

theorem hat_eq (r : Fin 8192) (j : Fin 1024) : val_main_v25 (F := Ideal) x0 x1 (ix2 r j) = ((hat (a.pre r) j : ℝ) : EReal) := by
  pointwise [val_main_v25, val_main_v24]
  rw [cen_eq' h, rstd_eq h, ← EReal.coe_mul]; rfl

theorem err_eq (r : Fin 8192) (j : Fin 1024) : val_main_v32 (F := Ideal) x0 x1 x2 x3 x4 (ix2 r j) = ((a.err r j : ℝ) : EReal) := by
  pointwise [val_main_v32, val_main_v31, val_main_v30, val_main_v29, val_main_v28, val_main_v27, val_main_v26]
  rw [hat_eq h, h.g, h.b, h.tgt]
  simp only [← EReal.coe_mul, ← EReal.coe_add, ← EReal.coe_sub]; rfl

theorem dy_eq (r : Fin 8192) (j : Fin 1024) : val_main_v46 (F := Ideal) x0 x1 x2 x3 x4 (ix2 r j) = ((a.dy r j : ℝ) : EReal) := by
  pointwise [val_main_v46, val_main_v45, val_main_v44, val_main_v43, val_main_v42, val_main_v41, val_main_v35, val_main_v34,
    val_main_cst_6, val_main_cst_11, val_main_cst_12, val_main_cst_13]
  simp only [err_eq h, word_half, word_one, word_two, ← EReal.coe_mul, coe_mean]
  exact congrArg _ (by unfold Args.dy; ring)

theorem dyg_eq (r : Fin 8192) (j : Fin 1024) : val_main_v54 (F := Ideal) x0 x1 x2 x3 x4 (ix2 r j) = ((a.dyg r j : ℝ) : EReal) := by
  pointwise [val_main_v54, val_main_v53, val_main_v26]
  rw [dy_eq h, h.g, ← EReal.coe_mul]; rfl

/-- The gradient through the variance, per row. -/
theorem var_eq (r : Fin 8192) : val_main_v61 (F := Ideal) x0 x1 x2 x3 x4 (ix2 r 0)
    = (((∑ k, cen (a.pre r) k * a.dyg r k) * (-(1 / 2) * (rstd (a.pre r) / sigma (a.pre r))) : ℝ) : EReal) := by
  pointwise [val_main_v61, val_main_v58, val_main_v57, val_main_v56, val_main_v23, val_main_v22, val_main_v21, val_main_cst_5,
    val_main_cst_18]
  simp only [dyg_eq h, cen_eq' h, sigma_eq h, rstd_eq h, word_neg_half, coe_div _ _ (sigma_pos (a.pre r)).ne', coe_sum, ← EReal.coe_mul]

theorem dpre_eq (r : Fin 8192) (j : Fin 1024) : val_main_v79 (F := Ideal) x0 x1 x2 x3 x4 (ix2 r j) = ((a.dpre r j : ℝ) : EReal) := by
  pointwise [val_main_v79, val_main_v78, val_main_v77, val_main_v76, val_main_v75, val_main_v74, val_main_v73, val_main_v72,
    val_main_v71, val_main_v70, val_main_v69, val_main_v68, val_main_v67, val_main_v66, val_main_v65, val_main_v64,
    val_main_v63, val_main_v62, val_main_v60, val_main_v59, val_main_v11, val_main_v10, val_main_cst_1, val_main_cst_19,
    val_main_cst_20, val_main_cst_21, val_main_cst_22, val_main_cst_23, val_main_cst_24]
  simp only [Fin.sum_univ_one, var_eq h, dyg_eq h, cen_eq h, rstd_eq h, word_two, coe_mean, coe_sum, ← EReal.coe_mul, ← EReal.coe_neg, ← EReal.coe_add]
  exact congrArg _ (grad_steps _ _ _)

theorem dpreArr_eq : val_main_v79 (F := Ideal) x0 x1 x2 x3 x4 = dpreArr a := by
  funext i; idx_vars i; exact dpre_eq h _ _
theorem lossArr_eq : val_main_v83 (F := Ideal) x0 x1 x2 x3 x4 = lossArr a := by
  funext i; idx_vars i
  pointwise [val_main_v83, val_main_v40, val_main_v39, val_main_v38, val_main_v37, val_main_v36, val_main_v33, val_main_cst_7,
    val_main_cst_8, val_main_cst_9, val_main_cst_10]
  simp only [err_eq h, ← EReal.coe_mul, coe_sum, coe_mean, word_half, Finset.mul_sum]; rfl
theorem dgArr_eq : val_main_v84 (F := Ideal) x0 x1 x2 x3 x4 = dgArr a := by
  funext i; idx_vars i
  pointwise [dgArr, rowArr, val_main_v84, val_main_v55, val_main_v52, val_main_v51, val_main_v50, val_main_cst_16, val_main_cst_17]
  simp only [Fin.sum_univ_one, hat_eq h, dy_eq h, ← EReal.coe_mul, coe_sum, Args.dgTerm, mul_comm]
theorem dbArr_eq : val_main_v85 (F := Ideal) x0 x1 x2 x3 x4 = dbArr a := by
  funext i; idx_vars i
  pointwise [dbArr, rowArr, val_main_v85, val_main_v49, val_main_v48, val_main_v47, val_main_cst_14, val_main_cst_15]
  simp only [Fin.sum_univ_one, dy_eq h, coe_sum]
theorem dbff2Arr_eq : val_main_v86 (F := Ideal) x0 x1 x2 x3 x4 = dbff2Arr a := by
  funext i; idx_vars i
  pointwise [dbff2Arr, rowArr, val_main_v86, val_main_v82, val_main_v81, val_main_v80, val_main_cst_25, val_main_cst_26]
  simp only [Fin.sum_univ_one, dpre_eq h, coe_sum]

end Cert.Loss.Reference

end
-- ==== Proof.Loss.Claims.lean ====
/-
  The claims about the loss call: its runs end quietly with the arguments unchanged, and on finite arguments it returns
  the loss and the gradients that differentiating the forward pass gives.
-/
module

public import proofs.«01_k».proof.Defs
public import proofs.«01_k».proof.Proof.Gen.LossK.Frame
public import proofs.«01_k».proof.Proof.Gen.LossRIdeal.Run
public import proofs.«01_k».proof.Proof.Gen.Pre_loss_finite
public import proofs.«01_k».proof.Proof.Loss.Kernel
public import proofs.«01_k».proof.Proof.Loss.Reference
public import Idealize.ShloMosaic.Lib.Quiescent

@[expose] public section

set_option maxRecDepth 16384

noncomputable section

namespace Cert.Loss.Claims

open Idealize.ShloMosaic Idealize.SL.Sem Cert.Reals

theorem frame_kernel : Cert.quiescent_LossK := fun m ρ _ => Cert.LossK.Gen.frame m ρ
theorem frame_ideal : Cert.quiescent_LossKIdeal := fun m ρ _ => Cert.LossKIdeal.Gen.frame m ρ
theorem frame_ideal_pre : Cert.quiescent_LossKIdeal_pre_loss_finite := fun m ρ _ => Cert.LossKIdeal.Gen.frame m ρ
theorem frame_reference : Cert.quiescent_LossRIdeal := fun m ρ _ =>
  (θ_run Cert.LossRIdeal.defs _ _).mono (fun r h => ⟨fun c => (h c).2.2.2.2.2,
      Idealize.ShloMosaic.sem_eq_zero_of_no_sems (by decide) r.2⟩)
    (Cert.LossRIdeal.Value.run (F := Ideal) m ρ)
theorem frame_reference_pre : Cert.quiescent_LossRIdeal_pre_loss_finite := fun m ρ _ => frame_reference m ρ trivial
theorem preserves : Cert.preserves_LossK_LossKIdeal := trivial

/-- The reals of finite arrays. -/
def args (x0 : FVec Ideal ⟨2, ![8192, 1024]⟩ .f32) (x1 x2 x3 : FVec Ideal ⟨1, ![1024]⟩ .f32)
    (x4 : FVec Ideal ⟨2, ![8192, 1024]⟩ .f32) : Args where
  z r j := EReal.toReal (x0 (ix2 r j))
  bff2 j := EReal.toReal (x1 (ix1 j))
  g j := EReal.toReal (x2 (ix1 j))
  b j := EReal.toReal (x3 (ix1 j))
  tgt r j := EReal.toReal (x4 (ix2 r j))

theorem holds_of_finite (x0 : FVec Ideal ⟨2, ![8192, 1024]⟩ .f32) (x1 x2 x3 : FVec Ideal ⟨1, ![1024]⟩ .f32)
    (x4 : FVec Ideal ⟨2, ![8192, 1024]⟩ .f32)
    (h : (Cert.Pre_loss_finite.fn (F := Ideal) x0 x1 x2 x3 x4).1 = (fun _ => 1#1)
      ∧ (Cert.Pre_loss_finite.fn (F := Ideal) x0 x1 x2 x3 x4).2.1 = (fun _ => 1#1)
      ∧ (Cert.Pre_loss_finite.fn (F := Ideal) x0 x1 x2 x3 x4).2.2.1 = (fun _ => 1#1)
      ∧ (Cert.Pre_loss_finite.fn (F := Ideal) x0 x1 x2 x3 x4).2.2.2.1 = (fun _ => 1#1)
      ∧ (Cert.Pre_loss_finite.fn (F := Ideal) x0 x1 x2 x3 x4).2.2.2.2 = (fun _ => 1#1)) :
    ∃ a, Holds x0 x1 x2 x3 x4 a := by
  obtain ⟨h0, h1, h2, h3, h4⟩ := h
  refine ⟨args x0 x1 x2 x3 x4, fun r j => real_of_abs_lt _ ?_, fun j => real_of_abs_lt _ ?_, fun j => real_of_abs_lt _ ?_,
    fun j => real_of_abs_lt _ ?_, fun r j => real_of_abs_lt _ ?_⟩ <;> rw [← word_inf]
  · exact congrFun h0 (ix2 r j)
  · exact congrFun h1 (ix1 j)
  · exact congrFun h2 (ix1 j)
  · exact congrFun h3 (ix1 j)
  · exact congrFun h4 (ix2 r j)

theorem algebraic : Cert.algebraic_LossKIdeal_LossRIdeal_pre_loss_finite := by
  intro m ρ m' ρ' hpre hagree
  choose a hm using fun c => holds_of_finite _ _ _ _ _ (hpre c)
  refine ⟨fun c => dpreArr (a c), fun c => lossArr (a c), fun c => dgArr (a c), fun c => dbArr (a c), fun c => dbff2Arr (a c), ?_, ?_⟩
  · exact (θ_run Cert.LossKIdeal.defs _ _).mono
      (fun r h c => ⟨(h c).1.trans (Kernel.final_dpre (hm c)), (h c).2.1.trans (Kernel.final_loss (hm c)),
        (h c).2.2.1.trans (Kernel.final_dg (hm c)), (h c).2.2.2.1.trans (Kernel.final_db (hm c)),
        (h c).2.2.2.2.1.trans (Kernel.final_dbff2 (hm c)), (h c).2.2.2.2.2⟩)
      (Cert.LossKIdeal.Value.run_blocks (F := Ideal) m ρ)
  · have hm' c : Holds (m' (c, Proc.tc.devRef LossRIdeal.main_arg0)) (m' (c, Proc.tc.devRef LossRIdeal.main_arg1))
        (m' (c, Proc.tc.devRef LossRIdeal.main_arg2)) (m' (c, Proc.tc.devRef LossRIdeal.main_arg3))
        (m' (c, Proc.tc.devRef LossRIdeal.main_arg4)) (a c) := by
      obtain ⟨e0, e1, e2, e3, e4⟩ := hagree c
      exact e0 ▸ e1 ▸ e2 ▸ e3 ▸ e4 ▸ hm c
    exact (θ_run Cert.LossRIdeal.defs _ _).mono
      (fun r h c => ⟨((h c).1.trans (Cert.LossRIdeal.Read.val_main_v79_eq _ _)).trans (Reference.dpreArr_eq (hm' c)),
        ((h c).2.1.trans (Cert.LossRIdeal.Read.val_main_v83_eq _ _)).trans (Reference.lossArr_eq (hm' c)),
        ((h c).2.2.1.trans (Cert.LossRIdeal.Read.val_main_v84_eq _ _)).trans (Reference.dgArr_eq (hm' c)),
        ((h c).2.2.2.1.trans (Cert.LossRIdeal.Read.val_main_v85_eq _ _ _ _ _)).trans (Reference.dbArr_eq (hm' c)),
        ((h c).2.2.2.2.1.trans (Cert.LossRIdeal.Read.val_main_v86_eq _ _)).trans (Reference.dbff2Arr_eq (hm' c)), (h c).2.2.2.2.2⟩)
      (Cert.LossRIdeal.Value.run (F := Ideal) m' ρ')

end Cert.Loss.Claims

end
-- ==== Proof.Relu.Spec.lean ====
/-
  The gradient through the squared ReLU and the product by the second weight: with `z = pre + b_ff1`, the incoming
  gradient times the transposed weight, times `2·max(z, 0)`; and its sum over the rows.
-/
module

public import proofs.«01_k».proof.Proof.Reals

@[expose] public section

noncomputable section

namespace Cert.Relu

open Idealize.ShloMosaic Cert.Reals

abbrev Arg0 := FVec Ideal ⟨2, ![8192, 4096]⟩ .f32
abbrev Arg1 := FVec Ideal ⟨1, ![4096]⟩ .f32
abbrev Arg2 := FVec Ideal ⟨2, ![4096, 1024]⟩ .f32
abbrev Arg3 := FVec Ideal ⟨2, ![8192, 1024]⟩ .f32

/-- The unit's argument is finite: `pre + b_ff1` is the real `z`. -/
structure Holds (x0 : Arg0) (x1 : Arg1) (z : Fin 8192 → Fin 4096 → ℝ) : Prop where
  z : ∀ r j, x0 (ix2 r j) + x1 (ix1 j) = ((z r j : ℝ) : EReal)

/-- The gradient with respect to the unit's argument. -/
def da (z : Fin 8192 → Fin 4096 → ℝ) (x2 : Arg2) (x3 : Arg3) (r : Fin 8192) (j : Fin 4096) : EReal :=
  (∑ k, x3 (ix2 r k) * x2 (ix2 j k)) * ((2 * max (z r j) 0 : ℝ) : EReal)

def daArr (z : Fin 8192 → Fin 4096 → ℝ) (x2 : Arg2) (x3 : Arg3) : FVec Ideal ⟨2, ![8192, 4096]⟩ .bf16 := fun i => da z x2 x3 (i 0) (i 1)
def dbArr (z : Fin 8192 → Fin 4096 → ℝ) (x2 : Arg2) (x3 : Arg3) : FVec Ideal ⟨2, ![1, 4096]⟩ .f32 := fun i => ∑ r, da z x2 x3 r (i 1)

/-- The derivative recovered from the square `r = max(z, 0)²`: `2·r·r^(-1/2)` where `r` is positive, else zero. -/
theorem of_square (z : ℝ) :
    (if (0 : EReal) < ((max z 0 * max z 0 : ℝ) : EReal)
      then ((2 * (max z 0 * max z 0) : ℝ) : EReal) * Ideal.rsqrt (((max z 0 * max z 0 : ℝ) : EReal)) else 0)
      = ((2 * max z 0 : ℝ) : EReal) := by
  rcases le_or_gt z 0 with h | h
  · rw [max_eq_right h]; simp
  · have h2 : 0 < z * z := mul_pos h h
    rw [max_eq_left h.le, if_pos (by exact_mod_cast h2), coe_rsqrt _ h2, Real.sqrt_mul_self h.le, ← EReal.coe_mul]
    congr 1; field_simp

/-- The derivative applied where `z` is positive. -/
theorem of_select (z : ℝ) (s : EReal) :
    (if (0 : EReal) < (z : EReal) then s * ((2 * max z 0 : ℝ) : EReal) else 0) = s * ((2 * max z 0 : ℝ) : EReal) := by
  rcases le_or_gt z 0 with h | h
  · rw [max_eq_right h]; simp
  · rw [if_pos (by exact_mod_cast h)]

theorem coe_max_zero (x : ℝ) : max (x : EReal) 0 = ((max x 0 : ℝ) : EReal) :=
  (EReal.coe_strictMono.monotone.map_max (a := x) (b := 0)).symm

end Cert.Relu

end
-- ==== Proof.Relu.Kernel.lean ====
/-
  What the squared unit's backward kernel leaves in its two results: each grid point takes 512 rows; the gradient is
  written block by block, its sum over the rows is collected over the points.
-/
module

public import proofs.«01_k».proof.Proof.Gen.ReluKIdeal.Value
public import proofs.«01_k».proof.Proof.Relu.Spec
public import proofs.«01_k».proof.Proof.Rows
public import Idealize.ShloMosaic.Lib.Pipeline.ValueKit
public import Idealize.ShloMosaic.Lib.StableHlo.ReadAt

@[expose] public section
set_option maxRecDepth 16384
noncomputable section
namespace Cert.Relu.Kernel
open Idealize.ShloMosaic Idealize.SL.Sem Cert.ReluKIdeal Cert.ReluKIdeal.Gen
open Idealize.ShloMosaic.TcCoe
open Idealize.ShloMosaic.Pipeline (Dat)
open Cert.Reals

variable (m : (ℓ : Loc nD τ sig) → Buf (Elt Ideal) ℓ) (c : Dev nD) (z : Fin 8192 → Fin 4096 → ℝ)

abbrev arg2 : Arg2 := m (c, Proc.tc.devRef main_arg2)
abbrev arg3 : Arg3 := m (c, Proc.tc.devRef main_arg3)

/-- The unit's argument on this device is the real `z`. -/
abbrev Given : Prop := Holds (m (c, Proc.tc.devRef main_arg0)) (m (c, Proc.tc.devRef main_arg1)) z

theorem idx : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, _)

/-- Row `i` of block `t` of the arrays. -/
abbrev row (t : Fin cfg0.N) (i : Fin 512) : Fin 8192 := Rows.row (N := cfg0.N) (S := 512) rfl t i
theorem lt_points (t : Fin cfg0.N) : t.val < 16 := t.isLt

theorem emb3 (t : Fin cfg0.N) (i : Fin 512) (j : Fin 4096) :
    ((View.whole main_v7_0).slice (win0_3.rect t)).emb (ix2 i j) = ix2 (row t i) j := by
  blk_ext [idx t, row, Rows.row]

theorem blk_dp (t : Fin cfg0.N) (i : Fin 512) (j : Fin 1024) : iblk m c 0 t (ix2 i j) = arg3 m c (ix2 (row t i) j) := by
  have h : V m c main_arg3 (ix2 (row t i) j) = m (c, Proc.tc.devRef main_arg3) (ix2 (row t i) j) := by
    unfold V; after_reads_at
  refine Eq.trans ?_ h; blk_ext [iblk, idx t, row, Rows.row]
theorem blk_w (t : Fin cfg0.N) (i : Fin 4096) (j : Fin 1024) : iblk m c 2 t (ix2 i j) = arg2 m c (ix2 i j) := by
  have h : V m c main_v0 (ix2 i j) = m (c, Proc.tc.devRef main_arg2) (ix2 i j) := by
    unfold V; after_reads_at
  refine Eq.trans ?_ h; blk_ext [iblk, idx t]

variable {m c z} (h : Given m c z)
include h

theorem entry_act (r : Fin 8192) (j : Fin 4096) : V m c main_v6 (ix2 r j) = ((max (z r j) 0 * max (z r j) 0 : ℝ) : EReal) := by
  unfold V
  after_reads_at
  rw [h.z, coe_max_zero, ← EReal.coe_mul]
theorem blk_act (t : Fin cfg0.N) (i : Fin 512) (j : Fin 4096) :
    iblk m c 1 t (ix2 i j) = ((max (z (row t i) j) 0 * max (z (row t i) j) 0 : ℝ) : EReal) := by
  rw [← entry_act h]; blk_ext [iblk, idx t, row, Rows.row]

theorem da_blk (t : Fin cfg0.N) (i : Fin 512) (j : Fin 4096) :
    k0_pay1 (iblk m c 0 t) (iblk m c 1 t) (iblk m c 2 t) (ix2 i j) = da z (arg2 m c) (arg3 m c) (row t i) j := by
  pointwise [k0_pay1]
  simp only [blk_act h, blk_dp, blk_w, word_zero, word_two, EReal.coe_zero, ← EReal.coe_mul, of_square, zero_add]
  rfl

theorem final_da : (dats m 0 c).arrAt 3 cfg0.N = daArr z (arg2 m c) (arg3 m c) := by
  refine (dats m 0 c).arrAt_eq_of_covers 3 _ (by decide +kernel) fun t hf y => ?_
  blk_simp
  rw [after0_3]
  by_cases h0 : t.val % 16 = 0
  · rw [outsAt0_A m c t h0 (by have := lt_points t; omega)]
    frame_out
    idx_vars y
    rw [emb3]
    pointwise [k0_pay3]
    exact da_blk h t _ _
  · rw [outsAt0_B m c t h0 (by have := lt_points t; omega)]
    frame_out
    idx_vars y
    rw [emb3]
    pointwise [k0_pay3]
    exact da_blk h t _ _

/-- The bias's gradient. -/
theorem final_db : (dats m 0 c).arrAt 4 cfg0.N = dbArr z (arg2 m c) (arg3 m c) := by
  have hpay : ∀ (t : Fin cfg0.N) (i), k0_pay2 (iblk m c 0 t) (iblk m c 1 t) (iblk m c 2 t) i
      = ∑ k, da z (arg2 m c) (arg3 m c) (row t k) (i 1) := fun t i => by
    idx_vars i
    pointwise [k0_pay2]
    simp only [da_blk h]
  refine (dats m 0 c).arrAt_eq_of_after_last 4 t0_15 (by decide +kernel) _ fun j => ?_
  blk_simp
  rw [after0_4, Rows.acc_ext (N := cfg0.N) (S := 512) (M := 8192) 16 rfl (by decide) (fun n h => (outsAt0 m c n h).2)
    (fun r i => da z (arg2 m c) (arg3 m c) r (i 1))
    (fun t h0 i => by
      rw [outsAt0_A m c t h0 (by have := lt_points t; omega)]; frame_out; exact hpay t i)
    (fun t h0 i => by
      rw [outsAt0_B m c t h0 (by have := lt_points t; omega)]; frame_out; rw [← hpay t i]; pointwise [k0_pay4])
    t0_15 rfl]
  rfl

end Cert.Relu.Kernel

end
-- ==== Proof.Relu.Reference.lean ====
/-
  What the reference of the squared unit's backward call computes.
-/
module

public import proofs.«01_k».proof.Proof.Gen.ReluRIdeal.Read
public import proofs.«01_k».proof.Proof.Relu.Spec
public import Idealize.ShloMosaic.Lib.Pointwise

@[expose] public section

set_option maxRecDepth 16384

noncomputable section

namespace Cert.Relu.Reference

open Idealize.ShloMosaic Cert.ReluRIdeal Cert.ReluRIdeal.Read Cert.Reals

variable {x0 : Arg0} {x1 : Arg1} (x2 : Arg2) (x3 : Arg3) {z : Fin 8192 → Fin 4096 → ℝ} (h : Holds x0 x1 z)
include h

theorem z_eq (r : Fin 8192) (j : Fin 4096) : val_main_v2 (F := Ideal) x0 x1 (ix2 r j) = ((z r j : ℝ) : EReal) := by
  pointwise [val_main_v2, val_main_v1, val_main_v0]
  exact h.z r j

theorem da_eq (r : Fin 8192) (j : Fin 4096) : val_main_v14 (F := Ideal) x0 x1 x2 x3 (ix2 r j) = da z x2 x3 r j := by
  pointwise [val_main_v14, val_main_v13, val_main_v12, val_main_v11, val_main_v9, val_main_v8, val_main_v5, val_main_v4,
    val_main_v3, val_main_call0_v0, val_main_call0_cst, val_main_cst, val_main_cst_1, val_main_cst_2]
  simp only [z_eq h, word_two, coe_max_zero, ← EReal.coe_mul]
  exact of_select _ _

theorem daArr_eq : val_main_v18 (F := Ideal) x0 x1 x2 x3 = daArr z x2 x3 := by
  funext i; idx_vars i
  pointwise [val_main_v18]
  exact da_eq x2 x3 h _ _
theorem dbArr_eq : val_main_v19 (F := Ideal) x0 x1 x2 x3 = dbArr z x2 x3 := by
  funext i; idx_vars i
  pointwise [dbArr, val_main_v19, val_main_v17, val_main_v16, val_main_v15, val_main_cst_3, val_main_cst_4]
  simp only [Fin.sum_univ_one, da_eq x2 x3 h]

end Cert.Relu.Reference

end
-- ==== Proof.Relu.Claims.lean ====
/-
  The claims about the squared unit's backward call: its runs end quietly with the arguments unchanged, and where the
  unit's argument is finite it returns the gradients that differentiating the forward lines gives.
-/
module

public import proofs.«01_k».proof.Defs
public import proofs.«01_k».proof.Proof.Gen.ReluK.Frame
public import proofs.«01_k».proof.Proof.Gen.ReluRIdeal.Run
public import proofs.«01_k».proof.Proof.Gen.Pre_ff2_finite
public import proofs.«01_k».proof.Proof.Relu.Kernel
public import proofs.«01_k».proof.Proof.Relu.Reference
public import Idealize.ShloMosaic.Lib.Quiescent

@[expose] public section

set_option maxRecDepth 16384

noncomputable section

namespace Cert.Relu.Claims

open Idealize.ShloMosaic Idealize.SL.Sem Cert.Reals

theorem frame_kernel : Cert.quiescent_ReluK := fun m ρ _ => Cert.ReluK.Gen.frame m ρ
theorem frame_ideal : Cert.quiescent_ReluKIdeal := fun m ρ _ => Cert.ReluKIdeal.Gen.frame m ρ
theorem frame_ideal_pre : Cert.quiescent_ReluKIdeal_pre_ff2_finite := fun m ρ _ => Cert.ReluKIdeal.Gen.frame m ρ
theorem frame_reference : Cert.quiescent_ReluRIdeal := fun m ρ _ =>
  (θ_run Cert.ReluRIdeal.defs _ _).mono (fun r h => ⟨fun c => (h c).2.2, sem_eq_zero_of_no_sems (by decide) r.2⟩)
    (Cert.ReluRIdeal.Value.run (F := Ideal) m ρ)
theorem frame_reference_pre : Cert.quiescent_ReluRIdeal_pre_ff2_finite := fun m ρ _ => frame_reference m ρ trivial
theorem preserves : Cert.preserves_ReluK_ReluKIdeal := trivial

theorem holds_of_finite (x0 : Arg0) (x1 : Arg1) (x2 : Arg2) (x3 : Arg3)
    (h : (Cert.Pre_ff2_finite.fn (F := Ideal) x0 x1 x2 x3).1 = (fun _ => 1#1)
      ∧ (Cert.Pre_ff2_finite.fn (F := Ideal) x0 x1 x2 x3).2 = (fun _ => 1#1)) : ∃ z, Holds x0 x1 z := by
  refine ⟨fun r j => (x0 (ix2 r j)).toReal + (x1 (ix1 j)).toReal, ⟨fun r j => ?_⟩⟩
  rw [real_of_abs_lt (x0 (ix2 r j)) (by rw [← word_inf]; exact congrFun h.1 (ix2 r j)),
    real_of_abs_lt (x1 (ix1 j)) (by rw [← word_inf]; exact congrFun h.2 (ix1 j)), ← EReal.coe_add]
  rfl

theorem algebraic : Cert.algebraic_ReluKIdeal_ReluRIdeal_pre_ff2_finite := by
  intro m ρ m' ρ' hpre hagree
  choose z hm using fun c => holds_of_finite _ _ _ _ (hpre c)
  refine ⟨fun c => daArr (z c) (Kernel.arg2 m c) (Kernel.arg3 m c), fun c => dbArr (z c) (Kernel.arg2 m c) (Kernel.arg3 m c), ?_, ?_⟩
  · exact (θ_run Cert.ReluKIdeal.defs _ _).mono
      (fun r h c => ⟨(h c).1.trans (Kernel.final_da (hm c)), (h c).2.1.trans (Kernel.final_db (hm c)), (h c).2.2⟩)
      (Cert.ReluKIdeal.Value.run_blocks (F := Ideal) m ρ)
  · have key c : Holds (m' (c, Proc.tc.devRef ReluRIdeal.main_arg0)) (m' (c, Proc.tc.devRef ReluRIdeal.main_arg1)) (z c)
        ∧ m' (c, Proc.tc.devRef ReluRIdeal.main_arg2) = Kernel.arg2 m c ∧ m' (c, Proc.tc.devRef ReluRIdeal.main_arg3) = Kernel.arg3 m c := by
      obtain ⟨e0, e1, e2, e3⟩ := hagree c
      exact ⟨e0 ▸ e1 ▸ hm c, e2, e3⟩
    refine (θ_run Cert.ReluRIdeal.defs _ _).mono (fun r h c => ?_) (Cert.ReluRIdeal.Value.run (F := Ideal) m' ρ')
    obtain ⟨hz, e2, e3⟩ := key c
    beta_reduce
    rw [← e2, ← e3]
    exact ⟨((h c).1.trans (Cert.ReluRIdeal.Read.val_main_v18_eq _ _ _ _)).trans (Reference.daArr_eq _ _ hz),
      ((h c).2.1.trans (Cert.ReluRIdeal.Read.val_main_v19_eq _ _ _ _)).trans (Reference.dbArr_eq _ _ hz), (h c).2.2⟩

end Cert.Relu.Claims

end
-- ==== Proof.NormGrad.lean ====
/-
  The gradients a layer norm passes on, over all rows of an array: `dy` is the gradient of its output, `pre` its input,
  `g` its scale.
-/
module

public import proofs.«01_k».proof.Proof.LayerNorm

@[expose] public section

noncomputable section

namespace Cert.NormGrad

open Idealize.ShloMosaic Cert.Reals Cert.LayerNorm

/-- What the gradients are made of. -/
structure Data where
  pre : Fin 8192 → Fin 1024 → ℝ
  g : Fin 1024 → ℝ
  dy : Fin 8192 → Fin 1024 → ℝ

namespace Data

variable (a : Data)

def dyg (r : Fin 8192) (c : Fin 1024) : ℝ := a.dy r c * a.g c
def dpre (r : Fin 8192) : Fin 1024 → ℝ := grad (a.pre r) (a.dyg r)
def dgTerm (r : Fin 8192) (c : Fin 1024) : ℝ := a.dy r c * hat (a.pre r) c

end Data

/-- A gradient summed over the rows, as a one-row array. -/
abbrev rowArr (f : Fin 1024 → ℝ) : FVec Ideal ⟨2, ![1, 1024]⟩ .f32 := fun i => ((f (i 1) : ℝ) : EReal)
/-- The gradients of the input, the scale, the shift, and of a bias added to the input. -/
def dpreArr (a : Data) : FVec Ideal ⟨2, ![8192, 1024]⟩ .f32 := fun i => ((a.dpre (i 0) (i 1) : ℝ) : EReal)
def dgArr (a : Data) := rowArr fun j => ∑ r, a.dgTerm r j
def dbArr (a : Data) := rowArr fun j => ∑ r, a.dy r j
def dbiasArr (a : Data) := rowArr fun j => ∑ r, a.dpre r j

/-- The residual's weight, as the float every program writes. -/
def alpha : ℝ := 14107901 / 2 ^ 23
theorem word_alpha : Ideal.ofBits .f32 0x3FD744FD#32 = (alpha : EReal) := by
  unfold alpha
  simp [Ideal.ofBits, Ideal.ieee, -EReal.coe_mul]; norm_num

end Cert.NormGrad

end
-- ==== Proof.Norm.Spec.lean ====
/-
  The gradients through the mixer's layer norm: the incoming gradient is the first feed-forward product's, `dact` times
  the transposed weight, plus the residual's, `alpha · dpre2`.
-/
module

public import proofs.«01_k».proof.Proof.NormGrad

@[expose] public section

noncomputable section

namespace Cert.Norm

open Idealize.ShloMosaic Cert.Reals Cert.NormGrad

abbrev Wide := FVec Ideal ⟨2, ![8192, 1024]⟩ .f32
abbrev Row := FVec Ideal ⟨1, ![1024]⟩ .f32
abbrev Weight := FVec Ideal ⟨2, ![1024, 4096]⟩ .f32
abbrev Act := FVec Ideal ⟨2, ![8192, 4096]⟩ .f32

/-- The call's arguments, as reals. -/
structure Args where
  z : Fin 8192 → Fin 1024 → ℝ
  bias : Fin 1024 → ℝ
  g : Fin 1024 → ℝ
  b : Fin 1024 → ℝ
  w : Fin 1024 → Fin 4096 → ℝ
  dact : Fin 8192 → Fin 4096 → ℝ
  dres : Fin 8192 → Fin 1024 → ℝ

/-- The layer norm's input and scale and the gradient of its output. -/
def Args.data (a : Args) : Data where
  pre r c := a.z r c + a.bias c
  g := a.g
  dy r c := alpha * a.dres r c + ∑ k, a.dact r k * a.w c k

/-- The arrays a program is given are the reals of `a`. -/
structure Holds (x0 : Wide) (x1 x2 x3 : Row) (x4 : Weight) (x5 : Act) (x6 : Wide) (a : Args) : Prop where
  z : ∀ r j, x0 (ix2 r j) = ((a.z r j : ℝ) : EReal)
  bias : ∀ j, x1 (ix1 j) = ((a.bias j : ℝ) : EReal)
  g : ∀ j, x2 (ix1 j) = ((a.g j : ℝ) : EReal)
  b : ∀ j, x3 (ix1 j) = ((a.b j : ℝ) : EReal)
  w : ∀ r j, x4 (ix2 r j) = ((a.w r j : ℝ) : EReal)
  dact : ∀ r j, x5 (ix2 r j) = ((a.dact r j : ℝ) : EReal)
  dres : ∀ r j, x6 (ix2 r j) = ((a.dres r j : ℝ) : EReal)

end Cert.Norm

end
-- ==== Proof.Norm.Kernel.lean ====
/-
  What the kernel of the gradients through the mixer's layer norm leaves in its four results: each grid point takes 512
  rows; the product runs over eight column blocks of 512, the rows' gradient is written block by block, the three summed
  gradients are collected over the points.
-/
module

public import proofs.«01_k».proof.Proof.Gen.NormKIdeal.Value
public import proofs.«01_k».proof.Proof.Norm.Spec
public import proofs.«01_k».proof.Proof.Rows
public import Idealize.ShloMosaic.Lib.Pipeline.ValueKit
public import Idealize.ShloMosaic.Lib.StableHlo.ReadAt

@[expose] public section
set_option maxRecDepth 16384
noncomputable section
namespace Cert.Norm.Kernel
open Idealize.ShloMosaic Idealize.SL.Sem Cert.NormKIdeal Cert.NormKIdeal.Gen
open Idealize.ShloMosaic.TcCoe
open Idealize.ShloMosaic.Pipeline (Dat)
open Cert.Reals Cert.LayerNorm Cert.NormGrad

variable (m : (ℓ : Loc nD τ sig) → Buf (Elt Ideal) ℓ) (c : Dev nD) (a : Args)

/-- The program's arguments on this device are the reals of `a`. -/
abbrev Given : Prop :=
  Holds (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5))
    (m (c, Proc.tc.devRef main_arg6)) a

theorem idx : ∀ t : Fin cfg0.N, win0_0.index t = ![t.val, 0] ∧ win0_1.index t = ![t.val, 0] ∧ win0_2.index t = ![t.val, 0]
    ∧ win0_3.index t = ![0, 0, 0] ∧ win0_4.index t = ![0, 0] ∧ win0_5.index t = ![t.val, 0] :=
  (by decide +kernel : ∀ t : Fin grid0.N, _)

/-- Row `i` of block `t` of the arrays. -/
abbrev row (t : Fin cfg0.N) (i : Fin 512) : Fin 8192 := Rows.row (N := cfg0.N) (S := 512) rfl t i
/-- Column `k` of column block `d`. -/
abbrev col (d : Fin 8) (k : Fin 512) : Fin 4096 := Rows.row (N := 8) (S := 512) rfl d k
theorem lt_points (t : Fin cfg0.N) : t.val < 16 := t.isLt

theorem emb5 (t : Fin cfg0.N) (i : Fin 512) (j : Fin 1024) :
    ((View.whole main_v8_0).slice (win0_5.rect t)).emb (ix2 i j) = ix2 (row t i) j := by
  blk_ext [idx t, row, Rows.row]

variable {m c a} (h : Given m c a)
include h

/-! What the kernel is given. -/

theorem entry_dact (r : Fin 8192) (j : Fin 4096) : V m c main_v6 (ix2 r j) = ((a.dact r j : ℝ) : EReal) := by
  unfold V; after_reads_at; rw [h.dact]
theorem entry_dres (r : Fin 8192) (j : Fin 1024) : V m c main_arg6 (ix2 r j) = ((a.dres r j : ℝ) : EReal) := by
  unfold V; after_reads_at; rw [h.dres]
theorem entry_pre (r : Fin 8192) (j : Fin 1024) : V m c main_v5 (ix2 r j) = ((a.data.pre r j : ℝ) : EReal) := by
  unfold V; after_reads_at; rw [h.z, h.bias, ← EReal.coe_add]; rfl
theorem entry_w (d : Fin 8) (r : Fin 1024) (j : Fin 512) : V m c main_v2 (ix3 d r j) = ((a.w r (col d j) : ℝ) : EReal) := by
  unfold V; after_reads_at; exact h.w _ _
theorem entry_g (j : Fin 1024) : V m c main_v7 (ix2 0 j) = ((a.data.g j : ℝ) : EReal) := by
  unfold V; after_reads_at; rw [h.g]; rfl

theorem blk_dact (t : Fin cfg0.N) (i : Fin 512) (j : Fin 4096) : iblk m c 0 t (ix2 i j) = ((a.dact (row t i) j : ℝ) : EReal) := by
  rw [← entry_dact h]; blk_ext [iblk, idx t, row, Rows.row]
theorem blk_dres (t : Fin cfg0.N) (i : Fin 512) (j : Fin 1024) : iblk m c 1 t (ix2 i j) = ((a.dres (row t i) j : ℝ) : EReal) := by
  rw [← entry_dres h]; blk_ext [iblk, idx t, row, Rows.row]
theorem blk_pre (t : Fin cfg0.N) (i : Fin 512) (j : Fin 1024) : iblk m c 2 t (ix2 i j) = ((a.data.pre (row t i) j : ℝ) : EReal) := by
  rw [← entry_pre h]; blk_ext [iblk, idx t, row, Rows.row]
theorem blk_w (t : Fin cfg0.N) (d : Fin 8) (q : Fin 1024) (k : Fin 512) : iblk m c 3 t (ix3 d q k) = ((a.w q (col d k) : ℝ) : EReal) := by
  rw [← entry_w h]; blk_ext [iblk, idx t]
theorem blk_g (t : Fin cfg0.N) (j : Fin 1024) : iblk m c 4 t (ix2 0 j) = ((a.data.g j : ℝ) : EReal) := by
  rw [← entry_g h]; blk_ext [iblk, idx t]

/-! What the payloads compute of one block. -/

/-- Slice `d` of the weight's blocks. -/
abbrev ld (m : (ℓ : Loc nD τ sig) → Buf (Elt Ideal) ℓ) (c : Dev nD) (t : Fin cfg0.N) (d : Nat)
    (hd : ∀ k : Fin 3, (![d, 0, 0] : Fin 3 → Nat) k + (![1, 1024, 512] : Fin 3 → Nat) k ≤ (![8, 1024, 512] : Fin 3 → Nat) k) :=
  View.ld (iblk m c 3 t) (Rect.unit (s := S8x1024x512) ![d, 0, 0] ![1, 1024, 512] hd)

theorem ld_w (t : Fin cfg0.N) (d : Nat) (hd) (q : Fin 1024) (k : Fin 512) (h8 : d < 8) :
    ld m c t d hd (ix3 0 q k) = ((a.w q (col ⟨d, h8⟩ k) : ℝ) : EReal) := by
  rw [← blk_w h t]
  unfold ld
  pointwise

/-- The incoming gradient, over a block's rows. -/
abbrev dy (m : (ℓ : Loc nD τ sig) → Buf (Elt Ideal) ℓ) (c : Dev nD) (t : Fin cfg0.N) : FVec Ideal S512x1024 .f32 :=
  k0_pay11 (k0_pay8 (iblk m c 0 t)) (k0_pay10 (iblk m c 0 t) (iblk m c 1 t) (ld m c t 0 inb_S8x1024x512_S1x1024x512_0_0_0)
    (ld m c t 1 inb_S8x1024x512_S1x1024x512_1_0_0) (ld m c t 2 inb_S8x1024x512_S1x1024x512_2_0_0)
    (ld m c t 3 inb_S8x1024x512_S1x1024x512_3_0_0) (ld m c t 4 inb_S8x1024x512_S1x1024x512_4_0_0))
    (ld m c t 5 inb_S8x1024x512_S1x1024x512_5_0_0) (ld m c t 6 inb_S8x1024x512_S1x1024x512_6_0_0)
    (ld m c t 7 inb_S8x1024x512_S1x1024x512_7_0_0)

theorem dy_blk (t : Fin cfg0.N) (i : Fin 512) (j : Fin 1024) : dy m c t (ix2 i j) = ((a.data.dy (row t i) j : ℝ) : EReal) := by
  have e0 : ∀ (k : Fin 512) (hk : k.val < 4096), (⟨k.val, hk⟩ : Fin 4096) = col 0 k := fun k hk => Fin.ext (by simp [col, Rows.row])
  unfold dy
  generalize hs0 : ld m c t 0 _ = s0
  generalize hs1 : ld m c t 1 _ = s1
  generalize hs2 : ld m c t 2 _ = s2
  generalize hs3 : ld m c t 3 _ = s3
  generalize hs4 : ld m c t 4 _ = s4
  generalize hs5 : ld m c t 5 _ = s5
  generalize hs6 : ld m c t 6 _ = s6
  generalize hs7 : ld m c t 7 _ = s7
  pointwise [k0_pay11, k0_pay10, k0_pay8]
  subst hs0 hs1 hs2 hs3 hs4 hs5 hs6 hs7
  simp only [blk_dres h, blk_dact h, word_alpha, ld_w h t 0 _ _ _ (by decide), ld_w h t 1 _ _ _ (by decide), ld_w h t 2 _ _ _ (by decide),
    ld_w h t 3 _ _ _ (by decide), ld_w h t 4 _ _ _ (by decide), ld_w h t 5 _ _ _ (by decide), ld_w h t 6 _ _ _ (by decide),
    ld_w h t 7 _ _ _ (by decide), e0, ← EReal.coe_mul, coe_sum, ← EReal.coe_add]
  refine congrArg _ ?_
  refine Eq.trans ?_ (congrArg (alpha * a.dres (row t i) j + ·)
    (Rows.sum_eight (S := 512) rfl fun k => a.dact (row t i) k * a.w j k).symm)
  simp only [← add_assoc]
  rfl

/-- The incoming gradient times the scale. -/
abbrev dyg (m : (ℓ : Loc nD τ sig) → Buf (Elt Ideal) ℓ) (c : Dev nD) (t : Fin cfg0.N) : FVec Ideal S512x1024 .f32 :=
  k0_pay15 (k0_pay8 (iblk m c 0 t)) (k0_pay10 (iblk m c 0 t) (iblk m c 1 t) (ld m c t 0 inb_S8x1024x512_S1x1024x512_0_0_0)
    (ld m c t 1 inb_S8x1024x512_S1x1024x512_1_0_0) (ld m c t 2 inb_S8x1024x512_S1x1024x512_2_0_0)
    (ld m c t 3 inb_S8x1024x512_S1x1024x512_3_0_0) (ld m c t 4 inb_S8x1024x512_S1x1024x512_4_0_0))
    (ld m c t 5 inb_S8x1024x512_S1x1024x512_5_0_0) (ld m c t 6 inb_S8x1024x512_S1x1024x512_6_0_0)
    (ld m c t 7 inb_S8x1024x512_S1x1024x512_7_0_0) (iblk m c 4 t)
abbrev dygMean (m : (ℓ : Loc nD τ sig) → Buf (Elt Ideal) ℓ) (c : Dev nD) (t : Fin cfg0.N) : FVec Ideal S512x1 .f32 :=
  k0_pay16 (k0_pay8 (iblk m c 0 t)) (k0_pay10 (iblk m c 0 t) (iblk m c 1 t) (ld m c t 0 inb_S8x1024x512_S1x1024x512_0_0_0)
    (ld m c t 1 inb_S8x1024x512_S1x1024x512_1_0_0) (ld m c t 2 inb_S8x1024x512_S1x1024x512_2_0_0)
    (ld m c t 3 inb_S8x1024x512_S1x1024x512_3_0_0) (ld m c t 4 inb_S8x1024x512_S1x1024x512_4_0_0))
    (ld m c t 5 inb_S8x1024x512_S1x1024x512_5_0_0) (ld m c t 6 inb_S8x1024x512_S1x1024x512_6_0_0)
    (ld m c t 7 inb_S8x1024x512_S1x1024x512_7_0_0) (iblk m c 4 t)

theorem dyg_blk (t : Fin cfg0.N) (i : Fin 512) (j : Fin 1024) : dyg m c t (ix2 i j) = ((a.data.dyg (row t i) j : ℝ) : EReal) := by
  have e : dyg m c t (ix2 i j) = dy m c t (ix2 i j) * iblk m c 4 t (ix2 0 j) := by
    unfold dyg dy; pointwise [k0_pay15]
  rw [e, dy_blk h, blk_g h, ← EReal.coe_mul]; rfl
theorem dygMean_blk (t : Fin cfg0.N) (i : Fin 512) : dygMean m c t (ix2 i 0) = ((mean (a.data.dyg (row t i)) : ℝ) : EReal) := by
  have e : dygMean m c t (ix2 i 0) = Ideal.div (∑ j, dyg m c t (ix2 i j)) (Ideal.ofBits .f32 0x44800000#32) := by
    unfold dygMean dyg; pointwise [k0_pay16]
  rw [e]
  simp only [dyg_blk h, coe_sum, coe_mean]; rfl

theorem cen_blk (t : Fin cfg0.N) (i : Fin 512) (j : Fin 1024) :
    k0_pay12 (k0_pay9 (iblk m c 2 t)) (ix2 i j) = ((cen (a.data.pre (row t i)) j : ℝ) : EReal) := by
  pointwise [k0_pay12, k0_pay9]
  simp only [blk_pre h, coe_sum, coe_mean, ← EReal.coe_sub]; rfl

theorem rstd_blk (t : Fin cfg0.N) (i : Fin 512) :
    k0_pay13 (k0_pay9 (iblk m c 2 t)) (ix2 i 0) = ((rstd (a.data.pre (row t i)) : ℝ) : EReal) := by
  pointwise [k0_pay13]
  simp only [cen_blk h, ← EReal.coe_mul, coe_sum, coe_mean, word_lnEps, ← EReal.coe_add]
  exact coe_rsqrt _ (sigma_pos _)

theorem hat_blk (t : Fin cfg0.N) (i : Fin 512) (j : Fin 1024) :
    k0_pay14 (k0_pay9 (iblk m c 2 t)) (ix2 i j) = ((hat (a.data.pre (row t i)) j : ℝ) : EReal) := by
  pointwise [k0_pay14]
  rw [cen_blk h, rstd_blk h, ← EReal.coe_mul]; rfl

theorem dpre_blk (t : Fin cfg0.N) (i : Fin 512) (j : Fin 1024) :
    k0_pay1 (k0_pay13 (k0_pay9 (iblk m c 2 t))) (k0_pay14 (k0_pay9 (iblk m c 2 t))) (dyg m c t) (dygMean m c t) (ix2 i j)
      = ((a.data.dpre (row t i) j : ℝ) : EReal) := by
  have hdyg := dyg_blk h t
  have hmean := dygMean_blk h t
  revert hdyg hmean
  generalize dyg m c t = u
  generalize dygMean m c t = v
  intro hdyg hmean
  pointwise [k0_pay1]
  simp only [hdyg, hmean, rstd_blk h, hat_blk h, ← EReal.coe_mul, coe_sum, coe_mean, ← EReal.coe_sub]; rfl

theorem final_dpre : (dats m 0 c).arrAt 5 cfg0.N = dpreArr a.data := by
  refine (dats m 0 c).arrAt_eq_of_covers 5 _ (by decide +kernel) fun t hf y => ?_
  blk_simp
  rw [after0_5]
  by_cases h0 : t.val % 16 = 0
  · rw [outsAt0_A m c t h0 (by have := lt_points t; omega)]
    frame_out
    idx_vars y
    rw [emb5]
    exact dpre_blk h t _ _
  · rw [outsAt0_B m c t h0 (by have := lt_points t; omega)]
    frame_out
    idx_vars y
    rw [emb5]
    exact dpre_blk h t _ _

/-- The scale's gradient. -/
theorem final_dg : (dats m 0 c).arrAt 6 cfg0.N = dgArr a.data := by
  have hpay : ∀ (t : Fin cfg0.N) (i), k0_pay2 (dy m c t) (k0_pay14 (k0_pay9 (iblk m c 2 t))) i
      = ((∑ k, a.data.dgTerm (row t k) (i 1) : ℝ) : EReal) := fun t i => by
    have hdy := dy_blk h t
    generalize dy m c t = u at hdy ⊢
    idx_vars i
    pointwise [k0_pay2]
    simp only [hdy, hat_blk h, ← EReal.coe_mul, coe_sum]; rfl
  refine (dats m 0 c).arrAt_eq_of_after_last 6 t0_15 (by decide +kernel) _ fun j => ?_
  blk_simp
  rw [after0_6, Rows.acc_sum (N := cfg0.N) (S := 512) (M := 8192) 16 rfl (by decide) (fun n h => (outsAt0 m c n h).2.1) (fun r i => a.data.dgTerm r (i 1))
    (fun t h0 i => by
      rw [outsAt0_A m c t h0 (by have := lt_points t; omega)]; frame_out; exact hpay t i)
    (fun t h0 i => by
      rw [outsAt0_B m c t h0 (by have := lt_points t; omega)]; frame_out; rw [← hpay t i]; pointwise [k0_pay5]; rfl)
    t0_15 rfl]
  rfl

/-- The shift's gradient. -/
theorem final_db : (dats m 0 c).arrAt 7 cfg0.N = dbArr a.data := by
  have hpay : ∀ (t : Fin cfg0.N) (i), k0_pay3 (dy m c t) i = ((∑ k, a.data.dy (row t k) (i 1) : ℝ) : EReal) := fun t i => by
    have hdy := dy_blk h t
    generalize dy m c t = u at hdy ⊢
    idx_vars i
    pointwise [k0_pay3]
    simp only [hdy, coe_sum]
  refine (dats m 0 c).arrAt_eq_of_after_last 7 t0_15 (by decide +kernel) _ fun j => ?_
  blk_simp
  rw [after0_7, Rows.acc_sum (N := cfg0.N) (S := 512) (M := 8192) 16 rfl (by decide) (fun n h => (outsAt0 m c n h).2.2.1) (fun r i => a.data.dy r (i 1))
    (fun t h0 i => by
      rw [outsAt0_A m c t h0 (by have := lt_points t; omega)]; frame_out; exact hpay t i)
    (fun t h0 i => by
      rw [outsAt0_B m c t h0 (by have := lt_points t; omega)]; frame_out; rw [← hpay t i]; pointwise [k0_pay6]; rfl)
    t0_15 rfl]
  rfl

/-- The bias's gradient. -/
theorem final_dbias : (dats m 0 c).arrAt 8 cfg0.N = dbiasArr a.data := by
  have hpay : ∀ (t : Fin cfg0.N) (i), k0_pay4 (k0_pay13 (k0_pay9 (iblk m c 2 t))) (k0_pay14 (k0_pay9 (iblk m c 2 t))) (dyg m c t)
      (dygMean m c t) i = ((∑ k, a.data.dpre (row t k) (i 1) : ℝ) : EReal) := fun t i => by
    have hd := dpre_blk h t
    generalize dyg m c t = u at hd ⊢
    generalize dygMean m c t = v at hd ⊢
    idx_vars i
    unfold k0_pay4
    pointwise
    simp only [hd, coe_sum]
  refine (dats m 0 c).arrAt_eq_of_after_last 8 t0_15 (by decide +kernel) _ fun j => ?_
  blk_simp
  rw [after0_8, Rows.acc_sum (N := cfg0.N) (S := 512) (M := 8192) 16 rfl (by decide) (fun n h => (outsAt0 m c n h).2.2.2) (fun r i => a.data.dpre r (i 1))
    (fun t h0 i => by
      rw [outsAt0_A m c t h0 (by have := lt_points t; omega)]; frame_out; exact hpay t i)
    (fun t h0 i => by
      rw [outsAt0_B m c t h0 (by have := lt_points t; omega)]; frame_out; rw [← hpay t i]; pointwise [k0_pay7]; rfl)
    t0_15 rfl]
  rfl

end Cert.Norm.Kernel

end
-- ==== Proof.Norm.Reference.lean ====
/-
  What the reference of the gradients through the mixer's layer norm computes.
-/
module

public import proofs.«01_k».proof.Proof.Gen.NormRIdeal.Read
public import proofs.«01_k».proof.Proof.Norm.Spec
public import Idealize.ShloMosaic.Lib.Pointwise

@[expose] public section

set_option maxRecDepth 16384

noncomputable section

namespace Cert.Norm.Reference

open Idealize.ShloMosaic Cert.NormRIdeal Cert.NormRIdeal.Read
open Cert.Reals Cert.LayerNorm Cert.NormGrad

variable {x0 : Wide} {x1 x2 x3 : Row} {x4 : Weight} {x5 : Act} {x6 : Wide} {a : Args}
  (h : Holds x0 x1 x2 x3 x4 x5 x6 a)
include h

/-! The layer norm of the rows. -/

theorem pre_eq (r : Fin 8192) (j : Fin 1024) : val_main_v2 (F := Ideal) x0 x1 (ix2 r j) = ((a.data.pre r j : ℝ) : EReal) := by
  pointwise [val_main_v2, val_main_v1, val_main_v0]
  rw [h.z, h.bias, ← EReal.coe_add]; rfl

theorem mean_eq (r : Fin 8192) : val_main_v6 (F := Ideal) x0 x1 (ix2 r 0) = ((mean (a.data.pre r) : ℝ) : EReal) := by
  pointwise [val_main_v6, val_main_v5, val_main_v4, val_main_v3, val_main_cst, val_main_cst_0]
  simp only [pre_eq h, coe_sum, coe_mean]; rfl

theorem cen_eq (r : Fin 8192) (j : Fin 1024) : val_main_v8 (F := Ideal) x0 x1 (ix2 r j) = ((cen (a.data.pre r) j : ℝ) : EReal) := by
  pointwise [val_main_v8, val_main_v7]
  rw [pre_eq h, mean_eq h, ← EReal.coe_sub]; rfl

theorem cen_eq' (r : Fin 8192) (j : Fin 1024) : val_main_v17 (F := Ideal) x0 x1 (ix2 r j) = ((cen (a.data.pre r) j : ℝ) : EReal) := by
  pointwise [val_main_v17, val_main_v16]
  rw [pre_eq h, mean_eq h, ← EReal.coe_sub]; rfl

theorem sigma_eq (r : Fin 8192) : val_main_v19 (F := Ideal) x0 x1 (ix2 r 0) = ((sigma (a.data.pre r) : ℝ) : EReal) := by
  pointwise [val_main_v19, val_main_v18, val_main_v15, val_main_v14, val_main_v13, val_main_v12, val_main_v9, val_main_cst_2,
    val_main_cst_3, val_main_cst_4]
  simp only [cen_eq h, ← EReal.coe_mul, coe_sum, coe_mean, word_lnEps, ← EReal.coe_add]; rfl

theorem rstd_eq (r : Fin 8192) : val_main_v20 (F := Ideal) x0 x1 (ix2 r 0) = ((rstd (a.data.pre r) : ℝ) : EReal) := by
  pointwise [val_main_v20]
  rw [sigma_eq h]; exact coe_rsqrt _ (sigma_pos _)

theorem hat_eq (r : Fin 8192) (j : Fin 1024) : val_main_v25 (F := Ideal) x0 x1 (ix2 r j) = ((hat (a.data.pre r) j : ℝ) : EReal) := by
  pointwise [val_main_v25, val_main_v24]
  rw [cen_eq' h, rstd_eq h, ← EReal.coe_mul]; rfl

/-! The gradients. -/

theorem dy_eq (r : Fin 8192) (j : Fin 1024) : val_main_v38 (F := Ideal) x4 x5 x6 (ix2 r j) = ((a.data.dy r j : ℝ) : EReal) := by
  pointwise [val_main_v38, val_main_v37, val_main_v36, val_main_v35, val_main_cst_7]
  simp only [h.dres, h.dact, h.w, word_alpha, ← EReal.coe_mul, coe_sum, ← EReal.coe_add]; rfl

theorem dyg_eq (r : Fin 8192) (j : Fin 1024) : val_main_v46 (F := Ideal) x2 x4 x5 x6 (ix2 r j) = ((a.data.dyg r j : ℝ) : EReal) := by
  pointwise [val_main_v46, val_main_v45, val_main_v26]
  rw [dy_eq h, h.g, ← EReal.coe_mul]; rfl

/-- The gradient through the variance, per row. -/
theorem var_eq (r : Fin 8192) : val_main_v53 (F := Ideal) x0 x1 x2 x4 x5 x6 (ix2 r 0)
    = (((∑ k, cen (a.data.pre r) k * a.data.dyg r k) * (-(1 / 2) * (rstd (a.data.pre r) / sigma (a.data.pre r))) : ℝ) : EReal) := by
  pointwise [val_main_v53, val_main_v50, val_main_v49, val_main_v48, val_main_v23, val_main_v22, val_main_v21, val_main_cst_5,
    val_main_cst_12]
  simp only [dyg_eq h, cen_eq' h, sigma_eq h, rstd_eq h, word_neg_half, coe_div _ _ (sigma_pos (a.data.pre r)).ne', coe_sum, ← EReal.coe_mul]

theorem dpre_eq (r : Fin 8192) (j : Fin 1024) : val_main_v71 (F := Ideal) x0 x1 x2 x4 x5 x6 (ix2 r j) = ((a.data.dpre r j : ℝ) : EReal) := by
  pointwise [val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54,
    val_main_v52, val_main_v51, val_main_v11, val_main_v10, val_main_cst_1, val_main_cst_13, val_main_cst_14, val_main_cst_15, val_main_cst_16, val_main_cst_17, val_main_cst_18]
  simp only [Fin.sum_univ_one, var_eq h, dyg_eq h, cen_eq h, rstd_eq h, word_two, coe_mean, coe_sum, ← EReal.coe_mul, ← EReal.coe_neg, ← EReal.coe_add]
  exact congrArg _ (grad_steps _ _ _)

theorem dpreArr_eq : val_main_v71 (F := Ideal) x0 x1 x2 x4 x5 x6 = dpreArr a.data := by
  funext i; idx_vars i; exact dpre_eq h _ _
theorem dgArr_eq : val_main_v75 (F := Ideal) x0 x1 x4 x5 x6 = dgArr a.data := by
  funext i; idx_vars i
  pointwise [dgArr, rowArr, val_main_v75, val_main_v47, val_main_v44, val_main_v43, val_main_v42, val_main_cst_10, val_main_cst_11]
  simp only [Fin.sum_univ_one, hat_eq h, dy_eq h, ← EReal.coe_mul, coe_sum, Data.dgTerm, mul_comm]
theorem dbArr_eq : val_main_v76 (F := Ideal) x4 x5 x6 = dbArr a.data := by
  funext i; idx_vars i
  pointwise [dbArr, rowArr, val_main_v76, val_main_v41, val_main_v40, val_main_v39, val_main_cst_8, val_main_cst_9]
  simp only [Fin.sum_univ_one, dy_eq h, coe_sum]
theorem dbiasArr_eq : val_main_v77 (F := Ideal) x0 x1 x2 x4 x5 x6 = dbiasArr a.data := by
  funext i; idx_vars i
  pointwise [dbiasArr, rowArr, val_main_v77, val_main_v74, val_main_v73, val_main_v72, val_main_cst_19, val_main_cst_20]
  simp only [Fin.sum_univ_one, dpre_eq h, coe_sum]

end Cert.Norm.Reference

end
-- ==== Proof.Norm.Claims.lean ====
/-
  The claims about the backward call through the mixer's layer norm: its runs end quietly with the arguments unchanged, and
  on finite arguments it returns the gradients that differentiating the forward lines gives.
-/
module

public import proofs.«01_k».proof.Defs
public import proofs.«01_k».proof.Proof.Gen.NormK.Frame
public import proofs.«01_k».proof.Proof.Gen.NormRIdeal.Run
public import proofs.«01_k».proof.Proof.Gen.Pre_ff1_finite
public import proofs.«01_k».proof.Proof.Norm.Kernel
public import proofs.«01_k».proof.Proof.Norm.Reference
public import Idealize.ShloMosaic.Lib.Quiescent

@[expose] public section

set_option maxRecDepth 16384

noncomputable section

namespace Cert.Norm.Claims

open Idealize.ShloMosaic Idealize.SL.Sem Cert.Reals Cert.NormGrad

theorem frame_kernel : Cert.quiescent_NormK := fun m ρ _ => Cert.NormK.Gen.frame m ρ
theorem frame_ideal : Cert.quiescent_NormKIdeal := fun m ρ _ => Cert.NormKIdeal.Gen.frame m ρ
theorem frame_ideal_pre : Cert.quiescent_NormKIdeal_pre_ff1_finite := fun m ρ _ => Cert.NormKIdeal.Gen.frame m ρ
theorem frame_reference : Cert.quiescent_NormRIdeal := fun m ρ _ =>
  (θ_run Cert.NormRIdeal.defs _ _).mono (fun r h => ⟨fun c => (h c).2.2.2.2, sem_eq_zero_of_no_sems (by decide) r.2⟩)
    (Cert.NormRIdeal.Value.run (F := Ideal) m ρ)
theorem frame_reference_pre : Cert.quiescent_NormRIdeal_pre_ff1_finite := fun m ρ _ => frame_reference m ρ trivial
theorem preserves : Cert.preserves_NormK_NormKIdeal := trivial

/-- Finite arguments are the casts of their reals. -/
theorem holds_of_finite (x0 : Wide) (x1 : Row) (x2 : Row) (x3 : Row) (x4 : Weight) (x5 : Act) (x6 : Wide)
    (h : (Cert.Pre_ff1_finite.fn (F := Ideal) x0 x1 x2 x3 x4 x5 x6).1 = (fun _ => 1#1)
      ∧ (Cert.Pre_ff1_finite.fn (F := Ideal) x0 x1 x2 x3 x4 x5 x6).2.1 = (fun _ => 1#1)
      ∧ (Cert.Pre_ff1_finite.fn (F := Ideal) x0 x1 x2 x3 x4 x5 x6).2.2.1 = (fun _ => 1#1)
      ∧ (Cert.Pre_ff1_finite.fn (F := Ideal) x0 x1 x2 x3 x4 x5 x6).2.2.2.1 = (fun _ => 1#1)
      ∧ (Cert.Pre_ff1_finite.fn (F := Ideal) x0 x1 x2 x3 x4 x5 x6).2.2.2.2.1 = (fun _ => 1#1)
      ∧ (Cert.Pre_ff1_finite.fn (F := Ideal) x0 x1 x2 x3 x4 x5 x6).2.2.2.2.2.1 = (fun _ => 1#1)
      ∧ (Cert.Pre_ff1_finite.fn (F := Ideal) x0 x1 x2 x3 x4 x5 x6).2.2.2.2.2.2 = (fun _ => 1#1)) :
    ∃ a, Holds x0 x1 x2 x3 x4 x5 x6 a := by
  obtain ⟨h0, h1, h2, h3, h4, h5, h6⟩ := h
  refine ⟨⟨fun r j => EReal.toReal (x0 (ix2 r j)), fun j => EReal.toReal (x1 (ix1 j)), fun j => EReal.toReal (x2 (ix1 j)), fun j => EReal.toReal (x3 (ix1 j)), fun r j => EReal.toReal (x4 (ix2 r j)), fun r j => EReal.toReal (x5 (ix2 r j)), fun r j => EReal.toReal (x6 (ix2 r j))⟩,
    fun r j => real_of_abs_lt _ ?_, fun j => real_of_abs_lt _ ?_, fun j => real_of_abs_lt _ ?_, fun j => real_of_abs_lt _ ?_, fun r j => real_of_abs_lt _ ?_, fun r j => real_of_abs_lt _ ?_, fun r j => real_of_abs_lt _ ?_⟩
    <;> rw [← word_inf]
  · exact congrFun h0 (ix2 r j)
  · exact congrFun h1 (ix1 j)
  · exact congrFun h2 (ix1 j)
  · exact congrFun h3 (ix1 j)
  · exact congrFun h4 (ix2 r j)
  · exact congrFun h5 (ix2 r j)
  · exact congrFun h6 (ix2 r j)

theorem algebraic : Cert.algebraic_NormKIdeal_NormRIdeal_pre_ff1_finite := by
  intro m ρ m' ρ' hpre hagree
  choose a hm using fun c => holds_of_finite _ _ _ _ _ _ _ (hpre c)
  have hm' c : Holds (m' (c, Proc.tc.devRef NormRIdeal.main_arg0))
        (m' (c, Proc.tc.devRef NormRIdeal.main_arg1))
        (m' (c, Proc.tc.devRef NormRIdeal.main_arg2))
        (m' (c, Proc.tc.devRef NormRIdeal.main_arg3))
        (m' (c, Proc.tc.devRef NormRIdeal.main_arg4))
        (m' (c, Proc.tc.devRef NormRIdeal.main_arg5))
        (m' (c, Proc.tc.devRef NormRIdeal.main_arg6)) (a c) := by
    obtain ⟨e0, e1, e2, e3, e4, e5, e6⟩ := hagree c
    exact e0 ▸ e1 ▸ e2 ▸ e3 ▸ e4 ▸ e5 ▸ e6 ▸ hm c
  refine ⟨fun c => dpreArr (a c).data, fun c => dgArr (a c).data, fun c => dbArr (a c).data, fun c => dbiasArr (a c).data, ?_, ?_⟩
  · exact (θ_run Cert.NormKIdeal.defs _ _).mono
      (fun r h c => ⟨(h c).1.trans (Kernel.final_dpre (hm c)),
        (h c).2.1.trans (Kernel.final_dg (hm c)),
        (h c).2.2.1.trans (Kernel.final_db (hm c)),
        (h c).2.2.2.1.trans (Kernel.final_dbias (hm c)), (h c).2.2.2.2⟩)
      (Cert.NormKIdeal.Value.run_blocks (F := Ideal) m ρ)
  · exact (θ_run Cert.NormRIdeal.defs _ _).mono
      (fun r h c => ⟨((h c).1.trans (Cert.NormRIdeal.Read.val_main_v71_eq _ _)).trans (Reference.dpreArr_eq (hm' c)),
        ((h c).2.1.trans (Cert.NormRIdeal.Read.val_main_v75_eq _ _ _ _ _)).trans (Reference.dgArr_eq (hm' c)),
        ((h c).2.2.1.trans (Cert.NormRIdeal.Read.val_main_v76_eq _ _ _)).trans (Reference.dbArr_eq (hm' c)),
        ((h c).2.2.2.1.trans (Cert.NormRIdeal.Read.val_main_v77_eq _ _)).trans (Reference.dbiasArr_eq (hm' c)), (h c).2.2.2.2⟩)
      (Cert.NormRIdeal.Value.run (F := Ideal) m' ρ')

end Cert.Norm.Claims

end
-- ==== Proof.In.Spec.lean ====
/-
  The gradients through the layer norm before the input projection: the incoming gradient is the projection's, the four
  parts `dq | dk | dv | du` side by side times the transposed weight, plus the residual's, `alpha · dpre1`.
-/
module

public import proofs.«01_k».proof.Proof.NormGrad

@[expose] public section

noncomputable section

namespace Cert.In

open Idealize.ShloMosaic Cert.Reals Cert.NormGrad

abbrev Wide := FVec Ideal ⟨2, ![8192, 1024]⟩ .f32
abbrev Row := FVec Ideal ⟨1, ![1024]⟩ .f32
abbrev Weight := FVec Ideal ⟨2, ![1024, 2048]⟩ .f32
abbrev Part := FVec Ideal ⟨2, ![8192, 512]⟩ .f32

/-- The call's arguments, as reals. -/
structure Args where
  z : Fin 8192 → Fin 1024 → ℝ
  bias : Fin 1024 → ℝ
  g : Fin 1024 → ℝ
  b : Fin 1024 → ℝ
  w : Fin 1024 → Fin 2048 → ℝ
  part : Fin 4 → Fin 8192 → Fin 512 → ℝ
  dres : Fin 8192 → Fin 1024 → ℝ

/-- The four parts side by side. -/
def Args.proj (a : Args) (r : Fin 8192) (k : Fin 2048) : ℝ :=
  a.part ⟨k.val / 512, by have := k.isLt; omega⟩ r ⟨k.val % 512, Nat.mod_lt _ (by decide)⟩

theorem Args.proj_of (a : Args) (s : Fin 4) (r : Fin 8192) (k : Fin 2048) (x : Fin 512) (h : k.val = s.val * 512 + x.val) :
    a.proj r k = a.part s r x := by
  have hx := x.isLt
  have e : (⟨k.val / 512, by have := k.isLt; omega⟩ : Fin 4) = s := Fin.ext (by simp only; omega)
  have e' : (⟨k.val % 512, Nat.mod_lt _ (by decide)⟩ : Fin 512) = x := Fin.ext (by simp only; omega)
  unfold Args.proj
  rw [e, e']

/-- The layer norm's input and scale and the gradient of its output. -/
def Args.data (a : Args) : Data where
  pre r c := a.z r c + a.bias c
  g := a.g
  dy r c := alpha * a.dres r c + ∑ k, a.proj r k * a.w c k

/-- The arrays a program is given are the reals of `a`. -/
structure Holds (x0 : Wide) (x1 x2 x3 : Row) (x4 : Weight) (x5 x6 x7 x8 : Part) (x9 : Wide) (a : Args) : Prop where
  z : ∀ r j, x0 (ix2 r j) = ((a.z r j : ℝ) : EReal)
  bias : ∀ j, x1 (ix1 j) = ((a.bias j : ℝ) : EReal)
  g : ∀ j, x2 (ix1 j) = ((a.g j : ℝ) : EReal)
  b : ∀ j, x3 (ix1 j) = ((a.b j : ℝ) : EReal)
  w : ∀ r j, x4 (ix2 r j) = ((a.w r j : ℝ) : EReal)
  q : ∀ r j, x5 (ix2 r j) = ((a.part 0 r j : ℝ) : EReal)
  k : ∀ r j, x6 (ix2 r j) = ((a.part 1 r j : ℝ) : EReal)
  v : ∀ r j, x7 (ix2 r j) = ((a.part 2 r j : ℝ) : EReal)
  u : ∀ r j, x8 (ix2 r j) = ((a.part 3 r j : ℝ) : EReal)
  dres : ∀ r j, x9 (ix2 r j) = ((a.dres r j : ℝ) : EReal)

end Cert.In

end
-- ==== Proof.In.Kernel.lean ====
/-
  What the kernel of the gradients through the layer norm before the input projection leaves in its four results: each
  grid point takes 1024 rows; the product runs over eight column blocks of 256, the rows' gradient is written block by
  block, the three summed gradients are collected over the points.
-/
module

public import proofs.«01_k».proof.Proof.Gen.InKIdeal.Value
public import proofs.«01_k».proof.Proof.In.Spec
public import proofs.«01_k».proof.Proof.Rows
public import Idealize.ShloMosaic.Lib.Pipeline.ValueKit
public import Idealize.ShloMosaic.Lib.StableHlo.ReadAt

@[expose] public section
set_option maxRecDepth 16384
noncomputable section
namespace Cert.In.Kernel
open Idealize.ShloMosaic Idealize.SL.Sem Cert.InKIdeal Cert.InKIdeal.Gen
open Idealize.ShloMosaic.TcCoe
open Idealize.ShloMosaic.Pipeline (Dat)
open Cert.Reals Cert.LayerNorm Cert.NormGrad

variable (m : (ℓ : Loc nD τ sig) → Buf (Elt Ideal) ℓ) (c : Dev nD) (a : Args)

/-- The program's arguments on this device are the reals of `a`. -/
abbrev Given : Prop :=
  Holds (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5))
    (m (c, Proc.tc.devRef main_arg6)) (m (c, Proc.tc.devRef main_arg7)) (m (c, Proc.tc.devRef main_arg8))
    (m (c, Proc.tc.devRef main_arg9)) a

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![0, 0, 0] ∧ win0_7.index t = ![0, 0] ∧ win0_8.index t = ![t.val, 0] :=
  (by decide +kernel : ∀ t : Fin grid0.N, _)

/-- Row `i` of block `t` of the arrays. -/
abbrev row (t : Fin cfg0.N) (i : Fin 1024) : Fin 8192 := Rows.row (N := cfg0.N) (S := 1024) rfl t i
/-- Column `k` of column block `d`. -/
abbrev col (d : Fin 8) (k : Fin 256) : Fin 2048 := Rows.row (N := 8) (S := 256) rfl d k
theorem lt_points (t : Fin cfg0.N) : t.val < 8 := t.isLt

theorem emb8 (t : Fin cfg0.N) (i : Fin 1024) (j : Fin 1024) :
    ((View.whole main_v11_0).slice (win0_8.rect t)).emb (ix2 i j) = ix2 (row t i) j := by
  blk_ext [idx t, row, Rows.row]

variable {m c a} (h : Given m c a)
include h

/-! What the kernel is given. -/

theorem entry_q (r : Fin 8192) (j : Fin 512) : V m c main_v6 (ix2 r j) = ((a.part 0 r j : ℝ) : EReal) := by
  unfold V; after_reads_at; rw [h.q]
theorem entry_k (r : Fin 8192) (j : Fin 512) : V m c main_v7 (ix2 r j) = ((a.part 1 r j : ℝ) : EReal) := by
  unfold V; after_reads_at; rw [h.k]
theorem entry_v (r : Fin 8192) (j : Fin 512) : V m c main_v8 (ix2 r j) = ((a.part 2 r j : ℝ) : EReal) := by
  unfold V; after_reads_at; rw [h.v]
theorem entry_u (r : Fin 8192) (j : Fin 512) : V m c main_v9 (ix2 r j) = ((a.part 3 r j : ℝ) : EReal) := by
  unfold V; after_reads_at; rw [h.u]
theorem entry_dres (r : Fin 8192) (j : Fin 1024) : V m c main_arg9 (ix2 r j) = ((a.dres r j : ℝ) : EReal) := by
  unfold V; after_reads_at; rw [h.dres]
theorem entry_pre (r : Fin 8192) (j : Fin 1024) : V m c main_v5 (ix2 r j) = ((a.data.pre r j : ℝ) : EReal) := by
  unfold V; after_reads_at; rw [h.z, h.bias, ← EReal.coe_add]; rfl
theorem entry_w (d : Fin 8) (r : Fin 1024) (j : Fin 256) : V m c main_v2 (ix3 d r j) = ((a.w r (col d j) : ℝ) : EReal) := by
  unfold V; after_reads_at; exact h.w _ _
theorem entry_g (j : Fin 1024) : V m c main_v10 (ix2 0 j) = ((a.data.g j : ℝ) : EReal) := by
  unfold V; after_reads_at; rw [h.g]; rfl

theorem blk_q (t : Fin cfg0.N) (i : Fin 1024) (j : Fin 512) : iblk m c 0 t (ix2 i j) = ((a.part 0 (row t i) j : ℝ) : EReal) := by
  rw [← entry_q h]; blk_ext [iblk, idx t, row, Rows.row]
theorem blk_k (t : Fin cfg0.N) (i : Fin 1024) (j : Fin 512) : iblk m c 1 t (ix2 i j) = ((a.part 1 (row t i) j : ℝ) : EReal) := by
  rw [← entry_k h]; blk_ext [iblk, idx t, row, Rows.row]
theorem blk_v (t : Fin cfg0.N) (i : Fin 1024) (j : Fin 512) : iblk m c 2 t (ix2 i j) = ((a.part 2 (row t i) j : ℝ) : EReal) := by
  rw [← entry_v h]; blk_ext [iblk, idx t, row, Rows.row]
theorem blk_u (t : Fin cfg0.N) (i : Fin 1024) (j : Fin 512) : iblk m c 3 t (ix2 i j) = ((a.part 3 (row t i) j : ℝ) : EReal) := by
  rw [← entry_u h]; blk_ext [iblk, idx t, row, Rows.row]
theorem blk_dres (t : Fin cfg0.N) (i : Fin 1024) (j : Fin 1024) : iblk m c 4 t (ix2 i j) = ((a.dres (row t i) j : ℝ) : EReal) := by
  rw [← entry_dres h]; blk_ext [iblk, idx t, row, Rows.row]
theorem blk_pre (t : Fin cfg0.N) (i : Fin 1024) (j : Fin 1024) : iblk m c 5 t (ix2 i j) = ((a.data.pre (row t i) j : ℝ) : EReal) := by
  rw [← entry_pre h]; blk_ext [iblk, idx t, row, Rows.row]
theorem blk_w (t : Fin cfg0.N) (d : Fin 8) (q : Fin 1024) (k : Fin 256) : iblk m c 6 t (ix3 d q k) = ((a.w q (col d k) : ℝ) : EReal) := by
  rw [← entry_w h]; blk_ext [iblk, idx t]
theorem blk_g (t : Fin cfg0.N) (j : Fin 1024) : iblk m c 7 t (ix2 0 j) = ((a.data.g j : ℝ) : EReal) := by
  rw [← entry_g h]; blk_ext [iblk, idx t]

/-! What the payloads compute of one block. -/

/-- The four parts side by side. -/
abbrev proj (m : (ℓ : Loc nD τ sig) → Buf (Elt Ideal) ℓ) (c : Dev nD) (t : Fin cfg0.N) : FVec Ideal S1024x2048 .bf16 :=
  k0_pay11 (iblk m c 0 t) (iblk m c 1 t) (iblk m c 2 t) (iblk m c 3 t)

omit h in
theorem concat_at (b0 b1 b2 b3 : FVec Ideal S1024x512 .bf16) (i : Fin 1024) (r : Fin 8192)
    (h0 : ∀ j, b0 (ix2 i j) = ((a.part 0 r j : ℝ) : EReal)) (h1 : ∀ j, b1 (ix2 i j) = ((a.part 1 r j : ℝ) : EReal))
    (h2 : ∀ j, b2 (ix2 i j) = ((a.part 2 r j : ℝ) : EReal)) (h3 : ∀ j, b3 (ix2 i j) = ((a.part 3 r j : ℝ) : EReal))
    (k : Fin 2048) : k0_pay11 (F := Ideal) b0 b1 b2 b3 (ix2 i k) = ((a.proj r k : ℝ) : EReal) := by
  have hk := k.isLt
  pointwise [k0_pay11]
  by_cases c0 : k.val < 512
  · exact (dif_pos c0).trans ((h0 _).trans (congrArg _ (a.proj_of 0 r k _ (by simp)).symm))
  by_cases c1 : k.val - 512 < 512
  · exact (dif_neg c0).trans ((dif_pos c1).trans ((h1 _).trans (congrArg _ (a.proj_of 1 r k _ (by simp; omega)).symm)))
  by_cases c2 : k.val - 512 - 512 < 512
  · exact (dif_neg c0).trans ((dif_neg c1).trans ((dif_pos c2).trans
      ((h2 _).trans (congrArg _ (a.proj_of 2 r k _ (by simp; omega)).symm))))
  · exact (dif_neg c0).trans ((dif_neg c1).trans ((dif_neg c2).trans
      ((h3 _).trans (congrArg _ (a.proj_of 3 r k _ (by simp; omega)).symm))))

theorem proj_blk (t : Fin cfg0.N) (i : Fin 1024) (k : Fin 2048) : proj m c t (ix2 i k) = ((a.proj (row t i) k : ℝ) : EReal) :=
  concat_at _ _ _ _ _ _ (blk_q h t i) (blk_k h t i) (blk_v h t i) (blk_u h t i) k

/-- Slice `d` of the weight's blocks. -/
abbrev ld (m : (ℓ : Loc nD τ sig) → Buf (Elt Ideal) ℓ) (c : Dev nD) (t : Fin cfg0.N) (d : Nat)
    (hd : ∀ k : Fin 3, (![d, 0, 0] : Fin 3 → Nat) k + (![1, 1024, 256] : Fin 3 → Nat) k ≤ (![8, 1024, 256] : Fin 3 → Nat) k) :=
  View.ld (iblk m c 6 t) (Rect.unit (s := S8x1024x256) ![d, 0, 0] ![1, 1024, 256] hd)

theorem ld_w (t : Fin cfg0.N) (d : Nat) (hd) (q : Fin 1024) (k : Fin 256) (h8 : d < 8) :
    ld m c t d hd (ix3 0 q k) = ((a.w q (col ⟨d, h8⟩ k) : ℝ) : EReal) := by
  rw [← blk_w h t]
  unfold ld
  pointwise

/-- The incoming gradient, over a block's rows. -/
abbrev dy (m : (ℓ : Loc nD τ sig) → Buf (Elt Ideal) ℓ) (c : Dev nD) (t : Fin cfg0.N) : FVec Ideal S1024x1024 .f32 :=
  k0_pay14 (proj m c t) (k0_pay12 (iblk m c 0 t) (iblk m c 1 t) (iblk m c 2 t) (iblk m c 3 t) (iblk m c 4 t)
    (ld m c t 0 inb_S8x1024x256_S1x1024x256_0_0_0) (ld m c t 1 inb_S8x1024x256_S1x1024x256_1_0_0)
    (ld m c t 2 inb_S8x1024x256_S1x1024x256_2_0_0)) (k0_pay13 (iblk m c 0 t) (iblk m c 1 t) (iblk m c 2 t) (iblk m c 3 t))
    (ld m c t 3 inb_S8x1024x256_S1x1024x256_3_0_0) (ld m c t 4 inb_S8x1024x256_S1x1024x256_4_0_0)
    (ld m c t 5 inb_S8x1024x256_S1x1024x256_5_0_0) (ld m c t 6 inb_S8x1024x256_S1x1024x256_6_0_0)
    (ld m c t 7 inb_S8x1024x256_S1x1024x256_7_0_0)

theorem dy_blk (t : Fin cfg0.N) (i : Fin 1024) (j : Fin 1024) : dy m c t (ix2 i j) = ((a.data.dy (row t i) j : ℝ) : EReal) := by
  have e0 : ∀ (k : Fin 256) (hk : k.val < 2048), (⟨k.val, hk⟩ : Fin 2048) = col 0 k := fun k hk => Fin.ext (by simp [col, Rows.row])
  have hp := proj_blk h t i
  unfold dy
  unfold proj at hp ⊢
  generalize hs0 : ld m c t 0 _ = s0
  generalize hs1 : ld m c t 1 _ = s1
  generalize hs2 : ld m c t 2 _ = s2
  generalize hs3 : ld m c t 3 _ = s3
  generalize hs4 : ld m c t 4 _ = s4
  generalize hs5 : ld m c t 5 _ = s5
  generalize hs6 : ld m c t 6 _ = s6
  generalize hs7 : ld m c t 7 _ = s7
  pointwise [k0_pay14, k0_pay12, k0_pay13]
  subst hs0 hs1 hs2 hs3 hs4 hs5 hs6 hs7
  simp only [blk_dres h, hp, word_alpha, ld_w h t 0 _ _ _ (by decide), ld_w h t 1 _ _ _ (by decide), ld_w h t 2 _ _ _ (by decide),
    ld_w h t 3 _ _ _ (by decide), ld_w h t 4 _ _ _ (by decide), ld_w h t 5 _ _ _ (by decide), ld_w h t 6 _ _ _ (by decide),
    ld_w h t 7 _ _ _ (by decide), e0, ← EReal.coe_mul, coe_sum, ← EReal.coe_add]
  refine congrArg _ ?_
  refine Eq.trans ?_ (congrArg (alpha * a.dres (row t i) j + ·)
    (Rows.sum_eight (S := 256) rfl fun k => a.proj (row t i) k * a.w j k).symm)
  simp only [← add_assoc]
  rfl

theorem scale_blk (t : Fin cfg0.N) (j : Fin 1024) : k0_pay15 (iblk m c 7 t) (ix2 0 j) = ((a.data.g j : ℝ) : EReal) := by
  pointwise [k0_pay15]
  exact blk_g h t j

abbrev cenBlk (m : (ℓ : Loc nD τ sig) → Buf (Elt Ideal) ℓ) (c : Dev nD) (t : Fin cfg0.N) : FVec Ideal S1024x1024 .f32 :=
  k0_pay16 (k0_pay10 (iblk m c 5 t))
abbrev varBlk (m : (ℓ : Loc nD τ sig) → Buf (Elt Ideal) ℓ) (c : Dev nD) (t : Fin cfg0.N) : FVec Ideal S1024x1 .f32 :=
  k0_pay17 (k0_pay10 (iblk m c 5 t))

theorem cen_blk (t : Fin cfg0.N) (i : Fin 1024) (j : Fin 1024) :
    cenBlk m c t (ix2 i j) = ((cen (a.data.pre (row t i)) j : ℝ) : EReal) := by
  unfold cenBlk
  pointwise [k0_pay16, k0_pay10]
  simp only [blk_pre h, coe_sum, coe_mean, ← EReal.coe_sub]; rfl

theorem rstd_blk (t : Fin cfg0.N) (i : Fin 1024) :
    k0_pay1 (varBlk m c t) (Ideal.ofBits .f32 0x3727C5AC#32) (ix2 i 0) = ((rstd (a.data.pre (row t i)) : ℝ) : EReal) := by
  have hc := cen_blk h t
  unfold cenBlk at hc
  unfold varBlk
  pointwise [k0_pay1, k0_pay17]
  simp only [hc, ← EReal.coe_mul, coe_sum, coe_mean, word_lnEps, ← EReal.coe_add]
  exact coe_rsqrt _ (sigma_pos _)

theorem hat_blk (t : Fin cfg0.N) (i : Fin 1024) (j : Fin 1024) :
    k0_pay2 (cenBlk m c t) (varBlk m c t) (Ideal.ofBits .f32 0x3727C5AC#32) (ix2 i j)
      = ((hat (a.data.pre (row t i)) j : ℝ) : EReal) := by
  pointwise [k0_pay2]
  rw [cen_blk h, rstd_blk h, ← EReal.coe_mul]; rfl

theorem dpre_blk (t : Fin cfg0.N) (i : Fin 1024) (j : Fin 1024) :
    k0_pay3 (dy m c t) (k0_pay15 (iblk m c 7 t)) (cenBlk m c t) (varBlk m c t) (Ideal.ofBits .f32 0x3727C5AC#32) (ix2 i j)
      = ((a.data.dpre (row t i) j : ℝ) : EReal) := by
  have hdy := dy_blk h t
  have hr := rstd_blk h t
  have hh := hat_blk h t
  have hg := scale_blk h t
  generalize dy m c t = u at hdy ⊢
  generalize cenBlk m c t = v at hr hh ⊢
  generalize varBlk m c t = w at hr hh ⊢
  pointwise [k0_pay3]
  simp only [hdy, hr, hh, hg, ← EReal.coe_mul, coe_sum, coe_mean, ← EReal.coe_sub]; rfl

theorem final_dpre : (dats m 0 c).arrAt 8 cfg0.N = dpreArr a.data := by
  refine (dats m 0 c).arrAt_eq_of_covers 8 _ (by decide +kernel) fun t hf y => ?_
  blk_simp
  rw [after0_8]
  by_cases h0 : t.val % 8 = 0
  · rw [outsAt0_A m c t h0 (by have := lt_points t; omega)]
    frame_out
    idx_vars y
    rw [emb8]
    exact dpre_blk h t _ _
  · rw [outsAt0_B m c t h0 (by have := lt_points t; omega)]
    frame_out
    idx_vars y
    rw [emb8]
    exact dpre_blk h t _ _

/-- The scale's gradient. -/
theorem final_dg : (dats m 0 c).arrAt 9 cfg0.N = dgArr a.data := by
  have hpay : ∀ (t : Fin cfg0.N) (i), k0_pay4 (dy m c t) (cenBlk m c t) (varBlk m c t) (Ideal.ofBits .f32 0x3727C5AC#32) i
      = ((∑ k, a.data.dgTerm (row t k) (i 1) : ℝ) : EReal) := fun t i => by
    have hdy := dy_blk h t
    have hh := hat_blk h t
    generalize dy m c t = u at hdy ⊢
    generalize cenBlk m c t = v at hh ⊢
    generalize varBlk m c t = w at hh ⊢
    idx_vars i
    pointwise [k0_pay4]
    simp only [hdy, hh, ← EReal.coe_mul, coe_sum]; rfl
  refine (dats m 0 c).arrAt_eq_of_after_last 9 t0_7 (by decide +kernel) _ fun j => ?_
  blk_simp
  rw [after0_9, Rows.acc_sum (N := cfg0.N) (S := 1024) (M := 8192) 8 rfl (by decide) (fun n h => (outsAt0 m c n h).2.1) (fun r i => a.data.dgTerm r (i 1))
    (fun t h0 i => by
      rw [outsAt0_A m c t h0 (by have := lt_points t; omega)]; frame_out; exact hpay t i)
    (fun t h0 i => by
      rw [outsAt0_B m c t h0 (by have := lt_points t; omega)]; frame_out; rw [← hpay t i]; pointwise [k0_pay7]; rfl)
    t0_7 rfl]
  rfl

/-- The shift's gradient. -/
theorem final_db : (dats m 0 c).arrAt 10 cfg0.N = dbArr a.data := by
  have hpay : ∀ (t : Fin cfg0.N) (i), k0_pay5 (dy m c t) i = ((∑ k, a.data.dy (row t k) (i 1) : ℝ) : EReal) := fun t i => by
    have hdy := dy_blk h t
    generalize dy m c t = u at hdy ⊢
    idx_vars i
    pointwise [k0_pay5]
    simp only [hdy, coe_sum]
  refine (dats m 0 c).arrAt_eq_of_after_last 10 t0_7 (by decide +kernel) _ fun j => ?_
  blk_simp
  rw [after0_10, Rows.acc_sum (N := cfg0.N) (S := 1024) (M := 8192) 8 rfl (by decide) (fun n h => (outsAt0 m c n h).2.2.1) (fun r i => a.data.dy r (i 1))
    (fun t h0 i => by
      rw [outsAt0_A m c t h0 (by have := lt_points t; omega)]; frame_out; exact hpay t i)
    (fun t h0 i => by
      rw [outsAt0_B m c t h0 (by have := lt_points t; omega)]; frame_out; rw [← hpay t i]; pointwise [k0_pay8]; rfl)
    t0_7 rfl]
  rfl

/-- The bias's gradient. -/
theorem final_dbias : (dats m 0 c).arrAt 11 cfg0.N = dbiasArr a.data := by
  have hpay : ∀ (t : Fin cfg0.N) (i), k0_pay6 (dy m c t) (k0_pay15 (iblk m c 7 t)) (cenBlk m c t) (varBlk m c t)
      (Ideal.ofBits .f32 0x3727C5AC#32) i = ((∑ k, a.data.dpre (row t k) (i 1) : ℝ) : EReal) := fun t i => by
    have hd := dpre_blk h t
    generalize dy m c t = u at hd ⊢
    generalize cenBlk m c t = v at hd ⊢
    generalize varBlk m c t = w at hd ⊢
    idx_vars i
    unfold k0_pay6
    pointwise
    simp only [hd, coe_sum]
  refine (dats m 0 c).arrAt_eq_of_after_last 11 t0_7 (by decide +kernel) _ fun j => ?_
  blk_simp
  rw [after0_11, Rows.acc_sum (N := cfg0.N) (S := 1024) (M := 8192) 8 rfl (by decide) (fun n h => (outsAt0 m c n h).2.2.2) (fun r i => a.data.dpre r (i 1))
    (fun t h0 i => by
      rw [outsAt0_A m c t h0 (by have := lt_points t; omega)]; frame_out; exact hpay t i)
    (fun t h0 i => by
      rw [outsAt0_B m c t h0 (by have := lt_points t; omega)]; frame_out; rw [← hpay t i]; pointwise [k0_pay9]; rfl)
    t0_7 rfl]
  rfl

end Cert.In.Kernel

end
-- ==== Proof.In.Reference.lean ====
/-
  What the reference of the gradients through the layer norm before the input projection computes.
-/
module

public import proofs.«01_k».proof.Proof.Gen.InRIdeal.Read
public import proofs.«01_k».proof.Proof.In.Spec
public import Idealize.ShloMosaic.Lib.Pointwise

@[expose] public section

set_option maxRecDepth 16384

noncomputable section

namespace Cert.In.Reference

open Idealize.ShloMosaic Cert.InRIdeal Cert.InRIdeal.Read
open Cert.Reals Cert.LayerNorm Cert.NormGrad

variable {x0 : Wide} {x1 x2 x3 : Row} {x4 : Weight} {x5 x6 x7 x8 : Part} {x9 : Wide} {a : Args}
  (h : Holds x0 x1 x2 x3 x4 x5 x6 x7 x8 x9 a)
include h

/-! The layer norm of the rows. -/

theorem pre_eq (r : Fin 8192) (j : Fin 1024) : val_main_v2 (F := Ideal) x0 x1 (ix2 r j) = ((a.data.pre r j : ℝ) : EReal) := by
  pointwise [val_main_v2, val_main_v1, val_main_v0]
  rw [h.z, h.bias, ← EReal.coe_add]; rfl

theorem mean_eq (r : Fin 8192) : val_main_v6 (F := Ideal) x0 x1 (ix2 r 0) = ((mean (a.data.pre r) : ℝ) : EReal) := by
  pointwise [val_main_v6, val_main_v5, val_main_v4, val_main_v3, val_main_cst, val_main_cst_0]
  simp only [pre_eq h, coe_sum, coe_mean]; rfl

theorem cen_eq (r : Fin 8192) (j : Fin 1024) : val_main_v8 (F := Ideal) x0 x1 (ix2 r j) = ((cen (a.data.pre r) j : ℝ) : EReal) := by
  pointwise [val_main_v8, val_main_v7]
  rw [pre_eq h, mean_eq h, ← EReal.coe_sub]; rfl

theorem cen_eq' (r : Fin 8192) (j : Fin 1024) : val_main_v17 (F := Ideal) x0 x1 (ix2 r j) = ((cen (a.data.pre r) j : ℝ) : EReal) := by
  pointwise [val_main_v17, val_main_v16]
  rw [pre_eq h, mean_eq h, ← EReal.coe_sub]; rfl

theorem sigma_eq (r : Fin 8192) : val_main_v19 (F := Ideal) x0 x1 (ix2 r 0) = ((sigma (a.data.pre r) : ℝ) : EReal) := by
  pointwise [val_main_v19, val_main_v18, val_main_v15, val_main_v14, val_main_v13, val_main_v12, val_main_v9, val_main_cst_2,
    val_main_cst_3, val_main_cst_4]
  simp only [cen_eq h, ← EReal.coe_mul, coe_sum, coe_mean, word_lnEps, ← EReal.coe_add]; rfl

theorem rstd_eq (r : Fin 8192) : val_main_v20 (F := Ideal) x0 x1 (ix2 r 0) = ((rstd (a.data.pre r) : ℝ) : EReal) := by
  pointwise [val_main_v20]
  rw [sigma_eq h]; exact coe_rsqrt _ (sigma_pos _)

theorem hat_eq (r : Fin 8192) (j : Fin 1024) : val_main_v25 (F := Ideal) x0 x1 (ix2 r j) = ((hat (a.data.pre r) j : ℝ) : EReal) := by
  pointwise [val_main_v25, val_main_v24]
  rw [cen_eq' h, rstd_eq h, ← EReal.coe_mul]; rfl

/-! The gradients. -/

theorem proj_eq (r : Fin 8192) (k : Fin 2048) : val_main_v47 (F := Ideal) x5 x6 x7 x8 (ix2 r k) = ((a.proj r k : ℝ) : EReal) := by
  have hk := k.isLt
  pointwise [val_main_v47, val_main_v46, val_main_v45, val_main_v44, val_main_v43, val_main_v42, val_main_v41, val_main_cst_8,
    val_main_cst_9, val_main_cst_10, val_main_cst_11]
  split_ifs <;> first | omega | simp only [h.q, h.k, h.v, h.u, zero_add, add_zero]
  · exact congrArg _ (a.proj_of 3 r k _ (by simp; omega)).symm
  · exact congrArg _ (a.proj_of 2 r k _ (by simp; omega)).symm
  · exact congrArg _ (a.proj_of 1 r k _ (by simp; omega)).symm
  · exact congrArg _ (a.proj_of 0 r k _ (by simp)).symm

theorem dy_eq (r : Fin 8192) (j : Fin 1024) : val_main_v49 (F := Ideal) x4 x5 x6 x7 x8 x9 (ix2 r j) = ((a.data.dy r j : ℝ) : EReal) := by
  pointwise [val_main_v49, val_main_v48, val_main_v40, val_main_v39, val_main_cst_7]
  simp only [h.dres, proj_eq h, h.w, word_alpha, ← EReal.coe_mul, coe_sum, ← EReal.coe_add]; rfl

theorem dyg_eq (r : Fin 8192) (j : Fin 1024) : val_main_v57 (F := Ideal) x2 x4 x5 x6 x7 x8 x9 (ix2 r j) = ((a.data.dyg r j : ℝ) : EReal) := by
  pointwise [val_main_v57, val_main_v56, val_main_v26]
  rw [dy_eq h, h.g, ← EReal.coe_mul]; rfl

/-- The gradient through the variance, per row. -/
theorem var_eq (r : Fin 8192) : val_main_v64 (F := Ideal) x0 x1 x2 x4 x5 x6 x7 x8 x9 (ix2 r 0)
    = (((∑ k, cen (a.data.pre r) k * a.data.dyg r k) * (-(1 / 2) * (rstd (a.data.pre r) / sigma (a.data.pre r))) : ℝ) : EReal) := by
  pointwise [val_main_v64, val_main_v61, val_main_v60, val_main_v59, val_main_v23, val_main_v22, val_main_v21, val_main_cst_5,
    val_main_cst_16]
  simp only [dyg_eq h, cen_eq' h, sigma_eq h, rstd_eq h, word_neg_half, coe_div _ _ (sigma_pos (a.data.pre r)).ne', coe_sum, ← EReal.coe_mul]

theorem dpre_eq (r : Fin 8192) (j : Fin 1024) : val_main_v82 (F := Ideal) x0 x1 x2 x4 x5 x6 x7 x8 x9 (ix2 r j) = ((a.data.dpre r j : ℝ) : EReal) := by
  pointwise [val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65,
    val_main_v63, val_main_v62, val_main_v11, val_main_v10, val_main_cst_1, val_main_cst_17, val_main_cst_18, val_main_cst_19, val_main_cst_20, val_main_cst_21, val_main_cst_22]
  simp only [Fin.sum_univ_one, var_eq h, dyg_eq h, cen_eq h, rstd_eq h, word_two, coe_mean, coe_sum, ← EReal.coe_mul, ← EReal.coe_neg, ← EReal.coe_add]
  exact congrArg _ (grad_steps _ _ _)

theorem dpreArr_eq : val_main_v82 (F := Ideal) x0 x1 x2 x4 x5 x6 x7 x8 x9 = dpreArr a.data := by
  funext i; idx_vars i; exact dpre_eq h _ _
theorem dgArr_eq : val_main_v86 (F := Ideal) x0 x1 x4 x5 x6 x7 x8 x9 = dgArr a.data := by
  funext i; idx_vars i
  pointwise [dgArr, rowArr, val_main_v86, val_main_v58, val_main_v55, val_main_v54, val_main_v53, val_main_cst_14, val_main_cst_15]
  simp only [Fin.sum_univ_one, hat_eq h, dy_eq h, ← EReal.coe_mul, coe_sum, Data.dgTerm, mul_comm]
theorem dbArr_eq : val_main_v87 (F := Ideal) x4 x5 x6 x7 x8 x9 = dbArr a.data := by
  funext i; idx_vars i
  pointwise [dbArr, rowArr, val_main_v87, val_main_v52, val_main_v51, val_main_v50, val_main_cst_12, val_main_cst_13]
  simp only [Fin.sum_univ_one, dy_eq h, coe_sum]
theorem dbiasArr_eq : val_main_v88 (F := Ideal) x0 x1 x2 x4 x5 x6 x7 x8 x9 = dbiasArr a.data := by
  funext i; idx_vars i
  pointwise [dbiasArr, rowArr, val_main_v88, val_main_v85, val_main_v84, val_main_v83, val_main_cst_23, val_main_cst_24]
  simp only [Fin.sum_univ_one, dpre_eq h, coe_sum]

end Cert.In.Reference

end
-- ==== Proof.In.Claims.lean ====
/-
  The claims about the backward call through the layer norm before the input projection: its runs end quietly with the
  arguments unchanged, and on finite arguments it returns the gradients that differentiating the forward lines gives.
-/
module

public import proofs.«01_k».proof.Defs
public import proofs.«01_k».proof.Proof.Gen.InK.Frame
public import proofs.«01_k».proof.Proof.Gen.InRIdeal.Run
public import proofs.«01_k».proof.Proof.Gen.Pre_in_finite
public import proofs.«01_k».proof.Proof.In.Kernel
public import proofs.«01_k».proof.Proof.In.Reference
public import Idealize.ShloMosaic.Lib.Quiescent

@[expose] public section

set_option maxRecDepth 16384

noncomputable section

namespace Cert.In.Claims

open Idealize.ShloMosaic Idealize.SL.Sem Cert.Reals Cert.NormGrad

theorem frame_kernel : Cert.quiescent_InK := fun m ρ _ => Cert.InK.Gen.frame m ρ
theorem frame_ideal : Cert.quiescent_InKIdeal := fun m ρ _ => Cert.InKIdeal.Gen.frame m ρ
theorem frame_ideal_pre : Cert.quiescent_InKIdeal_pre_in_finite := fun m ρ _ => Cert.InKIdeal.Gen.frame m ρ
theorem frame_reference : Cert.quiescent_InRIdeal := fun m ρ _ =>
  (θ_run Cert.InRIdeal.defs _ _).mono (fun r h => ⟨fun c => (h c).2.2.2.2, sem_eq_zero_of_no_sems (by decide) r.2⟩)
    (Cert.InRIdeal.Value.run (F := Ideal) m ρ)
theorem frame_reference_pre : Cert.quiescent_InRIdeal_pre_in_finite := fun m ρ _ => frame_reference m ρ trivial
theorem preserves : Cert.preserves_InK_InKIdeal := trivial

/-- Finite arguments are the casts of their reals. -/
theorem holds_of_finite (x0 : Wide) (x1 : Row) (x2 : Row) (x3 : Row) (x4 : Weight) (x5 : Part) (x6 : Part) (x7 : Part) (x8 : Part) (x9 : Wide)
    (h : (Cert.Pre_in_finite.fn (F := Ideal) x0 x1 x2 x3 x4 x5 x6 x7 x8 x9).1 = (fun _ => 1#1)
      ∧ (Cert.Pre_in_finite.fn (F := Ideal) x0 x1 x2 x3 x4 x5 x6 x7 x8 x9).2.1 = (fun _ => 1#1)
      ∧ (Cert.Pre_in_finite.fn (F := Ideal) x0 x1 x2 x3 x4 x5 x6 x7 x8 x9).2.2.1 = (fun _ => 1#1)
      ∧ (Cert.Pre_in_finite.fn (F := Ideal) x0 x1 x2 x3 x4 x5 x6 x7 x8 x9).2.2.2.1 = (fun _ => 1#1)
      ∧ (Cert.Pre_in_finite.fn (F := Ideal) x0 x1 x2 x3 x4 x5 x6 x7 x8 x9).2.2.2.2.1 = (fun _ => 1#1)
      ∧ (Cert.Pre_in_finite.fn (F := Ideal) x0 x1 x2 x3 x4 x5 x6 x7 x8 x9).2.2.2.2.2.1 = (fun _ => 1#1)
      ∧ (Cert.Pre_in_finite.fn (F := Ideal) x0 x1 x2 x3 x4 x5 x6 x7 x8 x9).2.2.2.2.2.2.1 = (fun _ => 1#1)
      ∧ (Cert.Pre_in_finite.fn (F := Ideal) x0 x1 x2 x3 x4 x5 x6 x7 x8 x9).2.2.2.2.2.2.2.1 = (fun _ => 1#1)
      ∧ (Cert.Pre_in_finite.fn (F := Ideal) x0 x1 x2 x3 x4 x5 x6 x7 x8 x9).2.2.2.2.2.2.2.2.1 = (fun _ => 1#1)
      ∧ (Cert.Pre_in_finite.fn (F := Ideal) x0 x1 x2 x3 x4 x5 x6 x7 x8 x9).2.2.2.2.2.2.2.2.2 = (fun _ => 1#1)) :
    ∃ a, Holds x0 x1 x2 x3 x4 x5 x6 x7 x8 x9 a := by
  obtain ⟨h0, h1, h2, h3, h4, h5, h6, h7, h8, h9⟩ := h
  refine ⟨⟨fun r j => EReal.toReal (x0 (ix2 r j)), fun j => EReal.toReal (x1 (ix1 j)), fun j => EReal.toReal (x2 (ix1 j)), fun j => EReal.toReal (x3 (ix1 j)), fun r j => EReal.toReal (x4 (ix2 r j)), fun s r j => EReal.toReal ((![x5, x6, x7, x8] : Fin 4 → Part) s (ix2 r j)), fun r j => EReal.toReal (x9 (ix2 r j))⟩,
    fun r j => real_of_abs_lt _ ?_, fun j => real_of_abs_lt _ ?_, fun j => real_of_abs_lt _ ?_, fun j => real_of_abs_lt _ ?_, fun r j => real_of_abs_lt _ ?_, fun r j => real_of_abs_lt _ ?_, fun r j => real_of_abs_lt _ ?_, fun r j => real_of_abs_lt _ ?_, fun r j => real_of_abs_lt _ ?_, fun r j => real_of_abs_lt _ ?_⟩
    <;> rw [← word_inf]
  · exact congrFun h0 (ix2 r j)
  · exact congrFun h1 (ix1 j)
  · exact congrFun h2 (ix1 j)
  · exact congrFun h3 (ix1 j)
  · exact congrFun h4 (ix2 r j)
  · exact congrFun h5 (ix2 r j)
  · exact congrFun h6 (ix2 r j)
  · exact congrFun h7 (ix2 r j)
  · exact congrFun h8 (ix2 r j)
  · exact congrFun h9 (ix2 r j)

theorem algebraic : Cert.algebraic_InKIdeal_InRIdeal_pre_in_finite := by
  intro m ρ m' ρ' hpre hagree
  choose a hm using fun c => holds_of_finite _ _ _ _ _ _ _ _ _ _ (hpre c)
  have hm' c : Holds (m' (c, Proc.tc.devRef InRIdeal.main_arg0))
        (m' (c, Proc.tc.devRef InRIdeal.main_arg1))
        (m' (c, Proc.tc.devRef InRIdeal.main_arg2))
        (m' (c, Proc.tc.devRef InRIdeal.main_arg3))
        (m' (c, Proc.tc.devRef InRIdeal.main_arg4))
        (m' (c, Proc.tc.devRef InRIdeal.main_arg5))
        (m' (c, Proc.tc.devRef InRIdeal.main_arg6))
        (m' (c, Proc.tc.devRef InRIdeal.main_arg7))
        (m' (c, Proc.tc.devRef InRIdeal.main_arg8))
        (m' (c, Proc.tc.devRef InRIdeal.main_arg9)) (a c) := by
    obtain ⟨e0, e1, e2, e3, e4, e5, e6, e7, e8, e9⟩ := hagree c
    exact e0 ▸ e1 ▸ e2 ▸ e3 ▸ e4 ▸ e5 ▸ e6 ▸ e7 ▸ e8 ▸ e9 ▸ hm c
  refine ⟨fun c => dpreArr (a c).data, fun c => dgArr (a c).data, fun c => dbArr (a c).data, fun c => dbiasArr (a c).data, ?_, ?_⟩
  · exact (θ_run Cert.InKIdeal.defs _ _).mono
      (fun r h c => ⟨(h c).1.trans (Kernel.final_dpre (hm c)),
        (h c).2.1.trans (Kernel.final_dg (hm c)),
        (h c).2.2.1.trans (Kernel.final_db (hm c)),
        (h c).2.2.2.1.trans (Kernel.final_dbias (hm c)), (h c).2.2.2.2⟩)
      (Cert.InKIdeal.Value.run_blocks (F := Ideal) m ρ)
  · exact (θ_run Cert.InRIdeal.defs _ _).mono
      (fun r h c => ⟨((h c).1.trans (Cert.InRIdeal.Read.val_main_v82_eq _ _)).trans (Reference.dpreArr_eq (hm' c)),
        ((h c).2.1.trans (Cert.InRIdeal.Read.val_main_v86_eq _ _ _ _ _ _ _ _)).trans (Reference.dgArr_eq (hm' c)),
        ((h c).2.2.1.trans (Cert.InRIdeal.Read.val_main_v87_eq _ _ _ _ _ _)).trans (Reference.dbArr_eq (hm' c)),
        ((h c).2.2.2.1.trans (Cert.InRIdeal.Read.val_main_v88_eq _ _)).trans (Reference.dbiasArr_eq (hm' c)), (h c).2.2.2.2⟩)
      (Cert.InRIdeal.Value.run (F := Ideal) m' ρ')

end Cert.In.Claims

end
-- ==== Proof.RmsNorm.lean ====
/-
  Root mean square norm over a row of 512 reals and its gradient, as real mathematics: the closed form a hand-written
  backward pass computes is what differentiating the mean square and the reciprocal root one after another gives.
-/
module

public import proofs.«01_k».proof.Proof.Reals

@[expose] public section

noncomputable section

namespace Cert.RmsNorm

open Idealize.ShloMosaic Cert.Reals

/-- The norm's epsilon, as the float every program writes. -/
def rmsEps : ℝ := 8796093 / 2 ^ 43
theorem rmsEps_pos : 0 < rmsEps := by unfold rmsEps; norm_num
theorem word_rmsEps : Ideal.ofBits .f32 0x358637BD#32 = (rmsEps : EReal) := by
  unfold rmsEps
  simp [Ideal.ofBits, Ideal.ieee, -EReal.coe_mul]; norm_num

/-- A sum of 512 values over their number. -/
theorem coe_mean512 (x : ℝ) : Ideal.div (x : EReal) (Ideal.ofBits .f32 0x44000000#32) = ((x / 512 : ℝ) : EReal) := by
  rw [word_512, coe_div _ _ (by norm_num)]

variable (x u : Fin 512 → ℝ)

def meanSq : ℝ := (∑ k, x k * x k) / 512 + rmsEps
/-- One over the root mean square. -/
def rinv : ℝ := (√(meanSq x))⁻¹
/-- The gradient with respect to the row; `u` is the incoming gradient times the scale. -/
def grad (j : Fin 512) : ℝ := u j * rinv x - x j * (rinv x * rinv x * rinv x) * ((∑ k, u k * x k) / 512)

theorem meanSq_pos : 0 < meanSq x := by
  have := Finset.sum_nonneg (s := Finset.univ) (f := fun k => x k * x k) fun k _ => mul_self_nonneg _
  have := rmsEps_pos
  unfold meanSq; positivity

/-- The gradient collected operation by operation. -/
theorem grad_steps (j : Fin 512) :
    u j * rinv x + (∑ k, x k * u k) * (-(1 / 2) * (rinv x / meanSq x)) / 512 * (2 * x j) = grad x u j := by
  have h : rinv x * rinv x = (meanSq x)⁻¹ := by
    unfold rinv; rw [← mul_inv, Real.mul_self_sqrt (meanSq_pos x).le]
  rw [div_eq_mul_inv (rinv x), ← h]
  unfold grad
  simp only [mul_comm (u _) (x _)]
  ring

end Cert.RmsNorm

end
-- ==== Proof.Gelu.lean ====
/-
  The smooth unit `y/2 · (1 + tanh(c·(y + a·y³)))` on the reals, its derivative, the logistic function, and the constants
  both programs write for them.
-/
module

public import proofs.«01_k».proof.Proof.Reals

@[expose] public section

noncomputable section

namespace Cert.Gelu

open Idealize.ShloMosaic Cert.Reals

/-- `√(2/π)` as the float every program writes. -/
def c : ℝ := 13386282 / 2 ^ 24
/-- The cubic coefficient, as the decimal the programs are written with. -/
def a : ℝ := 8943 / 200000
theorem word_c : Ideal.ofBits .f32 0x3F4C422A#32 = (c : EReal) := by
  unfold c
  simp [Ideal.ofBits, Ideal.ieee, -EReal.coe_mul]; norm_num
theorem word_three : Ideal.ofBits .f32 0x40400000#32 = ((3 : ℝ) : EReal) := by
  simp [Ideal.ofBits, Ideal.ieee, -EReal.coe_mul]; norm_num

def th (y : ℝ) : ℝ := Real.tanh (c * (y + a * (y * y * y)))
def gelu (y : ℝ) : ℝ := 1 / 2 * y * (1 + th y)
def gelu' (y : ℝ) : ℝ := 1 / 2 * (1 + th y) + 1 / 2 * y * (1 - th y * th y) * (c * (1 + 26829 / 200000 * y * y))

theorem coe_tanh (x : ℝ) : Ideal.tanh (x : EReal) = ((Real.tanh x : ℝ) : EReal) := rfl
theorem coe_one_sub (x : ℝ) : (1 : EReal) - (x : EReal) = ((1 - x : ℝ) : EReal) := by rw [EReal.coe_sub, EReal.coe_one]

/-- The logistic function. -/
def sig (x : ℝ) : ℝ := (1 + Real.exp (-x))⁻¹
theorem coe_sig (x : ℝ) : Ideal.logistic (x : EReal) = ((sig x : ℝ) : EReal) := Ideal.logistic_coe ..

/-- The unit's gradient collected operation by operation. -/
theorem gelu_steps (d y : ℝ) :
    d * (1 / 2 * (1 + th y)) + c * (1 / 2 * (y * d) * ((1 + th y) * (1 - th y)))
      + a * (c * (1 / 2 * (y * d) * ((1 + th y) * (1 - th y)))) * (y * y * 3) = d * gelu' y := by
  unfold gelu' a; ring

end Cert.Gelu

end
-- ==== Proof.Mix.Spec.lean ====
/-
  The gradients through the mixer's output product, its two root mean square norms and the gated smooth unit, as real
  mathematics. The gate's argument is `gelu(yp)` times the gate's weight plus its bias; the unit's output times the
  gate's logistic value goes into the second norm, the attention's output into the first.
-/
module

public import proofs.«01_k».proof.Proof.RmsNorm
public import proofs.«01_k».proof.Proof.Gelu

@[expose] public section

noncomputable section

namespace Cert.Mix

open Idealize.ShloMosaic Cert.Reals Cert.RmsNorm Cert.Gelu

abbrev Half := FVec Ideal ⟨2, ![8192, 512]⟩ .f32
abbrev Square := FVec Ideal ⟨2, ![512, 512]⟩ .f32
abbrev Row := FVec Ideal ⟨1, ![512]⟩ .f32
abbrev Weight := FVec Ideal ⟨2, ![1024, 1024]⟩ .f32
abbrev Wide := FVec Ideal ⟨2, ![8192, 1024]⟩ .f32

/-- The call's arguments, as reals. -/
structure Args where
  at' : Fin 8192 → Fin 512 → ℝ
  yp : Fin 8192 → Fin 512 → ℝ
  wg : Fin 512 → Fin 512 → ℝ
  bg : Fin 512 → ℝ
  ga : Fin 512 → ℝ
  gs : Fin 512 → ℝ
  wo : Fin 1024 → Fin 1024 → ℝ
  dp : Fin 8192 → Fin 1024 → ℝ

/-- The arrays a program is given are the reals of `a`. -/
structure Holds (x0 x1 : Half) (x2 : Square) (x3 x4 x5 : Row) (x6 : Weight) (x7 : Wide) (a : Args) : Prop where
  at' : ∀ r j, x0 (ix2 r j) = ((a.at' r j : ℝ) : EReal)
  yp : ∀ r j, x1 (ix2 r j) = ((a.yp r j : ℝ) : EReal)
  wg : ∀ r j, x2 (ix2 r j) = ((a.wg r j : ℝ) : EReal)
  bg : ∀ j, x3 (ix1 j) = ((a.bg j : ℝ) : EReal)
  ga : ∀ j, x4 (ix1 j) = ((a.ga j : ℝ) : EReal)
  gs : ∀ j, x5 (ix1 j) = ((a.gs j : ℝ) : EReal)
  wo : ∀ r j, x6 (ix2 r j) = ((a.wo r j : ℝ) : EReal)
  dp : ∀ r j, x7 (ix2 r j) = ((a.dp r j : ℝ) : EReal)

namespace Args

variable (a : Args)

/-- The gradient of the two norms' outputs, side by side. -/
def dmixed (r : Fin 8192) (j : Fin 1024) : ℝ := ∑ k, a.dp r k * a.wo j k
def dma (r : Fin 8192) (j : Fin 512) : ℝ := a.dmixed r ⟨j.val, by have := j.isLt; omega⟩
def dms (r : Fin 8192) (j : Fin 512) : ℝ := a.dmixed r ⟨512 + j.val, by have := j.isLt; omega⟩
/-- The unit, the gate and their product. -/
def g (r : Fin 8192) (j : Fin 512) : ℝ := gelu (a.yp r j)
def gate (r : Fin 8192) (j : Fin 512) : ℝ := sig (∑ k, a.g r k * a.wg k j + a.bg j)
def ssm (r : Fin 8192) (j : Fin 512) : ℝ := a.g r j * a.gate r j
/-- The gradients. -/
def dat (r : Fin 8192) : Fin 512 → ℝ := grad (a.at' r) fun j => a.dma r j * a.ga j
def dssm (r : Fin 8192) : Fin 512 → ℝ := grad (a.ssm r) fun j => a.dms r j * a.gs j
def dz (r : Fin 8192) (j : Fin 512) : ℝ := a.dssm r j * a.g r j * a.gate r j * (1 - a.gate r j)
def dg (r : Fin 8192) (j : Fin 512) : ℝ := a.dssm r j * a.gate r j + ∑ k, a.dz r k * a.wg j k
def dyp (r : Fin 8192) (j : Fin 512) : ℝ := a.dg r j * gelu' (a.yp r j)
def dgaTerm (r : Fin 8192) (j : Fin 512) : ℝ := a.dma r j * a.at' r j * rinv (a.at' r)
def dgsTerm (r : Fin 8192) (j : Fin 512) : ℝ := a.dms r j * a.ssm r j * rinv (a.ssm r)

end Args

/-- A gradient per entry, and one summed over the rows, as arrays. -/
abbrev halfArr (φ : FTy) (f : Fin 8192 → Fin 512 → ℝ) : FVec Ideal ⟨2, ![8192, 512]⟩ φ := fun i => ((f (i 0) (i 1) : ℝ) : EReal)
abbrev rowArr (f : Fin 512 → ℝ) : FVec Ideal ⟨2, ![1, 512]⟩ .f32 := fun i => ((f (i 1) : ℝ) : EReal)
def datArr (a : Args) := halfArr .f32 a.dat
def dypArr (a : Args) := halfArr .f32 a.dyp
def dzArr (a : Args) := halfArr .bf16 a.dz
def dgaArr (a : Args) := rowArr fun j => ∑ r, a.dgaTerm r j
def dgsArr (a : Args) := rowArr fun j => ∑ r, a.dgsTerm r j
def dbArr (a : Args) := rowArr fun j => ∑ r, a.dz r j

end Cert.Mix

end
-- ==== Proof.Mix.Kernel.lean ====
/-
  What the kernel of the gradients through the mixer leaves in its six results: each grid point takes 1024 rows and
  writes their gradients; the three summed gradients are collected over the points.
-/
module

public import proofs.«01_k».proof.Proof.Gen.MixKIdeal.Value
public import proofs.«01_k».proof.Proof.Mix.Spec
public import proofs.«01_k».proof.Proof.Rows
public import Idealize.ShloMosaic.Lib.Pipeline.ValueKit
public import Idealize.ShloMosaic.Lib.StableHlo.ReadAt

@[expose] public section
set_option maxRecDepth 16384
noncomputable section
namespace Cert.Mix.Kernel
open Idealize.ShloMosaic Idealize.SL.Sem Cert.MixKIdeal Cert.MixKIdeal.Gen
open Idealize.ShloMosaic.TcCoe
open Idealize.ShloMosaic.Pipeline (Dat)
open Cert.Reals Cert.RmsNorm Cert.Gelu

variable (m : (ℓ : Loc nD τ sig) → Buf (Elt Ideal) ℓ) (c : Dev nD) (a : Args)

/-- The program's arguments on this device are the reals of `a`. -/
abbrev Given : Prop :=
  Holds (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5))
    (m (c, Proc.tc.devRef main_arg6)) (m (c, Proc.tc.devRef main_arg7)) a

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0] :=
  (by decide +kernel : ∀ t : Fin grid0.N, _)

/-- Row `i` of block `t` of the arrays. -/
abbrev row (t : Fin cfg0.N) (i : Fin 1024) : Fin 8192 := Rows.row (N := cfg0.N) (S := 1024) rfl t i
theorem lt_points (t : Fin cfg0.N) : t.val < 8 := t.isLt

theorem emb8 (t : Fin cfg0.N) (i : Fin 1024) (j : Fin 512) :
    ((View.whole main_v5_0).slice (win0_8.rect t)).emb (ix2 i j) = ix2 (row t i) j := by
  blk_ext [idx t, row, Rows.row]
theorem emb9 (t : Fin cfg0.N) (i : Fin 1024) (j : Fin 512) :
    ((View.whole main_v5_1).slice (win0_9.rect t)).emb (ix2 i j) = ix2 (row t i) j := by
  blk_ext [idx t, row, Rows.row]
theorem emb10 (t : Fin cfg0.N) (i : Fin 1024) (j : Fin 512) :
    ((View.whole main_v5_2).slice (win0_10.rect t)).emb (ix2 i j) = ix2 (row t i) j := by
  blk_ext [idx t, row, Rows.row]

/-- The named constants, and one minus a real. -/
theorem named_a : Named.named (F := Ideal) κ "gelu_a" (φ := .f32) 0x3D372713#32 = ((Gelu.a : ℝ) : EReal) :=
  IdealRules.named_const.ideal_named_scalar _ _ _ _ rfl
theorem named_a3 : Named.named (F := Ideal) κ "gelu_a3" (φ := .f32) 0x3E095D4F#32 = ((26829 / 200000 : ℝ) : EReal) :=
  IdealRules.named_const.ideal_named_scalar _ _ _ _ rfl

variable {m c a} (h : Given m c a)
include h

/-! What the kernel is given. -/

theorem blk_dp (t : Fin cfg0.N) (i : Fin 1024) (j : Fin 1024) : iblk m c 0 t (ix2 i j) = ((a.dp (row t i) j : ℝ) : EReal) := by
  have e : V m c main_arg7 (ix2 (row t i) j) = ((a.dp (row t i) j : ℝ) : EReal) := by unfold V; after_reads_at; rw [h.dp]
  rw [← e]; blk_ext [iblk, idx t, row, Rows.row]
theorem blk_at (t : Fin cfg0.N) (i : Fin 1024) (j : Fin 512) : iblk m c 1 t (ix2 i j) = ((a.at' (row t i) j : ℝ) : EReal) := by
  have e : V m c main_arg0 (ix2 (row t i) j) = ((a.at' (row t i) j : ℝ) : EReal) := by unfold V; after_reads_at; rw [h.at']
  rw [← e]; blk_ext [iblk, idx t, row, Rows.row]
theorem blk_yp (t : Fin cfg0.N) (i : Fin 1024) (j : Fin 512) : iblk m c 2 t (ix2 i j) = ((a.yp (row t i) j : ℝ) : EReal) := by
  have e : V m c main_arg1 (ix2 (row t i) j) = ((a.yp (row t i) j : ℝ) : EReal) := by unfold V; after_reads_at; rw [h.yp]
  rw [← e]; blk_ext [iblk, idx t, row, Rows.row]
theorem blk_wo (t : Fin cfg0.N) (i : Fin 1024) (j : Fin 1024) : iblk m c 3 t (ix2 i j) = ((a.wo i j : ℝ) : EReal) := by
  have e : V m c main_v0 (ix2 i j) = ((a.wo i j : ℝ) : EReal) := by unfold V; after_reads_at; rw [h.wo]
  rw [← e]; blk_ext [iblk, idx t]
theorem blk_wg (t : Fin cfg0.N) (i : Fin 512) (j : Fin 512) : iblk m c 4 t (ix2 i j) = ((a.wg i j : ℝ) : EReal) := by
  have e : V m c main_v1 (ix2 i j) = ((a.wg i j : ℝ) : EReal) := by unfold V; after_reads_at; rw [h.wg]
  rw [← e]; blk_ext [iblk, idx t]
theorem blk_bg (t : Fin cfg0.N) (j : Fin 512) : iblk m c 5 t (ix2 0 j) = ((a.bg j : ℝ) : EReal) := by
  have e : V m c main_v2 (ix2 0 j) = ((a.bg j : ℝ) : EReal) := by unfold V; after_reads_at; rw [h.bg]
  rw [← e]; blk_ext [iblk, idx t]
theorem blk_ga (t : Fin cfg0.N) (j : Fin 512) : iblk m c 6 t (ix2 0 j) = ((a.ga j : ℝ) : EReal) := by
  have e : V m c main_v3 (ix2 0 j) = ((a.ga j : ℝ) : EReal) := by unfold V; after_reads_at; rw [h.ga]
  rw [← e]; blk_ext [iblk, idx t]
theorem blk_gs (t : Fin cfg0.N) (j : Fin 512) : iblk m c 7 t (ix2 0 j) = ((a.gs j : ℝ) : EReal) := by
  have e : V m c main_v4 (ix2 0 j) = ((a.gs j : ℝ) : EReal) := by unfold V; after_reads_at; rw [h.gs]
  rw [← e]; blk_ext [iblk, idx t]

/-! What the payloads compute of one block. -/

abbrev gB (m : (ℓ : Loc nD τ sig) → Buf (Elt Ideal) ℓ) (c : Dev nD) (t : Fin cfg0.N) : FVec Ideal S1024x512 .f32 := k0_pay8 (iblk m c 2 t)
abbrev gateB (m : (ℓ : Loc nD τ sig) → Buf (Elt Ideal) ℓ) (c : Dev nD) (t : Fin cfg0.N) : FVec Ideal S1024x512 .f32 :=
  k0_pay9 (iblk m c 2 t) (iblk m c 4 t) (iblk m c 5 t)
abbrev ssmB (m : (ℓ : Loc nD τ sig) → Buf (Elt Ideal) ℓ) (c : Dev nD) (t : Fin cfg0.N) : FVec Ideal S1024x512 .f32 :=
  k0_pay10 (iblk m c 2 t) (iblk m c 4 t) (iblk m c 5 t)
abbrev dmB (m : (ℓ : Loc nD τ sig) → Buf (Elt Ideal) ℓ) (c : Dev nD) (t : Fin cfg0.N) : FVec Ideal S1024x1024 .f32 :=
  k0_pay7 (iblk m c 0 t) (iblk m c 3 t)
abbrev uB (m : (ℓ : Loc nD τ sig) → Buf (Elt Ideal) ℓ) (c : Dev nD) (t : Fin cfg0.N) : FVec Ideal S1024x512 .f32 :=
  k0_pay21 (dmB m c t) (ssmB m c t) (iblk m c 7 t)
abbrev vB (m : (ℓ : Loc nD τ sig) → Buf (Elt Ideal) ℓ) (c : Dev nD) (t : Fin cfg0.N) : FVec Ideal S1024x512 .f32 := k0_pay22 (ssmB m c t)
abbrev wB (m : (ℓ : Loc nD τ sig) → Buf (Elt Ideal) ℓ) (c : Dev nD) (t : Fin cfg0.N) : FVec Ideal S1024x1 .f32 :=
  k0_pay23 (dmB m c t) (ssmB m c t) (iblk m c 7 t)
abbrev dzB (m : (ℓ : Loc nD τ sig) → Buf (Elt Ideal) ℓ) (c : Dev nD) (t : Fin cfg0.N) : FVec Ideal S1024x512 .f32 :=
  k0_pay26 (gB m c t) (gateB m c t) (uB m c t) (vB m c t) (wB m c t)

theorem g_blk (t : Fin cfg0.N) (i : Fin 1024) (j : Fin 512) : gB m c t (ix2 i j) = ((a.g (row t i) j : ℝ) : EReal) := by
  unfold gB
  pointwise [k0_pay8]
  simp only [blk_yp h, named_a, word_c, word_half, coe_tanh, ← EReal.coe_one, ← EReal.coe_mul, ← EReal.coe_add]; rfl

theorem gate_blk (t : Fin cfg0.N) (i : Fin 1024) (j : Fin 512) : gateB m c t (ix2 i j) = ((a.gate (row t i) j : ℝ) : EReal) := by
  have hg := g_blk h t
  unfold gB at hg
  unfold gateB
  pointwise [k0_pay9]
  simp only [hg, blk_wg h, blk_bg h, ← EReal.coe_mul, coe_sum, ← EReal.coe_add, coe_sig]; rfl

theorem ssm_blk (t : Fin cfg0.N) (i : Fin 1024) (j : Fin 512) : ssmB m c t (ix2 i j) = ((a.ssm (row t i) j : ℝ) : EReal) := by
  have hg := g_blk h t
  have hs := gate_blk h t
  unfold gB at hg
  unfold gateB at hs
  unfold ssmB
  pointwise [k0_pay10]
  simp only [hg, hs, ← EReal.coe_mul]; rfl

theorem dm_blk (t : Fin cfg0.N) (i : Fin 1024) (j : Fin 1024) : dmB m c t (ix2 i j) = ((a.dmixed (row t i) j : ℝ) : EReal) := by
  unfold dmB
  pointwise [k0_pay7]
  simp only [blk_dp h, blk_wo h, ← EReal.coe_mul, coe_sum]; rfl

/-- The attention's half. -/
theorem rinv_blk (t : Fin cfg0.N) (i : Fin 1024) : k0_pay15 (k0_pay13 (iblk m c 1 t)) (k0_pay14 (F := Ideal)) (ix2 i 0)
    = ((rinv (a.at' (row t i)) : ℝ) : EReal) := by
  pointwise [k0_pay15, k0_pay13, k0_pay14]
  simp only [blk_at h, ← EReal.coe_mul, coe_sum, coe_mean512, word_rmsEps, ← EReal.coe_add]
  exact coe_rsqrt _ (meanSq_pos _)

theorem dma_blk (t : Fin cfg0.N) (i : Fin 1024) (j : Fin 512) : k0_pay11 (iblk m c 0 t) (iblk m c 3 t) (ix2 i j)
    = ((a.dma (row t i) j : ℝ) : EReal) := by
  have hd := dm_blk h t
  unfold dmB at hd
  pointwise [k0_pay11]
  rw [hd]; rfl

theorem dat_blk (t : Fin cfg0.N) (i : Fin 1024) (j : Fin 512) :
    k0_pay16 (iblk m c 1 t) (k0_pay11 (iblk m c 0 t) (iblk m c 3 t)) (k0_pay12 (iblk m c 6 t)) (k0_pay13 (iblk m c 1 t)) (k0_pay14 (F := Ideal))
      (ix2 i j) = ((a.dat (row t i) j : ℝ) : EReal) := by
  have hr := rinv_blk h t
  have hd := dma_blk h t
  generalize k0_pay11 (iblk m c 0 t) (iblk m c 3 t) = u at hd ⊢
  generalize k0_pay13 (iblk m c 1 t) = v at hr ⊢
  pointwise [k0_pay16, k0_pay12]
  simp only [hr, hd, blk_at h, blk_ga h, ← EReal.coe_mul, coe_sum, coe_mean512, ← EReal.coe_sub]; rfl

theorem dga_blk (t : Fin cfg0.N) (i : S1x512.Idx) :
    k0_pay17 (iblk m c 1 t) (k0_pay11 (iblk m c 0 t) (iblk m c 3 t)) (k0_pay13 (iblk m c 1 t)) (k0_pay14 (F := Ideal)) i
      = ((∑ k, a.dgaTerm (row t k) (i 1) : ℝ) : EReal) := by
  have hr := rinv_blk h t
  have hd := dma_blk h t
  generalize k0_pay11 (iblk m c 0 t) (iblk m c 3 t) = u at hd ⊢
  generalize k0_pay13 (iblk m c 1 t) = v at hr ⊢
  idx_vars i
  pointwise [k0_pay17]
  simp only [hr, hd, blk_at h, ← EReal.coe_mul, coe_sum]; rfl

/-- The gated unit's half. -/
theorem rinv_ssm (t : Fin cfg0.N) (i : Fin 1024) : k0_pay19 (ssmB m c t) (ix2 i 0) = ((rinv (a.ssm (row t i)) : ℝ) : EReal) := by
  have ho := ssm_blk h t
  generalize ssmB m c t = o at ho ⊢
  pointwise [k0_pay19]
  simp only [ho, ← EReal.coe_mul, coe_sum, coe_mean512, word_rmsEps, ← EReal.coe_add]
  exact coe_rsqrt _ (meanSq_pos _)

theorem dms_blk (t : Fin cfg0.N) (i : Fin 1024) (j : Fin 512) : k0_pay18 (dmB m c t) (ix2 i j) = ((a.dms (row t i) j : ℝ) : EReal) := by
  have hd := dm_blk h t
  generalize dmB m c t = d at hd ⊢
  pointwise [k0_pay18]
  rw [hd]; rfl

theorem dssm_blk (t : Fin cfg0.N) (i : Fin 1024) (j : Fin 512) :
    k0_pay24 (uB m c t) (vB m c t) (wB m c t) (ix2 i j) = ((a.dssm (row t i) j : ℝ) : EReal) := by
  have hd := dms_blk h t
  have hr := rinv_ssm h t
  have ho := ssm_blk h t
  unfold uB vB wB
  generalize dmB m c t = d at hd ⊢
  generalize ssmB m c t = o at hr ho ⊢
  pointwise [k0_pay24, k0_pay21, k0_pay22, k0_pay23, k0_pay20]
  simp only [hd, hr, ho, blk_gs h, ← EReal.coe_mul, coe_sum, coe_mean512, ← EReal.coe_sub]; rfl

theorem dgs_blk (t : Fin cfg0.N) (i : S1x512.Idx) :
    k0_pay25 (ssmB m c t) (k0_pay18 (dmB m c t)) (k0_pay19 (ssmB m c t)) i = ((∑ k, a.dgsTerm (row t k) (i 1) : ℝ) : EReal) := by
  have hd := dms_blk h t
  have hr := rinv_ssm h t
  have ho := ssm_blk h t
  generalize k0_pay18 (dmB m c t) = d at hd ⊢
  generalize k0_pay19 (ssmB m c t) = r at hr ⊢
  generalize ssmB m c t = o at ho ⊢
  idx_vars i
  pointwise [k0_pay25]
  simp only [hd, hr, ho, ← EReal.coe_mul, coe_sum]; rfl

theorem dz_blk (t : Fin cfg0.N) (i : Fin 1024) (j : Fin 512) : dzB m c t (ix2 i j) = ((a.dz (row t i) j : ℝ) : EReal) := by
  have hd := dssm_blk h t
  have hg := g_blk h t
  have hs := gate_blk h t
  unfold dzB
  generalize gB m c t = g at hg ⊢
  generalize gateB m c t = s at hs ⊢
  generalize uB m c t = u at hd ⊢
  generalize vB m c t = v at hd ⊢
  generalize wB m c t = w at hd ⊢
  pointwise [k0_pay26]
  simp only [hd, hg, hs, coe_one_sub, ← EReal.coe_mul]; rfl

theorem dg_blk (t : Fin cfg0.N) (i : Fin 1024) (j : Fin 512) :
    k0_pay27 (gB m c t) (gateB m c t) (uB m c t) (vB m c t) (wB m c t) (iblk m c 4 t) (ix2 i j) = ((a.dg (row t i) j : ℝ) : EReal) := by
  have hd := dssm_blk h t
  have hz := dz_blk h t
  have hs := gate_blk h t
  unfold dzB at hz
  generalize gB m c t = g at hz ⊢
  generalize gateB m c t = s at hs hz ⊢
  generalize uB m c t = u at hd hz ⊢
  generalize vB m c t = v at hd hz ⊢
  generalize wB m c t = w at hd hz ⊢
  pointwise [k0_pay27]
  simp only [hd, hz, hs, blk_wg h, ← EReal.coe_mul, coe_sum, ← EReal.coe_add]; rfl

theorem dyp_blk (t : Fin cfg0.N) (i : Fin 1024) (j : Fin 512) :
    k0_pay1 (k0_pay27 (gB m c t) (gateB m c t) (uB m c t) (vB m c t) (wB m c t) (iblk m c 4 t)) (k0_pay28 (iblk m c 2 t)) (ix2 i j)
      = ((a.dyp (row t i) j : ℝ) : EReal) := by
  have hd := dg_blk h t
  generalize k0_pay27 (gB m c t) (gateB m c t) (uB m c t) (vB m c t) (wB m c t) (iblk m c 4 t) = d at hd ⊢
  pointwise [k0_pay1, k0_pay28]
  simp only [hd, blk_yp h, named_a, named_a3, word_c, word_half, coe_tanh, ← EReal.coe_one, ← EReal.coe_mul, ← EReal.coe_add, ← EReal.coe_sub]; rfl

theorem db_blk (t : Fin cfg0.N) (i : S1x512.Idx) : k0_pay2 (dzB m c t) i = ((∑ k, a.dz (row t k) (i 1) : ℝ) : EReal) := by
  have hz := dz_blk h t
  generalize dzB m c t = z at hz ⊢
  idx_vars i
  pointwise [k0_pay2]
  simp only [hz, coe_sum]

/-! The six results. -/

/-- The attention output's gradient. -/
theorem final_dat : (dats m 0 c).arrAt 8 cfg0.N = datArr a := by
  refine (dats m 0 c).arrAt_eq_of_covers 8 _ (by decide +kernel) fun t hf y => ?_
  blk_simp
  rw [after0_8]
  by_cases h0 : t.val % 8 = 0
  · rw [outsAt0_A m c t h0 (by have := lt_points t; omega)]
    frame_out
    idx_vars y
    rw [emb8]
    exact dat_blk h t _ _
  · rw [outsAt0_B m c t h0 (by have := lt_points t; omega)]
    frame_out
    idx_vars y
    rw [emb8]
    exact dat_blk h t _ _

/-- The unit's argument's gradient. -/
theorem final_dyp : (dats m 0 c).arrAt 9 cfg0.N = dypArr a := by
  refine (dats m 0 c).arrAt_eq_of_covers 9 _ (by decide +kernel) fun t hf y => ?_
  blk_simp
  rw [after0_9]
  by_cases h0 : t.val % 8 = 0
  · rw [outsAt0_A m c t h0 (by have := lt_points t; omega)]
    frame_out
    idx_vars y
    rw [emb9]
    exact dyp_blk h t _ _
  · rw [outsAt0_B m c t h0 (by have := lt_points t; omega)]
    frame_out
    idx_vars y
    rw [emb9]
    exact dyp_blk h t _ _

/-- The gate's argument's gradient. -/
theorem final_dz : (dats m 0 c).arrAt 10 cfg0.N = dzArr a := by
  refine (dats m 0 c).arrAt_eq_of_covers 10 _ (by decide +kernel) fun t hf y => ?_
  blk_simp
  rw [after0_10]
  by_cases h0 : t.val % 8 = 0
  · rw [outsAt0_A m c t h0 (by have := lt_points t; omega)]
    frame_out
    idx_vars y
    rw [emb10]
    pointwise [k0_pay3]; exact dz_blk h t _ _
  · rw [outsAt0_B m c t h0 (by have := lt_points t; omega)]
    frame_out
    idx_vars y
    rw [emb10]
    pointwise [k0_pay3]; exact dz_blk h t _ _

/-- The first norm's scale's gradient. -/
theorem final_dga : (dats m 0 c).arrAt 11 cfg0.N = dgaArr a := by
  refine (dats m 0 c).arrAt_eq_of_after_last 11 t0_7 (by decide +kernel) _ fun j => ?_
  blk_simp
  rw [after0_11, Rows.acc_sum (N := cfg0.N) (S := 1024) (M := 8192) 8 rfl (by decide) (fun n h => (outsAt0 m c n h).2.2.2.1) (fun r i => a.dgaTerm r (i 1))
    (fun t h0 i => by
      rw [outsAt0_A m c t h0 (by have := lt_points t; omega)]; frame_out; exact dga_blk h t i)
    (fun t h0 i => by
      rw [outsAt0_B m c t h0 (by have := lt_points t; omega)]; frame_out; rw [← dga_blk h t i]; pointwise [k0_pay4])
    t0_7 rfl]
  rfl

/-- The second norm's scale's gradient. -/
theorem final_dgs : (dats m 0 c).arrAt 12 cfg0.N = dgsArr a := by
  refine (dats m 0 c).arrAt_eq_of_after_last 12 t0_7 (by decide +kernel) _ fun j => ?_
  blk_simp
  rw [after0_12, Rows.acc_sum (N := cfg0.N) (S := 1024) (M := 8192) 8 rfl (by decide) (fun n h => (outsAt0 m c n h).2.2.2.2.1) (fun r i => a.dgsTerm r (i 1))
    (fun t h0 i => by
      rw [outsAt0_A m c t h0 (by have := lt_points t; omega)]; frame_out; exact dgs_blk h t i)
    (fun t h0 i => by
      rw [outsAt0_B m c t h0 (by have := lt_points t; omega)]; frame_out; rw [← dgs_blk h t i]; pointwise [k0_pay5])
    t0_7 rfl]
  rfl

/-- The gate's bias's gradient. -/
theorem final_db : (dats m 0 c).arrAt 13 cfg0.N = dbArr a := by
  refine (dats m 0 c).arrAt_eq_of_after_last 13 t0_7 (by decide +kernel) _ fun j => ?_
  blk_simp
  rw [after0_13, Rows.acc_sum (N := cfg0.N) (S := 1024) (M := 8192) 8 rfl (by decide) (fun n h => (outsAt0 m c n h).2.2.2.2.2) (fun r i => a.dz r (i 1))
    (fun t h0 i => by
      rw [outsAt0_A m c t h0 (by have := lt_points t; omega)]; frame_out; exact db_blk h t i)
    (fun t h0 i => by
      rw [outsAt0_B m c t h0 (by have := lt_points t; omega)]; frame_out; rw [← db_blk h t i]; pointwise [k0_pay6])
    t0_7 rfl]
  rfl

end Cert.Mix.Kernel

end
-- ==== Proof.Mix.Reference.lean ====
/-
  What the reference of the gradients through the mixer leaves in its six results: one kernel without a grid that
  differentiates the forward lines on the whole arrays.
-/
module

public import proofs.«01_k».proof.Proof.Gen.MixRIdeal.Value
public import proofs.«01_k».proof.Proof.Mix.Spec
public import Idealize.ShloMosaic.Lib.Pipeline.ValueKit
public import Idealize.ShloMosaic.Lib.StableHlo.ReadAt

@[expose] public section
set_option maxRecDepth 16384
noncomputable section
namespace Cert.Mix.Reference
open Idealize.ShloMosaic Idealize.SL.Sem Cert.MixRIdeal Cert.MixRIdeal.Gen
open Idealize.ShloMosaic.TcCoe
open Cert.Reals Cert.RmsNorm Cert.Gelu

theorem named_a : Named.named (F := Ideal) κ "gelu_a" (φ := .f32) 0x3D372713#32 = ((Gelu.a : ℝ) : EReal) :=
  IdealRules.named_const.ideal_named_scalar _ _ _ _ rfl

/-- The kernel's eight inputs are the reals of `a`. -/
structure Blocks (x0 x1 : Vec Ideal S8192x512 .f32) (x2 : Vec Ideal S512x512 .f32) (x3 x4 x5 : Vec Ideal S1x512 .f32) (x6 : Vec Ideal S1024x1024 .f32) (x7 : Vec Ideal S8192x1024 .f32) (a : Args) : Prop where
  at' : ∀ r j, x0 (ix2 r j) = ((a.at' r j : ℝ) : EReal)
  yp : ∀ r j, x1 (ix2 r j) = ((a.yp r j : ℝ) : EReal)
  wg : ∀ r j, x2 (ix2 r j) = ((a.wg r j : ℝ) : EReal)
  bg : ∀ j, x3 (ix2 0 j) = ((a.bg j : ℝ) : EReal)
  ga : ∀ j, x4 (ix2 0 j) = ((a.ga j : ℝ) : EReal)
  gs : ∀ j, x5 (ix2 0 j) = ((a.gs j : ℝ) : EReal)
  wo : ∀ r j, x6 (ix2 r j) = ((a.wo r j : ℝ) : EReal)
  dp : ∀ r j, x7 (ix2 r j) = ((a.dp r j : ℝ) : EReal)

section Payloads
variable {x0 x1 : Vec Ideal S8192x512 .f32} {x2 : Vec Ideal S512x512 .f32} {x3 x4 x5 : Vec Ideal S1x512 .f32} {x6 : Vec Ideal S1024x1024 .f32} {x7 : Vec Ideal S8192x1024 .f32} {a : Args}

abbrev gateV (x1 : Vec Ideal S8192x512 .f32) (x2 : Vec Ideal S512x512 .f32) (x3 : Vec Ideal S1x512 .f32) : FVec Ideal S8192x512 .f32 := k0_pay9 x2 x1 x3
abbrev dsV (x1 : Vec Ideal S8192x512 .f32) (x2 : Vec Ideal S512x512 .f32) (x3 x5 : Vec Ideal S1x512 .f32) (x6 : Vec Ideal S1024x1024 .f32) (x7 : Vec Ideal S8192x1024 .f32) : FVec Ideal S8192x512 .f32 :=
  k0_pay27 (k0_pay17 (k0_pay8 x1) (gateV x1 x2 x3)) (k0_pay19 (k0_pay8 x1) (gateV x1 x2 x3)) (k0_pay20 (k0_pay8 x1) (gateV x1 x2 x3))
    (k0_pay25 x6 (k0_pay3 x5) x7) (k0_pay26 x6 (k0_pay3 x5) (k0_pay8 x1) (gateV x1 x2 x3) x7)
abbrev dzV (x1 : Vec Ideal S8192x512 .f32) (x2 : Vec Ideal S512x512 .f32) (x3 x5 : Vec Ideal S1x512 .f32) (x6 : Vec Ideal S1024x1024 .f32) (x7 : Vec Ideal S8192x1024 .f32) : FVec Ideal S8192x512 .f32 :=
  k0_pay30 (k0_pay8 x1) (k0_pay10 (gateV x1 x2 x3)) (k0_pay17 (k0_pay8 x1) (gateV x1 x2 x3)) (k0_pay19 (k0_pay8 x1) (gateV x1 x2 x3))
    (k0_pay20 (k0_pay8 x1) (gateV x1 x2 x3)) (k0_pay25 x6 (k0_pay3 x5) x7) (k0_pay26 x6 (k0_pay3 x5) (k0_pay8 x1) (gateV x1 x2 x3) x7)

variable (h : Blocks x0 x1 x2 x3 x4 x5 x6 x7 a)
include h

/-! The unit and its gate. -/

theorem th_at (r : Fin 8192) (j : Fin 512) : k0_pay5 x1 (ix2 r j) = ((th (a.yp r j) : ℝ) : EReal) := by
  pointwise [k0_pay5]
  simp only [h.yp, named_a, word_c, coe_tanh, ← EReal.coe_mul, ← EReal.coe_add]
  unfold th
  rw [mul_assoc]

theorem g_at (r : Fin 8192) (j : Fin 512) : k0_pay8 x1 (ix2 r j) = ((a.g r j : ℝ) : EReal) := by
  pointwise [k0_pay8, k0_pay7]
  simp only [h.yp, th_at h, word_half, ← EReal.coe_one, ← EReal.coe_mul, ← EReal.coe_add]
  unfold Args.g gelu
  rw [show a.yp r j * (1 / 2 * (1 + th (a.yp r j))) = 1 / 2 * a.yp r j * (1 + th (a.yp r j)) by ring]

theorem gate_at (r : Fin 8192) (j : Fin 512) : gateV x1 x2 x3 (ix2 r j) = ((a.gate r j : ℝ) : EReal) := by
  unfold gateV
  pointwise [k0_pay9]
  simp only [g_at h, h.wg, h.bg, ← EReal.coe_mul, coe_sum, ← EReal.coe_add, add_zero, coe_sig]; rfl

theorem ssm_at (r : Fin 8192) (j : Fin 512) : k0_pay11 (k0_pay8 x1) (gateV x1 x2 x3) (ix2 r j) = ((a.ssm r j : ℝ) : EReal) := by
  have hg := g_at h
  have hs := gate_at h
  generalize gateV x1 x2 x3 = s at hs ⊢
  generalize k0_pay8 x1 = g at hg ⊢
  pointwise [k0_pay11]
  simp only [hg, hs, ← EReal.coe_mul]; rfl

/-! The output product's gradient. -/

theorem dmixed_at (r : Fin 8192) (j : Fin 1024) : k0_pay21 x6 x7 (ix2 r j) = ((a.dmixed r j : ℝ) : EReal) := by
  pointwise [k0_pay21]
  simp only [h.dp, h.wo, ← EReal.coe_mul, coe_sum]; rfl
theorem dma_at (r : Fin 8192) (j : Fin 512) : k0_pay22 x6 x7 (ix2 r j) = ((a.dma r j : ℝ) : EReal) := by
  pointwise [k0_pay22]; rw [dmixed_at h]; rfl
theorem dms_at (r : Fin 8192) (j : Fin 512) : k0_pay23 x6 x7 (ix2 r j) = ((a.dms r j : ℝ) : EReal) := by
  pointwise [k0_pay23]; rw [dmixed_at h]; rfl

/-! The attention's half. -/

theorem ms_at (r : Fin 8192) : k0_pay13 x0 (ix2 r 0) = ((meanSq (a.at' r) : ℝ) : EReal) := by
  pointwise [k0_pay13]
  simp only [h.at', ← EReal.coe_mul, coe_sum, coe_mean512, word_rmsEps, ← EReal.coe_add]; rfl
theorem rinv_at (r : Fin 8192) : k0_pay14 x0 (ix2 r 0) = ((rinv (a.at' r) : ℝ) : EReal) := by
  pointwise [k0_pay14]
  rw [ms_at h]; exact coe_rsqrt _ (meanSq_pos _)
theorem pow_at (r : Fin 8192) : k0_pay15 x0 (ix2 r 0) = ((-(1 / 2) * (rinv (a.at' r) / meanSq (a.at' r)) : ℝ) : EReal) := by
  pointwise [k0_pay15]
  rw [ms_at h, rinv_at h, coe_div _ _ (meanSq_pos _).ne', word_neg_half, ← EReal.coe_mul]

theorem dat_at (r : Fin 8192) (j : Fin 512) :
    k0_pay29 x0 (k0_pay2 x4) (k0_pay12 x0) (k0_pay14 x0) (k0_pay15 x0) (k0_pay22 x6 x7) (ix2 r j) = ((a.dat r j : ℝ) : EReal) := by
  have hd := dma_at h
  have hr := rinv_at h
  have hp := pow_at h
  generalize k0_pay22 x6 x7 = d at hd ⊢
  generalize k0_pay14 x0 = q at hr ⊢
  generalize k0_pay15 x0 = p at hp ⊢
  pointwise [k0_pay29, k0_pay2, k0_pay12]
  simp only [Fin.sum_univ_one, hd, hr, hp, h.at', h.ga, word_two, ← EReal.coe_mul, coe_sum, coe_mean512, ← EReal.coe_add]
  exact congrArg _ (grad_steps (a.at' r) (fun j => a.dma r j * a.ga j) j)

theorem dga_at (i : S1x512.Idx) : k0_pay28 (k0_pay16 x0) (k0_pay22 x6 x7) i = ((∑ r, a.dgaTerm r (i 1) : ℝ) : EReal) := by
  have hd := dma_at h
  have hr := rinv_at h
  generalize k0_pay22 x6 x7 = d at hd ⊢
  idx_vars i
  pointwise [k0_pay28, k0_pay16]
  simp only [hd, hr, h.at', ← EReal.coe_mul, coe_sum]
  refine congrArg _ (Finset.sum_congr rfl fun r _ => ?_)
  unfold Args.dgaTerm
  ring

/-! The gated unit's half. -/

theorem ms_ssm (r : Fin 8192) : k0_pay18 (k0_pay8 x1) (gateV x1 x2 x3) (ix2 r 0) = ((meanSq (a.ssm r) : ℝ) : EReal) := by
  have ho := ssm_at h
  generalize gateV x1 x2 x3 = s at ho ⊢
  generalize k0_pay8 x1 = g at ho ⊢
  pointwise [k0_pay18]
  simp only [ho, ← EReal.coe_mul, coe_sum, coe_mean512, word_rmsEps, ← EReal.coe_add]; rfl
theorem rinv_ssm (r : Fin 8192) : k0_pay19 (k0_pay8 x1) (gateV x1 x2 x3) (ix2 r 0) = ((rinv (a.ssm r) : ℝ) : EReal) := by
  have hm := ms_ssm h
  generalize gateV x1 x2 x3 = s at hm ⊢
  generalize k0_pay8 x1 = g at hm ⊢
  pointwise [k0_pay19]
  rw [hm]; exact coe_rsqrt _ (meanSq_pos _)
theorem pow_ssm (r : Fin 8192) : k0_pay20 (k0_pay8 x1) (gateV x1 x2 x3) (ix2 r 0)
    = ((-(1 / 2) * (rinv (a.ssm r) / meanSq (a.ssm r)) : ℝ) : EReal) := by
  have hm := ms_ssm h
  have hr := rinv_ssm h
  generalize gateV x1 x2 x3 = s at hm hr ⊢
  generalize k0_pay8 x1 = g at hm hr ⊢
  pointwise [k0_pay20]
  rw [hm, hr, coe_div _ _ (meanSq_pos _).ne', word_neg_half, ← EReal.coe_mul]

theorem dgs_at (i : S1x512.Idx) : k0_pay24 x6 (k0_pay8 x1) (gateV x1 x2 x3) x7 i = ((∑ r, a.dgsTerm r (i 1) : ℝ) : EReal) := by
  have hr := rinv_ssm h
  have ho := ssm_at h
  have hd := dms_at h
  generalize gateV x1 x2 x3 = s at ho hr ⊢
  generalize k0_pay8 x1 = g at ho hr ⊢
  idx_vars i
  pointwise [k0_pay24]
  simp only [hd, hr, ho, ← EReal.coe_mul, coe_sum]
  refine congrArg _ (Finset.sum_congr rfl fun r _ => ?_)
  unfold Args.dgsTerm
  ring

theorem dy_at (r : Fin 8192) (j : Fin 512) : k0_pay25 x6 (k0_pay3 x5) x7 (ix2 r j) = ((a.dms r j * a.gs j : ℝ) : EReal) := by
  pointwise [k0_pay25, k0_pay3]
  simp only [dms_at h, h.gs, ← EReal.coe_mul]

theorem dssm_at (r : Fin 8192) (j : Fin 512) : dsV x1 x2 x3 x5 x6 x7 (ix2 r j) = ((a.dssm r j : ℝ) : EReal) := by
  have hr := rinv_ssm h
  have hp := pow_ssm h
  have ho := ssm_at h
  have hd := dy_at h
  unfold dsV
  generalize gateV x1 x2 x3 = s at ho hr hp ⊢
  generalize k0_pay8 x1 = g at ho hr hp ⊢
  pointwise [k0_pay27, k0_pay17, k0_pay26]
  simp only [Fin.sum_univ_one, hd, hr, hp, ho, word_two, ← EReal.coe_mul, coe_sum, coe_mean512, ← EReal.coe_add]
  exact congrArg _ (grad_steps (a.ssm r) (fun j => a.dms r j * a.gs j) j)

/-! The gate's argument, its bias and the unit's argument. -/

theorem dz_at (r : Fin 8192) (j : Fin 512) : dzV x1 x2 x3 x5 x6 x7 (ix2 r j) = ((a.dz r j : ℝ) : EReal) := by
  have hs := gate_at h
  have hg := g_at h
  have hd := dssm_at h
  unfold dsV at hd
  unfold dzV
  generalize k0_pay17 (k0_pay8 x1) (gateV x1 x2 x3) = u1 at hd ⊢
  generalize k0_pay19 (k0_pay8 x1) (gateV x1 x2 x3) = u2 at hd ⊢
  generalize k0_pay20 (k0_pay8 x1) (gateV x1 x2 x3) = u3 at hd ⊢
  generalize k0_pay25 x6 (k0_pay3 x5) x7 = u4 at hd ⊢
  generalize k0_pay26 x6 (k0_pay3 x5) (k0_pay8 x1) (gateV x1 x2 x3) x7 = u5 at hd ⊢
  generalize gateV x1 x2 x3 = s at hs ⊢
  generalize k0_pay8 x1 = g at hg ⊢
  pointwise [k0_pay30, k0_pay10]
  simp only [hd, hg, hs, coe_one_sub, ← EReal.coe_mul]
  unfold Args.dz
  refine congrArg _ ?_
  ring

theorem db_at (i : S1x512.Idx) :
    k0_pay31 (k0_pay8 x1) (k0_pay10 (gateV x1 x2 x3)) (k0_pay17 (k0_pay8 x1) (gateV x1 x2 x3)) (k0_pay19 (k0_pay8 x1) (gateV x1 x2 x3))
        (k0_pay20 (k0_pay8 x1) (gateV x1 x2 x3)) (k0_pay25 x6 (k0_pay3 x5) x7) (k0_pay26 x6 (k0_pay3 x5) (k0_pay8 x1) (gateV x1 x2 x3) x7) i
      = ((∑ r, a.dz r (i 1) : ℝ) : EReal) := by
  have hz := dz_at h
  unfold dzV at hz
  idx_vars i
  pointwise [k0_pay31]
  simp only [hz, coe_sum]

theorem dyp_at (r : Fin 8192) (j : Fin 512) :
    k0_pay32 x2 x1 (k0_pay4 x1) (k0_pay6 x1) (k0_pay7 x1) (k0_pay8 x1) (gateV x1 x2 x3) (k0_pay10 (gateV x1 x2 x3))
        (k0_pay17 (k0_pay8 x1) (gateV x1 x2 x3)) (k0_pay19 (k0_pay8 x1) (gateV x1 x2 x3)) (k0_pay20 (k0_pay8 x1) (gateV x1 x2 x3))
        (k0_pay25 x6 (k0_pay3 x5) x7) (k0_pay26 x6 (k0_pay3 x5) (k0_pay8 x1) (gateV x1 x2 x3) x7) (ix2 r j)
      = ((a.dyp r j : ℝ) : EReal) := by
  have hs := gate_at h
  have hd := dssm_at h
  have hz := dz_at h
  unfold dsV at hd
  unfold dzV at hz
  generalize k0_pay17 (k0_pay8 x1) (gateV x1 x2 x3) = u1 at hd hz ⊢
  generalize k0_pay19 (k0_pay8 x1) (gateV x1 x2 x3) = u2 at hd hz ⊢
  generalize k0_pay20 (k0_pay8 x1) (gateV x1 x2 x3) = u3 at hd hz ⊢
  generalize k0_pay25 x6 (k0_pay3 x5) x7 = u4 at hd hz ⊢
  generalize k0_pay26 x6 (k0_pay3 x5) (k0_pay8 x1) (gateV x1 x2 x3) x7 = u5 at hd hz ⊢
  generalize k0_pay10 (gateV x1 x2 x3) = u6 at hz ⊢
  generalize gateV x1 x2 x3 = s at hs ⊢
  generalize k0_pay8 x1 = g at hz ⊢
  pointwise [k0_pay32, k0_pay4, k0_pay6, k0_pay7]
  simp only [hd, hz, hs, h.wg, h.yp, th_at h, named_a, word_c, word_half, word_three, ← EReal.coe_one, ← EReal.coe_mul, coe_sum, ← EReal.coe_add, ← EReal.coe_sub]
  refine congrArg _ ?_
  rw [mul_comm (3 : ℝ)]
  exact gelu_steps (a.dg r j) (a.yp r j)

end Payloads

/-! The program's results. -/

variable (m : (ℓ : Loc nD τ sig) → Buf (Elt Ideal) ℓ) (c : Dev nD) (a : Args)

/-- The program's arguments on this device are the reals of `a`. -/
abbrev Given : Prop :=
  Holds (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5))
    (m (c, Proc.tc.devRef main_arg6)) (m (c, Proc.tc.devRef main_arg7)) a

theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0] :=
  (by decide +kernel : ∀ t : Fin grid0.N, _)

theorem emb8 (t : Fin cfg0.N) (i : Fin 8192) (j : Fin 512) :
    ((View.whole main_v3_0).slice (win0_8.rect t)).emb (ix2 i j) = ix2 i j := by
  blk_ext [idx t]
theorem emb9 (t : Fin cfg0.N) (i : Fin 8192) (j : Fin 512) :
    ((View.whole main_v3_1).slice (win0_9.rect t)).emb (ix2 i j) = ix2 i j := by
  blk_ext [idx t]
theorem emb10 (t : Fin cfg0.N) (i : Fin 8192) (j : Fin 512) :
    ((View.whole main_v3_2).slice (win0_10.rect t)).emb (ix2 i j) = ix2 i j := by
  blk_ext [idx t]
theorem emb11 (t : Fin cfg0.N) (i : Fin 1) (j : Fin 512) :
    ((View.whole main_v3_3).slice (win0_11.rect t)).emb (ix2 i j) = ix2 i j := by
  blk_ext [idx t]
theorem emb12 (t : Fin cfg0.N) (i : Fin 1) (j : Fin 512) :
    ((View.whole main_v3_4).slice (win0_12.rect t)).emb (ix2 i j) = ix2 i j := by
  blk_ext [idx t]
theorem emb13 (t : Fin cfg0.N) (i : Fin 1) (j : Fin 512) :
    ((View.whole main_v3_5).slice (win0_13.rect t)).emb (ix2 i j) = ix2 i j := by
  blk_ext [idx t]

variable {m c a} (h : Given m c a)
include h

theorem blocks (t : Fin cfg0.N) : Blocks (iblk m c 0 t) (iblk m c 1 t) (iblk m c 2 t) (iblk m c 3 t) (iblk m c 4 t) (iblk m c 5 t)
    (iblk m c 6 t) (iblk m c 7 t) a where
  at' r j := by
    have e : V m c main_arg0 (ix2 r j) = ((a.at' r j : ℝ) : EReal) := by unfold V; after_reads_at; rw [h.at']
    rw [← e]; blk_ext [iblk, idx t]
  yp r j := by
    have e : V m c main_arg1 (ix2 r j) = ((a.yp r j : ℝ) : EReal) := by unfold V; after_reads_at; rw [h.yp]
    rw [← e]; blk_ext [iblk, idx t]
  wg r j := by
    have e : V m c main_arg2 (ix2 r j) = ((a.wg r j : ℝ) : EReal) := by unfold V; after_reads_at; rw [h.wg]
    rw [← e]; blk_ext [iblk, idx t]
  bg j := by
    have e : V m c main_v0 (ix2 0 j) = ((a.bg j : ℝ) : EReal) := by unfold V; after_reads_at; rw [h.bg]
    rw [← e]; blk_ext [iblk, idx t]
  ga j := by
    have e : V m c main_v1 (ix2 0 j) = ((a.ga j : ℝ) : EReal) := by unfold V; after_reads_at; rw [h.ga]
    rw [← e]; blk_ext [iblk, idx t]
  gs j := by
    have e : V m c main_v2 (ix2 0 j) = ((a.gs j : ℝ) : EReal) := by unfold V; after_reads_at; rw [h.gs]
    rw [← e]; blk_ext [iblk, idx t]
  wo r j := by
    have e : V m c main_arg6 (ix2 r j) = ((a.wo r j : ℝ) : EReal) := by unfold V; after_reads_at; rw [h.wo]
    rw [← e]; blk_ext [iblk, idx t]
  dp r j := by
    have e : V m c main_arg7 (ix2 r j) = ((a.dp r j : ℝ) : EReal) := by unfold V; after_reads_at; rw [h.dp]
    rw [← e]; blk_ext [iblk, idx t]

theorem final_dat : (dats m 0 c).arrAt 8 cfg0.N = datArr a := by
  refine (dats m 0 c).arrAt_eq_of_covers 8 _ (by decide +kernel) fun t hf y => ?_
  blk_simp
  rw [after0_8]
  unfold_out out0_8
  frame_out
  idx_vars y
  rw [emb8]
  exact dat_at (blocks h t) _ _

theorem final_dyp : (dats m 0 c).arrAt 9 cfg0.N = dypArr a := by
  refine (dats m 0 c).arrAt_eq_of_covers 9 _ (by decide +kernel) fun t hf y => ?_
  blk_simp
  rw [after0_9]
  unfold_out out0_9
  frame_out
  idx_vars y
  rw [emb9]
  exact dyp_at (blocks h t) _ _

theorem final_dz : (dats m 0 c).arrAt 10 cfg0.N = dzArr a := by
  refine (dats m 0 c).arrAt_eq_of_covers 10 _ (by decide +kernel) fun t hf y => ?_
  blk_simp
  rw [after0_10]
  unfold_out out0_10
  frame_out
  idx_vars y
  rw [emb10]
  pointwise [k0_pay1]; exact dz_at (blocks h t) _ _

theorem final_dga : (dats m 0 c).arrAt 11 cfg0.N = dgaArr a := by
  refine (dats m 0 c).arrAt_eq_of_covers 11 _ (by decide +kernel) fun t hf y => ?_
  blk_simp
  rw [after0_11]
  unfold_out out0_11
  frame_out
  idx_vars y
  rw [emb11]
  exact dga_at (blocks h t) _

theorem final_dgs : (dats m 0 c).arrAt 12 cfg0.N = dgsArr a := by
  refine (dats m 0 c).arrAt_eq_of_covers 12 _ (by decide +kernel) fun t hf y => ?_
  blk_simp
  rw [after0_12]
  unfold_out out0_12
  frame_out
  idx_vars y
  rw [emb12]
  exact dgs_at (blocks h t) _

theorem final_db : (dats m 0 c).arrAt 13 cfg0.N = dbArr a := by
  refine (dats m 0 c).arrAt_eq_of_covers 13 _ (by decide +kernel) fun t hf y => ?_
  blk_simp
  rw [after0_13]
  unfold_out out0_13
  frame_out
  idx_vars y
  rw [emb13]
  exact db_at (blocks h t) _

end Cert.Mix.Reference

end
-- ==== Proof.Mix.Claims.lean ====
/-
  The claims about the backward call through the mixer: its runs end quietly with the arguments unchanged, and on finite
  arguments it returns the gradients that differentiating the forward lines gives.
-/
module

public import proofs.«01_k».proof.Defs
public import proofs.«01_k».proof.Proof.Gen.MixK.Frame
public import proofs.«01_k».proof.Proof.Gen.MixRIdeal.Value
public import proofs.«01_k».proof.Proof.Gen.Pre_mix_finite
public import proofs.«01_k».proof.Proof.Mix.Kernel
public import proofs.«01_k».proof.Proof.Mix.Reference
public import Idealize.ShloMosaic.Lib.Quiescent

@[expose] public section

set_option maxRecDepth 16384

noncomputable section

namespace Cert.Mix.Claims

open Idealize.ShloMosaic Idealize.SL.Sem Cert.Reals

theorem frame_kernel : Cert.quiescent_MixK := fun m ρ _ => Cert.MixK.Gen.frame m ρ
theorem frame_ideal : Cert.quiescent_MixKIdeal := fun m ρ _ => Cert.MixKIdeal.Gen.frame m ρ
theorem frame_ideal_pre : Cert.quiescent_MixKIdeal_pre_mix_finite := fun m ρ _ => Cert.MixKIdeal.Gen.frame m ρ
theorem frame_reference : Cert.quiescent_MixRIdeal := fun m ρ _ => Cert.MixRIdeal.Gen.frame m ρ
theorem frame_reference_pre : Cert.quiescent_MixRIdeal_pre_mix_finite := fun m ρ _ => frame_reference m ρ trivial
theorem preserves : Cert.preserves_MixK_MixKIdeal :=
  ⟨IdealRules.named_const.statement _ _ _ _ _ rfl, IdealRules.named_const.statement _ _ _ _ _ rfl⟩

/-- Finite arguments are the casts of their reals. -/
theorem holds_of_finite (x0 : Half) (x1 : Half) (x2 : Square) (x3 : Row) (x4 : Row) (x5 : Row) (x6 : Weight) (x7 : Wide)
    (h : (Cert.Pre_mix_finite.fn (F := Ideal) x0 x1 x2 x3 x4 x5 x6 x7).1 = (fun _ => 1#1)
      ∧ (Cert.Pre_mix_finite.fn (F := Ideal) x0 x1 x2 x3 x4 x5 x6 x7).2.1 = (fun _ => 1#1)
      ∧ (Cert.Pre_mix_finite.fn (F := Ideal) x0 x1 x2 x3 x4 x5 x6 x7).2.2.1 = (fun _ => 1#1)
      ∧ (Cert.Pre_mix_finite.fn (F := Ideal) x0 x1 x2 x3 x4 x5 x6 x7).2.2.2.1 = (fun _ => 1#1)
      ∧ (Cert.Pre_mix_finite.fn (F := Ideal) x0 x1 x2 x3 x4 x5 x6 x7).2.2.2.2.1 = (fun _ => 1#1)
      ∧ (Cert.Pre_mix_finite.fn (F := Ideal) x0 x1 x2 x3 x4 x5 x6 x7).2.2.2.2.2.1 = (fun _ => 1#1)
      ∧ (Cert.Pre_mix_finite.fn (F := Ideal) x0 x1 x2 x3 x4 x5 x6 x7).2.2.2.2.2.2.1 = (fun _ => 1#1)
      ∧ (Cert.Pre_mix_finite.fn (F := Ideal) x0 x1 x2 x3 x4 x5 x6 x7).2.2.2.2.2.2.2 = (fun _ => 1#1)) :
    ∃ a, Holds x0 x1 x2 x3 x4 x5 x6 x7 a := by
  obtain ⟨h0, h1, h2, h3, h4, h5, h6, h7⟩ := h
  refine ⟨⟨fun r j => EReal.toReal (x0 (ix2 r j)), fun r j => EReal.toReal (x1 (ix2 r j)), fun r j => EReal.toReal (x2 (ix2 r j)), fun j => EReal.toReal (x3 (ix1 j)), fun j => EReal.toReal (x4 (ix1 j)), fun j => EReal.toReal (x5 (ix1 j)), fun r j => EReal.toReal (x6 (ix2 r j)), fun r j => EReal.toReal (x7 (ix2 r j))⟩,
    fun r j => real_of_abs_lt _ ?_, fun r j => real_of_abs_lt _ ?_, fun r j => real_of_abs_lt _ ?_, fun j => real_of_abs_lt _ ?_, fun j => real_of_abs_lt _ ?_, fun j => real_of_abs_lt _ ?_, fun r j => real_of_abs_lt _ ?_, fun r j => real_of_abs_lt _ ?_⟩
    <;> rw [← word_inf]
  · exact congrFun h0 (ix2 r j)
  · exact congrFun h1 (ix2 r j)
  · exact congrFun h2 (ix2 r j)
  · exact congrFun h3 (ix1 j)
  · exact congrFun h4 (ix1 j)
  · exact congrFun h5 (ix1 j)
  · exact congrFun h6 (ix2 r j)
  · exact congrFun h7 (ix2 r j)

theorem algebraic : Cert.algebraic_MixKIdeal_MixRIdeal_pre_mix_finite := by
  intro m ρ m' ρ' hpre hagree
  choose a hm using fun c => holds_of_finite _ _ _ _ _ _ _ _ (hpre c)
  have hm' c : Holds (m' (c, Proc.tc.devRef MixRIdeal.main_arg0))
        (m' (c, Proc.tc.devRef MixRIdeal.main_arg1))
        (m' (c, Proc.tc.devRef MixRIdeal.main_arg2))
        (m' (c, Proc.tc.devRef MixRIdeal.main_arg3))
        (m' (c, Proc.tc.devRef MixRIdeal.main_arg4))
        (m' (c, Proc.tc.devRef MixRIdeal.main_arg5))
        (m' (c, Proc.tc.devRef MixRIdeal.main_arg6))
        (m' (c, Proc.tc.devRef MixRIdeal.main_arg7)) (a c) := by
    obtain ⟨e0, e1, e2, e3, e4, e5, e6, e7⟩ := hagree c
    exact e0 ▸ e1 ▸ e2 ▸ e3 ▸ e4 ▸ e5 ▸ e6 ▸ e7 ▸ hm c
  refine ⟨fun c => datArr (a c), fun c => dypArr (a c), fun c => dzArr (a c), fun c => dgaArr (a c), fun c => dgsArr (a c), fun c => dbArr (a c), ?_, ?_⟩
  · exact (θ_run Cert.MixKIdeal.defs _ _).mono
      (fun r h c => ⟨(h c).1.trans (Kernel.final_dat (hm c)),
        (h c).2.1.trans (Kernel.final_dyp (hm c)),
        (h c).2.2.1.trans (Kernel.final_dz (hm c)),
        (h c).2.2.2.1.trans (Kernel.final_dga (hm c)),
        (h c).2.2.2.2.1.trans (Kernel.final_dgs (hm c)),
        (h c).2.2.2.2.2.1.trans (Kernel.final_db (hm c)), (h c).2.2.2.2.2.2⟩)
      (Cert.MixKIdeal.Value.run_blocks (F := Ideal) m ρ)
  · exact (θ_run Cert.MixRIdeal.defs _ _).mono
      (fun r h c => ⟨(h c).1.trans (Reference.final_dat (hm' c)),
        (h c).2.1.trans (Reference.final_dyp (hm' c)),
        (h c).2.2.1.trans (Reference.final_dz (hm' c)),
        (h c).2.2.2.1.trans (Reference.final_dga (hm' c)),
        (h c).2.2.2.2.1.trans (Reference.final_dgs (hm' c)),
        (h c).2.2.2.2.2.1.trans (Reference.final_db (hm' c)), (h c).2.2.2.2.2.2⟩)
      (Cert.MixRIdeal.Value.run_blocks (F := Ideal) m' ρ')

end Cert.Mix.Claims

end
-- ==== Proof.Gate.Spec.lean ====
/-
  The gate's weight's gradient: the smooth unit of the convolution's output times the gradient of the gate's argument,
  summed over the rows. Stated on the extended reals, where products and sums may be reordered, so that it needs no
  finiteness.
-/
module

public import proofs.«01_k».proof.Proof.Reals

@[expose] public section

noncomputable section

namespace Cert.Gate

open Idealize.ShloMosaic

abbrev Half := FVec Ideal ⟨2, ![8192, 512]⟩ .f32

/-- The smooth unit, on the floats every program writes. -/
def unit (y : EReal) : EReal :=
  Ideal.ofBits .f32 0x3F000000#32 * y
    * (1 + Ideal.tanh (Ideal.ofBits .f32 0x3F4C422A#32 * (y + Ideal.ofBits .f32 0x3D372713#32 * (y * y * y))))

/-- One row's part of the gradient. -/
def term (yp dz : Half) (r : Fin 8192) (i j : Fin 512) : EReal := unit (yp (ix2 r i)) * dz (ix2 r j)
def gradArr (yp dz : Half) : FVec Ideal ⟨3, ![1, 512, 512]⟩ .bf16 := fun i => ∑ r, term yp dz r (i 1) (i 2)

end Cert.Gate

end
-- ==== Proof.Gate.Kernel.lean ====
/-
  What the kernel of the gate's weight's gradient leaves in its result: each grid point takes 1024 rows and adds their
  products to the sum it keeps between points; the last point stores the sum.
-/
module

public import proofs.«01_k».proof.Proof.Gen.GateKIdeal.Value
public import proofs.«01_k».proof.Proof.Gate.Spec
public import proofs.«01_k».proof.Proof.Rows
public import Idealize.ShloMosaic.Lib.Pipeline.ValueKit
public import Idealize.ShloMosaic.Lib.StableHlo.ReadAt
public import Idealize.ShloMosaic.Lib.Pipeline.ReadBack

@[expose] public section

set_option maxRecDepth 16384

noncomputable section

namespace Cert.Gate.Kernel

open Idealize.ShloMosaic Idealize.SL.Sem Cert.GateKIdeal Cert.GateKIdeal.Gen
open Idealize.ShloMosaic.TcCoe
open Idealize.ShloMosaic.Pipeline (Dat)

variable (m : (ℓ : Loc nD τ sig) → Buf (Elt Ideal) ℓ) (c : Dev nD)

/-- The program's two arguments on this device. -/
abbrev yp : Half := m (c, Proc.tc.devRef main_arg0)
abbrev dz : Half := m (c, Proc.tc.devRef main_arg1)

theorem idx : ∀ t : Fin cfg0.N, win0_0.index t = ![t.val, 0] ∧ win0_1.index t = ![t.val, 0] ∧ win0_2.index t = ![0, 0, 0] :=
  (by decide +kernel : ∀ t : Fin grid0.N, _)

/-- Row `i` of block `t` of the arrays. -/
abbrev row (t : Fin cfg0.N) (i : Fin 1024) : Fin 8192 := Rows.row (N := cfg0.N) (S := 1024) rfl t i

theorem blk_yp (t : Fin cfg0.N) (i : Fin 1024) (j : Fin 512) : iblk m c 0 t (ix2 i j) = yp m c (ix2 (row t i) j) := by
  have e : V m c main_arg0 (ix2 (row t i) j) = yp m c (ix2 (row t i) j) := by unfold V; after_reads_at
  rw [← e]; blk_ext [iblk, idx t, row, Rows.row]
theorem blk_dz (t : Fin cfg0.N) (i : Fin 1024) (j : Fin 512) : iblk m c 1 t (ix2 i j) = dz m c (ix2 (row t i) j) := by
  have e : V m c main_v0 (ix2 (row t i) j) = dz m c (ix2 (row t i) j) := by unfold V; after_reads_at
  rw [← e]; blk_ext [iblk, idx t, row, Rows.row]

theorem unit_eq (y : EReal) : Ideal.ofBits .f32 0x3F000000#32 * y
    * (1 + Ideal.tanh (Ideal.ofBits .f32 0x3F4C422A#32 * (y + Ideal.ofBits .f32 0x3D372713#32 * (y * y * y)))) = unit y := rfl

/-- One point's step: the block's products added to what the sum was. -/
theorem step (t : Fin cfg0.N) (acc : Vec Ideal S1x512x512 .f32) (i : S1x512x512.Idx) :
    k0_pay2 (iblk m c 0 t) (iblk m c 1 t) acc i = acc i + ∑ k, term (yp m c) (dz m c) (row t k) (i 1) (i 2) := by
  idx_vars i
  have hy := blk_yp m c t
  have hz := blk_dz m c t
  generalize iblk m c 0 t = b0 at hy ⊢
  generalize iblk m c 1 t = b1 at hz ⊢
  pointwise [k0_pay2]
  simp only [hy, hz, unit_eq, Subsingleton.elim i0 0]
  rfl

theorem first (i : S1x512x512.Idx) : k0_pay1 (F := Ideal) i = 0 := by
  idx_vars i
  pointwise [k0_pay1]

/-- The sum kept between points, after the last one. -/
theorem acc_last (i : S1x512x512.Idx) :
    (outsAt0 m c t0_7.val t0_7.isLt).2 i = ∑ r, term (yp m c) (dz m c) r (i 1) (i 2) := by
  refine Rows.acc_ext (N := cfg0.N) (S := 1024) (M := 8192) 8 rfl (by decide) (fun n h => (outsAt0 m c n h).2)
    (fun r i => term (yp m c) (dz m c) r (i 1) (i 2)) (fun t h0 i => ?_) (fun t h0 i => ?_) t0_7 rfl i
  · rw [outsAt0_A m c t h0 (by omega)]
    frame_out
    rw [step, first, zero_add]
  · by_cases h1 : t.val % 8 = 7
    · rw [outsAt0_C m c t h0 h1]
      frame_out
      rw [read_unread_whole, step]
    · rw [outsAt0_B m c t h0 h1]
      frame_out
      rw [read_unread_whole, step]

/-- What the last point stores is the sum. -/
theorem stored (i : S1x512x512.Idx) :
    (outsAt0 m c t0_7.val t0_7.isLt).1 i = (outsAt0 m c t0_7.val t0_7.isLt).2 i := by
  rw [outsAt0_C m c t0_7 (by decide) (by decide)]
  frame_out
  generalize k0_pay2 (F := Ideal) _ _ _ = v
  idx_vars i
  pointwise [k0_pay3]

theorem final : (dats m 0 c).arrAt 2 cfg0.N = gradArr (yp m c) (dz m c) := by
  refine (dats m 0 c).arrAt_eq_of_after_last 2 t0_7 (by decide +kernel) _ fun j => ?_
  blk_simp
  rw [after0_2, stored, acc_last]
  idx_vars j
  rfl

end Cert.Gate.Kernel

end
-- ==== Proof.Gate.Reference.lean ====
/-
  What the reference of the gate's weight's gradient computes: the transposed product of the argument's gradient and the
  smooth unit, row by row the same products.
-/
module

public import proofs.«01_k».proof.Proof.Gen.GateRIdeal.Read
public import proofs.«01_k».proof.Proof.Gate.Spec

@[expose] public section

set_option maxRecDepth 16384

noncomputable section

namespace Cert.Gate.Reference

open Idealize.ShloMosaic Cert.GateRIdeal Cert.GateRIdeal.Gen Cert.GateRIdeal.Read

theorem unit_eq (y : EReal) : y * (Ideal.ofBits .f32 0x3F000000#32
    * (1 + Ideal.tanh (Ideal.ofBits .f32 0x3F4C422A#32 * (y + Ideal.ofBits .f32 0x3D372713#32 * (y * y * y))))) = unit y := by
  unfold unit
  rw [← mul_assoc, mul_comm y (Ideal.ofBits .f32 0x3F000000#32)]

theorem unit_at (x0 : Half) (r : Fin 8192) (j : Fin 512) : val_main_v13 (F := Ideal) x0 (ix2 r j) = unit (x0 (ix2 r j)) := by
  pointwise [val_main_v13, val_main_v12, val_main_v11, val_main_v10, val_main_v9, val_main_v8, val_main_v7, val_main_v6, val_main_v5, val_main_v4, val_main_v3, val_main_v2, val_main_v1, val_main_cst_0, val_main_cst_1, val_main_cst_2, val_main_cst_3]
  exact unit_eq _

theorem grad_eq (x0 x1 : Half) : val_main_v18 (F := Ideal) x0 x1 = gradArr x0 x1 := by
  funext i
  idx_vars i
  pointwise [gradArr, val_main_v18, val_main_v17, val_main_v16, val_main_v15]
  exact Finset.sum_congr rfl fun r _ => by rw [unit_at, mul_comm]; rfl

end Cert.Gate.Reference

end
-- ==== Proof.Gate.Claims.lean ====
/-
  The claims about the gate's weight's gradient: its runs end quietly with the arguments unchanged, and on all arguments it
  returns the gradient that differentiating the gate's product gives.
-/
module

public import proofs.«01_k».proof.Defs
public import proofs.«01_k».proof.Proof.Gen.GateK.Frame
public import proofs.«01_k».proof.Proof.Gen.GateRIdeal.Run
public import proofs.«01_k».proof.Proof.Gate.Kernel
public import proofs.«01_k».proof.Proof.Gate.Reference
public import Idealize.ShloMosaic.Lib.Quiescent

@[expose] public section

set_option maxRecDepth 16384

noncomputable section

namespace Cert.Gate.Claims

open Idealize.ShloMosaic Idealize.SL.Sem

theorem frame_kernel : Cert.quiescent_GateK := fun m ρ _ => Cert.GateK.Gen.frame m ρ
theorem frame_ideal : Cert.quiescent_GateKIdeal := fun m ρ _ => Cert.GateKIdeal.Gen.frame m ρ
theorem frame_reference : Cert.quiescent_GateRIdeal := fun m ρ _ =>
  (θ_run Cert.GateRIdeal.defs _ _).mono (fun r h => ⟨fun c => (h c).2, sem_eq_zero_of_no_sems (by decide) r.2⟩)
    (Cert.GateRIdeal.Value.run (F := Ideal) m ρ)
theorem preserves : Cert.preserves_GateK_GateKIdeal := trivial

theorem algebraic : Cert.algebraic_GateKIdeal_GateRIdeal := by
  intro m ρ m' ρ' _ hagree
  refine ⟨fun c => gradArr (Kernel.yp m c) (Kernel.dz m c), ?_, ?_⟩
  · exact (θ_run Cert.GateKIdeal.defs _ _).mono
      (fun r h c => ⟨(h c).1.trans (Kernel.final m c), (h c).2⟩)
      (Cert.GateKIdeal.Value.run_blocks (F := Ideal) m ρ)
  · refine (θ_run Cert.GateRIdeal.defs _ _).mono (fun r h c => ⟨?_, (h c).2⟩)
      (Cert.GateRIdeal.Value.run (F := Ideal) m' ρ')
    obtain ⟨e0, e1⟩ := hagree c
    refine ((h c).1.trans (Cert.GateRIdeal.Read.val_main_v18_eq _ _)).trans ((Reference.grad_eq _ _).trans ?_)
    exact congrArg₂ gradArr e0 e1

end Cert.Gate.Claims

end
-- ==== Proof.Attn.Spec.lean ====
/-
  The gradients of one head's dilated attention in real arithmetic. A query `t` sees a key `u` in branch `i` when `u` lies
  0, d, 2 d, …, 128 d before it, d = 4 ^ i. Every branch has its own softmax, and the branches are weighted by their
  denominators; so the weight of a key is `exp (score − logZ)` in every branch, with one `logZ` for each query.
-/
module

public import proofs.«01_k».proof.Proof.Reals
public import Mathlib.Analysis.SpecialFunctions.Log.Basic

@[expose] public section

noncomputable section

namespace Cert.Attn

/-- Query `t` sees key `u` in branch `i`. -/
def Link (i : Fin 3) (t u : Fin 2048) : Prop :=
  u.val ≤ t.val ∧ t.val - u.val ≤ 128 * 4 ^ i.val ∧ 4 ^ i.val ∣ t.val - u.val

instance (i : Fin 3) (t u : Fin 2048) : Decidable (Link i t u) := by unfold Link; infer_instance

theorem link_self (i : Fin 3) (t : Fin 2048) : Link i t t := ⟨le_rfl, by simp, by simp⟩

/-- The roped and scaled queries, the roped keys, the values and the cotangent of one head. -/
structure Head where
  q : Fin 2048 → Fin 64 → ℝ
  k : Fin 2048 → Fin 64 → ℝ
  v : Fin 2048 → Fin 64 → ℝ
  d : Fin 2048 → Fin 64 → ℝ

namespace Head

variable (a : Head)

def score (t u : Fin 2048) : ℝ := ∑ e, a.q t e * a.k u e
/-- The greatest score that a query sees in a branch. -/
def top (i : Fin 3) (t : Fin 2048) : ℝ := (Finset.univ.filter (Link i t)).sup' ⟨t, by simp [link_self]⟩ (a.score t)
def p (i : Fin 3) (t u : Fin 2048) : ℝ := if Link i t u then Real.exp (a.score t u - a.top i t) else 0
def den (i : Fin 3) (t : Fin 2048) : ℝ := ∑ u, a.p i t u
def acc (i : Fin 3) (t : Fin 2048) (e : Fin 64) : ℝ := ∑ u, a.v u e * a.p i t u
def out (i : Fin 3) (t : Fin 2048) (e : Fin 64) : ℝ := a.acc i t e / a.den i t
def lse (i : Fin 3) (t : Fin 2048) : ℝ := a.top i t + Real.log (a.den i t)
/-- The softmax over the branches. -/
def peak (t : Fin 2048) : ℝ := Finset.univ.sup' ⟨0, Finset.mem_univ 0⟩ (a.lse · t)
def x (i : Fin 3) (t : Fin 2048) : ℝ := Real.exp (a.lse i t - a.peak t)
def tot (t : Fin 2048) : ℝ := ∑ i, a.x i t
def w (i : Fin 3) (t : Fin 2048) : ℝ := a.x i t / a.tot t
def attn (t : Fin 2048) (e : Fin 64) : ℝ := ∑ i, a.w i t * a.out i t e
def logZ (t : Fin 2048) : ℝ := a.peak t + Real.log (a.tot t)
/-- A key's weight, the row sums of the cotangent, the gradient of a score, and the gradients. -/
def weight (t u : Fin 2048) : ℝ := Real.exp (a.score t u - a.logZ t)
def delta (t : Fin 2048) : ℝ := ∑ e, a.d t e * a.attn t e
def grad (t u : Fin 2048) : ℝ := a.weight t u * (∑ e, a.d t e * a.v u e - a.delta t)
def dq (t : Fin 2048) (e : Fin 64) : ℝ := ∑ i, ∑ u, if Link i t u then a.grad t u * a.k u e else 0
def dk (u : Fin 2048) (e : Fin 64) : ℝ := ∑ i, ∑ t, if Link i t u then a.grad t u * a.q t e else 0
def dv (u : Fin 2048) (e : Fin 64) : ℝ := ∑ i, ∑ t, if Link i t u then a.weight t u * a.d t e else 0

theorem p_nonneg (i : Fin 3) (t u : Fin 2048) : 0 ≤ a.p i t u := by
  unfold p; split
  · exact (Real.exp_pos _).le
  · exact le_rfl

theorem den_pos (i : Fin 3) (t : Fin 2048) : 0 < a.den i t := by
  refine lt_of_lt_of_le ?_ (Finset.single_le_sum (fun u _ => a.p_nonneg i t u) (Finset.mem_univ t))
  rw [p, if_pos (link_self i t)]; exact Real.exp_pos _

theorem x_pos (i : Fin 3) (t : Fin 2048) : 0 < a.x i t := Real.exp_pos _

theorem tot_pos (t : Fin 2048) : 0 < a.tot t :=
  Finset.sum_pos (fun i _ => a.x_pos i t) ⟨0, Finset.mem_univ 0⟩

/-- A key's weight in a branch, times the branch's, is its weight over all branches. -/
theorem p_mul (i : Fin 3) (t u : Fin 2048) : a.p i t u * (a.w i t / a.den i t) = if Link i t u then a.weight t u else 0 := by
  have hd := a.den_pos i t
  have ht := a.tot_pos t
  unfold p
  split
  · have e : a.weight t u = Real.exp (a.score t u - a.top i t) * Real.exp (a.lse i t - a.peak t) / (a.den i t * a.tot t) := by
      rw [weight, logZ, lse, show a.score t u - (a.peak t + Real.log (a.tot t))
        = (a.score t u - a.top i t) + (a.top i t + Real.log (a.den i t) - a.peak t) - Real.log (a.den i t) - Real.log (a.tot t) by ring,
        Real.exp_sub, Real.exp_sub, Real.exp_log hd, Real.exp_log ht, Real.exp_add]
      field_simp
    rw [e, w, x]
    field_simp
  · rw [zero_mul]

/-! ## The differentiated forward pass -/

/-- A branch's share of the output's cotangent, and what the branches' weights and the denominators receive. -/
def share (i : Fin 3) (t : Fin 2048) : ℝ := ∑ e, a.d t e * a.out i t e
def dlse (i : Fin 3) (t : Fin 2048) : ℝ :=
  (a.share i t / a.tot t + -∑ j, a.share j t * (1 / (a.tot t * a.tot t)) * a.x j t) * a.x i t
def dden (i : Fin 3) (t : Fin 2048) : ℝ :=
  a.dlse i t / a.den i t + -∑ e, a.w i t * a.d t e * (1 / (a.den i t * a.den i t)) * a.acc i t e
def dp (i : Fin 3) (t u : Fin 2048) : ℝ := ∑ e, a.w i t * a.d t e / a.den i t * a.v u e + a.dden i t
def ds (i : Fin 3) (t u : Fin 2048) : ℝ := a.dp i t u * a.p i t u

theorem delta_eq (t : Fin 2048) : a.delta t = ∑ j, a.w j t * a.share j t := by
  simp only [delta, attn, share, Finset.mul_sum]
  rw [Finset.sum_comm]
  exact Finset.sum_congr rfl fun j _ => Finset.sum_congr rfl fun e _ => by ring

theorem share_eq (i : Fin 3) (t : Fin 2048) : (∑ e, a.d t e * a.acc i t e) = a.share i t * a.den i t := by
  have hd := (a.den_pos i t).ne'
  rw [share, Finset.sum_mul]
  exact Finset.sum_congr rfl fun e _ => by rw [out]; field_simp

theorem dlse_eq (i : Fin 3) (t : Fin 2048) : a.dlse i t = a.w i t * (a.share i t - a.delta t) := by
  have ht := (a.tot_pos t).ne'
  have e : (∑ j, a.share j t * (1 / (a.tot t * a.tot t)) * a.x j t) = a.delta t / a.tot t := by
    rw [delta_eq, Finset.sum_div]
    exact Finset.sum_congr rfl fun j _ => by rw [w]; field_simp
  rw [dlse, e, w]
  field_simp
  ring

theorem dden_eq (i : Fin 3) (t : Fin 2048) : a.dden i t = -(a.w i t / a.den i t) * a.delta t := by
  have hd := (a.den_pos i t).ne'
  have e : (∑ e, a.w i t * a.d t e * (1 / (a.den i t * a.den i t)) * a.acc i t e)
      = a.w i t / (a.den i t * a.den i t) * (a.share i t * a.den i t) := by
    rw [← share_eq, Finset.mul_sum]
    exact Finset.sum_congr rfl fun e _ => by ring
  rw [dden, e, dlse_eq]
  field_simp
  ring

theorem dp_eq (i : Fin 3) (t u : Fin 2048) : a.dp i t u = a.w i t / a.den i t * (∑ e, a.d t e * a.v u e - a.delta t) := by
  rw [dp, dden_eq, mul_sub, Finset.mul_sum, neg_mul, ← sub_eq_add_neg]
  exact congrArg (· - _) (Finset.sum_congr rfl fun e _ => by ring)

theorem ds_eq (i : Fin 3) (t u : Fin 2048) : a.ds i t u = if Link i t u then a.grad t u else 0 := by
  have h := a.p_mul i t u
  rw [ds, dp_eq, show ∀ x y z : ℝ, x * y * z = z * x * y from fun x y z => by ring, h, grad]
  split <;> simp

/-- The greatest score receives nothing: what the denominator's logarithm hands it, the exponentials take back. -/
theorem dtop_eq (i : Fin 3) (t : Fin 2048) : a.dlse i t + ∑ u, -a.ds i t u = 0 := by
  have hd := (a.den_pos i t).ne'
  have e : (∑ u, a.ds i t u) = a.w i t / a.den i t * (a.share i t * a.den i t - a.delta t * a.den i t) := by
    have e1 : (∑ u, (∑ e, a.d t e * a.v u e) * a.p i t u) = a.share i t * a.den i t := by
      rw [← share_eq]
      simp only [acc, Finset.mul_sum, Finset.sum_mul]
      rw [Finset.sum_comm]
      exact Finset.sum_congr rfl fun e _ => Finset.sum_congr rfl fun u _ => by ring
    rw [← e1]; conv_rhs => rw [den, Finset.mul_sum, ← Finset.sum_sub_distrib, Finset.mul_sum]
    refine Finset.sum_congr rfl fun u _ => ?_
    rw [ds, dp_eq]
    show _ = a.w i t / a.den i t * _
    ring
  rw [Finset.sum_neg_distrib, e, dlse_eq]
  field_simp
  ring

/-- The differentiated pass's gradient of the values. -/
theorem dv_eq (u : Fin 2048) (e : Fin 64) :
    (∑ i, ∑ t, a.w i t * a.d t e / a.den i t * a.p i t u) = a.dv u e := by
  refine Finset.sum_congr rfl fun i _ => Finset.sum_congr rfl fun t _ => ?_
  have h := a.p_mul i t u
  rw [show a.w i t * a.d t e / a.den i t * a.p i t u = a.p i t u * (a.w i t / a.den i t) * a.d t e by ring, h]
  split <;> simp

theorem dk_eq (u : Fin 2048) (e : Fin 64) : (∑ t, (∑ i, a.ds i t u) * a.q t e) = a.dk u e := by
  simp only [ds_eq, Finset.sum_mul, dk]
  rw [Finset.sum_comm]
  exact Finset.sum_congr rfl fun i _ => Finset.sum_congr rfl fun t _ => by split <;> simp

theorem dq_eq (t : Fin 2048) (e : Fin 64) : (∑ u, (∑ i, a.ds i t u) * a.k u e) = a.dq t e := by
  simp only [ds_eq, Finset.sum_mul, dq]
  rw [Finset.sum_comm]
  exact Finset.sum_congr rfl fun i _ => Finset.sum_congr rfl fun u _ => by split <;> simp

end Head

end Cert.Attn

end
-- ==== Proof.Attn.Model.lean ====
/-
  The arguments of the attention's gradients as real numbers, and each head's roped queries and keys.
-/
module

public import proofs.«01_k».proof.Proof.Attn.Spec
public import Idealize.ShloMosaic.Lib.Pipeline.ValueKit
public import Mathlib.Analysis.SpecialFunctions.Trigonometric.Basic
public import Mathlib.Analysis.SpecialFunctions.Pow.Real

@[expose] public section
noncomputable section
namespace Cert.Attn
open Idealize.ShloMosaic

/-- Element `e` of head `h` among a row's 512. -/
def col (h : Fin 8) (e : Fin 64) : Fin 512 := ⟨h.val * 64 + e.val, by omega⟩
def headOf (j : Fin 512) : Fin 8 := ⟨j.val / 64, by omega⟩
def elemOf (j : Fin 512) : Fin 64 := ⟨j.val % 64, by omega⟩

theorem col_of (j : Fin 512) : col (headOf j) (elemOf j) = j := Fin.ext (by simp only [col, headOf, elemOf]; omega)

/-- The rotation by an angle per pair of elements, half a head apart, and its transpose. -/
def rope (x : Fin 64 → ℝ) (c s : Fin 32 → ℝ) (e : Fin 64) : ℝ :=
  if h : e.val < 32 then x e * c ⟨e.val, h⟩ - x ⟨32 + e.val, by omega⟩ * s ⟨e.val, h⟩
  else x ⟨e.val - 32, by omega⟩ * s ⟨e.val - 32, by omega⟩ + x e * c ⟨e.val - 32, by omega⟩
def unrope (g : Fin 64 → ℝ) (c s : Fin 32 → ℝ) (e : Fin 64) : ℝ :=
  if h : e.val < 32 then g ⟨32 + e.val, by omega⟩ * s ⟨e.val, h⟩ + g e * c ⟨e.val, h⟩
  else g e * c ⟨e.val - 32, by omega⟩ + -g ⟨e.val - 32, by omega⟩ * s ⟨e.val - 32, by omega⟩

/-- A position's angle for pair `f` of a head's elements. -/
def angle (p : BitVec 32) (f : Fin 32) : ℝ := (p.toInt : ℝ) * (10000 : ℝ) ^ (-((BitVec.ofNat 32 f.val).toInt : ℝ) * 2 / 64)

structure Args where
  q : Fin 4 → Fin 2048 → Fin 512 → ℝ
  k : Fin 4 → Fin 2048 → Fin 512 → ℝ
  v : Fin 4 → Fin 2048 → Fin 512 → ℝ
  pos : Fin 4 → Fin 2048 → BitVec 32
  d : Fin 4 → Fin 2048 → Fin 512 → ℝ

namespace Args
variable (a : Args)

def cos (b : Fin 4) (t : Fin 2048) (f : Fin 32) : ℝ := Real.cos (angle (a.pos b t) f)
def sin (b : Fin 4) (t : Fin 2048) (f : Fin 32) : ℝ := Real.sin (angle (a.pos b t) f)

/-- Head `h` of sequence `b`. -/
def head (b : Fin 4) (h : Fin 8) : Head where
  q t e := rope (fun e => a.q b t (col h e)) (a.cos b t) (a.sin b t) e * (1 / 8)
  k t e := rope (fun e => a.k b t (col h e)) (a.cos b t) (a.sin b t) e
  v t e := a.v b t (col h e)
  d t e := a.d b t (col h e)

/-- The three gradients. -/
def dq (b : Fin 4) (t : Fin 2048) (h : Fin 8) (e : Fin 64) : ℝ :=
  unrope (fun e => (a.head b h).dq t e * (1 / 8)) (a.cos b t) (a.sin b t) e
def dk (b : Fin 4) (t : Fin 2048) (h : Fin 8) (e : Fin 64) : ℝ := unrope ((a.head b h).dk t) (a.cos b t) (a.sin b t) e
def dv (b : Fin 4) (t : Fin 2048) (h : Fin 8) (e : Fin 64) : ℝ := (a.head b h).dv t e

end Args

abbrev Wide := FVec Ideal ⟨3, ![4, 2048, 512]⟩ .f32

/-- The arrays are the reals of `a`. -/
structure Holds (x0 x1 x2 : Wide) (x3 : IVec ⟨2, ![4, 2048]⟩ 32) (x4 : Wide) (a : Args) : Prop where
  q : ∀ b t j, x0 (ix3 b t j) = ((a.q b t j : ℝ) : EReal)
  k : ∀ b t j, x1 (ix3 b t j) = ((a.k b t j : ℝ) : EReal)
  v : ∀ b t j, x2 (ix3 b t j) = ((a.v b t j : ℝ) : EReal)
  pos : ∀ b t, x3 (ix2 b t) = a.pos b t
  d : ∀ b t j, x4 (ix3 b t j) = ((a.d b t j : ℝ) : EReal)

/-- The results. -/
def dqArr (a : Args) : FVec Ideal ⟨3, ![4, 2048, 512]⟩ .bf16 := fun i => ((a.dq (i 0) (i 1) (headOf (i 2)) (elemOf (i 2)) : ℝ) : EReal)
def dkArr (a : Args) : FVec Ideal ⟨3, ![4, 2048, 512]⟩ .bf16 := fun i => ((a.dk (i 0) (i 1) (headOf (i 2)) (elemOf (i 2)) : ℝ) : EReal)
def dvArr (a : Args) : FVec Ideal ⟨3, ![4, 2048, 512]⟩ .bf16 := fun i => ((a.dv (i 0) (i 1) (headOf (i 2)) (elemOf (i 2)) : ℝ) : EReal)

/-! Greatest elements of families of reals. -/

/-- The greatest of the reals that a test lets through, and `⊥` for the others. -/
theorem fold_max {n : ℕ} (s : Fin n → ℝ) (P : Fin n → Prop) [DecidablePred P] (h : (Finset.univ.filter P).Nonempty) :
    Finset.univ.fold max (⊥ : EReal) (fun k => if P k then ((s k : ℝ) : EReal) else ⊥)
      = (((Finset.univ.filter P).sup' h s : ℝ) : EReal) := by
  have e : Finset.univ.fold max (⊥ : EReal) (fun k => if P k then ((s k : ℝ) : EReal) else ⊥)
      = Finset.univ.sup (fun k => if P k then ((s k : ℝ) : EReal) else ⊥) := rfl
  rw [e]
  apply le_antisymm
  · refine Finset.sup_le fun k _ => ?_
    split
    · rename_i hk; exact EReal.coe_le_coe_iff.mpr (Finset.le_sup' s (Finset.mem_filter.mpr ⟨Finset.mem_univ k, hk⟩))
    · exact bot_le
  · obtain ⟨k, hk, e⟩ := Finset.exists_mem_eq_sup' h s
    rw [e]
    have hP := (Finset.mem_filter.mp hk).2
    refine le_trans (le_of_eq ?_) (Finset.le_sup (f := fun k => if P k then ((s k : ℝ) : EReal) else ⊥) (Finset.mem_univ k))
    exact (if_pos hP).symm

theorem fold_max_all {n : ℕ} (s : Fin n → ℝ) (h : (Finset.univ : Finset (Fin n)).Nonempty) :
    Finset.univ.fold max (⊥ : EReal) (fun k => ((s k : ℝ) : EReal)) = ((Finset.univ.sup' h s : ℝ) : EReal) := by
  have e := fold_max s (fun _ => True) (by simpa using h)
  simpa using e

theorem coe_log (x : ℝ) (h : 0 < x) : Ideal.log ((x : ℝ) : EReal) = ((Real.log x : ℝ) : EReal) := if_neg (not_le.mpr h)

end Cert.Attn

end
-- ==== Proof.Attn.Forward.lean ====
/-
  The forward pass of the attention's reference, line by line, as real numbers.
-/
module

public import proofs.«01_k».proof.Proof.Gen.AttnRIdeal.Read
public import proofs.«01_k».proof.Proof.Attn.Model
public import Idealize.ShloMosaic.Lib.Pointwise

@[expose] public section
set_option maxRecDepth 16384
noncomputable section
namespace Cert.Attn.Reference
open Idealize.ShloMosaic Cert.AttnRIdeal Cert.AttnRIdeal.Read
open Cert.Reals

theorem word_theta : Ideal.ofBits .f32 0x461C4000#32 = ((10000 : ℝ) : EReal) := by
  simp [Ideal.ofBits, Ideal.ieee, -EReal.coe_mul]; norm_num
theorem word_64 : Ideal.ofBits .f32 0x42800000#32 = ((64 : ℝ) : EReal) := by
  simp [Ideal.ofBits, Ideal.ieee, -EReal.coe_mul]; norm_num
theorem word_eighth : Ideal.ofBits .f32 0x3E000000#32 = ((1 / 8 : ℝ) : EReal) := by
  simp [Ideal.ofBits, Ideal.ieee, -EReal.coe_mul]; norm_num
theorem word_bot : Ideal.ofBits .f32 0xFF800000#32 = ⊥ := by
  simp [Ideal.ofBits, Ideal.ieee, -EReal.coe_mul]
theorem coe_cos (x : ℝ) : Ideal.cos ((x : ℝ) : EReal) = ((Real.cos x : ℝ) : EReal) := rfl
theorem coe_sin (x : ℝ) : Ideal.sin ((x : ℝ) : EReal) = ((Real.sin x : ℝ) : EReal) := rfl
theorem coe_exp (x : ℝ) : Ideal.exp ((x : ℝ) : EReal) = ((Real.exp x : ℝ) : EReal) := rfl

variable {x0 x1 x2 : Wide} {x3 : IVec ⟨2, ![4, 2048]⟩ 32} {x4 : Wide} {a : Args}

theorem rope_eq {x : Wide} {X : Fin 4 → Fin 2048 → Fin 512 → ℝ} (hx : ∀ b t j, x (ix3 b t j) = ((X b t j : ℝ) : EReal))
    {c s : FVec Ideal ⟨3, ![4, 2048, 32]⟩ .f32} {C S : Fin 4 → Fin 2048 → Fin 32 → ℝ}
    (hc : ∀ b t f, c (ix3 b t f) = ((C b t f : ℝ) : EReal)) (hs : ∀ b t f, s (ix3 b t f) = ((S b t f : ℝ) : EReal))
    (b : Fin 4) (t : Fin 2048) (g : Fin 8) (e : Fin 64) :
    (if h : e.val < 32 then
      x (ix3 b t ⟨g.val * 64 + e.val, by omega⟩) * c (ix3 b t ⟨e.val, h⟩)
        - x (ix3 b t ⟨g.val * 64 + (32 + e.val), by omega⟩) * s (ix3 b t ⟨e.val, h⟩)
    else
      x (ix3 b t ⟨g.val * 64 + (e.val - 32), by omega⟩) * s (ix3 b t ⟨e.val - 32, by omega⟩)
        + x (ix3 b t ⟨g.val * 64 + (32 + (e.val - 32)), by omega⟩) * c (ix3 b t ⟨e.val - 32, by omega⟩) : EReal)
      = ((rope (fun e => X b t (col g e)) (C b t) (S b t) e : ℝ) : EReal) := by
  unfold rope
  split
  · simp only [hx, hc, hs, ← EReal.coe_mul, ← EReal.coe_sub]; rfl
  · rename_i h
    have e1 : (⟨g.val * 64 + (32 + (e.val - 32)), by omega⟩ : Fin 512) = col g e := Fin.ext (by simp only [col]; omega)
    simp only [e1, hx, hc, hs, ← EReal.coe_mul, ← EReal.coe_add]; rfl

/-! Which keys a query sees, as the integers of the rows' distances say. -/

def gapTest (i : Fin 3) (n : BitVec 32) : BitVec 1 :=
  IntOp.andi (IntOp.andi (IntOp.cmpi .sge n 0#32)
      (IntOp.cmpi .sle (IntOp.shrsi .host n (IntOp.muli 2#32 (BitVec.ofNat 32 i.val))) 128#32))
    (IntOp.cmpi .eq (IntOp.shli .host (IntOp.shrsi .host n (IntOp.muli 2#32 (BitVec.ofNat 32 i.val))) (IntOp.muli 2#32 (BitVec.ofNat 32 i.val))) n)

theorem gap_pos : ∀ (i : Fin 3) (n : Fin 2048),
    gapTest i (BitVec.ofNat 32 n.val) = BitVec.ofBool (decide (n.val ≤ 128 * 4 ^ i.val ∧ 4 ^ i.val ∣ n.val)) := by decide +kernel
theorem gap_neg : ∀ (i : Fin 3) (n : Fin 2047), gapTest i (BitVec.ofInt 32 (-(n.val + 1 : ℕ))) = 0#1 := by decide +kernel

theorem link_word (i : Fin 3) (t u : Fin 2048) : val_main_v58 (F := Ideal) (ix3 i t u) = BitVec.ofBool (decide (Link i t u)) := by
  pointwise [val_main_v58, val_main_v57, val_main_v56, val_main_v55, val_main_v54, val_main_v53, val_main_v52, val_main_v51,
    val_main_v50, val_main_v49, val_main_v48, val_main_v47, val_main_v46, val_main_v45, val_main_v44, val_main_c, val_main_c_3, val_main_c_4]
  show gapTest i (IntOp.subi (BitVec.ofNat 32 t.val) (BitVec.ofNat 32 u.val)) = _
  rcases Nat.lt_or_ge t.val u.val with hl | hl
  · have e : IntOp.subi (BitVec.ofNat 32 t.val) (BitVec.ofNat 32 u.val) = BitVec.ofInt 32 (-((u.val - t.val - 1) + 1 : ℕ)) := by
      apply BitVec.eq_of_toInt_eq
      have small : ∀ z : ℤ, -5000 ≤ z → z ≤ 5000 → z.bmod (2 ^ 32) = z := fun z h1 h2 => Int.bmod_eq_of_le (by omega) (by omega)
      simp only [IntOp.subi, BitVec.toInt_sub, BitVec.toInt_ofNat', BitVec.toInt_ofInt]
      rw [small t.val (by omega) (by omega), small u.val (by omega) (by omega), small _ (by omega) (by omega), small _ (by omega) (by omega)]
      omega
    rw [e, gap_neg i ⟨u.val - t.val - 1, by omega⟩, decide_eq_false (fun hk => absurd hk.1 (by omega))]
    rfl
  · have e : IntOp.subi (BitVec.ofNat 32 t.val) (BitVec.ofNat 32 u.val) = BitVec.ofNat 32 (t.val - u.val) := by
      apply BitVec.eq_of_toNat_eq
      simp only [IntOp.subi, BitVec.toNat_sub, BitVec.toNat_ofNat]
      omega
    rw [e, gap_pos i ⟨t.val - u.val, by omega⟩]
    simp only [Link, hl, true_and]

variable (h : Holds x0 x1 x2 x3 x4 a)
include h

theorem angle_eq (b : Fin 4) (t : Fin 2048) (f : Fin 32) : val_main_v13 (F := Ideal) x3 (ix3 b t f) = ((angle (a.pos b t) f : ℝ) : EReal) := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  have e (n : BitVec 32) : (FloatOps.sitofp (F := Ideal) FTy.f32 n : EReal) = ((n.toInt : ℝ) : EReal) := rfl
  rw [h.pos, e, e, word_theta, word_two, word_64, ← EReal.coe_neg, ← EReal.coe_mul, coe_div _ _ (by norm_num)]
  exact (EReal.coe_mul _ _).symm

theorem cos_eq (b : Fin 4) (t : Fin 2048) (f : Fin 32) : val_main_v14 (F := Ideal) x3 (ix3 b t f) = ((a.cos b t f : ℝ) : EReal) := by
  pointwise [val_main_v14]
  rw [angle_eq h]; rfl
theorem sin_eq (b : Fin 4) (t : Fin 2048) (f : Fin 32) : val_main_v15 (F := Ideal) x3 (ix3 b t f) = ((a.sin b t f : ℝ) : EReal) := by
  pointwise [val_main_v15]
  rw [angle_eq h]; rfl

theorem q_eq (b : Fin 4) (t : Fin 2048) (g : Fin 8) (e : Fin 64) :
    val_main_v42 (F := Ideal) x0 x3 (ix4 b t g e) = (((a.head b g).q t e : ℝ) : EReal) := by
  pointwise [val_main_v42, val_main_v41, val_main_cst_2, val_main_v29, val_main_v28, val_main_v27, val_main_v26, val_main_v25, val_main_v24,
    val_main_v23, val_main_v22, val_main_v21, val_main_v20, val_main_v19, val_main_v18, val_main_v17, val_main_v16]
  rw [rope_eq h.q (cos_eq h) (sin_eq h), word_eighth]
  exact (EReal.coe_mul _ _).symm
theorem k_eq (b : Fin 4) (t : Fin 2048) (g : Fin 8) (e : Fin 64) :
    val_main_v39 (F := Ideal) x1 x3 (ix4 b t g e) = (((a.head b g).k t e : ℝ) : EReal) := by
  pointwise [val_main_v39, val_main_v38, val_main_v37, val_main_v36, val_main_v35, val_main_v34, val_main_v33, val_main_v32, val_main_v31,
    val_main_v30, val_main_v19, val_main_v18, val_main_v17, val_main_v16]
  exact rope_eq h.k (cos_eq h) (sin_eq h) b t g e
theorem v_eq (b : Fin 4) (t : Fin 2048) (g : Fin 8) (e : Fin 64) :
    val_main_v40 (F := Ideal) x2 (ix4 b t g e) = (((a.head b g).v t e : ℝ) : EReal) := by
  pointwise [val_main_v40]
  exact h.v _ _ _

theorem score_eq (i : Fin 3) (b : Fin 4) (g : Fin 8) (t u : Fin 2048) :
    val_main_v63 (F := Ideal) x0 x1 x3 (ix5 i b g t u) = if Link i t u then (((a.head b g).score t u : ℝ) : EReal) else ⊥ := by
  pointwise [val_main_v63, val_main_v62, val_main_v61, val_main_v60, val_main_v59, val_main_v43, link_word, val_main_cst_5]
  simp only [q_eq h, k_eq h, ← EReal.coe_mul, coe_sum, word_bot]; rfl

theorem top_eq (i : Fin 3) (b : Fin 4) (g : Fin 8) (t : Fin 2048) :
    val_main_v65 (F := Ideal) x0 x1 x3 (ix4 i b g t) = (((a.head b g).top i t : ℝ) : EReal) := by
  pointwise [val_main_v65, val_main_cst_7]
  simp only [score_eq h, word_bot]
  exact fold_max _ _ _

theorem p_eq (i : Fin 3) (b : Fin 4) (g : Fin 8) (t u : Fin 2048) :
    val_main_v74 (F := Ideal) x0 x1 x3 (ix5 i b g t u) = (((a.head b g).p i t u : ℝ) : EReal) := by
  pointwise [val_main_v74, val_main_v73, val_main_v72, val_main_v71]
  rw [score_eq h, top_eq h, Head.p]
  split
  · rw [← EReal.coe_sub]; rfl
  · exact congrArg Ideal.exp (EReal.bot_sub _)

theorem den_eq (i : Fin 3) (b : Fin 4) (g : Fin 8) (t : Fin 2048) :
    val_main_v75 (F := Ideal) x0 x1 x3 (ix4 i b g t) = (((a.head b g).den i t : ℝ) : EReal) := by
  pointwise [val_main_v75, val_main_cst_9]
  simp only [p_eq h, coe_sum, word_zero, zero_add]; rfl

theorem acc_eq (i : Fin 3) (b : Fin 4) (g : Fin 8) (t : Fin 2048) (e : Fin 64) :
    val_main_v77 (F := Ideal) x0 x1 x2 x3 (ix5 i b g t e) = (((a.head b g).acc i t e : ℝ) : EReal) := by
  pointwise [val_main_v77, val_main_v76]
  simp only [p_eq h, v_eq h, ← EReal.coe_mul, coe_sum]; rfl

theorem out_eq (i : Fin 3) (b : Fin 4) (g : Fin 8) (t : Fin 2048) (e : Fin 64) :
    val_main_v80 (F := Ideal) x0 x1 x2 x3 (ix5 i b g t e) = (((a.head b g).out i t e : ℝ) : EReal) := by
  pointwise [val_main_v80, val_main_v79, val_main_v78]
  rw [acc_eq h, den_eq h, coe_div _ _ ((a.head b g).den_pos i t).ne']; rfl

end Cert.Attn.Reference
end
-- ==== Proof.Attn.Blend.lean ====
/-
  The branches' weights of the attention's reference, line by line, as real numbers.
-/
module

public import proofs.«01_k».proof.Proof.Attn.Forward

@[expose] public section
set_option maxRecDepth 16384
noncomputable section
namespace Cert.Attn.Reference
open Idealize.ShloMosaic Cert.AttnRIdeal Cert.AttnRIdeal.Read
open Cert.Reals

theorem add_log (x z : ℝ) (hz : 0 < z) : FloatOps.addf (F := Ideal) (φ := .f32) ((x : ℝ) : EReal) (FloatOps.hostUnary (F := Ideal) (φ := .f32) .log ((z : ℝ) : EReal))
    = ((x + Real.log z : ℝ) : EReal) := by
  show ((x : ℝ) : EReal) + Ideal.log ((z : ℝ) : EReal) = _
  rw [coe_log z hz, ← EReal.coe_add]

theorem one_div_mul {x : ℝ} (h : x ≠ 0) : Ideal.div ((1 : ℝ) : EReal) (((x : ℝ) : EReal) * ((x : ℝ) : EReal)) = ((1 / (x * x) : ℝ) : EReal) := by
  rw [← EReal.coe_mul, coe_div _ _ (mul_ne_zero h h)]

/-! Operations of arrays on reals. -/

theorem f_add (x y : ℝ) : FloatOps.addf (F := Ideal) (φ := .f32) ((x : ℝ) : EReal) ((y : ℝ) : EReal) = ((x + y : ℝ) : EReal) := (EReal.coe_add _ _).symm
theorem f_sub (x y : ℝ) : FloatOps.subf (F := Ideal) (φ := .f32) ((x : ℝ) : EReal) ((y : ℝ) : EReal) = ((x - y : ℝ) : EReal) := (EReal.coe_sub _ _).symm
theorem f_mul (x y : ℝ) : FloatOps.mulf (F := Ideal) (φ := .f32) ((x : ℝ) : EReal) ((y : ℝ) : EReal) = ((x * y : ℝ) : EReal) := (EReal.coe_mul _ _).symm
theorem f_div (x y : ℝ) (h : y ≠ 0) : FloatOps.hostDivf (F := Ideal) (φ := .f32) ((x : ℝ) : EReal) ((y : ℝ) : EReal) = ((x / y : ℝ) : EReal) := coe_div x y h
theorem f_neg (x : ℝ) : FloatOps.hostNegf (F := Ideal) (φ := .f32) ((x : ℝ) : EReal) = ((-x : ℝ) : EReal) := rfl
theorem f_exp (x : ℝ) : FloatOps.hostUnary (F := Ideal) (φ := .f32) .exp ((x : ℝ) : EReal) = ((Real.exp x : ℝ) : EReal) := rfl
theorem f_max_bot (x : ℝ) : FloatOps.maximumf (F := Ideal) (φ := .f32) (⊥ : EReal) ((x : ℝ) : EReal) = ((x : ℝ) : EReal) := max_eq_right bot_le

variable {x0 x1 x2 : Wide} {x3 : IVec ⟨2, ![4, 2048]⟩ 32} {x4 : Wide} {a : Args} (h : Holds x0 x1 x2 x3 x4 a)
include h

theorem lse_eq (i : Fin 3) (b : Fin 4) (g : Fin 8) (t : Fin 2048) :
    val_main_v85 (F := Ideal) x0 x1 x3 (ix4 i b g t) = (((a.head b g).lse i t : ℝ) : EReal) := by
  rw [val_main_v85_apply, val_main_v84_apply, top_eq h, den_eq h]
  exact add_log _ _ ((a.head b g).den_pos i t)

theorem peak_eq (b : Fin 4) (g : Fin 8) (t : Fin 2048) :
    val_main_v86 (F := Ideal) x0 x1 x3 (ix3 b g t) = (((a.head b g).peak t : ℝ) : EReal) := by
  pointwise [val_main_v86, val_main_cst_11]
  simp only [lse_eq h, word_bot]
  exact fold_max_all _ _

theorem shift_eq (i : Fin 3) (b : Fin 4) (g : Fin 8) (t : Fin 2048) :
    val_main_v104 (F := Ideal) x0 x1 x3 (ix4 i b g t) = (((a.head b g).peak t : ℝ) : EReal) := by
  have e : val_main_v104 (F := Ideal) x0 x1 x3 (ix4 i b g t) = val_main_v93 (F := Ideal) x0 x1 x3 (ix3 b g t) := by
    pointwise [val_main_v104, val_main_v103]
  have e2 : val_main_v92 (F := Ideal) (ix3 b g t) = ⊥ := by
    pointwise [val_main_v92, val_main_cst_13]
    exact word_bot
  rw [e, val_main_v93_apply, e2, peak_eq h]
  exact f_max_bot _

theorem x_eq (i : Fin 3) (b : Fin 4) (g : Fin 8) (t : Fin 2048) :
    val_main_v106 (F := Ideal) x0 x1 x3 (ix4 i b g t) = (((a.head b g).x i t : ℝ) : EReal) := by
  rw [val_main_v106_apply, val_main_v105_apply, shift_eq h, lse_eq h, f_sub, f_exp, Head.x]

theorem tot_eq (b : Fin 4) (g : Fin 8) (t : Fin 2048) :
    val_main_v107 (F := Ideal) x0 x1 x3 (ix3 b g t) = (((a.head b g).tot t : ℝ) : EReal) := by
  pointwise [val_main_v107, val_main_cst_19]
  simp only [x_eq h, coe_sum, word_zero, ← EReal.coe_add, zero_add, Head.tot]

theorem w_eq (i : Fin 3) (b : Fin 4) (g : Fin 8) (t : Fin 2048) :
    val_main_v110 (F := Ideal) x0 x1 x3 (ix4 i b g t) = (((a.head b g).w i t : ℝ) : EReal) := by
  pointwise [val_main_v110, val_main_v109, val_main_v108]
  rw [x_eq h, tot_eq h, coe_div _ _ ((a.head b g).tot_pos t).ne']; rfl

theorem tot_sq (b : Fin 4) (g : Fin 8) (t : Fin 2048) :
    val_main_v113 (F := Ideal) x0 x1 x3 (ix4 0 b g t) = ((1 / ((a.head b g).tot t * (a.head b g).tot t) : ℝ) : EReal) := by
  pointwise [val_main_v113, val_main_v112, val_main_v111, val_main_v108, val_main_cst_20]
  rw [tot_eq h]; exact one_div_mul ((a.head b g).tot_pos t).ne'

theorem den_sq (i : Fin 3) (b : Fin 4) (g : Fin 8) (t : Fin 2048) :
    val_main_v83 (F := Ideal) x0 x1 x3 (ix5 i b g t 0) = ((1 / ((a.head b g).den i t * (a.head b g).den i t) : ℝ) : EReal) := by
  pointwise [val_main_v83, val_main_v82, val_main_v81, val_main_v78, val_main_cst_10]
  rw [den_eq h]; exact one_div_mul ((a.head b g).den_pos i t).ne'

theorem d_eq (b : Fin 4) (g : Fin 8) (t : Fin 2048) (e : Fin 64) :
    val_main_v121 (F := Ideal) x4 (ix4 b g t e) = (((a.head b g).d t e : ℝ) : EReal) := by
  pointwise [val_main_v121, val_main_v120]
  exact h.d _ _ _

theorem wd_eq (i : Fin 3) (b : Fin 4) (g : Fin 8) (t : Fin 2048) (e : Fin 64) :
    val_main_v124 (F := Ideal) x0 x1 x3 x4 (ix5 i b g t e) = (((a.head b g).w i t * (a.head b g).d t e : ℝ) : EReal) := by
  pointwise [val_main_v124, val_main_v123, val_main_v114, val_main_v122]
  rw [w_eq h, d_eq h, ← EReal.coe_mul]

theorem share_eq (i : Fin 3) (b : Fin 4) (g : Fin 8) (t : Fin 2048) :
    val_main_v128 (F := Ideal) x0 x1 x2 x3 x4 (ix4 i b g t) = (((a.head b g).share i t : ℝ) : EReal) := by
  pointwise [val_main_v128, val_main_v127, val_main_v126, val_main_v125, val_main_v122, val_main_cst_22, val_main_cst_23]
  simp only [out_eq h, d_eq h, ← EReal.coe_mul, coe_sum, word_zero, Fin.sum_univ_one, ← EReal.coe_add, zero_add, Head.share]

theorem pull_eq (b : Fin 4) (g : Fin 8) (t : Fin 2048) :
    val_main_v132 (F := Ideal) x0 x1 x2 x3 x4 (ix3 b g t)
      = ((∑ j, (a.head b g).share j t * (1 / ((a.head b g).tot t * (a.head b g).tot t)) * (a.head b g).x j t : ℝ) : EReal) := by
  have e (i : Fin 3) : val_main_v129 (F := Ideal) x0 x1 x3 (ix4 i b g t) = val_main_v113 (F := Ideal) x0 x1 x3 (ix4 0 b g t) := by
    pointwise [val_main_v129]
  pointwise [val_main_v132, val_main_cst_24]
  simp only [val_main_v131_apply, val_main_v130_apply, e, share_eq h, tot_sq h, x_eq h, f_mul, coe_sum, word_zero, ← EReal.coe_add, zero_add]

theorem push_eq (i : Fin 3) (b : Fin 4) (g : Fin 8) (t : Fin 2048) :
    val_main_v138 (F := Ideal) x0 x1 x2 x3 x4 (ix4 i b g t)
      = ((-∑ j, (a.head b g).share j t * (1 / ((a.head b g).tot t * (a.head b g).tot t)) * (a.head b g).x j t : ℝ) : EReal) := by
  have e1 : val_main_v138 (F := Ideal) x0 x1 x2 x3 x4 (ix4 i b g t) = val_main_v134 (F := Ideal) x0 x1 x2 x3 x4 (ix4 0 b g t) := by
    pointwise [val_main_v138, val_main_v137, val_main_cst_25]
    simp only [word_zero, Fin.sum_univ_one, EReal.coe_zero, zero_add]
  have e2 : val_main_v133 (F := Ideal) x0 x1 x2 x3 x4 (ix4 0 b g t) = val_main_v132 (F := Ideal) x0 x1 x2 x3 x4 (ix3 b g t) := by
    pointwise [val_main_v133]
  rw [e1, val_main_v134_apply, e2, pull_eq h, f_neg]

theorem dlse_eq (i : Fin 3) (b : Fin 4) (g : Fin 8) (t : Fin 2048) :
    val_main_v140 (F := Ideal) x0 x1 x2 x3 x4 (ix4 i b g t) = (((a.head b g).dlse i t : ℝ) : EReal) := by
  have e : val_main_v135 (F := Ideal) x0 x1 x3 (ix4 i b g t) = val_main_v107 (F := Ideal) x0 x1 x3 (ix3 b g t) := by
    pointwise [val_main_v135, val_main_v108]
  rw [val_main_v140_apply, val_main_v139_apply, val_main_v136_apply, push_eq h, e, share_eq h, tot_eq h, x_eq h,
    f_div _ _ ((a.head b g).tot_pos t).ne', f_add, f_mul, Head.dlse]

theorem dden_eq (i : Fin 3) (b : Fin 4) (g : Fin 8) (t : Fin 2048) :
    val_main_v151 (F := Ideal) x0 x1 x2 x3 x4 (ix4 i b g t) = (((a.head b g).dden i t : ℝ) : EReal) := by
  pointwise [val_main_v151, val_main_v150, val_main_v147, val_main_v146, val_main_v145, val_main_v144, val_main_v143, val_main_v142,
    val_main_v141, val_main_cst_26, val_main_cst_27]
  simp only [dlse_eq h, den_eq h, den_sq h, acc_eq h, wd_eq h, ← EReal.coe_mul, coe_sum, word_zero, Fin.sum_univ_one,
    coe_div _ _ ((a.head b g).den_pos i t).ne', ← EReal.coe_add, ← EReal.coe_neg, zero_add, Head.dden]

end Cert.Attn.Reference
end
-- ==== Proof.Attn.Backward.lean ====
/-
  The backward pass of the attention's reference, line by line, as real numbers.
-/
module

public import proofs.«01_k».proof.Proof.Attn.Blend

@[expose] public section
set_option maxRecDepth 16384
noncomputable section
namespace Cert.Attn.Reference
open Idealize.ShloMosaic Cert.AttnRIdeal Cert.AttnRIdeal.Read
open Cert.Reals

variable {x0 x1 x2 : Wide} {x3 : IVec ⟨2, ![4, 2048]⟩ 32} {x4 : Wide} {a : Args} (h : Holds x0 x1 x2 x3 x4 a)
include h

theorem wd_den_eq (i : Fin 3) (b : Fin 4) (g : Fin 8) (t : Fin 2048) (e : Fin 64) :
    val_main_v149 (F := Ideal) x0 x1 x3 x4 (ix5 i b g t e) = (((a.head b g).w i t * (a.head b g).d t e / (a.head b g).den i t : ℝ) : EReal) := by
  have e1 : val_main_v148 (F := Ideal) x0 x1 x3 (ix5 i b g t e) = val_main_v75 (F := Ideal) x0 x1 x3 (ix4 i b g t) := by
    pointwise [val_main_v148, val_main_v78]
  rw [val_main_v149_apply, e1, wd_eq h, den_eq h, f_div _ _ ((a.head b g).den_pos i t).ne']

theorem wdv_eq (i : Fin 3) (b : Fin 4) (g : Fin 8) (t u : Fin 2048) :
    val_main_v154 (F := Ideal) x0 x1 x2 x3 x4 (ix5 i b g t u)
      = ((∑ e, (a.head b g).w i t * (a.head b g).d t e / (a.head b g).den i t * (a.head b g).v u e : ℝ) : EReal) := by
  pointwise [val_main_v154, val_main_v153, val_main_v152]
  simp only [wd_den_eq h, v_eq h, ← EReal.coe_mul, coe_sum]

theorem ds_eq (i : Fin 3) (b : Fin 4) (g : Fin 8) (t u : Fin 2048) :
    val_main_v159 (F := Ideal) x0 x1 x2 x3 x4 (ix5 i b g t u) = (((a.head b g).ds i t u : ℝ) : EReal) := by
  have e1 : val_main_v157 (F := Ideal) x0 x1 x2 x3 x4 (ix5 i b g t u) = val_main_v151 (F := Ideal) x0 x1 x2 x3 x4 (ix4 i b g t) := by
    pointwise [val_main_v157]
  rw [val_main_v159_apply, val_main_v158_apply, e1, wdv_eq h, dden_eq h, p_eq h, f_add, f_mul, Head.ds, Head.dp]

theorem dtop_eq (i : Fin 3) (b : Fin 4) (g : Fin 8) (t : Fin 2048) :
    val_main_v164 (F := Ideal) x0 x1 x2 x3 x4 (ix4 i b g t) = ((0 : ℝ) : EReal) := by
  have e1 : val_main_v163 (F := Ideal) x0 x1 x2 x3 x4 (ix4 i b g t) = val_main_v161 (F := Ideal) x0 x1 x2 x3 x4 (ix4 i b g t) := by
    pointwise [val_main_v163, val_main_v162, val_main_cst_29]
    simp only [word_zero, Fin.sum_univ_one, EReal.coe_zero, zero_add]
  have e2 : val_main_v161 (F := Ideal) x0 x1 x2 x3 x4 (ix4 i b g t) = ((∑ u, -(a.head b g).ds i t u : ℝ) : EReal) := by
    pointwise [val_main_v161, val_main_cst_28]
    simp only [val_main_v160_apply, ds_eq h, f_neg, coe_sum, word_zero, EReal.coe_zero, zero_add]
  rw [val_main_v164_apply, e1, e2, dlse_eq h, f_add, (a.head b g).dtop_eq]

/-- How many keys hold the greatest score. -/
theorem ties (i : Fin 3) (b : Fin 4) (g : Fin 8) (t : Fin 2048) :
    ∃ n : ℝ, n ≠ 0 ∧ val_main_v70 (F := Ideal) x0 x1 x3 (ix4 i b g t) = ((n : ℝ) : EReal) := by
  have e1 (u : Fin 2048) : val_main_v67 (F := Ideal) x0 x1 x3 (ix5 i b g t u) = val_main_v65 (F := Ideal) x0 x1 x3 (ix4 i b g t) := by
    pointwise [val_main_v67, val_main_v66]
  have count (n : BitVec 1) : FloatOps.uitofp (F := Ideal) .f32 n = ((n.toNat : ℝ) : EReal) := rfl
  have same (x : ℝ) : FloatOps.cmpf (F := Ideal) (φ := .f32) .oeq ((x : ℝ) : EReal) ((x : ℝ) : EReal) = 1#1 := by
    show BitVec.ofBool (decide (((x : ℝ) : EReal) = ((x : ℝ) : EReal))) = 1#1
    rw [decide_eq_true rfl]; rfl
  refine ⟨∑ u, ((val_main_v68 (F := Ideal) x0 x1 x3 (ix5 i b g t u)).toNat : ℝ), ?_, ?_⟩
  · obtain ⟨u, hu, e⟩ := Finset.exists_mem_eq_sup' (s := Finset.univ.filter (Link i t)) ⟨t, by simp [link_self]⟩ ((a.head b g).score t)
    have hl : Link i t u := (Finset.mem_filter.mp hu).2
    have one : val_main_v68 (F := Ideal) x0 x1 x3 (ix5 i b g t u) = 1#1 := by
      rw [val_main_v68_apply, e1, top_eq h, score_eq h, if_pos hl, Head.top, e]
      exact same _
    refine (lt_of_lt_of_le ?_ (Finset.single_le_sum (fun u _ => Nat.cast_nonneg _) (Finset.mem_univ u))).ne'
    rw [one]; norm_num
  · pointwise [val_main_v70, val_main_cst_8]
    simp only [val_main_v69_apply, count, coe_sum, word_zero, EReal.coe_zero, zero_add]

theorem grad_eq (i : Fin 3) (b : Fin 4) (g : Fin 8) (t u : Fin 2048) :
    val_main_v170 (F := Ideal) x0 x1 x2 x3 x4 (ix5 i b g t u) = (((a.head b g).ds i t u : ℝ) : EReal) := by
  have e1 : val_main_v166 (F := Ideal) x0 x1 x2 x3 x4 (ix5 i b g t u) = val_main_v165 (F := Ideal) x0 x1 x2 x3 x4 (ix4 i b g t) := by
    pointwise [val_main_v166]
  have e2 : ∃ z : ℝ, val_main_v69 (F := Ideal) x0 x1 x3 (ix5 i b g t u) = ((z : ℝ) : EReal) := ⟨_, rfl⟩
  obtain ⟨n, hn, en⟩ := ties h i b g t
  obtain ⟨z, hz⟩ := e2
  have e3 : val_main_v168 (F := Ideal) x0 x1 x2 x3 x4 (ix5 i b g t u) = (((a.head b g).ds i t u : ℝ) : EReal) := by
    rw [val_main_v168_apply, val_main_v167_apply, ds_eq h, e1, hz, val_main_v165_apply, dtop_eq h, en, f_div _ _ hn, f_mul, f_add,
      zero_div, zero_mul, add_zero]
  have e4 : val_main_v60 (F := Ideal) (ix5 i b g t u) = BitVec.ofBool (decide (Link i t u)) := by
    pointwise [val_main_v60, val_main_v59]
    exact link_word i t u
  have e5 : val_main_v169 (F := Ideal) (ix5 i b g t u) = ((0 : ℝ) : EReal) := by
    pointwise [val_main_v169, val_main_cst_30]
    exact EReal.coe_zero.symm
  rw [val_main_v170_apply, e3, e4, e5]
  by_cases hl : Link i t u
  · rw [decide_eq_true hl]; rfl
  · have z0 : (a.head b g).ds i t u = 0 := by rw [Head.ds, Head.p, if_neg hl, mul_zero]
    rw [decide_eq_false hl, z0]; rfl

theorem grads_eq (b : Fin 4) (g : Fin 8) (t u : Fin 2048) :
    val_main_v171 (F := Ideal) x0 x1 x2 x3 x4 (ix4 b g t u) = ((∑ i, (a.head b g).ds i t u : ℝ) : EReal) := by
  pointwise [val_main_v171, val_main_cst_31]
  simp only [grad_eq h, coe_sum, word_zero, EReal.coe_zero, zero_add]

theorem dk_eq (b : Fin 4) (u : Fin 2048) (g : Fin 8) (e : Fin 64) :
    val_main_v173 (F := Ideal) x0 x1 x2 x3 x4 (ix4 b u g e) = (((a.head b g).dk u e : ℝ) : EReal) := by
  pointwise [val_main_v173, val_main_v172]
  simp only [grads_eq h, q_eq h, ← EReal.coe_mul, coe_sum]
  exact congrArg _ ((a.head b g).dk_eq u e)

theorem dq_eq (b : Fin 4) (t : Fin 2048) (g : Fin 8) (e : Fin 64) :
    val_main_v177 (F := Ideal) x0 x1 x2 x3 x4 (ix4 b t g e) = (((a.head b g).dq t e * (1 / 8) : ℝ) : EReal) := by
  have e1 : val_main_v175 (F := Ideal) x0 x1 x2 x3 x4 (ix4 b t g e) = (((a.head b g).dq t e : ℝ) : EReal) := by
    pointwise [val_main_v175, val_main_v174]
    simp only [grads_eq h, k_eq h, ← EReal.coe_mul, coe_sum]
    exact congrArg _ ((a.head b g).dq_eq t e)
  have e2 : val_main_v176 (F := Ideal) (ix4 b t g e) = ((1 / 8 : ℝ) : EReal) := by
    pointwise [val_main_v176, val_main_cst_32]
    exact word_eighth
  rw [val_main_v177_apply, e1, e2, f_mul]

theorem dv_eq (b : Fin 4) (u : Fin 2048) (g : Fin 8) (e : Fin 64) :
    val_main_v156 (F := Ideal) x0 x1 x3 x4 (ix4 b u g e) = (((a.head b g).dv u e : ℝ) : EReal) := by
  pointwise [val_main_v156, val_main_v155, val_main_v152]
  simp only [wd_den_eq h, p_eq h, ← EReal.coe_mul, coe_sum]
  exact congrArg _ ((a.head b g).dv_eq u e)

end Cert.Attn.Reference
end
-- ==== Proof.Attn.Reference.lean ====
/-
  The attention's reference: its three results.
-/
module

public import proofs.«01_k».proof.Proof.Attn.Backward

@[expose] public section
set_option maxRecDepth 16384
noncomputable section
namespace Cert.Attn.Reference
open Idealize.ShloMosaic Cert.AttnRIdeal Cert.AttnRIdeal.Read
open Cert.Reals

/-- The transposed rotation, put together from its halves. -/
theorem unrope_eq {y : FVec Ideal ⟨4, ![4, 2048, 8, 64]⟩ .f32} {Y : Fin 4 → Fin 2048 → Fin 8 → Fin 64 → ℝ}
    (hy : ∀ b t g e, y (ix4 b t g e) = ((Y b t g e : ℝ) : EReal))
    {c s : FVec Ideal ⟨3, ![4, 2048, 32]⟩ .f32} {C S : Fin 4 → Fin 2048 → Fin 32 → ℝ}
    (hc : ∀ b t f, c (ix3 b t f) = ((C b t f : ℝ) : EReal)) (hs : ∀ b t f, s (ix3 b t f) = ((S b t f : ℝ) : EReal))
    (b : Fin 4) (t : Fin 2048) (g : Fin 8) (e : Fin 64) :
    ((if h : 32 ≤ e.val ∧ e.val - 32 < 32 then
        y (ix4 b t g ⟨32 + (e.val - 32), by omega⟩) * c (ix3 b t ⟨e.val - 32, h.2⟩)
          + -y (ix4 b t g ⟨e.val - 32, by omega⟩) * s (ix3 b t ⟨e.val - 32, h.2⟩)
      else 0)
      + if h : e.val < 32 then
          y (ix4 b t g ⟨32 + e.val, by omega⟩) * s (ix3 b t ⟨e.val, h⟩) + y (ix4 b t g e) * c (ix3 b t ⟨e.val, h⟩)
        else 0 : EReal)
      = ((unrope (Y b t g) (C b t) (S b t) e : ℝ) : EReal) := by
  unfold unrope
  by_cases he : e.val < 32
  · rw [dif_neg (by omega), dif_pos he, dif_pos he, zero_add]
    simp only [hy, hc, hs, ← EReal.coe_mul, ← EReal.coe_add]
  · have e1 : (⟨32 + (e.val - 32), by omega⟩ : Fin 64) = e := Fin.ext (by dsimp only; omega)
    rw [dif_pos (by omega), dif_neg he, dif_neg he, add_zero, e1]
    simp only [hy, hc, hs, ← EReal.coe_neg, ← EReal.coe_mul, ← EReal.coe_add]

variable {x0 x1 x2 : Wide} {x3 : IVec ⟨2, ![4, 2048]⟩ 32} {x4 : Wide} {a : Args} (h : Holds x0 x1 x2 x3 x4 a)
include h

theorem dk_heads (b : Fin 4) (t : Fin 2048) (g : Fin 8) (e : Fin 64) :
    val_main_v190 (F := Ideal) x0 x1 x2 x3 x4 (ix4 b t g e) = ((a.dk b t g e : ℝ) : EReal) := by
  pointwise [val_main_v190, val_main_v189, val_main_v188, val_main_v187, val_main_v186, val_main_v185, val_main_v184, val_main_v183,
    val_main_v182, val_main_v181, val_main_v180, val_main_v179, val_main_v19, val_main_v18, val_main_v17, val_main_v16, val_main_cst_33, val_main_cst_34]
  exact unrope_eq (fun b t g e => dk_eq h b t g e) (cos_eq h) (sin_eq h) b t g e

theorem dq_heads (b : Fin 4) (t : Fin 2048) (g : Fin 8) (e : Fin 64) :
    val_main_v203 (F := Ideal) x0 x1 x2 x3 x4 (ix4 b t g e) = ((a.dq b t g e : ℝ) : EReal) := by
  pointwise [val_main_v203, val_main_v202, val_main_v201, val_main_v200, val_main_v199, val_main_v198, val_main_v197, val_main_v196,
    val_main_v195, val_main_v194, val_main_v193, val_main_v192, val_main_v19, val_main_v18, val_main_v17, val_main_v16, val_main_cst_35, val_main_cst_36]
  exact unrope_eq (fun b t g e => dq_eq h b t g e) (cos_eq h) (sin_eq h) b t g e

theorem dq_result : val_main_v205 (F := Ideal) x0 x1 x2 x3 x4 = dqArr a := by
  funext i
  obtain ⟨b, t, j, rfl⟩ : ∃ b t j, i = ix3 b t j := ⟨i 0, i 1, i 2, by funext k; fin_cases k <;> rfl⟩
  pointwise [val_main_v205, val_main_v204]
  exact dq_heads h b t (headOf j) (elemOf j)

theorem dk_result : val_main_v206 (F := Ideal) x0 x1 x2 x3 x4 = dkArr a := by
  funext i
  obtain ⟨b, t, j, rfl⟩ : ∃ b t j, i = ix3 b t j := ⟨i 0, i 1, i 2, by funext k; fin_cases k <;> rfl⟩
  pointwise [val_main_v206, val_main_v191]
  exact dk_heads h b t (headOf j) (elemOf j)

theorem dv_result : val_main_v207 (F := Ideal) x0 x1 x3 x4 = dvArr a := by
  funext i
  obtain ⟨b, t, j, rfl⟩ : ∃ b t j, i = ix3 b t j := ⟨i 0, i 1, i 2, by funext k; fin_cases k <;> rfl⟩
  pointwise [val_main_v207, val_main_v178]
  exact dv_eq h b t (headOf j) (elemOf j)

end Cert.Attn.Reference
end
-- ==== Proof.Attn.Lines.lean ====
/-
  What the host lines before the kernel of the attention's gradients leave: the reference's own forward lines, and the
  attention's output and denominators that the kernel reads.
-/
module

public import proofs.«01_k».proof.Proof.Gen.AttnKIdeal.Value
public import proofs.«01_k».proof.Proof.Attn.Reference
public import Idealize.ShloMosaic.Lib.Pipeline.ValueKit
public import Idealize.ShloMosaic.Lib.StableHlo.ReadAt

@[expose] public section
set_option maxRecDepth 16384
noncomputable section
namespace Cert.Attn.Kernel
open Idealize.ShloMosaic Idealize.SL.Sem Cert.AttnKIdeal Cert.AttnKIdeal.Gen
open Idealize.ShloMosaic.TcCoe
open Idealize.ShloMosaic.Pipeline (Dat)

variable (m : (ℓ : Loc nD τ sig) → Buf (Elt Ideal) ℓ) (c : Dev nD)

abbrev q : Wide := m (c, Proc.tc.devRef main_arg0)
abbrev k : Wide := m (c, Proc.tc.devRef main_arg1)
abbrev v : Wide := m (c, Proc.tc.devRef main_arg2)
abbrev pos : IVec ⟨2, ![4, 2048]⟩ 32 := m (c, Proc.tc.devRef main_arg3)
abbrev dout : Wide := m (c, Proc.tc.devRef main_arg4)

theorem cos_line : V m c main_v15 = Cert.AttnRIdeal.Read.val_main_v14 (F := Ideal) (pos m c) := by
  unfold V; after_reads_simp; rfl

theorem sin_line : V m c main_v16 = Cert.AttnRIdeal.Read.val_main_v15 (F := Ideal) (pos m c) := by
  unfold V; after_reads_simp; rfl
theorem lse_line : V m c main_v80 = Cert.AttnRIdeal.Read.val_main_v85 (F := Ideal) (q m c) (k m c) (pos m c) := by
  unfold V; after_reads_simp; rfl
theorem out_line : V m c main_v78 = Cert.AttnRIdeal.Read.val_main_v80 (F := Ideal) (q m c) (k m c) (v m c) (pos m c) := by
  unfold V; after_reads_simp; rfl

/-! The softmax over the branches, of their logarithms of denominators. -/

abbrev Lses := FVec Ideal S3x4x8x2048 .f32
abbrev Outs := FVec Ideal S3x4x8x2048x64 .f32

def peakOf (l : Lses) : FVec Ideal S4x8x2048 .f32 :=
  Host.reduce FloatOps.maximumf l (constant S_ .f32 0xFF800000#32) reducesTo_S3x4x8x2048_S4x8x2048_d0 h_S_
def wide (x : FVec Ideal S4x8x2048 .f32) : FVec Ideal S3x4x8x2048 .f32 :=
  broadcastInDim S3x4x8x2048 ![0, 1, 2, 3] bcast_S1x4x8x2048_S3x4x8x2048_0_1_2_3
    (broadcastInDim S1x4x8x2048 ![1, 2, 3] bcast_S4x8x2048_S1x4x8x2048_1_2_3 x)
def xOf (l : Lses) : FVec Ideal S3x4x8x2048 .f32 := Host.exp (subf l (wide (peakOf l)))
def totOf (l : Lses) : FVec Ideal S4x8x2048 .f32 :=
  Host.reduceAdd (xOf l) (constant S_ .f32 0x00000000#32) reducesTo_S3x4x8x2048_S4x8x2048_d0 h_S_
def wOf (l : Lses) : FVec Ideal S3x4x8x2048 .f32 := Host.divf (xOf l) (wide (totOf l))
def attnOf (l : Lses) (o : Outs) : FVec Ideal S4x8x2048x64 .f32 :=
  Host.reduceAdd (mulf (broadcastInDim S3x4x8x2048x64 ![0, 1, 2, 3, 4] bcast_S3x4x8x2048x1_S3x4x8x2048x64_0_1_2_3_4
    (broadcastInDim S3x4x8x2048x1 ![0, 1, 2, 3] bcast_S3x4x8x2048_S3x4x8x2048x1_0_1_2_3 (wOf l))) o)
    (constant S_ .f32 0x00000000#32) reducesTo_S3x4x8x2048x64_S4x8x2048x64_d0 h_S_
def zOf (l : Lses) : FVec Ideal S4x8x2048 .f32 := addf (peakOf l) (Host.log (totOf l))
def zWide (l : Lses) : FVec Ideal S4x8x2048x64 .f32 :=
  broadcastInDim S4x8x2048x64 ![0, 1, 2, 3] bcast_S4x8x2048x1_S4x8x2048x64_0_1_2_3
    (broadcastInDim S4x8x2048x1 ![0, 1, 2] bcast_S4x8x2048_S4x8x2048x1_0_1_2 (zOf l))
def rows (x : FVec Ideal S4x8x2048x64 .f32) : FVec Ideal S4x2048x512 .f32 :=
  shapeCast _ (transpose S4x2048x8x64 [0, 2, 1, 3] x transposes_S4x8x2048x64_S4x2048x8x64_0_2_1_3) shapeCasts_S4x2048x8x64_S4x2048x512

/-- The rotation's tables: a column of 32 lanes for each half of two heads. -/
def table (x y z w : FVec Ideal S4x2048x32 .f32) : FVec Ideal S4x2048x128 .f32 :=
  concatenate S4x2048x128 2 [⟨S4x2048x32, x⟩, ⟨S4x2048x32, y⟩, ⟨S4x2048x32, z⟩, ⟨S4x2048x32, w⟩]
    concatenates_S4x2048x32_S4x2048x32_S4x2048x32_S4x2048x32_S4x2048x128_d2

theorem cos_table : V m c main_v17 = table (V m c main_v15) (V m c main_v15) (V m c main_v15) (V m c main_v15) := by
  unfold V; after_reads_simp; rfl
theorem sin_table : V m c main_v19 = table (Host.negf (V m c main_v16)) (V m c main_v16) (Host.negf (V m c main_v16)) (V m c main_v16) := by
  unfold V; after_reads_simp; rfl

theorem peak_line : V m c main_v81 = peakOf (V m c main_v80) := by
  unfold V; after_reads_simp; rfl
theorem attn_line : V m c main_v99 = rows (attnOf (V m c main_v80) (V m c main_v78)) := by
  unfold V; after_reads_simp; rfl
theorem z_line : V m c main_v101 = rows (zWide (V m c main_v80)) := by
  unfold V; after_reads_simp; rfl

end Cert.Attn.Kernel
end
-- ==== Proof.Attn.Entry.lean ====
/-
  The arrays that the kernel of the attention's gradients reads, as real numbers.
-/
module

public import proofs.«01_k».proof.Proof.Attn.Lines

@[expose] public section
set_option maxRecDepth 16384
noncomputable section
namespace Cert.Attn.Kernel
open Idealize.ShloMosaic Idealize.SL.Sem Cert.AttnKIdeal Cert.AttnKIdeal.Gen
open Idealize.ShloMosaic.TcCoe
open Cert.Reals Cert.Attn.Reference

section Softmax
variable {l : Lses} {o : Outs} {H : Fin 4 → Fin 8 → Head}
  (hl : ∀ i b g t, l (ix4 i b g t) = (((H b g).lse i t : ℝ) : EReal))
  (ho : ∀ i b g t e, o (ix5 i b g t e) = (((H b g).out i t e : ℝ) : EReal))
include hl

theorem peakOf_eq (b : Fin 4) (g : Fin 8) (t : Fin 2048) : peakOf l (ix3 b g t) = (((H b g).peak t : ℝ) : EReal) := by
  pointwise [peakOf]
  simp only [hl, word_bot]
  exact fold_max_all _ _

theorem xOf_eq (i : Fin 3) (b : Fin 4) (g : Fin 8) (t : Fin 2048) : xOf l (ix4 i b g t) = (((H b g).x i t : ℝ) : EReal) := by
  have e := peakOf_eq hl b g t
  unfold xOf
  generalize peakOf l = p at e ⊢
  pointwise [wide]
  rw [e, hl, ← EReal.coe_sub, coe_exp, Head.x]

theorem totOf_eq (b : Fin 4) (g : Fin 8) (t : Fin 2048) : totOf l (ix3 b g t) = (((H b g).tot t : ℝ) : EReal) := by
  have e := xOf_eq hl
  unfold totOf
  generalize xOf l = p at e ⊢
  pointwise []
  simp only [e, coe_sum, word_zero, ← EReal.coe_add, zero_add, Head.tot]

theorem wOf_eq (i : Fin 3) (b : Fin 4) (g : Fin 8) (t : Fin 2048) : wOf l (ix4 i b g t) = (((H b g).w i t : ℝ) : EReal) := by
  have e1 := xOf_eq hl i b g t
  have e2 := totOf_eq hl b g t
  unfold wOf
  generalize xOf l = p at e1 ⊢
  generalize totOf l = r at e2 ⊢
  pointwise [wide]
  rw [e1, e2, coe_div _ _ ((H b g).tot_pos t).ne', Head.w]

theorem zWide_eq (b : Fin 4) (g : Fin 8) (t : Fin 2048) (e : Fin 64) : zWide l (ix4 b g t e) = (((H b g).logZ t : ℝ) : EReal) := by
  have e1 := peakOf_eq hl b g t
  have e2 := totOf_eq hl b g t
  unfold zWide zOf
  generalize peakOf l = p at e1 ⊢
  generalize totOf l = r at e2 ⊢
  pointwise []
  rw [e1, e2, coe_log _ ((H b g).tot_pos t), ← EReal.coe_add, Head.logZ]

include ho in
theorem attnOf_eq (b : Fin 4) (g : Fin 8) (t : Fin 2048) (e : Fin 64) : attnOf l o (ix4 b g t e) = (((H b g).attn t e : ℝ) : EReal) := by
  have e1 := wOf_eq hl
  unfold attnOf
  generalize wOf l = p at e1 ⊢
  pointwise []
  simp only [e1, ho, ← EReal.coe_mul, coe_sum, word_zero, ← EReal.coe_add, zero_add, Head.attn]

end Softmax

theorem rows_eq (x : FVec Ideal S4x8x2048x64 .f32) (b : Fin 4) (t : Fin 2048) (j : Fin 512) :
    rows x (ix3 b t j) = x (ix4 b (headOf j) t (elemOf j)) := by
  pointwise [rows]
  rfl

/-- The tables of the rotation: the cosines on every half of a head, the sines with the sign of the half. -/
def pairOf (l : Fin 128) : Fin 32 := ⟨l.val % 32, by omega⟩
def sgn (l : Fin 128) : ℝ := if l.val % 64 < 32 then -1 else 1

theorem table_eq {x y : FVec Ideal S4x2048x32 .f32} {X Y : Fin 4 → Fin 2048 → Fin 32 → ℝ}
    (hx : ∀ b t f, x (ix3 b t f) = ((X b t f : ℝ) : EReal)) (hy : ∀ b t f, y (ix3 b t f) = ((Y b t f : ℝ) : EReal))
    (b : Fin 4) (t : Fin 2048) (l : Fin 128) :
    table x y x y (ix3 b t l) = (((if l.val % 64 < 32 then X b t (pairOf l) else Y b t (pairOf l)) : ℝ) : EReal) := by
  pointwise [table]
  simp only [hx, hy]
  have r := l.isLt
  have low (f : Fin 32) (hf : f.val = l.val % 32) (hs : l.val % 64 < 32) :
      ((X b t f : ℝ) : EReal) = (((if l.val % 64 < 32 then X b t (pairOf l) else Y b t (pairOf l)) : ℝ) : EReal) := by
    rw [if_pos hs, show f = pairOf l from Fin.ext hf]
  have high (f : Fin 32) (hf : f.val = l.val % 32) (hs : ¬l.val % 64 < 32) :
      ((Y b t f : ℝ) : EReal) = (((if l.val % 64 < 32 then X b t (pairOf l) else Y b t (pairOf l)) : ℝ) : EReal) := by
    rw [if_neg hs, show f = pairOf l from Fin.ext hf]
  by_cases h1 : l.val < 32
  · rw [dif_pos h1]; exact low _ (show l.val = _ by omega) (by omega)
  rw [dif_neg h1]
  by_cases h2 : l.val - 32 < 32
  · rw [dif_pos h2]; exact high _ (show l.val - 32 = _ by omega) (by omega)
  rw [dif_neg h2]
  by_cases h3 : l.val - 32 - 32 < 32
  · rw [dif_pos h3]; exact low _ (show l.val - 32 - 32 = _ by omega) (by omega)
  rw [dif_neg h3]; exact high _ (show l.val - 32 - 32 - 32 = _ by omega) (by omega)

variable {m : (ℓ : Loc nD τ sig) → Buf (Elt Ideal) ℓ} {c : Dev nD} {a : Args}
  (h : Holds (q m c) (k m c) (v m c) (pos m c) (dout m c) a)
include h

theorem attn_entry (b : Fin 4) (t : Fin 2048) (j : Fin 512) :
    V m c main_v99 (ix3 b t j) = (((a.head b (headOf j)).attn t (elemOf j) : ℝ) : EReal) := by
  rw [attn_line]
  refine (rows_eq _ b t j).trans (attnOf_eq (fun i b g t => ?_) (fun i b g t e => ?_) b (headOf j) t (elemOf j))
  · rw [lse_line]; exact lse_eq h i b g t
  · rw [out_line]; exact out_eq h i b g t e

theorem z_entry (b : Fin 4) (t : Fin 2048) (j : Fin 512) :
    V m c main_v101 (ix3 b t j) = (((a.head b (headOf j)).logZ t : ℝ) : EReal) := by
  rw [z_line]
  refine (rows_eq _ b t j).trans (zWide_eq (fun i b g t => ?_) b (headOf j) t (elemOf j))
  rw [lse_line]; exact lse_eq h i b g t

theorem cos_entry (b : Fin 4) (t : Fin 2048) (l : Fin 128) : V m c main_v17 (ix3 b t l) = ((a.cos b t (pairOf l) : ℝ) : EReal) := by
  have e (b : Fin 4) (t : Fin 2048) (f : Fin 32) : V m c main_v15 (ix3 b t f) = ((a.cos b t f : ℝ) : EReal) := by rw [cos_line]; exact cos_eq h b t _
  rw [cos_table]
  refine (table_eq e e b t l).trans ?_
  rw [ite_self]

theorem sin_entry (b : Fin 4) (t : Fin 2048) (l : Fin 128) :
    V m c main_v19 (ix3 b t l) = ((sgn l * a.sin b t (pairOf l) : ℝ) : EReal) := by
  have e (b : Fin 4) (t : Fin 2048) (f : Fin 32) : V m c main_v16 (ix3 b t f) = ((a.sin b t f : ℝ) : EReal) := by rw [sin_line]; exact sin_eq h b t _
  have e' (b : Fin 4) (t : Fin 2048) (f : Fin 32) : Host.negf (F := Ideal) (φ := .f32) (V m c main_v16) (ix3 b t f) = ((-a.sin b t f : ℝ) : EReal) := by
    pointwise []
    rw [e, ← EReal.coe_neg]
  rw [sin_table]
  refine (table_eq e' e b t l).trans ?_
  unfold sgn
  split
  · rw [neg_one_mul]
  · rw [one_mul]

theorem q_entry (b : Fin 4) (t : Fin 2048) (j : Fin 512) : V m c main_v0 (ix3 b t ⟨j.val, by omega⟩) = ((a.q b t j : ℝ) : EReal) := by
  rw [← h.q]
  unfold V; after_reads_at
theorem k_entry (b : Fin 4) (t : Fin 2048) (j : Fin 512) : V m c main_v0 (ix3 b t ⟨512 + j.val, by omega⟩) = ((a.k b t j : ℝ) : EReal) := by
  rw [← h.k]
  unfold V; after_reads_at
theorem v_entry (b : Fin 4) (t : Fin 2048) (j : Fin 512) : V m c main_v0 (ix3 b t ⟨1024 + j.val, by omega⟩) = ((a.v b t j : ℝ) : EReal) := by
  rw [← h.v]
  unfold V; after_reads_at
  rw [dif_neg (by omega), dif_neg (by omega)]
  exact congrArg (fun j => v m c (ix3 b t j)) (Fin.ext (by dsimp only; omega))
theorem d_entry (b : Fin 4) (t : Fin 2048) (j : Fin 512) : V m c main_arg4 (ix3 b t j) = ((a.d b t j : ℝ) : EReal) := by
  rw [← h.d]
  unfold V; after_reads_at

end Cert.Attn.Kernel
end
-- ==== Proof.Attn.Scratch.lean ====
/-
  What the scratch buffers of the attention's gradient hold: the rows of queries, keys, values and result gradients are
  regrouped by their residue modulo the dilation, and each branch's gradients are added back at the rows they came from.
-/
module

public import proofs.«01_k».proof.Proof.Gen.AttnKIdeal.Frame
public import Idealize.ShloMosaic.Lib.WholeRead
public import Idealize.ShloMosaic.Lib.ValueLayout
public import Idealize.ShloMosaic.Lib.Pipeline.ValueKit

@[expose] public section
set_option maxRecDepth 16384
noncomputable section
namespace Cert.Attn.Scratch
open Idealize.ShloMosaic Cert.AttnKIdeal Cert.AttnKIdeal.Gen
open Idealize.ShloMosaic.TcCoe

/-! ## Writes of whole rows -/

section Generic
variable {sg : RefSig} {e : EltTy} {n o s : ℕ} (G : ℕ → Fin 128 → Elt Ideal e) (t : Fin 2048) (l : Fin 128)

theorem canon_rows (R : Rect S2048x128) (p : R.shape.Idx → Elt Ideal e) (L : List (View.Piece (Elt Ideal) S2048x128 e))
    (h1 : R.off 1 = 0) (s1 : R.stride 1 = 1) (n1 : R.size 1 = 128)
    (hp : ∀ x : R.shape.Idx, p x = G (R.off 0 + R.stride 0 * (x 0).val) (R.emb x 1))
    (hL : (∀ m, m < R.size 0 → t.val ≠ R.off 0 + R.stride 0 * m) → View.canon L (ix2 t l) = G t.val l) :
    View.canon (⟨R, p⟩ :: L) (ix2 t l) = G t.val l := by
  by_cases h : (ix2 t l : S2048x128.Idx) ∈ R.set
  · obtain ⟨x, hx⟩ := R.toLoadRect.exists_idx_of_mem h
    have e0 : R.off 0 + R.stride 0 * (x 0).val = t.val := congrArg (fun y : S2048x128.Idx => (y 0).val) hx
    have e1 : R.emb x 1 = l := congrFun hx 1
    have he : R.emb x = ix2 t l := hx
    rw [← he, View.canon_cons_emb, hp x, e0, e1]
  · refine (View.canon_cons_of_not_mem _ _ h).trans (hL fun m hm hne => h ?_)
    refine R.toLoadRect.mem_set.mpr fun a => ?_
    match a with
    | ⟨0, _⟩ => exact ⟨m, hm, hne⟩
    | ⟨1, _⟩ => exact ⟨l.val, n1.symm ▸ l.isLt, by rw [show R.off ⟨1, _⟩ = 0 from h1, show R.stride ⟨1, _⟩ = 1 from s1]; simp⟩

/-- A write of `n` rows from row `o` on: off its rows the earlier writes stand. -/
theorem canon_block {inb} (p : (Rect.unit (s := S2048x128) ![o, 0] (Shape.size ⟨2, ![n, 128]⟩) inb).shape.Idx → Elt Ideal e)
    (L : List (View.Piece (Elt Ideal) S2048x128 e))
    (hp : ∀ (m : Fin n) (l : Fin 128), p (ix2 m l) = G (o + m.val) l)
    (hL : ¬ (o ≤ t.val ∧ t.val < o + n) → View.canon L (ix2 t l) = G t.val l) :
    View.canon (⟨Rect.unit (s := S2048x128) ![o, 0] (Shape.size ⟨2, ![n, 128]⟩) inb, p⟩ :: L) (ix2 t l) = G t.val l := by
  refine canon_rows G t l _ p L rfl rfl rfl (fun x => ?_) fun h => hL fun h' => h (t.val - o) (show t.val - o < n by omega) ?_
  · have hx : x = ix2 (x 0 : Fin n) (x 1 : Fin 128) := by funext a; match a with | ⟨0, _⟩ => rfl | ⟨1, _⟩ => rfl
    rw [hx]
    refine (hp _ _).trans (congrArg₂ G (show o + (x 0).val = o + 1 * (x 0).val by omega) (Fin.ext ?_))
    show (x 1).val = 0 + 1 * (x 1).val
    omega
  · show t.val = o + 1 * (t.val - o); omega

/-- A write of `n` rows from row `o` on, `s` apart: off its rows the earlier writes stand. -/
theorem canon_comb {inb pos} (p : (Rect.mk (s := S2048x128) ⟨![o, 0], Shape.size ⟨2, ![n, 128]⟩, ![s, 1], inb⟩ pos).shape.Idx → Elt Ideal e)
    (L : List (View.Piece (Elt Ideal) S2048x128 e))
    (hp : ∀ (m : Fin n) (l : Fin 128), p (ix2 m l) = G (o + s * m.val) l)
    (hL : (∀ m, m < n → t.val ≠ o + s * m) → View.canon L (ix2 t l) = G t.val l) :
    View.canon (⟨Rect.mk (s := S2048x128) ⟨![o, 0], Shape.size ⟨2, ![n, 128]⟩, ![s, 1], inb⟩ pos, p⟩ :: L) (ix2 t l) = G t.val l := by
  refine canon_rows G t l _ p L rfl rfl rfl (fun x => ?_) hL
  have hx : x = ix2 (x 0 : Fin n) (x 1 : Fin 128) := by funext a; match a with | ⟨0, _⟩ => rfl | ⟨1, _⟩ => rfl
  rw [hx]
  refine (hp _ _).trans (congrArg₂ G rfl (Fin.ext ?_))
  show (x 1).val = 0 + 1 * (x 1).val
  omega

/-- Off the rows of the last write, the earlier writes stand. -/
theorem canon_comb_miss {inb pos} (p : (Rect.mk (s := S2048x128) ⟨![o, 0], Shape.size ⟨2, ![n, 128]⟩, ![s, 1], inb⟩ pos).shape.Idx → Elt Ideal e)
    (L : List (View.Piece (Elt Ideal) S2048x128 e)) (v : Elt Ideal e) (h : ∀ m, t.val ≠ o + s * m)
    (hL : View.canon L (ix2 t l) = v) :
    View.canon (⟨Rect.mk (s := S2048x128) ⟨![o, 0], Shape.size ⟨2, ![n, 128]⟩, ![s, 1], inb⟩ pos, p⟩ :: L) (ix2 t l) = v := by
  refine (View.canon_cons_of_not_mem _ _ fun hm => ?_).trans hL
  obtain ⟨m, _, e⟩ := (LoadRect.mem_set _).mp hm 0
  exact h m e

/-- A load of rows from row `o` on, of what the writes `L` leave. -/
theorem load_block {κ : Kind} {sp : Space} (v : View sg κ sp S2048x128 e) (L : List (View.Piece (Elt Ideal) S2048x128 e)) {inb}
    (m : Fin n) (t : Fin 2048) (l : Fin 128) (h : t.val = o + m.val) :
    v.readCov L (Rect.unit (s := S2048x128) ![o, 0] (Shape.size ⟨2, ![n, 128]⟩) inb).toLoadRect (ix2 m l) = View.canon L (ix2 t l) := by
  rw [View.readCov_eq_canon']
  refine congrArg (View.canon L) (funext fun a => Fin.ext ?_)
  match a with
  | ⟨0, _⟩ => show o + 1 * m.val = t.val; omega
  | ⟨1, _⟩ => show 0 + 1 * l.val = l.val; omega

/-- A load of rows from row `o` on, `s` apart, of what the writes `L` leave. -/
theorem load_comb {κ : Kind} {sp : Space} (v : View sg κ sp S2048x128 e) (L : List (View.Piece (Elt Ideal) S2048x128 e)) {inb}
    (m : Fin n) (t : Fin 2048) (l : Fin 128) (h : t.val = o + s * m.val) :
    v.readCov L ⟨![o, 0], Shape.size ⟨2, ![n, 128]⟩, ![s, 1], inb⟩ (ix2 m l) = View.canon L (ix2 t l) := by
  rw [View.readCov_eq_canon']
  refine congrArg (View.canon L) (funext fun a => Fin.ext ?_)
  match a with
  | ⟨0, _⟩ => show o + s * m.val = t.val; omega
  | ⟨1, _⟩ => show 0 + 1 * l.val = l.val; omega

/-- A load of an argument's rows from row `o` on, `s` apart. -/
theorem load_arg {arg : Memref sg .tc .vmem S1x2048x128 e} (harg : arg.IsWhole) (x : S1x2048x128.Idx → Elt Ideal e) {inb}
    (m : Fin n) (t : Fin 2048) (l : Fin 128) (h : t.val = o + s * m.val) :
    View.readAt (Elt Ideal) arg.view ⟨![0, o, 0], Shape.size ⟨3, ![1, n, 128]⟩, ![1, s, 1], inb⟩ (harg.unread x) (ix3 0 m l) = x (ix3 0 t l) := by
  rw [Memref.IsWhole.readAt_unread]
  refine congrArg x (funext fun a => Fin.ext ?_)
  match a with
  | ⟨0, _⟩ => rfl
  | ⟨1, _⟩ => show o + s * m.val = t.val; omega
  | ⟨2, _⟩ => show 0 + 1 * l.val = l.val; omega
end Generic

/-! ## The copies of the regrouping -/

section Copies
variable {sg : RefSig} {n o s : ℕ} {κ : Kind} {sp : Space}

theorem bound {n o s : ℕ} (h : n = 0 ∨ o + s * (n - 1) < 2048) (m : Fin n) : o + s * m.val < 2048 := by
  have hm := m.isLt
  rcases h with h | h
  · omega
  · exact Nat.lt_of_le_of_lt (Nat.add_le_add_left (Nat.mul_le_mul_left _ (by omega)) _) h

theorem copy_narrow {L : List (View.Piece (Elt Ideal) S2048x128 .f32)} {f : ℕ → Fin 128 → EReal}
    (hf : ∀ t l, View.canon L (ix2 t l) = f t.val l) (v : View sg κ sp S2048x128 .f32) {inb h1 h2} (m : Fin n) (l : Fin 128)
    {g : ℕ} (hg : g = o + s * m.val) :
    (shapeCast (⟨2, ![n, 128]⟩ : Shape) (truncf (F := Ideal) (φ := .f32) .bf16 (v.readCov L ⟨![o, 0], Shape.size ⟨2, ![n, 128]⟩, ![s, 1], inb⟩ : Vec Ideal ⟨2, ![n, 128]⟩ .f32) h1
        : Vec Ideal ⟨2, ![n, 128]⟩ .bf16) h2
      : Vec Ideal ⟨2, ![n, 128]⟩ .bf16) (ix2 m l) = f g l := by
  subst hg
  pointwise
  exact (load_comb v L m ⟨_, bound (inb 0) m⟩ l rfl).trans (hf _ _)

theorem copy_wide {L : List (View.Piece (Elt Ideal) S2048x128 .f32)} {f : ℕ → Fin 128 → EReal}
    (hf : ∀ t l, View.canon L (ix2 t l) = f t.val l) (v : View sg κ sp S2048x128 .f32) {inb h2} (m : Fin n) (l : Fin 128)
    {g : ℕ} (hg : g = o + s * m.val) :
    (shapeCast (⟨2, ![n, 128]⟩ : Shape) (v.readCov L ⟨![o, 0], Shape.size ⟨2, ![n, 128]⟩, ![s, 1], inb⟩) h2
      : Vec Ideal ⟨2, ![n, 128]⟩ .f32) (ix2 m l) = f g l := by
  subst hg
  pointwise
  exact (load_comb v L m ⟨_, bound (inb 0) m⟩ l rfl).trans (hf _ _)

variable {arg : Memref sg .tc .vmem S1x2048x128 .f32} (harg : arg.IsWhole) {x : S1x2048x128.Idx → EReal} {f : ℕ → Fin 128 → EReal}
  (hf : ∀ t l, x (ix3 0 t l) = f t.val l)
include hf

theorem copy_arg_narrow {inb h0 h1 h2} (m : Fin n) (l : Fin 128) {g : ℕ} (hg : g = o + s * m.val) :
    (shapeCast (⟨2, ![n, 128]⟩ : Shape) (truncf (F := Ideal) (φ := .f32) .bf16 (shapeCast (⟨2, ![n, 128]⟩ : Shape)
      (View.readAt (Elt Ideal) arg.view ⟨![0, o, 0], Shape.size ⟨3, ![1, n, 128]⟩, ![1, s, 1], inb⟩ (harg.unread x)) h0
        : Vec Ideal ⟨2, ![n, 128]⟩ .f32) h1 : Vec Ideal ⟨2, ![n, 128]⟩ .bf16) h2
      : Vec Ideal ⟨2, ![n, 128]⟩ .bf16) (ix2 m l) = f g l := by
  subst hg
  refine (congrFun (shapeCast_self _ _) _).trans ?_
  generalize hX : shapeCast (⟨2, ![n, 128]⟩ : Shape) _ h0 = X
  pointwise
  rw [← hX]
  refine (ValueIdx.shapeCast_1ab_ab_apply _ _ _ _).trans ?_
  exact (load_arg (o := o) (s := s) harg x m ⟨_, bound (inb 1) m⟩ l rfl).trans (hf _ _)

theorem copy_arg_wide {inb h0 h2} (m : Fin n) (l : Fin 128) {g : ℕ} (hg : g = o + s * m.val) :
    (shapeCast (⟨2, ![n, 128]⟩ : Shape) (shapeCast (⟨2, ![n, 128]⟩ : Shape)
      (View.readAt (Elt Ideal) arg.view ⟨![0, o, 0], Shape.size ⟨3, ![1, n, 128]⟩, ![1, s, 1], inb⟩ (harg.unread x)) h0) h2
      : Vec Ideal ⟨2, ![n, 128]⟩ .f32) (ix2 m l) = f g l := by
  subst hg
  refine (congrFun (shapeCast_self _ _) _).trans ((ValueIdx.shapeCast_1ab_ab_apply _ _ _ _).trans ?_)
  exact (load_arg (o := o) (s := s) harg x m ⟨_, bound (inb 1) m⟩ l rfl).trans (hf _ _)
omit hf

/-- A branch's rows added back where they came from. -/
theorem add_back {L L' : List (View.Piece (Elt Ideal) S2048x128 .f32)} {f g : ℕ → Fin 128 → EReal} {κ' : Kind} {sp' : Space} {o' : ℕ}
    (v : View sg κ sp S2048x128 .f32) (v' : View sg κ' sp' S2048x128 .f32) {inb inb' h2}
    (hL : ∀ (t : Fin 2048) (l : Fin 128) (m : ℕ), t.val = o + s * m → View.canon L (ix2 t l) = f t.val l)
    (hg : ∀ t l, View.canon L' (ix2 t l) = g t.val l) (m : Fin n) (l : Fin 128) {r q : ℕ} (hr : r = o + s * m.val) (hq : q = o' + m.val)
    (hb : q < 2048) :
    (shapeCast (⟨2, ![n, 128]⟩ : Shape) (addf (F := Ideal) (φ := .f32)
      (v.readCov L ⟨![o, 0], Shape.size ⟨2, ![n, 128]⟩, ![s, 1], inb⟩)
      (v'.readCov L' (Rect.unit (s := S2048x128) ![o', 0] (Shape.size ⟨2, ![n, 128]⟩) inb').toLoadRect)) h2
      : Vec Ideal ⟨2, ![n, 128]⟩ .f32) (ix2 m l) = f r l + g q l := by
  subst hr
  refine (congrFun (shapeCast_self _ _) _).trans ?_
  have e1 := (load_comb v L (inb := inb) m ⟨_, bound (inb 0) m⟩ l rfl).trans (hL _ _ m.val rfl)
  have e2 := (load_block v' L' (inb := inb') m ⟨q, hb⟩ l hq).trans (hg _ _)
  generalize v.readCov L _ = X at e1 ⊢
  generalize v'.readCov L' _ = Y at e2 ⊢
  pointwise
  exact congrArg₂ (· + ·) e1 e2
end Copies

/-! ## The regrouped rows -/

variable (c : Dev nD) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg13 : Memref sig .tc .vmem S2048x128 .f32) (arg14 : Memref sig .tc .vmem S2048x128 .f32) (arg15 : Memref sig .tc .vmem S2048x128 .f32) (arg16 : Memref sig .tc .vmem S2048x128 .bf16) (arg17 : Memref sig .tc .vmem S2048x128 .bf16) (arg18 : Memref sig .tc .vmem S2048x128 .bf16) (arg19 : Memref sig .tc .vmem S2048x128 .bf16) (arg20 : Memref sig .tc .vmem S2048x128 .f32) (arg21 : Memref sig .tc .vmem S2048x128 .f32) (arg22 : Memref sig .tc .vmem S2048x128 .f32) (arg23 : Memref sig .tc .vmem S2048x128 .f32) (arg24 : Memref sig .tc .vmem S2048x128 .f32) (arg25 : Memref sig .tc .vmem S2048x128 .f32) (arg26 : Memref sig .tc .vmem S2048x128 .f32) (arg27 : Memref sig .tc .vmem S2048x128 .f32)
  (x0 x1 x2 x3 x4 x5 x6 x7 : Vec Ideal S1x2048x128 .f32)

theorem q4 {f : ℕ → Fin 128 → EReal} (hf : ∀ t l, View.canon (kernelRun0_A.sl.HS0_1 c arg2 harg2 arg5 harg5 arg6 harg6 x0 x3 x4) (ix2 t l) = f t.val l) (r : Fin 2048) (l : Fin 128) :
    View.canon (kernelRun0_A.sl.HS3_5 c arg2 harg2 arg5 harg5 arg6 harg6 arg13 x0 x3 x4) (ix2 r l) = f (r.val % 512 * 4 + r.val / 512) l := by
  have hr := r.isLt
  iterate 4
    refine canon_block (e := .bf16) (fun r l => f (r % 512 * 4 + r / 512) l) r l _ _ ?_ fun _ => ?_
    · exact fun m l => copy_narrow hf _ m l (by have := m.isLt; omega)
  omega

theorem q16 {f : ℕ → Fin 128 → EReal} (hf : ∀ t l, View.canon (kernelRun0_A.sl.HS0_1 c arg2 harg2 arg5 harg5 arg6 harg6 x0 x3 x4) (ix2 t l) = f t.val l) (r : Fin 2048) (l : Fin 128) :
    View.canon (kernelRun0_A.sl.HS3_21 c arg2 harg2 arg5 harg5 arg6 harg6 arg13 x0 x3 x4) (ix2 r l) = f (r.val % 128 * 16 + r.val / 128) l := by
  have hr := r.isLt
  iterate 16
    refine canon_block (e := .bf16) (fun r l => f (r % 128 * 16 + r / 128) l) r l _ _ ?_ fun _ => ?_
    · exact fun m l => copy_narrow hf _ m l (by have := m.isLt; omega)
  omega

theorem k4 {f : ℕ → Fin 128 → EReal} (hf : ∀ t l, View.canon (kernelRun0_A.sl.HS1_1 c arg3 harg3 arg5 harg5 arg6 harg6 x1 x3 x4) (ix2 t l) = f t.val l) (r : Fin 2048) (l : Fin 128) :
    View.canon (kernelRun0_A.sl.HS4_5 c arg3 harg3 arg5 harg5 arg6 harg6 arg14 x1 x3 x4) (ix2 r l) = f (r.val % 512 * 4 + r.val / 512) l := by
  have hr := r.isLt
  iterate 4
    refine canon_block (e := .bf16) (fun r l => f (r % 512 * 4 + r / 512) l) r l _ _ ?_ fun _ => ?_
    · exact fun m l => copy_narrow hf _ m l (by have := m.isLt; omega)
  omega

theorem k16 {f : ℕ → Fin 128 → EReal} (hf : ∀ t l, View.canon (kernelRun0_A.sl.HS1_1 c arg3 harg3 arg5 harg5 arg6 harg6 x1 x3 x4) (ix2 t l) = f t.val l) (r : Fin 2048) (l : Fin 128) :
    View.canon (kernelRun0_A.sl.HS4_21 c arg3 harg3 arg5 harg5 arg6 harg6 arg14 x1 x3 x4) (ix2 r l) = f (r.val % 128 * 16 + r.val / 128) l := by
  have hr := r.isLt
  iterate 16
    refine canon_block (e := .bf16) (fun r l => f (r % 128 * 16 + r / 128) l) r l _ _ ?_ fun _ => ?_
    · exact fun m l => copy_narrow hf _ m l (by have := m.isLt; omega)
  omega

theorem v4 {f : ℕ → Fin 128 → EReal} (hf : ∀ t l, x2 (ix3 0 t l) = f t.val l) (r : Fin 2048) (l : Fin 128) :
    View.canon (kernelRun0_A.sl.HS5_5 c arg4 harg4 x2) (ix2 r l) = f (r.val % 512 * 4 + r.val / 512) l := by
  have hr := r.isLt
  iterate 4
    refine canon_block (e := .bf16) (fun r l => f (r % 512 * 4 + r / 512) l) r l _ _ ?_ fun _ => ?_
    · exact fun m l => copy_arg_narrow _ hf m l (by have := m.isLt; omega)
  omega

theorem v16 {f : ℕ → Fin 128 → EReal} (hf : ∀ t l, x2 (ix3 0 t l) = f t.val l) (r : Fin 2048) (l : Fin 128) :
    View.canon (kernelRun0_A.sl.HS5_21 c arg4 harg4 x2) (ix2 r l) = f (r.val % 128 * 16 + r.val / 128) l := by
  have hr := r.isLt
  iterate 16
    refine canon_block (e := .bf16) (fun r l => f (r % 128 * 16 + r / 128) l) r l _ _ ?_ fun _ => ?_
    · exact fun m l => copy_arg_narrow _ hf m l (by have := m.isLt; omega)
  omega

theorem d4 {f : ℕ → Fin 128 → EReal} (hf : ∀ t l, x5 (ix3 0 t l) = f t.val l) (r : Fin 2048) (l : Fin 128) :
    View.canon (kernelRun0_A.sl.HS6_5 c arg7 harg7 x5) (ix2 r l) = f (r.val % 512 * 4 + r.val / 512) l := by
  have hr := r.isLt
  iterate 4
    refine canon_block (e := .bf16) (fun r l => f (r % 512 * 4 + r / 512) l) r l _ _ ?_ fun _ => ?_
    · exact fun m l => copy_arg_narrow _ hf m l (by have := m.isLt; omega)
  omega

theorem d16 {f : ℕ → Fin 128 → EReal} (hf : ∀ t l, x5 (ix3 0 t l) = f t.val l) (r : Fin 2048) (l : Fin 128) :
    View.canon (kernelRun0_A.sl.HS6_21 c arg7 harg7 x5) (ix2 r l) = f (r.val % 128 * 16 + r.val / 128) l := by
  have hr := r.isLt
  iterate 16
    refine canon_block (e := .bf16) (fun r l => f (r % 128 * 16 + r / 128) l) r l _ _ ?_ fun _ => ?_
    · exact fun m l => copy_arg_narrow _ hf m l (by have := m.isLt; omega)
  omega

theorem lse4 {f : ℕ → Fin 128 → EReal} (hf : ∀ t l, x7 (ix3 0 t l) = f t.val l) (r : Fin 2048) (l : Fin 128) :
    View.canon (kernelRun0_A.sl.HS7_4 c arg9 harg9 x7) (ix2 r l) = f (r.val % 512 * 4 + r.val / 512) l := by
  have hr := r.isLt
  iterate 4
    refine canon_block (e := .f32) (fun r l => f (r % 512 * 4 + r / 512) l) r l _ _ ?_ fun _ => ?_
    · exact fun m l => copy_arg_wide _ hf m l (by have := m.isLt; omega)
  omega

theorem lse16 {f : ℕ → Fin 128 → EReal} (hf : ∀ t l, x7 (ix3 0 t l) = f t.val l) (r : Fin 2048) (l : Fin 128) :
    View.canon (kernelRun0_A.sl.HS7_20 c arg9 harg9 x7) (ix2 r l) = f (r.val % 128 * 16 + r.val / 128) l := by
  have hr := r.isLt
  iterate 16
    refine canon_block (e := .f32) (fun r l => f (r % 128 * 16 + r / 128) l) r l _ _ ?_ fun _ => ?_
    · exact fun m l => copy_arg_wide _ hf m l (by have := m.isLt; omega)
  omega

theorem delta4 {f : ℕ → Fin 128 → EReal} (hf : ∀ t l, View.canon (kernelRun0_A.sl.HS2_1 c arg7 harg7 arg8 harg8 x5 x6) (ix2 t l) = f t.val l) (r : Fin 2048) (l : Fin 128) :
    View.canon (kernelRun0_A.sl.HS8_4 c arg7 harg7 arg8 harg8 arg15 x5 x6) (ix2 r l) = f (r.val % 512 * 4 + r.val / 512) l := by
  have hr := r.isLt
  iterate 4
    refine canon_block (e := .f32) (fun r l => f (r % 512 * 4 + r / 512) l) r l _ _ ?_ fun _ => ?_
    · exact fun m l => copy_wide hf _ m l (by have := m.isLt; omega)
  omega

theorem delta16 {f : ℕ → Fin 128 → EReal} (hf : ∀ t l, View.canon (kernelRun0_A.sl.HS2_1 c arg7 harg7 arg8 harg8 x5 x6) (ix2 t l) = f t.val l) (r : Fin 2048) (l : Fin 128) :
    View.canon (kernelRun0_A.sl.HS8_20 c arg7 harg7 arg8 harg8 arg15 x5 x6) (ix2 r l) = f (r.val % 128 * 16 + r.val / 128) l := by
  have hr := r.isLt
  iterate 16
    refine canon_block (e := .f32) (fun r l => f (r % 128 * 16 + r / 128) l) r l _ _ ?_ fun _ => ?_
    · exact fun m l => copy_wide hf _ m l (by have := m.isLt; omega)
  omega

/-! ## The branches added up -/

set_option maxHeartbeats 2000000 in
theorem dq_add4 {f g : ℕ → Fin 128 → EReal} (hf : ∀ t l, View.canon (kernelRun0_A.sl.HS12_2 c arg2 harg2 arg3 harg3 arg4 harg4 arg5 harg5 arg6 harg6 arg7 harg7 arg8 harg8 arg9 harg9 arg13 arg14 arg15 arg16 arg17 arg18 arg19 arg25 x0 x1 x2 x3 x4 x5 x6 x7) (ix2 t l) = f t.val l)
    (hg : ∀ t l, View.canon (kernelRun0_A.sl.HS9_1 c arg2 harg2 arg3 harg3 arg4 harg4 arg5 harg5 arg6 harg6 arg7 harg7 arg8 harg8 arg9 harg9 arg13 arg14 arg15 arg16 arg17 arg18 arg19 arg20 arg21 x0 x1 x2 x3 x4 x5 x6 x7) (ix2 t l) = g t.val l) (t : Fin 2048) (l : Fin 128) :
    View.canon (kernelRun0_A.sl.HS12_6 c arg2 harg2 arg3 harg3 arg4 harg4 arg5 harg5 arg6 harg6 arg7 harg7 arg8 harg8 arg9 harg9 arg13 arg14 arg15 arg16 arg17 arg18 arg19 arg20 arg21 arg22 arg25 x0 x1 x2 x3 x4 x5 x6 x7) (ix2 t l) = f t.val l + g (t.val % 4 * 512 + t.val / 4) l := by
  have ht := t.isLt
  iterate 4
    refine canon_comb (e := .f32) (fun r l => f r l + g (r % 4 * 512 + r / 4) l) t l _ _ ?_ fun h => ?_
    · refine fun m l => add_back _ _ (fun t l m hm => ?_) hg m l rfl (by have := m.isLt; omega) (by have := m.isLt; omega)
      repeat
        first
          | with_reducible exact hf t l
          | refine canon_comb_miss t l _ _ _ (fun m => ?_) ?_
            · omega
    have := h (t.val / 4) (by omega)
    clear h
  omega

set_option maxHeartbeats 2000000 in
theorem dq_add16 {f g : ℕ → Fin 128 → EReal} (hf : ∀ t l, View.canon (kernelRun0_A.sl.HS12_6 c arg2 harg2 arg3 harg3 arg4 harg4 arg5 harg5 arg6 harg6 arg7 harg7 arg8 harg8 arg9 harg9 arg13 arg14 arg15 arg16 arg17 arg18 arg19 arg20 arg21 arg22 arg25 x0 x1 x2 x3 x4 x5 x6 x7) (ix2 t l) = f t.val l)
    (hg : ∀ t l, View.canon (kernelRun0_A.sl.HS9_2 c arg2 harg2 arg3 harg3 arg4 harg4 arg5 harg5 arg6 harg6 arg7 harg7 arg8 harg8 arg9 harg9 arg13 arg14 arg15 arg16 arg17 arg18 arg19 arg20 arg21 x0 x1 x2 x3 x4 x5 x6 x7) (ix2 t l) = g t.val l) (t : Fin 2048) (l : Fin 128) :
    View.canon (kernelRun0_A.sl.HS12_22 c arg2 harg2 arg3 harg3 arg4 harg4 arg5 harg5 arg6 harg6 arg7 harg7 arg8 harg8 arg9 harg9 arg13 arg14 arg15 arg16 arg17 arg18 arg19 arg20 arg21 arg22 arg25 x0 x1 x2 x3 x4 x5 x6 x7) (ix2 t l) = f t.val l + g (t.val % 16 * 128 + t.val / 16) l := by
  have ht := t.isLt
  iterate 16
    refine canon_comb (e := .f32) (fun r l => f r l + g (r % 16 * 128 + r / 16) l) t l _ _ ?_ fun h => ?_
    · refine fun m l => add_back _ _ (fun t l m hm => ?_) hg m l rfl (by have := m.isLt; omega) (by have := m.isLt; omega)
      repeat
        first
          | with_reducible exact hf t l
          | refine canon_comb_miss t l _ _ _ (fun m => ?_) ?_
            · omega
    have := h (t.val / 16) (by omega)
    clear h
  omega

set_option maxHeartbeats 2000000 in
theorem dk_add4 {f g : ℕ → Fin 128 → EReal} (hf : ∀ t l, View.canon (kernelRun0_A.sl.HS13_2 c arg2 harg2 arg3 harg3 arg4 harg4 arg5 harg5 arg6 harg6 arg7 harg7 arg8 harg8 arg9 harg9 arg13 arg14 arg15 arg16 arg17 arg18 arg19 arg26 x0 x1 x2 x3 x4 x5 x6 x7) (ix2 t l) = f t.val l)
    (hg : ∀ t l, View.canon (kernelRun0_A.sl.HS10_1 c arg2 harg2 arg3 harg3 arg4 harg4 arg5 harg5 arg6 harg6 arg7 harg7 arg8 harg8 arg9 harg9 arg13 arg14 arg15 arg16 arg17 arg18 arg19 arg20 arg21 x0 x1 x2 x3 x4 x5 x6 x7) (ix2 t l) = g t.val l) (t : Fin 2048) (l : Fin 128) :
    View.canon (kernelRun0_A.sl.HS13_6 c arg2 harg2 arg3 harg3 arg4 harg4 arg5 harg5 arg6 harg6 arg7 harg7 arg8 harg8 arg9 harg9 arg13 arg14 arg15 arg16 arg17 arg18 arg19 arg20 arg21 arg23 arg26 x0 x1 x2 x3 x4 x5 x6 x7) (ix2 t l) = f t.val l + g (t.val % 4 * 512 + t.val / 4) l := by
  have ht := t.isLt
  iterate 4
    refine canon_comb (e := .f32) (fun r l => f r l + g (r % 4 * 512 + r / 4) l) t l _ _ ?_ fun h => ?_
    · refine fun m l => add_back _ _ (fun t l m hm => ?_) hg m l rfl (by have := m.isLt; omega) (by have := m.isLt; omega)
      repeat
        first
          | with_reducible exact hf t l
          | refine canon_comb_miss t l _ _ _ (fun m => ?_) ?_
            · omega
    have := h (t.val / 4) (by omega)
    clear h
  omega

set_option maxHeartbeats 2000000 in
theorem dk_add16 {f g : ℕ → Fin 128 → EReal} (hf : ∀ t l, View.canon (kernelRun0_A.sl.HS13_6 c arg2 harg2 arg3 harg3 arg4 harg4 arg5 harg5 arg6 harg6 arg7 harg7 arg8 harg8 arg9 harg9 arg13 arg14 arg15 arg16 arg17 arg18 arg19 arg20 arg21 arg23 arg26 x0 x1 x2 x3 x4 x5 x6 x7) (ix2 t l) = f t.val l)
    (hg : ∀ t l, View.canon (kernelRun0_A.sl.HS10_2 c arg2 harg2 arg3 harg3 arg4 harg4 arg5 harg5 arg6 harg6 arg7 harg7 arg8 harg8 arg9 harg9 arg13 arg14 arg15 arg16 arg17 arg18 arg19 arg20 arg21 x0 x1 x2 x3 x4 x5 x6 x7) (ix2 t l) = g t.val l) (t : Fin 2048) (l : Fin 128) :
    View.canon (kernelRun0_A.sl.HS13_22 c arg2 harg2 arg3 harg3 arg4 harg4 arg5 harg5 arg6 harg6 arg7 harg7 arg8 harg8 arg9 harg9 arg13 arg14 arg15 arg16 arg17 arg18 arg19 arg20 arg21 arg23 arg26 x0 x1 x2 x3 x4 x5 x6 x7) (ix2 t l) = f t.val l + g (t.val % 16 * 128 + t.val / 16) l := by
  have ht := t.isLt
  iterate 16
    refine canon_comb (e := .f32) (fun r l => f r l + g (r % 16 * 128 + r / 16) l) t l _ _ ?_ fun h => ?_
    · refine fun m l => add_back _ _ (fun t l m hm => ?_) hg m l rfl (by have := m.isLt; omega) (by have := m.isLt; omega)
      repeat
        first
          | with_reducible exact hf t l
          | refine canon_comb_miss t l _ _ _ (fun m => ?_) ?_
            · omega
    have := h (t.val / 16) (by omega)
    clear h
  omega

set_option maxHeartbeats 2000000 in
theorem dv_add4 {f g : ℕ → Fin 128 → EReal} (hf : ∀ t l, View.canon (kernelRun0_A.sl.HS14_2 c arg2 harg2 arg3 harg3 arg5 harg5 arg6 harg6 arg7 harg7 arg9 harg9 arg13 arg14 arg16 arg17 arg19 arg27 x0 x1 x3 x4 x5 x7) (ix2 t l) = f t.val l)
    (hg : ∀ t l, View.canon (kernelRun0_A.sl.HS11_1 c arg2 harg2 arg3 harg3 arg5 harg5 arg6 harg6 arg7 harg7 arg9 harg9 arg13 arg14 arg16 arg17 arg19 arg20 x0 x1 x3 x4 x5 x7) (ix2 t l) = g t.val l) (t : Fin 2048) (l : Fin 128) :
    View.canon (kernelRun0_A.sl.HS14_6 c arg2 harg2 arg3 harg3 arg5 harg5 arg6 harg6 arg7 harg7 arg9 harg9 arg13 arg14 arg16 arg17 arg19 arg20 arg24 arg27 x0 x1 x3 x4 x5 x7) (ix2 t l) = f t.val l + g (t.val % 4 * 512 + t.val / 4) l := by
  have ht := t.isLt
  iterate 4
    refine canon_comb (e := .f32) (fun r l => f r l + g (r % 4 * 512 + r / 4) l) t l _ _ ?_ fun h => ?_
    · refine fun m l => add_back _ _ (fun t l m hm => ?_) hg m l rfl (by have := m.isLt; omega) (by have := m.isLt; omega)
      repeat
        first
          | with_reducible exact hf t l
          | refine canon_comb_miss t l _ _ _ (fun m => ?_) ?_
            · omega
    have := h (t.val / 4) (by omega)
    clear h
  omega

set_option maxHeartbeats 2000000 in
theorem dv_add16 {f g : ℕ → Fin 128 → EReal} (hf : ∀ t l, View.canon (kernelRun0_A.sl.HS14_6 c arg2 harg2 arg3 harg3 arg5 harg5 arg6 harg6 arg7 harg7 arg9 harg9 arg13 arg14 arg16 arg17 arg19 arg20 arg24 arg27 x0 x1 x3 x4 x5 x7) (ix2 t l) = f t.val l)
    (hg : ∀ t l, View.canon (kernelRun0_A.sl.HS11_2 c arg2 harg2 arg3 harg3 arg5 harg5 arg6 harg6 arg7 harg7 arg9 harg9 arg13 arg14 arg16 arg17 arg19 arg20 x0 x1 x3 x4 x5 x7) (ix2 t l) = g t.val l) (t : Fin 2048) (l : Fin 128) :
    View.canon (kernelRun0_A.sl.HS14_22 c arg2 harg2 arg3 harg3 arg5 harg5 arg6 harg6 arg7 harg7 arg9 harg9 arg13 arg14 arg16 arg17 arg19 arg20 arg24 arg27 x0 x1 x3 x4 x5 x7) (ix2 t l) = f t.val l + g (t.val % 16 * 128 + t.val / 16) l := by
  have ht := t.isLt
  iterate 16
    refine canon_comb (e := .f32) (fun r l => f r l + g (r % 16 * 128 + r / 16) l) t l _ _ ?_ fun h => ?_
    · refine fun m l => add_back _ _ (fun t l m hm => ?_) hg m l rfl (by have := m.isLt; omega) (by have := m.isLt; omega)
      repeat
        first
          | with_reducible exact hf t l
          | refine canon_comb_miss t l _ _ _ (fun m => ?_) ?_
            · omega
    have := h (t.val / 16) (by omega)
    clear h
  omega

end Cert.Attn.Scratch
-- ==== Proof.Attn.Mask.lean ====
module

public import proofs.«01_k».proof.Proof.Gen.AttnKIdeal.Frame
public import Idealize.ShloMosaic.Lib.Pipeline.ValueKit

@[expose] public section
set_option maxRecDepth 16384
noncomputable section
namespace Cert.Attn.Mask
open Idealize.ShloMosaic Cert.AttnKIdeal Cert.AttnKIdeal.Gen
open Idealize.ShloMosaic.TcCoe

variable (j : Fin 32) (a : Fin 128) (c : Fin 192)

theorem query : kernelRun0_A.sl.v153 (ix3 j a c) = BitVec.ofNat 32 (a.val % 64) := by
  sl_unfold_run_names
  pointwise
  revert a
  decide +kernel

theorem key : kernelRun0_A.sl.v154 (ix3 j a c) = BitVec.ofNat 32 c.val := by
  sl_unfold_run_names
  pointwise

theorem least : kernelRun0_A.sl.v222 (ix3 j a c) = BitVec.ofNat 32 (128 - 64 * (j.val % 2)) := by
  sl_unfold_run_names
  pointwise
  revert j
  decide +kernel

theorem inner1 : kernelRun0_A.sl.v224 (ix3 j a c) = BitVec.ofBool (decide (j.val / 2 % 16 ≠ 0)) := by
  sl_unfold_run_names
  pointwise
  revert j
  decide +kernel

theorem inner4 : kernelRun0_A.sl.v547 (ix3 j a c) = BitVec.ofBool (decide (j.val / 2 % 4 ≠ 0)) := by
  sl_unfold_run_names
  pointwise
  revert j
  decide +kernel

/-- Two one-bit words that are tests. -/
theorem and_tests (p q : Bool) :
    IntOp.andi (BitVec.ofBool p) (BitVec.ofBool q) = BitVec.ofBool (p && q) := by
  revert p q
  decide

theorem or_tests (p q : Bool) :
    IntOp.ori (BitVec.ofBool p) (BitVec.ofBool q) = BitVec.ofBool (p || q) := by
  revert p q
  decide

theorem window : kernelRun0_A.sl.v202 (ix3 j a c)
    = BitVec.ofBool (decide (a.val % 64 ≤ c.val ∧ c.val ≤ a.val % 64 + 128)) := by
  unfold kernelRun0_A.sl.v202 kernelRun0_A.sl.v201
  pointwise [query, key, kernelRun0_A.sl.v199]
  clear window j
  revert a c
  decide +kernel

theorem start1 : kernelRun0_A.sl.v225 (ix3 j a c)
    = BitVec.ofBool (decide (128 - 64 * (j.val % 2) ≤ c.val) || decide (j.val / 2 % 16 ≠ 0)) := by
  unfold kernelRun0_A.sl.v225
  pointwise [key, least, inner1, ← or_tests]
  congr 1
  revert j c
  decide +kernel

theorem start4 : kernelRun0_A.sl.v548 (ix3 j a c)
    = BitVec.ofBool (decide (128 - 64 * (j.val % 2) ≤ c.val) || decide (j.val / 2 % 4 ≠ 0)) := by
  unfold kernelRun0_A.sl.v548
  pointwise [key, least, inner4, ← or_tests]
  congr 1
  revert j c
  decide +kernel

/-- Whether query `a % 64` of unit `j` may look at place `c` of its window, where a segment has
`nb` pairs of units. -/
def Open (nb : ℕ) (j : Fin 32) (a : Fin 128) (c : Fin 192) : Prop :=
  (a.val % 64 ≤ c.val ∧ c.val ≤ a.val % 64 + 128)
    ∧ (128 - 64 * (j.val % 2) ≤ c.val ∨ j.val / 2 % nb ≠ 0)

instance (nb : ℕ) (j : Fin 32) (a : Fin 128) (c : Fin 192) : Decidable (Open nb j a c) := by
  unfold Open
  infer_instance

theorem mask1 : (andi kernelRun0_A.sl.v202 kernelRun0_A.sl.v225) (ix3 j a c)
    = BitVec.ofBool (decide (Open 16 j a c)) := by
  pointwise [window, start1, and_tests]
  simp [Open]

theorem mask4 : (andi kernelRun0_A.sl.v202 kernelRun0_A.sl.v548) (ix3 j a c)
    = BitVec.ofBool (decide (Open 4 j a c)) := by
  pointwise [window, start4, and_tests]
  simp [Open]

end Cert.Attn.Mask
-- ==== Proof.Attn.Units.lean ====
module

public import proofs.«01_k».proof.Proof.Attn.Mask
public import proofs.«01_k».proof.Proof.Reals

@[expose] public section
set_option maxRecDepth 16384
noncomputable section
namespace Cert.Attn.Branch
open Idealize.ShloMosaic Cert.Attn.Mask

/-! Which pairs of rows the windows of the units reach: the keys at most 128 rows back in the same
segment, each once. -/

/-- Row `a % 64` of unit `j`. -/
def row (j : Fin 32) (a : Fin 128) : Fin 2048 := ⟨64 * j.val + a.val % 64, by omega⟩

/-- The row that place `c` of unit `j`'s window holds (the first units see some rows twice, and their
mask leaves the copies out). -/
def key (j : Fin 32) (c : Fin 192) : Fin 2048 :=
  ⟨if c.val < 64 then 64 * (if j.val < 2 then j.val else j.val - 2) + c.val
    else if c.val < 128 then 64 * (if j.val < 1 then j.val else j.val - 1) + (c.val - 64)
    else 64 * j.val + (c.val - 128), by split_ifs <;> omega⟩

/-- Lane `e` of head `h` of a pair. -/
def lane (h : Fin 2) (e : Fin 64) : Fin 128 := ⟨64 * h.val + e.val, by omega⟩

/-- Key `s` is at most 128 rows before row `r`, in the same segment of `n` rows. -/
def Seg (n r s : ℕ) : Prop := s ≤ r ∧ r - s ≤ 128 ∧ r / n = s / n

instance (n r s : ℕ) : Decidable (Seg n r s) := by
  unfold Seg
  infer_instance

/-- What a branch's mask says: the place holds a row of the sequence, and the pair is in the window. -/
def Fits (n nb : ℕ) : Prop := ∀ (j : Fin 32) (a : Fin 128) (c : Fin 192),
  Open nb j a c ↔ 128 ≤ 64 * j.val + c.val ∧ Seg n (row j a).val (64 * j.val + c.val - 128)

theorem fits1 : Fits 2048 16 := fun j a c => by
  simp only [Open, Seg, row]
  omega

theorem fits4 : Fits 512 4 := fun j a c => by
  simp only [Open, Seg, row]
  omega

theorem key_of_le (j : Fin 32) (c : Fin 192) (h : 128 ≤ 64 * j.val + c.val) :
    (key j c).val = 64 * j.val + c.val - 128 := by
  simp only [key]
  split_ifs <;> omega

variable {n nb : ℕ} (hf : Fits n nb)

include hf in
/-- A sum over a unit's window is the sum over the keys of the row. -/
theorem sum_window (j : Fin 32) (a : Fin 128) (f : Fin 2048 → ℝ) :
    ∑ c : Fin 192, (if Open nb j a c then f (key j c) else 0)
      = ∑ s : Fin 2048, if Seg n (row j a).val s.val then f s else 0 := by
  rw [← Finset.sum_filter, ← Finset.sum_filter]
  have hr : (row j a).val = 64 * j.val + a.val % 64 := rfl
  refine Finset.sum_bij (fun c _ => key j c) ?_ ?_ ?_ fun _ _ => rfl
  · intro c hc
    have hc := (hf j a c).1 (Finset.mem_filter.1 hc).2
    refine Finset.mem_filter.2 ⟨Finset.mem_univ _, ?_⟩
    rw [key_of_le j c hc.1]
    exact hc.2
  · intro c hc c' hc' e
    have h := ((hf j a c).1 (Finset.mem_filter.1 hc).2).1
    have h' := ((hf j a c').1 (Finset.mem_filter.1 hc').2).1
    have e := congrArg Fin.val e
    rw [key_of_le j c h, key_of_le j c' h'] at e
    exact Fin.ext (by omega)
  · intro s hs
    have hs := (Finset.mem_filter.1 hs).2
    have h1 := hs.1
    have h2 := hs.2.1
    have hb : s.val + 128 - 64 * j.val < 192 := by omega
    have hle : 64 * j.val ≤ s.val + 128 := by omega
    have e : 64 * j.val + (s.val + 128 - 64 * j.val) - 128 = s.val := by omega
    refine ⟨⟨s.val + 128 - 64 * j.val, hb⟩, Finset.mem_filter.2 ⟨Finset.mem_univ _, (hf j a _).2 ⟨by simp only []; omega, ?_⟩⟩, Fin.ext ?_⟩
    · simp only []
      rw [e]
      exact hs
    · rw [key_of_le _ _ (by simp only []; omega)]
      simp only []
      omega

/-- What unit `j'` gives to place `c` of its window. -/
def part (nb : ℕ) (g : Fin 2048 → ℝ) (h : Fin 2) (j : Fin 32) (c : Fin 192) : ℝ :=
  ∑ a : Fin 64, if Open nb j (lane h a) c then g (row j (lane h a)) else 0

include hf in
theorem part_eq (g : Fin 2048 → ℝ) (h : Fin 2) (j : Fin 32) (c : Fin 192) (s : ℕ) (e : 64 * j.val + c.val = s + 128) :
    part nb g h j c = ∑ a : Fin 64, if Seg n (row j (lane h a)).val s then g (row j (lane h a)) else 0 := by
  refine Finset.sum_congr rfl fun a _ => if_congr ((hf j _ c).trans ?_) rfl rfl
  rw [show 64 * j.val + c.val - 128 = s by omega]
  exact ⟨fun h => h.2, fun h => ⟨by omega, h⟩⟩

include hf in
/-- The three windows that hold a row collect the sum over the rows that look at it. -/
theorem sum_parts (g : Fin 2048 → ℝ) (h : Fin 2) (j : Fin 32) (b : Fin 64) :
    part nb g h j ⟨128 + b.val, by omega⟩
      + (if h1 : j.val + 1 < 32 then part nb g h ⟨j.val + 1, h1⟩ ⟨64 + b.val, by omega⟩ else 0)
      + (if h2 : j.val + 2 < 32 then part nb g h ⟨j.val + 2, h2⟩ ⟨b.val, by omega⟩ else 0)
      = ∑ r : Fin 2048, if Seg n r.val (64 * j.val + b.val) then g r else 0 := by
  rw [← Cert.Reals.sum_blocks (N := 32) (S := 64) (by decide)
    (fun r : Fin 2048 => if Seg n r.val (64 * j.val + b.val) then g r else 0) (fun j' a => row j' (lane h a))
    (fun j' a => by simp [row, lane]; omega)]
  rw [part_eq hf g h j _ (64 * j.val + b.val) (by simp only []; omega)]
  have h1 : (if h1 : j.val + 1 < 32 then part nb g h ⟨j.val + 1, h1⟩ ⟨64 + b.val, by omega⟩ else 0)
      = ∑ j' : Fin 32, if j'.val = j.val + 1 then
        ∑ a : Fin 64, (if Seg n (row j' (lane h a)).val (64 * j.val + b.val) then g (row j' (lane h a)) else 0) else 0 := by
    by_cases h1 : j.val + 1 < 32
    · rw [dif_pos h1, part_eq hf g h _ _ (64 * j.val + b.val) (by simp only []; omega),
        Finset.sum_eq_single (⟨j.val + 1, h1⟩ : Fin 32) (fun j' _ hj => if_neg fun e => hj (Fin.ext e))
          (fun hn => absurd (Finset.mem_univ _) hn), if_pos rfl]
    · rw [dif_neg h1]
      exact (Finset.sum_eq_zero fun j' _ => if_neg (by omega)).symm
  have h2 : (if h2 : j.val + 2 < 32 then part nb g h ⟨j.val + 2, h2⟩ ⟨b.val, by omega⟩ else 0)
      = ∑ j' : Fin 32, if j'.val = j.val + 2 then
        ∑ a : Fin 64, (if Seg n (row j' (lane h a)).val (64 * j.val + b.val) then g (row j' (lane h a)) else 0) else 0 := by
    by_cases h1 : j.val + 2 < 32
    · rw [dif_pos h1, part_eq hf g h _ _ (64 * j.val + b.val) (by simp only []; omega),
        Finset.sum_eq_single (⟨j.val + 2, h1⟩ : Fin 32) (fun j' _ hj => if_neg fun e => hj (Fin.ext e))
          (fun hn => absurd (Finset.mem_univ _) hn), if_pos rfl]
    · rw [dif_neg h1]
      exact (Finset.sum_eq_zero fun j' _ => if_neg (by omega)).symm
  have h0 : (∑ a : Fin 64, if Seg n (row j (lane h a)).val (64 * j.val + b.val) then g (row j (lane h a)) else 0)
      = ∑ j' : Fin 32, if j'.val = j.val then
        ∑ a : Fin 64, (if Seg n (row j' (lane h a)).val (64 * j.val + b.val) then g (row j' (lane h a)) else 0) else 0 := by
    rw [Finset.sum_eq_single j (fun j' _ hj => if_neg fun e => hj (Fin.ext e))
          (fun hn => absurd (Finset.mem_univ _) hn), if_pos rfl]
  rw [h0, h1, h2, ← Finset.sum_add_distrib, ← Finset.sum_add_distrib]
  refine Finset.sum_congr rfl fun j' _ => ?_
  by_cases e0 : j'.val = j.val
  · rw [if_pos e0, if_neg (by omega), if_neg (by omega), add_zero, add_zero]
  by_cases e1 : j'.val = j.val + 1
  · rw [if_neg e0, if_pos e1, if_neg (by omega), add_zero, zero_add]
  by_cases e2 : j'.val = j.val + 2
  · rw [if_neg e0, if_neg e1, if_pos e2, add_zero, zero_add]
  rw [if_neg e0, if_neg e1, if_neg e2, add_zero, add_zero]
  refine (Finset.sum_eq_zero fun a _ => if_neg fun hs => ?_).symm
  have h1 := hs.1
  have h2 := hs.2.1
  simp only [row] at h1 h2
  omega

end Cert.Attn.Branch
-- ==== Proof.Attn.Branch.lean ====
module

public import proofs.«01_k».proof.Proof.Attn.Units

@[expose] public section
set_option maxRecDepth 16384
noncomputable section
namespace Cert.Attn.Branch
open Idealize.ShloMosaic Cert.AttnKIdeal Cert.AttnKIdeal.Gen
open Idealize.ShloMosaic.TcCoe

theorem lane_test {α : Type} (l : Fin 128) (y z : α) :
    Scalar.select (IntOp.cmpi CmpIPredicate.slt (BitVec.ofNat 32 l.val) 64#32) y z
      = if l.val < 64 then y else z := by
  have h : ∀ l : Fin 128, IntOp.cmpi CmpIPredicate.slt (BitVec.ofNat 32 l.val) 64#32
      = BitVec.ofBool (decide (l.val < 64)) := by decide
  rw [h]
  by_cases hl : l.val < 64 <;> simp [hl, Scalar.select]

/-- The two heads of a pair laid under each other, the other head's lanes left out. -/
theorem pile_apply (x : Vec Ideal S2048x128 .bf16) (j : Fin 32) (a l : Fin 128) :
    k0_pay77 (F := Ideal) x (ix3 j a l) = if (a.val < 64 ↔ l.val < 64) then x (ix2 (row j a) l) else 0 := by
  pointwise [k0_pay77, lane_test]
  by_cases ha : a.val < 64
  · have e : row j a = ⟨j.val * 64 + a.val, by omega⟩ := Fin.ext (by simp [row]; omega)
    simp [ha, e]
  · have e : row j a = ⟨j.val * 64 + (a.val - 64), by omega⟩ := Fin.ext (by simp [row]; omega)
    by_cases hl : l.val < 64 <;> simp [ha, hl, e]

/-- The units two before. -/
def two (u : Vec Ideal S32x64x128 .bf16) : Vec Ideal S32x64x128 .bf16 :=
  concatenate S32x64x128 0
    [⟨S2x64x128, extractStridedSlice S2x64x128 ![0, 0, 0] u slices_S32x64x128_o0_0_0_S2x64x128⟩,
      ⟨S30x64x128, extractStridedSlice S30x64x128 ![0, 0, 0] u slices_S32x64x128_o0_0_0_S30x64x128⟩]
    concatenates_S2x64x128_S30x64x128_S32x64x128_d0

/-- The units one before. -/
def one (u : Vec Ideal S32x64x128 .bf16) : Vec Ideal S32x64x128 .bf16 :=
  concatenate S32x64x128 0
    [⟨S1x64x128, extractStridedSlice S1x64x128 ![0, 0, 0] u slices_S32x64x128_o0_0_0_S1x64x128⟩,
      ⟨S31x64x128, extractStridedSlice S31x64x128 ![0, 0, 0] u slices_S32x64x128_o0_0_0_S31x64x128⟩]
    concatenates_S1x64x128_S31x64x128_S32x64x128_d0

/-- The window of every unit: the two units before it, then itself. -/
def win (x : Vec Ideal S2048x128 .bf16) : Vec Ideal S32x192x128 .bf16 :=
  concatenate S32x192x128 1
    [⟨S32x64x128, two (shapeCast S32x64x128 x shapeCasts_S2048x128_S32x64x128)⟩,
      ⟨S32x64x128, one (shapeCast S32x64x128 x shapeCasts_S2048x128_S32x64x128)⟩,
      ⟨S32x64x128, (shapeCast S32x64x128 x shapeCasts_S2048x128_S32x64x128)⟩]
    concatenates_S32x64x128_S32x64x128_S32x64x128_S32x192x128_d1

theorem two_apply (u : Vec Ideal S32x64x128 .bf16) (j : Fin 32) (c : Fin 64) (l : Fin 128) :
    two u (ix3 j c l) = u (ix3 (if j.val < 2 then j else ⟨j.val - 2, by omega⟩) c l) := by
  pointwise [two]
  split_ifs <;> rfl

theorem one_apply (u : Vec Ideal S32x64x128 .bf16) (j : Fin 32) (c : Fin 64) (l : Fin 128) :
    one u (ix3 j c l) = u (ix3 (if j.val < 1 then j else ⟨j.val - 1, by omega⟩) c l) := by
  pointwise [one]
  split_ifs <;> rfl

theorem win_apply (x : Vec Ideal S2048x128 .bf16) (j : Fin 32) (c : Fin 192) (l : Fin 128) :
    win x (ix3 j c l) = x (ix2 (key j c) l) := by
  pointwise [win, one_apply, two_apply]
  by_cases h1 : c.val < 64
  · rw [dif_pos h1]
    refine congrArg x (congrArg₂ ix2 (Fin.ext ?_) rfl)
    simp only [key, if_pos h1]
    split_ifs <;> (try simp only []) <;> omega
  rw [dif_neg h1]
  by_cases h2 : c.val < 128
  · rw [dif_pos (by omega)]
    refine congrArg x (congrArg₂ ix2 (Fin.ext ?_) rfl)
    simp only [key, if_neg h1, if_pos h2]
    split_ifs <;> (try simp only []) <;> omega
  · rw [dif_neg (by omega)]
    refine congrArg x (congrArg₂ ix2 (Fin.ext ?_) rfl)
    simp only [key, if_neg h1, if_neg h2]
    omega

/-! ### Sums over the lanes of a pair of heads -/

/-- The head of the pair that a lane belongs to. -/
def half (l : Fin 128) : Fin 2 := ⟨l.val / 64, by omega⟩

theorem half_lane (h : Fin 2) (e : Fin 64) : half (lane h e) = h := Fin.ext (by simp [half, lane]; omega)

theorem sum_lanes {α : Type} [AddCommMonoid α] (f : Fin 128 → α) : ∑ l, f l = ∑ h, ∑ e, f (lane h e) :=
  (Cert.Reals.sum_blocks (by decide) f lane fun h e => by simp [lane]; omega).symm

theorem half_low (a : Fin 128) (h : a.val < 64) : half a = 0 := Fin.ext (by simp [half]; omega)
theorem half_high (a : Fin 128) (h : ¬ a.val < 64) : half a = 1 := Fin.ext (by simp [half]; omega)

theorem half_sum {α : Type} [AddCommMonoid α] (a : Fin 128) (f : Fin 128 → α) :
    ∑ l : Fin 128, (if (a.val < 64 ↔ l.val < 64) then f l else 0) = ∑ e, f (lane (half a) e) := by
  rw [sum_lanes, Fin.sum_univ_two]
  by_cases ha : a.val < 64
  · rw [half_low a ha]
    simp [ha, lane]
  · rw [half_high a ha]
    simp [ha, lane]

/-! ### One branch on the reals -/

variable (Q K W D L E : Fin 2048 → Fin 128 → ℝ)

/-- The weight that head `h` gives row `s` as a key for row `r`, less its normaliser. -/
def weight (h : Fin 2) (r s : Fin 2048) : ℝ :=
  Real.exp (∑ e, Q r (lane h e) * K s (lane h e) - L r (lane h 0))

/-- The gradient of the same score. -/
def grad (h : Fin 2) (r s : Fin 2048) : ℝ :=
  weight Q K L h r s * (∑ e, D r (lane h e) * W s (lane h e) - E r (lane h 0))

open Mask (Open)

theorem mask_word : Named.named (F := Ideal) κ "mask" (φ := .f32) 0xF149F2CA#32 = (⊥ : EReal) :=
  IdealRules.named_const.ideal_named_scalar _ _ _ _ rfl

variable {Q K W D L E}
variable {q k v d : Vec Ideal S2048x128 .bf16} {lse del : Vec Ideal S2048x128 .f32}
variable {nb : ℕ} {mask : IVec S32x128x192 1}
  (hm : ∀ j a c, mask (ix3 j a c) = BitVec.ofBool (decide (Open nb j a c)))
  (hq : ∀ r l, q (ix2 r l) = ((Q r l : ℝ) : EReal)) (hk : ∀ r l, k (ix2 r l) = ((K r l : ℝ) : EReal))
  (hv : ∀ r l, v (ix2 r l) = ((W r l : ℝ) : EReal)) (hd : ∀ r l, d (ix2 r l) = ((D r l : ℝ) : EReal))
  (hl : ∀ r l, lse (ix2 r l) = ((L r l : ℝ) : EReal)) (he : ∀ r l, del (ix2 r l) = ((E r l : ℝ) : EReal))

theorem coe_if (p : Prop) [Decidable p] (x : ℝ) :
    (if p then ((x : ℝ) : EReal) else 0) = ((if p then x else 0 : ℝ) : EReal) := by
  split_ifs <;> rfl

include hq in
theorem pile_real (j : Fin 32) (a l : Fin 128) : k0_pay77 (F := Ideal) q (ix3 j a l)
    = ((if (a.val < 64 ↔ l.val < 64) then Q (row j a) l else 0 : ℝ) : EReal) := by
  rw [pile_apply, hq, coe_if]

theorem open_word (j : Fin 32) (a : Fin 128) (c : Fin 192) (y z : EReal) :
    Scalar.select (BitVec.ofBool (decide (Open nb j a c))) y z = if Open nb j a c then y else z := by
  by_cases h : Open nb j a c <;> simp [h, Scalar.select]

/-- A column of one number a head, piled like the heads. -/
theorem column {x : Vec Ideal S2048x128 .f32} {X : Fin 2048 → Fin 128 → ℝ}
    (hx : ∀ r l, x (ix2 r l) = ((X r l : ℝ) : EReal)) (j : Fin 32) (a : Fin 128) :
    (if h : a.val < 64 then x (ix2 ⟨j.val * 64 + a.val, by omega⟩ 0)
      else x (ix2 ⟨j.val * 64 + (a.val - 64), by omega⟩ 64))
      = ((X (row j a) (lane (half a) 0) : ℝ) : EReal) := by
  by_cases h : a.val < 64
  · rw [dif_pos h, hx, half_low a h]
    refine congrArg Real.toEReal (congrArg₂ X (Fin.ext ?_) rfl)
    simp only [row]
    omega
  · rw [dif_neg h, hx, half_high a h]
    refine congrArg Real.toEReal (congrArg₂ X (Fin.ext ?_) rfl)
    simp only [row]
    omega

/-- A product of a piled row with a row of keys, over the lanes of both heads. -/
theorem dot (A B : Fin 128 → ℝ) (a : Fin 128) :
    ∑ l : Fin 128, ((if (a.val < 64 ↔ l.val < 64) then A l else 0 : ℝ) : EReal) * ((B l : ℝ) : EReal)
      = ((∑ e, A (lane (half a) e) * B (lane (half a) e) : ℝ) : EReal) := by
  rw [← half_sum a fun l => A l * B l, ← Cert.Reals.coe_sum]
  refine Finset.sum_congr rfl fun l _ => ?_
  rw [← EReal.coe_mul, ite_mul, zero_mul]

theorem dot_split (A B : Fin 128 → ℝ) (a : Fin 128) :
    ∑ x : Fin 64, ((if (a.val < 64 ↔ True) then A ⟨x.val, by omega⟩ else 0 : ℝ) : EReal) * ((B ⟨x.val, by omega⟩ : ℝ) : EReal)
      + ∑ x : Fin 64, ((if (a.val < 64 ↔ False) then A ⟨64 + x.val, by omega⟩ else 0 : ℝ) : EReal) * ((B ⟨64 + x.val, by omega⟩ : ℝ) : EReal)
      = ((∑ e, A (lane (half a) e) * B (lane (half a) e) : ℝ) : EReal) := by
  rw [← dot A B a, sum_lanes, Fin.sum_univ_two]
  congr 1 <;> refine Finset.sum_congr rfl fun x _ => ?_ <;> simp [lane]

include hm hq hk hl in
theorem prob (j : Fin 32) (a : Fin 128) (c : Fin 192) :
    k0_pay78 (F := Ideal) (k0_pay77 q) mask (win k) lse (ix3 j a c)
      = ((if Open nb j a c then weight Q K L (half a) (row j a) (key j c) else 0 : ℝ) : EReal) := by
  pointwise [k0_pay78, pile_real hq, win_apply, hk, hm, open_word, mask_word, column hl,
    dot_split (Q (row j a)) (K (key j c)) a]
  by_cases h : Open nb j a c
  · rw [if_pos h, if_pos h]
    rfl
  · rw [if_neg h, if_neg h, EReal.bot_sub]
    rfl

include hm hq hk hv hd hl he in
theorem score (j : Fin 32) (a : Fin 128) (c : Fin 192) :
    k0_pay79 (F := Ideal) (k0_pay77 q) mask (win k) (win v) d lse del (ix3 j a c)
      = ((if Open nb j a c then grad Q K W D L E (half a) (row j a) (key j c) else 0 : ℝ) : EReal) := by
  pointwise [k0_pay79, prob hm hq hk hl, pile_real hd, win_apply, hv, column he,
    dot_split (D (row j a)) (W (key j c)) a]
  rw [← EReal.coe_sub, ← EReal.coe_mul, ite_mul, zero_mul]
  rfl

variable {n : ℕ} (hf : Fits n nb)

/-- A row and its place in a pile. -/
theorem row_div (r : Fin 2048) (a : Fin 128) (h : a.val % 64 = r.val % 64) :
    row ⟨r.val / 64, by omega⟩ a = r := Fin.ext (by simp only [row]; omega)

include hm hq hk hv hd hl he hf in
theorem dq_apply (m : IVec S32x64x128 1) (hlane : ∀ j a l, m (ix3 j a l) = BitVec.ofBool (decide (l.val < 64)))
    (r : Fin 2048) (l : Fin 128) :
    k0_pay80 (F := Ideal) (k0_pay77 q) mask (win k) (win v) m d lse del (ix2 r l)
      = ((∑ s : Fin 2048, if Seg n r.val s.val then grad Q K W D L E (half l) r s * K s l else 0 : ℝ) : EReal) := by
  have key (a : Fin 128) (ha : a.val % 64 = r.val % 64) (hh : half a = half l) :
      ∑ c : Fin 192, ((if Open nb ⟨r.val / 64, by omega⟩ a c then
          grad Q K W D L E (half a) (row ⟨r.val / 64, by omega⟩ a) (key ⟨r.val / 64, by omega⟩ c) else 0 : ℝ) : EReal)
          * ((K (key ⟨r.val / 64, by omega⟩ c) l : ℝ) : EReal)
      = ((∑ s : Fin 2048, if Seg n r.val s.val then grad Q K W D L E (half l) r s * K s l else 0 : ℝ) : EReal) := by
    have w := sum_window hf ⟨r.val / 64, by omega⟩ a fun s => grad Q K W D L E (half l) r s * K s l
    rw [row_div r a ha] at w ⊢
    rw [← w, ← Cert.Reals.coe_sum]
    refine Finset.sum_congr rfl fun c _ => ?_
    rw [← EReal.coe_mul, ite_mul, zero_mul, hh]
  pointwise [k0_pay80, score hm hq hk hv hd hl he, win_apply, hk, hlane]
  by_cases h : l.val < 64
  · rw [if_pos h]
    exact key ⟨r.val % 64, by omega⟩ (by simp) (Fin.ext (by simp only [half]; omega))
  · rw [if_neg h]
    exact key ⟨64 + r.val % 64, by omega⟩ (by simp only []; omega) (Fin.ext (by simp only [half]; omega))

/-- Numbers of a pile against the rows of a pile: what each unit gives to the places of its window. -/
def back (A : Vec Ideal S32x128x192 .bf16) (X : Vec Ideal S32x128x128 .bf16) : Vec Ideal S32x192x128 .f32 :=
  matmul (F := Ideal) (φ₁ := .bf16) (φ₂ := .bf16) dot_S32x128x192_S32x128x128_S32x192x128_1_1_2_2_0_0 none A X (constant S32x192x128 .f32 0x00000000#32)

theorem back_apply {g : Fin 2 → Fin 2048 → Fin 2048 → ℝ} {A : Vec Ideal S32x128x192 .bf16}
    (hA : ∀ j a c, A (ix3 j a c) = ((if Open nb j a c then g (half a) (row j a) (key j c) else 0 : ℝ) : EReal))
    {x : Vec Ideal S2048x128 .bf16} {X : Fin 2048 → Fin 128 → ℝ} (hx : ∀ r l, x (ix2 r l) = ((X r l : ℝ) : EReal))
    (j : Fin 32) (c : Fin 192) (l : Fin 128) :
    back A (k0_pay77 x) (ix3 j c l) = ((part nb (fun r => g (half l) r (key j c) * X r l) (half l) j c : ℝ) : EReal) := by
  have e : ∀ Y : Vec Ideal S32x128x128 .bf16,
      back A Y (ix3 j c l) = ∑ a : Fin 128, A (ix3 j a c) * Y (ix3 j a l) := fun Y => by
    pointwise [back]
  rw [e, part, ← Cert.Reals.coe_sum, ← half_sum l fun a : Fin 128 =>
    (((if Open nb j a c then g (half l) (row j a) (key j c) * X (row j a) l else 0 : ℝ)) : EReal)]
  refine Finset.sum_congr rfl fun a _ => ?_
  rw [hA, pile_real hx, ← EReal.coe_mul]
  by_cases h : a.val < 64 ↔ l.val < 64
  · have hh : half a = half l := Fin.ext (by simp only [half]; omega)
    rw [if_pos h, if_pos h.symm, hh, ite_mul, zero_mul]
  · rw [if_neg h, mul_zero, if_neg (show ¬(l.val < 64 ↔ a.val < 64) from fun k => h k.symm)]
    rfl

/-- Each row's share out of the three windows that hold it. -/
def gather (M : Vec Ideal S32x192x128 .f32) : Vec Ideal S2048x128 .f32 :=
  shapeCast S2048x128
    (addf (F := Ideal) (φ := .f32)
      (addf (F := Ideal) (φ := .f32) (extractStridedSlice S32x64x128 ![0, 128, 0] M slices_S32x192x128_o0_128_0_S32x64x128)
        (concatenate S32x64x128 0
          [⟨S31x64x128, extractStridedSlice S31x64x128 ![1, 0, 0]
              (extractStridedSlice S32x64x128 ![0, 64, 0] M slices_S32x192x128_o0_64_0_S32x64x128) slices_S32x64x128_o1_0_0_S31x64x128⟩,
            ⟨S1x64x128, broadcast S1x64x128 (Scalar.ofBits (F := Ideal) .f32 0x00000000#32)⟩]
          concatenates_S31x64x128_S1x64x128_S32x64x128_d0))
      (concatenate S32x64x128 0
        [⟨S30x64x128, extractStridedSlice S30x64x128 ![2, 0, 0]
            (extractStridedSlice S32x64x128 ![0, 0, 0] M slices_S32x192x128_o0_0_0_S32x64x128) slices_S32x64x128_o2_0_0_S30x64x128⟩,
          ⟨S2x64x128, broadcast S2x64x128 (Scalar.ofBits (F := Ideal) .f32 0x00000000#32)⟩]
        concatenates_S30x64x128_S2x64x128_S32x64x128_d0))
    shapeCasts_S32x64x128_S2048x128

theorem gather_apply (M : Vec Ideal S32x192x128 .f32) (r : Fin 2048) (l : Fin 128) : gather M (ix2 r l)
    = (M (ix3 ⟨r.val / 64, by omega⟩ ⟨128 + r.val % 64, by omega⟩ l)
        + if h : r.val / 64 < 31 then M (ix3 ⟨1 + r.val / 64, by omega⟩ ⟨64 + r.val % 64, by omega⟩ l) else 0)
      + if h : r.val / 64 < 30 then M (ix3 ⟨2 + r.val / 64, by omega⟩ ⟨r.val % 64, by omega⟩ l) else 0 := by
  pointwise [gather]

include hf in
/-- A key row's gradient: the sum over the rows that look at it. -/
theorem gather_back {g : Fin 2 → Fin 2048 → Fin 2048 → ℝ} {A : Vec Ideal S32x128x192 .bf16}
    (hA : ∀ j a c, A (ix3 j a c) = ((if Open nb j a c then g (half a) (row j a) (key j c) else 0 : ℝ) : EReal))
    {x : Vec Ideal S2048x128 .bf16} {X : Fin 2048 → Fin 128 → ℝ} (hx : ∀ r l, x (ix2 r l) = ((X r l : ℝ) : EReal))
    (s : Fin 2048) (l : Fin 128) :
    gather (back A (k0_pay77 x)) (ix2 s l)
      = ((∑ r : Fin 2048, if Seg n r.val s.val then g (half l) r s * X r l else 0 : ℝ) : EReal) := by
  have w := sum_parts hf (fun r => g (half l) r s * X r l) (half l) ⟨s.val / 64, by omega⟩ ⟨s.val % 64, by omega⟩
  have es : 64 * (s.val / 64) + s.val % 64 = s.val := by omega
  rw [es] at w
  rw [← w]
  have at_key (j : Fin 32) (c : Fin 192) (e : 64 * j.val + c.val = s.val + 128) :
      back A (k0_pay77 x) (ix3 j c l) = ((part nb (fun r => g (half l) r s * X r l) (half l) j c : ℝ) : EReal) := by
    rw [back_apply hA hx, show key j c = s from Fin.ext (by rw [key_of_le j c (by omega)]; omega)]
  rw [gather_apply, at_key _ _ (by simp only []; omega), EReal.coe_add, EReal.coe_add]
  refine congrArg₂ (· + ·) (congrArg₂ (· + ·) rfl ?_) ?_
  · by_cases h : s.val / 64 < 31
    · have h' : s.val / 64 + 1 < 32 := by omega
      rw [dif_pos h, dif_pos h', at_key _ _ (by simp only []; omega)]
      exact congrArg Real.toEReal (congrArg₂ (part nb _ _) (Fin.ext (Nat.add_comm _ _)) rfl)
    · have h' : ¬ s.val / 64 + 1 < 32 := by omega
      rw [dif_neg h, dif_neg h', EReal.coe_zero]
  · by_cases h : s.val / 64 < 30
    · have h' : s.val / 64 + 2 < 32 := by omega
      rw [dif_pos h, dif_pos h', at_key _ _ (by simp only []; omega)]
      exact congrArg Real.toEReal (congrArg₂ (part nb _ _) (Fin.ext (Nat.add_comm _ _)) rfl)
    · have h' : ¬ s.val / 64 + 2 < 32 := by omega
      rw [dif_neg h, dif_neg h', EReal.coe_zero]

end Cert.Attn.Branch
-- ==== Proof.Attn.Rope.lean ====
module

public import proofs.«01_k».proof.Proof.Attn.Scratch
public import proofs.«01_k».proof.Proof.Attn.Branch

@[expose] public section
set_option maxRecDepth 16384
noncomputable section
namespace Cert.Attn.Rope
open Idealize.ShloMosaic Cert.AttnKIdeal Cert.AttnKIdeal.Gen Cert.Attn.Branch
open Idealize.ShloMosaic.TcCoe

/-! What one point reads, and what it makes of it before and after its branches. -/

/-- The lane half a head away. -/
def swap (l : Fin 128) : Fin 128 := if l.val % 64 < 32 then ⟨(l.val + 32) % 128, by omega⟩ else ⟨(l.val + 96) % 128, by omega⟩

theorem first_half (t : Fin 2048) (l : Fin 128) :
    IntOp.cmpi CmpIPredicate.slt (kernelRun0_A.sl.v25 (ix2 t l)) (kernelRun0_A.sl.v26 (ix2 t l)) = BitVec.ofBool (decide (l.val % 64 < 32)) := by
  sl_unfold_run_names
  pointwise
  revert l
  decide +kernel

theorem turn {α : Type} (f : Fin 128 → α) (l : Fin 128) :
    (if l.val % 64 < 32 then f ⟨(l.val + 128 - 96) % 128, by omega⟩ else f ⟨(l.val + 128 - 32) % 128, by omega⟩) = f (swap l) := by
  by_cases h : l.val % 64 < 32 <;> simp [h, swap]

theorem word_eighth : Ideal.ofBits .f32 0x3E000000#32 = ((1 / 8 : ℝ) : EReal) := by
  simp [Ideal.ofBits, Ideal.ieee, -EReal.coe_mul]; norm_num

/-- A whole argument, its rows. -/
theorem arg_row {sg : RefSig} {arg : Memref sg .tc .vmem S1x2048x128 .f32} (harg : arg.IsWhole) (x : Vec Ideal S1x2048x128 .f32) {inb h}
    (t : Fin 2048) (l : Fin 128) :
    shapeCast S2048x128 (View.readAt (Elt Ideal) arg.view (Rect.unit ![0, 0, 0] S1x2048x128.size inb).toLoadRect (harg.unread x)) h
      (ix2 t l) = x (ix3 0 t l) := by
  refine (ValueIdx.shapeCast_1ab_ab_apply _ _ _ _).trans ?_
  rw [Memref.IsWhole.readAt_unread]
  refine congrArg x (funext fun a => Fin.ext ?_)
  match a with
  | ⟨0, _⟩ => rfl
  | ⟨1, _⟩ => show 0 + 1 * t.val = t.val; omega
  | ⟨2, _⟩ => show 0 + 1 * l.val = l.val; omega

/-- A scratch that was written whole. -/
theorem canon_whole {e : EltTy} {inb} (p : Vec Ideal S2048x128 e) (L : List (View.Piece (Elt Ideal) S2048x128 e)) (t : Fin 2048) (l : Fin 128) :
    View.canon (⟨Rect.unit ![0, 0] S2048x128.size inb, p⟩ :: L) (ix2 t l) = p (ix2 t l) := by
  refine (Scratch.canon_block (n := 2048) (o := 0) (fun r l => if h : r < 2048 then p (ix2 ⟨r, h⟩ l) else p (ix2 t l)) t l p L ?_
    fun h => absurd t.isLt (by omega)).trans ?_
  · intro m l
    rw [dif_pos (by omega)]
    exact congrArg p (congrArg₂ ix2 (Fin.ext (by simp only []; omega)) rfl)
  · exact dif_pos t.isLt

/-- A scratch read whole. -/
theorem read_whole {sg : RefSig} {e : EltTy} {κ : Kind} {sp : Space} (v : View sg κ sp S2048x128 e) (L : List (View.Piece (Elt Ideal) S2048x128 e)) {inb}
    (t : Fin 2048) (l : Fin 128) :
    v.readCov L (Rect.unit ![0, 0] S2048x128.size inb).toLoadRect (ix2 t l) = View.canon L (ix2 t l) :=
  Scratch.load_block (n := 2048) (o := 0) v L t t l (by simp)

variable (c : Dev nD) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg13 : Memref sig .tc .vmem S2048x128 .f32) (arg14 : Memref sig .tc .vmem S2048x128 .f32) (arg15 : Memref sig .tc .vmem S2048x128 .f32) (arg16 : Memref sig .tc .vmem S2048x128 .bf16) (arg17 : Memref sig .tc .vmem S2048x128 .bf16) (arg18 : Memref sig .tc .vmem S2048x128 .bf16) (arg19 : Memref sig .tc .vmem S2048x128 .bf16) (arg20 : Memref sig .tc .vmem S2048x128 .f32) (arg21 : Memref sig .tc .vmem S2048x128 .f32) (arg22 : Memref sig .tc .vmem S2048x128 .f32) (arg23 : Memref sig .tc .vmem S2048x128 .f32) (arg24 : Memref sig .tc .vmem S2048x128 .f32) (arg25 : Memref sig .tc .vmem S2048x128 .f32) (arg26 : Memref sig .tc .vmem S2048x128 .f32) (arg27 : Memref sig .tc .vmem S2048x128 .f32)
  (x0 x1 x2 x3 x4 x5 x6 x7 : Vec Ideal S1x2048x128 .f32)

theorem row_v5 (t : Fin 2048) (l : Fin 128) : (kernelRun0_A.sl.v5 c arg2 harg2 x0) (ix2 t l) = x0 (ix3 0 t l) := arg_row harg2 x0 t l
theorem row_v7 (t : Fin 2048) (l : Fin 128) : (kernelRun0_A.sl.v7 c arg3 harg3 x1) (ix2 t l) = x1 (ix3 0 t l) := arg_row harg3 x1 t l
theorem row_v1 (t : Fin 2048) (l : Fin 128) : (kernelRun0_A.sl.v1 c arg5 harg5 x3) (ix2 t l) = x3 (ix3 0 t l) := arg_row harg5 x3 t l
theorem row_v3 (t : Fin 2048) (l : Fin 128) : (kernelRun0_A.sl.v3 c arg6 harg6 x4) (ix2 t l) = x4 (ix3 0 t l) := arg_row harg6 x4 t l
theorem row_v67 (t : Fin 2048) (l : Fin 128) : (kernelRun0_A.sl.v67 c arg7 harg7 x5) (ix2 t l) = x5 (ix3 0 t l) := arg_row harg7 x5 t l
theorem row_v69 (t : Fin 2048) (l : Fin 128) : (kernelRun0_A.sl.v69 c arg8 harg8 x6) (ix2 t l) = x6 (ix3 0 t l) := arg_row harg8 x6 t l

theorem q_rope (t : Fin 2048) (l : Fin 128) : View.canon (kernelRun0_A.sl.HS0_1 c arg2 harg2 arg5 harg5 arg6 harg6 x0 x3 x4) (ix2 t l)
    = (x0 (ix3 0 t l) * x3 (ix3 0 t l) + x0 (ix3 0 t (swap l)) * x4 (ix3 0 t l)) * ((1 / 8 : ℝ) : EReal) := by
  refine (canon_whole _ _ t l).trans ?_
  unfold kernelRun0_A.sl.v37 kernelRun0_A.sl.v34 kernelRun0_A.sl.v32 kernelRun0_A.sl.v8 kernelRun0_A.sl.v31 kernelRun0_A.sl.v30 kernelRun0_A.sl.v28 kernelRun0_A.sl.v29 kernelRun0_A.sl.v33 kernelRun0_A.sl.cst
  pointwise [first_half, row_v5, row_v1, row_v3, word_eighth]
  rw [turn fun l => x0 (ix3 0 t l)]

theorem k_rope (t : Fin 2048) (l : Fin 128) : View.canon (kernelRun0_A.sl.HS1_1 c arg3 harg3 arg5 harg5 arg6 harg6 x1 x3 x4) (ix2 t l)
    = x1 (ix3 0 t l) * x3 (ix3 0 t l) + x1 (ix3 0 t (swap l)) * x4 (ix3 0 t l) := by
  refine (canon_whole _ _ t l).trans ?_
  unfold kernelRun0_A.sl.v65 kernelRun0_A.sl.v62 kernelRun0_A.sl.v38 kernelRun0_A.sl.v61 kernelRun0_A.sl.v60 kernelRun0_A.sl.v58 kernelRun0_A.sl.v59
  pointwise [first_half, row_v7, row_v1, row_v3]
  rw [turn fun l => x1 (ix3 0 t l)]

theorem delta (t : Fin 2048) (l : Fin 128) : View.canon (kernelRun0_A.sl.HS2_1 c arg7 harg7 arg8 harg8 x5 x6) (ix2 t l)
    = ∑ e, x5 (ix3 0 t (lane (half l) e)) * x6 (ix3 0 t (lane (half l) e)) := by
  refine (canon_whole _ _ t l).trans ?_
  unfold kernelRun0_A.sl.v89 kernelRun0_A.sl.v86 kernelRun0_A.sl.v83 kernelRun0_A.sl.v85 kernelRun0_A.sl.v82 kernelRun0_A.sl.v84 kernelRun0_A.sl.v77 kernelRun0_A.sl.v81 kernelRun0_A.sl.v76 kernelRun0_A.sl.v80 kernelRun0_A.sl.v75 kernelRun0_A.sl.v79 kernelRun0_A.sl.v70 kernelRun0_A.sl.v9 kernelRun0_A.sl.v12 kernelRun0_A.sl.v74 kernelRun0_A.sl.cst_35
  pointwise [row_v67, row_v69, lane_test]
  by_cases h : l.val < 64
  · rw [if_pos h, half_low l h]
    simp [lane]
  · rw [if_neg h, half_high l h]
    simp [lane]

end Cert.Attn.Rope
-- ==== Proof.Attn.Dilate.lean ====
module

public import proofs.«01_k».proof.Proof.Attn.Spec
public import proofs.«01_k».proof.Proof.Attn.Units

@[expose] public section
noncomputable section
namespace Cert.Attn.Branch

/-! The rows of a dilated branch lie residue class after residue class; in that order the keys of a row
are those that the branch links to it. -/

/-- The natural place of row `r`, dilation 4. -/
def perm4 : Fin 2048 ≃ Fin 2048 where
  toFun r := ⟨r.val % 512 * 4 + r.val / 512, by omega⟩
  invFun t := ⟨t.val % 4 * 512 + t.val / 4, by omega⟩
  left_inv r := Fin.ext (by simp only []; omega)
  right_inv r := Fin.ext (by simp only []; omega)

/-- The natural place of row `r`, dilation 16. -/
def perm16 : Fin 2048 ≃ Fin 2048 where
  toFun r := ⟨r.val % 128 * 16 + r.val / 128, by omega⟩
  invFun t := ⟨t.val % 16 * 128 + t.val / 16, by omega⟩
  left_inv r := Fin.ext (by simp only []; omega)
  right_inv r := Fin.ext (by simp only []; omega)

/-- The segments of `n` rows of branch `i`, whose rows lie in the order `σ`. -/
def Links (i : Fin 3) (n : ℕ) (σ : Fin 2048 ≃ Fin 2048) : Prop := ∀ r s : Fin 2048, Seg n r.val s.val ↔ Link i (σ r) (σ s)

theorem gap1 (r s : ℕ) (hr : r < 2048) (hs : s < 2048) :
    (s ≤ r ∧ r - s ≤ 128 ∧ r / 2048 = s / 2048) ↔ (s ≤ r ∧ r - s ≤ 128 * 1 ∧ 1 ∣ r - s) := by omega

theorem gap4 (r s : ℕ) (hr : r < 2048) (hs : s < 2048) : (s ≤ r ∧ r - s ≤ 128 ∧ r / 512 = s / 512)
    ↔ (s % 512 * 4 + s / 512 ≤ r % 512 * 4 + r / 512 ∧ r % 512 * 4 + r / 512 - (s % 512 * 4 + s / 512) ≤ 128 * 4
      ∧ 4 ∣ r % 512 * 4 + r / 512 - (s % 512 * 4 + s / 512)) := by
  have er := Nat.div_add_mod r 512
  have es := Nat.div_add_mod s 512
  have lr : r / 512 < 4 := by omega
  have ls : s / 512 < 4 := by omega
  have mr := Nat.mod_lt r (show 512 > 0 by decide)
  have ms := Nat.mod_lt s (show 512 > 0 by decide)
  generalize r / 512 = a at *
  generalize r % 512 = b at *
  generalize s / 512 = a' at *
  generalize s % 512 = b' at *
  subst er es
  by_cases h : a = a'
  · subst h
    omega
  · refine ⟨fun k => absurd k.2.2 h, fun k => absurd k.2.2 ?_⟩
    have := k.1
    omega

theorem gap16 (r s : ℕ) (hr : r < 2048) (hs : s < 2048) : (s ≤ r ∧ r - s ≤ 128 ∧ r / 128 = s / 128)
    ↔ (s % 128 * 16 + s / 128 ≤ r % 128 * 16 + r / 128 ∧ r % 128 * 16 + r / 128 - (s % 128 * 16 + s / 128) ≤ 128 * 16
      ∧ 16 ∣ r % 128 * 16 + r / 128 - (s % 128 * 16 + s / 128)) := by omega

theorem links1 : Links 0 2048 (Equiv.refl _) := fun r s => gap1 r.val s.val r.isLt s.isLt
theorem links4 : Links 1 512 perm4 := fun r s => gap4 r.val s.val r.isLt s.isLt
theorem links16 : Links 2 128 perm16 := fun r s => gap16 r.val s.val r.isLt s.isLt

variable {i : Fin 3} {n : ℕ} {σ : Fin 2048 ≃ Fin 2048} (hs : Links i n σ) (f : Fin 2048 → ℝ)

include hs in
theorem sum_keys (t : Fin 2048) : (∑ s : Fin 2048, if Seg n (σ.symm t).val s.val then f (σ s) else 0)
    = ∑ u, if Link i t u then f u else 0 := by
  rw [← Equiv.sum_comp σ fun u => if Link i t u then f u else 0]
  refine Finset.sum_congr rfl fun s _ => if_congr ((hs _ s).trans ?_) rfl rfl
  rw [Equiv.apply_symm_apply]

include hs in
theorem sum_rows (u : Fin 2048) : (∑ r : Fin 2048, if Seg n r.val (σ.symm u).val then f (σ r) else 0)
    = ∑ t, if Link i t u then f t else 0 := by
  rw [← Equiv.sum_comp σ fun t => if Link i t u then f t else 0]
  refine Finset.sum_congr rfl fun r _ => if_congr ((hs r _).trans ?_) rfl rfl
  rw [Equiv.apply_symm_apply]

end Cert.Attn.Branch
-- ==== Proof.Attn.Short.lean ====
module

public import proofs.«01_k».proof.Proof.Attn.Branch

@[expose] public section
set_option maxRecDepth 16384
noncomputable section
namespace Cert.Attn.Short
open Idealize.ShloMosaic Cert.AttnKIdeal Cert.AttnKIdeal.Gen Cert.Attn.Branch
open Idealize.ShloMosaic.TcCoe

/-! The widest dilation: a segment is one unit of 128 rows, which looks at itself alone. -/

/-- Row `a % 128` of unit `j`. -/
def row (j : Fin 16) (a : Fin 256) : Fin 2048 := ⟨128 * j.val + a.val % 128, by omega⟩

/-- Row `c` of unit `j`, as a key. -/
def key (j : Fin 16) (c : Fin 128) : Fin 2048 := ⟨128 * j.val + c.val, by omega⟩

/-- The head of the pair that a row of a pile belongs to. -/
def head (a : Fin 256) : Fin 2 := ⟨a.val / 128, by omega⟩

/-- Row `a` of head `h` of a pile. -/
def place (h : Fin 2) (a : Fin 128) : Fin 256 := ⟨128 * h.val + a.val, by omega⟩

/-- Whether a row of a pile may look at key `c` of its unit. -/
def Open (a : Fin 256) (c : Fin 128) : Prop := c.val ≤ a.val % 128

instance (a : Fin 256) (c : Fin 128) : Decidable (Open a c) := by
  unfold Open
  infer_instance

theorem open_iff (j : Fin 16) (a : Fin 256) (c : Fin 128) : Open a c ↔ Seg 128 (row j a).val (key j c).val := by
  simp only [Open, Seg, row, key]
  omega

theorem seg_unit (j : Fin 16) (a : Fin 256) (s : Fin 2048) (h : s.val / 128 ≠ j.val) : ¬ Seg 128 (row j a).val s.val := by
  simp only [Seg, row]
  omega

theorem seg_unit' (j : Fin 16) (c : Fin 128) (r : Fin 2048) (h : r.val / 128 ≠ j.val) : ¬ Seg 128 r.val (key j c).val := by
  simp only [Seg, key]
  omega

/-- A sum over rows that only sees one unit. -/
theorem sum_unit (j : Fin 16) (f : Fin 2048 → ℝ) (h : ∀ s : Fin 2048, s.val / 128 ≠ j.val → f s = 0) :
    ∑ s, f s = ∑ c, f (key j c) := by
  rw [← Cert.Reals.sum_blocks (N := 16) (S := 128) (by decide) f key (fun j c => by simp [key]; omega)]
  refine Finset.sum_eq_single j (fun j' _ hj => ?_) fun hn => absurd (Finset.mem_univ _) hn
  refine Finset.sum_eq_zero fun c _ => h _ fun e => hj (Fin.ext ?_)
  simp only [key] at e
  omega

theorem pile_apply (x : Vec Ideal S2048x128 .bf16) (j : Fin 16) (a : Fin 256) (l : Fin 128) :
    k0_pay207 (F := Ideal) x (ix3 j a l) = if (a.val < 128 ↔ l.val < 64) then x (ix2 (row j a) l) else 0 := by
  pointwise [k0_pay207, lane_test]
  by_cases ha : a.val < 128
  · have e : row j a = ⟨j.val * 128 + a.val, by omega⟩ := Fin.ext (by simp [row]; omega)
    simp [ha, e]
  · have e : row j a = ⟨j.val * 128 + (a.val - 128), by omega⟩ := Fin.ext (by simp [row]; omega)
    by_cases hl : l.val < 64 <;> simp [ha, hl, e]

theorem head_low (a : Fin 256) (h : a.val < 128) : head a = 0 := Fin.ext (by simp [head]; omega)
theorem head_high (a : Fin 256) (h : ¬ a.val < 128) : head a = 1 := Fin.ext (by simp [head]; omega)

/-- Units of rows. -/
def units (x : Vec Ideal S2048x128 .bf16) : Vec Ideal S16x128x128 .bf16 := shapeCast S16x128x128 x shapeCasts_S2048x128_S16x128x128

theorem units_apply (x : Vec Ideal S2048x128 .bf16) (j : Fin 16) (c l : Fin 128) : units x (ix3 j c l) = x (ix2 (key j c) l) := by
  pointwise [units]
  exact congrArg x (congrArg₂ ix2 (Fin.ext (by simp only [key]; omega)) rfl)

variable {Q K W D L E : Fin 2048 → Fin 128 → ℝ}
variable {q k v d : Vec Ideal S2048x128 .bf16} {lse del : Vec Ideal S2048x128 .f32}
variable {m1 m3 : IVec S1x256x128 32} {m2 : IVec S1x256x128 1}
  (hm : ∀ a c, Scalar.select (m2 (ix3 0 a c)) (m3 (ix3 0 a c)) (m1 (ix3 0 a c)) = BitVec.ofNat 32 (a.val % 128))
  (hq : ∀ r l, q (ix2 r l) = ((Q r l : ℝ) : EReal)) (hk : ∀ r l, k (ix2 r l) = ((K r l : ℝ) : EReal))
  (hv : ∀ r l, v (ix2 r l) = ((W r l : ℝ) : EReal)) (hd : ∀ r l, d (ix2 r l) = ((D r l : ℝ) : EReal))
  (hl : ∀ r l, lse (ix2 r l) = ((L r l : ℝ) : EReal)) (he : ∀ r l, del (ix2 r l) = ((E r l : ℝ) : EReal))

include hq in
theorem pile_real (j : Fin 16) (a : Fin 256) (l : Fin 128) : k0_pay207 (F := Ideal) q (ix3 j a l)
    = ((if (a.val < 128 ↔ l.val < 64) then Q (row j a) l else 0 : ℝ) : EReal) := by
  rw [pile_apply, hq, coe_if]

theorem open_word (a : Fin 256) (c : Fin 128) (y z : EReal) :
    Scalar.select (IntOp.cmpi CmpIPredicate.sle (BitVec.ofNat 32 c.val) (BitVec.ofNat 32 (a.val % 128))) y z
      = if Open a c then y else z := by
  have h : ∀ x c : Fin 128, IntOp.cmpi CmpIPredicate.sle (BitVec.ofNat 32 c.val) (BitVec.ofNat 32 x.val)
      = BitVec.ofBool (decide (c.val ≤ x.val)) := by decide +kernel
  rw [h ⟨a.val % 128, by omega⟩ c]
  by_cases h : c.val ≤ a.val % 128 <;> simp [h, Scalar.select, Open]

theorem column {x : Vec Ideal S2048x128 .f32} {X : Fin 2048 → Fin 128 → ℝ}
    (hx : ∀ r l, x (ix2 r l) = ((X r l : ℝ) : EReal)) (j : Fin 16) (a : Fin 256) :
    (if h : a.val < 128 then x (ix2 ⟨j.val * 128 + a.val, by omega⟩ 0)
      else x (ix2 ⟨j.val * 128 + (a.val - 128), by omega⟩ 64))
      = ((X (row j a) (lane (head a) 0) : ℝ) : EReal) := by
  by_cases h : a.val < 128
  · rw [dif_pos h, hx, head_low a h]
    refine congrArg Real.toEReal (congrArg₂ X (Fin.ext ?_) rfl)
    simp only [row]
    omega
  · rw [dif_neg h, hx, head_high a h]
    refine congrArg Real.toEReal (congrArg₂ X (Fin.ext ?_) rfl)
    simp only [row]
    omega

theorem dot_split (A B : Fin 128 → ℝ) (a : Fin 256) :
    ∑ x : Fin 64, ((if (a.val < 128 ↔ True) then A ⟨x.val, by omega⟩ else 0 : ℝ) : EReal) * ((B ⟨x.val, by omega⟩ : ℝ) : EReal)
      + ∑ x : Fin 64, ((if (a.val < 128 ↔ False) then A ⟨64 + x.val, by omega⟩ else 0 : ℝ) : EReal) * ((B ⟨64 + x.val, by omega⟩ : ℝ) : EReal)
      = ((∑ e, A (lane (head a) e) * B (lane (head a) e) : ℝ) : EReal) := by
  rw [← Cert.Reals.coe_sum]
  by_cases h : a.val < 128
  · simp [h, head_low a h, lane]
  · simp [h, head_high a h, lane]

include hm hq hk hl in
theorem prob (j : Fin 16) (a : Fin 256) (c : Fin 128) :
    k0_pay208 (F := Ideal) (k0_pay207 q) (units k) m1 m2 m3 lse (ix3 j a c)
      = ((if Open a c then weight Q K L (head a) (row j a) (key j c) else 0 : ℝ) : EReal) := by
  pointwise [k0_pay208, pile_real hq, units_apply, hk, hm, open_word, mask_word, column hl,
    dot_split (Q (row j a)) (K (key j c)) a]
  by_cases h : Open a c
  · rw [if_pos h, if_pos h]
    rfl
  · rw [if_neg h, if_neg h, EReal.bot_sub]
    rfl

include hm hq hk hv hd hl he in
theorem score (j : Fin 16) (a : Fin 256) (c : Fin 128) :
    k0_pay209 (F := Ideal) (k0_pay207 q) (units k) (units v) m1 m2 m3 d lse del (ix3 j a c)
      = ((if Open a c then grad Q K W D L E (head a) (row j a) (key j c) else 0 : ℝ) : EReal) := by
  pointwise [k0_pay209, prob hm hq hk hl, pile_real hd, units_apply, hv, column he,
    dot_split (D (row j a)) (W (key j c)) a]
  rw [← EReal.coe_sub, ← EReal.coe_mul, ite_mul, zero_mul]
  rfl

theorem row_div (r : Fin 2048) (a : Fin 256) (h : a.val % 128 = r.val % 128) :
    row ⟨r.val / 128, by omega⟩ a = r := Fin.ext (by simp only [row]; omega)

include hm hq hk hv hd hl he in
theorem dq_apply (r : Fin 2048) (l : Fin 128) :
    k0_pay210 (F := Ideal) (k0_pay207 q) (units k) (units v) m1 m2 m3 d lse del (ix2 r l)
      = ((∑ s : Fin 2048, if Seg 128 r.val s.val then grad Q K W D L E (half l) r s * K s l else 0 : ℝ) : EReal) := by
  have at_pile (a : Fin 256) (ha : a.val % 128 = r.val % 128) (hh : head a = half l) :
      ∑ c : Fin 128, ((if Open a c then
          grad Q K W D L E (head a) (row ⟨r.val / 128, by omega⟩ a) (key ⟨r.val / 128, by omega⟩ c) else 0 : ℝ) : EReal)
          * ((K (key ⟨r.val / 128, by omega⟩ c) l : ℝ) : EReal)
      = ((∑ s : Fin 2048, if Seg 128 r.val s.val then grad Q K W D L E (half l) r s * K s l else 0 : ℝ) : EReal) := by
    have er := row_div r a ha
    rw [sum_unit ⟨r.val / 128, by omega⟩ (fun s => if Seg 128 r.val s.val then grad Q K W D L E (half l) r s * K s l else 0)
      (fun s hs => if_neg (er ▸ seg_unit _ a s hs)), ← Cert.Reals.coe_sum]
    refine Finset.sum_congr rfl fun c _ => ?_
    rw [← EReal.coe_mul, ite_mul, zero_mul, hh, er]
    refine congrArg Real.toEReal (if_congr ((open_iff ⟨r.val / 128, by omega⟩ a c).trans ?_) rfl rfl)
    rw [er]
  pointwise [k0_pay210, score hm hq hk hv hd hl he, units_apply, hk, lane_test]
  by_cases h : l.val < 64
  · rw [if_pos h]
    exact at_pile ⟨r.val % 128, by omega⟩ (by simp) (Fin.ext (by simp only [half, head]; omega))
  · rw [if_neg h]
    exact at_pile ⟨128 + r.val % 128, by omega⟩ (by simp only []; omega) (Fin.ext (by simp only [half, head]; omega))

/-- Numbers of a pile against the rows of a pile. -/
def back (A : Vec Ideal S16x256x128 .bf16) (X : Vec Ideal S16x256x128 .bf16) : Vec Ideal S2048x128 .f32 :=
  shapeCast S2048x128
    (matmul (F := Ideal) (φ₁ := .bf16) (φ₂ := .bf16) dot_S16x256x128_S16x256x128_S16x128x128_1_1_2_2_0_0 none A X
      (constant S16x128x128 .f32 0x00000000#32)) shapeCasts_S16x128x128_S2048x128

theorem back_apply {g : Fin 2 → Fin 2048 → Fin 2048 → ℝ} {A : Vec Ideal S16x256x128 .bf16}
    (hA : ∀ j a c, A (ix3 j a c) = ((if Open a c then g (head a) (row j a) (key j c) else 0 : ℝ) : EReal))
    {x : Vec Ideal S2048x128 .bf16} {X : Fin 2048 → Fin 128 → ℝ} (hx : ∀ r l, x (ix2 r l) = ((X r l : ℝ) : EReal))
    (s : Fin 2048) (l : Fin 128) :
    back A (k0_pay207 x) (ix2 s l)
      = ((∑ r : Fin 2048, if Seg 128 r.val s.val then g (half l) r s * X r l else 0 : ℝ) : EReal) := by
  have e : ∀ Y : Vec Ideal S16x256x128 .bf16, back A Y (ix2 s l)
      = ∑ a : Fin 256, A (ix3 ⟨s.val / 128, by omega⟩ a ⟨s.val % 128, by omega⟩) * Y (ix3 ⟨s.val / 128, by omega⟩ a l) := fun Y => by
    pointwise [back]
  have es : key ⟨s.val / 128, by omega⟩ ⟨s.val % 128, by omega⟩ = s := Fin.ext (by simp only [key]; omega)
  rw [e, sum_unit ⟨s.val / 128, by omega⟩ (fun r => if Seg 128 r.val s.val then g (half l) r s * X r l else 0)
    (fun r hr => if_neg (es ▸ seg_unit' ⟨s.val / 128, by omega⟩ ⟨s.val % 128, by omega⟩ r hr)), ← Cert.Reals.coe_sum,
    ← Cert.Reals.sum_blocks (N := 2) (S := 128) (by decide) _ place (fun h a => by simp [place]; omega),
    Finset.sum_eq_single (half l)]
  · refine Finset.sum_congr rfl fun a _ => ?_
    have er : row ⟨s.val / 128, by omega⟩ (place (half l) a) = key ⟨s.val / 128, by omega⟩ a := Fin.ext (by simp only [row, place, key]; omega)
    have eh : head (place (half l) a) = half l := Fin.ext (by simp only [head, place]; omega)
    have hi : ((place (half l) a).val < 128 ↔ l.val < 64) := by simp only [place, half]; omega
    rw [hA, pile_real hx, if_pos hi, er, eh, es, ← EReal.coe_mul, ite_mul, zero_mul]
    refine congrArg Real.toEReal (if_congr ((open_iff ⟨s.val / 128, by omega⟩ _ _).trans ?_) rfl rfl)
    rw [er, es]
  · intro h _ hh
    refine Finset.sum_eq_zero fun a _ => ?_
    have hi : ¬ ((place h a).val < 128 ↔ l.val < 64) := fun k => hh (Fin.ext (by simp only [place, half] at k ⊢; omega))
    rw [pile_real hx, if_neg hi, EReal.coe_zero, mul_zero]
  · exact fun hn => absurd (Finset.mem_univ _) hn

end Cert.Attn.Short
-- ==== Proof.Attn.Orders.lean ====
module

public import proofs.«01_k».proof.Proof.Attn.Rope
public import proofs.«01_k».proof.Proof.Attn.Dilate
public import proofs.«01_k».proof.Proof.Attn.Short

@[expose] public section
set_option maxRecDepth 16384
noncomputable section
namespace Cert.Attn.Point
open Idealize.ShloMosaic Cert.AttnKIdeal Cert.AttnKIdeal.Gen Cert.Attn.Branch Cert.Attn.Rope
open Idealize.ShloMosaic.TcCoe

/-! One point's branches: every branch reads the rows in its own order, and what it makes of them is the
sum over the keys (or the queries) that it links. -/

/-- An array of numbers by row number. -/
def ext (X : Fin 2048 → Fin 128 → ℝ) (n : ℕ) (l : Fin 128) : EReal := if h : n < 2048 then ((X ⟨n, h⟩ l : ℝ) : EReal) else 0

theorem ext_of (X : Fin 2048 → Fin 128 → ℝ) (t : Fin 2048) (l : Fin 128) : ext X t.val l = ((X t l : ℝ) : EReal) := dif_pos t.isLt

variable (c : Dev nD) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg13 : Memref sig .tc .vmem S2048x128 .f32) (arg14 : Memref sig .tc .vmem S2048x128 .f32) (arg15 : Memref sig .tc .vmem S2048x128 .f32) (arg16 : Memref sig .tc .vmem S2048x128 .bf16) (arg17 : Memref sig .tc .vmem S2048x128 .bf16) (arg18 : Memref sig .tc .vmem S2048x128 .bf16) (arg19 : Memref sig .tc .vmem S2048x128 .bf16) (arg20 : Memref sig .tc .vmem S2048x128 .f32) (arg21 : Memref sig .tc .vmem S2048x128 .f32) (arg22 : Memref sig .tc .vmem S2048x128 .f32) (arg23 : Memref sig .tc .vmem S2048x128 .f32) (arg24 : Memref sig .tc .vmem S2048x128 .f32) (arg25 : Memref sig .tc .vmem S2048x128 .f32) (arg26 : Memref sig .tc .vmem S2048x128 .f32) (arg27 : Memref sig .tc .vmem S2048x128 .f32)
  (x0 x1 x2 x3 x4 x5 x6 x7 : Vec Ideal S1x2048x128 .f32)

variable {Q K W D L E : Fin 2048 → Fin 128 → ℝ}
  (hQ : ∀ t l, View.canon (kernelRun0_A.sl.HS0_1 c arg2 harg2 arg5 harg5 arg6 harg6 x0 x3 x4) (ix2 t l) = ((Q t l : ℝ) : EReal))
  (hK : ∀ t l, View.canon (kernelRun0_A.sl.HS1_1 c arg3 harg3 arg5 harg5 arg6 harg6 x1 x3 x4) (ix2 t l) = ((K t l : ℝ) : EReal))
  (hW : ∀ t l, x2 (ix3 0 t l) = ((W t l : ℝ) : EReal))
  (hD : ∀ t l, x5 (ix3 0 t l) = ((D t l : ℝ) : EReal))
  (hL : ∀ t l, x7 (ix3 0 t l) = ((L t l : ℝ) : EReal))
  (hE : ∀ t l, View.canon (kernelRun0_A.sl.HS2_1 c arg7 harg7 arg8 harg8 x5 x6) (ix2 t l) = ((E t l : ℝ) : EReal))

/-! ### The rows in each order -/

include hQ in
theorem q_rows1 (r : Fin 2048) (l : Fin 128) : (kernelRun0_A.sl.v124 c arg2 harg2 arg5 harg5 arg6 harg6 arg13 arg16 x0 x3 x4) (ix2 r l) = ((Q r l : ℝ) : EReal) := by
  refine (read_whole _ _ r l).trans ?_
  refine (canon_whole _ _ r l).trans ?_
  unfold kernelRun0_A.sl.v106 kernelRun0_A.sl.v103 kernelRun0_A.sl.v102
  pointwise
  exact (read_whole _ _ r l).trans (hQ r l)

include hQ in
theorem q_rows4 (r : Fin 2048) (l : Fin 128) : (kernelRun0_A.sl.v447 c arg2 harg2 arg5 harg5 arg6 harg6 arg13 arg16 x0 x3 x4) (ix2 r l) = ((Q (perm4 r) l : ℝ) : EReal) := by
  refine (read_whole _ _ r l).trans ?_
  refine Eq.trans ?_ (ext_of Q (perm4 r) l)
  apply Scratch.q4 (f := ext Q)
  exact fun t l => (hQ t l).trans (ext_of Q t l).symm

include hQ in
theorem q_rows16 (r : Fin 2048) (l : Fin 128) : (kernelRun0_A.sl.v1207 c arg2 harg2 arg5 harg5 arg6 harg6 arg13 arg16 x0 x3 x4) (ix2 r l) = ((Q (perm16 r) l : ℝ) : EReal) := by
  refine (read_whole _ _ r l).trans ?_
  refine Eq.trans ?_ (ext_of Q (perm16 r) l)
  apply Scratch.q16 (f := ext Q)
  exact fun t l => (hQ t l).trans (ext_of Q t l).symm

include hK in
theorem k_rows1 (r : Fin 2048) (l : Fin 128) : (kernelRun0_A.sl.v133 c arg3 harg3 arg5 harg5 arg6 harg6 arg14 arg17 x1 x3 x4) (ix2 r l) = ((K r l : ℝ) : EReal) := by
  refine (read_whole _ _ r l).trans ?_
  refine (canon_whole _ _ r l).trans ?_
  unfold kernelRun0_A.sl.v111 kernelRun0_A.sl.v108 kernelRun0_A.sl.v
  pointwise
  exact (read_whole _ _ r l).trans (hK r l)

include hK in
theorem k_rows4 (r : Fin 2048) (l : Fin 128) : (kernelRun0_A.sl.v456 c arg3 harg3 arg5 harg5 arg6 harg6 arg14 arg17 x1 x3 x4) (ix2 r l) = ((K (perm4 r) l : ℝ) : EReal) := by
  refine (read_whole _ _ r l).trans ?_
  refine Eq.trans ?_ (ext_of K (perm4 r) l)
  apply Scratch.k4 (f := ext K)
  exact fun t l => (hK t l).trans (ext_of K t l).symm

include hK in
theorem k_rows16 (r : Fin 2048) (l : Fin 128) : (kernelRun0_A.sl.v1216 c arg3 harg3 arg5 harg5 arg6 harg6 arg14 arg17 x1 x3 x4) (ix2 r l) = ((K (perm16 r) l : ℝ) : EReal) := by
  refine (read_whole _ _ r l).trans ?_
  refine Eq.trans ?_ (ext_of K (perm16 r) l)
  apply Scratch.k16 (f := ext K)
  exact fun t l => (hK t l).trans (ext_of K t l).symm

include hW in
theorem v_rows1 (r : Fin 2048) (l : Fin 128) : (kernelRun0_A.sl.v135 c arg4 harg4 arg18 x2) (ix2 r l) = ((W r l : ℝ) : EReal) := by
  refine (read_whole _ _ r l).trans ?_
  refine (canon_whole _ _ r l).trans ?_
  unfold kernelRun0_A.sl.v117 kernelRun0_A.sl.v114
  pointwise
  exact (arg_row harg4 x2 r l).trans (hW r l)

include hW in
theorem v_rows4 (r : Fin 2048) (l : Fin 128) : (kernelRun0_A.sl.v458 c arg4 harg4 arg18 x2) (ix2 r l) = ((W (perm4 r) l : ℝ) : EReal) := by
  refine (read_whole _ _ r l).trans ?_
  refine Eq.trans ?_ (ext_of W (perm4 r) l)
  apply Scratch.v4 (f := ext W)
  exact fun t l => (hW t l).trans (ext_of W t l).symm

include hW in
theorem v_rows16 (r : Fin 2048) (l : Fin 128) : (kernelRun0_A.sl.v1218 c arg4 harg4 arg18 x2) (ix2 r l) = ((W (perm16 r) l : ℝ) : EReal) := by
  refine (read_whole _ _ r l).trans ?_
  refine Eq.trans ?_ (ext_of W (perm16 r) l)
  apply Scratch.v16 (f := ext W)
  exact fun t l => (hW t l).trans (ext_of W t l).symm

include hD in
theorem d_rows1 (r : Fin 2048) (l : Fin 128) : (kernelRun0_A.sl.v244 c arg7 harg7 arg19 x5) (ix2 r l) = ((D r l : ℝ) : EReal) := by
  refine (read_whole _ _ r l).trans ?_
  refine (canon_whole _ _ r l).trans ?_
  unfold kernelRun0_A.sl.v123 kernelRun0_A.sl.v120
  pointwise
  exact (row_v67 _ _ _ _ r l).trans (hD r l)

include hD in
theorem d_rows4 (r : Fin 2048) (l : Fin 128) : (kernelRun0_A.sl.v567 c arg7 harg7 arg19 x5) (ix2 r l) = ((D (perm4 r) l : ℝ) : EReal) := by
  refine (read_whole _ _ r l).trans ?_
  refine Eq.trans ?_ (ext_of D (perm4 r) l)
  apply Scratch.d4 (f := ext D)
  exact fun t l => (hD t l).trans (ext_of D t l).symm

include hD in
theorem d_rows16 (r : Fin 2048) (l : Fin 128) : (kernelRun0_A.sl.v1242 c arg7 harg7 arg19 x5) (ix2 r l) = ((D (perm16 r) l : ℝ) : EReal) := by
  refine (read_whole _ _ r l).trans ?_
  refine Eq.trans ?_ (ext_of D (perm16 r) l)
  apply Scratch.d16 (f := ext D)
  exact fun t l => (hD t l).trans (ext_of D t l).symm

include hL in
theorem lse_rows4 (r : Fin 2048) (l : Fin 128) : (kernelRun0_A.sl.v576 c arg9 harg9 arg20 x7) (ix2 r l) = ((L (perm4 r) l : ℝ) : EReal) := by
  refine (read_whole _ _ r l).trans ?_
  refine Eq.trans ?_ (ext_of L (perm4 r) l)
  apply Scratch.lse4 (f := ext L)
  exact fun t l => (hL t l).trans (ext_of L t l).symm

include hL in
theorem lse_rows16 (r : Fin 2048) (l : Fin 128) : (kernelRun0_A.sl.v1251 c arg9 harg9 arg20 x7) (ix2 r l) = ((L (perm16 r) l : ℝ) : EReal) := by
  refine (read_whole _ _ r l).trans ?_
  refine Eq.trans ?_ (ext_of L (perm16 r) l)
  apply Scratch.lse16 (f := ext L)
  exact fun t l => (hL t l).trans (ext_of L t l).symm

include hE in
theorem delta_rows1 (r : Fin 2048) (l : Fin 128) : (kernelRun0_A.sl.v259 c arg7 harg7 arg8 harg8 arg15 x5 x6) (ix2 r l) = ((E r l : ℝ) : EReal) := by
  refine (read_whole _ _ r l).trans ?_
  exact hE r l

include hE in
theorem delta_rows4 (r : Fin 2048) (l : Fin 128) : (kernelRun0_A.sl.v581 c arg7 harg7 arg8 harg8 arg15 arg21 x5 x6) (ix2 r l) = ((E (perm4 r) l : ℝ) : EReal) := by
  refine (read_whole _ _ r l).trans ?_
  refine Eq.trans ?_ (ext_of E (perm4 r) l)
  apply Scratch.delta4 (f := ext E)
  exact fun t l => (hE t l).trans (ext_of E t l).symm

include hE in
theorem delta_rows16 (r : Fin 2048) (l : Fin 128) : (kernelRun0_A.sl.v1256 c arg7 harg7 arg8 harg8 arg15 arg21 x5 x6) (ix2 r l) = ((E (perm16 r) l : ℝ) : EReal) := by
  refine (read_whole _ _ r l).trans ?_
  refine Eq.trans ?_ (ext_of E (perm16 r) l)
  apply Scratch.delta16 (f := ext E)
  exact fun t l => (hE t l).trans (ext_of E t l).symm

end Cert.Attn.Point
-- ==== Proof.Attn.Stages.lean ====
module

public import proofs.«01_k».proof.Proof.Attn.Rope
public import proofs.«01_k».proof.Proof.Attn.Dilate
public import proofs.«01_k».proof.Proof.Attn.Short

@[expose] public section
set_option maxRecDepth 16384
noncomputable section
namespace Cert.Attn.Point
open Idealize.ShloMosaic Cert.AttnKIdeal Cert.AttnKIdeal.Gen Cert.Attn.Branch Cert.Attn.Rope
open Idealize.ShloMosaic.TcCoe

/-! What a point's run leaves of a branch, as the stages of one branch. -/

variable (c : Dev nD) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg13 : Memref sig .tc .vmem S2048x128 .f32) (arg14 : Memref sig .tc .vmem S2048x128 .f32) (arg15 : Memref sig .tc .vmem S2048x128 .f32) (arg16 : Memref sig .tc .vmem S2048x128 .bf16) (arg17 : Memref sig .tc .vmem S2048x128 .bf16) (arg18 : Memref sig .tc .vmem S2048x128 .bf16) (arg19 : Memref sig .tc .vmem S2048x128 .bf16) (arg20 : Memref sig .tc .vmem S2048x128 .f32) (arg21 : Memref sig .tc .vmem S2048x128 .f32) (arg22 : Memref sig .tc .vmem S2048x128 .f32) (arg23 : Memref sig .tc .vmem S2048x128 .f32) (arg24 : Memref sig .tc .vmem S2048x128 .f32) (arg25 : Memref sig .tc .vmem S2048x128 .f32) (arg26 : Memref sig .tc .vmem S2048x128 .f32) (arg27 : Memref sig .tc .vmem S2048x128 .f32)
  (x0 x1 x2 x3 x4 x5 x6 x7 : Vec Ideal S1x2048x128 .f32)

theorem dq_stage1 : (kernelRun0_A.sl.r_2 c arg2 harg2 arg3 harg3 arg4 harg4 arg5 harg5 arg6 harg6 arg7 harg7 arg8 harg8 arg9 harg9 arg13 arg14 arg15 arg16 arg17 arg18 arg19 x0 x1 x2 x3 x4 x5 x6 x7)
    = k0_pay80 (F := Ideal) (k0_pay77 (kernelRun0_A.sl.v124 c arg2 harg2 arg5 harg5 arg6 harg6 arg13 arg16 x0 x3 x4)) (andi kernelRun0_A.sl.v202 kernelRun0_A.sl.v225) (win (kernelRun0_A.sl.v133 c arg3 harg3 arg5 harg5 arg6 harg6 arg14 arg17 x1 x3 x4)) (win (kernelRun0_A.sl.v135 c arg4 harg4 arg18 x2)) (cmpi CmpIPredicate.slt kernelRun0_A.sl.v126 kernelRun0_A.sl.v127) (kernelRun0_A.sl.v244 c arg7 harg7 arg19 x5) (shapeCast S2048x128 (View.readAt (Elt Ideal) arg9.view (Rect.unit ![0, 0, 0] S1x2048x128.size inb_S1x2048x128_S1x2048x128_0_0_0).toLoadRect (harg9.unread x7)) shapeCasts_S1x2048x128_S2048x128 : Vec Ideal S2048x128 .f32) (kernelRun0_A.sl.v259 c arg7 harg7 arg8 harg8 arg15 x5 x6) := rfl

theorem dk_stage1 : (kernelRun0_A.sl.v293 c arg2 harg2 arg3 harg3 arg4 harg4 arg5 harg5 arg6 harg6 arg7 harg7 arg8 harg8 arg9 harg9 arg13 arg14 arg15 arg16 arg17 arg18 arg19 x0 x1 x2 x3 x4 x5 x6 x7)
    = gather (back (truncf (F := Ideal) (φ := .f32) .bf16 (k0_pay79 (F := Ideal) (k0_pay77 (kernelRun0_A.sl.v124 c arg2 harg2 arg5 harg5 arg6 harg6 arg13 arg16 x0 x3 x4)) (andi kernelRun0_A.sl.v202 kernelRun0_A.sl.v225) (win (kernelRun0_A.sl.v133 c arg3 harg3 arg5 harg5 arg6 harg6 arg14 arg17 x1 x3 x4)) (win (kernelRun0_A.sl.v135 c arg4 harg4 arg18 x2)) (kernelRun0_A.sl.v244 c arg7 harg7 arg19 x5) (shapeCast S2048x128 (View.readAt (Elt Ideal) arg9.view (Rect.unit ![0, 0, 0] S1x2048x128.size inb_S1x2048x128_S1x2048x128_0_0_0).toLoadRect (harg9.unread x7)) shapeCasts_S1x2048x128_S2048x128 : Vec Ideal S2048x128 .f32) (kernelRun0_A.sl.v259 c arg7 harg7 arg8 harg8 arg15 x5 x6)) (by decide)) (k0_pay77 (kernelRun0_A.sl.v124 c arg2 harg2 arg5 harg5 arg6 harg6 arg13 arg16 x0 x3 x4))) := rfl

theorem dv_stage1 : (kernelRun0_A.sl.v307 c arg2 harg2 arg3 harg3 arg5 harg5 arg6 harg6 arg7 harg7 arg9 harg9 arg13 arg14 arg16 arg17 arg19 x0 x1 x3 x4 x5 x7)
    = gather (back (truncf (F := Ideal) (φ := .f32) .bf16 (k0_pay78 (F := Ideal) (k0_pay77 (kernelRun0_A.sl.v124 c arg2 harg2 arg5 harg5 arg6 harg6 arg13 arg16 x0 x3 x4)) (andi kernelRun0_A.sl.v202 kernelRun0_A.sl.v225) (win (kernelRun0_A.sl.v133 c arg3 harg3 arg5 harg5 arg6 harg6 arg14 arg17 x1 x3 x4)) (shapeCast S2048x128 (View.readAt (Elt Ideal) arg9.view (Rect.unit ![0, 0, 0] S1x2048x128.size inb_S1x2048x128_S1x2048x128_0_0_0).toLoadRect (harg9.unread x7)) shapeCasts_S1x2048x128_S2048x128 : Vec Ideal S2048x128 .f32)) (by decide)) (k0_pay77 (kernelRun0_A.sl.v244 c arg7 harg7 arg19 x5))) := rfl

theorem dq_stage4 : (kernelRun0_A.sl.r_6 c arg2 harg2 arg3 harg3 arg4 harg4 arg5 harg5 arg6 harg6 arg7 harg7 arg8 harg8 arg9 harg9 arg13 arg14 arg15 arg16 arg17 arg18 arg19 arg20 arg21 x0 x1 x2 x3 x4 x5 x6 x7)
    = k0_pay80 (F := Ideal) (k0_pay77 (kernelRun0_A.sl.v447 c arg2 harg2 arg5 harg5 arg6 harg6 arg13 arg16 x0 x3 x4)) (andi kernelRun0_A.sl.v202 kernelRun0_A.sl.v548) (win (kernelRun0_A.sl.v456 c arg3 harg3 arg5 harg5 arg6 harg6 arg14 arg17 x1 x3 x4)) (win (kernelRun0_A.sl.v458 c arg4 harg4 arg18 x2)) (cmpi CmpIPredicate.slt kernelRun0_A.sl.v126 kernelRun0_A.sl.v127) (kernelRun0_A.sl.v567 c arg7 harg7 arg19 x5) (kernelRun0_A.sl.v576 c arg9 harg9 arg20 x7) (kernelRun0_A.sl.v581 c arg7 harg7 arg8 harg8 arg15 arg21 x5 x6) := rfl

theorem dk_stage4 : (kernelRun0_A.sl.v615 c arg2 harg2 arg3 harg3 arg4 harg4 arg5 harg5 arg6 harg6 arg7 harg7 arg8 harg8 arg9 harg9 arg13 arg14 arg15 arg16 arg17 arg18 arg19 arg20 arg21 x0 x1 x2 x3 x4 x5 x6 x7)
    = gather (back (truncf (F := Ideal) (φ := .f32) .bf16 (k0_pay79 (F := Ideal) (k0_pay77 (kernelRun0_A.sl.v447 c arg2 harg2 arg5 harg5 arg6 harg6 arg13 arg16 x0 x3 x4)) (andi kernelRun0_A.sl.v202 kernelRun0_A.sl.v548) (win (kernelRun0_A.sl.v456 c arg3 harg3 arg5 harg5 arg6 harg6 arg14 arg17 x1 x3 x4)) (win (kernelRun0_A.sl.v458 c arg4 harg4 arg18 x2)) (kernelRun0_A.sl.v567 c arg7 harg7 arg19 x5) (kernelRun0_A.sl.v576 c arg9 harg9 arg20 x7) (kernelRun0_A.sl.v581 c arg7 harg7 arg8 harg8 arg15 arg21 x5 x6)) (by decide)) (k0_pay77 (kernelRun0_A.sl.v447 c arg2 harg2 arg5 harg5 arg6 harg6 arg13 arg16 x0 x3 x4))) := rfl

theorem dv_stage4 : (kernelRun0_A.sl.v629 c arg2 harg2 arg3 harg3 arg5 harg5 arg6 harg6 arg7 harg7 arg9 harg9 arg13 arg14 arg16 arg17 arg19 arg20 x0 x1 x3 x4 x5 x7)
    = gather (back (truncf (F := Ideal) (φ := .f32) .bf16 (k0_pay78 (F := Ideal) (k0_pay77 (kernelRun0_A.sl.v447 c arg2 harg2 arg5 harg5 arg6 harg6 arg13 arg16 x0 x3 x4)) (andi kernelRun0_A.sl.v202 kernelRun0_A.sl.v548) (win (kernelRun0_A.sl.v456 c arg3 harg3 arg5 harg5 arg6 harg6 arg14 arg17 x1 x3 x4)) (kernelRun0_A.sl.v576 c arg9 harg9 arg20 x7)) (by decide)) (k0_pay77 (kernelRun0_A.sl.v567 c arg7 harg7 arg19 x5))) := rfl

theorem dq_stage16 : (kernelRun0_A.sl.r_11 c arg2 harg2 arg3 harg3 arg4 harg4 arg5 harg5 arg6 harg6 arg7 harg7 arg8 harg8 arg9 harg9 arg13 arg14 arg15 arg16 arg17 arg18 arg19 arg20 arg21 x0 x1 x2 x3 x4 x5 x6 x7)
    = k0_pay210 (F := Ideal) (k0_pay207 (kernelRun0_A.sl.v1207 c arg2 harg2 arg5 harg5 arg6 harg6 arg13 arg16 x0 x3 x4)) (Short.units (kernelRun0_A.sl.v1216 c arg3 harg3 arg5 harg5 arg6 harg6 arg14 arg17 x1 x3 x4)) (Short.units (kernelRun0_A.sl.v1218 c arg4 harg4 arg18 x2)) (remsi kernelRun0_A.sl.v1220 kernelRun0_A.sl.v1223) (andi kernelRun0_A.sl.v1232 kernelRun0_A.sl.v1226) kernelRun0_A.sl.v1235 (kernelRun0_A.sl.v1242 c arg7 harg7 arg19 x5) (kernelRun0_A.sl.v1251 c arg9 harg9 arg20 x7) (kernelRun0_A.sl.v1256 c arg7 harg7 arg8 harg8 arg15 arg21 x5 x6) := rfl

theorem dk_stage16 : (kernelRun0_A.sl.r_12 c arg2 harg2 arg3 harg3 arg4 harg4 arg5 harg5 arg6 harg6 arg7 harg7 arg8 harg8 arg9 harg9 arg13 arg14 arg15 arg16 arg17 arg18 arg19 arg20 arg21 x0 x1 x2 x3 x4 x5 x6 x7)
    = Short.back (truncf (F := Ideal) (φ := .f32) .bf16 (k0_pay209 (F := Ideal) (k0_pay207 (kernelRun0_A.sl.v1207 c arg2 harg2 arg5 harg5 arg6 harg6 arg13 arg16 x0 x3 x4)) (Short.units (kernelRun0_A.sl.v1216 c arg3 harg3 arg5 harg5 arg6 harg6 arg14 arg17 x1 x3 x4)) (Short.units (kernelRun0_A.sl.v1218 c arg4 harg4 arg18 x2)) (remsi kernelRun0_A.sl.v1220 kernelRun0_A.sl.v1223) (andi kernelRun0_A.sl.v1232 kernelRun0_A.sl.v1226) kernelRun0_A.sl.v1235 (kernelRun0_A.sl.v1242 c arg7 harg7 arg19 x5) (kernelRun0_A.sl.v1251 c arg9 harg9 arg20 x7) (kernelRun0_A.sl.v1256 c arg7 harg7 arg8 harg8 arg15 arg21 x5 x6)) (by decide)) (k0_pay207 (kernelRun0_A.sl.v1207 c arg2 harg2 arg5 harg5 arg6 harg6 arg13 arg16 x0 x3 x4)) := rfl

theorem dv_stage16 : (kernelRun0_A.sl.v1284 c arg2 harg2 arg3 harg3 arg5 harg5 arg6 harg6 arg7 harg7 arg9 harg9 arg13 arg14 arg16 arg17 arg19 arg20 x0 x1 x3 x4 x5 x7)
    = Short.back (truncf (F := Ideal) (φ := .f32) .bf16 (k0_pay208 (F := Ideal) (k0_pay207 (kernelRun0_A.sl.v1207 c arg2 harg2 arg5 harg5 arg6 harg6 arg13 arg16 x0 x3 x4)) (Short.units (kernelRun0_A.sl.v1216 c arg3 harg3 arg5 harg5 arg6 harg6 arg14 arg17 x1 x3 x4)) (remsi kernelRun0_A.sl.v1220 kernelRun0_A.sl.v1223) (andi kernelRun0_A.sl.v1232 kernelRun0_A.sl.v1226) kernelRun0_A.sl.v1235 (kernelRun0_A.sl.v1251 c arg9 harg9 arg20 x7)) (by decide)) (k0_pay207 (kernelRun0_A.sl.v1242 c arg7 harg7 arg19 x5)) := rfl

end Cert.Attn.Point
-- ==== Proof.Attn.Point.lean ====
module

public import proofs.«01_k».proof.Proof.Attn.Orders
public import proofs.«01_k».proof.Proof.Attn.Stages

@[expose] public section
set_option maxRecDepth 16384
noncomputable section
namespace Cert.Attn.Point
open Idealize.ShloMosaic Cert.AttnKIdeal Cert.AttnKIdeal.Gen Cert.Attn.Branch Cert.Attn.Rope
open Idealize.ShloMosaic.TcCoe

/-! What a point's branches leave, added up. -/

variable (Q K W D L E : Fin 2048 → Fin 128 → ℝ)

/-- What branch `i` gives the queries, the keys and the values. -/
def dq (i : Fin 3) (t : Fin 2048) (l : Fin 128) : ℝ := ∑ u, if Link i t u then grad Q K W D L E (half l) t u * K u l else 0
def dk (i : Fin 3) (u : Fin 2048) (l : Fin 128) : ℝ := ∑ t, if Link i t u then grad Q K W D L E (half l) t u * Q t l else 0
def dv (i : Fin 3) (u : Fin 2048) (l : Fin 128) : ℝ := ∑ t, if Link i t u then weight Q K L (half l) t u * D t l else 0

theorem lanes (j : Fin 32) (a : Fin 64) (l : Fin 128) :
    (cmpi CmpIPredicate.slt kernelRun0_A.sl.v126 kernelRun0_A.sl.v127) (ix3 j a l) = BitVec.ofBool (decide (l.val < 64)) := by
  sl_unfold_run_names
  pointwise
  revert l
  decide

theorem short_query (a : Fin 256) (c : Fin 128) :
    Scalar.select ((andi kernelRun0_A.sl.v1232 kernelRun0_A.sl.v1226) (ix3 0 a c)) (kernelRun0_A.sl.v1235 (ix3 0 a c))
      ((remsi kernelRun0_A.sl.v1220 kernelRun0_A.sl.v1223) (ix3 0 a c)) = BitVec.ofNat 32 (a.val % 128) := by
  sl_unfold_run_names
  pointwise
  revert a
  decide +kernel

variable (c : Dev nD) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg13 : Memref sig .tc .vmem S2048x128 .f32) (arg14 : Memref sig .tc .vmem S2048x128 .f32) (arg15 : Memref sig .tc .vmem S2048x128 .f32) (arg16 : Memref sig .tc .vmem S2048x128 .bf16) (arg17 : Memref sig .tc .vmem S2048x128 .bf16) (arg18 : Memref sig .tc .vmem S2048x128 .bf16) (arg19 : Memref sig .tc .vmem S2048x128 .bf16) (arg20 : Memref sig .tc .vmem S2048x128 .f32) (arg21 : Memref sig .tc .vmem S2048x128 .f32) (arg22 : Memref sig .tc .vmem S2048x128 .f32) (arg23 : Memref sig .tc .vmem S2048x128 .f32) (arg24 : Memref sig .tc .vmem S2048x128 .f32) (arg25 : Memref sig .tc .vmem S2048x128 .f32) (arg26 : Memref sig .tc .vmem S2048x128 .f32) (arg27 : Memref sig .tc .vmem S2048x128 .f32)
  (x0 x1 x2 x3 x4 x5 x6 x7 : Vec Ideal S1x2048x128 .f32)

variable {Q K W D L E}
  (hQ : ∀ t l, View.canon (kernelRun0_A.sl.HS0_1 c arg2 harg2 arg5 harg5 arg6 harg6 x0 x3 x4) (ix2 t l) = ((Q t l : ℝ) : EReal))
  (hK : ∀ t l, View.canon (kernelRun0_A.sl.HS1_1 c arg3 harg3 arg5 harg5 arg6 harg6 x1 x3 x4) (ix2 t l) = ((K t l : ℝ) : EReal))
  (hW : ∀ t l, x2 (ix3 0 t l) = ((W t l : ℝ) : EReal))
  (hD : ∀ t l, x5 (ix3 0 t l) = ((D t l : ℝ) : EReal))
  (hL : ∀ t l, x7 (ix3 0 t l) = ((L t l : ℝ) : EReal))
  (hE : ∀ t l, View.canon (kernelRun0_A.sl.HS2_1 c arg7 harg7 arg8 harg8 x5 x6) (ix2 t l) = ((E t l : ℝ) : EReal))

include hQ hK hW hD hL hE in
theorem dq_branch1 (r : Fin 2048) (l : Fin 128) : (kernelRun0_A.sl.r_2 c arg2 harg2 arg3 harg3 arg4 harg4 arg5 harg5 arg6 harg6 arg7 harg7 arg8 harg8 arg9 harg9 arg13 arg14 arg15 arg16 arg17 arg18 arg19 x0 x1 x2 x3 x4 x5 x6 x7) (ix2 r l) = ((dq Q K W D L E 0 r l : ℝ) : EReal) := by
  rw [dq_stage1]
  have hq : ∀ r l, (kernelRun0_A.sl.v124 c arg2 harg2 arg5 harg5 arg6 harg6 arg13 arg16 x0 x3 x4) (ix2 r l) = ((Q r l : ℝ) : EReal) := fun r l => q_rows1 c arg2 harg2 arg5 harg5 arg6 harg6 arg13 arg16 x0 x3 x4 hQ r l
  have hk : ∀ r l, (kernelRun0_A.sl.v133 c arg3 harg3 arg5 harg5 arg6 harg6 arg14 arg17 x1 x3 x4) (ix2 r l) = ((K r l : ℝ) : EReal) := fun r l => k_rows1 c arg3 harg3 arg5 harg5 arg6 harg6 arg14 arg17 x1 x3 x4 hK r l
  have hv : ∀ r l, (kernelRun0_A.sl.v135 c arg4 harg4 arg18 x2) (ix2 r l) = ((W r l : ℝ) : EReal) := fun r l => v_rows1 c arg4 harg4 arg18 x2 hW r l
  have hd : ∀ r l, (kernelRun0_A.sl.v244 c arg7 harg7 arg19 x5) (ix2 r l) = ((D r l : ℝ) : EReal) := fun r l => d_rows1 c arg7 harg7 arg19 x5 hD r l
  have hl : ∀ r l, (shapeCast S2048x128 (View.readAt (Elt Ideal) arg9.view (Rect.unit ![0, 0, 0] S1x2048x128.size inb_S1x2048x128_S1x2048x128_0_0_0).toLoadRect (harg9.unread x7)) shapeCasts_S1x2048x128_S2048x128 : Vec Ideal S2048x128 .f32) (ix2 r l) = ((L r l : ℝ) : EReal) := fun r l => (arg_row harg9 x7 r l).trans (hL r l)
  have he : ∀ r l, (kernelRun0_A.sl.v259 c arg7 harg7 arg8 harg8 arg15 x5 x6) (ix2 r l) = ((E r l : ℝ) : EReal) := fun r l => delta_rows1 c arg7 harg7 arg8 harg8 arg15 x5 x6 hE r l
  have hm := Mask.mask1
  have hm2 := lanes
  generalize (kernelRun0_A.sl.v124 c arg2 harg2 arg5 harg5 arg6 harg6 arg13 arg16 x0 x3 x4) = q at hq ⊢
  generalize (kernelRun0_A.sl.v133 c arg3 harg3 arg5 harg5 arg6 harg6 arg14 arg17 x1 x3 x4) = k at hk ⊢
  generalize (kernelRun0_A.sl.v135 c arg4 harg4 arg18 x2) = v at hv ⊢
  generalize (kernelRun0_A.sl.v244 c arg7 harg7 arg19 x5) = d at hd ⊢
  generalize (shapeCast S2048x128 (View.readAt (Elt Ideal) arg9.view (Rect.unit ![0, 0, 0] S1x2048x128.size inb_S1x2048x128_S1x2048x128_0_0_0).toLoadRect (harg9.unread x7)) shapeCasts_S1x2048x128_S2048x128 : Vec Ideal S2048x128 .f32) = lse at hl ⊢
  generalize (kernelRun0_A.sl.v259 c arg7 harg7 arg8 harg8 arg15 x5 x6) = del at he ⊢
  generalize andi kernelRun0_A.sl.v202 kernelRun0_A.sl.v225 = mask at hm ⊢
  generalize cmpi CmpIPredicate.slt kernelRun0_A.sl.v126 kernelRun0_A.sl.v127 = m at hm2 ⊢
  refine (Branch.dq_apply (Q := Q) (K := K) (W := W) (D := D) (L := L) (E := E) hm hq hk hv hd hl he fits1 m hm2 r l).trans (congrArg Real.toEReal ?_)
  refine Eq.trans ?_ (sum_keys links1 (fun u => grad Q K W D L E (half l) r u * K u l) r)
  rfl

include hQ hK hW hD hL hE in
theorem dk_branch1 (r : Fin 2048) (l : Fin 128) : (kernelRun0_A.sl.v293 c arg2 harg2 arg3 harg3 arg4 harg4 arg5 harg5 arg6 harg6 arg7 harg7 arg8 harg8 arg9 harg9 arg13 arg14 arg15 arg16 arg17 arg18 arg19 x0 x1 x2 x3 x4 x5 x6 x7) (ix2 r l) = ((dk Q K W D L E 0 r l : ℝ) : EReal) := by
  rw [dk_stage1]
  have hq : ∀ r l, (kernelRun0_A.sl.v124 c arg2 harg2 arg5 harg5 arg6 harg6 arg13 arg16 x0 x3 x4) (ix2 r l) = ((Q r l : ℝ) : EReal) := fun r l => q_rows1 c arg2 harg2 arg5 harg5 arg6 harg6 arg13 arg16 x0 x3 x4 hQ r l
  have hk : ∀ r l, (kernelRun0_A.sl.v133 c arg3 harg3 arg5 harg5 arg6 harg6 arg14 arg17 x1 x3 x4) (ix2 r l) = ((K r l : ℝ) : EReal) := fun r l => k_rows1 c arg3 harg3 arg5 harg5 arg6 harg6 arg14 arg17 x1 x3 x4 hK r l
  have hv : ∀ r l, (kernelRun0_A.sl.v135 c arg4 harg4 arg18 x2) (ix2 r l) = ((W r l : ℝ) : EReal) := fun r l => v_rows1 c arg4 harg4 arg18 x2 hW r l
  have hd : ∀ r l, (kernelRun0_A.sl.v244 c arg7 harg7 arg19 x5) (ix2 r l) = ((D r l : ℝ) : EReal) := fun r l => d_rows1 c arg7 harg7 arg19 x5 hD r l
  have hl : ∀ r l, (shapeCast S2048x128 (View.readAt (Elt Ideal) arg9.view (Rect.unit ![0, 0, 0] S1x2048x128.size inb_S1x2048x128_S1x2048x128_0_0_0).toLoadRect (harg9.unread x7)) shapeCasts_S1x2048x128_S2048x128 : Vec Ideal S2048x128 .f32) (ix2 r l) = ((L r l : ℝ) : EReal) := fun r l => (arg_row harg9 x7 r l).trans (hL r l)
  have he : ∀ r l, (kernelRun0_A.sl.v259 c arg7 harg7 arg8 harg8 arg15 x5 x6) (ix2 r l) = ((E r l : ℝ) : EReal) := fun r l => delta_rows1 c arg7 harg7 arg8 harg8 arg15 x5 x6 hE r l
  have hm := Mask.mask1
  generalize (kernelRun0_A.sl.v124 c arg2 harg2 arg5 harg5 arg6 harg6 arg13 arg16 x0 x3 x4) = q at hq ⊢
  generalize (kernelRun0_A.sl.v133 c arg3 harg3 arg5 harg5 arg6 harg6 arg14 arg17 x1 x3 x4) = k at hk ⊢
  generalize (kernelRun0_A.sl.v135 c arg4 harg4 arg18 x2) = v at hv ⊢
  generalize (kernelRun0_A.sl.v244 c arg7 harg7 arg19 x5) = d at hd ⊢
  generalize (shapeCast S2048x128 (View.readAt (Elt Ideal) arg9.view (Rect.unit ![0, 0, 0] S1x2048x128.size inb_S1x2048x128_S1x2048x128_0_0_0).toLoadRect (harg9.unread x7)) shapeCasts_S1x2048x128_S2048x128 : Vec Ideal S2048x128 .f32) = lse at hl ⊢
  generalize (kernelRun0_A.sl.v259 c arg7 harg7 arg8 harg8 arg15 x5 x6) = del at he ⊢
  generalize andi kernelRun0_A.sl.v202 kernelRun0_A.sl.v225 = mask at hm ⊢
  refine (gather_back fits1 (g := grad Q K W D L E) (fun j a c => Branch.score (Q := Q) (K := K) (W := W) (D := D) (L := L) (E := E) hm hq hk hv hd hl he j a c) (X := Q) hq r l).trans (congrArg Real.toEReal ?_)
  refine Eq.trans ?_ (sum_rows links1 (fun t => grad Q K W D L E (half l) t r * Q t l) r)
  rfl

include hQ hK hD hL in
theorem dv_branch1 (r : Fin 2048) (l : Fin 128) : (kernelRun0_A.sl.v307 c arg2 harg2 arg3 harg3 arg5 harg5 arg6 harg6 arg7 harg7 arg9 harg9 arg13 arg14 arg16 arg17 arg19 x0 x1 x3 x4 x5 x7) (ix2 r l) = ((dv Q K D L 0 r l : ℝ) : EReal) := by
  rw [dv_stage1]
  have hq : ∀ r l, (kernelRun0_A.sl.v124 c arg2 harg2 arg5 harg5 arg6 harg6 arg13 arg16 x0 x3 x4) (ix2 r l) = ((Q r l : ℝ) : EReal) := fun r l => q_rows1 c arg2 harg2 arg5 harg5 arg6 harg6 arg13 arg16 x0 x3 x4 hQ r l
  have hk : ∀ r l, (kernelRun0_A.sl.v133 c arg3 harg3 arg5 harg5 arg6 harg6 arg14 arg17 x1 x3 x4) (ix2 r l) = ((K r l : ℝ) : EReal) := fun r l => k_rows1 c arg3 harg3 arg5 harg5 arg6 harg6 arg14 arg17 x1 x3 x4 hK r l
  have hd : ∀ r l, (kernelRun0_A.sl.v244 c arg7 harg7 arg19 x5) (ix2 r l) = ((D r l : ℝ) : EReal) := fun r l => d_rows1 c arg7 harg7 arg19 x5 hD r l
  have hl : ∀ r l, (shapeCast S2048x128 (View.readAt (Elt Ideal) arg9.view (Rect.unit ![0, 0, 0] S1x2048x128.size inb_S1x2048x128_S1x2048x128_0_0_0).toLoadRect (harg9.unread x7)) shapeCasts_S1x2048x128_S2048x128 : Vec Ideal S2048x128 .f32) (ix2 r l) = ((L r l : ℝ) : EReal) := fun r l => (arg_row harg9 x7 r l).trans (hL r l)
  have hm := Mask.mask1
  generalize (kernelRun0_A.sl.v124 c arg2 harg2 arg5 harg5 arg6 harg6 arg13 arg16 x0 x3 x4) = q at hq ⊢
  generalize (kernelRun0_A.sl.v133 c arg3 harg3 arg5 harg5 arg6 harg6 arg14 arg17 x1 x3 x4) = k at hk ⊢
  generalize (kernelRun0_A.sl.v244 c arg7 harg7 arg19 x5) = d at hd ⊢
  generalize (shapeCast S2048x128 (View.readAt (Elt Ideal) arg9.view (Rect.unit ![0, 0, 0] S1x2048x128.size inb_S1x2048x128_S1x2048x128_0_0_0).toLoadRect (harg9.unread x7)) shapeCasts_S1x2048x128_S2048x128 : Vec Ideal S2048x128 .f32) = lse at hl ⊢
  generalize andi kernelRun0_A.sl.v202 kernelRun0_A.sl.v225 = mask at hm ⊢
  refine (gather_back fits1 (g := weight Q K L) (fun j a c => Branch.prob (Q := Q) (K := K) (L := L) hm hq hk hl j a c) (X := D) hd r l).trans (congrArg Real.toEReal ?_)
  refine Eq.trans ?_ (sum_rows links1 (fun t => weight Q K L (half l) t r * D t l) r)
  rfl

include hQ hK hW hD hL hE in
theorem dq_branch4 (r : Fin 2048) (l : Fin 128) : (kernelRun0_A.sl.r_6 c arg2 harg2 arg3 harg3 arg4 harg4 arg5 harg5 arg6 harg6 arg7 harg7 arg8 harg8 arg9 harg9 arg13 arg14 arg15 arg16 arg17 arg18 arg19 arg20 arg21 x0 x1 x2 x3 x4 x5 x6 x7) (ix2 r l) = ((dq Q K W D L E 1 (perm4 r) l : ℝ) : EReal) := by
  rw [dq_stage4]
  have hq : ∀ r l, (kernelRun0_A.sl.v447 c arg2 harg2 arg5 harg5 arg6 harg6 arg13 arg16 x0 x3 x4) (ix2 r l) = ((Q (perm4 r) l : ℝ) : EReal) := fun r l => q_rows4 c arg2 harg2 arg5 harg5 arg6 harg6 arg13 arg16 x0 x3 x4 hQ r l
  have hk : ∀ r l, (kernelRun0_A.sl.v456 c arg3 harg3 arg5 harg5 arg6 harg6 arg14 arg17 x1 x3 x4) (ix2 r l) = ((K (perm4 r) l : ℝ) : EReal) := fun r l => k_rows4 c arg3 harg3 arg5 harg5 arg6 harg6 arg14 arg17 x1 x3 x4 hK r l
  have hv : ∀ r l, (kernelRun0_A.sl.v458 c arg4 harg4 arg18 x2) (ix2 r l) = ((W (perm4 r) l : ℝ) : EReal) := fun r l => v_rows4 c arg4 harg4 arg18 x2 hW r l
  have hd : ∀ r l, (kernelRun0_A.sl.v567 c arg7 harg7 arg19 x5) (ix2 r l) = ((D (perm4 r) l : ℝ) : EReal) := fun r l => d_rows4 c arg7 harg7 arg19 x5 hD r l
  have hl : ∀ r l, (kernelRun0_A.sl.v576 c arg9 harg9 arg20 x7) (ix2 r l) = ((L (perm4 r) l : ℝ) : EReal) := fun r l => lse_rows4 c arg9 harg9 arg20 x7 hL r l
  have he : ∀ r l, (kernelRun0_A.sl.v581 c arg7 harg7 arg8 harg8 arg15 arg21 x5 x6) (ix2 r l) = ((E (perm4 r) l : ℝ) : EReal) := fun r l => delta_rows4 c arg7 harg7 arg8 harg8 arg15 arg21 x5 x6 hE r l
  have hm := Mask.mask4
  have hm2 := lanes
  generalize (kernelRun0_A.sl.v447 c arg2 harg2 arg5 harg5 arg6 harg6 arg13 arg16 x0 x3 x4) = q at hq ⊢
  generalize (kernelRun0_A.sl.v456 c arg3 harg3 arg5 harg5 arg6 harg6 arg14 arg17 x1 x3 x4) = k at hk ⊢
  generalize (kernelRun0_A.sl.v458 c arg4 harg4 arg18 x2) = v at hv ⊢
  generalize (kernelRun0_A.sl.v567 c arg7 harg7 arg19 x5) = d at hd ⊢
  generalize (kernelRun0_A.sl.v576 c arg9 harg9 arg20 x7) = lse at hl ⊢
  generalize (kernelRun0_A.sl.v581 c arg7 harg7 arg8 harg8 arg15 arg21 x5 x6) = del at he ⊢
  generalize andi kernelRun0_A.sl.v202 kernelRun0_A.sl.v548 = mask at hm ⊢
  generalize cmpi CmpIPredicate.slt kernelRun0_A.sl.v126 kernelRun0_A.sl.v127 = m at hm2 ⊢
  refine (Branch.dq_apply (Q := (fun r => Q (perm4 r))) (K := (fun r => K (perm4 r))) (W := (fun r => W (perm4 r))) (D := (fun r => D (perm4 r))) (L := (fun r => L (perm4 r))) (E := (fun r => E (perm4 r))) hm hq hk hv hd hl he fits4 m hm2 r l).trans (congrArg Real.toEReal ?_)
  refine Eq.trans ?_ (sum_keys links4 (fun u => grad Q K W D L E (half l) (perm4 r) u * K u l) (perm4 r))
  rw [Equiv.symm_apply_apply]
  rfl

include hQ hK hW hD hL hE in
theorem dk_branch4 (r : Fin 2048) (l : Fin 128) : (kernelRun0_A.sl.v615 c arg2 harg2 arg3 harg3 arg4 harg4 arg5 harg5 arg6 harg6 arg7 harg7 arg8 harg8 arg9 harg9 arg13 arg14 arg15 arg16 arg17 arg18 arg19 arg20 arg21 x0 x1 x2 x3 x4 x5 x6 x7) (ix2 r l) = ((dk Q K W D L E 1 (perm4 r) l : ℝ) : EReal) := by
  rw [dk_stage4]
  have hq : ∀ r l, (kernelRun0_A.sl.v447 c arg2 harg2 arg5 harg5 arg6 harg6 arg13 arg16 x0 x3 x4) (ix2 r l) = ((Q (perm4 r) l : ℝ) : EReal) := fun r l => q_rows4 c arg2 harg2 arg5 harg5 arg6 harg6 arg13 arg16 x0 x3 x4 hQ r l
  have hk : ∀ r l, (kernelRun0_A.sl.v456 c arg3 harg3 arg5 harg5 arg6 harg6 arg14 arg17 x1 x3 x4) (ix2 r l) = ((K (perm4 r) l : ℝ) : EReal) := fun r l => k_rows4 c arg3 harg3 arg5 harg5 arg6 harg6 arg14 arg17 x1 x3 x4 hK r l
  have hv : ∀ r l, (kernelRun0_A.sl.v458 c arg4 harg4 arg18 x2) (ix2 r l) = ((W (perm4 r) l : ℝ) : EReal) := fun r l => v_rows4 c arg4 harg4 arg18 x2 hW r l
  have hd : ∀ r l, (kernelRun0_A.sl.v567 c arg7 harg7 arg19 x5) (ix2 r l) = ((D (perm4 r) l : ℝ) : EReal) := fun r l => d_rows4 c arg7 harg7 arg19 x5 hD r l
  have hl : ∀ r l, (kernelRun0_A.sl.v576 c arg9 harg9 arg20 x7) (ix2 r l) = ((L (perm4 r) l : ℝ) : EReal) := fun r l => lse_rows4 c arg9 harg9 arg20 x7 hL r l
  have he : ∀ r l, (kernelRun0_A.sl.v581 c arg7 harg7 arg8 harg8 arg15 arg21 x5 x6) (ix2 r l) = ((E (perm4 r) l : ℝ) : EReal) := fun r l => delta_rows4 c arg7 harg7 arg8 harg8 arg15 arg21 x5 x6 hE r l
  have hm := Mask.mask4
  generalize (kernelRun0_A.sl.v447 c arg2 harg2 arg5 harg5 arg6 harg6 arg13 arg16 x0 x3 x4) = q at hq ⊢
  generalize (kernelRun0_A.sl.v456 c arg3 harg3 arg5 harg5 arg6 harg6 arg14 arg17 x1 x3 x4) = k at hk ⊢
  generalize (kernelRun0_A.sl.v458 c arg4 harg4 arg18 x2) = v at hv ⊢
  generalize (kernelRun0_A.sl.v567 c arg7 harg7 arg19 x5) = d at hd ⊢
  generalize (kernelRun0_A.sl.v576 c arg9 harg9 arg20 x7) = lse at hl ⊢
  generalize (kernelRun0_A.sl.v581 c arg7 harg7 arg8 harg8 arg15 arg21 x5 x6) = del at he ⊢
  generalize andi kernelRun0_A.sl.v202 kernelRun0_A.sl.v548 = mask at hm ⊢
  refine (gather_back fits4 (g := grad (fun r => Q (perm4 r)) (fun r => K (perm4 r)) (fun r => W (perm4 r)) (fun r => D (perm4 r)) (fun r => L (perm4 r)) (fun r => E (perm4 r))) (fun j a c => Branch.score (Q := (fun r => Q (perm4 r))) (K := (fun r => K (perm4 r))) (W := (fun r => W (perm4 r))) (D := (fun r => D (perm4 r))) (L := (fun r => L (perm4 r))) (E := (fun r => E (perm4 r))) hm hq hk hv hd hl he j a c) (X := (fun r => Q (perm4 r))) hq r l).trans (congrArg Real.toEReal ?_)
  refine Eq.trans ?_ (sum_rows links4 (fun t => grad Q K W D L E (half l) t (perm4 r) * Q t l) (perm4 r))
  rw [Equiv.symm_apply_apply]
  rfl

include hQ hK hD hL in
theorem dv_branch4 (r : Fin 2048) (l : Fin 128) : (kernelRun0_A.sl.v629 c arg2 harg2 arg3 harg3 arg5 harg5 arg6 harg6 arg7 harg7 arg9 harg9 arg13 arg14 arg16 arg17 arg19 arg20 x0 x1 x3 x4 x5 x7) (ix2 r l) = ((dv Q K D L 1 (perm4 r) l : ℝ) : EReal) := by
  rw [dv_stage4]
  have hq : ∀ r l, (kernelRun0_A.sl.v447 c arg2 harg2 arg5 harg5 arg6 harg6 arg13 arg16 x0 x3 x4) (ix2 r l) = ((Q (perm4 r) l : ℝ) : EReal) := fun r l => q_rows4 c arg2 harg2 arg5 harg5 arg6 harg6 arg13 arg16 x0 x3 x4 hQ r l
  have hk : ∀ r l, (kernelRun0_A.sl.v456 c arg3 harg3 arg5 harg5 arg6 harg6 arg14 arg17 x1 x3 x4) (ix2 r l) = ((K (perm4 r) l : ℝ) : EReal) := fun r l => k_rows4 c arg3 harg3 arg5 harg5 arg6 harg6 arg14 arg17 x1 x3 x4 hK r l
  have hd : ∀ r l, (kernelRun0_A.sl.v567 c arg7 harg7 arg19 x5) (ix2 r l) = ((D (perm4 r) l : ℝ) : EReal) := fun r l => d_rows4 c arg7 harg7 arg19 x5 hD r l
  have hl : ∀ r l, (kernelRun0_A.sl.v576 c arg9 harg9 arg20 x7) (ix2 r l) = ((L (perm4 r) l : ℝ) : EReal) := fun r l => lse_rows4 c arg9 harg9 arg20 x7 hL r l
  have hm := Mask.mask4
  generalize (kernelRun0_A.sl.v447 c arg2 harg2 arg5 harg5 arg6 harg6 arg13 arg16 x0 x3 x4) = q at hq ⊢
  generalize (kernelRun0_A.sl.v456 c arg3 harg3 arg5 harg5 arg6 harg6 arg14 arg17 x1 x3 x4) = k at hk ⊢
  generalize (kernelRun0_A.sl.v567 c arg7 harg7 arg19 x5) = d at hd ⊢
  generalize (kernelRun0_A.sl.v576 c arg9 harg9 arg20 x7) = lse at hl ⊢
  generalize andi kernelRun0_A.sl.v202 kernelRun0_A.sl.v548 = mask at hm ⊢
  refine (gather_back fits4 (g := weight (fun r => Q (perm4 r)) (fun r => K (perm4 r)) (fun r => L (perm4 r))) (fun j a c => Branch.prob (Q := (fun r => Q (perm4 r))) (K := (fun r => K (perm4 r))) (L := (fun r => L (perm4 r))) hm hq hk hl j a c) (X := (fun r => D (perm4 r))) hd r l).trans (congrArg Real.toEReal ?_)
  refine Eq.trans ?_ (sum_rows links4 (fun t => weight Q K L (half l) t (perm4 r) * D t l) (perm4 r))
  rw [Equiv.symm_apply_apply]
  rfl

include hQ hK hW hD hL hE in
theorem dq_branch16 (r : Fin 2048) (l : Fin 128) : (kernelRun0_A.sl.r_11 c arg2 harg2 arg3 harg3 arg4 harg4 arg5 harg5 arg6 harg6 arg7 harg7 arg8 harg8 arg9 harg9 arg13 arg14 arg15 arg16 arg17 arg18 arg19 arg20 arg21 x0 x1 x2 x3 x4 x5 x6 x7) (ix2 r l) = ((dq Q K W D L E 2 (perm16 r) l : ℝ) : EReal) := by
  rw [dq_stage16]
  have hq : ∀ r l, (kernelRun0_A.sl.v1207 c arg2 harg2 arg5 harg5 arg6 harg6 arg13 arg16 x0 x3 x4) (ix2 r l) = ((Q (perm16 r) l : ℝ) : EReal) := fun r l => q_rows16 c arg2 harg2 arg5 harg5 arg6 harg6 arg13 arg16 x0 x3 x4 hQ r l
  have hk : ∀ r l, (kernelRun0_A.sl.v1216 c arg3 harg3 arg5 harg5 arg6 harg6 arg14 arg17 x1 x3 x4) (ix2 r l) = ((K (perm16 r) l : ℝ) : EReal) := fun r l => k_rows16 c arg3 harg3 arg5 harg5 arg6 harg6 arg14 arg17 x1 x3 x4 hK r l
  have hv : ∀ r l, (kernelRun0_A.sl.v1218 c arg4 harg4 arg18 x2) (ix2 r l) = ((W (perm16 r) l : ℝ) : EReal) := fun r l => v_rows16 c arg4 harg4 arg18 x2 hW r l
  have hd : ∀ r l, (kernelRun0_A.sl.v1242 c arg7 harg7 arg19 x5) (ix2 r l) = ((D (perm16 r) l : ℝ) : EReal) := fun r l => d_rows16 c arg7 harg7 arg19 x5 hD r l
  have hl : ∀ r l, (kernelRun0_A.sl.v1251 c arg9 harg9 arg20 x7) (ix2 r l) = ((L (perm16 r) l : ℝ) : EReal) := fun r l => lse_rows16 c arg9 harg9 arg20 x7 hL r l
  have he : ∀ r l, (kernelRun0_A.sl.v1256 c arg7 harg7 arg8 harg8 arg15 arg21 x5 x6) (ix2 r l) = ((E (perm16 r) l : ℝ) : EReal) := fun r l => delta_rows16 c arg7 harg7 arg8 harg8 arg15 arg21 x5 x6 hE r l
  have hm := short_query
  generalize (kernelRun0_A.sl.v1207 c arg2 harg2 arg5 harg5 arg6 harg6 arg13 arg16 x0 x3 x4) = q at hq ⊢
  generalize (kernelRun0_A.sl.v1216 c arg3 harg3 arg5 harg5 arg6 harg6 arg14 arg17 x1 x3 x4) = k at hk ⊢
  generalize (kernelRun0_A.sl.v1218 c arg4 harg4 arg18 x2) = v at hv ⊢
  generalize (kernelRun0_A.sl.v1242 c arg7 harg7 arg19 x5) = d at hd ⊢
  generalize (kernelRun0_A.sl.v1251 c arg9 harg9 arg20 x7) = lse at hl ⊢
  generalize (kernelRun0_A.sl.v1256 c arg7 harg7 arg8 harg8 arg15 arg21 x5 x6) = del at he ⊢
  generalize andi kernelRun0_A.sl.v1232 kernelRun0_A.sl.v1226 = m2 at hm ⊢
  generalize remsi kernelRun0_A.sl.v1220 kernelRun0_A.sl.v1223 = m1 at hm ⊢
  generalize kernelRun0_A.sl.v1235 = m3 at hm ⊢
  refine (Short.dq_apply (Q := (fun r => Q (perm16 r))) (K := (fun r => K (perm16 r))) (W := (fun r => W (perm16 r))) (D := (fun r => D (perm16 r))) (L := (fun r => L (perm16 r))) (E := (fun r => E (perm16 r))) hm hq hk hv hd hl he  r l).trans (congrArg Real.toEReal ?_)
  refine Eq.trans ?_ (sum_keys links16 (fun u => grad Q K W D L E (half l) (perm16 r) u * K u l) (perm16 r))
  rw [Equiv.symm_apply_apply]
  rfl

include hQ hK hW hD hL hE in
theorem dk_branch16 (r : Fin 2048) (l : Fin 128) : (kernelRun0_A.sl.r_12 c arg2 harg2 arg3 harg3 arg4 harg4 arg5 harg5 arg6 harg6 arg7 harg7 arg8 harg8 arg9 harg9 arg13 arg14 arg15 arg16 arg17 arg18 arg19 arg20 arg21 x0 x1 x2 x3 x4 x5 x6 x7) (ix2 r l) = ((dk Q K W D L E 2 (perm16 r) l : ℝ) : EReal) := by
  rw [dk_stage16]
  have hq : ∀ r l, (kernelRun0_A.sl.v1207 c arg2 harg2 arg5 harg5 arg6 harg6 arg13 arg16 x0 x3 x4) (ix2 r l) = ((Q (perm16 r) l : ℝ) : EReal) := fun r l => q_rows16 c arg2 harg2 arg5 harg5 arg6 harg6 arg13 arg16 x0 x3 x4 hQ r l
  have hk : ∀ r l, (kernelRun0_A.sl.v1216 c arg3 harg3 arg5 harg5 arg6 harg6 arg14 arg17 x1 x3 x4) (ix2 r l) = ((K (perm16 r) l : ℝ) : EReal) := fun r l => k_rows16 c arg3 harg3 arg5 harg5 arg6 harg6 arg14 arg17 x1 x3 x4 hK r l
  have hv : ∀ r l, (kernelRun0_A.sl.v1218 c arg4 harg4 arg18 x2) (ix2 r l) = ((W (perm16 r) l : ℝ) : EReal) := fun r l => v_rows16 c arg4 harg4 arg18 x2 hW r l
  have hd : ∀ r l, (kernelRun0_A.sl.v1242 c arg7 harg7 arg19 x5) (ix2 r l) = ((D (perm16 r) l : ℝ) : EReal) := fun r l => d_rows16 c arg7 harg7 arg19 x5 hD r l
  have hl : ∀ r l, (kernelRun0_A.sl.v1251 c arg9 harg9 arg20 x7) (ix2 r l) = ((L (perm16 r) l : ℝ) : EReal) := fun r l => lse_rows16 c arg9 harg9 arg20 x7 hL r l
  have he : ∀ r l, (kernelRun0_A.sl.v1256 c arg7 harg7 arg8 harg8 arg15 arg21 x5 x6) (ix2 r l) = ((E (perm16 r) l : ℝ) : EReal) := fun r l => delta_rows16 c arg7 harg7 arg8 harg8 arg15 arg21 x5 x6 hE r l
  have hm := short_query
  generalize (kernelRun0_A.sl.v1207 c arg2 harg2 arg5 harg5 arg6 harg6 arg13 arg16 x0 x3 x4) = q at hq ⊢
  generalize (kernelRun0_A.sl.v1216 c arg3 harg3 arg5 harg5 arg6 harg6 arg14 arg17 x1 x3 x4) = k at hk ⊢
  generalize (kernelRun0_A.sl.v1218 c arg4 harg4 arg18 x2) = v at hv ⊢
  generalize (kernelRun0_A.sl.v1242 c arg7 harg7 arg19 x5) = d at hd ⊢
  generalize (kernelRun0_A.sl.v1251 c arg9 harg9 arg20 x7) = lse at hl ⊢
  generalize (kernelRun0_A.sl.v1256 c arg7 harg7 arg8 harg8 arg15 arg21 x5 x6) = del at he ⊢
  generalize andi kernelRun0_A.sl.v1232 kernelRun0_A.sl.v1226 = m2 at hm ⊢
  generalize remsi kernelRun0_A.sl.v1220 kernelRun0_A.sl.v1223 = m1 at hm ⊢
  generalize kernelRun0_A.sl.v1235 = m3 at hm ⊢
  refine (Short.back_apply  (g := grad (fun r => Q (perm16 r)) (fun r => K (perm16 r)) (fun r => W (perm16 r)) (fun r => D (perm16 r)) (fun r => L (perm16 r)) (fun r => E (perm16 r))) (fun j a c => Short.score (Q := (fun r => Q (perm16 r))) (K := (fun r => K (perm16 r))) (W := (fun r => W (perm16 r))) (D := (fun r => D (perm16 r))) (L := (fun r => L (perm16 r))) (E := (fun r => E (perm16 r))) hm hq hk hv hd hl he j a c) (X := (fun r => Q (perm16 r))) hq r l).trans (congrArg Real.toEReal ?_)
  refine Eq.trans ?_ (sum_rows links16 (fun t => grad Q K W D L E (half l) t (perm16 r) * Q t l) (perm16 r))
  rw [Equiv.symm_apply_apply]
  rfl

include hQ hK hD hL in
theorem dv_branch16 (r : Fin 2048) (l : Fin 128) : (kernelRun0_A.sl.v1284 c arg2 harg2 arg3 harg3 arg5 harg5 arg6 harg6 arg7 harg7 arg9 harg9 arg13 arg14 arg16 arg17 arg19 arg20 x0 x1 x3 x4 x5 x7) (ix2 r l) = ((dv Q K D L 2 (perm16 r) l : ℝ) : EReal) := by
  rw [dv_stage16]
  have hq : ∀ r l, (kernelRun0_A.sl.v1207 c arg2 harg2 arg5 harg5 arg6 harg6 arg13 arg16 x0 x3 x4) (ix2 r l) = ((Q (perm16 r) l : ℝ) : EReal) := fun r l => q_rows16 c arg2 harg2 arg5 harg5 arg6 harg6 arg13 arg16 x0 x3 x4 hQ r l
  have hk : ∀ r l, (kernelRun0_A.sl.v1216 c arg3 harg3 arg5 harg5 arg6 harg6 arg14 arg17 x1 x3 x4) (ix2 r l) = ((K (perm16 r) l : ℝ) : EReal) := fun r l => k_rows16 c arg3 harg3 arg5 harg5 arg6 harg6 arg14 arg17 x1 x3 x4 hK r l
  have hd : ∀ r l, (kernelRun0_A.sl.v1242 c arg7 harg7 arg19 x5) (ix2 r l) = ((D (perm16 r) l : ℝ) : EReal) := fun r l => d_rows16 c arg7 harg7 arg19 x5 hD r l
  have hl : ∀ r l, (kernelRun0_A.sl.v1251 c arg9 harg9 arg20 x7) (ix2 r l) = ((L (perm16 r) l : ℝ) : EReal) := fun r l => lse_rows16 c arg9 harg9 arg20 x7 hL r l
  have hm := short_query
  generalize (kernelRun0_A.sl.v1207 c arg2 harg2 arg5 harg5 arg6 harg6 arg13 arg16 x0 x3 x4) = q at hq ⊢
  generalize (kernelRun0_A.sl.v1216 c arg3 harg3 arg5 harg5 arg6 harg6 arg14 arg17 x1 x3 x4) = k at hk ⊢
  generalize (kernelRun0_A.sl.v1242 c arg7 harg7 arg19 x5) = d at hd ⊢
  generalize (kernelRun0_A.sl.v1251 c arg9 harg9 arg20 x7) = lse at hl ⊢
  generalize andi kernelRun0_A.sl.v1232 kernelRun0_A.sl.v1226 = m2 at hm ⊢
  generalize remsi kernelRun0_A.sl.v1220 kernelRun0_A.sl.v1223 = m1 at hm ⊢
  generalize kernelRun0_A.sl.v1235 = m3 at hm ⊢
  refine (Short.back_apply  (g := weight (fun r => Q (perm16 r)) (fun r => K (perm16 r)) (fun r => L (perm16 r))) (fun j a c => Short.prob (Q := (fun r => Q (perm16 r))) (K := (fun r => K (perm16 r))) (L := (fun r => L (perm16 r))) hm hq hk hl j a c) (X := (fun r => D (perm16 r))) hd r l).trans (congrArg Real.toEReal ?_)
  refine Eq.trans ?_ (sum_rows links16 (fun t => weight Q K L (half l) t (perm16 r) * D t l) (perm16 r))
  rw [Equiv.symm_apply_apply]
  rfl

end Cert.Attn.Point
-- ==== Proof.Attn.Sum.lean ====
module

public import proofs.«01_k».proof.Proof.Attn.Point

@[expose] public section
set_option maxRecDepth 16384
noncomputable section
namespace Cert.Attn.Point
open Idealize.ShloMosaic Cert.AttnKIdeal Cert.AttnKIdeal.Gen Cert.Attn.Branch Cert.Attn.Rope
open Idealize.ShloMosaic.TcCoe

/-! The three branches of one point, added in the order of the rows. -/

theorem perm4_symm (t : Fin 2048) : perm4 ⟨t.val % 4 * 512 + t.val / 4, by omega⟩ = t := perm4.apply_symm_apply t
theorem perm16_symm (t : Fin 2048) : perm16 ⟨t.val % 16 * 128 + t.val / 16, by omega⟩ = t := perm16.apply_symm_apply t

/-- An array of numbers read at the place of a permuted row. -/
theorem ext_at (X : Fin 2048 → Fin 128 → ℝ) (n : ℕ) (h : n < 2048) (l : Fin 128) : ext X n l = ((X ⟨n, h⟩ l : ℝ) : EReal) :=
  ext_of X ⟨n, h⟩ l

variable (c : Dev nD) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg13 : Memref sig .tc .vmem S2048x128 .f32) (arg14 : Memref sig .tc .vmem S2048x128 .f32) (arg15 : Memref sig .tc .vmem S2048x128 .f32) (arg16 : Memref sig .tc .vmem S2048x128 .bf16) (arg17 : Memref sig .tc .vmem S2048x128 .bf16) (arg18 : Memref sig .tc .vmem S2048x128 .bf16) (arg19 : Memref sig .tc .vmem S2048x128 .bf16) (arg20 : Memref sig .tc .vmem S2048x128 .f32) (arg21 : Memref sig .tc .vmem S2048x128 .f32) (arg22 : Memref sig .tc .vmem S2048x128 .f32) (arg23 : Memref sig .tc .vmem S2048x128 .f32) (arg24 : Memref sig .tc .vmem S2048x128 .f32) (arg25 : Memref sig .tc .vmem S2048x128 .f32) (arg26 : Memref sig .tc .vmem S2048x128 .f32) (arg27 : Memref sig .tc .vmem S2048x128 .f32)
  (x0 x1 x2 x3 x4 x5 x6 x7 : Vec Ideal S1x2048x128 .f32)

variable {Q K W D L E : Fin 2048 → Fin 128 → ℝ}
  (hQ : ∀ t l, View.canon (kernelRun0_A.sl.HS0_1 c arg2 harg2 arg5 harg5 arg6 harg6 x0 x3 x4) (ix2 t l) = ((Q t l : ℝ) : EReal))
  (hK : ∀ t l, View.canon (kernelRun0_A.sl.HS1_1 c arg3 harg3 arg5 harg5 arg6 harg6 x1 x3 x4) (ix2 t l) = ((K t l : ℝ) : EReal))
  (hW : ∀ t l, x2 (ix3 0 t l) = ((W t l : ℝ) : EReal))
  (hD : ∀ t l, x5 (ix3 0 t l) = ((D t l : ℝ) : EReal))
  (hL : ∀ t l, x7 (ix3 0 t l) = ((L t l : ℝ) : EReal))
  (hE : ∀ t l, View.canon (kernelRun0_A.sl.HS2_1 c arg7 harg7 arg8 harg8 x5 x6) (ix2 t l) = ((E t l : ℝ) : EReal))

theorem dq_zero (t : Fin 2048) (l : Fin 128) : ((kernelRun0_A.sl.v308 (F := Ideal) c arg25) : Vec Ideal S2048x128 .f32) (ix2 t l) = 0 := by
  refine (read_whole _ _ t l).trans ((canon_whole _ _ t l).trans ?_)
  sl_unfold_run_names
  pointwise

include hQ hK hW hD hL hE in
theorem dq_first (t : Fin 2048) (l : Fin 128) : View.canon (kernelRun0_A.sl.HS12_2 c arg2 harg2 arg3 harg3 arg4 harg4 arg5 harg5 arg6 harg6 arg7 harg7 arg8 harg8 arg9 harg9 arg13 arg14 arg15 arg16 arg17 arg18 arg19 arg25 x0 x1 x2 x3 x4 x5 x6 x7) (ix2 t l) = ((dq Q K W D L E 0 t l : ℝ) : EReal) := by
  refine (canon_whole _ _ t l).trans ?_
  unfold kernelRun0_A.sl.v312 kernelRun0_A.sl.v309
  pointwise
  rw [dq_zero, dq_branch1 c arg2 harg2 arg3 harg3 arg4 harg4 arg5 harg5 arg6 harg6 arg7 harg7 arg8 harg8 arg9 harg9 arg13 arg14 arg15 arg16 arg17 arg18 arg19 x0 x1 x2 x3 x4 x5 x6 x7 hQ hK hW hD hL hE, zero_add]

include hQ hK hW hD hL hE in
theorem dq_second (t : Fin 2048) (l : Fin 128) : View.canon (kernelRun0_A.sl.HS9_1 c arg2 harg2 arg3 harg3 arg4 harg4 arg5 harg5 arg6 harg6 arg7 harg7 arg8 harg8 arg9 harg9 arg13 arg14 arg15 arg16 arg17 arg18 arg19 arg20 arg21 x0 x1 x2 x3 x4 x5 x6 x7) (ix2 t l) = ((dq Q K W D L E 1 (perm4 t) l : ℝ) : EReal) := by
  refine (canon_whole _ _ t l).trans ?_
  unfold kernelRun0_A.sl.v632
  pointwise
  rw [dq_branch4 c arg2 harg2 arg3 harg3 arg4 harg4 arg5 harg5 arg6 harg6 arg7 harg7 arg8 harg8 arg9 harg9 arg13 arg14 arg15 arg16 arg17 arg18 arg19 arg20 arg21 x0 x1 x2 x3 x4 x5 x6 x7 hQ hK hW hD hL hE]

include hQ hK hW hD hL hE in
theorem dq_third (t : Fin 2048) (l : Fin 128) : View.canon (kernelRun0_A.sl.HS9_2 c arg2 harg2 arg3 harg3 arg4 harg4 arg5 harg5 arg6 harg6 arg7 harg7 arg8 harg8 arg9 harg9 arg13 arg14 arg15 arg16 arg17 arg18 arg19 arg20 arg21 x0 x1 x2 x3 x4 x5 x6 x7) (ix2 t l) = ((dq Q K W D L E 2 (perm16 t) l : ℝ) : EReal) := by
  refine (canon_whole _ _ t l).trans ?_
  unfold kernelRun0_A.sl.v1287
  pointwise
  rw [dq_branch16 c arg2 harg2 arg3 harg3 arg4 harg4 arg5 harg5 arg6 harg6 arg7 harg7 arg8 harg8 arg9 harg9 arg13 arg14 arg15 arg16 arg17 arg18 arg19 arg20 arg21 x0 x1 x2 x3 x4 x5 x6 x7 hQ hK hW hD hL hE]

include hQ hK hW hD hL hE in
theorem dq_total (t : Fin 2048) (l : Fin 128) : View.canon (kernelRun0_A.sl.HS12_22 c arg2 harg2 arg3 harg3 arg4 harg4 arg5 harg5 arg6 harg6 arg7 harg7 arg8 harg8 arg9 harg9 arg13 arg14 arg15 arg16 arg17 arg18 arg19 arg20 arg21 arg22 arg25 x0 x1 x2 x3 x4 x5 x6 x7) (ix2 t l) = ((∑ i, dq Q K W D L E i t l : ℝ) : EReal) := by
  have one := dq_first c arg2 harg2 arg3 harg3 arg4 harg4 arg5 harg5 arg6 harg6 arg7 harg7 arg8 harg8 arg9 harg9 arg13 arg14 arg15 arg16 arg17 arg18 arg19 arg25 x0 x1 x2 x3 x4 x5 x6 x7 hQ hK hW hD hL hE
  have two := dq_second c arg2 harg2 arg3 harg3 arg4 harg4 arg5 harg5 arg6 harg6 arg7 harg7 arg8 harg8 arg9 harg9 arg13 arg14 arg15 arg16 arg17 arg18 arg19 arg20 arg21 x0 x1 x2 x3 x4 x5 x6 x7 hQ hK hW hD hL hE
  have three := dq_third c arg2 harg2 arg3 harg3 arg4 harg4 arg5 harg5 arg6 harg6 arg7 harg7 arg8 harg8 arg9 harg9 arg13 arg14 arg15 arg16 arg17 arg18 arg19 arg20 arg21 x0 x1 x2 x3 x4 x5 x6 x7 hQ hK hW hD hL hE
  refine (Scratch.dq_add16 c arg2 harg2 arg3 harg3 arg4 harg4 arg5 harg5 arg6 harg6 arg7 harg7 arg8 harg8 arg9 harg9 arg13 arg14 arg15 arg16 arg17 arg18 arg19 arg20 arg21 arg22 arg25 x0 x1 x2 x3 x4 x5 x6 x7 (f := fun r l => ext (dq Q K W D L E 0) r l + ext (fun t => dq Q K W D L E 1 (perm4 t)) (r % 4 * 512 + r / 4) l)
    (g := ext fun t => dq Q K W D L E 2 (perm16 t)) (hf := fun t l => ?_) (hg := fun t l => (three t l).trans (ext_of (fun t => dq Q K W D L E 2 (perm16 t)) t l).symm) t l).trans ?_
  · exact Scratch.dq_add4 c arg2 harg2 arg3 harg3 arg4 harg4 arg5 harg5 arg6 harg6 arg7 harg7 arg8 harg8 arg9 harg9 arg13 arg14 arg15 arg16 arg17 arg18 arg19 arg20 arg21 arg22 arg25 x0 x1 x2 x3 x4 x5 x6 x7 (f := ext (dq Q K W D L E 0)) (g := ext fun t => dq Q K W D L E 1 (perm4 t))
      (hf := fun t l => (one t l).trans (ext_of _ t l).symm) (hg := fun t l => (two t l).trans (ext_of (fun t => dq Q K W D L E 1 (perm4 t)) t l).symm) t l
  · rw [ext_at _ t.val t.isLt, ext_at _ (t.val % 4 * 512 + t.val / 4) (by omega), ext_at _ (t.val % 16 * 128 + t.val / 16) (by omega),
      perm4_symm, perm16_symm, Fin.sum_univ_three, EReal.coe_add, EReal.coe_add]

theorem dk_zero (t : Fin 2048) (l : Fin 128) : ((kernelRun0_A.sl.v313 (F := Ideal) c arg26) : Vec Ideal S2048x128 .f32) (ix2 t l) = 0 := by
  refine (read_whole _ _ t l).trans ((canon_whole _ _ t l).trans ?_)
  sl_unfold_run_names
  pointwise

include hQ hK hW hD hL hE in
theorem dk_first (t : Fin 2048) (l : Fin 128) : View.canon (kernelRun0_A.sl.HS13_2 c arg2 harg2 arg3 harg3 arg4 harg4 arg5 harg5 arg6 harg6 arg7 harg7 arg8 harg8 arg9 harg9 arg13 arg14 arg15 arg16 arg17 arg18 arg19 arg26 x0 x1 x2 x3 x4 x5 x6 x7) (ix2 t l) = ((dk Q K W D L E 0 t l : ℝ) : EReal) := by
  refine (canon_whole _ _ t l).trans ?_
  unfold kernelRun0_A.sl.v317 kernelRun0_A.sl.v314
  pointwise
  rw [dk_zero, dk_branch1 c arg2 harg2 arg3 harg3 arg4 harg4 arg5 harg5 arg6 harg6 arg7 harg7 arg8 harg8 arg9 harg9 arg13 arg14 arg15 arg16 arg17 arg18 arg19 x0 x1 x2 x3 x4 x5 x6 x7 hQ hK hW hD hL hE, zero_add]

include hQ hK hW hD hL hE in
theorem dk_second (t : Fin 2048) (l : Fin 128) : View.canon (kernelRun0_A.sl.HS10_1 c arg2 harg2 arg3 harg3 arg4 harg4 arg5 harg5 arg6 harg6 arg7 harg7 arg8 harg8 arg9 harg9 arg13 arg14 arg15 arg16 arg17 arg18 arg19 arg20 arg21 x0 x1 x2 x3 x4 x5 x6 x7) (ix2 t l) = ((dk Q K W D L E 1 (perm4 t) l : ℝ) : EReal) := by
  refine (canon_whole _ _ t l).trans ?_
  unfold kernelRun0_A.sl.v635
  pointwise
  rw [dk_branch4 c arg2 harg2 arg3 harg3 arg4 harg4 arg5 harg5 arg6 harg6 arg7 harg7 arg8 harg8 arg9 harg9 arg13 arg14 arg15 arg16 arg17 arg18 arg19 arg20 arg21 x0 x1 x2 x3 x4 x5 x6 x7 hQ hK hW hD hL hE]

include hQ hK hW hD hL hE in
theorem dk_third (t : Fin 2048) (l : Fin 128) : View.canon (kernelRun0_A.sl.HS10_2 c arg2 harg2 arg3 harg3 arg4 harg4 arg5 harg5 arg6 harg6 arg7 harg7 arg8 harg8 arg9 harg9 arg13 arg14 arg15 arg16 arg17 arg18 arg19 arg20 arg21 x0 x1 x2 x3 x4 x5 x6 x7) (ix2 t l) = ((dk Q K W D L E 2 (perm16 t) l : ℝ) : EReal) := by
  refine (canon_whole _ _ t l).trans ?_
  unfold kernelRun0_A.sl.v1290
  pointwise
  rw [dk_branch16 c arg2 harg2 arg3 harg3 arg4 harg4 arg5 harg5 arg6 harg6 arg7 harg7 arg8 harg8 arg9 harg9 arg13 arg14 arg15 arg16 arg17 arg18 arg19 arg20 arg21 x0 x1 x2 x3 x4 x5 x6 x7 hQ hK hW hD hL hE]

include hQ hK hW hD hL hE in
theorem dk_total (t : Fin 2048) (l : Fin 128) : View.canon (kernelRun0_A.sl.HS13_22 c arg2 harg2 arg3 harg3 arg4 harg4 arg5 harg5 arg6 harg6 arg7 harg7 arg8 harg8 arg9 harg9 arg13 arg14 arg15 arg16 arg17 arg18 arg19 arg20 arg21 arg23 arg26 x0 x1 x2 x3 x4 x5 x6 x7) (ix2 t l) = ((∑ i, dk Q K W D L E i t l : ℝ) : EReal) := by
  have one := dk_first c arg2 harg2 arg3 harg3 arg4 harg4 arg5 harg5 arg6 harg6 arg7 harg7 arg8 harg8 arg9 harg9 arg13 arg14 arg15 arg16 arg17 arg18 arg19 arg26 x0 x1 x2 x3 x4 x5 x6 x7 hQ hK hW hD hL hE
  have two := dk_second c arg2 harg2 arg3 harg3 arg4 harg4 arg5 harg5 arg6 harg6 arg7 harg7 arg8 harg8 arg9 harg9 arg13 arg14 arg15 arg16 arg17 arg18 arg19 arg20 arg21 x0 x1 x2 x3 x4 x5 x6 x7 hQ hK hW hD hL hE
  have three := dk_third c arg2 harg2 arg3 harg3 arg4 harg4 arg5 harg5 arg6 harg6 arg7 harg7 arg8 harg8 arg9 harg9 arg13 arg14 arg15 arg16 arg17 arg18 arg19 arg20 arg21 x0 x1 x2 x3 x4 x5 x6 x7 hQ hK hW hD hL hE
  refine (Scratch.dk_add16 c arg2 harg2 arg3 harg3 arg4 harg4 arg5 harg5 arg6 harg6 arg7 harg7 arg8 harg8 arg9 harg9 arg13 arg14 arg15 arg16 arg17 arg18 arg19 arg20 arg21 arg23 arg26 x0 x1 x2 x3 x4 x5 x6 x7 (f := fun r l => ext (dk Q K W D L E 0) r l + ext (fun t => dk Q K W D L E 1 (perm4 t)) (r % 4 * 512 + r / 4) l)
    (g := ext fun t => dk Q K W D L E 2 (perm16 t)) (hf := fun t l => ?_) (hg := fun t l => (three t l).trans (ext_of (fun t => dk Q K W D L E 2 (perm16 t)) t l).symm) t l).trans ?_
  · exact Scratch.dk_add4 c arg2 harg2 arg3 harg3 arg4 harg4 arg5 harg5 arg6 harg6 arg7 harg7 arg8 harg8 arg9 harg9 arg13 arg14 arg15 arg16 arg17 arg18 arg19 arg20 arg21 arg23 arg26 x0 x1 x2 x3 x4 x5 x6 x7 (f := ext (dk Q K W D L E 0)) (g := ext fun t => dk Q K W D L E 1 (perm4 t))
      (hf := fun t l => (one t l).trans (ext_of _ t l).symm) (hg := fun t l => (two t l).trans (ext_of (fun t => dk Q K W D L E 1 (perm4 t)) t l).symm) t l
  · rw [ext_at _ t.val t.isLt, ext_at _ (t.val % 4 * 512 + t.val / 4) (by omega), ext_at _ (t.val % 16 * 128 + t.val / 16) (by omega),
      perm4_symm, perm16_symm, Fin.sum_univ_three, EReal.coe_add, EReal.coe_add]

theorem dv_zero (t : Fin 2048) (l : Fin 128) : ((kernelRun0_A.sl.v318 (F := Ideal) c arg27) : Vec Ideal S2048x128 .f32) (ix2 t l) = 0 := by
  refine (read_whole _ _ t l).trans ((canon_whole _ _ t l).trans ?_)
  sl_unfold_run_names
  pointwise

include hQ hK hD hL in
theorem dv_first (t : Fin 2048) (l : Fin 128) : View.canon (kernelRun0_A.sl.HS14_2 c arg2 harg2 arg3 harg3 arg5 harg5 arg6 harg6 arg7 harg7 arg9 harg9 arg13 arg14 arg16 arg17 arg19 arg27 x0 x1 x3 x4 x5 x7) (ix2 t l) = ((dv Q K D L 0 t l : ℝ) : EReal) := by
  refine (canon_whole _ _ t l).trans ?_
  unfold kernelRun0_A.sl.v322 kernelRun0_A.sl.v319
  pointwise
  rw [dv_zero, dv_branch1 c arg2 harg2 arg3 harg3 arg5 harg5 arg6 harg6 arg7 harg7 arg9 harg9 arg13 arg14 arg16 arg17 arg19 x0 x1 x3 x4 x5 x7 hQ hK hD hL, zero_add]

include hQ hK hD hL in
theorem dv_second (t : Fin 2048) (l : Fin 128) : View.canon (kernelRun0_A.sl.HS11_1 c arg2 harg2 arg3 harg3 arg5 harg5 arg6 harg6 arg7 harg7 arg9 harg9 arg13 arg14 arg16 arg17 arg19 arg20 x0 x1 x3 x4 x5 x7) (ix2 t l) = ((dv Q K D L 1 (perm4 t) l : ℝ) : EReal) := by
  refine (canon_whole _ _ t l).trans ?_
  unfold kernelRun0_A.sl.v638
  pointwise
  rw [dv_branch4 c arg2 harg2 arg3 harg3 arg5 harg5 arg6 harg6 arg7 harg7 arg9 harg9 arg13 arg14 arg16 arg17 arg19 arg20 x0 x1 x3 x4 x5 x7 hQ hK hD hL]

include hQ hK hD hL in
theorem dv_third (t : Fin 2048) (l : Fin 128) : View.canon (kernelRun0_A.sl.HS11_2 c arg2 harg2 arg3 harg3 arg5 harg5 arg6 harg6 arg7 harg7 arg9 harg9 arg13 arg14 arg16 arg17 arg19 arg20 x0 x1 x3 x4 x5 x7) (ix2 t l) = ((dv Q K D L 2 (perm16 t) l : ℝ) : EReal) := by
  refine (canon_whole _ _ t l).trans ?_
  unfold kernelRun0_A.sl.v1293
  pointwise
  rw [dv_branch16 c arg2 harg2 arg3 harg3 arg5 harg5 arg6 harg6 arg7 harg7 arg9 harg9 arg13 arg14 arg16 arg17 arg19 arg20 x0 x1 x3 x4 x5 x7 hQ hK hD hL]

include hQ hK hD hL in
theorem dv_total (t : Fin 2048) (l : Fin 128) : View.canon (kernelRun0_A.sl.HS14_22 c arg2 harg2 arg3 harg3 arg5 harg5 arg6 harg6 arg7 harg7 arg9 harg9 arg13 arg14 arg16 arg17 arg19 arg20 arg24 arg27 x0 x1 x3 x4 x5 x7) (ix2 t l) = ((∑ i, dv Q K D L i t l : ℝ) : EReal) := by
  have one := dv_first c arg2 harg2 arg3 harg3 arg5 harg5 arg6 harg6 arg7 harg7 arg9 harg9 arg13 arg14 arg16 arg17 arg19 arg27 x0 x1 x3 x4 x5 x7 hQ hK hD hL
  have two := dv_second c arg2 harg2 arg3 harg3 arg5 harg5 arg6 harg6 arg7 harg7 arg9 harg9 arg13 arg14 arg16 arg17 arg19 arg20 x0 x1 x3 x4 x5 x7 hQ hK hD hL
  have three := dv_third c arg2 harg2 arg3 harg3 arg5 harg5 arg6 harg6 arg7 harg7 arg9 harg9 arg13 arg14 arg16 arg17 arg19 arg20 x0 x1 x3 x4 x5 x7 hQ hK hD hL
  refine (Scratch.dv_add16 c arg2 harg2 arg3 harg3 arg5 harg5 arg6 harg6 arg7 harg7 arg9 harg9 arg13 arg14 arg16 arg17 arg19 arg20 arg24 arg27 x0 x1 x3 x4 x5 x7 (f := fun r l => ext (dv Q K D L 0) r l + ext (fun t => dv Q K D L 1 (perm4 t)) (r % 4 * 512 + r / 4) l)
    (g := ext fun t => dv Q K D L 2 (perm16 t)) (hf := fun t l => ?_) (hg := fun t l => (three t l).trans (ext_of (fun t => dv Q K D L 2 (perm16 t)) t l).symm) t l).trans ?_
  · exact Scratch.dv_add4 c arg2 harg2 arg3 harg3 arg5 harg5 arg6 harg6 arg7 harg7 arg9 harg9 arg13 arg14 arg16 arg17 arg19 arg20 arg24 arg27 x0 x1 x3 x4 x5 x7 (f := ext (dv Q K D L 0)) (g := ext fun t => dv Q K D L 1 (perm4 t))
      (hf := fun t l => (one t l).trans (ext_of _ t l).symm) (hg := fun t l => (two t l).trans (ext_of (fun t => dv Q K D L 1 (perm4 t)) t l).symm) t l
  · rw [ext_at _ t.val t.isLt, ext_at _ (t.val % 4 * 512 + t.val / 4) (by omega), ext_at _ (t.val % 16 * 128 + t.val / 16) (by omega),
      perm4_symm, perm16_symm, Fin.sum_univ_three, EReal.coe_add, EReal.coe_add]

end Cert.Attn.Point
-- ==== Proof.Attn.Output.lean ====
module

public import proofs.«01_k».proof.Proof.Attn.Sum

@[expose] public section
set_option maxRecDepth 16384
noncomputable section
namespace Cert.Attn.Point
open Idealize.ShloMosaic Cert.AttnKIdeal Cert.AttnKIdeal.Gen Cert.Attn.Branch Cert.Attn.Rope
open Idealize.ShloMosaic.TcCoe

/-! The three blocks one point writes. -/

variable (c : Dev nD) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg13 : Memref sig .tc .vmem S2048x128 .f32) (arg14 : Memref sig .tc .vmem S2048x128 .f32) (arg15 : Memref sig .tc .vmem S2048x128 .f32) (arg16 : Memref sig .tc .vmem S2048x128 .bf16) (arg17 : Memref sig .tc .vmem S2048x128 .bf16) (arg18 : Memref sig .tc .vmem S2048x128 .bf16) (arg19 : Memref sig .tc .vmem S2048x128 .bf16) (arg20 : Memref sig .tc .vmem S2048x128 .f32) (arg21 : Memref sig .tc .vmem S2048x128 .f32) (arg22 : Memref sig .tc .vmem S2048x128 .f32) (arg23 : Memref sig .tc .vmem S2048x128 .f32) (arg24 : Memref sig .tc .vmem S2048x128 .f32) (arg25 : Memref sig .tc .vmem S2048x128 .f32) (arg26 : Memref sig .tc .vmem S2048x128 .f32) (arg27 : Memref sig .tc .vmem S2048x128 .f32)
  (x0 x1 x2 x3 x4 x5 x6 x7 : Vec Ideal S1x2048x128 .f32)

variable {Q K W D L E C S : Fin 2048 → Fin 128 → ℝ}
  (hQ : ∀ t l, View.canon (kernelRun0_A.sl.HS0_1 c arg2 harg2 arg5 harg5 arg6 harg6 x0 x3 x4) (ix2 t l) = ((Q t l : ℝ) : EReal))
  (hK : ∀ t l, View.canon (kernelRun0_A.sl.HS1_1 c arg3 harg3 arg5 harg5 arg6 harg6 x1 x3 x4) (ix2 t l) = ((K t l : ℝ) : EReal))
  (hW : ∀ t l, x2 (ix3 0 t l) = ((W t l : ℝ) : EReal))
  (hD : ∀ t l, x5 (ix3 0 t l) = ((D t l : ℝ) : EReal))
  (hL : ∀ t l, x7 (ix3 0 t l) = ((L t l : ℝ) : EReal))
  (hE : ∀ t l, View.canon (kernelRun0_A.sl.HS2_1 c arg7 harg7 arg8 harg8 x5 x6) (ix2 t l) = ((E t l : ℝ) : EReal))
  (hC : ∀ t l, x3 (ix3 0 t l) = ((C t l : ℝ) : EReal))
  (hS : ∀ t l, x4 (ix3 0 t l) = ((S t l : ℝ) : EReal))

include hQ hK hW hD hL hE hC hS in
theorem query_block (t : Fin 2048) (l : Fin 128) : (kernelRun0_A.sl.v1613 c arg2 harg2 arg3 harg3 arg4 harg4 arg5 harg5 arg6 harg6 arg7 harg7 arg8 harg8 arg9 harg9 arg13 arg14 arg15 arg16 arg17 arg18 arg19 arg20 arg21 arg22 arg25 x0 x1 x2 x3 x4 x5 x6 x7) (ix3 0 t l)
    = (((∑ i, dq Q K W D L E i t l) * (1 / 8) * C t l + (∑ i, dq Q K W D L E i t (swap l)) * (1 / 8) * S t (swap l) : ℝ) : EReal) := by
  have e : ∀ t l, (kernelRun0_A.sl.v1582 c arg2 harg2 arg3 harg3 arg4 harg4 arg5 harg5 arg6 harg6 arg7 harg7 arg8 harg8 arg9 harg9 arg13 arg14 arg15 arg16 arg17 arg18 arg19 arg20 arg21 arg22 arg25 x0 x1 x2 x3 x4 x5 x6 x7) (ix2 t l) = ((∑ i, dq Q K W D L E i t l : ℝ) : EReal) := fun t l =>
    (read_whole _ _ t l).trans (dq_total c arg2 harg2 arg3 harg3 arg4 harg4 arg5 harg5 arg6 harg6 arg7 harg7 arg8 harg8 arg9 harg9 arg13 arg14 arg15 arg16 arg17 arg18 arg19 arg20 arg21 arg22 arg25 x0 x1 x2 x3 x4 x5 x6 x7 hQ hK hW hD hL hE t l)
  unfold kernelRun0_A.sl.v1613 kernelRun0_A.sl.v1610 kernelRun0_A.sl.v1609 kernelRun0_A.sl.v1608 kernelRun0_A.sl.v1606 kernelRun0_A.sl.v1607 kernelRun0_A.sl.v1586 kernelRun0_A.sl.v1585 kernelRun0_A.sl.v1584 kernelRun0_A.sl.v33 kernelRun0_A.sl.cst
  pointwise [first_half, row_v1, row_v3, word_eighth, e, hC, hS]
  simp only [← EReal.coe_mul]
  rw [turn fun l => (((∑ i, dq Q K W D L E i t l) * (1 / 8) * S t l : ℝ) : EReal), ← EReal.coe_add]

include hQ hK hW hD hL hE hC hS in
theorem key_block (t : Fin 2048) (l : Fin 128) : k0_pay1 (F := Ideal) (kernelRun0_A.sl.v1615 c arg2 harg2 arg3 harg3 arg4 harg4 arg5 harg5 arg6 harg6 arg7 harg7 arg8 harg8 arg9 harg9 arg13 arg14 arg15 arg16 arg17 arg18 arg19 arg20 arg21 arg23 arg26 x0 x1 x2 x3 x4 x5 x6 x7) (kernelRun0_A.sl.r_13 c arg2 harg2 arg3 harg3 arg4 harg4 arg5 harg5 arg6 harg6 arg7 harg7 arg8 harg8 arg9 harg9 arg13 arg14 arg15 arg16 arg17 arg18 arg19 arg20 arg21 arg23 arg26 x0 x1 x2 x3 x4 x5 x6 x7) (ix3 0 t l)
    = (((∑ i, dk Q K W D L E i t l) * C t l + (∑ i, dk Q K W D L E i t (swap l)) * S t (swap l) : ℝ) : EReal) := by
  have e : ∀ t l, (kernelRun0_A.sl.v1614 c arg2 harg2 arg3 harg3 arg4 harg4 arg5 harg5 arg6 harg6 arg7 harg7 arg8 harg8 arg9 harg9 arg13 arg14 arg15 arg16 arg17 arg18 arg19 arg20 arg21 arg23 arg26 x0 x1 x2 x3 x4 x5 x6 x7) (ix2 t l) = ((∑ i, dk Q K W D L E i t l : ℝ) : EReal) := fun t l =>
    (read_whole _ _ t l).trans (dk_total c arg2 harg2 arg3 harg3 arg4 harg4 arg5 harg5 arg6 harg6 arg7 harg7 arg8 harg8 arg9 harg9 arg13 arg14 arg15 arg16 arg17 arg18 arg19 arg20 arg21 arg23 arg26 x0 x1 x2 x3 x4 x5 x6 x7 hQ hK hW hD hL hE t l)
  have r : (kernelRun0_A.sl.r_13 c arg2 harg2 arg3 harg3 arg4 harg4 arg5 harg5 arg6 harg6 arg7 harg7 arg8 harg8 arg9 harg9 arg13 arg14 arg15 arg16 arg17 arg18 arg19 arg20 arg21 arg23 arg26 x0 x1 x2 x3 x4 x5 x6 x7) = select (cmpi CmpIPredicate.slt kernelRun0_A.sl.v25 kernelRun0_A.sl.v26)
      (dynamicRotate 1 96#32 none (kernelRun0_A.sl.v1616 c arg2 harg2 arg3 harg3 arg4 harg4 arg5 harg5 arg6 harg6 arg7 harg7 arg8 harg8 arg9 harg9 arg13 arg14 arg15 arg16 arg17 arg18 arg19 arg20 arg21 arg23 arg26 x0 x1 x2 x3 x4 x5 x6 x7) rotates_S2048x128_d1) (dynamicRotate 1 32#32 none (kernelRun0_A.sl.v1616 c arg2 harg2 arg3 harg3 arg4 harg4 arg5 harg5 arg6 harg6 arg7 harg7 arg8 harg8 arg9 harg9 arg13 arg14 arg15 arg16 arg17 arg18 arg19 arg20 arg21 arg23 arg26 x0 x1 x2 x3 x4 x5 x6 x7) rotates_S2048x128_d1) := rfl
  rw [r]
  unfold kernelRun0_A.sl.v1616 kernelRun0_A.sl.v1615
  pointwise [k0_pay1, first_half, row_v1, row_v3, e, hC, hS]
  simp only [← EReal.coe_mul]
  rw [turn fun l => (((∑ i, dk Q K W D L E i t l) * S t l : ℝ) : EReal), ← EReal.coe_add]

include hQ hK hD hL in
theorem value_block (t : Fin 2048) (l : Fin 128) : k0_pay2 (F := Ideal) (kernelRun0_A.sl.v1644 c arg2 harg2 arg3 harg3 arg5 harg5 arg6 harg6 arg7 harg7 arg9 harg9 arg13 arg14 arg16 arg17 arg19 arg20 arg24 arg27 x0 x1 x3 x4 x5 x7) (ix3 0 t l)
    = ((∑ i, dv Q K D L i t l : ℝ) : EReal) := by
  have e : ∀ t l, (kernelRun0_A.sl.v1644 c arg2 harg2 arg3 harg3 arg5 harg5 arg6 harg6 arg7 harg7 arg9 harg9 arg13 arg14 arg16 arg17 arg19 arg20 arg24 arg27 x0 x1 x3 x4 x5 x7) (ix2 t l) = ((∑ i, dv Q K D L i t l : ℝ) : EReal) := fun t l =>
    (read_whole _ _ t l).trans (dv_total c arg2 harg2 arg3 harg3 arg5 harg5 arg6 harg6 arg7 harg7 arg9 harg9 arg13 arg14 arg16 arg17 arg19 arg20 arg24 arg27 x0 x1 x3 x4 x5 x7 hQ hK hD hL t l)
  pointwise [k0_pay2, e]

end Cert.Attn.Point
-- ==== Proof.Attn.Heads.lean ====
/-
  The two heads of one grid point: lanes `64 h …` of a block are head `2 hp + h` of the sequence, and what the point's
  sums over the branches are for those heads.
-/
module

public import proofs.«01_k».proof.Proof.Attn.Entry
public import proofs.«01_k».proof.Proof.Attn.Output

@[expose] public section
noncomputable section
namespace Cert.Attn.Heads
open Idealize.ShloMosaic Cert.Attn.Branch Cert.Attn.Kernel Cert.Attn.Rope

/-- The column, the head and the element of lane `l` of pair `hp`. -/
def colOf (hp : Fin 4) (l : Fin 128) : Fin 512 := ⟨128 * hp.val + l.val, by omega⟩
def hd (hp : Fin 4) (l : Fin 128) : Fin 8 := ⟨2 * hp.val + l.val / 64, by omega⟩
def el (l : Fin 128) : Fin 64 := ⟨l.val % 64, by omega⟩

theorem headOf_col (hp : Fin 4) (l : Fin 128) : headOf (colOf hp l) = hd hp l := Fin.ext (by simp only [headOf, colOf, hd]; omega)
theorem elemOf_col (hp : Fin 4) (l : Fin 128) : elemOf (colOf hp l) = el l := Fin.ext (by simp only [elemOf, colOf, el]; omega)
theorem col_hd (hp : Fin 4) (l : Fin 128) : col (hd hp l) (el l) = colOf hp l := Fin.ext (by simp only [col, colOf, hd, el]; omega)
theorem hd_lane (hp : Fin 4) (l : Fin 128) (e : Fin 64) : hd hp (lane (half l) e) = hd hp l :=
  Fin.ext (by simp only [hd, lane, half]; omega)
theorem el_lane (h : Fin 2) (e : Fin 64) : el (lane h e) = e := Fin.ext (by simp only [el, lane]; omega)

section Rotate

variable (X : Fin 512 → ℝ) (G : Fin 64 → ℝ) (c s : Fin 32 → ℝ) (hp : Fin 4) (l : Fin 128)

theorem swap_low (h : l.val % 64 < 32) : (swap l).val = l.val + 32 := by
  rw [swap, if_pos h]; simp only []; omega
theorem swap_high (h : ¬l.val % 64 < 32) : (swap l).val = l.val - 32 := by
  rw [swap, if_neg h]; simp only []; omega

/-- The rotation by the tables. -/
theorem rope_lane : X (colOf hp l) * c (pairOf l) + X (colOf hp (swap l)) * (sgn l * s (pairOf l))
    = rope (fun e => X (col (hd hp l) e)) c s (el l) := by
  unfold rope
  by_cases h : l.val % 64 < 32
  · have e1 : colOf hp (swap l) = col (hd hp l) ⟨32 + (el l).val, by simp only [el]; omega⟩ :=
      Fin.ext (by have := swap_low l h; simp only [colOf, col, hd, el] at *; omega)
    have e2 : (⟨(el l).val, h⟩ : Fin 32) = pairOf l := Fin.ext (by simp only [el, pairOf]; omega)
    rw [dif_pos (show (el l).val < 32 from h), e1, e2, show sgn l = -1 from if_pos h]
    simp only [col_hd]; ring
  · have e1 : colOf hp (swap l) = col (hd hp l) ⟨(el l).val - 32, by simp only [el]; omega⟩ :=
      Fin.ext (by have := swap_high l h; simp only [colOf, col, hd, el] at *; omega)
    have e2 : (⟨(el l).val - 32, by simp only [el]; omega⟩ : Fin 32) = pairOf l := Fin.ext (by simp only [el, pairOf]; omega)
    rw [dif_neg (show ¬(el l).val < 32 from h), e1, e2, show sgn l = 1 from if_neg h]
    simp only [col_hd]; ring

/-- The rotation back. -/
theorem unrope_lane : G (el l) * c (pairOf l) + G (el (swap l)) * (sgn (swap l) * s (pairOf (swap l))) = unrope G c s (el l) := by
  unfold unrope
  by_cases h : l.val % 64 < 32
  · have e0 := swap_low l h
    have e1 : el (swap l) = ⟨32 + (el l).val, by simp only [el]; omega⟩ := Fin.ext (by simp only [el] at *; omega)
    have e2 : (⟨(el l).val, h⟩ : Fin 32) = pairOf l := Fin.ext (by simp only [el, pairOf]; omega)
    have e3 : pairOf (swap l) = pairOf l := Fin.ext (by simp only [pairOf]; omega)
    have e4 : sgn (swap l) = 1 := if_neg (by omega)
    rw [dif_pos (show (el l).val < 32 from h), e1, e2, e3, e4]; ring
  · have e0 := swap_high l h
    have e1 : el (swap l) = ⟨(el l).val - 32, by simp only [el]; omega⟩ := Fin.ext (by simp only [el] at *; omega)
    have e2 : (⟨(el l).val - 32, by simp only [el]; omega⟩ : Fin 32) = pairOf l := Fin.ext (by simp only [el, pairOf]; omega)
    have e3 : pairOf (swap l) = pairOf l := Fin.ext (by simp only [pairOf]; omega)
    have e4 : sgn (swap l) = -1 := if_pos (by omega)
    rw [dif_neg (show ¬(el l).val < 32 from h), e1, e2, e3, e4]; ring

end Rotate

variable (H : Fin 8 → Head) (hp : Fin 4)

/-- What a point's lanes hold of its heads. -/
def Q (t : Fin 2048) (l : Fin 128) : ℝ := (H (hd hp l)).q t (el l)
def K (t : Fin 2048) (l : Fin 128) : ℝ := (H (hd hp l)).k t (el l)
def W (t : Fin 2048) (l : Fin 128) : ℝ := (H (hd hp l)).v t (el l)
def D (t : Fin 2048) (l : Fin 128) : ℝ := (H (hd hp l)).d t (el l)
def L (t : Fin 2048) (l : Fin 128) : ℝ := (H (hd hp l)).logZ t
def E (t : Fin 2048) (l : Fin 128) : ℝ := (H (hd hp l)).delta t

theorem weight_eq (t u : Fin 2048) (l : Fin 128) :
    Branch.weight (Q H hp) (K H hp) (L H hp) (half l) t u = (H (hd hp l)).weight t u := by
  simp only [Branch.weight, Head.weight, Head.score, Q, K, L, hd_lane, el_lane]

theorem grad_eq (t u : Fin 2048) (l : Fin 128) :
    Branch.grad (Q H hp) (K H hp) (W H hp) (D H hp) (L H hp) (E H hp) (half l) t u = (H (hd hp l)).grad t u := by
  rw [Branch.grad, weight_eq, Head.grad]
  simp only [D, W, E, hd_lane, el_lane]

theorem dq_sum (t : Fin 2048) (l : Fin 128) :
    (∑ i, Point.dq (Q H hp) (K H hp) (W H hp) (D H hp) (L H hp) (E H hp) i t l) = (H (hd hp l)).dq t (el l) := by
  simp only [Point.dq, grad_eq, Head.dq, K]
theorem dk_sum (t : Fin 2048) (l : Fin 128) :
    (∑ i, Point.dk (Q H hp) (K H hp) (W H hp) (D H hp) (L H hp) (E H hp) i t l) = (H (hd hp l)).dk t (el l) := by
  simp only [Point.dk, grad_eq, Head.dk, Q]
theorem dv_sum (t : Fin 2048) (l : Fin 128) :
    (∑ i, Point.dv (Q H hp) (K H hp) (D H hp) (L H hp) i t l) = (H (hd hp l)).dv t (el l) := by
  simp only [Point.dv, weight_eq, Head.dv, D]

theorem hd_swap (l : Fin 128) : hd hp (swap l) = hd hp l := by
  by_cases h : l.val % 64 < 32
  · have := swap_low l h
    exact Fin.ext (by simp only [hd]; omega)
  · have := swap_high l h
    exact Fin.ext (by simp only [hd]; omega)

end Cert.Attn.Heads
end
-- ==== Proof.Attn.Blocks.lean ====
/-
  What a grid point of the attention's gradients reads: two heads of one sequence, as real numbers.
-/
module

public import proofs.«01_k».proof.Proof.Attn.Heads
public import proofs.«01_k».proof.Proof.Gen.AttnKIdeal.Value
public import Idealize.ShloMosaic.Lib.Pipeline.ValueKit
public import Idealize.ShloMosaic.Lib.StableHlo.ReadAt

@[expose] public section
set_option maxRecDepth 16384
noncomputable section
namespace Cert.Attn.Kernel
open Idealize.ShloMosaic Idealize.SL.Sem Cert.AttnKIdeal Cert.AttnKIdeal.Gen
open Idealize.ShloMosaic.TcCoe
open Idealize.ShloMosaic.Pipeline (Dat)
open Cert.Reals Cert.Attn.Heads Cert.Attn.Rope Cert.Attn.Branch Cert.Attn.Point

theorem idx : ∀ t : Fin cfg0.N, win0_0.index t = ![t.val / 4, 0, t.val % 4] ∧ win0_1.index t = ![t.val / 4, 0, 4 + t.val % 4]
    ∧ win0_2.index t = ![t.val / 4, 0, 8 + t.val % 4] ∧ win0_3.index t = ![t.val / 4, 0, 0] ∧ win0_4.index t = ![t.val / 4, 0, 0]
    ∧ win0_5.index t = ![t.val / 4, 0, t.val % 4] ∧ win0_6.index t = ![t.val / 4, 0, t.val % 4]
    ∧ win0_7.index t = ![t.val / 4, 0, t.val % 4] ∧ win0_8.index t = ![t.val / 4, 0, t.val % 4]
    ∧ win0_9.index t = ![t.val / 4, 0, t.val % 4] ∧ win0_10.index t = ![t.val / 4, 0, t.val % 4] :=
  (by decide +kernel : ∀ t : Fin grid0.N, _)

/-- The sequence and the pair of heads of a grid point. -/
def seq (t : Fin cfg0.N) : Fin 4 := ⟨t.val / 4, by have : t.val < 16 := t.isLt; omega⟩
def pair (t : Fin cfg0.N) : Fin 4 := ⟨t.val % 4, by omega⟩

theorem emb8 (t : Fin cfg0.N) (i : Fin 2048) (l : Fin 128) :
    ((View.whole main_v102_0).slice (win0_8.rect t)).emb (ix3 0 i l) = ix3 (seq t) i (colOf (pair t) l) := by
  blk_ext [idx t, seq, pair, colOf]
theorem emb9 (t : Fin cfg0.N) (i : Fin 2048) (l : Fin 128) :
    ((View.whole main_v102_1).slice (win0_9.rect t)).emb (ix3 0 i l) = ix3 (seq t) i (colOf (pair t) l) := by
  blk_ext [idx t, seq, pair, colOf]
theorem emb10 (t : Fin cfg0.N) (i : Fin 2048) (l : Fin 128) :
    ((View.whole main_v102_2).slice (win0_10.rect t)).emb (ix3 0 i l) = ix3 (seq t) i (colOf (pair t) l) := by
  blk_ext [idx t, seq, pair, colOf]

variable {m : (ℓ : Loc nD τ sig) → Buf (Elt Ideal) ℓ} {c : Dev nD} {a : Args}
  (h : Holds (q m c) (k m c) (v m c) (pos m c) (dout m c) a)
include h

/-! What a point is given. -/

theorem blk_q (t : Fin cfg0.N) (i : Fin 2048) (l : Fin 128) : iblk m c 0 t (ix3 0 i l) = ((a.q (seq t) i (colOf (pair t) l) : ℝ) : EReal) := by
  rw [← q_entry h]; blk_ext [iblk, idx t, seq, pair, colOf]
theorem blk_k (t : Fin cfg0.N) (i : Fin 2048) (l : Fin 128) : iblk m c 1 t (ix3 0 i l) = ((a.k (seq t) i (colOf (pair t) l) : ℝ) : EReal) := by
  rw [← k_entry h]; blk_ext [iblk, idx t, seq, pair, colOf]
theorem blk_v (t : Fin cfg0.N) (i : Fin 2048) (l : Fin 128) : iblk m c 2 t (ix3 0 i l) = ((a.v (seq t) i (colOf (pair t) l) : ℝ) : EReal) := by
  rw [← v_entry h]; blk_ext [iblk, idx t, seq, pair, colOf]
theorem blk_cos (t : Fin cfg0.N) (i : Fin 2048) (l : Fin 128) : iblk m c 3 t (ix3 0 i l) = ((a.cos (seq t) i (pairOf l) : ℝ) : EReal) := by
  rw [← cos_entry h]; blk_ext [iblk, idx t, seq]
theorem blk_sin (t : Fin cfg0.N) (i : Fin 2048) (l : Fin 128) : iblk m c 4 t (ix3 0 i l) = ((sgn l * a.sin (seq t) i (pairOf l) : ℝ) : EReal) := by
  rw [← sin_entry h]; blk_ext [iblk, idx t, seq]
theorem blk_d (t : Fin cfg0.N) (i : Fin 2048) (l : Fin 128) : iblk m c 5 t (ix3 0 i l) = ((a.d (seq t) i (colOf (pair t) l) : ℝ) : EReal) := by
  rw [← d_entry h]; blk_ext [iblk, idx t, seq, pair, colOf]
theorem blk_attn (t : Fin cfg0.N) (i : Fin 2048) (l : Fin 128) :
    iblk m c 6 t (ix3 0 i l) = (((a.head (seq t) (hd (pair t) l)).attn i (el l) : ℝ) : EReal) := by
  rw [← headOf_col, ← elemOf_col (pair t), ← attn_entry h]; blk_ext [iblk, idx t, seq, pair, colOf]
theorem blk_z (t : Fin cfg0.N) (i : Fin 2048) (l : Fin 128) :
    iblk m c 7 t (ix3 0 i l) = ((L (a.head (seq t)) (pair t) i l : ℝ) : EReal) := by
  have e := z_entry h (seq t) i (colOf (pair t) l)
  rw [headOf_col] at e
  refine Eq.trans ?_ e
  unfold iblk
  generalize V m c = u
  blk_ext [idx t, seq, pair, colOf]

/-! The rotated rows, and the row sums. -/

section Given
variable (t : Fin cfg0.N) (i : Fin 2048) (l : Fin 128)

theorem row_v : iblk m c 2 t (ix3 0 i l) = ((W (a.head (seq t)) (pair t) i l : ℝ) : EReal) := by
  rw [blk_v h, ← col_hd]; rfl
theorem row_d : iblk m c 5 t (ix3 0 i l) = ((D (a.head (seq t)) (pair t) i l : ℝ) : EReal) := by
  rw [blk_d h, ← col_hd]; rfl

variable (arg2 : Memref sig .tc .vmem S1x2048x128 .f32) (h2 : arg2.IsWhole) (arg5 : Memref sig .tc .vmem S1x2048x128 .f32) (h5 : arg5.IsWhole)
  (arg6 : Memref sig .tc .vmem S1x2048x128 .f32) (h6 : arg6.IsWhole)

theorem row_q : View.canon (kernelRun0_A.sl.HS0_1 c arg2 h2 arg5 h5 arg6 h6 (iblk m c 0 t) (iblk m c 3 t) (iblk m c 4 t)) (ix2 i l)
    = ((Q (a.head (seq t)) (pair t) i l : ℝ) : EReal) := by
  rw [q_rope, blk_q h, blk_q h, blk_cos h, blk_sin h, ← EReal.coe_mul, ← EReal.coe_mul, ← EReal.coe_add, ← EReal.coe_mul, rope_lane]
  rfl
theorem row_k : View.canon (kernelRun0_A.sl.HS1_1 c arg2 h2 arg5 h5 arg6 h6 (iblk m c 1 t) (iblk m c 3 t) (iblk m c 4 t)) (ix2 i l)
    = ((K (a.head (seq t)) (pair t) i l : ℝ) : EReal) := by
  rw [k_rope, blk_k h, blk_k h, blk_cos h, blk_sin h, ← EReal.coe_mul, ← EReal.coe_mul, ← EReal.coe_add, rope_lane]
  rfl
theorem row_delta : View.canon (kernelRun0_A.sl.HS2_1 c arg5 h5 arg6 h6 (iblk m c 5 t) (iblk m c 6 t)) (ix2 i l)
    = ((E (a.head (seq t)) (pair t) i l : ℝ) : EReal) := by
  rw [delta]
  simp only [row_d h, blk_attn h, ← EReal.coe_mul, coe_sum, D, E, hd_lane, el_lane, Head.delta]

end Given

end Cert.Attn.Kernel

end
-- ==== Proof.Attn.Written.lean ====
module

public import proofs.«01_k».proof.Proof.Attn.Output

@[expose] public section
set_option maxRecDepth 16384
noncomputable section
namespace Cert.Attn.Written
open Idealize.ShloMosaic Cert.AttnKIdeal Cert.AttnKIdeal.Gen
open Idealize.ShloMosaic.TcCoe

/-! Each output block of a point is its one store of the whole block. -/

variable (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .bf16) (harg10 : arg10.IsWhole) (arg11 : Memref sig .tc .vmem S1x2048x128 .bf16) (harg11 : arg11.IsWhole) (arg12 : Memref sig .tc .vmem S1x2048x128 .bf16) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .bf16) (harg16 : arg16.IsWhole) (arg17 : Memref sig .tc .vmem S2048x128 .bf16) (harg17 : arg17.IsWhole) (arg18 : Memref sig .tc .vmem S2048x128 .bf16) (harg18 : arg18.IsWhole) (arg19 : Memref sig .tc .vmem S2048x128 .bf16) (harg19 : arg19.IsWhole) (arg20 : Memref sig .tc .vmem S2048x128 .f32) (harg20 : arg20.IsWhole) (arg21 : Memref sig .tc .vmem S2048x128 .f32) (harg21 : arg21.IsWhole) (arg22 : Memref sig .tc .vmem S2048x128 .f32) (harg22 : arg22.IsWhole) (arg23 : Memref sig .tc .vmem S2048x128 .f32) (harg23 : arg23.IsWhole) (arg24 : Memref sig .tc .vmem S2048x128 .f32) (harg24 : arg24.IsWhole) (arg25 : Memref sig .tc .vmem S2048x128 .f32) (harg25 : arg25.IsWhole) (arg26 : Memref sig .tc .vmem S2048x128 .f32) (harg26 : arg26.IsWhole) (arg27 : Memref sig .tc .vmem S2048x128 .f32) (harg27 : arg27.IsWhole)
  (x0 x1 x2 x3 x4 x5 x6 x7 : Vec Ideal S1x2048x128 .f32)

theorem query_written : out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7
    = (kernelRun0_A.sl.v1613 c arg2 harg2 arg3 harg3 arg4 harg4 arg5 harg5 arg6 harg6 arg7 harg7 arg8 harg8 arg9 harg9 arg13 arg14 arg15 arg16 arg17 arg18 arg19 arg20 arg21 arg22 arg25 x0 x1 x2 x3 x4 x5 x6 x7) := by
  unfold out0_A_8
  rw [View.read_writes_junk_eq_canon]
  exact View.canon_cons_unit_lit (S := S1x2048x128) _ _ [] (by decide)

theorem key_written : out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7
    = k0_pay1 (F := Ideal) (kernelRun0_A.sl.v1615 c arg2 harg2 arg3 harg3 arg4 harg4 arg5 harg5 arg6 harg6 arg7 harg7 arg8 harg8 arg9 harg9 arg13 arg14 arg15 arg16 arg17 arg18 arg19 arg20 arg21 arg23 arg26 x0 x1 x2 x3 x4 x5 x6 x7) (kernelRun0_A.sl.r_13 c arg2 harg2 arg3 harg3 arg4 harg4 arg5 harg5 arg6 harg6 arg7 harg7 arg8 harg8 arg9 harg9 arg13 arg14 arg15 arg16 arg17 arg18 arg19 arg20 arg21 arg23 arg26 x0 x1 x2 x3 x4 x5 x6 x7) := by
  unfold out0_A_9
  rw [View.read_writes_junk_eq_canon]
  exact View.canon_cons_unit_lit (S := S1x2048x128) _ _ [] (by decide)

theorem value_written : out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7
    = k0_pay2 (F := Ideal) (kernelRun0_A.sl.v1644 c arg2 harg2 arg3 harg3 arg5 harg5 arg6 harg6 arg7 harg7 arg9 harg9 arg13 arg14 arg16 arg17 arg19 arg20 arg24 arg27 x0 x1 x3 x4 x5 x7) := by
  unfold out0_A_10
  rw [View.read_writes_junk_eq_canon]
  exact View.canon_cons_unit_lit (S := S1x2048x128) _ _ [] (by decide)

end Cert.Attn.Written

end
-- ==== Proof.Attn.Kernel.lean ====
/-
  What the kernel of the attention's gradients leaves in its three results: each grid point takes two heads of one
  sequence and writes their columns.
-/
module

public import proofs.«01_k».proof.Proof.Attn.Blocks
public import proofs.«01_k».proof.Proof.Attn.Written

@[expose] public section
set_option maxRecDepth 16384
noncomputable section
namespace Cert.Attn.Kernel
open Idealize.ShloMosaic Idealize.SL.Sem Cert.AttnKIdeal Cert.AttnKIdeal.Gen
open Idealize.ShloMosaic.TcCoe
open Idealize.ShloMosaic.Pipeline (Dat)
open Cert.Reals Cert.Attn.Heads Cert.Attn.Rope Cert.Attn.Branch Cert.Attn.Point Cert.Attn.Written

variable {m : (ℓ : Loc nD τ sig) → Buf (Elt Ideal) ℓ} {c : Dev nD} {a : Args}
  (h : Holds (q m c) (k m c) (v m c) (pos m c) (dout m c) a)
include h

/-! The three results. -/

theorem final_dq : (dats m 0 c).arrAt 8 cfg0.N = dqArr a := by
  refine (dats m 0 c).arrAt_eq_of_covers 8 _ (by decide +kernel) fun t hf y => ?_
  blk_simp
  rw [after0_8, outsAt0]
  dsimp only
  rw [query_written]
  idx_vars y
  obtain rfl : y0 = 0 := Subsingleton.elim _ _
  rw [emb8]
  refine (query_block c _ _ _ _ _ _ _ _ _ _ _ _ _ _ _ _ _ _ _ _ _ _ _ _ _ _ _ _ _ _ _ _ _ _ _ (fun i l => row_q h t i l _ _ _ _ _ _) (fun i l => row_k h t i l _ _ _ _ _ _) (row_v h t)
    (row_d h t) (blk_z h t) (fun i l => row_delta h t i l _ _ _ _) (blk_cos h t) (blk_sin h t) y1 y2).trans ?_
  rw [dq_sum, dq_sum, hd_swap, unrope_lane fun e => (a.head (seq t) (hd (pair t) y2)).dq y1 e * (1 / 8), ← headOf_col, ← elemOf_col (pair t)]
  rfl

theorem final_dk : (dats m 0 c).arrAt 9 cfg0.N = dkArr a := by
  refine (dats m 0 c).arrAt_eq_of_covers 9 _ (by decide +kernel) fun t hf y => ?_
  blk_simp
  rw [after0_9, outsAt0]
  dsimp only
  rw [key_written]
  idx_vars y
  obtain rfl : y0 = 0 := Subsingleton.elim _ _
  rw [emb9]
  refine (key_block c _ _ _ _ _ _ _ _ _ _ _ _ _ _ _ _ _ _ _ _ _ _ _ _ _ _ _ _ _ _ _ _ _ _ _ (fun i l => row_q h t i l _ _ _ _ _ _) (fun i l => row_k h t i l _ _ _ _ _ _) (row_v h t)
    (row_d h t) (blk_z h t) (fun i l => row_delta h t i l _ _ _ _) (blk_cos h t) (blk_sin h t) y1 y2).trans ?_
  rw [dk_sum, dk_sum, hd_swap, unrope_lane, ← headOf_col, ← elemOf_col (pair t)]
  rfl

theorem final_dv : (dats m 0 c).arrAt 10 cfg0.N = dvArr a := by
  refine (dats m 0 c).arrAt_eq_of_covers 10 _ (by decide +kernel) fun t hf y => ?_
  blk_simp
  rw [after0_10, outsAt0]
  dsimp only
  rw [value_written]
  idx_vars y
  obtain rfl : y0 = 0 := Subsingleton.elim _ _
  rw [emb10]
  refine (value_block c _ _ _ _ _ _ _ _ _ _ _ _ _ _ _ _ _ _ _ _ _ _ _ _ _ _ (fun i l => row_q h t i l _ _ _ _ _ _) (fun i l => row_k h t i l _ _ _ _ _ _)
    (row_d h t) (blk_z h t) y1 y2).trans ?_
  rw [dv_sum, ← headOf_col, ← elemOf_col (pair t)]
  rfl

end Cert.Attn.Kernel

end
-- ==== Proof.Attn.Claims.lean ====
/-
  The claims about the attention's backward call: its runs end quietly with the arguments unchanged, and on finite
  arguments it returns the gradients that differentiating the attention gives.
-/
module

public import proofs.«01_k».proof.Defs
public import proofs.«01_k».proof.Proof.Gen.AttnK.Frame
public import proofs.«01_k».proof.Proof.Gen.AttnRIdeal.Run
public import proofs.«01_k».proof.Proof.Gen.Pre_attn_finite
public import proofs.«01_k».proof.Proof.Attn.Kernel
public import proofs.«01_k».proof.Proof.Attn.Reference
public import Idealize.ShloMosaic.Lib.Quiescent

@[expose] public section

set_option maxRecDepth 16384

noncomputable section

namespace Cert.Attn.Claims

open Idealize.ShloMosaic Idealize.SL.Sem Cert.Reals

theorem frame_kernel : Cert.quiescent_AttnK := fun m ρ _ => Cert.AttnK.Gen.frame m ρ
theorem frame_ideal : Cert.quiescent_AttnKIdeal := fun m ρ _ => Cert.AttnKIdeal.Gen.frame m ρ
theorem frame_ideal_pre : Cert.quiescent_AttnKIdeal_pre_attn_finite := fun m ρ _ => Cert.AttnKIdeal.Gen.frame m ρ
theorem frame_reference : Cert.quiescent_AttnRIdeal := fun m ρ _ =>
  (θ_run Cert.AttnRIdeal.defs _ _).mono (fun r h => ⟨fun c => (h c).2.2.2, sem_eq_zero_of_no_sems (by decide) r.2⟩)
    (Cert.AttnRIdeal.Value.run (F := Ideal) m ρ)
theorem frame_reference_pre : Cert.quiescent_AttnRIdeal_pre_attn_finite := fun m ρ _ => frame_reference m ρ trivial
theorem preserves : Cert.preserves_AttnK_AttnKIdeal := IdealRules.named_const.statement _ _ _ _ _ rfl

/-- Finite arguments are the casts of their reals. -/
theorem holds_of_finite (x0 x1 x2 : Wide) (x3 : IVec ⟨2, ![4, 2048]⟩ 32) (x4 : Wide)
    (h : (Cert.Pre_attn_finite.fn (F := Ideal) x0 x1 x2 x3 x4).1 = (fun _ => 1#1)
      ∧ (Cert.Pre_attn_finite.fn (F := Ideal) x0 x1 x2 x3 x4).2.1 = (fun _ => 1#1)
      ∧ (Cert.Pre_attn_finite.fn (F := Ideal) x0 x1 x2 x3 x4).2.2.1 = (fun _ => 1#1)
      ∧ (Cert.Pre_attn_finite.fn (F := Ideal) x0 x1 x2 x3 x4).2.2.2 = (fun _ => 1#1)) :
    ∃ a, Holds x0 x1 x2 x3 x4 a := by
  obtain ⟨h0, h1, h2, h3⟩ := h
  refine ⟨⟨fun b t j => EReal.toReal (x0 (ix3 b t j)), fun b t j => EReal.toReal (x1 (ix3 b t j)), fun b t j => EReal.toReal (x2 (ix3 b t j)),
    fun b t => x3 (ix2 b t), fun b t j => EReal.toReal (x4 (ix3 b t j))⟩,
    fun b t j => real_of_abs_lt _ ?_, fun b t j => real_of_abs_lt _ ?_, fun b t j => real_of_abs_lt _ ?_, fun _ _ => rfl,
    fun b t j => real_of_abs_lt _ ?_⟩
    <;> rw [← word_inf]
  · exact congrFun h0 (ix3 b t j)
  · exact congrFun h1 (ix3 b t j)
  · exact congrFun h2 (ix3 b t j)
  · exact congrFun h3 (ix3 b t j)

theorem algebraic : Cert.algebraic_AttnKIdeal_AttnRIdeal_pre_attn_finite := by
  intro m ρ m' ρ' hpre hagree
  choose a hm using fun c => holds_of_finite _ _ _ _ _ (hpre c)
  have hm' c : Holds (m' (c, Proc.tc.devRef AttnRIdeal.main_arg0))
        (m' (c, Proc.tc.devRef AttnRIdeal.main_arg1))
        (m' (c, Proc.tc.devRef AttnRIdeal.main_arg2))
        (m' (c, Proc.tc.devRef AttnRIdeal.main_arg3))
        (m' (c, Proc.tc.devRef AttnRIdeal.main_arg4)) (a c) := by
    obtain ⟨e0, e1, e2, e3, e4⟩ := hagree c
    exact e0 ▸ e1 ▸ e2 ▸ e3 ▸ e4 ▸ hm c
  refine ⟨fun c => dqArr (a c), fun c => dkArr (a c), fun c => dvArr (a c), ?_, ?_⟩
  · exact (θ_run Cert.AttnKIdeal.defs _ _).mono
      (fun r h c => ⟨(h c).1.trans (Kernel.final_dq (hm c)),
        (h c).2.1.trans (Kernel.final_dk (hm c)),
        (h c).2.2.1.trans (Kernel.final_dv (hm c)), (h c).2.2.2⟩)
      (Cert.AttnKIdeal.Value.run_blocks (F := Ideal) m ρ)
  · exact (θ_run Cert.AttnRIdeal.defs _ _).mono
      (fun r h c => ⟨((h c).1.trans (Cert.AttnRIdeal.Read.val_main_v205_eq _)).trans (Reference.dq_result (hm' c)),
        ((h c).2.1.trans (Cert.AttnRIdeal.Read.val_main_v206_eq _)).trans (Reference.dk_result (hm' c)),
        ((h c).2.2.1.trans (Cert.AttnRIdeal.Read.val_main_v207_eq _)).trans (Reference.dv_result (hm' c)), (h c).2.2.2⟩)
      (Cert.AttnRIdeal.Value.run (F := Ideal) m' ρ')

end Cert.Attn.Claims

end
-- ==== Proof.Disc.Spec.lean ====
/-
  The gradient of the state space's discretisation, one state of one group at a time: the forward values and what
  differentiating them passes back.
-/
module

public import proofs.«01_k».proof.Proof.Reals

@[expose] public section

noncomputable section

namespace Cert.Disc

open Idealize.ShloMosaic

/-- The parameters of 32 groups of 64 states of 16 channels, and the gradients of the discretised eigenvalues and input matrix. -/
structure Args where
  ar : Fin 32 → Fin 64 → EReal
  ai : Fin 32 → Fin 64 → EReal
  ld : Fin 32 → EReal
  br : Fin 32 → Fin 64 → Fin 16 → EReal
  bi : Fin 32 → Fin 64 → Fin 16 → EReal
  lr : Fin 32 → Fin 64 → EReal
  li : Fin 32 → Fin 64 → EReal
  gr : Fin 32 → Fin 64 → Fin 16 → EReal
  gi : Fin 32 → Fin 64 → Fin 16 → EReal

namespace Args
variable (a : Args) (g : Fin 32) (p : Fin 64)

/-! The forward values. -/

def dt : EReal := Ideal.exp (a.ld g)
def mag : EReal := Ideal.exp (a.ar g p * a.dt g)
def cos : EReal := Ideal.cos (a.ai g p * a.dt g)
def sin : EReal := Ideal.sin (a.ai g p * a.dt g)
/-- The discretised eigenvalue's imaginary part, and its real part less one. -/
def im : EReal := a.mag g p * a.sin g p
def re : EReal := a.mag g p * a.cos g p - 1
/-- The quotient of the eigenvalue's step and the eigenvalue. -/
def den : EReal := a.ar g p * a.ar g p + a.ai g p * a.ai g p
def topRe : EReal := a.re g p * a.ar g p + a.im g p * a.ai g p
def topIm : EReal := a.im g p * a.ar g p - a.re g p * a.ai g p
def quotRe : EReal := Ideal.div (a.topRe g p) (a.den g p)
def quotIm : EReal := Ideal.div (a.topIm g p) (a.den g p)
def invSq : EReal := Ideal.div 1 (a.den g p * a.den g p)

/-! What is passed back: to the quotient, to its three parts, to the eigenvalue, to its modulus' exponent and to its angle. -/

def dQuotRe : EReal := (∑ k, a.gi g p k * a.bi g p k) + ∑ k, a.gr g p k * a.br g p k
def dQuotIm : EReal := (∑ k, a.gi g p k * a.br g p k) + ∑ k, -a.gr g p k * a.bi g p k
def dTopRe : EReal := Ideal.div (a.dQuotRe g p) (a.den g p)
def dTopIm : EReal := Ideal.div (a.dQuotIm g p) (a.den g p)
def dDen : EReal := -(a.dQuotIm g p * a.invSq g p * a.topIm g p) + -(a.dQuotRe g p * a.invSq g p * a.topRe g p)
def dIm : EReal := a.li g p + a.dTopIm g p * a.ar g p + a.dTopRe g p * a.ai g p
def dRe : EReal := a.lr g p + -a.dTopIm g p * a.ai g p + a.dTopRe g p * a.ar g p
def dAng : EReal := a.mag g p * a.dIm g p * a.cos g p + -(a.mag g p * a.dRe g p) * a.sin g p
def dExp : EReal := (a.dIm g p * a.sin g p + a.dRe g p * a.cos g p) * a.mag g p

/-! The five gradients. -/

def dar : EReal := a.im g p * a.dTopIm g p + a.re g p * a.dTopRe g p + a.ar g p * a.dDen g p + a.dDen g p * a.ar g p + a.dExp g p * a.dt g
def dai : EReal := a.re g p * -a.dTopIm g p + a.im g p * a.dTopRe g p + a.ai g p * a.dDen g p + a.dDen g p * a.ai g p + a.dAng g p * a.dt g
def dld : EReal := ((∑ p, a.ai g p * a.dAng g p) + ∑ p, a.ar g p * a.dExp g p) * a.dt g
def dbr (k : Fin 16) : EReal := a.quotIm g p * a.gi g p k + a.quotRe g p * a.gr g p k
def dbi (k : Fin 16) : EReal := a.quotRe g p * a.gi g p k + a.quotIm g p * -a.gr g p k

/-! The arrays of the five gradients. -/

def darArr : FVec Ideal ⟨3, ![32, 1, 64]⟩ .f32 := fun i => a.dar (i 0) (i 2)
def daiArr : FVec Ideal ⟨3, ![32, 1, 64]⟩ .f32 := fun i => a.dai (i 0) (i 2)
def dldArr : FVec Ideal ⟨3, ![32, 1, 1]⟩ .f32 := fun i => a.dld (i 0)
def dbrArr : FVec Ideal ⟨3, ![32, 16, 64]⟩ .f32 := fun i => a.dbr (i 0) (i 2) (i 1)
def dbiArr : FVec Ideal ⟨3, ![32, 16, 64]⟩ .f32 := fun i => a.dbi (i 0) (i 2) (i 1)

end Args

/-- The arguments of the two programs. -/
def args (x0 x1 : FVec Ideal ⟨2, ![32, 64]⟩ .f32) (x2 : FVec Ideal ⟨1, ![32]⟩ .f32) (x3 x4 : FVec Ideal ⟨3, ![32, 64, 16]⟩ .f32)
    (x5 x6 : FVec Ideal ⟨2, ![32, 64]⟩ .f32) (x7 x8 : FVec Ideal ⟨3, ![32, 64, 16]⟩ .f32) : Args where
  ar g p := x0 (ix2 g p)
  ai g p := x1 (ix2 g p)
  ld g := x2 (ix1 g)
  br g p k := x3 (ix3 g p k)
  bi g p k := x4 (ix3 g p k)
  lr g p := x5 (ix2 g p)
  li g p := x6 (ix2 g p)
  gr g p k := x7 (ix3 g p k)
  gi g p k := x8 (ix3 g p k)

end Cert.Disc

end
-- ==== Proof.Disc.Block.lean ====
/-
  What one run of the kernel of the discretisation's gradient leaves in its five results: it holds all groups at once, a
  group's states along the lanes, and computes the spelled out gradients.
-/
module

public import proofs.«01_k».proof.Proof.Gen.DiscKIdeal.Frame
public import proofs.«01_k».proof.Proof.Disc.Spec
public import Idealize.ShloMosaic.Lib.Pipeline.ValueKit
public import Idealize.ShloMosaic.Lib.StableHlo.ReadAt
public import Idealize.ShloMosaic.Lib.Pipeline.ReadBack

@[expose] public section

set_option maxRecDepth 16384

noncomputable section

namespace Cert.Disc.Kernel

open Idealize.ShloMosaic Idealize.SL.Sem Cert.DiscKIdeal Cert.DiscKIdeal.Gen
open Idealize.ShloMosaic.TcCoe
open Idealize.ShloMosaic.Pipeline (Dat)

/-! A load of a whole block is the block. -/

theorem ld_row (x : Vec Ideal S32x1x64 .f32) : View.ld x r0_0 = x := View.ld_unit_lit _ _ (by decide)
theorem ld_one (x : Vec Ideal S32x1x1 .f32) : View.ld x r0_1 = x := View.ld_unit_lit _ _ (by decide)
theorem ld_mat (x : Vec Ideal S32x16x64 .f32) : View.ld x r0_2 = x := View.ld_unit_lit _ _ (by decide)

/-- The kernel's nine blocks hold the arguments. -/
structure Holds (x0 x1 : Vec Ideal S32x1x64 .f32) (x2 : Vec Ideal S32x1x1 .f32) (x3 x4 : Vec Ideal S32x16x64 .f32)
    (x5 x6 : Vec Ideal S32x1x64 .f32) (x7 x8 : Vec Ideal S32x16x64 .f32) (a : Args) : Prop where
  ar : ∀ g p, x0 (ix3 g 0 p) = a.ar g p
  ai : ∀ g p, x1 (ix3 g 0 p) = a.ai g p
  ld : ∀ g, x2 (ix3 g 0 0) = a.ld g
  br : ∀ g p k, x3 (ix3 g k p) = a.br g p k
  bi : ∀ g p k, x4 (ix3 g k p) = a.bi g p k
  lr : ∀ g p, x5 (ix3 g 0 p) = a.lr g p
  li : ∀ g p, x6 (ix3 g 0 p) = a.li g p
  gr : ∀ g p k, x7 (ix3 g k p) = a.gr g p k
  gi : ∀ g p k, x8 (ix3 g k p) = a.gi g p k

section Block
variable {x0 x1 : Vec Ideal S32x1x64 .f32} {x2 : Vec Ideal S32x1x1 .f32} {x3 x4 : Vec Ideal S32x16x64 .f32}
  {x5 x6 : Vec Ideal S32x1x64 .f32} {x7 x8 : Vec Ideal S32x16x64 .f32} {a : Args} (h : Holds x0 x1 x2 x3 x4 x5 x6 x7 x8 a)
include h

/-! The forward values. -/

theorem ar_eq (g : Fin 32) (p : Fin 64) : k0_pay43 (F := Ideal) x0 x1 x2 x3 x4 x5 x6 x7 x8 (ix3 g 0 p) = a.ar g p := by
  pointwise [k0_pay43, k0_pay1, ld_row, h.ar]

theorem ai_eq (g : Fin 32) (p : Fin 64) : k0_pay44 (F := Ideal) x0 x1 x2 x3 x4 x5 x6 x7 x8 (ix3 g 0 p) = a.ai g p := by
  pointwise [k0_pay44, k0_pay2, ld_row, h.ai]

theorem br_eq (g : Fin 32) (p : Fin 64) (k : Fin 16) : k0_pay45 (F := Ideal) x0 x1 x2 x3 x4 x5 x6 x7 x8 (ix3 g k p) = a.br g p k := by
  pointwise [k0_pay45, k0_pay3, ld_mat, h.br]

theorem bi_eq (g : Fin 32) (p : Fin 64) (k : Fin 16) : k0_pay46 (F := Ideal) x0 x1 x2 x3 x4 x5 x6 x7 x8 (ix3 g k p) = a.bi g p k := by
  pointwise [k0_pay46, k0_pay4, ld_mat, h.bi]

theorem dt_eq (g : Fin 32) : k0_pay47 (F := Ideal) x0 x1 x2 x3 x4 x5 x6 x7 x8 (ix3 g 0 0) = a.dt g := by
  pointwise [k0_pay47, k0_pay5, ld_one, h.ld]
  rfl

theorem mag_eq (g : Fin 32) (p : Fin 64) : k0_pay48 (F := Ideal) x0 x1 x2 x3 x4 x5 x6 x7 x8 (ix3 g 0 p) = a.mag g p := by
  pointwise [k0_pay48, k0_pay6, k0_pay5, k0_pay1, ld_row, ld_one, h.ar, h.ai, h.ld]
  rfl

theorem cos_eq (g : Fin 32) (p : Fin 64) : k0_pay49 (F := Ideal) x0 x1 x2 x3 x4 x5 x6 x7 x8 (ix3 g 0 p) = a.cos g p := by
  pointwise [k0_pay49, k0_pay8, k0_pay7, k0_pay5, k0_pay2, ld_row, ld_one, h.ar, h.ai, h.ld]
  rfl

theorem sin_eq (g : Fin 32) (p : Fin 64) : k0_pay50 (F := Ideal) x0 x1 x2 x3 x4 x5 x6 x7 x8 (ix3 g 0 p) = a.sin g p := by
  pointwise [k0_pay50, k0_pay9, k0_pay7, k0_pay5, k0_pay2, ld_row, ld_one, h.ar, h.ai, h.ld]
  rfl

theorem sin_eq' (g : Fin 32) (p : Fin 64) : k0_pay51 (F := Ideal) x0 x1 x2 x3 x4 x5 x6 x7 x8 (ix3 g 0 p) = a.sin g p := by
  pointwise [k0_pay51, k0_pay10, k0_pay7, k0_pay5, k0_pay2, ld_row, ld_one, h.ar, h.ai, h.ld]
  rfl

theorem cos_eq' (g : Fin 32) (p : Fin 64) : k0_pay52 (F := Ideal) x0 x1 x2 x3 x4 x5 x6 x7 x8 (ix3 g 0 p) = a.cos g p := by
  pointwise [k0_pay52, k0_pay11, k0_pay7, k0_pay5, k0_pay2, ld_row, ld_one, h.ar, h.ai, h.ld]
  rfl

theorem im_eq (g : Fin 32) (p : Fin 64) : k0_pay53 (F := Ideal) x0 x1 x2 x3 x4 x5 x6 x7 x8 (ix3 g 0 p) = a.im g p := by
  pointwise [k0_pay53, k0_pay12, k0_pay14, k0_pay6, k0_pay8, k0_pay10, k0_pay7, k0_pay5, k0_pay2, k0_pay1, ld_row, ld_one, h.ar, h.ai, h.ld]
  rfl

theorem den_eq (g : Fin 32) (p : Fin 64) : k0_pay54 (F := Ideal) x0 x1 x2 x3 x4 x5 x6 x7 x8 (ix3 g 0 p) = a.den g p := by
  pointwise [k0_pay54, k0_pay13, k0_pay2, k0_pay1, ld_row, ld_one, h.ar, h.ai, h.ld]
  rfl

theorem re_eq (g : Fin 32) (p : Fin 64) : k0_pay55 (F := Ideal) x0 x1 x2 x3 x4 x5 x6 x7 x8 (ix3 g 0 p) = a.re g p := by
  pointwise [k0_pay55, k0_pay12, k0_pay14, k0_pay6, k0_pay8, k0_pay10, k0_pay7, k0_pay5, k0_pay2, k0_pay1, ld_row, ld_one, h.ar, h.ai, h.ld]
  rfl

theorem topRe_eq (g : Fin 32) (p : Fin 64) : k0_pay56 (F := Ideal) x0 x1 x2 x3 x4 x5 x6 x7 x8 (ix3 g 0 p) = a.topRe g p := by
  pointwise [k0_pay56, k0_pay15, k0_pay12, k0_pay14, k0_pay6, k0_pay8, k0_pay10, k0_pay7, k0_pay5, k0_pay2, k0_pay1, ld_row, ld_one, h.ar, h.ai, h.ld]
  rfl

theorem quotRe_eq (g : Fin 32) (p : Fin 64) : k0_pay57 (F := Ideal) x0 x1 x2 x3 x4 x5 x6 x7 x8 (ix3 g 0 p) = a.quotRe g p := by
  pointwise [k0_pay57, k0_pay16, k0_pay15, k0_pay13, k0_pay12, k0_pay14, k0_pay6, k0_pay8, k0_pay10, k0_pay7, k0_pay5, k0_pay2, k0_pay1, ld_row, ld_one, h.ar, h.ai, h.ld]
  rfl

theorem invSq_eq (g : Fin 32) (p : Fin 64) : k0_pay58 (F := Ideal) x0 x1 x2 x3 x4 x5 x6 x7 x8 (ix3 g 0 p) = a.invSq g p := by
  pointwise [k0_pay58, k0_pay17, k0_pay13, k0_pay2, k0_pay1, ld_row, ld_one, h.ar, h.ai, h.ld]
  rfl

theorem quotIm_eq (g : Fin 32) (p : Fin 64) : k0_pay59 (F := Ideal) x0 x1 x2 x3 x4 x5 x6 x7 x8 (ix3 g 0 p) = a.quotIm g p := by
  pointwise [k0_pay59, k0_pay19, k0_pay18, k0_pay13, k0_pay12, k0_pay14, k0_pay6, k0_pay8, k0_pay10, k0_pay7, k0_pay5, k0_pay2, k0_pay1, ld_row, ld_one, h.ar, h.ai, h.ld]
  rfl

theorem topIm_eq (g : Fin 32) (p : Fin 64) : k0_pay18 (F := Ideal) (View.ld x0 r0_0) (View.ld x1 r0_0) (View.ld x2 r0_1) (ix3 g 0 p) = a.topIm g p := by
  pointwise [k0_pay18, k0_pay12, k0_pay14, k0_pay6, k0_pay8, k0_pay10, k0_pay7, k0_pay5, k0_pay2, k0_pay1, ld_row, ld_one, h.ar, h.ai, h.ld]
  rfl

theorem invSq_eq' (g : Fin 32) (p : Fin 64) : k0_pay20 (F := Ideal) (View.ld x0 r0_0) (View.ld x1 r0_0) (ix3 g 0 p) = a.invSq g p := by
  pointwise [k0_pay20, k0_pay13, k0_pay2, k0_pay1, ld_row, ld_one, h.ar, h.ai, h.ld]
  rfl

/-! What is passed back. -/

omit h in
theorem zero_sub_eq (x : EReal) : 0 - x = -x := by rw [sub_eq_add_neg, zero_add]

theorem lr_eq (g : Fin 32) (p : Fin 64) : k0_pay60 (F := Ideal) x0 x1 x2 x3 x4 x5 x6 x7 x8 (ix3 g 0 p) = a.lr g p := by
  pointwise [k0_pay60, k0_pay21, ld_row, h.lr]

theorem li_eq (g : Fin 32) (p : Fin 64) : k0_pay61 (F := Ideal) x0 x1 x2 x3 x4 x5 x6 x7 x8 (ix3 g 0 p) = a.li g p := by
  pointwise [k0_pay61, k0_pay22, ld_row, h.li]

theorem dQuotRe_eq (g : Fin 32) (p : Fin 64) : k0_pay62 (F := Ideal) x0 x1 x2 x3 x4 x5 x6 x7 x8 (ix3 g 0 p) = a.dQuotRe g p := by
  pointwise [k0_pay62, k0_pay29, k0_pay24, k0_pay23, ld_mat, h.gr, h.gi, br_eq h, bi_eq h]
  rfl

theorem dQuotIm_eq (g : Fin 32) (p : Fin 64) : k0_pay27 (F := Ideal) (k0_pay45 x0 x1 x2 x3 x4 x5 x6 x7 x8) (k0_pay46 x0 x1 x2 x3 x4 x5 x6 x7 x8) (View.ld x7 r0_2) (View.ld x8 r0_2) (ix3 g 0 p) = a.dQuotIm g p := by
  pointwise [k0_pay27, k0_pay24, k0_pay25, k0_pay23, ld_mat, h.gr, h.gi, zero_sub_eq, br_eq h, bi_eq h]
  rfl

theorem negIm_eq (g : Fin 32) (p : Fin 64) : k0_pay63 (F := Ideal) x0 x1 x2 x3 x4 x5 x6 x7 x8 (ix3 g 0 p) = -(a.dQuotIm g p * a.invSq g p * a.topIm g p) := by
  pointwise [k0_pay63, k0_pay30, dQuotIm_eq h, topIm_eq h, invSq_eq' h, zero_sub_eq]

theorem dTopIm_eq (g : Fin 32) (p : Fin 64) : k0_pay64 (F := Ideal) x0 x1 x2 x3 x4 x5 x6 x7 x8 (ix3 g 0 p) = a.dTopIm g p := by
  pointwise [k0_pay64, k0_pay31, dQuotIm_eq h, den_eq h]
  rfl

theorem negTopIm_eq (g : Fin 32) (p : Fin 64) : k0_pay65 (F := Ideal) x0 x1 x2 x3 x4 x5 x6 x7 x8 (ix3 g 0 p) = -a.dTopIm g p := by
  pointwise [k0_pay65, k0_pay32, k0_pay31, dQuotIm_eq h, den_eq h, zero_sub_eq]
  rfl

theorem dTopRe_eq (g : Fin 32) (p : Fin 64) : k0_pay35 (F := Ideal) (k0_pay54 x0 x1 x2 x3 x4 x5 x6 x7 x8) (k0_pay62 x0 x1 x2 x3 x4 x5 x6 x7 x8) (ix3 g 0 p) = a.dTopRe g p := by
  pointwise [k0_pay35, dQuotRe_eq h, den_eq h]
  rfl

theorem dDen_eq (g : Fin 32) (p : Fin 64) : k0_pay34 (F := Ideal) (k0_pay56 x0 x1 x2 x3 x4 x5 x6 x7 x8) (k0_pay58 x0 x1 x2 x3 x4 x5 x6 x7 x8) (k0_pay62 x0 x1 x2 x3 x4 x5 x6 x7 x8) (k0_pay63 x0 x1 x2 x3 x4 x5 x6 x7 x8) (ix3 g 0 p) = a.dDen g p := by
  pointwise [k0_pay34, dQuotRe_eq h, invSq_eq h, topRe_eq h, negIm_eq h, zero_sub_eq]
  rfl

theorem dIm_eq (g : Fin 32) (p : Fin 64) : k0_pay36 (F := Ideal) (k0_pay43 x0 x1 x2 x3 x4 x5 x6 x7 x8) (k0_pay44 x0 x1 x2 x3 x4 x5 x6 x7 x8) (k0_pay54 x0 x1 x2 x3 x4 x5 x6 x7 x8) (k0_pay61 x0 x1 x2 x3 x4 x5 x6 x7 x8) (k0_pay62 x0 x1 x2 x3 x4 x5 x6 x7 x8) (k0_pay64 x0 x1 x2 x3 x4 x5 x6 x7 x8) (ix3 g 0 p) = a.dIm g p := by
  pointwise [k0_pay36, dTopRe_eq h, dTopIm_eq h, ar_eq h, ai_eq h, li_eq h]
  rfl

theorem dRe_eq (g : Fin 32) (p : Fin 64) : k0_pay37 (F := Ideal) (k0_pay43 x0 x1 x2 x3 x4 x5 x6 x7 x8) (k0_pay44 x0 x1 x2 x3 x4 x5 x6 x7 x8) (k0_pay54 x0 x1 x2 x3 x4 x5 x6 x7 x8) (k0_pay60 x0 x1 x2 x3 x4 x5 x6 x7 x8) (k0_pay62 x0 x1 x2 x3 x4 x5 x6 x7 x8) (k0_pay65 x0 x1 x2 x3 x4 x5 x6 x7 x8) (ix3 g 0 p) = a.dRe g p := by
  pointwise [k0_pay37, dTopRe_eq h, negTopIm_eq h, ar_eq h, ai_eq h, lr_eq h]
  rfl

theorem dAng_eq (g : Fin 32) (p : Fin 64) : k0_pay38 (F := Ideal) (k0_pay43 x0 x1 x2 x3 x4 x5 x6 x7 x8) (k0_pay44 x0 x1 x2 x3 x4 x5 x6 x7 x8) (k0_pay48 x0 x1 x2 x3 x4 x5 x6 x7 x8) (k0_pay50 x0 x1 x2 x3 x4 x5 x6 x7 x8) (k0_pay52 x0 x1 x2 x3 x4 x5 x6 x7 x8) (k0_pay54 x0 x1 x2 x3 x4 x5 x6 x7 x8) (k0_pay60 x0 x1 x2 x3 x4 x5 x6 x7 x8) (k0_pay61 x0 x1 x2 x3 x4 x5 x6 x7 x8) (k0_pay62 x0 x1 x2 x3 x4 x5 x6 x7 x8) (k0_pay64 x0 x1 x2 x3 x4 x5 x6 x7 x8) (k0_pay65 x0 x1 x2 x3 x4 x5 x6 x7 x8) (ix3 g 0 p) = a.dAng g p := by
  pointwise [k0_pay38, dIm_eq h, dRe_eq h, mag_eq h, sin_eq h, cos_eq' h, zero_sub_eq]
  rfl

theorem dExp_eq (g : Fin 32) (p : Fin 64) : k0_pay40 (F := Ideal) (k0_pay43 x0 x1 x2 x3 x4 x5 x6 x7 x8) (k0_pay44 x0 x1 x2 x3 x4 x5 x6 x7 x8) (k0_pay48 x0 x1 x2 x3 x4 x5 x6 x7 x8) (k0_pay49 x0 x1 x2 x3 x4 x5 x6 x7 x8) (k0_pay51 x0 x1 x2 x3 x4 x5 x6 x7 x8) (k0_pay54 x0 x1 x2 x3 x4 x5 x6 x7 x8) (k0_pay60 x0 x1 x2 x3 x4 x5 x6 x7 x8) (k0_pay61 x0 x1 x2 x3 x4 x5 x6 x7 x8) (k0_pay62 x0 x1 x2 x3 x4 x5 x6 x7 x8) (k0_pay64 x0 x1 x2 x3 x4 x5 x6 x7 x8) (k0_pay65 x0 x1 x2 x3 x4 x5 x6 x7 x8) (ix3 g 0 p) = a.dExp g p := by
  pointwise [k0_pay40, dIm_eq h, dRe_eq h, mag_eq h, sin_eq' h, cos_eq h]
  rfl

/-! The five gradients. -/

theorem dar_eq (g : Fin 32) (p : Fin 64) : k0_pay41 (F := Ideal) (k0_pay43 x0 x1 x2 x3 x4 x5 x6 x7 x8) (k0_pay44 x0 x1 x2 x3 x4 x5 x6 x7 x8) (k0_pay47 x0 x1 x2 x3 x4 x5 x6 x7 x8) (k0_pay48 x0 x1 x2 x3 x4 x5 x6 x7 x8) (k0_pay49 x0 x1 x2 x3 x4 x5 x6 x7 x8) (k0_pay51 x0 x1 x2 x3 x4 x5 x6 x7 x8) (k0_pay53 x0 x1 x2 x3 x4 x5 x6 x7 x8) (k0_pay54 x0 x1 x2 x3 x4 x5 x6 x7 x8) (k0_pay55 x0 x1 x2 x3 x4 x5 x6 x7 x8) (k0_pay56 x0 x1 x2 x3 x4 x5 x6 x7 x8) (k0_pay58 x0 x1 x2 x3 x4 x5 x6 x7 x8) (k0_pay60 x0 x1 x2 x3 x4 x5 x6 x7 x8) (k0_pay61 x0 x1 x2 x3 x4 x5 x6 x7 x8) (k0_pay62 x0 x1 x2 x3 x4 x5 x6 x7 x8) (k0_pay63 x0 x1 x2 x3 x4 x5 x6 x7 x8) (k0_pay64 x0 x1 x2 x3 x4 x5 x6 x7 x8) (k0_pay65 x0 x1 x2 x3 x4 x5 x6 x7 x8) (ix3 g 0 p) = a.dar g p := by
  pointwise [k0_pay41, dExp_eq h, dDen_eq h, dTopRe_eq h, dTopIm_eq h, im_eq h, re_eq h, ar_eq h, dt_eq h]
  rfl

theorem re_negTopIm_eq (g : Fin 32) (p : Fin 64) : k0_pay33 (F := Ideal) (k0_pay45 x0 x1 x2 x3 x4 x5 x6 x7 x8) (k0_pay46 x0 x1 x2 x3 x4 x5 x6 x7 x8) (k0_pay54 x0 x1 x2 x3 x4 x5 x6 x7 x8) (k0_pay55 x0 x1 x2 x3 x4 x5 x6 x7 x8) (View.ld x7 r0_2) (View.ld x8 r0_2) (ix3 g 0 p) = a.re g p * -a.dTopIm g p := by
  pointwise [k0_pay33, k0_pay32, k0_pay31, zero_sub_eq, dQuotIm_eq h, den_eq h, re_eq h]
  rfl

theorem dai_eq (g : Fin 32) (p : Fin 64) : k0_pay39 (F := Ideal) (k0_pay43 x0 x1 x2 x3 x4 x5 x6 x7 x8) (k0_pay44 x0 x1 x2 x3 x4 x5 x6 x7 x8) (k0_pay47 x0 x1 x2 x3 x4 x5 x6 x7 x8) (k0_pay48 x0 x1 x2 x3 x4 x5 x6 x7 x8) (k0_pay50 x0 x1 x2 x3 x4 x5 x6 x7 x8) (k0_pay52 x0 x1 x2 x3 x4 x5 x6 x7 x8) (k0_pay53 x0 x1 x2 x3 x4 x5 x6 x7 x8) (k0_pay54 x0 x1 x2 x3 x4 x5 x6 x7 x8) (k0_pay56 x0 x1 x2 x3 x4 x5 x6 x7 x8) (k0_pay58 x0 x1 x2 x3 x4 x5 x6 x7 x8) (k0_pay60 x0 x1 x2 x3 x4 x5 x6 x7 x8) (k0_pay61 x0 x1 x2 x3 x4 x5 x6 x7 x8) (k0_pay62 x0 x1 x2 x3 x4 x5 x6 x7 x8) (k0_pay63 x0 x1 x2 x3 x4 x5 x6 x7 x8) (k0_pay64 x0 x1 x2 x3 x4 x5 x6 x7 x8) (k0_pay65 x0 x1 x2 x3 x4 x5 x6 x7 x8) (k0_pay33 (k0_pay45 x0 x1 x2 x3 x4 x5 x6 x7 x8) (k0_pay46 x0 x1 x2 x3 x4 x5 x6 x7 x8) (k0_pay54 x0 x1 x2 x3 x4 x5 x6 x7 x8) (k0_pay55 x0 x1 x2 x3 x4 x5 x6 x7 x8) (View.ld x7 r0_2) (View.ld x8 r0_2)) (ix3 g 0 p) = a.dai g p := by
  pointwise [k0_pay39, dAng_eq h, dDen_eq h, dTopRe_eq h, re_negTopIm_eq h, im_eq h, ai_eq h, dt_eq h]
  rfl

theorem dld_eq (g : Fin 32) : k0_pay42 (F := Ideal) (k0_pay43 x0 x1 x2 x3 x4 x5 x6 x7 x8) (k0_pay44 x0 x1 x2 x3 x4 x5 x6 x7 x8) (k0_pay47 x0 x1 x2 x3 x4 x5 x6 x7 x8) (k0_pay48 x0 x1 x2 x3 x4 x5 x6 x7 x8) (k0_pay49 x0 x1 x2 x3 x4 x5 x6 x7 x8) (k0_pay50 x0 x1 x2 x3 x4 x5 x6 x7 x8) (k0_pay51 x0 x1 x2 x3 x4 x5 x6 x7 x8) (k0_pay52 x0 x1 x2 x3 x4 x5 x6 x7 x8) (k0_pay54 x0 x1 x2 x3 x4 x5 x6 x7 x8) (k0_pay60 x0 x1 x2 x3 x4 x5 x6 x7 x8) (k0_pay61 x0 x1 x2 x3 x4 x5 x6 x7 x8) (k0_pay62 x0 x1 x2 x3 x4 x5 x6 x7 x8) (k0_pay64 x0 x1 x2 x3 x4 x5 x6 x7 x8) (k0_pay65 x0 x1 x2 x3 x4 x5 x6 x7 x8) (ix3 g 0 0) = a.dld g := by
  pointwise [k0_pay42, dAng_eq h, dExp_eq h, ar_eq h, ai_eq h, dt_eq h]
  rfl

theorem dbr_eq (g : Fin 32) (p : Fin 64) (k : Fin 16) : k0_pay28 (F := Ideal) (k0_pay57 x0 x1 x2 x3 x4 x5 x6 x7 x8) (k0_pay59 x0 x1 x2 x3 x4 x5 x6 x7 x8) (View.ld x7 r0_2) (View.ld x8 r0_2) (ix3 g k p) = a.dbr g p k := by
  pointwise [k0_pay28, k0_pay24, k0_pay23, ld_mat, h.gr, h.gi, quotRe_eq h, quotIm_eq h]
  rfl

theorem dbi_eq (g : Fin 32) (p : Fin 64) (k : Fin 16) : k0_pay26 (F := Ideal) (k0_pay57 x0 x1 x2 x3 x4 x5 x6 x7 x8) (k0_pay59 x0 x1 x2 x3 x4 x5 x6 x7 x8) (View.ld x7 r0_2) (View.ld x8 r0_2) (ix3 g k p) = a.dbi g p k := by
  pointwise [k0_pay26, k0_pay25, k0_pay24, k0_pay23, ld_mat, h.gr, h.gi, zero_sub_eq, quotRe_eq h, quotIm_eq h]
  rfl

end Block

end Cert.Disc.Kernel

end
-- ==== Proof.Disc.Kernel.lean ====
/-
  What the kernel of the discretisation's gradient leaves in its five results, from the program's arguments: the host lays
  a group's states along the lanes, and the one point of the call holds whole arrays.
-/
module

public import proofs.«01_k».proof.Proof.Disc.Block

@[expose] public section

set_option maxRecDepth 16384

noncomputable section

namespace Cert.Disc.Kernel

open Idealize.ShloMosaic Idealize.SL.Sem Cert.DiscKIdeal Cert.DiscKIdeal.Gen
open Idealize.ShloMosaic.TcCoe
open Idealize.ShloMosaic.Pipeline (Dat)

variable (m : (ℓ : Loc nD τ sig) → Buf (Elt Ideal) ℓ) (ρ : Dev nD → PrngReg) (c : Dev nD)

/-- The program's arguments on this device. -/
abbrev given : Args := args (m (c, Proc.tc.devRef main_arg0)) (m (c, Proc.tc.devRef main_arg1)) (m (c, Proc.tc.devRef main_arg2))
  (m (c, Proc.tc.devRef main_arg3)) (m (c, Proc.tc.devRef main_arg4)) (m (c, Proc.tc.devRef main_arg5))
  (m (c, Proc.tc.devRef main_arg6)) (m (c, Proc.tc.devRef main_arg7)) (m (c, Proc.tc.devRef main_arg8))

theorem idx : ∀ t : Fin cfg0.N, win0_0.index t = ![0, 0, 0] ∧ win0_1.index t = ![0, 0, 0] ∧ win0_2.index t = ![0, 0, 0] ∧ win0_3.index t = ![0, 0, 0]
      ∧ win0_4.index t = ![0, 0, 0] ∧ win0_5.index t = ![0, 0, 0] ∧ win0_6.index t = ![0, 0, 0] ∧ win0_7.index t = ![0, 0, 0]
      ∧ win0_8.index t = ![0, 0, 0] ∧ win0_9.index t = ![0, 0, 0] ∧ win0_10.index t = ![0, 0, 0] ∧ win0_11.index t = ![0, 0, 0]
      ∧ win0_12.index t = ![0, 0, 0] ∧ win0_13.index t = ![0, 0, 0] :=
  (by decide +kernel : ∀ t : Fin grid0.N, _)

theorem emb9 (t : Fin cfg0.N) (g : Fin 32) (p : Fin 64) :
    ((View.whole main_v9_0).slice (win0_9.rect t)).emb (ix3 g 0 p) = ix3 g 0 p := by
  blk_ext [idx t]
theorem emb10 (t : Fin cfg0.N) (g : Fin 32) (p : Fin 64) :
    ((View.whole main_v9_1).slice (win0_10.rect t)).emb (ix3 g 0 p) = ix3 g 0 p := by
  blk_ext [idx t]
theorem emb11 (t : Fin cfg0.N) (g : Fin 32) :
    ((View.whole main_v9_2).slice (win0_11.rect t)).emb (ix3 g 0 0) = ix3 g 0 0 := by
  blk_ext [idx t]
theorem emb12 (t : Fin cfg0.N) (g : Fin 32) (p : Fin 64) (k : Fin 16) :
    ((View.whole main_v9_3).slice (win0_12.rect t)).emb (ix3 g k p) = ix3 g k p := by
  blk_ext [idx t]
theorem emb13 (t : Fin cfg0.N) (g : Fin 32) (p : Fin 64) (k : Fin 16) :
    ((View.whole main_v9_4).slice (win0_13.rect t)).emb (ix3 g k p) = ix3 g k p := by
  blk_ext [idx t]

set_option maxHeartbeats 2000000 in  -- nine arrays read through the host's lines
/-- The kernel's blocks hold the arguments. -/
theorem holds (t : Fin cfg0.N) : Holds (iblk m c 0 t) (iblk m c 1 t) (iblk m c 2 t) (iblk m c 3 t) (iblk m c 4 t) (iblk m c 5 t)
    (iblk m c 6 t) (iblk m c 7 t) (iblk m c 8 t) (given m c) where
  ar g p := by
    have e : V m c main_v0 (ix3 g 0 p) = (given m c).ar g p := by unfold V; after_reads_at; rfl
    rw [← e]; blk_ext [iblk, idx t]
  ai g p := by
    have e : V m c main_v1 (ix3 g 0 p) = (given m c).ai g p := by unfold V; after_reads_at; rfl
    rw [← e]; blk_ext [iblk, idx t]
  ld g := by
    have e : V m c main_v2 (ix3 g 0 0) = (given m c).ld g := by unfold V; after_reads_at; rfl
    rw [← e]; blk_ext [iblk, idx t]
  br g p k := by
    have e : V m c main_v3 (ix3 g k p) = (given m c).br g p k := by unfold V; after_reads_at; rfl
    rw [← e]; blk_ext [iblk, idx t]
  bi g p k := by
    have e : V m c main_v4 (ix3 g k p) = (given m c).bi g p k := by unfold V; after_reads_at; rfl
    rw [← e]; blk_ext [iblk, idx t]
  lr g p := by
    have e : V m c main_v5 (ix3 g 0 p) = (given m c).lr g p := by unfold V; after_reads_at; rfl
    rw [← e]; blk_ext [iblk, idx t]
  li g p := by
    have e : V m c main_v6 (ix3 g 0 p) = (given m c).li g p := by unfold V; after_reads_at; rfl
    rw [← e]; blk_ext [iblk, idx t]
  gr g p k := by
    have e : V m c main_v7 (ix3 g k p) = (given m c).gr g p k := by unfold V; after_reads_at; rfl
    rw [← e]; blk_ext [iblk, idx t]
  gi g p k := by
    have e : V m c main_v8 (ix3 g k p) = (given m c).gi g p k := by unfold V; after_reads_at; rfl
    rw [← e]; blk_ext [iblk, idx t]

/-! The five results. -/

theorem final_dar : (dats m 0 c).arrAt 9 cfg0.N = (given m c).darArr := by
  refine (dats m 0 c).arrAt_eq_of_covers 9 _ (by decide +kernel) fun t hf y => ?_
  blk_simp
  rw [after0_9, out0_9, View.canon_cons_unit_lit _ _ _ (by decide)]
  idx_vars y
  obtain rfl : y1 = 0 := Subsingleton.elim _ _
  rw [emb9]
  exact dar_eq (holds m c t) y0 y2

theorem final_dai : (dats m 0 c).arrAt 10 cfg0.N = (given m c).daiArr := by
  refine (dats m 0 c).arrAt_eq_of_covers 10 _ (by decide +kernel) fun t hf y => ?_
  blk_simp
  rw [after0_10, out0_10, View.canon_cons_unit_lit _ _ _ (by decide)]
  idx_vars y
  obtain rfl : y1 = 0 := Subsingleton.elim _ _
  rw [emb10]
  exact dai_eq (holds m c t) y0 y2

theorem final_dld : (dats m 0 c).arrAt 11 cfg0.N = (given m c).dldArr := by
  refine (dats m 0 c).arrAt_eq_of_covers 11 _ (by decide +kernel) fun t hf y => ?_
  blk_simp
  rw [after0_11, out0_11, View.canon_cons_unit_lit _ _ _ (by decide)]
  idx_vars y
  obtain rfl : y1 = 0 := Subsingleton.elim _ _
  obtain rfl : y2 = 0 := Subsingleton.elim _ _
  rw [emb11]
  exact dld_eq (holds m c t) y0

theorem final_dbr : (dats m 0 c).arrAt 12 cfg0.N = (given m c).dbrArr := by
  refine (dats m 0 c).arrAt_eq_of_covers 12 _ (by decide +kernel) fun t hf y => ?_
  blk_simp
  rw [after0_12, out0_12, View.canon_cons_unit_lit _ _ _ (by decide)]
  idx_vars y
  rw [emb12]
  exact dbr_eq (holds m c t) y0 y2 y1

theorem final_dbi : (dats m 0 c).arrAt 13 cfg0.N = (given m c).dbiArr := by
  refine (dats m 0 c).arrAt_eq_of_covers 13 _ (by decide +kernel) fun t hf y => ?_
  blk_simp
  rw [after0_13, out0_13, View.canon_cons_unit_lit _ _ _ (by decide)]
  idx_vars y
  rw [emb13]
  exact dbi_eq (holds m c t) y0 y2 y1

/-- The call's run: the five results' arrays, and the arguments as given. -/
theorem run_arrays : θ_run defs (onTc (τ := τ) (main (F := Ideal))) ⟨m, fun _ => 0, ρ⟩ fun r => ∀ c : Dev nD,
      r.2.mem ((c : Thread nD τ).loc main_v9_0) = (dats m 0 c).arrAt 9 cfg0.N
      ∧ r.2.mem ((c : Thread nD τ).loc main_v9_1) = (dats m 0 c).arrAt 10 cfg0.N
      ∧ r.2.mem ((c : Thread nD τ).loc main_v9_2) = (dats m 0 c).arrAt 11 cfg0.N
      ∧ r.2.mem ((c : Thread nD τ).loc main_v9_3) = (dats m 0 c).arrAt 12 cfg0.N
      ∧ r.2.mem ((c : Thread nD τ).loc main_v9_4) = (dats m 0 c).arrAt 13 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c =>
    ⟨(h c).1 9, (h c).1 10, (h c).1 11, (h c).1 12, (h c).1 13,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩)
    (run_main (F := Ideal) m ρ)

end Cert.Disc.Kernel

end
-- ==== Proof.Disc.Reference.lean ====
/-
  What the reference of the discretisation's gradient computes: the spelled out gradients, state by state.
-/
module

public import proofs.«01_k».proof.Proof.Gen.DiscRIdeal.Read
public import proofs.«01_k».proof.Proof.Disc.Spec

@[expose] public section

set_option maxRecDepth 16384

noncomputable section

namespace Cert.Disc.Reference

open Idealize.ShloMosaic Cert.DiscRIdeal Cert.DiscRIdeal.Gen Cert.DiscRIdeal.Read Cert.Reals

variable (x0 x1 : FVec Ideal ⟨2, ![32, 64]⟩ .f32) (x2 : FVec Ideal ⟨1, ![32]⟩ .f32) (x3 x4 : FVec Ideal ⟨3, ![32, 64, 16]⟩ .f32)
  (x5 x6 : FVec Ideal ⟨2, ![32, 64]⟩ .f32) (x7 x8 : FVec Ideal ⟨3, ![32, 64, 16]⟩ .f32) (g : Fin 32) (p : Fin 64) (k : Fin 16)

/-! The forward values. -/

theorem mag_eq : val_main_v4 (F := Ideal) x0 x2 (ix2 g p) = (args x0 x1 x2 x3 x4 x5 x6 x7 x8).mag g p := by
  pointwise [val_main_v4, val_main_v3, val_main_v2, val_main_v1, val_main_v0]
  rfl

theorem cos_eq : val_main_v7 (F := Ideal) x1 x2 (ix2 g p) = (args x0 x1 x2 x3 x4 x5 x6 x7 x8).cos g p := by
  pointwise [val_main_v7, val_main_v6, val_main_v5, val_main_v1, val_main_v0]
  rfl

theorem cos'_eq : val_main_v11 (F := Ideal) x1 x2 (ix2 g p) = (args x0 x1 x2 x3 x4 x5 x6 x7 x8).cos g p := by
  pointwise [val_main_v11, val_main_v6, val_main_v5, val_main_v1, val_main_v0]
  rfl

theorem sin_eq : val_main_v8 (F := Ideal) x1 x2 (ix2 g p) = (args x0 x1 x2 x3 x4 x5 x6 x7 x8).sin g p := by
  pointwise [val_main_v8, val_main_v6, val_main_v5, val_main_v1, val_main_v0]
  rfl

theorem sin'_eq : val_main_v10 (F := Ideal) x1 x2 (ix2 g p) = (args x0 x1 x2 x3 x4 x5 x6 x7 x8).sin g p := by
  pointwise [val_main_v10, val_main_v6, val_main_v5, val_main_v1, val_main_v0]
  rfl

theorem im_eq : val_main_v12 (F := Ideal) x0 x1 x2 (ix2 g p) = (args x0 x1 x2 x3 x4 x5 x6 x7 x8).im g p := by
  pointwise [val_main_v12, mag_eq x0 x1 x2 x3 x4 x5 x6 x7 x8, sin'_eq x0 x1 x2 x3 x4 x5 x6 x7 x8]
  rfl

theorem re_eq : val_main_v17 (F := Ideal) x0 x1 x2 (ix2 g p) = (args x0 x1 x2 x3 x4 x5 x6 x7 x8).re g p := by
  pointwise [val_main_v17, val_main_v9, val_main_v16, val_main_cst, mag_eq x0 x1 x2 x3 x4 x5 x6 x7 x8, cos_eq x0 x1 x2 x3 x4 x5 x6 x7 x8]
  rfl

theorem den_eq : val_main_v15 (F := Ideal) x0 x1 (ix2 g p) = (args x0 x1 x2 x3 x4 x5 x6 x7 x8).den g p := by
  pointwise [val_main_v15, val_main_v13, val_main_v14]
  rfl

theorem topRe_eq : val_main_v20 (F := Ideal) x0 x1 x2 (ix2 g p) = (args x0 x1 x2 x3 x4 x5 x6 x7 x8).topRe g p := by
  pointwise [val_main_v20, val_main_v18, val_main_v19, re_eq x0 x1 x2 x3 x4 x5 x6 x7 x8, im_eq x0 x1 x2 x3 x4 x5 x6 x7 x8]
  rfl

theorem topIm_eq : val_main_v27 (F := Ideal) x0 x1 x2 (ix2 g p) = (args x0 x1 x2 x3 x4 x5 x6 x7 x8).topIm g p := by
  pointwise [val_main_v27, val_main_v25, val_main_v26, re_eq x0 x1 x2 x3 x4 x5 x6 x7 x8, im_eq x0 x1 x2 x3 x4 x5 x6 x7 x8]
  rfl

theorem quotRe_eq : val_main_v21 (F := Ideal) x0 x1 x2 (ix2 g p) = (args x0 x1 x2 x3 x4 x5 x6 x7 x8).quotRe g p := by
  pointwise [val_main_v21, topRe_eq x0 x1 x2 x3 x4 x5 x6 x7 x8, den_eq x0 x1 x2 x3 x4 x5 x6 x7 x8]
  rfl

theorem quotIm_eq : val_main_v28 (F := Ideal) x0 x1 x2 (ix2 g p) = (args x0 x1 x2 x3 x4 x5 x6 x7 x8).quotIm g p := by
  pointwise [val_main_v28, topIm_eq x0 x1 x2 x3 x4 x5 x6 x7 x8, den_eq x0 x1 x2 x3 x4 x5 x6 x7 x8]
  rfl

theorem invSq_eq : val_main_v24 (F := Ideal) x0 x1 (ix2 g p) = (args x0 x1 x2 x3 x4 x5 x6 x7 x8).invSq g p := by
  pointwise [val_main_v24, val_main_v22, val_main_v23, val_main_cst_0, den_eq x0 x1 x2 x3 x4 x5 x6 x7 x8]
  rfl

theorem invSq'_eq : val_main_v31 (F := Ideal) x0 x1 (ix2 g p) = (args x0 x1 x2 x3 x4 x5 x6 x7 x8).invSq g p := by
  pointwise [val_main_v31, val_main_v29, val_main_v30, val_main_cst_1, den_eq x0 x1 x2 x3 x4 x5 x6 x7 x8]
  rfl

/-! What is passed back. -/

theorem dQuotRe_eq : val_main_v77 (F := Ideal) x3 x4 x7 x8 (ix2 g p) = (args x0 x1 x2 x3 x4 x5 x6 x7 x8).dQuotRe g p := by
  pointwise [val_main_v77, val_main_v59, val_main_v58, val_main_v57, val_main_v56, val_main_v46, val_main_v76, val_main_v75, val_main_v74, val_main_v73, val_main_v60, val_main_cst_4, val_main_cst_5, val_main_cst_8, val_main_cst_9, Fin.sum_univ_one]
  rfl

theorem dQuotIm_eq : val_main_v69 (F := Ideal) x3 x4 x7 x8 (ix2 g p) = (args x0 x1 x2 x3 x4 x5 x6 x7 x8).dQuotIm g p := by
  pointwise [val_main_v69, val_main_v53, val_main_v52, val_main_v51, val_main_v50, val_main_v47, val_main_v68, val_main_v67, val_main_v66, val_main_v65, val_main_v61, val_main_cst_2, val_main_cst_3, val_main_cst_6, val_main_cst_7, Fin.sum_univ_one]
  rfl

theorem dTopRe_eq : val_main_v93 (F := Ideal) x0 x1 x3 x4 x7 x8 (ix2 g p) = (args x0 x1 x2 x3 x4 x5 x6 x7 x8).dTopRe g p := by
  pointwise [val_main_v93, dQuotRe_eq x0 x1 x2 x3 x4 x5 x6 x7 x8, den_eq x0 x1 x2 x3 x4 x5 x6 x7 x8]
  rfl

theorem dTopIm_eq : val_main_v81 (F := Ideal) x0 x1 x3 x4 x7 x8 (ix2 g p) = (args x0 x1 x2 x3 x4 x5 x6 x7 x8).dTopIm g p := by
  pointwise [val_main_v81, dQuotIm_eq x0 x1 x2 x3 x4 x5 x6 x7 x8, den_eq x0 x1 x2 x3 x4 x5 x6 x7 x8]
  rfl

theorem dDen_eq : val_main_v92 (F := Ideal) x0 x1 x2 x3 x4 x7 x8 (ix2 g p) = (args x0 x1 x2 x3 x4 x5 x6 x7 x8).dDen g p := by
  pointwise [val_main_v92, val_main_v80, val_main_v79, val_main_v78, val_main_v91, val_main_v90, val_main_v89, dQuotRe_eq x0 x1 x2 x3 x4 x5 x6 x7 x8, dQuotIm_eq x0 x1 x2 x3 x4 x5 x6 x7 x8, invSq_eq x0 x1 x2 x3 x4 x5 x6 x7 x8, invSq'_eq x0 x1 x2 x3 x4 x5 x6 x7 x8, topRe_eq x0 x1 x2 x3 x4 x5 x6 x7 x8, topIm_eq x0 x1 x2 x3 x4 x5 x6 x7 x8]
  rfl

theorem dIm_eq : val_main_v97 (F := Ideal) x0 x1 x3 x4 x6 x7 x8 (ix2 g p) = (args x0 x1 x2 x3 x4 x5 x6 x7 x8).dIm g p := by
  pointwise [val_main_v97, val_main_v88, val_main_v87, val_main_v96, dTopRe_eq x0 x1 x2 x3 x4 x5 x6 x7 x8, dTopIm_eq x0 x1 x2 x3 x4 x5 x6 x7 x8]
  rfl

theorem dRe_eq : val_main_v101 (F := Ideal) x0 x1 x3 x4 x5 x7 x8 (ix2 g p) = (args x0 x1 x2 x3 x4 x5 x6 x7 x8).dRe g p := by
  pointwise [val_main_v101, val_main_v85, val_main_v84, val_main_v82, val_main_v100, dTopRe_eq x0 x1 x2 x3 x4 x5 x6 x7 x8, dTopIm_eq x0 x1 x2 x3 x4 x5 x6 x7 x8]
  rfl

theorem dAng_eq : val_main_v118 (F := Ideal) x0 x1 x2 x3 x4 x5 x6 x7 x8 (ix2 g p) = (args x0 x1 x2 x3 x4 x5 x6 x7 x8).dAng g p := by
  pointwise [val_main_v118, val_main_v112, val_main_v110, val_main_v117, val_main_v116, val_main_v113, mag_eq x0 x1 x2 x3 x4 x5 x6 x7 x8, dIm_eq x0 x1 x2 x3 x4 x5 x6 x7 x8, dRe_eq x0 x1 x2 x3 x4 x5 x6 x7 x8, cos'_eq x0 x1 x2 x3 x4 x5 x6 x7 x8, sin_eq x0 x1 x2 x3 x4 x5 x6 x7 x8]
  rfl

theorem dExp_eq : val_main_v125 (F := Ideal) x0 x1 x2 x3 x4 x5 x6 x7 x8 (ix2 g p) = (args x0 x1 x2 x3 x4 x5 x6 x7 x8).dExp g p := by
  pointwise [val_main_v125, val_main_v115, val_main_v111, val_main_v114, dIm_eq x0 x1 x2 x3 x4 x5 x6 x7 x8, dRe_eq x0 x1 x2 x3 x4 x5 x6 x7 x8, sin'_eq x0 x1 x2 x3 x4 x5 x6 x7 x8, cos_eq x0 x1 x2 x3 x4 x5 x6 x7 x8, mag_eq x0 x1 x2 x3 x4 x5 x6 x7 x8]
  rfl

/-! The five gradients. -/

theorem dar_eq : val_main_v132 (F := Ideal) x0 x1 x2 x3 x4 x5 x6 x7 x8 (ix2 g p) = (args x0 x1 x2 x3 x4 x5 x6 x7 x8).dar g p := by
  pointwise [val_main_v132, val_main_v109, val_main_v107, val_main_v99, val_main_v86, val_main_v98, val_main_v106, val_main_v108, val_main_v131, val_main_v130, val_main_v1, val_main_v0, im_eq x0 x1 x2 x3 x4 x5 x6 x7 x8, re_eq x0 x1 x2 x3 x4 x5 x6 x7 x8, dTopRe_eq x0 x1 x2 x3 x4 x5 x6 x7 x8, dTopIm_eq x0 x1 x2 x3 x4 x5 x6 x7 x8, dDen_eq x0 x1 x2 x3 x4 x5 x6 x7 x8, dExp_eq x0 x1 x2 x3 x4 x5 x6 x7 x8]
  rfl

theorem dai_eq : val_main_v124 (F := Ideal) x0 x1 x2 x3 x4 x5 x6 x7 x8 (ix2 g p) = (args x0 x1 x2 x3 x4 x5 x6 x7 x8).dai g p := by
  pointwise [val_main_v124, val_main_v105, val_main_v103, val_main_v95, val_main_v83, val_main_v82, val_main_v94, val_main_v102, val_main_v104, val_main_v123, val_main_v122, val_main_v1, val_main_v0, im_eq x0 x1 x2 x3 x4 x5 x6 x7 x8, re_eq x0 x1 x2 x3 x4 x5 x6 x7 x8, dTopRe_eq x0 x1 x2 x3 x4 x5 x6 x7 x8, dTopIm_eq x0 x1 x2 x3 x4 x5 x6 x7 x8, dDen_eq x0 x1 x2 x3 x4 x5 x6 x7 x8, dAng_eq x0 x1 x2 x3 x4 x5 x6 x7 x8]
  rfl

theorem dld_eq : val_main_v134 (F := Ideal) x0 x1 x2 x3 x4 x5 x6 x7 x8 (ix1 g) = (args x0 x1 x2 x3 x4 x5 x6 x7 x8).dld g := by
  pointwise [val_main_v134, val_main_v133, val_main_v129, val_main_v121, val_main_v120, val_main_v119, val_main_v128, val_main_v127, val_main_v126, val_main_v0, val_main_cst_10, val_main_cst_11, val_main_cst_12, Fin.sum_univ_one, dAng_eq x0 x1 x2 x3 x4 x5 x6 x7 x8, dExp_eq x0 x1 x2 x3 x4 x5 x6 x7 x8]
  rfl

theorem dbr_eq : val_main_v72 (F := Ideal) x0 x1 x2 x7 x8 (ix3 g p k) = (args x0 x1 x2 x3 x4 x5 x6 x7 x8).dbr g p k := by
  pointwise [val_main_v72, val_main_v49, val_main_v48, val_main_v47, val_main_v42, val_main_v71, val_main_v70, val_main_v60, val_main_v32, quotRe_eq x0 x1 x2 x3 x4 x5 x6 x7 x8, quotIm_eq x0 x1 x2 x3 x4 x5 x6 x7 x8]
  rfl

theorem dbi_eq : val_main_v64 (F := Ideal) x0 x1 x2 x7 x8 (ix3 g p k) = (args x0 x1 x2 x3 x4 x5 x6 x7 x8).dbi g p k := by
  pointwise [val_main_v64, val_main_v55, val_main_v54, val_main_v46, val_main_v39, val_main_v63, val_main_v62, val_main_v61, val_main_v35, quotRe_eq x0 x1 x2 x3 x4 x5 x6 x7 x8, quotIm_eq x0 x1 x2 x3 x4 x5 x6 x7 x8]
  rfl

/-! The five results. -/

theorem dar_result : val_main_v135 (F := Ideal) x0 x1 x2 x3 x4 x5 x6 x7 x8 = (args x0 x1 x2 x3 x4 x5 x6 x7 x8).darArr := by
  funext i
  idx_vars i
  pointwise [Args.darArr, val_main_v135, dar_eq x0 x1 x2 x3 x4 x5 x6 x7 x8]

theorem dai_result : val_main_v136 (F := Ideal) x0 x1 x2 x3 x4 x5 x6 x7 x8 = (args x0 x1 x2 x3 x4 x5 x6 x7 x8).daiArr := by
  funext i
  idx_vars i
  pointwise [Args.daiArr, val_main_v136, dai_eq x0 x1 x2 x3 x4 x5 x6 x7 x8]

theorem dld_result : val_main_v137 (F := Ideal) x0 x1 x2 x3 x4 x5 x6 x7 x8 = (args x0 x1 x2 x3 x4 x5 x6 x7 x8).dldArr := by
  funext i
  idx_vars i
  pointwise [Args.dldArr, val_main_v137, dld_eq x0 x1 x2 x3 x4 x5 x6 x7 x8]

theorem dbr_result : val_main_v138 (F := Ideal) x0 x1 x2 x7 x8 = (args x0 x1 x2 x3 x4 x5 x6 x7 x8).dbrArr := by
  funext i
  idx_vars i
  pointwise [Args.dbrArr, val_main_v138, dbr_eq x0 x1 x2 x3 x4 x5 x6 x7 x8]

theorem dbi_result : val_main_v139 (F := Ideal) x0 x1 x2 x7 x8 = (args x0 x1 x2 x3 x4 x5 x6 x7 x8).dbiArr := by
  funext i
  idx_vars i
  pointwise [Args.dbiArr, val_main_v139, dbi_eq x0 x1 x2 x3 x4 x5 x6 x7 x8]

end Cert.Disc.Reference

end
-- ==== Proof.Disc.Claims.lean ====
/-
  The claims about the gradient of the state space's discretisation: its runs end quietly with the arguments unchanged, and
  on all arguments it returns the gradients that differentiating the discretisation gives.
-/
module

public import proofs.«01_k».proof.Defs
public import proofs.«01_k».proof.Proof.Gen.DiscK.Frame
public import proofs.«01_k».proof.Proof.Gen.DiscRIdeal.Run
public import proofs.«01_k».proof.Proof.Disc.Kernel
public import proofs.«01_k».proof.Proof.Disc.Reference
public import Idealize.ShloMosaic.Lib.Quiescent

@[expose] public section

set_option maxRecDepth 16384

noncomputable section

namespace Cert.Disc.Claims

open Idealize.ShloMosaic Idealize.SL.Sem

theorem frame_kernel : Cert.quiescent_DiscK := fun m ρ _ => Cert.DiscK.Gen.frame m ρ
theorem frame_ideal : Cert.quiescent_DiscKIdeal := fun m ρ _ => Cert.DiscKIdeal.Gen.frame m ρ
theorem frame_reference : Cert.quiescent_DiscRIdeal := fun m ρ _ =>
  (θ_run Cert.DiscRIdeal.defs _ _).mono
    (fun r h => ⟨fun c => (h c).2.2.2.2.2, sem_eq_zero_of_no_sems (by decide) r.2⟩)
    (Cert.DiscRIdeal.Value.run (F := Ideal) m ρ)
theorem preserves : Cert.preserves_DiscK_DiscKIdeal := trivial

theorem algebraic : Cert.algebraic_DiscKIdeal_DiscRIdeal := by
  intro m ρ m' ρ' _ hagree
  let a := fun c => Kernel.given m c
  refine ⟨fun c => (a c).darArr, fun c => (a c).daiArr, fun c => (a c).dldArr, fun c => (a c).dbrArr, fun c => (a c).dbiArr, ?_, ?_⟩
  · exact (θ_run Cert.DiscKIdeal.defs _ _).mono
      (fun r h c => ⟨(h c).1.trans (Kernel.final_dar m c), (h c).2.1.trans (Kernel.final_dai m c), (h c).2.2.1.trans (Kernel.final_dld m c),
        (h c).2.2.2.1.trans (Kernel.final_dbr m c), (h c).2.2.2.2.1.trans (Kernel.final_dbi m c), (h c).2.2.2.2.2⟩)
      (Kernel.run_arrays m ρ)
  · refine (θ_run Cert.DiscRIdeal.defs _ _).mono (fun r h c => ?_) (Cert.DiscRIdeal.Value.run (F := Ideal) m' ρ')
    obtain ⟨e0, e1, e2, e3, e4, e5, e6, e7, e8⟩ := hagree c
    have e : args (m' (c, Proc.tc.devRef Cert.DiscRIdeal.main_arg0)) (m' (c, Proc.tc.devRef Cert.DiscRIdeal.main_arg1))
        (m' (c, Proc.tc.devRef Cert.DiscRIdeal.main_arg2)) (m' (c, Proc.tc.devRef Cert.DiscRIdeal.main_arg3))
        (m' (c, Proc.tc.devRef Cert.DiscRIdeal.main_arg4)) (m' (c, Proc.tc.devRef Cert.DiscRIdeal.main_arg5))
        (m' (c, Proc.tc.devRef Cert.DiscRIdeal.main_arg6)) (m' (c, Proc.tc.devRef Cert.DiscRIdeal.main_arg7))
        (m' (c, Proc.tc.devRef Cert.DiscRIdeal.main_arg8)) = a c := by
      show _ = Kernel.given m c
      rw [e0, e1, e2, e3, e4, e5, e6, e7, e8]
    exact ⟨((h c).1.trans (Cert.DiscRIdeal.Read.val_main_v135_eq _ _)).trans
        ((Reference.dar_result _ _ _ _ _ _ _ _ _).trans (congrArg Args.darArr e)),
      ((h c).2.1.trans (Cert.DiscRIdeal.Read.val_main_v136_eq _ _)).trans
        ((Reference.dai_result _ _ _ _ _ _ _ _ _).trans (congrArg Args.daiArr e)),
      ((h c).2.2.1.trans (Cert.DiscRIdeal.Read.val_main_v137_eq _ _)).trans
        ((Reference.dld_result _ _ _ _ _ _ _ _ _).trans (congrArg Args.dldArr e)),
      ((h c).2.2.2.1.trans (Cert.DiscRIdeal.Read.val_main_v138_eq _ _ _ _ _)).trans
        ((Reference.dbr_result _ _ _ _ _ _ _ _ _).trans (congrArg Args.dbrArr e)),
      ((h c).2.2.2.2.1.trans (Cert.DiscRIdeal.Read.val_main_v139_eq _ _ _ _ _)).trans
        ((Reference.dbi_result _ _ _ _ _ _ _ _ _).trans (congrArg Args.dbiArr e)),
      (h c).2.2.2.2.2⟩

end Cert.Disc.Claims

end
-- ==== Proof.Attend.Entry.lean ====
/-
  The arrays that the kernel of the attention reads, as real numbers: the queries, keys and values side by side, and the
  tables of the rotation.
-/
module

public import proofs.«01_k».proof.Proof.Gen.AttendKIdeal.Value
public import proofs.«01_k».proof.Proof.Attn.Entry

@[expose] public section
set_option maxRecDepth 16384
noncomputable section
namespace Cert.Attend.Kernel
open Idealize.ShloMosaic Idealize.SL.Sem Cert.AttendKIdeal Cert.AttendKIdeal.Gen
open Idealize.ShloMosaic.TcCoe
open Cert.Reals Cert.Attn Cert.Attn.Reference
open Cert.Attn.Kernel (table table_eq pairOf sgn)

variable (m : (ℓ : Loc nD τ sig) → Buf (Elt Ideal) ℓ) (c : Dev nD)

abbrev q : Wide := m (c, Proc.tc.devRef main_arg0)
abbrev k : Wide := m (c, Proc.tc.devRef main_arg1)
abbrev v : Wide := m (c, Proc.tc.devRef main_arg2)
abbrev pos : IVec ⟨2, ![4, 2048]⟩ 32 := m (c, Proc.tc.devRef main_arg3)

theorem cos_line : V m c main_v15 = Cert.AttnRIdeal.Read.val_main_v14 (F := Ideal) (pos m c) := by
  unfold V; after_reads_simp; rfl
theorem sin_line : V m c main_v16 = Cert.AttnRIdeal.Read.val_main_v15 (F := Ideal) (pos m c) := by
  unfold V; after_reads_simp; rfl
theorem cos_table : V m c main_v17 = table (V m c main_v15) (V m c main_v15) (V m c main_v15) (V m c main_v15) := by
  unfold V; after_reads_simp; rfl
theorem sin_table : V m c main_v19 = table (Host.negf (V m c main_v16)) (V m c main_v16) (Host.negf (V m c main_v16)) (V m c main_v16) := by
  unfold V; after_reads_simp; rfl

variable {m : (ℓ : Loc nD τ sig) → Buf (Elt Ideal) ℓ} {c : Dev nD} {x4 : Wide} {a : Args}
  (h : Holds (q m c) (k m c) (v m c) (pos m c) x4 a)
include h

theorem cos_entry (b : Fin 4) (t : Fin 2048) (l : Fin 128) : V m c main_v17 (ix3 b t l) = ((a.cos b t (pairOf l) : ℝ) : EReal) := by
  have e (b : Fin 4) (t : Fin 2048) (f : Fin 32) : V m c main_v15 (ix3 b t f) = ((a.cos b t f : ℝ) : EReal) := by
    rw [cos_line]; exact cos_eq h b t _
  rw [cos_table]
  refine (table_eq e e b t l).trans ?_
  rw [ite_self]

theorem sin_entry (b : Fin 4) (t : Fin 2048) (l : Fin 128) :
    V m c main_v19 (ix3 b t l) = ((sgn l * a.sin b t (pairOf l) : ℝ) : EReal) := by
  have e (b : Fin 4) (t : Fin 2048) (f : Fin 32) : V m c main_v16 (ix3 b t f) = ((a.sin b t f : ℝ) : EReal) := by
    rw [sin_line]; exact sin_eq h b t _
  have e' (b : Fin 4) (t : Fin 2048) (f : Fin 32) :
      Host.negf (F := Ideal) (φ := .f32) (V m c main_v16) (ix3 b t f) = ((-a.sin b t f : ℝ) : EReal) := by
    pointwise []
    rw [e, ← EReal.coe_neg]
  rw [sin_table]
  refine (table_eq e' e b t l).trans ?_
  unfold sgn
  split
  · rw [neg_one_mul]
  · rw [one_mul]

theorem q_entry (b : Fin 4) (t : Fin 2048) (j : Fin 512) : V m c main_v0 (ix3 b t ⟨j.val, by omega⟩) = ((a.q b t j : ℝ) : EReal) := by
  rw [← h.q]
  unfold V; after_reads_at
theorem k_entry (b : Fin 4) (t : Fin 2048) (j : Fin 512) : V m c main_v0 (ix3 b t ⟨512 + j.val, by omega⟩) = ((a.k b t j : ℝ) : EReal) := by
  rw [← h.k]
  unfold V; after_reads_at
theorem v_entry (b : Fin 4) (t : Fin 2048) (j : Fin 512) : V m c main_v0 (ix3 b t ⟨1024 + j.val, by omega⟩) = ((a.v b t j : ℝ) : EReal) := by
  rw [← h.v]
  unfold V; after_reads_at
  rw [dif_neg (by omega), dif_neg (by omega)]
  exact congrArg (fun j => v m c (ix3 b t j)) (Fin.ext (by dsimp only; omega))

end Cert.Attend.Kernel
end
-- ==== Proof.Attend.Scratch.lean ====
/-
  What the scratch buffers of the attention hold: the rows of queries, keys and values are regrouped by their residue
  modulo the dilation, and each branch's results are put back at the rows they belong to.
-/
module

public import proofs.«01_k».proof.Proof.Gen.AttendKIdeal.Frame
public import proofs.«01_k».proof.Proof.Attn.Rope

@[expose] public section
set_option maxRecDepth 16384
noncomputable section
namespace Cert.Attend.Scratch
open Idealize.ShloMosaic Cert.AttendKIdeal Cert.AttendKIdeal.Gen
open Cert.Attn.Scratch (canon_block copy_narrow copy_arg_narrow load_block)
open Idealize.ShloMosaic.TcCoe

/-! ## Slabs of a stack of three -/

section Slabs
variable {e : EltTy} {n o s i : ℕ} (G : ℕ → Fin 128 → Elt Ideal e) (k : Fin 3) (t : Fin 2048) (l : Fin 128)

/-- A write to another slab. -/
theorem slab_miss (R : Rect S3x2048x128) (p : R.shape.Idx → Elt Ideal e) (L : List (View.Piece (Elt Ideal) S3x2048x128 e))
    {v : Elt Ideal e} (h : R.off 0 ≠ k.val) (n0 : R.size 0 = 1) (hL : View.canon L (ix3 k t l) = v) :
    View.canon (⟨R, p⟩ :: L) (ix3 k t l) = v := by
  refine (View.canon_cons_of_not_mem _ _ fun hm => ?_).trans hL
  obtain ⟨m, hm, e⟩ := (LoadRect.mem_set _).mp hm 0
  rw [show R.toLoadRect.size 0 = 1 from n0] at hm
  obtain rfl : m = 0 := by omega
  rw [Nat.mul_zero] at e
  exact h e.symm

/-- A write of rows of the slab: off its rows the earlier writes stand. -/
theorem slab_rows (R : Rect S3x2048x128) (p : R.shape.Idx → Elt Ideal e) (L : List (View.Piece (Elt Ideal) S3x2048x128 e))
    (h0 : R.off 0 = k.val) (n0 : R.size 0 = 1) (h2 : R.off 2 = 0) (s2 : R.stride 2 = 1) (n2 : R.size 2 = 128)
    (hp : ∀ x : R.shape.Idx, p x = G (R.off 1 + R.stride 1 * (x 1).val) (R.emb x 2))
    (hL : (∀ m, m < R.size 1 → t.val ≠ R.off 1 + R.stride 1 * m) → View.canon L (ix3 k t l) = G t.val l) :
    View.canon (⟨R, p⟩ :: L) (ix3 k t l) = G t.val l := by
  by_cases h : (ix3 k t l : S3x2048x128.Idx) ∈ R.set
  · obtain ⟨x, hx⟩ := R.toLoadRect.exists_idx_of_mem h
    have e0 : R.off 1 + R.stride 1 * (x 1).val = t.val := congrArg (fun y : S3x2048x128.Idx => (y 1).val) hx
    have e1 : R.emb x 2 = l := congrFun hx 2
    have he : R.emb x = ix3 k t l := hx
    rw [← he, View.canon_cons_emb, hp x, e0, e1]
  · refine (View.canon_cons_of_not_mem _ _ h).trans (hL fun m hm hne => h ?_)
    refine R.toLoadRect.mem_set.mpr fun a => ?_
    match a with
    | ⟨0, _⟩ => exact ⟨0, n0.symm ▸ Nat.one_pos, by rw [show R.off ⟨0, _⟩ = k.val from h0]; simp⟩
    | ⟨1, _⟩ => exact ⟨m, hm, hne⟩
    | ⟨2, _⟩ => exact ⟨l.val, n2.symm ▸ l.isLt, by rw [show R.off ⟨2, _⟩ = 0 from h2, show R.stride ⟨2, _⟩ = 1 from s2]; simp⟩

/-- A write of `n` rows of the slab from row `o` on, `s` apart. -/
theorem slab_comb {inb pos} (p : (Rect.mk (s := S3x2048x128) ⟨![i, o, 0], Shape.size ⟨3, ![1, n, 128]⟩, ![1, s, 1], inb⟩ pos).shape.Idx → Elt Ideal e)
    (L : List (View.Piece (Elt Ideal) S3x2048x128 e)) (hi : i = k.val)
    (hp : ∀ (m : Fin n) (l : Fin 128), p (ix3 0 m l) = G (o + s * m.val) l)
    (hL : (∀ m, m < n → t.val ≠ o + s * m) → View.canon L (ix3 k t l) = G t.val l) :
    View.canon (⟨Rect.mk (s := S3x2048x128) ⟨![i, o, 0], Shape.size ⟨3, ![1, n, 128]⟩, ![1, s, 1], inb⟩ pos, p⟩ :: L) (ix3 k t l) = G t.val l := by
  refine slab_rows G k t l _ p L hi rfl rfl rfl rfl (fun x => ?_) hL
  have hx : x = ix3 (0 : Fin 1) (x 1 : Fin n) (x 2 : Fin 128) := by
    funext a
    match a with
    | ⟨0, _⟩ => exact Subsingleton.elim (α := Fin 1) _ _
    | ⟨1, _⟩ => rfl
    | ⟨2, _⟩ => rfl
  rw [hx]
  refine (hp _ _).trans (congrArg₂ G rfl (Fin.ext ?_))
  show (x 2).val = 0 + 1 * (x 2).val
  omega

theorem slab_block {inb} (p : (Rect.unit (s := S3x2048x128) ![i, o, 0] (Shape.size ⟨3, ![1, n, 128]⟩) inb).shape.Idx → Elt Ideal e)
    (L : List (View.Piece (Elt Ideal) S3x2048x128 e)) (hi : i = k.val)
    (hp : ∀ (m : Fin n) (l : Fin 128), p (ix3 0 m l) = G (o + m.val) l)
    (hL : ¬ (o ≤ t.val ∧ t.val < o + n) → View.canon L (ix3 k t l) = G t.val l) :
    View.canon (⟨Rect.unit (s := S3x2048x128) ![i, o, 0] (Shape.size ⟨3, ![1, n, 128]⟩) inb, p⟩ :: L) (ix3 k t l) = G t.val l := by
  refine slab_rows G k t l _ p L hi rfl rfl rfl rfl (fun x => ?_) fun h => hL fun h' => h (t.val - o) (show t.val - o < n by omega) ?_
  · have hx : x = ix3 (0 : Fin 1) (x 1 : Fin n) (x 2 : Fin 128) := by
      funext a
      match a with
      | ⟨0, _⟩ => exact Subsingleton.elim (α := Fin 1) _ _
      | ⟨1, _⟩ => rfl
      | ⟨2, _⟩ => rfl
    rw [hx]
    refine (hp _ _).trans (congrArg₂ G (show o + (x 1).val = o + 1 * (x 1).val by omega) (Fin.ext ?_))
    show (x 2).val = 0 + 1 * (x 2).val
    omega
  · show t.val = o + 1 * (t.val - o); omega

/-- A slab written whole. -/
theorem slab_whole {inb} (p : Vec Ideal S1x2048x128 e) (L : List (View.Piece (Elt Ideal) S3x2048x128 e)) :
    View.canon (⟨Rect.unit (s := S3x2048x128) ![0, 0, 0] S1x2048x128.size inb, p⟩ :: L) (ix3 0 t l) = p (ix3 0 t l) := by
  refine (slab_block (n := 2048) (o := 0) (fun r l => if h : r < 2048 then p (ix3 0 ⟨r, h⟩ l) else p (ix3 0 t l)) 0 t l p L rfl ?_
    fun h => absurd t.isLt (by omega)).trans ?_
  · intro m l
    rw [dif_pos (by omega)]
    exact congrArg p (congrArg₂ (ix3 0) (Fin.ext (by simp only []; omega)) rfl)
  · exact dif_pos t.isLt

/-- A load of a slab. -/
theorem slab_read {sg : RefSig} {κ : Kind} {sp : Space} (v : View sg κ sp S3x2048x128 e) (L : List (View.Piece (Elt Ideal) S3x2048x128 e)) {inb}
    (hi : i = k.val) :
    v.readCov L (Rect.unit (s := S3x2048x128) ![i, 0, 0] S1x2048x128.size inb).toLoadRect (ix3 0 t l) = View.canon L (ix3 k t l) := by
  subst hi
  rw [View.readCov_eq_canon']
  refine congrArg (View.canon L) (funext fun a => Fin.ext ?_)
  match a with
  | ⟨0, _⟩ => show k.val + 1 * 0 = k.val; omega
  | ⟨1, _⟩ => show 0 + 1 * t.val = t.val; omega
  | ⟨2, _⟩ => show 0 + 1 * l.val = l.val; omega

/-- Rows of a branch's result on their way to a slab. -/
theorem copy_slab {sg : RefSig} {κ : Kind} {sp : Space} {L : List (View.Piece (Elt Ideal) S2048x128 .f32)} {f : ℕ → Fin 128 → EReal}
    (hf : ∀ t l, View.canon L (ix2 t l) = f t.val l) (v : View sg κ sp S2048x128 .f32) {inb h2} (m : Fin n) (l : Fin 128)
    {g : ℕ} (hg : g = o + m.val) (hb : g < 2048) :
    (shapeCast (⟨3, ![1, n, 128]⟩ : Shape) (v.readCov L (Rect.unit (s := S2048x128) ![o, 0] (Shape.size ⟨2, ![n, 128]⟩) inb).toLoadRect) h2
      : Vec Ideal ⟨3, ![1, n, 128]⟩ .f32) (ix3 0 m l) = f g l := by
  refine (ValueIdx.shapeCast_ab_1ab_apply _ _ _ _ _).trans ?_
  exact (load_block v L m ⟨g, hb⟩ l hg).trans (hf _ _)

end Slabs

/-! ## The regrouped rows -/

variable (c : Dev nD) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg9 : Memref sig .tc .vmem S2048x128 .f32) (arg10 : Memref sig .tc .vmem S2048x128 .f32) (arg11 : Memref sig .tc .vmem S2048x128 .bf16) (arg12 : Memref sig .tc .vmem S2048x128 .bf16) (arg13 : Memref sig .tc .vmem S2048x128 .bf16) (arg14 : Memref sig .tc .vmem S2048x128 .f32) (arg15 : Memref sig .tc .vmem S2048x128 .f32) (arg16 : Memref sig .tc .vmem S3x2048x128 .f32) (arg17 : Memref sig .tc .vmem S3x2048x128 .f32)
  (x0 x1 x2 x3 x4 : Vec Ideal S1x2048x128 .f32)

theorem q4 {f : ℕ → Fin 128 → EReal} (hf : ∀ t l, View.canon (kernelRun0_A.sl.HS0_1 c arg2 harg2 arg5 harg5 arg6 harg6 x0 x3 x4) (ix2 t l) = f t.val l) (r : Fin 2048) (l : Fin 128) :
    View.canon (kernelRun0_A.sl.HS2_5 c arg2 harg2 arg5 harg5 arg6 harg6 arg9 x0 x3 x4) (ix2 r l) = f (r.val % 512 * 4 + r.val / 512) l := by
  have hr := r.isLt
  iterate 4
    refine canon_block (e := .bf16) (fun r l => f (r % 512 * 4 + r / 512) l) r l _ _ ?_ fun _ => ?_
    · exact fun m l => copy_narrow hf _ m l (by have := m.isLt; omega)
  omega

theorem q16 {f : ℕ → Fin 128 → EReal} (hf : ∀ t l, View.canon (kernelRun0_A.sl.HS0_1 c arg2 harg2 arg5 harg5 arg6 harg6 x0 x3 x4) (ix2 t l) = f t.val l) (r : Fin 2048) (l : Fin 128) :
    View.canon (kernelRun0_A.sl.HS2_21 c arg2 harg2 arg5 harg5 arg6 harg6 arg9 x0 x3 x4) (ix2 r l) = f (r.val % 128 * 16 + r.val / 128) l := by
  have hr := r.isLt
  iterate 16
    refine canon_block (e := .bf16) (fun r l => f (r % 128 * 16 + r / 128) l) r l _ _ ?_ fun _ => ?_
    · exact fun m l => copy_narrow hf _ m l (by have := m.isLt; omega)
  omega

theorem k4 {f : ℕ → Fin 128 → EReal} (hf : ∀ t l, View.canon (kernelRun0_A.sl.HS1_1 c arg3 harg3 arg5 harg5 arg6 harg6 x1 x3 x4) (ix2 t l) = f t.val l) (r : Fin 2048) (l : Fin 128) :
    View.canon (kernelRun0_A.sl.HS3_5 c arg3 harg3 arg5 harg5 arg6 harg6 arg10 x1 x3 x4) (ix2 r l) = f (r.val % 512 * 4 + r.val / 512) l := by
  have hr := r.isLt
  iterate 4
    refine canon_block (e := .bf16) (fun r l => f (r % 512 * 4 + r / 512) l) r l _ _ ?_ fun _ => ?_
    · exact fun m l => copy_narrow hf _ m l (by have := m.isLt; omega)
  omega

theorem k16 {f : ℕ → Fin 128 → EReal} (hf : ∀ t l, View.canon (kernelRun0_A.sl.HS1_1 c arg3 harg3 arg5 harg5 arg6 harg6 x1 x3 x4) (ix2 t l) = f t.val l) (r : Fin 2048) (l : Fin 128) :
    View.canon (kernelRun0_A.sl.HS3_21 c arg3 harg3 arg5 harg5 arg6 harg6 arg10 x1 x3 x4) (ix2 r l) = f (r.val % 128 * 16 + r.val / 128) l := by
  have hr := r.isLt
  iterate 16
    refine canon_block (e := .bf16) (fun r l => f (r % 128 * 16 + r / 128) l) r l _ _ ?_ fun _ => ?_
    · exact fun m l => copy_narrow hf _ m l (by have := m.isLt; omega)
  omega

theorem v4 {f : ℕ → Fin 128 → EReal} (hf : ∀ t l, x2 (ix3 0 t l) = f t.val l) (r : Fin 2048) (l : Fin 128) :
    View.canon (kernelRun0_A.sl.HS4_5 c arg4 harg4 x2) (ix2 r l) = f (r.val % 512 * 4 + r.val / 512) l := by
  have hr := r.isLt
  iterate 4
    refine canon_block (e := .bf16) (fun r l => f (r % 512 * 4 + r / 512) l) r l _ _ ?_ fun _ => ?_
    · exact fun m l => copy_arg_narrow _ hf m l (by have := m.isLt; omega)
  omega

theorem v16 {f : ℕ → Fin 128 → EReal} (hf : ∀ t l, x2 (ix3 0 t l) = f t.val l) (r : Fin 2048) (l : Fin 128) :
    View.canon (kernelRun0_A.sl.HS4_21 c arg4 harg4 x2) (ix2 r l) = f (r.val % 128 * 16 + r.val / 128) l := by
  have hr := r.isLt
  iterate 16
    refine canon_block (e := .bf16) (fun r l => f (r % 128 * 16 + r / 128) l) r l _ _ ?_ fun _ => ?_
    · exact fun m l => copy_arg_narrow _ hf m l (by have := m.isLt; omega)
  omega

/-! ## The results put back -/

theorem off_rows {n s o t : ℕ} (ho : o < s) (ht : t < s * n) (h : ∀ m, m < n → t ≠ o + s * m) : t % s ≠ o :=
  fun e => h (t / s) (Nat.div_lt_of_lt_mul ht) (by rw [← e]; exact (Nat.mod_add_div t s).symm)

theorem o_slab0 (t : Fin 2048) (l : Fin 128) : View.canon (kernelRun0_A.sl.HS7_21 c arg2 harg2 arg3 harg3 arg4 harg4 arg5 harg5 arg6 harg6 arg9 arg10 arg11 arg12 arg13 arg14 x0 x1 x2 x3 x4) (ix3 0 t l)
    = k0_pay30 (F := Ideal) (k0_pay21 (k0_pay18 k0_pay15 k0_pay16 k0_pay17) kernelRun0_A.sl.v112 kernelRun0_A.sl.v113 k0_pay19 (k0_pay20 k0_pay15 k0_pay16 k0_pay17)) (kernelRun0_A.sl.r_8 c arg4 harg4 arg13 x2) k0_pay23 (kernelRun0_A.sl.r_9 c arg2 harg2 arg3 harg3 arg5 harg5 arg6 harg6 arg9 arg10 arg11 arg12 x0 x1 x3 x4) k0_pay25 (ix3 0 t l) := by
  unfold kernelRun0_A.sl.HS7_21
  iterate 20 refine slab_miss 0 t l _ _ _ (by decide) rfl ?_
  exact slab_whole t l _ _

theorem o_slab1 {f : ℕ → Fin 128 → EReal} (hf : ∀ r l, View.canon (kernelRun0_A.sl.HS5_1 c arg2 harg2 arg3 harg3 arg4 harg4 arg5 harg5 arg6 harg6 arg9 arg10 arg11 arg12 arg13 x0 x1 x2 x3 x4) (ix2 r l) = f r.val l) (t : Fin 2048) (l : Fin 128) :
    View.canon (kernelRun0_A.sl.HS7_21 c arg2 harg2 arg3 harg3 arg4 harg4 arg5 harg5 arg6 harg6 arg9 arg10 arg11 arg12 arg13 arg14 x0 x1 x2 x3 x4) (ix3 1 t l) = f (t.val % 4 * 512 + t.val / 4) l := by
  have ht := t.isLt
  unfold kernelRun0_A.sl.HS7_21
  iterate 16 refine slab_miss 1 t l _ _ _ (by decide) rfl ?_
  iterate 4
    refine slab_comb (e := .f32) (fun t l => f (t % 4 * 512 + t / 4) l) 1 t l _ _ rfl ?_ fun h => ?_
    · exact fun m l => copy_slab hf _ m l (by have := m.isLt; omega) (by have := m.isLt; omega)
    replace h := off_rows (by decide) ht h
  omega

theorem o_slab2 {f : ℕ → Fin 128 → EReal} (hf : ∀ r l, View.canon (kernelRun0_A.sl.HS5_2 c arg2 harg2 arg3 harg3 arg4 harg4 arg5 harg5 arg6 harg6 arg9 arg10 arg11 arg12 arg13 x0 x1 x2 x3 x4) (ix2 r l) = f r.val l) (t : Fin 2048) (l : Fin 128) :
    View.canon (kernelRun0_A.sl.HS7_21 c arg2 harg2 arg3 harg3 arg4 harg4 arg5 harg5 arg6 harg6 arg9 arg10 arg11 arg12 arg13 arg14 x0 x1 x2 x3 x4) (ix3 2 t l) = f (t.val % 16 * 128 + t.val / 16) l := by
  have ht := t.isLt
  unfold kernelRun0_A.sl.HS7_21
  iterate 16
    refine slab_comb (e := .f32) (fun t l => f (t % 16 * 128 + t / 16) l) 2 t l _ _ rfl ?_ fun h => ?_
    · exact fun m l => copy_slab hf _ m l (by have := m.isLt; omega) (by have := m.isLt; omega)
    replace h := off_rows (by decide) ht h
  omega

theorem l_slab0 (t : Fin 2048) (l : Fin 128) : View.canon (kernelRun0_A.sl.HS8_21 c arg2 harg2 arg3 harg3 arg5 harg5 arg6 harg6 arg9 arg10 arg11 arg12 arg15 x0 x1 x3 x4) (ix3 0 t l)
    = k0_pay31 (F := Ideal) (k0_pay21 (k0_pay18 k0_pay15 k0_pay16 k0_pay17) kernelRun0_A.sl.v112 kernelRun0_A.sl.v113 k0_pay19 (k0_pay20 k0_pay15 k0_pay16 k0_pay17)) k0_pay23 (kernelRun0_A.sl.r_9 c arg2 harg2 arg3 harg3 arg5 harg5 arg6 harg6 arg9 arg10 arg11 arg12 x0 x1 x3 x4) k0_pay25 (ix3 0 t l) := by
  unfold kernelRun0_A.sl.HS8_21
  iterate 20 refine slab_miss 0 t l _ _ _ (by decide) rfl ?_
  exact slab_whole t l _ _

theorem l_slab1 {f : ℕ → Fin 128 → EReal} (hf : ∀ r l, View.canon (kernelRun0_A.sl.HS6_1 c arg2 harg2 arg3 harg3 arg5 harg5 arg6 harg6 arg9 arg10 arg11 arg12 x0 x1 x3 x4) (ix2 r l) = f r.val l) (t : Fin 2048) (l : Fin 128) :
    View.canon (kernelRun0_A.sl.HS8_21 c arg2 harg2 arg3 harg3 arg5 harg5 arg6 harg6 arg9 arg10 arg11 arg12 arg15 x0 x1 x3 x4) (ix3 1 t l) = f (t.val % 4 * 512 + t.val / 4) l := by
  have ht := t.isLt
  unfold kernelRun0_A.sl.HS8_21
  iterate 16 refine slab_miss 1 t l _ _ _ (by decide) rfl ?_
  iterate 4
    refine slab_comb (e := .f32) (fun t l => f (t % 4 * 512 + t / 4) l) 1 t l _ _ rfl ?_ fun h => ?_
    · exact fun m l => copy_slab hf _ m l (by have := m.isLt; omega) (by have := m.isLt; omega)
    replace h := off_rows (by decide) ht h
  omega

theorem l_slab2 {f : ℕ → Fin 128 → EReal} (hf : ∀ r l, View.canon (kernelRun0_A.sl.HS6_2 c arg2 harg2 arg3 harg3 arg5 harg5 arg6 harg6 arg9 arg10 arg11 arg12 x0 x1 x3 x4) (ix2 r l) = f r.val l) (t : Fin 2048) (l : Fin 128) :
    View.canon (kernelRun0_A.sl.HS8_21 c arg2 harg2 arg3 harg3 arg5 harg5 arg6 harg6 arg9 arg10 arg11 arg12 arg15 x0 x1 x3 x4) (ix3 2 t l) = f (t.val % 16 * 128 + t.val / 16) l := by
  have ht := t.isLt
  unfold kernelRun0_A.sl.HS8_21
  iterate 16
    refine slab_comb (e := .f32) (fun t l => f (t % 16 * 128 + t / 16) l) 2 t l _ _ rfl ?_ fun h => ?_
    · exact fun m l => copy_slab hf _ m l (by have := m.isLt; omega) (by have := m.isLt; omega)
    replace h := off_rows (by decide) ht h
  omega

end Cert.Attend.Scratch
-- ==== Proof.Attend.Rope.lean ====
/-
  The rotation that the attention applies to its queries and keys.
-/
module

public import proofs.«01_k».proof.Proof.Attend.Scratch
public import Idealize.ShloMosaic.Lib.Pointwise

@[expose] public section
set_option maxRecDepth 16384
noncomputable section
namespace Cert.Attend.Rope
open Idealize.ShloMosaic Cert.AttendKIdeal Cert.AttendKIdeal.Gen
open Cert.Attn.Rope (swap turn word_eighth canon_whole arg_row)
open Idealize.ShloMosaic.TcCoe

/-- The lanes of the first half of each head: a lane's remainder by a head's width lies below half of it. -/
def low : IVec S2048x128 1 :=
  let w : BitVec 32 := Scalar.select (Scalar.cmpi .eq 64#32 0#32) 1#32 64#32
  let r := remsi (iota .tc S2048x128 32 [1] iota_S2048x128_d1_w32) (broadcast S2048x128 w)
  let negative := xori (cmpi .slt r (broadcast S2048x128 0#32)) (broadcastTo S2048x128 (broadcast S2048x128 (Scalar.cmpi .slt w 0#32)) (by decide))
  cmpi .slt (select (andi negative (cmpi .ne r (broadcast S2048x128 0#32))) (addi r (broadcast S2048x128 w)) r) (broadcast S2048x128 32#32)

theorem low_apply (t : Fin 2048) (l : Fin 128) : low (ix2 t l) = BitVec.ofBool (decide (l.val % 64 < 32)) := by
  pointwise [low]
  clear low_apply
  revert l
  decide +kernel

/-- Rows `x` rotated by tables of cosines and of signed sines. -/
def turned (c s x : FVec Ideal S2048x128 .f32) : FVec Ideal S2048x128 .f32 :=
  addf (mulf x c) (mulf (select low (dynamicRotate 1 96#32 none x rotates_S2048x128_d1) (dynamicRotate 1 32#32 none x rotates_S2048x128_d1)) s)

theorem turned_apply (c s x : FVec Ideal S2048x128 .f32) (t : Fin 2048) (l : Fin 128) :
    turned c s x (ix2 t l) = x (ix2 t l) * c (ix2 t l) + x (ix2 t (swap l)) * s (ix2 t l) := by
  pointwise [turned, low_apply]
  rw [turn fun l => x (ix2 t l)]

theorem query_eq (c s x : Vec Ideal S1x2048x128 .f32) :
    k0_pay5 (F := Ideal) c s x = mulf (turned (k0_pay2 c) (k0_pay3 s) (k0_pay4 x)) (broadcast S2048x128 (Scalar.ofBits (F := Ideal) .f32 0x3E000000#32)) := rfl
theorem key_eq (c s x : Vec Ideal S2048x128 .f32) : k0_pay7 (F := Ideal) c s x = k0_pay6 (turned c s x) := rfl
theorem whole_eq (x : Vec Ideal S2048x128 .f32) : k0_pay6 (F := Ideal) x = x := shapeCast_self _ _

variable (c : Dev nD) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole)
  (x0 x1 x2 x3 x4 : Vec Ideal S1x2048x128 .f32)

theorem q_rope (t : Fin 2048) (l : Fin 128) : View.canon (kernelRun0_A.sl.HS0_1 c arg2 harg2 arg5 harg5 arg6 harg6 x0 x3 x4) (ix2 t l)
    = (x0 (ix3 0 t l) * x3 (ix3 0 t l) + x0 (ix3 0 t (swap l)) * x4 (ix3 0 t l)) * ((1 / 8 : ℝ) : EReal) := by
  refine (canon_whole _ _ t l).trans ?_
  unfold kernelRun0_A.sl.r_3
  rw [whole_eq, query_eq, ← word_eighth]
  refine congrArg (· * _) ((turned_apply _ _ _ t l).trans ?_)
  unfold k0_pay2 k0_pay3 k0_pay4
  rw [arg_row, arg_row, arg_row, arg_row]

theorem k_rope (t : Fin 2048) (l : Fin 128) : View.canon (kernelRun0_A.sl.HS1_1 c arg3 harg3 arg5 harg5 arg6 harg6 x1 x3 x4) (ix2 t l)
    = x1 (ix3 0 t l) * x3 (ix3 0 t l) + x1 (ix3 0 t (swap l)) * x4 (ix3 0 t l) := by
  refine (canon_whole _ _ t l).trans ?_
  unfold kernelRun0_A.sl.r kernelRun0_A.sl.r_1 kernelRun0_A.sl.r_2
  rw [key_eq, whole_eq]
  refine (turned_apply _ _ _ t l).trans ?_
  unfold k0_pay2 k0_pay3 k0_pay4
  rw [arg_row, arg_row, arg_row, arg_row]

end Cert.Attend.Rope
end
-- ==== Proof.Attend.Blocks.lean ====
/-
  What a grid point of the attention reads: two heads of one sequence, as real numbers.
-/
module

public import proofs.«01_k».proof.Proof.Attend.Entry
public import proofs.«01_k».proof.Proof.Attend.Rope
public import proofs.«01_k».proof.Proof.Attn.Heads
public import Idealize.ShloMosaic.Lib.Pipeline.ValueKit
public import Idealize.ShloMosaic.Lib.StableHlo.ReadAt

@[expose] public section
set_option maxRecDepth 16384
noncomputable section
namespace Cert.Attend.Kernel
open Idealize.ShloMosaic Idealize.SL.Sem Cert.AttendKIdeal Cert.AttendKIdeal.Gen
open Idealize.ShloMosaic.TcCoe
open Cert.Reals Cert.Attn Cert.Attn.Heads Cert.Attend.Rope
open Cert.Attn.Kernel (pairOf sgn)
open Cert.Attn.Branch (lane half)

theorem idx : ∀ t : Fin cfg0.N, win0_0.index t = ![t.val / 4, 0, t.val % 4] ∧ win0_1.index t = ![t.val / 4, 0, 4 + t.val % 4]
    ∧ win0_2.index t = ![t.val / 4, 0, 8 + t.val % 4] ∧ win0_3.index t = ![t.val / 4, 0, 0] ∧ win0_4.index t = ![t.val / 4, 0, 0]
    ∧ win0_5.index t = ![t.val / 4, 0, t.val % 4] ∧ win0_6.index t = ![t.val / 4, 0, t.val % 4] :=
  (by decide +kernel : ∀ t : Fin grid0.N, _)

/-- The sequence and the pair of heads of a grid point. -/
def seq (t : Fin cfg0.N) : Fin 4 := ⟨t.val / 4, by have : t.val < 16 := t.isLt; omega⟩
def pair (t : Fin cfg0.N) : Fin 4 := ⟨t.val % 4, by omega⟩

theorem emb5 (t : Fin cfg0.N) (i : Fin 2048) (l : Fin 128) :
    ((View.whole main_v20_0).slice (win0_5.rect t)).emb (ix3 0 i l) = ix3 (seq t) i (colOf (pair t) l) := by
  blk_ext [idx t, seq, pair, colOf]
theorem emb6 (t : Fin cfg0.N) (i : Fin 2048) (l : Fin 128) :
    ((View.whole main_v20_1).slice (win0_6.rect t)).emb (ix3 0 i l) = ix3 (seq t) i (colOf (pair t) l) := by
  blk_ext [idx t, seq, pair, colOf]

/-- The two heads of a grid point. -/
def headAt (a : Args) (t : Fin cfg0.N) (p : Fin 2) : Head := a.head (seq t) ⟨2 * (pair t).val + p.val, by have := (pair t).isLt; omega⟩

theorem headAt_half (a : Args) (t : Fin cfg0.N) (l : Fin 128) : headAt a t (half l) = a.head (seq t) (hd (pair t) l) := rfl
theorem headAt_lane (a : Args) (t : Fin cfg0.N) (p : Fin 2) (e : Fin 64) : a.head (seq t) (hd (pair t) (lane p e)) = headAt a t p :=
  congrArg (a.head (seq t)) (Fin.ext (by simp only [hd, lane]; omega))
theorem row_of_q (a : Args) (t : Fin cfg0.N) (i : Fin 2048) (p : Fin 2) (e : Fin 64) :
    Q (a.head (seq t)) (pair t) i (lane p e) = (headAt a t p).q i e := by rw [Q, headAt_lane, el_lane]
theorem row_of_k (a : Args) (t : Fin cfg0.N) (i : Fin 2048) (p : Fin 2) (e : Fin 64) :
    K (a.head (seq t)) (pair t) i (lane p e) = (headAt a t p).k i e := by rw [K, headAt_lane, el_lane]
theorem row_of_v (a : Args) (t : Fin cfg0.N) (i : Fin 2048) (p : Fin 2) (e : Fin 64) :
    W (a.head (seq t)) (pair t) i (lane p e) = (headAt a t p).v i e := by rw [W, headAt_lane, el_lane]

variable {m : (ℓ : Loc nD τ sig) → Buf (Elt Ideal) ℓ} {c : Dev nD} {x4 : Wide} {a : Args}
  (h : Holds (q m c) (k m c) (v m c) (pos m c) x4 a)
include h

/-! What a point is given. -/

theorem blk_q (t : Fin cfg0.N) (i : Fin 2048) (l : Fin 128) : iblk m c 0 t (ix3 0 i l) = ((a.q (seq t) i (colOf (pair t) l) : ℝ) : EReal) := by
  rw [← q_entry h]; blk_ext [iblk, idx t, seq, pair, colOf]
theorem blk_k (t : Fin cfg0.N) (i : Fin 2048) (l : Fin 128) : iblk m c 1 t (ix3 0 i l) = ((a.k (seq t) i (colOf (pair t) l) : ℝ) : EReal) := by
  rw [← k_entry h]; blk_ext [iblk, idx t, seq, pair, colOf]
theorem blk_v (t : Fin cfg0.N) (i : Fin 2048) (l : Fin 128) : iblk m c 2 t (ix3 0 i l) = ((a.v (seq t) i (colOf (pair t) l) : ℝ) : EReal) := by
  rw [← v_entry h]; blk_ext [iblk, idx t, seq, pair, colOf]
theorem blk_cos (t : Fin cfg0.N) (i : Fin 2048) (l : Fin 128) : iblk m c 3 t (ix3 0 i l) = ((a.cos (seq t) i (pairOf l) : ℝ) : EReal) := by
  rw [← cos_entry h]; blk_ext [iblk, idx t, seq]
theorem blk_sin (t : Fin cfg0.N) (i : Fin 2048) (l : Fin 128) : iblk m c 4 t (ix3 0 i l) = ((sgn l * a.sin (seq t) i (pairOf l) : ℝ) : EReal) := by
  rw [← sin_entry h]; blk_ext [iblk, idx t, seq]

/-! The rotated rows. -/

section Given
variable (t : Fin cfg0.N) (i : Fin 2048) (l : Fin 128)

theorem row_v : iblk m c 2 t (ix3 0 i l) = ((W (a.head (seq t)) (pair t) i l : ℝ) : EReal) := by
  rw [blk_v h, ← col_hd]; rfl

variable (arg2 : Memref sig .tc .vmem S1x2048x128 .f32) (h2 : arg2.IsWhole) (arg5 : Memref sig .tc .vmem S1x2048x128 .f32) (h5 : arg5.IsWhole)
  (arg6 : Memref sig .tc .vmem S1x2048x128 .f32) (h6 : arg6.IsWhole)

theorem row_q : View.canon (kernelRun0_A.sl.HS0_1 c arg2 h2 arg5 h5 arg6 h6 (iblk m c 0 t) (iblk m c 3 t) (iblk m c 4 t)) (ix2 i l)
    = ((Q (a.head (seq t)) (pair t) i l : ℝ) : EReal) := by
  rw [q_rope, blk_q h, blk_q h, blk_cos h, blk_sin h, ← EReal.coe_mul, ← EReal.coe_mul, ← EReal.coe_add, ← EReal.coe_mul, rope_lane]
  rfl
theorem row_k : View.canon (kernelRun0_A.sl.HS1_1 c arg2 h2 arg5 h5 arg6 h6 (iblk m c 1 t) (iblk m c 3 t) (iblk m c 4 t)) (ix2 i l)
    = ((K (a.head (seq t)) (pair t) i l : ℝ) : EReal) := by
  rw [k_rope, blk_k h, blk_k h, blk_cos h, blk_sin h, ← EReal.coe_mul, ← EReal.coe_mul, ← EReal.coe_add, rope_lane]
  rfl

end Given

end Cert.Attend.Kernel
end
-- ==== Proof.Attend.Mask.lean ====
module

public import proofs.«01_k».proof.Proof.Gen.AttendKIdeal.Frame
public import proofs.«01_k».proof.Proof.Attn.Mask

@[expose] public section
set_option maxRecDepth 16384
noncomputable section
namespace Cert.Attend.Mask
open Idealize.ShloMosaic Cert.AttendKIdeal Cert.AttendKIdeal.Gen
open Idealize.ShloMosaic.TcCoe
open Cert.Attn.Mask (Open and_tests or_tests)

/-! The masks of the two narrower dilations. -/

variable (j : Fin 32) (a : Fin 128) (c : Fin 192)

theorem low1 : k0_pay18 k0_pay15 k0_pay16 k0_pay17 (ix3 j a c) = BitVec.ofNat 32 (a.val % 64) := by
  pointwise [k0_pay18, k0_pay15, k0_pay16, k0_pay17]
  revert a
  decide +kernel

theorem low4 : k0_pay50 (ix3 j a c) = BitVec.ofNat 32 (a.val % 64) := by
  pointwise [k0_pay50]
  revert a
  decide +kernel

theorem first1 : k0_pay19 (ix3 j a c) = BitVec.ofBool (decide (j.val / 2 % 16 = 0)) := by
  pointwise [k0_pay19]
  revert j
  decide +kernel

theorem first4 : k0_pay54 k0_pay51 k0_pay52 k0_pay53 (ix3 j a c) = BitVec.ofBool (decide (j.val / 2 % 4 = 0)) := by
  pointwise [k0_pay54, k0_pay51, k0_pay52, k0_pay53]
  revert j
  decide +kernel

def place : IVec S32x128x192 32 := iota .tc S32x128x192 32 [2] iota_S32x128x192_d2_w32
def unit : IVec S32x128x192 32 := iota .tc S32x128x192 32 [0] iota_S32x128x192_d0_w32

/-- The mask of a branch whose units start a segment where `first` says so. -/
def mask (low : IVec S32x128x192 32) (first : IVec S32x128x192 1) : IVec S32x128x192 1 :=
  k0_pay21 low place unit first (cmpi .sge place low)

theorem not_test (p : Prop) [Decidable p] : IntOp.xori (BitVec.ofBool (decide p)) 1#1 = BitVec.ofBool (decide ¬p) := by
  by_cases h : p <;> simp [h] <;> decide

variable {low : IVec S32x128x192 32} {first : IVec S32x128x192 1} {nb : ℕ}

theorem mask_apply (hl : low (ix3 j a c) = BitVec.ofNat 32 (a.val % 64))
    (hf : first (ix3 j a c) = BitVec.ofBool (decide (j.val / 2 % nb = 0))) :
    mask low first (ix3 j a c) = BitVec.ofBool (decide (Open nb j a c)) := by
  pointwise [mask, k0_pay21, hl, hf, place, unit, not_test]
  clear mask_apply hl hf low first
  refine (congrArg₂ IntOp.andi (?_ : _ = BitVec.ofBool (decide (a.val % 64 ≤ c.val ∧ c.val ≤ a.val % 64 + 128)))
    ((congrArg₂ IntOp.ori (?_ : _ = BitVec.ofBool (decide (128 - 64 * (j.val % 2) ≤ c.val))) rfl).trans (or_tests _ _))).trans
    ((and_tests _ _).trans ?_)
  · clear j nb
    revert a c
    decide +kernel
  · clear a nb
    revert j c
    decide +kernel
  · simp [Open]

def mask1 : IVec S32x128x192 1 := mask (k0_pay18 k0_pay15 k0_pay16 k0_pay17) k0_pay19
def mask4 : IVec S32x128x192 1 := mask k0_pay50 (k0_pay54 k0_pay51 k0_pay52 k0_pay53)

theorem mask1_apply : mask1 (ix3 j a c) = BitVec.ofBool (decide (Open 16 j a c)) := mask_apply j a c (low1 j a c) (first1 j a c)
theorem mask4_apply : mask4 (ix3 j a c) = BitVec.ofBool (decide (Open 4 j a c)) := mask_apply j a c (low4 j a c) (first4 j a c)

end Cert.Attend.Mask
-- ==== Proof.Attend.Branch.lean ====
module

public import Idealize.ShloMosaic.Lib.ValueLayout
public import proofs.«01_k».proof.Proof.Attend.Mask
public import proofs.«01_k».proof.Proof.Attn.Branch
public import proofs.«01_k».proof.Proof.Attn.Dilate
public import proofs.«01_k».proof.Proof.Attn.Model

@[expose] public section
set_option maxRecDepth 16384
noncomputable section
namespace Cert.Attend.Branch
open Idealize.ShloMosaic Cert.AttendKIdeal Cert.AttendKIdeal.Gen Cert.Attend.Mask
open Cert.Attn (Head Link link_self)
open Cert.Attn.Mask (Open)
open Cert.Attn.Branch
open Idealize.ShloMosaic.TcCoe

/-! One branch of the two narrower dilations: its scores, their greatest, the softmax's denominator, and the result. -/

theorem mask_word : Named.named (F := Ideal) κ "mask" (φ := .f32) 0xF149F2CA#32 = (⊥ : EReal) :=
  IdealRules.named_const.ideal_named_scalar _ _ _ _ rfl

/-- The element of its head that a lane is. -/
def el (l : Fin 128) : Fin 64 := ⟨l.val % 64, by omega⟩

theorem lane_el (l : Fin 128) : lane (half l) (el l) = l := Fin.ext (by simp only [lane, half, el]; omega)

variable {a : Fin 2 → Head} {i : Fin 3} {n nb : ℕ} {σ : Fin 2048 ≃ Fin 2048} (hs : Links i n σ) (hf : Fits n nb)
variable {q k v : Vec Ideal S2048x128 .bf16} {Q K W : Fin 2048 → Fin 128 → ℝ}
variable {mask : IVec S32x128x192 1} (hm : ∀ j a c, mask (ix3 j a c) = BitVec.ofBool (decide (Open nb j a c)))
  (hq : ∀ r l, q (ix2 r l) = ((Q r l : ℝ) : EReal)) (hk : ∀ r l, k (ix2 r l) = ((K r l : ℝ) : EReal))
  (hv : ∀ r l, v (ix2 r l) = ((W r l : ℝ) : EReal))
  (hQ : ∀ r h e, Q r (lane h e) = (a h).q (σ r) e) (hK : ∀ r h e, K r (lane h e) = (a h).k (σ r) e)
  (hW : ∀ r h e, W r (lane h e) = (a h).v (σ r) e)

theorem pile_eq (q : Vec Ideal S2048x128 .bf16) : k0_pay12 (F := Ideal) q = Cert.AttnKIdeal.Gen.k0_pay77 (F := Ideal) q := rfl

theorem wide_eq (x : Vec Ideal S2048x128 .bf16) : k0_pay22 (F := Ideal) (k0_pay14 x) = win x := rfl

def dots (p : Vec Ideal S32x128x128 .bf16) (w : Vec Ideal S32x192x128 .bf16) : Vec Ideal S32x128x192 .f32 :=
  matmul (F := Ideal) (φ₁ := .bf16) (φ₂ := .bf16) dot_S32x128x128_S32x192x128_S32x128x192_2_2_1_1_0_0 none p w (constant S32x128x192 .f32 0x00000000#32)

theorem dots_eq (p : Vec Ideal S32x128x128 .bf16) (k : Vec Ideal S2048x128 .bf16) : k0_pay24 (F := Ideal) p (k0_pay13 k) = dots p (win k) := rfl

include hm hq hk hQ hK in
theorem scores_apply (j : Fin 32) (b : Fin 128) (c : Fin 192) : k0_pay26 mask (k0_pay24 (k0_pay12 q) (k0_pay13 k)) k0_pay25 (ix3 j b c)
    = if Open nb j b c then (((a (half b)).score (σ (row j b)) (σ (key j c)) : ℝ) : EReal) else ⊥ := by
  rw [pile_eq, dots_eq]
  pointwise [k0_pay26, k0_pay25, dots, pile_real hq, win_apply, hk, hm, open_word, mask_word,
    dot_split (Q (row j b)) (K (key j c)) b]
  refine if_congr Iff.rfl (congrArg Real.toEReal ?_) rfl
  simp only [Head.score, hQ, hK]

/-! ### The keys in a window -/

include hs hf in
theorem link_of_open {j : Fin 32} {b : Fin 128} {c : Fin 192} (h : Open nb j b c) : Link i (σ (row j b)) (σ (key j c)) := by
  have h := (hf j b c).1 h
  refine (hs _ _).1 ?_
  rw [key_of_le j c h.1]
  exact h.2

include hs hf in
theorem open_of_link (j : Fin 32) (b : Fin 128) (u : Fin 2048) (h : Link i (σ (row j b)) u) : ∃ c, Open nb j b c ∧ σ (key j c) = u := by
  have h : Seg n (row j b).val (σ.symm u).val := (hs _ _).2 (by rwa [Equiv.apply_symm_apply])
  have hr : (row j b).val = 64 * j.val + b.val % 64 := rfl
  have h1 := h.1
  have h2 := h.2.1
  have hb : (σ.symm u).val + 128 - 64 * j.val < 192 := by omega
  have hl : 128 ≤ 64 * j.val + ((σ.symm u).val + 128 - 64 * j.val) := by omega
  refine ⟨⟨(σ.symm u).val + 128 - 64 * j.val, hb⟩, (hf j b _).2 ⟨hl, ?_⟩, ?_⟩
  · rw [show 64 * j.val + ((σ.symm u).val + 128 - 64 * j.val) - 128 = (σ.symm u).val by omega]
    exact h
  · rw [show key j ⟨(σ.symm u).val + 128 - 64 * j.val, hb⟩ = σ.symm u from Fin.ext (by
      rw [key_of_le _ _ hl]
      show 64 * j.val + ((σ.symm u).val + 128 - 64 * j.val) - 128 = (σ.symm u).val
      omega),
      Equiv.apply_symm_apply]

include hs hf in
/-- A sum over a window is the sum over the keys that the branch links. -/
theorem sum_open (j : Fin 32) (b : Fin 128) (f : Fin 2048 → ℝ) :
    ∑ c, (if Open nb j b c then f (σ (key j c)) else 0) = ∑ u, if Link i (σ (row j b)) u then f u else 0 := by
  rw [sum_window hf j b fun s => f (σ s)]
  have e := sum_keys hs f (σ (row j b))
  rwa [Equiv.symm_apply_apply] at e

/-- The greatest of the scores let through is the greatest of the scores linked. -/
theorem fold_top {m : ℕ} (g : Head) (P : Fin m → Prop) [DecidablePred P] (key : Fin m → Fin 2048) (t : Fin 2048)
    (h1 : ∀ c, P c → Link i t (key c)) (h2 : ∀ u, Link i t u → ∃ c, P c ∧ key c = u) :
    Finset.univ.fold max (⊥ : EReal) (fun c => if P c then ((g.score t (key c) : ℝ) : EReal) else ⊥) = ((g.top i t : ℝ) : EReal) := by
  obtain ⟨c, hc, _⟩ := h2 t (link_self i t)
  rw [Cert.Attn.fold_max _ P ⟨c, Finset.mem_filter.2 ⟨Finset.mem_univ _, hc⟩⟩, Head.top]
  refine congrArg Real.toEReal (le_antisymm ?_ ?_)
  · refine Finset.sup'_le _ _ fun c hc => ?_
    exact Finset.le_sup' (g.score t) (Finset.mem_filter.2 ⟨Finset.mem_univ _, h1 c (Finset.mem_filter.1 hc).2⟩)
  · refine Finset.sup'_le _ _ fun u hu => ?_
    obtain ⟨c, hc, rfl⟩ := h2 u (Finset.mem_filter.1 hu).2
    exact Finset.le_sup' (fun c => g.score t (key c)) (Finset.mem_filter.2 ⟨Finset.mem_univ _, hc⟩)

/-! ### The softmax of a branch's scores -/

/-- What a row's scores are. -/
def Scored (nb : ℕ) (σ : Fin 2048 ≃ Fin 2048) (a : Fin 2 → Head) (mask : IVec S32x128x192 1) (s : Vec Ideal S32x128x192 .f32) : Prop :=
  ∀ j b c, k0_pay26 (F := Ideal) mask s k0_pay25 (ix3 j b c)
    = if Open nb j b c then (((a (half b)).score (σ (row j b)) (σ (key j c)) : ℝ) : EReal) else ⊥

variable {s : Vec Ideal S32x128x192 .f32} (hS : Scored nb σ a mask s)

include hs hf hS in
theorem top_apply (j : Fin 32) (b : Fin 128) :
    k0_pay27 (F := Ideal) mask s k0_pay25 (ix3 j b 0) = (((a (half b)).top i (σ (row j b)) : ℝ) : EReal) := by
  unfold Scored at hS
  pointwise [k0_pay27, hS]
  exact fold_top (a (half b)) (Open nb j b) (fun c => σ (key j c)) (σ (row j b)) (fun c h => link_of_open hs hf h) (open_of_link hs hf j b)

include hs hf hS in
theorem exp_apply (j : Fin 32) (b : Fin 128) (c : Fin 192) : k0_pay28 (F := Ideal) mask s k0_pay25 (ix3 j b c)
    = ((if Open nb j b c then Real.exp ((a (half b)).score (σ (row j b)) (σ (key j c)) - (a (half b)).top i (σ (row j b))) else 0 : ℝ) : EReal) := by
  have e := top_apply hs hf hS
  unfold Scored at hS
  pointwise [k0_pay28, hS, e]
  by_cases h : Open nb j b c
  · rw [if_pos h, if_pos h]
    rfl
  · rw [if_neg h, if_neg h, EReal.bot_sub]
    rfl

include hs hf hS in
theorem den_apply (j : Fin 32) (b : Fin 128) :
    k0_pay29 (F := Ideal) mask s k0_pay25 (ix3 j b 0) = (((a (half b)).den i (σ (row j b)) : ℝ) : EReal) := by
  have e := exp_apply hs hf hS
  pointwise [k0_pay29, e]
  rw [Cert.Reals.coe_sum]
  exact congrArg Real.toEReal
    (sum_open hs hf j b fun u => Real.exp ((a (half b)).score (σ (row j b)) u - (a (half b)).top i (σ (row j b))))

include hs hf hv hW in
theorem acc_sum (j : Fin 32) (b l : Fin 128) (h : half b = half l) :
    ∑ c, ((if Open nb j b c then Real.exp ((a (half b)).score (σ (row j b)) (σ (key j c)) - (a (half b)).top i (σ (row j b))) else 0 : ℝ) : EReal)
        * v (ix2 (key j c) l) = (((a (half l)).acc i (σ (row j b)) (el l) : ℝ) : EReal) := by
  rw [h, Head.acc]
  have e := sum_open hs hf j b fun u => (a (half l)).v u (el l)
    * Real.exp ((a (half l)).score (σ (row j b)) u - (a (half l)).top i (σ (row j b)))
  rw [show (∑ u, (a (half l)).v u (el l) * (a (half l)).p i (σ (row j b)) u) = _ from
    (Finset.sum_congr rfl fun u _ => by rw [Head.p, mul_ite, mul_zero]).trans e.symm, ← Cert.Reals.coe_sum]
  refine Finset.sum_congr rfl fun c _ => ?_
  rw [hv, ← EReal.coe_mul, ← hW, lane_el, ite_mul, zero_mul, mul_comm]

theorem lane_word (j : Fin 32) (r : Fin 64) (l : Fin 128) : k0_pay23 (ix3 j r l) = BitVec.ofBool (decide (l.val < 64)) := by
  pointwise [k0_pay23]
  revert l
  decide

theorem pick {α : Type} (l : Fin 128) (y z : α) : Scalar.select (BitVec.ofBool (decide (l.val < 64))) y z = if l.val < 64 then y else z := by
  by_cases h : l.val < 64 <;> simp [h, Scalar.select]

include hs hf hS hv hW in
/-- A branch's result at row `r` of its order. -/
theorem out_apply (r : Fin 2048) (l : Fin 128) :
    k0_pay30 (F := Ideal) mask (k0_pay22 (k0_pay14 v)) k0_pay23 s k0_pay25 (ix3 0 r l)
      = (((a (half l)).out i (σ r) (el l) : ℝ) : EReal) := by
  have e1 := exp_apply hs hf hS
  have e2 := den_apply hs hf hS
  rw [wide_eq]
  have at_pile (b : Fin 128) (hb : b.val % 64 = r.val % 64) (hh : half b = half l) :
      Ideal.div (∑ c, ((if Open nb ⟨r.val / 64, by omega⟩ b c then Real.exp ((a (half b)).score (σ (row ⟨r.val / 64, by omega⟩ b))
          (σ (key ⟨r.val / 64, by omega⟩ c)) - (a (half b)).top i (σ (row ⟨r.val / 64, by omega⟩ b))) else 0 : ℝ) : EReal)
          * v (ix2 (key ⟨r.val / 64, by omega⟩ c) l)) (((a (half b)).den i (σ (row ⟨r.val / 64, by omega⟩ b)) : ℝ) : EReal)
        = (((a (half l)).out i (σ r) (el l) : ℝ) : EReal) := by
    rw [acc_sum hs hf hv hW _ b l hh, row_div r b hb, hh, Cert.Reals.coe_div _ _ ((a (half l)).den_pos i (σ r)).ne']
    rfl
  pointwise [k0_pay30, e1, e2, win_apply, lane_word, pick]
  by_cases h : l.val < 64
  · rw [if_pos h]
    exact at_pile ⟨r.val % 64, by omega⟩ (by simp) (Fin.ext (by simp only [half]; omega))
  · rw [if_neg h]
    exact at_pile ⟨64 + r.val % 64, by omega⟩ (by simp only []; omega) (Fin.ext (by simp only [half]; omega))

include hs hf hS in
/-- A branch's logarithm of the sum of exponentials. -/
theorem lse_apply (r : Fin 2048) (l : Fin 128) :
    k0_pay31 (F := Ideal) mask k0_pay23 s k0_pay25 (ix3 0 r l) = (((a (half l)).lse i (σ r) : ℝ) : EReal) := by
  have e1 := top_apply hs hf hS
  have e2 := den_apply hs hf hS
  have at_pile (b : Fin 128) (hb : b.val % 64 = r.val % 64) (hh : half b = half l) :
      (((a (half b)).top i (σ (row ⟨r.val / 64, by omega⟩ b)) : ℝ) : EReal)
          + Ideal.log (((a (half b)).den i (σ (row ⟨r.val / 64, by omega⟩ b)) : ℝ) : EReal)
        = (((a (half l)).lse i (σ r) : ℝ) : EReal) := by
    rw [row_div r b hb, hh, Cert.Attn.coe_log _ ((a (half l)).den_pos i (σ r)), ← EReal.coe_add]
    rfl
  pointwise [k0_pay31, e1, e2, lane_word, pick]
  by_cases h : l.val < 64
  · rw [if_pos h]
    exact at_pile ⟨r.val % 64, by omega⟩ (by simp) (Fin.ext (by simp only [half]; omega))
  · rw [if_neg h]
    exact at_pile ⟨64 + r.val % 64, by omega⟩ (by simp only []; omega) (Fin.ext (by simp only [half]; omega))

/-! ### The branch whose segments are 512 rows -/

variable (p : Vec Ideal S32x128x128 .bf16) (u w : Vec Ideal S32x64x128 .bf16)

theorem pick_eq : k0_pay60 (F := Ideal) p u place (k0_pay54 k0_pay51 k0_pay52 k0_pay53) (k0_pay55 k0_pay50 place) (k0_pay56 unit) (k0_pay57 unit) (k0_pay58 unit) = k0_pay26 mask4 (k0_pay24 p u) k0_pay25 := rfl
theorem tops_eq : k0_pay61 (F := Ideal) p u place (k0_pay54 k0_pay51 k0_pay52 k0_pay53) (k0_pay55 k0_pay50 place) (k0_pay56 unit) (k0_pay57 unit) (k0_pay58 unit) = k0_pay27 mask4 (k0_pay24 p u) k0_pay25 := rfl
theorem exps_eq : k0_pay62 (F := Ideal) p u place (k0_pay54 k0_pay51 k0_pay52 k0_pay53) (k0_pay55 k0_pay50 place) (k0_pay56 unit) (k0_pay57 unit) (k0_pay58 unit) = k0_pay28 mask4 (k0_pay24 p u) k0_pay25 := rfl
theorem dens_eq : k0_pay63 (F := Ideal) p u place (k0_pay54 k0_pay51 k0_pay52 k0_pay53) (k0_pay55 k0_pay50 place) (k0_pay56 unit) (k0_pay57 unit) (k0_pay58 unit) = k0_pay29 mask4 (k0_pay24 p u) k0_pay25 := rfl

theorem out_rows (r : Fin 2048) (l : Fin 128) : k0_pay65 (F := Ideal) p u w place (k0_pay54 k0_pay51 k0_pay52 k0_pay53) (k0_pay55 k0_pay50 place) (k0_pay56 unit) (k0_pay57 unit) (k0_pay58 unit) (ix2 r l)
    = k0_pay30 mask4 (k0_pay22 w) k0_pay23 (k0_pay24 p u) k0_pay25 (ix3 0 r l) := by
  unfold k0_pay65 k0_pay30
  rw [exps_eq, dens_eq]
  refine (congrFun (shapeCast_self _ _) _).trans (Eq.trans ?_ (ValueIdx.shapeCast_ab_1ab_apply _ _ _ _ _).symm)
  rfl

theorem lse_rows (r : Fin 2048) (l : Fin 128) : k0_pay66 (F := Ideal) k0_pay59 (k0_pay64 p u place (k0_pay54 k0_pay51 k0_pay52 k0_pay53) (k0_pay55 k0_pay50 place) (k0_pay56 unit) (k0_pay57 unit) (k0_pay58 unit)) (ix2 r l)
    = k0_pay31 mask4 k0_pay23 (k0_pay24 p u) k0_pay25 (ix3 0 r l) := by
  unfold k0_pay66 k0_pay31 k0_pay64
  rw [tops_eq, dens_eq]
  refine (congrFun (shapeCast_self _ _) _).trans (Eq.trans ?_ (ValueIdx.shapeCast_ab_1ab_apply _ _ _ _ _).symm)
  rfl

end Cert.Attend.Branch
-- ==== Proof.Attend.Short.lean ====
module

public import proofs.«01_k».proof.Proof.Attend.Branch
public import proofs.«01_k».proof.Proof.Attn.Short

@[expose] public section
set_option maxRecDepth 16384
noncomputable section
namespace Cert.Attend.Short
open Idealize.ShloMosaic Cert.AttendKIdeal Cert.AttendKIdeal.Gen
open Cert.Attn (Head Link link_self)
open Cert.Attn.Branch (lane half lane_test Seg Links sum_keys)
open Cert.Attn.Short
open Cert.Attend.Branch (el lane_el mask_word fold_top pick)
open Idealize.ShloMosaic.TcCoe

/-! The widest dilation: its scores, their greatest, the softmax's denominator, and the result. -/

/-- The queries of the two heads laid under each other. -/
def pile (q : Vec Ideal S2048x128 .bf16) : Vec Ideal S16x256x128 .bf16 := Cert.AttnKIdeal.Gen.k0_pay207 (F := Ideal) q

def dots (p : Vec Ideal S16x256x128 .bf16) (w : Vec Ideal S16x128x128 .bf16) : Vec Ideal S16x256x128 .f32 :=
  matmul (F := Ideal) (φ₁ := .bf16) (φ₂ := .bf16) dot_S16x256x128_S16x128x128_S16x256x128_2_2_1_1_0_0 none p w (constant S16x256x128 .f32 0x00000000#32)

theorem dots_eq (q k : Vec Ideal S2048x128 .bf16) : k0_pay131 (F := Ideal) q k = dots (pile q) (units k) := rfl
theorem units_eq (v : Vec Ideal S2048x128 .bf16) : k0_pay128 (F := Ideal) v = units v := rfl

def least : EReal := Named.named (F := Ideal) κ "mask" (φ := .f32) 0xF149F2CA#32
theorem least_eq : least = ⊥ := mask_word

theorem mask_apply (b : Fin 256) (c : Fin 128) : k0_pay129 (ix3 0 b c) = BitVec.ofBool (decide (Open b c)) := by
  pointwise [k0_pay129]
  revert b c
  decide +kernel

theorem lane_word (j : Fin 16) (r : Fin 128) (l : Fin 128) : k0_pay130 (ix3 j r l) = BitVec.ofBool (decide (l.val < 64)) := by
  pointwise [k0_pay130]
  revert l
  decide

theorem open_pick (b : Fin 256) (c : Fin 128) (y z : EReal) :
    Scalar.select (BitVec.ofBool (decide (Open b c))) y z = if Open b c then y else z := by
  by_cases h : Open b c <;> simp [h, Scalar.select]

variable {a : Fin 2 → Head} {i : Fin 3} {σ : Fin 2048 ≃ Fin 2048} (hs : Links i 128 σ)
variable {q k v : Vec Ideal S2048x128 .bf16} {Q K W : Fin 2048 → Fin 128 → ℝ}
  (hq : ∀ r l, q (ix2 r l) = ((Q r l : ℝ) : EReal)) (hk : ∀ r l, k (ix2 r l) = ((K r l : ℝ) : EReal))
  (hv : ∀ r l, v (ix2 r l) = ((W r l : ℝ) : EReal))
  (hQ : ∀ r h e, Q r (lane h e) = (a h).q (σ r) e) (hK : ∀ r h e, K r (lane h e) = (a h).k (σ r) e)
  (hW : ∀ r h e, W r (lane h e) = (a h).v (σ r) e)

/-- What a row's scores are. -/
def Scored (σ : Fin 2048 ≃ Fin 2048) (a : Fin 2 → Head) (s : Vec Ideal S16x256x128 .f32) : Prop :=
  ∀ j b c, k0_pay132 (F := Ideal) k0_pay129 s least (ix3 j b c)
    = if Open b c then (((a (head b)).score (σ (row j b)) (σ (key j c)) : ℝ) : EReal) else ⊥

include hq hk hQ hK in
theorem scored : Scored σ a (k0_pay131 (F := Ideal) q k) := fun j b c => by
  rw [dots_eq]
  pointwise [k0_pay132, pile, dots, pile_real hq, units_apply, hk, mask_apply, open_pick, least_eq,
    dot_split (Q (row j b)) (K (key j c)) b]
  refine if_congr Iff.rfl (congrArg Real.toEReal ?_) rfl
  simp only [Head.score, hQ, hK]

include hs in
theorem link_of_open {j : Fin 16} {b : Fin 256} {c : Fin 128} (h : Open b c) : Link i (σ (row j b)) (σ (key j c)) :=
  (hs _ _).1 ((open_iff j b c).1 h)

theorem unit_key (j : Fin 16) (b : Fin 256) (s : Fin 2048) (h : Seg 128 (row j b).val s.val) : ∃ c, key j c = s := by
  by_contra hn
  refine seg_unit j b s (fun e => hn ⟨⟨s.val % 128, by omega⟩, Fin.ext ?_⟩) h
  simp only [key]
  omega

include hs in
theorem open_of_link (j : Fin 16) (b : Fin 256) (u : Fin 2048) (h : Link i (σ (row j b)) u) : ∃ c, Open b c ∧ σ (key j c) = u := by
  have h : Seg 128 (row j b).val (σ.symm u).val := (hs _ _).2 (by rwa [Equiv.apply_symm_apply])
  obtain ⟨c, e⟩ := unit_key j b _ h
  exact ⟨c, (open_iff j b c).2 (by rwa [e]), by rw [e, Equiv.apply_symm_apply]⟩

include hs in
theorem sum_open (j : Fin 16) (b : Fin 256) (f : Fin 2048 → ℝ) :
    ∑ c, (if Open b c then f (σ (key j c)) else 0) = ∑ u, if Link i (σ (row j b)) u then f u else 0 := by
  have e := sum_keys hs f (σ (row j b))
  rw [Equiv.symm_apply_apply] at e
  rw [← e, sum_unit j _ fun s h => if_neg (seg_unit j b s h)]
  exact Finset.sum_congr rfl fun c _ => if_congr (open_iff j b c) rfl rfl

variable {s : Vec Ideal S16x256x128 .f32} (hS : Scored σ a s)

include hs hS in
theorem top_apply (j : Fin 16) (b : Fin 256) :
    k0_pay133 (F := Ideal) k0_pay129 s least (ix3 j b 0) = (((a (head b)).top i (σ (row j b)) : ℝ) : EReal) := by
  unfold Scored at hS
  pointwise [k0_pay133, hS]
  exact fold_top (a (head b)) (Open b) (fun c => σ (key j c)) (σ (row j b)) (fun c h => link_of_open hs h) (open_of_link hs j b)

include hs hS in
theorem exp_apply (j : Fin 16) (b : Fin 256) (c : Fin 128) : k0_pay134 (F := Ideal) k0_pay129 s least (ix3 j b c)
    = ((if Open b c then Real.exp ((a (head b)).score (σ (row j b)) (σ (key j c)) - (a (head b)).top i (σ (row j b))) else 0 : ℝ) : EReal) := by
  have e := top_apply hs hS
  unfold Scored at hS
  pointwise [k0_pay134, hS, e]
  by_cases h : Open b c
  · rw [if_pos h, if_pos h]
    rfl
  · rw [if_neg h, if_neg h, EReal.bot_sub]
    rfl

include hs hS in
theorem den_apply (j : Fin 16) (b : Fin 256) :
    k0_pay135 (F := Ideal) k0_pay129 s least (ix3 j b 0) = (((a (head b)).den i (σ (row j b)) : ℝ) : EReal) := by
  have e := exp_apply hs hS
  pointwise [k0_pay135, e]
  rw [Cert.Reals.coe_sum]
  exact congrArg Real.toEReal
    (sum_open hs j b fun u => Real.exp ((a (head b)).score (σ (row j b)) u - (a (head b)).top i (σ (row j b))))

include hs hv hW in
theorem acc_sum (j : Fin 16) (b : Fin 256) (l : Fin 128) (h : head b = half l) :
    ∑ c, ((if Open b c then Real.exp ((a (head b)).score (σ (row j b)) (σ (key j c)) - (a (head b)).top i (σ (row j b))) else 0 : ℝ) : EReal)
        * v (ix2 (key j c) l) = (((a (half l)).acc i (σ (row j b)) (el l) : ℝ) : EReal) := by
  rw [h, Head.acc]
  have e := sum_open hs j b fun u => (a (half l)).v u (el l)
    * Real.exp ((a (half l)).score (σ (row j b)) u - (a (half l)).top i (σ (row j b)))
  rw [show (∑ u, (a (half l)).v u (el l) * (a (half l)).p i (σ (row j b)) u) = _ from
    (Finset.sum_congr rfl fun u _ => by rw [Head.p, mul_ite, mul_zero]).trans e.symm, ← Cert.Reals.coe_sum]
  refine Finset.sum_congr rfl fun c _ => ?_
  rw [hv, ← EReal.coe_mul, ← hW, lane_el, ite_mul, zero_mul, mul_comm]

include hs hS hv hW in
/-- The branch's result at row `r` of its order. -/
theorem out_apply (r : Fin 2048) (l : Fin 128) :
    k0_pay136 (F := Ideal) (k0_pay128 v) k0_pay129 k0_pay130 s least (ix2 r l) = (((a (half l)).out i (σ r) (el l) : ℝ) : EReal) := by
  have e1 := exp_apply hs hS
  have e2 := den_apply hs hS
  have at_pile (b : Fin 256) (hb : b.val % 128 = r.val % 128) (hh : head b = half l) :
      Ideal.div (∑ c, ((if Open b c then Real.exp ((a (head b)).score (σ (row ⟨r.val / 128, by omega⟩ b))
          (σ (key ⟨r.val / 128, by omega⟩ c)) - (a (head b)).top i (σ (row ⟨r.val / 128, by omega⟩ b))) else 0 : ℝ) : EReal)
          * v (ix2 (key ⟨r.val / 128, by omega⟩ c) l)) (((a (head b)).den i (σ (row ⟨r.val / 128, by omega⟩ b)) : ℝ) : EReal)
        = (((a (half l)).out i (σ r) (el l) : ℝ) : EReal) := by
    rw [acc_sum hs hv hW _ b l hh, row_div r b hb, hh, Cert.Reals.coe_div _ _ ((a (half l)).den_pos i (σ r)).ne']
    rfl
  rw [units_eq]
  pointwise [k0_pay136, e1, e2, units_apply, lane_word, pick]
  by_cases h : l.val < 64
  · rw [if_pos h]
    exact at_pile ⟨r.val % 128, by omega⟩ (by simp) (Fin.ext (by simp only [half, head]; omega))
  · rw [if_neg h]
    exact at_pile ⟨128 + r.val % 128, by omega⟩ (by simp only []; omega) (Fin.ext (by simp only [half, head]; omega))

include hs hS in
theorem lse_apply (r : Fin 2048) (l : Fin 128) :
    k0_pay137 (F := Ideal) k0_pay129 k0_pay130 s least (ix2 r l) = (((a (half l)).lse i (σ r) : ℝ) : EReal) := by
  have e1 := top_apply hs hS
  have e2 := den_apply hs hS
  have at_pile (b : Fin 256) (hb : b.val % 128 = r.val % 128) (hh : head b = half l) :
      (((a (head b)).top i (σ (row ⟨r.val / 128, by omega⟩ b)) : ℝ) : EReal)
          + Ideal.log (((a (head b)).den i (σ (row ⟨r.val / 128, by omega⟩ b)) : ℝ) : EReal)
        = (((a (half l)).lse i (σ r) : ℝ) : EReal) := by
    rw [row_div r b hb, hh, Cert.Attn.coe_log _ ((a (half l)).den_pos i (σ r)), ← EReal.coe_add]
    rfl
  pointwise [k0_pay137, e1, e2, lane_word, pick]
  by_cases h : l.val < 64
  · rw [if_pos h]
    exact at_pile ⟨r.val % 128, by omega⟩ (by simp) (Fin.ext (by simp only [half, head]; omega))
  · rw [if_neg h]
    exact at_pile ⟨128 + r.val % 128, by omega⟩ (by simp only []; omega) (Fin.ext (by simp only [half, head]; omega))

end Cert.Attend.Short
-- ==== Proof.Attend.Point.lean ====
/-
  What one grid point of the attention computes: every branch reads the rows in its own order, and the branches' results
  are blended by a softmax over their sums of exponentials.
-/
module

public import proofs.«01_k».proof.Proof.Attend.Scratch
public import proofs.«01_k».proof.Proof.Attend.Short
public import proofs.«01_k».proof.Proof.Attn.Orders

@[expose] public section
set_option maxRecDepth 16384
noncomputable section
namespace Cert.Attend.Point
open Idealize.ShloMosaic Cert.AttendKIdeal Cert.AttendKIdeal.Gen Cert.Attend.Scratch
open Cert.Attn (Head Link)
open Cert.Attn.Branch (lane half fits1 fits4 perm4 perm16 links1 links4 links16)
open Cert.Attn.Rope (canon_whole read_whole arg_row)
open Cert.Attn.Point (ext ext_of)
open Cert.Attend.Branch (el)
open Idealize.ShloMosaic.TcCoe

variable (c : Dev nD) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg9 : Memref sig .tc .vmem S2048x128 .f32) (arg10 : Memref sig .tc .vmem S2048x128 .f32) (arg11 : Memref sig .tc .vmem S2048x128 .bf16) (arg12 : Memref sig .tc .vmem S2048x128 .bf16) (arg13 : Memref sig .tc .vmem S2048x128 .bf16) (arg14 : Memref sig .tc .vmem S2048x128 .f32) (arg15 : Memref sig .tc .vmem S2048x128 .f32) (arg16 : Memref sig .tc .vmem S3x2048x128 .f32) (arg17 : Memref sig .tc .vmem S3x2048x128 .f32)
  (x0 x1 x2 x3 x4 : Vec Ideal S1x2048x128 .f32)

variable {Q K W : Fin 2048 → Fin 128 → ℝ} {a : Fin 2 → Head}
  (hq : ∀ t l, View.canon (kernelRun0_A.sl.HS0_1 c arg2 harg2 arg5 harg5 arg6 harg6 x0 x3 x4) (ix2 t l) = ((Q t l : ℝ) : EReal))
  (hk : ∀ t l, View.canon (kernelRun0_A.sl.HS1_1 c arg3 harg3 arg5 harg5 arg6 harg6 x1 x3 x4) (ix2 t l) = ((K t l : ℝ) : EReal))
  (hv : ∀ t l, x2 (ix3 0 t l) = ((W t l : ℝ) : EReal))
  (hQ : ∀ t h e, Q t (lane h e) = (a h).q t e) (hK : ∀ t h e, K t (lane h e) = (a h).k t e)
  (hW : ∀ t h e, W t (lane h e) = (a h).v t e)

/-! ### The rows in each order -/

include hq in
theorem q_rows1 (r : Fin 2048) (l : Fin 128) : (kernelRun0_A.sl.v82 c arg2 harg2 arg5 harg5 arg6 harg6 arg9 arg11 x0 x3 x4) (ix2 r l) = ((Q r l : ℝ) : EReal) := by
  refine (read_whole _ _ r l).trans ?_
  refine (canon_whole _ _ r l).trans ?_
  pointwise [k0_pay8]
  exact (read_whole _ _ r l).trans (hq r l)

include hq in
theorem q_rows4 (r : Fin 2048) (l : Fin 128) : (kernelRun0_A.sl.v300 c arg2 harg2 arg5 harg5 arg6 harg6 arg9 arg11 x0 x3 x4) (ix2 r l) = ((Q (perm4 r) l : ℝ) : EReal) := by
  refine (read_whole _ _ r l).trans ?_
  refine Eq.trans ?_ (ext_of Q (perm4 r) l)
  apply Scratch.q4 (f := ext Q)
  exact fun t l => (hq t l).trans (ext_of Q t l).symm

include hq in
theorem q_rows16 (r : Fin 2048) (l : Fin 128) : (kernelRun0_A.sl.v742 c arg2 harg2 arg5 harg5 arg6 harg6 arg9 arg11 x0 x3 x4) (ix2 r l) = ((Q (perm16 r) l : ℝ) : EReal) := by
  refine (read_whole _ _ r l).trans ?_
  refine Eq.trans ?_ (ext_of Q (perm16 r) l)
  apply Scratch.q16 (f := ext Q)
  exact fun t l => (hq t l).trans (ext_of Q t l).symm

include hk in
theorem k_rows1 (r : Fin 2048) (l : Fin 128) : (kernelRun0_A.sl.v91 c arg3 harg3 arg5 harg5 arg6 harg6 arg10 arg12 x1 x3 x4) (ix2 r l) = ((K r l : ℝ) : EReal) := by
  refine (read_whole _ _ r l).trans ?_
  refine (canon_whole _ _ r l).trans ?_
  unfold kernelRun0_A.sl.r_4
  pointwise [k0_pay10, k0_pay9]
  exact (read_whole _ _ r l).trans (hk r l)

include hk in
theorem k_rows4 (r : Fin 2048) (l : Fin 128) : (kernelRun0_A.sl.v309 c arg3 harg3 arg5 harg5 arg6 harg6 arg10 arg12 x1 x3 x4) (ix2 r l) = ((K (perm4 r) l : ℝ) : EReal) := by
  refine (read_whole _ _ r l).trans ?_
  refine Eq.trans ?_ (ext_of K (perm4 r) l)
  apply Scratch.k4 (f := ext K)
  exact fun t l => (hk t l).trans (ext_of K t l).symm

include hk in
theorem k_rows16 (r : Fin 2048) (l : Fin 128) : (kernelRun0_A.sl.v751 c arg3 harg3 arg5 harg5 arg6 harg6 arg10 arg12 x1 x3 x4) (ix2 r l) = ((K (perm16 r) l : ℝ) : EReal) := by
  refine (read_whole _ _ r l).trans ?_
  refine Eq.trans ?_ (ext_of K (perm16 r) l)
  apply Scratch.k16 (f := ext K)
  exact fun t l => (hk t l).trans (ext_of K t l).symm

include hv in
theorem v_rows1 (r : Fin 2048) (l : Fin 128) : (kernelRun0_A.sl.v93 c arg4 harg4 arg13 x2) (ix2 r l) = ((W r l : ℝ) : EReal) := by
  refine (read_whole _ _ r l).trans ?_
  refine (canon_whole _ _ r l).trans ?_
  have e := arg_row (h := rfl) harg4 x2 (inb := inb_S1x2048x128_S1x2048x128_0_0_0) r l
  unfold k0_pay11
  refine Eq.trans ?_ (e.trans (hv r l))
  generalize View.readAt _ _ _ _ = X
  pointwise

include hv in
theorem v_rows4 (r : Fin 2048) (l : Fin 128) : (kernelRun0_A.sl.v311 c arg4 harg4 arg13 x2) (ix2 r l) = ((W (perm4 r) l : ℝ) : EReal) := by
  refine (read_whole _ _ r l).trans ?_
  refine Eq.trans ?_ (ext_of W (perm4 r) l)
  apply Scratch.v4 (f := ext W)
  exact fun t l => (hv t l).trans (ext_of W t l).symm

include hv in
theorem v_rows16 (r : Fin 2048) (l : Fin 128) : (kernelRun0_A.sl.v753 c arg4 harg4 arg13 x2) (ix2 r l) = ((W (perm16 r) l : ℝ) : EReal) := by
  refine (read_whole _ _ r l).trans ?_
  refine Eq.trans ?_ (ext_of W (perm16 r) l)
  apply Scratch.v16 (f := ext W)
  exact fun t l => (hv t l).trans (ext_of W t l).symm

/-! ### The three branches -/

include hq hk hQ hK in
theorem scored1 : Branch.Scored 16 (Equiv.refl _) a Mask.mask1 (kernelRun0_A.sl.r_9 c arg2 harg2 arg3 harg3 arg5 harg5 arg6 harg6 arg9 arg10 arg11 arg12 x0 x1 x3 x4) :=
  Branch.scores_apply Mask.mask1_apply (fun r l => q_rows1 (hq := hq) (r := r) (l := l) ..) (fun r l => k_rows1 (hk := hk) (r := r) (l := l) ..) hQ hK

include hq hk hv hQ hK hW in
theorem out1 (t : Fin 2048) (l : Fin 128) : View.canon (kernelRun0_A.sl.HS7_21 c arg2 harg2 arg3 harg3 arg4 harg4 arg5 harg5 arg6 harg6 arg9 arg10 arg11 arg12 arg13 arg14 x0 x1 x2 x3 x4) (ix3 0 t l) = (((a (half l)).out 0 t (el l) : ℝ) : EReal) :=
  (o_slab0 ..).trans (Branch.out_apply links1 fits1 (fun r l => v_rows1 (hv := hv) (r := r) (l := l) ..) hW (fun _ _ _ => scored1 (hq := hq) (hk := hk) (hQ := hQ) (hK := hK) ..) t l)

include hq hk hQ hK in
theorem lse1 (t : Fin 2048) (l : Fin 128) : View.canon (kernelRun0_A.sl.HS8_21 c arg2 harg2 arg3 harg3 arg5 harg5 arg6 harg6 arg9 arg10 arg11 arg12 arg15 x0 x1 x3 x4) (ix3 0 t l) = (((a (half l)).lse 0 t : ℝ) : EReal) :=
  (l_slab0 ..).trans (Branch.lse_apply links1 fits1 (fun _ _ _ => scored1 (hq := hq) (hk := hk) (hQ := hQ) (hK := hK) ..) t l)

theorem pile4 : (kernelRun0_A.sl.r_12 c arg2 harg2 arg5 harg5 arg6 harg6 arg9 arg11 x0 x3 x4) = k0_pay12 (F := Ideal) (kernelRun0_A.sl.v300 c arg2 harg2 arg5 harg5 arg6 harg6 arg9 arg11 x0 x3 x4) := by
  unfold kernelRun0_A.sl.r_12 kernelRun0_A.sl.r_11
  rfl

theorem wins4 : (kernelRun0_A.sl.r_13 c arg3 harg3 arg5 harg5 arg6 harg6 arg10 arg12 x1 x3 x4) = k0_pay13 (F := Ideal) (kernelRun0_A.sl.v309 c arg3 harg3 arg5 harg5 arg6 harg6 arg10 arg12 x1 x3 x4) := by
  unfold kernelRun0_A.sl.r_13
  rfl

include hq hk hQ hK in
theorem scored4 : Branch.Scored 4 perm4 a Mask.mask4 (k0_pay24 (F := Ideal) (kernelRun0_A.sl.r_12 c arg2 harg2 arg5 harg5 arg6 harg6 arg9 arg11 x0 x3 x4) (kernelRun0_A.sl.r_13 c arg3 harg3 arg5 harg5 arg6 harg6 arg10 arg12 x1 x3 x4)) := by
  rw [pile4, wins4]
  exact Branch.scores_apply Mask.mask4_apply (fun r l => q_rows4 (hq := hq) (r := r) (l := l) ..) (fun r l => k_rows4 (hk := hk) (r := r) (l := l) ..) (fun r => hQ (perm4 r)) (fun r => hK (perm4 r))

include hq hk hv hQ hK hW in
theorem out4_row (r : Fin 2048) (l : Fin 128) : View.canon (kernelRun0_A.sl.HS5_1 c arg2 harg2 arg3 harg3 arg4 harg4 arg5 harg5 arg6 harg6 arg9 arg10 arg11 arg12 arg13 x0 x1 x2 x3 x4) (ix2 r l) = (((a (half l)).out 1 (perm4 r) (el l) : ℝ) : EReal) := by
  refine (canon_whole _ _ r l).trans ?_
  refine (Branch.out_rows ..).trans ?_
  exact Branch.out_apply links4 fits4 (fun r l => v_rows4 (hv := hv) (r := r) (l := l) ..) (fun r => hW (perm4 r)) (fun _ _ _ => scored4 (hq := hq) (hk := hk) (hQ := hQ) (hK := hK) ..) r l

include hq hk hQ hK in
theorem lse4_row (r : Fin 2048) (l : Fin 128) : View.canon (kernelRun0_A.sl.HS6_1 c arg2 harg2 arg3 harg3 arg5 harg5 arg6 harg6 arg9 arg10 arg11 arg12 x0 x1 x3 x4) (ix2 r l) = (((a (half l)).lse 1 (perm4 r) : ℝ) : EReal) := by
  refine (canon_whole _ _ r l).trans ?_
  refine (Branch.lse_rows ..).trans ?_
  exact Branch.lse_apply links4 fits4 (fun _ _ _ => scored4 (hq := hq) (hk := hk) (hQ := hQ) (hK := hK) ..) r l

include hq hk hQ hK in
theorem scored16 : Short.Scored perm16 a (kernelRun0_A.sl.r_24 c arg2 harg2 arg3 harg3 arg5 harg5 arg6 harg6 arg9 arg10 arg11 arg12 x0 x1 x3 x4) :=
  Short.scored (fun r l => q_rows16 (hq := hq) (r := r) (l := l) ..) (fun r l => k_rows16 (hk := hk) (r := r) (l := l) ..) (fun r => hQ (perm16 r)) (fun r => hK (perm16 r))

include hq hk hv hQ hK hW in
theorem out16_row (r : Fin 2048) (l : Fin 128) : View.canon (kernelRun0_A.sl.HS5_2 c arg2 harg2 arg3 harg3 arg4 harg4 arg5 harg5 arg6 harg6 arg9 arg10 arg11 arg12 arg13 x0 x1 x2 x3 x4) (ix2 r l) = (((a (half l)).out 2 (perm16 r) (el l) : ℝ) : EReal) :=
  (canon_whole _ _ r l).trans (Short.out_apply links16 (fun r l => v_rows16 (hv := hv) (r := r) (l := l) ..) (fun r => hW (perm16 r)) (fun _ _ _ => scored16 (hq := hq) (hk := hk) (hQ := hQ) (hK := hK) ..) r l)

include hq hk hQ hK in
theorem lse16_row (r : Fin 2048) (l : Fin 128) : View.canon (kernelRun0_A.sl.HS6_2 c arg2 harg2 arg3 harg3 arg5 harg5 arg6 harg6 arg9 arg10 arg11 arg12 x0 x1 x3 x4) (ix2 r l) = (((a (half l)).lse 2 (perm16 r) : ℝ) : EReal) :=
  (canon_whole _ _ r l).trans (Short.lse_apply links16 (fun _ _ _ => scored16 (hq := hq) (hk := hk) (hQ := hQ) (hK := hK) ..) r l)

include hq hk hv hQ hK hW in
theorem out4 (t : Fin 2048) (l : Fin 128) : View.canon (kernelRun0_A.sl.HS7_21 c arg2 harg2 arg3 harg3 arg4 harg4 arg5 harg5 arg6 harg6 arg9 arg10 arg11 arg12 arg13 arg14 x0 x1 x2 x3 x4) (ix3 1 t l) = (((a (half l)).out 1 t (el l) : ℝ) : EReal) := by
  refine (o_slab1 (f := ext fun r l => (a (half l)).out 1 (perm4 r) (el l)) (hf := fun r l => (out4_row (hq := hq) (hk := hk) (hv := hv) (hQ := hQ) (hK := hK) (hW := hW) ..).trans (ext_of (fun r l => (a (half l)).out 1 (perm4 r) (el l)) r l).symm) (t := t) (l := l) ..).trans ?_
  refine (ext_of (fun r l => (a (half l)).out 1 (perm4 r) (el l)) (perm4.symm t) l).trans ?_
  rw [Equiv.apply_symm_apply]

include hq hk hv hQ hK hW in
theorem out16 (t : Fin 2048) (l : Fin 128) : View.canon (kernelRun0_A.sl.HS7_21 c arg2 harg2 arg3 harg3 arg4 harg4 arg5 harg5 arg6 harg6 arg9 arg10 arg11 arg12 arg13 arg14 x0 x1 x2 x3 x4) (ix3 2 t l) = (((a (half l)).out 2 t (el l) : ℝ) : EReal) := by
  refine (o_slab2 (f := ext fun r l => (a (half l)).out 2 (perm16 r) (el l)) (hf := fun r l => (out16_row (hq := hq) (hk := hk) (hv := hv) (hQ := hQ) (hK := hK) (hW := hW) ..).trans (ext_of (fun r l => (a (half l)).out 2 (perm16 r) (el l)) r l).symm) (t := t) (l := l) ..).trans ?_
  refine (ext_of (fun r l => (a (half l)).out 2 (perm16 r) (el l)) (perm16.symm t) l).trans ?_
  rw [Equiv.apply_symm_apply]

include hq hk hQ hK in
theorem lse4 (t : Fin 2048) (l : Fin 128) : View.canon (kernelRun0_A.sl.HS8_21 c arg2 harg2 arg3 harg3 arg5 harg5 arg6 harg6 arg9 arg10 arg11 arg12 arg15 x0 x1 x3 x4) (ix3 1 t l) = (((a (half l)).lse 1 t : ℝ) : EReal) := by
  refine (l_slab1 (f := ext fun r l => (a (half l)).lse 1 (perm4 r)) (hf := fun r l => (lse4_row (hq := hq) (hk := hk) (hQ := hQ) (hK := hK) ..).trans (ext_of (fun r l => (a (half l)).lse 1 (perm4 r)) r l).symm) (t := t) (l := l) ..).trans ?_
  refine (ext_of (fun r l => (a (half l)).lse 1 (perm4 r)) (perm4.symm t) l).trans ?_
  rw [Equiv.apply_symm_apply]

include hq hk hQ hK in
theorem lse16 (t : Fin 2048) (l : Fin 128) : View.canon (kernelRun0_A.sl.HS8_21 c arg2 harg2 arg3 harg3 arg5 harg5 arg6 harg6 arg9 arg10 arg11 arg12 arg15 x0 x1 x3 x4) (ix3 2 t l) = (((a (half l)).lse 2 t : ℝ) : EReal) := by
  refine (l_slab2 (f := ext fun r l => (a (half l)).lse 2 (perm16 r)) (hf := fun r l => (lse16_row (hq := hq) (hk := hk) (hQ := hQ) (hK := hK) ..).trans (ext_of (fun r l => (a (half l)).lse 2 (perm16 r)) r l).symm) (t := t) (l := l) ..).trans ?_
  refine (ext_of (fun r l => (a (half l)).lse 2 (perm16 r)) (perm16.symm t) l).trans ?_
  rw [Equiv.apply_symm_apply]

end Cert.Attend.Point
-- ==== Proof.Attend.Blend.lean ====
/-
  The blend of the branches by a softmax over their logarithms of denominators, and the two blocks that a grid point writes.
-/
module

public import proofs.«01_k».proof.Proof.Attend.Point

@[expose] public section
set_option maxRecDepth 16384
noncomputable section
namespace Cert.Attend.Blend
open Idealize.ShloMosaic Cert.AttendKIdeal Cert.AttendKIdeal.Gen
open Cert.Attn (Head coe_log)
open Cert.Attn.Branch (lane half)
open Cert.Attend.Branch (el)
open Cert.Attend.Scratch (slab_read)
open Cert.Attend.Point
open Cert.Reals
open Idealize.ShloMosaic.TcCoe

section Softmax
variable {l0 l1 l2 o0 o1 o2 : Vec Ideal S1x2048x128 .f32} {g : Head} {t : Fin 2048} {l : Fin 128} {e : Fin 64}
  (h0 : l0 (ix3 0 t l) = ((g.lse 0 t : ℝ) : EReal)) (h1 : l1 (ix3 0 t l) = ((g.lse 1 t : ℝ) : EReal)) (h2 : l2 (ix3 0 t l) = ((g.lse 2 t : ℝ) : EReal))
  (g0 : o0 (ix3 0 t l) = ((g.out 0 t e : ℝ) : EReal)) (g1 : o1 (ix3 0 t l) = ((g.out 1 t e : ℝ) : EReal)) (g2 : o2 (ix3 0 t l) = ((g.out 2 t e : ℝ) : EReal))

theorem peak_three (g : Head) (t : Fin 2048) : max (max (g.lse 0 t) (g.lse 1 t)) (g.lse 2 t) = g.peak t := by
  refine le_antisymm (max_le (max_le ?_ ?_) ?_) (Finset.sup'_le _ _ fun i _ => ?_)
  iterate 3 exact Finset.le_sup' (g.lse · t) (Finset.mem_univ _)
  match i with
  | ⟨0, _⟩ => exact le_max_of_le_left (le_max_left _ _)
  | ⟨1, _⟩ => exact le_max_of_le_left (le_max_right _ _)
  | ⟨2, _⟩ => exact le_max_right _ _

include h0 h1 h2

theorem peak_apply : k0_pay173 (F := Ideal) l0 l1 l2 (ix2 t l) = ((g.peak t : ℝ) : EReal) := by
  pointwise [k0_pay173, k0_pay172, k0_pay171, k0_pay170]
  rw [h0, h1, h2, ← peak_three, EReal.coe_strictMono.monotone.map_max, EReal.coe_strictMono.monotone.map_max]

theorem x0_apply : k0_pay174 (F := Ideal) l0 l1 l2 (ix2 t l) = ((g.x 0 t : ℝ) : EReal) := by
  pointwise [k0_pay174, k0_pay170]
  rw [peak_apply h0 h1 h2, h0, ← EReal.coe_sub]; rfl
theorem x1_apply : k0_pay175 (F := Ideal) l0 l1 l2 (ix2 t l) = ((g.x 1 t : ℝ) : EReal) := by
  pointwise [k0_pay175, k0_pay171]
  rw [peak_apply h0 h1 h2, h1, ← EReal.coe_sub]; rfl
theorem x2_apply : k0_pay176 (F := Ideal) l0 l1 l2 (ix2 t l) = ((g.x 2 t : ℝ) : EReal) := by
  pointwise [k0_pay176, k0_pay172]
  rw [peak_apply h0 h1 h2, h2, ← EReal.coe_sub]; rfl

theorem tot_apply : k0_pay177 (F := Ideal) l0 l1 l2 (ix2 t l) = ((g.tot t : ℝ) : EReal) := by
  pointwise [k0_pay177]
  rw [x0_apply h0 h1 h2, x1_apply h0 h1 h2, x2_apply h0 h1 h2, ← EReal.coe_add, ← EReal.coe_add, Head.tot, Fin.sum_univ_three]

include g0 g1 g2 in
theorem attn_apply : k0_pay178 (F := Ideal) l0 l1 l2 o0 o1 o2 (ix3 0 t l) = ((g.attn t e : ℝ) : EReal) := by
  pointwise [k0_pay178]
  have h := (g.tot_pos t).ne'
  rw [x0_apply h0 h1 h2, x1_apply h0 h1 h2, x2_apply h0 h1 h2, tot_apply h0 h1 h2, g0, g1, g2, coe_div _ _ h, coe_div _ _ h, coe_div _ _ h,
    ← EReal.coe_mul, ← EReal.coe_mul, ← EReal.coe_mul, ← EReal.coe_add, ← EReal.coe_add, Head.attn, Fin.sum_univ_three]
  rfl

theorem logZ_apply : k0_pay1 (F := Ideal) (k0_pay173 l0 l1 l2) (k0_pay179 l0 l1 l2) (ix3 0 t l) = ((g.logZ t : ℝ) : EReal) := by
  pointwise [k0_pay1, k0_pay179]
  rw [peak_apply h0 h1 h2, tot_apply h0 h1 h2, coe_log _ (g.tot_pos t), ← EReal.coe_add]
  rfl

end Softmax

variable (c : Dev nD) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg9 : Memref sig .tc .vmem S2048x128 .f32) (arg10 : Memref sig .tc .vmem S2048x128 .f32) (arg11 : Memref sig .tc .vmem S2048x128 .bf16) (arg12 : Memref sig .tc .vmem S2048x128 .bf16) (arg13 : Memref sig .tc .vmem S2048x128 .bf16) (arg14 : Memref sig .tc .vmem S2048x128 .f32) (arg15 : Memref sig .tc .vmem S2048x128 .f32) (arg16 : Memref sig .tc .vmem S3x2048x128 .f32) (arg17 : Memref sig .tc .vmem S3x2048x128 .f32)
  (x0 x1 x2 x3 x4 : Vec Ideal S1x2048x128 .f32)

variable {Q K W : Fin 2048 → Fin 128 → ℝ} {a : Fin 2 → Head}
  (hq : ∀ t l, View.canon (kernelRun0_A.sl.HS0_1 c arg2 harg2 arg5 harg5 arg6 harg6 x0 x3 x4) (ix2 t l) = ((Q t l : ℝ) : EReal))
  (hk : ∀ t l, View.canon (kernelRun0_A.sl.HS1_1 c arg3 harg3 arg5 harg5 arg6 harg6 x1 x3 x4) (ix2 t l) = ((K t l : ℝ) : EReal))
  (hv : ∀ t l, x2 (ix3 0 t l) = ((W t l : ℝ) : EReal))
  (hQ : ∀ t h e, Q t (lane h e) = (a h).q t e) (hK : ∀ t h e, K t (lane h e) = (a h).k t e)
  (hW : ∀ t h e, W t (lane h e) = (a h).v t e)

include hq hk hQ hK in
theorem slab_l0 (t : Fin 2048) (l : Fin 128) : (kernelRun0_A.sl.v941 c arg2 harg2 arg3 harg3 arg5 harg5 arg6 harg6 arg9 arg10 arg11 arg12 arg15 arg17 x0 x1 x3 x4) (ix3 0 t l) = (((a (half l)).lse 0 t : ℝ) : EReal) :=
  (slab_read 0 t l _ _ rfl).trans (lse1 (hq := hq) (hk := hk) (hQ := hQ) (hK := hK) ..)
include hq hk hQ hK in
theorem slab_l1 (t : Fin 2048) (l : Fin 128) : (kernelRun0_A.sl.v943 c arg2 harg2 arg3 harg3 arg5 harg5 arg6 harg6 arg9 arg10 arg11 arg12 arg15 arg17 x0 x1 x3 x4) (ix3 0 t l) = (((a (half l)).lse 1 t : ℝ) : EReal) :=
  (slab_read 1 t l _ _ rfl).trans (lse4 (hq := hq) (hk := hk) (hQ := hQ) (hK := hK) ..)
include hq hk hQ hK in
theorem slab_l2 (t : Fin 2048) (l : Fin 128) : (kernelRun0_A.sl.v945 c arg2 harg2 arg3 harg3 arg5 harg5 arg6 harg6 arg9 arg10 arg11 arg12 arg15 arg17 x0 x1 x3 x4) (ix3 0 t l) = (((a (half l)).lse 2 t : ℝ) : EReal) :=
  (slab_read 2 t l _ _ rfl).trans (lse16 (hq := hq) (hk := hk) (hQ := hQ) (hK := hK) ..)
include hq hk hv hQ hK hW in
theorem slab_o0 (t : Fin 2048) (l : Fin 128) : (kernelRun0_A.sl.v958 c arg2 harg2 arg3 harg3 arg4 harg4 arg5 harg5 arg6 harg6 arg9 arg10 arg11 arg12 arg13 arg14 arg16 x0 x1 x2 x3 x4) (ix3 0 t l) = (((a (half l)).out 0 t (el l) : ℝ) : EReal) :=
  (slab_read 0 t l _ _ rfl).trans (out1 (hq := hq) (hk := hk) (hv := hv) (hQ := hQ) (hK := hK) (hW := hW) ..)
include hq hk hv hQ hK hW in
theorem slab_o1 (t : Fin 2048) (l : Fin 128) : (kernelRun0_A.sl.v962 c arg2 harg2 arg3 harg3 arg4 harg4 arg5 harg5 arg6 harg6 arg9 arg10 arg11 arg12 arg13 arg14 arg16 x0 x1 x2 x3 x4) (ix3 0 t l) = (((a (half l)).out 1 t (el l) : ℝ) : EReal) :=
  (slab_read 1 t l _ _ rfl).trans (out4 (hq := hq) (hk := hk) (hv := hv) (hQ := hQ) (hK := hK) (hW := hW) ..)
include hq hk hv hQ hK hW in
theorem slab_o2 (t : Fin 2048) (l : Fin 128) : (kernelRun0_A.sl.v966 c arg2 harg2 arg3 harg3 arg4 harg4 arg5 harg5 arg6 harg6 arg9 arg10 arg11 arg12 arg13 arg14 arg16 x0 x1 x2 x3 x4) (ix3 0 t l) = (((a (half l)).out 2 t (el l) : ℝ) : EReal) :=
  (slab_read 2 t l _ _ rfl).trans (out16 (hq := hq) (hk := hk) (hv := hv) (hQ := hQ) (hK := hK) (hW := hW) ..)

include hq hk hv hQ hK hW in
theorem attn_block (t : Fin 2048) (l : Fin 128) : k0_pay178 (F := Ideal) (kernelRun0_A.sl.v941 c arg2 harg2 arg3 harg3 arg5 harg5 arg6 harg6 arg9 arg10 arg11 arg12 arg15 arg17 x0 x1 x3 x4) (kernelRun0_A.sl.v943 c arg2 harg2 arg3 harg3 arg5 harg5 arg6 harg6 arg9 arg10 arg11 arg12 arg15 arg17 x0 x1 x3 x4) (kernelRun0_A.sl.v945 c arg2 harg2 arg3 harg3 arg5 harg5 arg6 harg6 arg9 arg10 arg11 arg12 arg15 arg17 x0 x1 x3 x4) (kernelRun0_A.sl.v958 c arg2 harg2 arg3 harg3 arg4 harg4 arg5 harg5 arg6 harg6 arg9 arg10 arg11 arg12 arg13 arg14 arg16 x0 x1 x2 x3 x4) (kernelRun0_A.sl.v962 c arg2 harg2 arg3 harg3 arg4 harg4 arg5 harg5 arg6 harg6 arg9 arg10 arg11 arg12 arg13 arg14 arg16 x0 x1 x2 x3 x4) (kernelRun0_A.sl.v966 c arg2 harg2 arg3 harg3 arg4 harg4 arg5 harg5 arg6 harg6 arg9 arg10 arg11 arg12 arg13 arg14 arg16 x0 x1 x2 x3 x4) (ix3 0 t l) = (((a (half l)).attn t (el l) : ℝ) : EReal) :=
  attn_apply (slab_l0 (hq := hq) (hk := hk) (hQ := hQ) (hK := hK) ..) (slab_l1 (hq := hq) (hk := hk) (hQ := hQ) (hK := hK) ..) (slab_l2 (hq := hq) (hk := hk) (hQ := hQ) (hK := hK) ..) (slab_o0 (hq := hq) (hk := hk) (hv := hv) (hQ := hQ) (hK := hK) (hW := hW) ..) (slab_o1 (hq := hq) (hk := hk) (hv := hv) (hQ := hQ) (hK := hK) (hW := hW) ..) (slab_o2 (hq := hq) (hk := hk) (hv := hv) (hQ := hQ) (hK := hK) (hW := hW) ..)

include hq hk hQ hK in
theorem logZ_block (t : Fin 2048) (l : Fin 128) : k0_pay1 (F := Ideal) (kernelRun0_A.sl.r_25 c arg2 harg2 arg3 harg3 arg5 harg5 arg6 harg6 arg9 arg10 arg11 arg12 arg15 arg17 x0 x1 x3 x4) (kernelRun0_A.sl.r_26 c arg2 harg2 arg3 harg3 arg5 harg5 arg6 harg6 arg9 arg10 arg11 arg12 arg15 arg17 x0 x1 x3 x4) (ix3 0 t l) = (((a (half l)).logZ t : ℝ) : EReal) :=
  logZ_apply (slab_l0 (hq := hq) (hk := hk) (hQ := hQ) (hK := hK) ..) (slab_l1 (hq := hq) (hk := hk) (hQ := hQ) (hK := hK) ..) (slab_l2 (hq := hq) (hk := hk) (hQ := hQ) (hK := hK) ..)

/-! Each output block is its one store of the whole block. -/

variable (i : grid0.Coords) (arg7 : Memref sig .tc .vmem S1x2048x128 .f32) (harg7 : arg7.IsWhole) (arg8 : Memref sig .tc .vmem S1x2048x128 .f32) (harg8 : arg8.IsWhole)
  (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole)

theorem attn_written : out0_A_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4
    = k0_pay178 (F := Ideal) (kernelRun0_A.sl.v941 c arg2 harg2 arg3 harg3 arg5 harg5 arg6 harg6 arg9 arg10 arg11 arg12 arg15 arg17 x0 x1 x3 x4) (kernelRun0_A.sl.v943 c arg2 harg2 arg3 harg3 arg5 harg5 arg6 harg6 arg9 arg10 arg11 arg12 arg15 arg17 x0 x1 x3 x4) (kernelRun0_A.sl.v945 c arg2 harg2 arg3 harg3 arg5 harg5 arg6 harg6 arg9 arg10 arg11 arg12 arg15 arg17 x0 x1 x3 x4) (kernelRun0_A.sl.v958 c arg2 harg2 arg3 harg3 arg4 harg4 arg5 harg5 arg6 harg6 arg9 arg10 arg11 arg12 arg13 arg14 arg16 x0 x1 x2 x3 x4) (kernelRun0_A.sl.v962 c arg2 harg2 arg3 harg3 arg4 harg4 arg5 harg5 arg6 harg6 arg9 arg10 arg11 arg12 arg13 arg14 arg16 x0 x1 x2 x3 x4) (kernelRun0_A.sl.v966 c arg2 harg2 arg3 harg3 arg4 harg4 arg5 harg5 arg6 harg6 arg9 arg10 arg11 arg12 arg13 arg14 arg16 x0 x1 x2 x3 x4) := by
  unfold out0_A_5
  rw [View.read_writes_junk_eq_canon]
  exact View.canon_cons_unit_lit (S := S1x2048x128) _ _ [] (by decide)

theorem logZ_written : out0_A_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4
    = k0_pay1 (F := Ideal) (kernelRun0_A.sl.r_25 c arg2 harg2 arg3 harg3 arg5 harg5 arg6 harg6 arg9 arg10 arg11 arg12 arg15 arg17 x0 x1 x3 x4) (kernelRun0_A.sl.r_26 c arg2 harg2 arg3 harg3 arg5 harg5 arg6 harg6 arg9 arg10 arg11 arg12 arg15 arg17 x0 x1 x3 x4) := by
  unfold out0_A_6
  rw [View.read_writes_junk_eq_canon]
  exact View.canon_cons_unit_lit (S := S1x2048x128) _ _ [] (by decide)

end Cert.Attend.Blend
end
-- ==== Proof.Attend.Reference.lean ====
/-
  The attention's reference, line by line, as real numbers: its lines up to the masked scores are those of the reference of
  the attention's gradients.
-/
module

public import proofs.«01_k».proof.Proof.Gen.AttendRIdeal.Read
public import proofs.«01_k».proof.Proof.Attn.Blend

@[expose] public section
set_option maxRecDepth 16384
noncomputable section
namespace Cert.Attend.Reference
open Idealize.ShloMosaic Cert.AttendRIdeal Cert.AttendRIdeal.Read
open Cert.Reals Cert.Attn
open Cert.Attn.Reference (score_eq v_eq word_bot add_log f_max_bot f_sub f_exp)

theorem scores_line (x0 x1 : Wide) (x3 : IVec ⟨2, ![4, 2048]⟩ 32) :
    val_main_v63 (F := Ideal) x0 x1 x3 = Cert.AttnRIdeal.Read.val_main_v63 (F := Ideal) x0 x1 x3 := rfl
theorem values_line (x2 : Wide) : val_main_v40 (F := Ideal) x2 = Cert.AttnRIdeal.Read.val_main_v40 (F := Ideal) x2 := rfl

/-- The results. -/
def attnArr (a : Args) : Wide := fun i => (((a.head (i 0) (headOf (i 2))).attn (i 1) (elemOf (i 2)) : ℝ) : EReal)
def logZArr (a : Args) : Wide := fun i => (((a.head (i 0) (headOf (i 2))).logZ (i 1) : ℝ) : EReal)

variable {x0 x1 x2 : Wide} {x3 : IVec ⟨2, ![4, 2048]⟩ 32} {x4 : Wide} {a : Args} (h : Holds x0 x1 x2 x3 x4 a)
include h

theorem top_eq (i : Fin 3) (b : Fin 4) (g : Fin 8) (t : Fin 2048) :
    val_main_v64 (F := Ideal) x0 x1 x3 (ix4 i b g t) = (((a.head b g).top i t : ℝ) : EReal) := by
  unfold val_main_v64
  rw [scores_line]
  pointwise [val_main_cst_6]
  simp only [score_eq h, word_bot]
  exact fold_max _ _ _

theorem p_eq (i : Fin 3) (b : Fin 4) (g : Fin 8) (t u : Fin 2048) :
    val_main_v68 (F := Ideal) x0 x1 x3 (ix5 i b g t u) = (((a.head b g).p i t u : ℝ) : EReal) := by
  pointwise [val_main_v68, val_main_v67, val_main_v66, val_main_v65]
  rw [scores_line, score_eq h, top_eq h, Head.p]
  split
  · rw [← EReal.coe_sub]; rfl
  · exact congrArg Ideal.exp (EReal.bot_sub _)

theorem den_eq (i : Fin 3) (b : Fin 4) (g : Fin 8) (t : Fin 2048) :
    val_main_v69 (F := Ideal) x0 x1 x3 (ix4 i b g t) = (((a.head b g).den i t : ℝ) : EReal) := by
  pointwise [val_main_v69, val_main_cst_7]
  simp only [p_eq h, coe_sum, word_zero, zero_add]; rfl

theorem out_eq (i : Fin 3) (b : Fin 4) (g : Fin 8) (t : Fin 2048) (e : Fin 64) :
    val_main_v74 (F := Ideal) x0 x1 x2 x3 (ix5 i b g t e) = (((a.head b g).out i t e : ℝ) : EReal) := by
  pointwise [val_main_v74, val_main_v73, val_main_v72, val_main_v71, val_main_v70]
  simp only [values_line, p_eq h, v_eq h, den_eq h, ← EReal.coe_mul, coe_sum]
  rw [coe_div _ _ ((a.head b g).den_pos i t).ne']; rfl

theorem lse_eq (i : Fin 3) (b : Fin 4) (g : Fin 8) (t : Fin 2048) :
    val_main_v76 (F := Ideal) x0 x1 x3 (ix4 i b g t) = (((a.head b g).lse i t : ℝ) : EReal) := by
  rw [val_main_v76_apply, val_main_v75_apply, top_eq h, den_eq h]
  exact add_log _ _ ((a.head b g).den_pos i t)

theorem peak_eq (b : Fin 4) (g : Fin 8) (t : Fin 2048) :
    val_main_v77 (F := Ideal) x0 x1 x3 (ix3 b g t) = (((a.head b g).peak t : ℝ) : EReal) := by
  pointwise [val_main_v77, val_main_cst_8]
  simp only [lse_eq h, word_bot]
  exact fold_max_all _ _

/-- The greatest of the branches, against the least value. -/
theorem peak_bot (b : Fin 4) (g : Fin 8) (t : Fin 2048) :
    val_main_v79 (F := Ideal) x0 x1 x3 (ix3 b g t) = (((a.head b g).peak t : ℝ) : EReal) := by
  have e : val_main_v78 (F := Ideal) (ix3 b g t) = ⊥ := by
    pointwise [val_main_v78, val_main_cst_9]
    exact word_bot
  rw [val_main_v79_apply, e, peak_eq h]
  exact f_max_bot _

theorem x_eq (i : Fin 3) (b : Fin 4) (g : Fin 8) (t : Fin 2048) :
    val_main_v83 (F := Ideal) x0 x1 x3 (ix4 i b g t) = (((a.head b g).x i t : ℝ) : EReal) := by
  have e : val_main_v81 (F := Ideal) x0 x1 x3 (ix4 i b g t) = val_main_v79 (F := Ideal) x0 x1 x3 (ix3 b g t) := by
    pointwise [val_main_v81, val_main_v80]
  rw [val_main_v83_apply, val_main_v82_apply, e, peak_bot h, lse_eq h, f_sub, f_exp, Head.x]

theorem tot_eq (b : Fin 4) (g : Fin 8) (t : Fin 2048) :
    val_main_v84 (F := Ideal) x0 x1 x3 (ix3 b g t) = (((a.head b g).tot t : ℝ) : EReal) := by
  pointwise [val_main_v84, val_main_cst_10]
  simp only [x_eq h, coe_sum, word_zero, ← EReal.coe_add, zero_add, Head.tot]

theorem attn_eq (b : Fin 4) (g : Fin 8) (t : Fin 2048) (e : Fin 64) :
    val_main_v91 (F := Ideal) x0 x1 x2 x3 (ix4 b g t e) = (((a.head b g).attn t e : ℝ) : EReal) := by
  pointwise [val_main_v91, val_main_cst_11, val_main_v90, val_main_v89, val_main_v88, val_main_v87, val_main_v86, val_main_v85]
  simp only [x_eq h, tot_eq h, out_eq h, coe_div _ _ ((a.head b g).tot_pos t).ne', ← EReal.coe_mul, coe_sum, word_zero, ← EReal.coe_add,
    zero_add]
  rfl

theorem peak_again (b : Fin 4) (g : Fin 8) (t : Fin 2048) :
    val_main_v92 (F := Ideal) x0 x1 x3 (ix3 b g t) = (((a.head b g).peak t : ℝ) : EReal) := peak_eq h b g t

theorem logZ_eq (b : Fin 4) (g : Fin 8) (t : Fin 2048) (e : Fin 64) :
    val_main_v101 (F := Ideal) x0 x1 x3 (ix4 b g t e) = (((a.head b g).logZ t : ℝ) : EReal) := by
  have ex (i : Fin 3) : val_main_v96 (F := Ideal) x0 x1 x3 (ix4 i b g t) = (((a.head b g).x i t : ℝ) : EReal) := by
    have e : val_main_v94 (F := Ideal) x0 x1 x3 (ix4 i b g t) = val_main_v92 (F := Ideal) x0 x1 x3 (ix3 b g t) := by
      pointwise [val_main_v94, val_main_v93]
    rw [val_main_v96_apply, val_main_v95_apply, e, peak_again h, lse_eq h, f_sub, f_exp, Head.x]
  have et : val_main_v97 (F := Ideal) x0 x1 x3 (ix3 b g t) = (((a.head b g).tot t : ℝ) : EReal) := by
    pointwise [val_main_v97, val_main_cst_13]
    simp only [ex, coe_sum, word_zero, ← EReal.coe_add, zero_add, Head.tot]
  have e : val_main_v101 (F := Ideal) x0 x1 x3 (ix4 b g t e) = val_main_v99 (F := Ideal) x0 x1 x3 (ix3 b g t) := by
    pointwise [val_main_v101, val_main_v100]
  rw [e, val_main_v99_apply, val_main_v98_apply, peak_again h, et]
  exact add_log _ _ ((a.head b g).tot_pos t)

theorem attn_result : val_main_v103 (F := Ideal) x0 x1 x2 x3 = attnArr a := by
  funext i
  obtain ⟨b, t, j, rfl⟩ : ∃ b t j, i = ix3 b t j := ⟨i 0, i 1, i 2, by funext k; fin_cases k <;> rfl⟩
  pointwise [val_main_v103, val_main_v102]
  exact attn_eq h b (headOf j) t (elemOf j)

theorem logZ_result : val_main_v105 (F := Ideal) x0 x1 x3 = logZArr a := by
  funext i
  obtain ⟨b, t, j, rfl⟩ : ∃ b t j, i = ix3 b t j := ⟨i 0, i 1, i 2, by funext k; fin_cases k <;> rfl⟩
  pointwise [val_main_v105, val_main_v104]
  exact logZ_eq h b (headOf j) t (elemOf j)

end Cert.Attend.Reference
end
-- ==== Proof.Attend.Kernel.lean ====
/-
  What the kernel of the attention leaves in its two results: each grid point takes two heads of one sequence and writes
  their columns of the output and of the logarithm of the summed denominators.
-/
module

public import proofs.«01_k».proof.Proof.Attend.Blocks
public import proofs.«01_k».proof.Proof.Attend.Blend
public import proofs.«01_k».proof.Proof.Attend.Reference

@[expose] public section
set_option maxRecDepth 16384
noncomputable section
namespace Cert.Attend.Kernel
open Idealize.ShloMosaic Idealize.SL.Sem Cert.AttendKIdeal Cert.AttendKIdeal.Gen
open Idealize.ShloMosaic.TcCoe
open Cert.Reals Cert.Attn Cert.Attn.Heads Cert.Attend.Blend
open Cert.Attend.Reference (attnArr logZArr)

variable {m : (ℓ : Loc nD τ sig) → Buf (Elt Ideal) ℓ} {c : Dev nD} {x4 : Wide} {a : Args}
  (h : Holds (q m c) (k m c) (v m c) (pos m c) x4 a)
include h

theorem final_attn : (dats m 0 c).arrAt 5 cfg0.N = attnArr a := by
  refine (dats m 0 c).arrAt_eq_of_covers 5 _ (by decide +kernel) fun t hf y => ?_
  blk_simp
  rw [after0_5, outsAt0]
  dsimp only
  rw [attn_written]
  idx_vars y
  obtain rfl : y0 = 0 := Subsingleton.elim _ _
  rw [emb5]
  refine (attn_block (hq := fun i l => row_q h t i l _ _ _ _ _ _) (hk := fun i l => row_k h t i l _ _ _ _ _ _) (hv := row_v h t)
    (hQ := row_of_q a t) (hK := row_of_k a t) (hW := row_of_v a t) (t := y1) (l := y2) ..).trans ?_
  rw [headAt_half, ← headOf_col, show Attend.Branch.el y2 = el y2 from rfl, ← elemOf_col (pair t)]
  rfl

theorem final_logZ : (dats m 0 c).arrAt 6 cfg0.N = logZArr a := by
  refine (dats m 0 c).arrAt_eq_of_covers 6 _ (by decide +kernel) fun t hf y => ?_
  blk_simp
  rw [after0_6, outsAt0]
  dsimp only
  rw [logZ_written]
  idx_vars y
  obtain rfl : y0 = 0 := Subsingleton.elim _ _
  rw [emb6]
  refine (logZ_block (hq := fun i l => row_q h t i l _ _ _ _ _ _) (hk := fun i l => row_k h t i l _ _ _ _ _ _)
    (hQ := row_of_q a t) (hK := row_of_k a t) (t := y1) (l := y2) ..).trans ?_
  rw [headAt_half, ← headOf_col]
  rfl

end Cert.Attend.Kernel
end
-- ==== Proof.Attend.Claims.lean ====
/-
  The claims about the attention's forward call: its runs end quietly with the arguments unchanged, and on finite
  queries, keys and values it returns the attention's output and the logarithm of the summed denominators.
-/
module

public import proofs.«01_k».proof.Defs
public import proofs.«01_k».proof.Proof.Gen.AttendK.Frame
public import proofs.«01_k».proof.Proof.Gen.AttendRIdeal.Run
public import proofs.«01_k».proof.Proof.Gen.Pre_attend_finite
public import proofs.«01_k».proof.Proof.Attend.Kernel
public import Idealize.ShloMosaic.Lib.Quiescent

@[expose] public section

set_option maxRecDepth 16384

noncomputable section

namespace Cert.Attend.Claims

open Idealize.ShloMosaic Idealize.SL.Sem Cert.Reals Cert.Attn

theorem frame_kernel : Cert.quiescent_AttendK := fun m ρ _ => Cert.AttendK.Gen.frame m ρ
theorem frame_ideal : Cert.quiescent_AttendKIdeal := fun m ρ _ => Cert.AttendKIdeal.Gen.frame m ρ
theorem frame_ideal_pre : Cert.quiescent_AttendKIdeal_pre_attend_finite := fun m ρ _ => Cert.AttendKIdeal.Gen.frame m ρ
theorem frame_reference : Cert.quiescent_AttendRIdeal := fun m ρ _ =>
  (θ_run Cert.AttendRIdeal.defs _ _).mono (fun r h => ⟨fun c => (h c).2.2, sem_eq_zero_of_no_sems (by decide) r.2⟩)
    (Cert.AttendRIdeal.Value.run (F := Ideal) m ρ)
theorem frame_reference_pre : Cert.quiescent_AttendRIdeal_pre_attend_finite := fun m ρ _ => frame_reference m ρ trivial
theorem preserves : Cert.preserves_AttendK_AttendKIdeal := IdealRules.named_const.statement _ _ _ _ _ rfl

/-- Finite arguments are the casts of their reals; no gradient of the output is given, and none is read. -/
theorem holds_of_finite (x0 x1 x2 : Wide) (x3 : IVec ⟨2, ![4, 2048]⟩ 32)
    (h : (Cert.Pre_attend_finite.fn (F := Ideal) x0 x1 x2 x3).1 = (fun _ => 1#1)
      ∧ (Cert.Pre_attend_finite.fn (F := Ideal) x0 x1 x2 x3).2.1 = (fun _ => 1#1)
      ∧ (Cert.Pre_attend_finite.fn (F := Ideal) x0 x1 x2 x3).2.2 = (fun _ => 1#1)) :
    ∃ a, Holds x0 x1 x2 x3 (fun _ => ((0 : ℝ) : EReal)) a := by
  obtain ⟨h0, h1, h2⟩ := h
  refine ⟨⟨fun b t j => EReal.toReal (x0 (ix3 b t j)), fun b t j => EReal.toReal (x1 (ix3 b t j)), fun b t j => EReal.toReal (x2 (ix3 b t j)),
    fun b t => x3 (ix2 b t), fun _ _ _ => 0⟩,
    fun b t j => real_of_abs_lt _ ?_, fun b t j => real_of_abs_lt _ ?_, fun b t j => real_of_abs_lt _ ?_, fun _ _ => rfl,
    fun _ _ _ => rfl⟩
    <;> rw [← word_inf]
  · exact congrFun h0 (ix3 b t j)
  · exact congrFun h1 (ix3 b t j)
  · exact congrFun h2 (ix3 b t j)

theorem algebraic : Cert.algebraic_AttendKIdeal_AttendRIdeal_pre_attend_finite := by
  intro m ρ m' ρ' hpre hagree
  choose a hm using fun c => holds_of_finite _ _ _ _ (hpre c)
  have hm' c : Holds (m' (c, Proc.tc.devRef AttendRIdeal.main_arg0))
        (m' (c, Proc.tc.devRef AttendRIdeal.main_arg1))
        (m' (c, Proc.tc.devRef AttendRIdeal.main_arg2))
        (m' (c, Proc.tc.devRef AttendRIdeal.main_arg3))
        (fun _ => ((0 : ℝ) : EReal)) (a c) := by
    obtain ⟨e0, e1, e2, e3⟩ := hagree c
    exact e0 ▸ e1 ▸ e2 ▸ e3 ▸ hm c
  refine ⟨fun c => Attend.Reference.attnArr (a c), fun c => Attend.Reference.logZArr (a c), ?_, ?_⟩
  · exact (θ_run Cert.AttendKIdeal.defs _ _).mono
      (fun r h c => ⟨(h c).1.trans (Kernel.final_attn (hm c)),
        (h c).2.1.trans (Kernel.final_logZ (hm c)), (h c).2.2⟩)
      (Cert.AttendKIdeal.Value.run_blocks (F := Ideal) m ρ)
  · exact (θ_run Cert.AttendRIdeal.defs _ _).mono
      (fun r h c => ⟨((h c).1.trans (Cert.AttendRIdeal.Read.val_main_v103_eq _)).trans (Attend.Reference.attn_result (hm' c)),
        ((h c).2.1.trans (Cert.AttendRIdeal.Read.val_main_v105_eq _)).trans (Attend.Reference.logZ_result (hm' c)), (h c).2.2⟩)
      (Cert.AttendRIdeal.Value.run (F := Ideal) m' ρ')

end Cert.Attend.Claims

end
-- ==== Proof.Act.Spec.lean ====
/-
  The squared unit of the first feed-forward product: `max (h · w + b) 0` squared. Stated on the extended reals, so that
  it needs no finiteness.
-/
module

public import proofs.«01_k».proof.Proof.Reals

@[expose] public section

noncomputable section

namespace Cert.Act

open Idealize.ShloMosaic

abbrev Wide := FVec Ideal ⟨2, ![8192, 1024]⟩ .f32
abbrev Weight := FVec Ideal ⟨2, ![1024, 4096]⟩ .f32
abbrev Bias := FVec Ideal ⟨1, ![4096]⟩ .f32

def square (y : EReal) : EReal := max y 0 * max y 0
/-- The unit at row `r`, column `j`. -/
def at' (h : Wide) (w : Weight) (b : Bias) (r : Fin 8192) (j : Fin 4096) : EReal :=
  square ((∑ k, h (ix2 r k) * w (ix2 k j)) + b (ix1 j))
def actArr (h : Wide) (w : Weight) (b : Bias) : FVec Ideal ⟨2, ![8192, 4096]⟩ .bf16 := fun i => at' h w b (i 0) (i 1)

end Cert.Act

end
-- ==== Proof.Act.Kernel.lean ====
/-
  What the kernel of the squared unit leaves in its result: each grid point takes 512 rows and lays eight column blocks of
  512 side by side.
-/
module

public import proofs.«01_k».proof.Proof.Gen.ActKIdeal.Value
public import proofs.«01_k».proof.Proof.Act.Spec
public import proofs.«01_k».proof.Proof.Rows
public import Idealize.ShloMosaic.Lib.Pipeline.ValueKit
public import Idealize.ShloMosaic.Lib.StableHlo.ReadAt

@[expose] public section

set_option maxRecDepth 16384

noncomputable section

namespace Cert.Act.Kernel

open Idealize.ShloMosaic Idealize.SL.Sem Cert.ActKIdeal Cert.ActKIdeal.Gen
open Idealize.ShloMosaic.TcCoe
open Idealize.ShloMosaic.Pipeline (Dat)

variable (m : (ℓ : Loc nD τ sig) → Buf (Elt Ideal) ℓ) (c : Dev nD)

/-- The program's arguments on this device. -/
abbrev h : Wide := m (c, Proc.tc.devRef main_arg0)
abbrev w : Weight := m (c, Proc.tc.devRef main_arg1)
abbrev b : Bias := m (c, Proc.tc.devRef main_arg2)

theorem idx : ∀ t : Fin cfg0.N, win0_0.index t = ![t.val, 0] ∧ win0_1.index t = ![0, 0, 0] ∧ win0_2.index t = ![0, 0]
    ∧ win0_3.index t = ![t.val, 0] :=
  (by decide +kernel : ∀ t : Fin grid0.N, _)

/-- Row `i` of block `t` of the arrays. -/
abbrev row (t : Fin cfg0.N) (i : Fin 512) : Fin 8192 := Rows.row (N := cfg0.N) (S := 512) rfl t i
/-- Column `k` of column block `d`. -/
abbrev col (d : Fin 8) (k : Fin 512) : Fin 4096 := Rows.row (N := 8) (S := 512) rfl d k

theorem emb3 (t : Fin cfg0.N) (i : Fin 512) (j : Fin 4096) :
    ((View.whole main_v4).slice (win0_3.rect t)).emb (ix2 i j) = ix2 (row t i) j := by
  blk_ext [idx t, row, Rows.row]

theorem blk_h (t : Fin cfg0.N) (i : Fin 512) (j : Fin 1024) : iblk m c 0 t (ix2 i j) = h m c (ix2 (row t i) j) := by
  have e : V m c main_arg0 (ix2 (row t i) j) = h m c (ix2 (row t i) j) := by unfold V; after_reads_at
  rw [← e]; blk_ext [iblk, idx t, row, Rows.row]
theorem blk_w (t : Fin cfg0.N) (d : Fin 8) (q : Fin 1024) (k : Fin 512) : iblk m c 1 t (ix3 d q k) = w m c (ix2 q (col d k)) := by
  have e : V m c main_v2 (ix3 d q k) = w m c (ix2 q (col d k)) := by unfold V; after_reads_at; rfl
  rw [← e]; blk_ext [iblk, idx t]
theorem blk_b (t : Fin cfg0.N) (j : Fin 4096) : iblk m c 2 t (ix2 0 j) = b m c (ix1 j) := by
  have e : V m c main_v3 (ix2 0 j) = b m c (ix1 j) := by unfold V; after_reads_at
  rw [← e]; blk_ext [iblk, idx t]

/-- Slice `d` of the weight's blocks. -/
abbrev ld (t : Fin cfg0.N) (d : Nat)
    (hd : ∀ k : Fin 3, (![d, 0, 0] : Fin 3 → Nat) k + (![1, 1024, 512] : Fin 3 → Nat) k ≤ (![8, 1024, 512] : Fin 3 → Nat) k) :=
  View.ld (iblk m c 1 t) (Rect.unit (s := S8x1024x512) ![d, 0, 0] ![1, 1024, 512] hd)

theorem ld_w (t : Fin cfg0.N) (d : Nat) (hd) (q : Fin 1024) (k : Fin 512) (h8 : d < 8) :
    ld m c t d hd (ix3 0 q k) = w m c (ix2 q (col ⟨d, h8⟩ k)) := by
  rw [← blk_w m c t]
  unfold ld
  pointwise

/-- The eight blocks' products side by side, the bias added, squared. -/
theorem side_by_side (x : FVec Ideal S512x1024 .f32) (s0 s1 s2 s3 s4 s5 s6 s7 : FVec Ideal S1x1024x512 .bf16)
    (b' : FVec Ideal S1x4096 .f32) (i : Fin 512) (j : Fin 4096) (W : Fin 1024 → Fin 4096 → EReal)
    (h0 : ∀ q k, s0 (ix3 0 q k) = W q (col 0 k)) (h1 : ∀ q k, s1 (ix3 0 q k) = W q (col 1 k))
    (h2 : ∀ q k, s2 (ix3 0 q k) = W q (col 2 k)) (h3 : ∀ q k, s3 (ix3 0 q k) = W q (col 3 k))
    (h4 : ∀ q k, s4 (ix3 0 q k) = W q (col 4 k)) (h5 : ∀ q k, s5 (ix3 0 q k) = W q (col 5 k))
    (h6 : ∀ q k, s6 (ix3 0 q k) = W q (col 6 k)) (h7 : ∀ q k, s7 (ix3 0 q k) = W q (col 7 k)) :
    k0_pay1 (F := Ideal) x (k0_pay2 x s0) (k0_pay3 x s1) (k0_pay4 x s2) (k0_pay5 x s3) (k0_pay6 x s4) (k0_pay7 x s5)
      (k0_pay8 x s6) s7 b' (ix2 i j) = square ((∑ q, x (ix2 i q) * W q j) + b' (ix2 0 j)) := by
  have hj := j.isLt
  have at_col : ∀ (d : Fin 8) (k : Fin 512), col d k = j → ∀ (s : FVec Ideal S1x1024x512 .bf16),
      (∀ q k, s (ix3 0 q k) = W q (col d k)) → (∑ q, x (ix2 i q) * s (ix3 0 q k)) = ∑ q, x (ix2 i q) * W q j :=
    fun d k e s hs => Finset.sum_congr rfl fun q _ => by rw [hs, e]
  pointwise [k0_pay1, k0_pay2, k0_pay3, k0_pay4, k0_pay5, k0_pay6, k0_pay7, k0_pay8]
  refine congrArg square (congrArg (· + b' (ix2 0 j)) ?_)
  split_ifs
  all_goals first
    | exact absurd rfl ‹_›
    | exact at_col 0 _ (Fin.ext (by simp [col, Rows.row])) s0 h0
    | exact at_col 1 _ (Fin.ext (by simp [col, Rows.row]; omega)) s1 h1
    | exact at_col 2 _ (Fin.ext (by simp [col, Rows.row]; omega)) s2 h2
    | exact at_col 3 _ (Fin.ext (by simp [col, Rows.row]; omega)) s3 h3
    | exact at_col 4 _ (Fin.ext (by simp [col, Rows.row]; omega)) s4 h4
    | exact at_col 5 _ (Fin.ext (by simp [col, Rows.row]; omega)) s5 h5
    | exact at_col 6 _ (Fin.ext (by simp [col, Rows.row]; omega)) s6 h6
    | exact at_col 7 _ (Fin.ext (by simp [col, Rows.row]; omega)) s7 h7

theorem final : (dats m 0 c).arrAt 3 cfg0.N = actArr (h m c) (w m c) (b m c) := by
  refine (dats m 0 c).arrAt_eq_of_covers 3 _ (by decide +kernel) fun t hf y => ?_
  blk_simp
  rw [after0_3]
  frame_out
  idx_vars y
  rw [emb3]
  refine (side_by_side _ _ _ _ _ _ _ _ _ _ _ _ (fun q k => w m c (ix2 q k))
    (ld_w m c t 0 _ · · (by decide)) (ld_w m c t 1 _ · · (by decide)) (ld_w m c t 2 _ · · (by decide))
    (ld_w m c t 3 _ · · (by decide)) (ld_w m c t 4 _ · · (by decide)) (ld_w m c t 5 _ · · (by decide))
    (ld_w m c t 6 _ · · (by decide)) (ld_w m c t 7 _ · · (by decide))).trans ?_
  simp only [blk_h, blk_b]
  rfl

end Cert.Act.Kernel

end
-- ==== Proof.Act.Reference.lean ====
/-
  What the reference of the squared unit computes.
-/
module

public import proofs.«01_k».proof.Proof.Gen.ActRIdeal.Read
public import proofs.«01_k».proof.Proof.Act.Spec
public import Idealize.ShloMosaic.Lib.Pointwise

@[expose] public section

set_option maxRecDepth 16384

noncomputable section

namespace Cert.Act.Reference

open Idealize.ShloMosaic Cert.ActRIdeal Cert.ActRIdeal.Gen Cert.ActRIdeal.Read

theorem act_eq (x0 : Wide) (x1 : Weight) (x2 : Bias) : val_main_v6 (F := Ideal) x0 x1 x2 = actArr x0 x1 x2 := by
  funext i
  idx_vars i
  pointwise [actArr, val_main_v6, val_main_v5, val_main_v4, val_main_call0_v0, val_main_call0_cst, val_main_v3, val_main_v2,
    val_main_v1, val_main_v0]
  rfl

end Cert.Act.Reference

end
-- ==== Proof.Act.Claims.lean ====
/-
  The claims about the squared unit: its runs end quietly with the arguments unchanged, and on all arguments it returns the
  squared unit of the product.
-/
module

public import proofs.«01_k».proof.Defs
public import proofs.«01_k».proof.Proof.Gen.ActK.Frame
public import proofs.«01_k».proof.Proof.Gen.ActRIdeal.Run
public import proofs.«01_k».proof.Proof.Act.Kernel
public import proofs.«01_k».proof.Proof.Act.Reference
public import Idealize.ShloMosaic.Lib.Quiescent

@[expose] public section

set_option maxRecDepth 16384

noncomputable section

namespace Cert.Act.Claims

open Idealize.ShloMosaic Idealize.SL.Sem

theorem frame_kernel : Cert.quiescent_ActK := fun m ρ _ => Cert.ActK.Gen.frame m ρ
theorem frame_ideal : Cert.quiescent_ActKIdeal := fun m ρ _ => Cert.ActKIdeal.Gen.frame m ρ
theorem frame_reference : Cert.quiescent_ActRIdeal := fun m ρ _ =>
  (θ_run Cert.ActRIdeal.defs _ _).mono (fun r h => ⟨fun c => (h c).2, sem_eq_zero_of_no_sems (by decide) r.2⟩)
    (Cert.ActRIdeal.Value.run (F := Ideal) m ρ)
theorem preserves : Cert.preserves_ActK_ActKIdeal := trivial

theorem algebraic : Cert.algebraic_ActKIdeal_ActRIdeal := by
  intro m ρ m' ρ' _ hagree
  refine ⟨fun c => actArr (Kernel.h m c) (Kernel.w m c) (Kernel.b m c), ?_, ?_⟩
  · exact (θ_run Cert.ActKIdeal.defs _ _).mono
      (fun r h c => ⟨(h c).1.trans (Kernel.final m c), (h c).2⟩)
      (Cert.ActKIdeal.Value.run_blocks (F := Ideal) m ρ)
  · refine (θ_run Cert.ActRIdeal.defs _ _).mono (fun r h c => ⟨?_, (h c).2⟩)
      (Cert.ActRIdeal.Value.run (F := Ideal) m' ρ')
    obtain ⟨e0, e1, e2⟩ := hagree c
    refine ((h c).1.trans (Cert.ActRIdeal.Read.val_main_v6_eq _ _ _)).trans ((Reference.act_eq _ _ _).trans ?_)
    exact congr (congrArg₂ actArr e0 e1) e2

end Cert.Act.Claims

end
-- ==== Proof.Residual.lean ====
/-
  A product and its bias added to the scaled residual, and the layer norm of the rows. Stated on the extended reals, so
  that it needs no finiteness.
-/
module

public import proofs.«01_k».proof.Proof.Reals

@[expose] public section

noncomputable section

namespace Cert.Residual

open Idealize.ShloMosaic

abbrev Wide := FVec Ideal ⟨2, ![8192, 1024]⟩ .f32
abbrev Row := FVec Ideal ⟨1, ![1024]⟩ .f32

/-! The layer norm of a row, with the number of values and the epsilon as the floats every program writes. -/

def mean (p : Fin 1024 → EReal) : EReal := Ideal.div (∑ k, p k) (Ideal.ofBits .f32 0x44800000#32)
def cen (p : Fin 1024 → EReal) (j : Fin 1024) : EReal := p j - mean p
def norm (p g b : Fin 1024 → EReal) (j : Fin 1024) : EReal :=
  cen p j * Ideal.rsqrt (mean (fun k => cen p k * cen p k) + Ideal.ofBits .f32 0x3727C5AC#32) * g j + b j

/-- The sum at row `r`, column `j`; `K` is the product's inner length. -/
def pre {K : Nat} (x : FVec Ideal ⟨2, ![8192, K]⟩ .f32) (h : Wide) (w : FVec Ideal ⟨2, ![K, 1024]⟩ .f32) (b : Row)
    (r : Fin 8192) (j : Fin 1024) : EReal :=
  Ideal.ofBits .f32 0x3FD744FD#32 * h (ix2 r j) + ((∑ k, x (ix2 r k) * w (ix2 k j)) + b (ix1 j))

def preArr {K : Nat} (x : FVec Ideal ⟨2, ![8192, K]⟩ .f32) (h : Wide) (w : FVec Ideal ⟨2, ![K, 1024]⟩ .f32) (b : Row) : Wide :=
  fun i => pre x h w b (i 0) (i 1)
def normArr {K : Nat} (x : FVec Ideal ⟨2, ![8192, K]⟩ .f32) (h : Wide) (w : FVec Ideal ⟨2, ![K, 1024]⟩ .f32) (b g s : Row) : Wide :=
  fun i => norm (pre x h w b (i 0)) (fun k => g (ix1 k)) (fun k => s (ix1 k)) (i 1)

end Cert.Residual

end
-- ==== Proof.Post.Kernel.lean ====
/-
  What the kernel of the second feed-forward product with the residual leaves in its two results: each grid point takes 512 rows and writes their sum and their norm.
-/
module

public import proofs.«01_k».proof.Proof.Gen.PostKIdeal.Value
public import proofs.«01_k».proof.Proof.Residual
public import proofs.«01_k».proof.Proof.Rows
public import Idealize.ShloMosaic.Lib.Pipeline.ValueKit
public import Idealize.ShloMosaic.Lib.StableHlo.ReadAt

@[expose] public section

set_option maxRecDepth 16384

noncomputable section

namespace Cert.Post.Kernel

open Idealize.ShloMosaic Idealize.SL.Sem Cert.PostKIdeal Cert.PostKIdeal.Gen
open Idealize.ShloMosaic.TcCoe
open Idealize.ShloMosaic.Pipeline (Dat)
open Cert.Residual

variable (m : (ℓ : Loc nD τ sig) → Buf (Elt Ideal) ℓ) (c : Dev nD)

/-- The program's arguments on this device. -/
abbrev x : FVec Ideal ⟨2, ![8192, 4096]⟩ .f32 := m (c, Proc.tc.devRef main_arg0)
abbrev h : Wide := m (c, Proc.tc.devRef main_arg1)
abbrev w : FVec Ideal ⟨2, ![4096, 1024]⟩ .f32 := m (c, Proc.tc.devRef main_arg2)
abbrev b : Row := m (c, Proc.tc.devRef main_arg3)
abbrev g : Row := m (c, Proc.tc.devRef main_arg4)
abbrev s : Row := m (c, Proc.tc.devRef main_arg5)

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] :=
  (by decide +kernel : ∀ t : Fin grid0.N, _)

/-- Row `i` of block `t` of the arrays. -/
abbrev row (t : Fin cfg0.N) (i : Fin 512) : Fin 8192 := Rows.row (N := cfg0.N) (S := 512) rfl t i

theorem emb6 (t : Fin cfg0.N) (i : Fin 512) (j : Fin 1024) :
    ((View.whole main_v5_0).slice (win0_6.rect t)).emb (ix2 i j) = ix2 (row t i) j := by
  blk_ext [idx t, row, Rows.row]
theorem emb7 (t : Fin cfg0.N) (i : Fin 512) (j : Fin 1024) :
    ((View.whole main_v5_1).slice (win0_7.rect t)).emb (ix2 i j) = ix2 (row t i) j := by
  blk_ext [idx t, row, Rows.row]

theorem blk_x (t : Fin cfg0.N) (i : Fin 512) (j : Fin 4096) : iblk m c 0 t (ix2 i j) = x m c (ix2 (row t i) j) := by
  have e : V m c main_v0 (ix2 (row t i) j) = x m c (ix2 (row t i) j) := by unfold V; after_reads_at
  rw [← e]; blk_ext [iblk, idx t, row, Rows.row]
theorem blk_h (t : Fin cfg0.N) (i : Fin 512) (j : Fin 1024) : iblk m c 1 t (ix2 i j) = h m c (ix2 (row t i) j) := by
  have e : V m c main_arg1 (ix2 (row t i) j) = h m c (ix2 (row t i) j) := by unfold V; after_reads_at
  rw [← e]; blk_ext [iblk, idx t, row, Rows.row]
theorem blk_w (t : Fin cfg0.N) (i : Fin 4096) (j : Fin 1024) : iblk m c 2 t (ix2 i j) = w m c (ix2 i j) := by
  have e : V m c main_v1 (ix2 i j) = w m c (ix2 i j) := by unfold V; after_reads_at
  rw [← e]; blk_ext [iblk, idx t]
theorem blk_b (t : Fin cfg0.N) (j : Fin 1024) : iblk m c 3 t (ix2 0 j) = b m c (ix1 j) := by
  have e : V m c main_v2 (ix2 0 j) = b m c (ix1 j) := by unfold V; after_reads_at
  rw [← e]; blk_ext [iblk, idx t]
theorem blk_g (t : Fin cfg0.N) (j : Fin 1024) : iblk m c 4 t (ix2 0 j) = g m c (ix1 j) := by
  have e : V m c main_v3 (ix2 0 j) = g m c (ix1 j) := by unfold V; after_reads_at
  rw [← e]; blk_ext [iblk, idx t]
theorem blk_s (t : Fin cfg0.N) (j : Fin 1024) : iblk m c 5 t (ix2 0 j) = s m c (ix1 j) := by
  have e : V m c main_v4 (ix2 0 j) = s m c (ix1 j) := by unfold V; after_reads_at
  rw [← e]; blk_ext [iblk, idx t]

theorem pre_blk (t : Fin cfg0.N) (i : Fin 512) (j : Fin 1024) :
    k0_pay1 (iblk m c 0 t) (iblk m c 1 t) (iblk m c 2 t) (iblk m c 3 t) (ix2 i j)
      = pre (x m c) (h m c) (w m c) (b m c) (row t i) j := by
  pointwise [k0_pay1]
  simp only [blk_x, blk_h, blk_w, blk_b]
  exact add_assoc _ _ _

theorem norm_blk (t : Fin cfg0.N) (i : Fin 512) (j : Fin 1024) :
    k0_pay2 (iblk m c 0 t) (iblk m c 1 t) (iblk m c 2 t) (iblk m c 3 t) (iblk m c 4 t) (iblk m c 5 t) (ix2 i j)
      = norm (pre (x m c) (h m c) (w m c) (b m c) (row t i)) (fun k => g m c (ix1 k)) (fun k => s m c (ix1 k)) j := by
  have hp := pre_blk m c t
  pointwise [k0_pay2]
  simp only [hp, blk_g, blk_s]
  rfl

theorem final_pre : (dats m 0 c).arrAt 6 cfg0.N = preArr (x m c) (h m c) (w m c) (b m c) := by
  refine (dats m 0 c).arrAt_eq_of_covers 6 _ (by decide +kernel) fun t hf y => ?_
  blk_simp
  rw [after0_6]
  frame_out
  idx_vars y
  rw [emb6]
  exact pre_blk m c t _ _

theorem final_norm : (dats m 0 c).arrAt 7 cfg0.N = normArr (x m c) (h m c) (w m c) (b m c) (g m c) (s m c) := by
  refine (dats m 0 c).arrAt_eq_of_covers 7 _ (by decide +kernel) fun t hf y => ?_
  blk_simp
  rw [after0_7]
  frame_out
  idx_vars y
  rw [emb7]
  exact norm_blk m c t _ _

end Cert.Post.Kernel

end
-- ==== Proof.Post.Reference.lean ====
/-
  What the reference of the second feed-forward product with the residual computes.
-/
module

public import proofs.«01_k».proof.Proof.Gen.PostRIdeal.Read
public import proofs.«01_k».proof.Proof.Residual
public import Idealize.ShloMosaic.Lib.Pointwise

@[expose] public section

set_option maxRecDepth 16384

noncomputable section

namespace Cert.Post.Reference

open Idealize.ShloMosaic Cert.PostRIdeal Cert.PostRIdeal.Gen Cert.PostRIdeal.Read
open Cert.Residual

variable (x0 : FVec Ideal ⟨2, ![8192, 4096]⟩ .f32) (x1 : Wide) (x2 : FVec Ideal ⟨2, ![4096, 1024]⟩ .f32) (x3 x4 x5 : Row)

theorem pre_at (r : Fin 8192) (j : Fin 1024) : val_main_v6 (F := Ideal) x0 x1 x2 x3 (ix2 r j) = pre x0 x1 x2 x3 r j := by
  pointwise [val_main_v6, val_main_v5, val_main_v4, val_main_v3, val_main_v2, val_main_v1, val_main_v0, val_main_cst]
  rfl

theorem mean_at (r : Fin 8192) : val_main_v10 (F := Ideal) x0 x1 x2 x3 (ix2 r 0) = mean (pre x0 x1 x2 x3 r) := by
  pointwise [val_main_v10, val_main_v9, val_main_v8, val_main_v7, val_main_cst_0, val_main_cst_1]
  simp only [pre_at]
  rfl

theorem cen_at (r : Fin 8192) (j : Fin 1024) : val_main_v12 (F := Ideal) x0 x1 x2 x3 (ix2 r j) = cen (pre x0 x1 x2 x3 r) j := by
  pointwise [val_main_v12, val_main_v11]
  rw [pre_at, mean_at]
  rfl

theorem pre_eq : val_main_v6 (F := Ideal) x0 x1 x2 x3 = preArr x0 x1 x2 x3 := by
  funext i
  idx_vars i
  exact pre_at ..

theorem norm_eq : val_main_v30 (F := Ideal) x0 x1 x2 x3 x4 x5 = normArr x0 x1 x2 x3 x4 x5 := by
  funext i
  idx_vars i
  pointwise [val_main_v30, val_main_v29, val_main_v28, val_main_v27, val_main_v26, val_main_v25, val_main_v24, val_main_v23,
    val_main_v22, val_main_v21, val_main_v20, val_main_v19, val_main_v18, val_main_v17, val_main_v16, val_main_v15,
    val_main_v14, val_main_v13, val_main_cst_2, val_main_cst_3, val_main_cst_4]
  simp only [pre_at, mean_at, cen_at]
  rfl

end Cert.Post.Reference

end
-- ==== Proof.Post.Claims.lean ====
/-
  The claims about the second feed-forward product with the residual: its runs end quietly with the arguments unchanged, and on all arguments it returns the sum with
  the residual and its layer norm.
-/
module

public import proofs.«01_k».proof.Defs
public import proofs.«01_k».proof.Proof.Gen.PostK.Frame
public import proofs.«01_k».proof.Proof.Gen.PostRIdeal.Run
public import proofs.«01_k».proof.Proof.Post.Kernel
public import proofs.«01_k».proof.Proof.Post.Reference
public import Idealize.ShloMosaic.Lib.Quiescent

@[expose] public section

set_option maxRecDepth 16384

noncomputable section

namespace Cert.Post.Claims

open Idealize.ShloMosaic Idealize.SL.Sem Cert.Residual

theorem frame_kernel : Cert.quiescent_PostK := fun m ρ _ => Cert.PostK.Gen.frame m ρ
theorem frame_ideal : Cert.quiescent_PostKIdeal := fun m ρ _ => Cert.PostKIdeal.Gen.frame m ρ
theorem frame_reference : Cert.quiescent_PostRIdeal := fun m ρ _ =>
  (θ_run Cert.PostRIdeal.defs _ _).mono (fun r h => ⟨fun c => (h c).2.2, sem_eq_zero_of_no_sems (by decide) r.2⟩)
    (Cert.PostRIdeal.Value.run (F := Ideal) m ρ)
theorem preserves : Cert.preserves_PostK_PostKIdeal := trivial

theorem algebraic : Cert.algebraic_PostKIdeal_PostRIdeal := by
  intro m ρ m' ρ' _ hagree
  refine ⟨fun c => preArr (Kernel.x m c) (Kernel.h m c) (Kernel.w m c) (Kernel.b m c),
    fun c => normArr (Kernel.x m c) (Kernel.h m c) (Kernel.w m c) (Kernel.b m c) (Kernel.g m c) (Kernel.s m c), ?_, ?_⟩
  · exact (θ_run Cert.PostKIdeal.defs _ _).mono
      (fun r h c => ⟨(h c).1.trans (Kernel.final_pre m c), (h c).2.1.trans (Kernel.final_norm m c), (h c).2.2⟩)
      (Cert.PostKIdeal.Value.run_blocks (F := Ideal) m ρ)
  · refine (θ_run Cert.PostRIdeal.defs _ _).mono (fun r h c => ?_)
      (Cert.PostRIdeal.Value.run (F := Ideal) m' ρ')
    obtain ⟨e0, e1, e2, e3, e4, e5⟩ := hagree c
    refine ⟨((h c).1.trans (Cert.PostRIdeal.Read.val_main_v6_eq _ _ _ _)).trans ((Reference.pre_eq _ _ _ _).trans ?_),
      ((h c).2.1.trans (Cert.PostRIdeal.Read.val_main_v30_eq _ _)).trans ((Reference.norm_eq _ _ _ _ _ _).trans ?_), (h c).2.2⟩
    · exact congr (congr (congrArg₂ preArr e0 e1) e2) e3
    · exact congr (congr (congr (congr (congrArg₂ normArr e0 e1) e2) e3) e4) e5

end Cert.Post.Claims

end
-- ==== Proof.Out.Kernel.lean ====
/-
  What the kernel of the output projection with the residual leaves in its two results: each grid point takes 1024 rows and writes their sum and their norm.
-/
module

public import proofs.«01_k».proof.Proof.Gen.OutKIdeal.Value
public import proofs.«01_k».proof.Proof.Residual
public import proofs.«01_k».proof.Proof.Rows
public import Idealize.ShloMosaic.Lib.Pipeline.ValueKit
public import Idealize.ShloMosaic.Lib.StableHlo.ReadAt

@[expose] public section

set_option maxRecDepth 16384

noncomputable section

namespace Cert.Out.Kernel

open Idealize.ShloMosaic Idealize.SL.Sem Cert.OutKIdeal Cert.OutKIdeal.Gen
open Idealize.ShloMosaic.TcCoe
open Idealize.ShloMosaic.Pipeline (Dat)
open Cert.Residual

variable (m : (ℓ : Loc nD τ sig) → Buf (Elt Ideal) ℓ) (c : Dev nD)

/-- The program's arguments on this device. -/
abbrev x : FVec Ideal ⟨2, ![8192, 1024]⟩ .f32 := m (c, Proc.tc.devRef main_arg0)
abbrev h : Wide := m (c, Proc.tc.devRef main_arg1)
abbrev w : FVec Ideal ⟨2, ![1024, 1024]⟩ .f32 := m (c, Proc.tc.devRef main_arg2)
abbrev b : Row := m (c, Proc.tc.devRef main_arg3)
abbrev g : Row := m (c, Proc.tc.devRef main_arg4)
abbrev s : Row := m (c, Proc.tc.devRef main_arg5)

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] :=
  (by decide +kernel : ∀ t : Fin grid0.N, _)

/-- Row `i` of block `t` of the arrays. -/
abbrev row (t : Fin cfg0.N) (i : Fin 1024) : Fin 8192 := Rows.row (N := cfg0.N) (S := 1024) rfl t i

theorem emb6 (t : Fin cfg0.N) (i : Fin 1024) (j : Fin 1024) :
    ((View.whole main_v5_0).slice (win0_6.rect t)).emb (ix2 i j) = ix2 (row t i) j := by
  blk_ext [idx t, row, Rows.row]
theorem emb7 (t : Fin cfg0.N) (i : Fin 1024) (j : Fin 1024) :
    ((View.whole main_v5_1).slice (win0_7.rect t)).emb (ix2 i j) = ix2 (row t i) j := by
  blk_ext [idx t, row, Rows.row]

theorem blk_x (t : Fin cfg0.N) (i : Fin 1024) (j : Fin 1024) : iblk m c 0 t (ix2 i j) = x m c (ix2 (row t i) j) := by
  have e : V m c main_v0 (ix2 (row t i) j) = x m c (ix2 (row t i) j) := by unfold V; after_reads_at
  rw [← e]; blk_ext [iblk, idx t, row, Rows.row]
theorem blk_h (t : Fin cfg0.N) (i : Fin 1024) (j : Fin 1024) : iblk m c 1 t (ix2 i j) = h m c (ix2 (row t i) j) := by
  have e : V m c main_arg1 (ix2 (row t i) j) = h m c (ix2 (row t i) j) := by unfold V; after_reads_at
  rw [← e]; blk_ext [iblk, idx t, row, Rows.row]
theorem blk_w (t : Fin cfg0.N) (i : Fin 1024) (j : Fin 1024) : iblk m c 2 t (ix2 i j) = w m c (ix2 i j) := by
  have e : V m c main_v1 (ix2 i j) = w m c (ix2 i j) := by unfold V; after_reads_at
  rw [← e]; blk_ext [iblk, idx t]
theorem blk_b (t : Fin cfg0.N) (j : Fin 1024) : iblk m c 3 t (ix2 0 j) = b m c (ix1 j) := by
  have e : V m c main_v2 (ix2 0 j) = b m c (ix1 j) := by unfold V; after_reads_at
  rw [← e]; blk_ext [iblk, idx t]
theorem blk_g (t : Fin cfg0.N) (j : Fin 1024) : iblk m c 4 t (ix2 0 j) = g m c (ix1 j) := by
  have e : V m c main_v3 (ix2 0 j) = g m c (ix1 j) := by unfold V; after_reads_at
  rw [← e]; blk_ext [iblk, idx t]
theorem blk_s (t : Fin cfg0.N) (j : Fin 1024) : iblk m c 5 t (ix2 0 j) = s m c (ix1 j) := by
  have e : V m c main_v4 (ix2 0 j) = s m c (ix1 j) := by unfold V; after_reads_at
  rw [← e]; blk_ext [iblk, idx t]

theorem pre_blk (t : Fin cfg0.N) (i : Fin 1024) (j : Fin 1024) :
    k0_pay1 (iblk m c 0 t) (iblk m c 1 t) (iblk m c 2 t) (iblk m c 3 t) (ix2 i j)
      = pre (x m c) (h m c) (w m c) (b m c) (row t i) j := by
  pointwise [k0_pay1]
  simp only [blk_x, blk_h, blk_w, blk_b]
  exact add_assoc _ _ _

theorem norm_blk (t : Fin cfg0.N) (i : Fin 1024) (j : Fin 1024) :
    k0_pay2 (iblk m c 0 t) (iblk m c 1 t) (iblk m c 2 t) (iblk m c 3 t) (iblk m c 4 t) (iblk m c 5 t) (ix2 i j)
      = norm (pre (x m c) (h m c) (w m c) (b m c) (row t i)) (fun k => g m c (ix1 k)) (fun k => s m c (ix1 k)) j := by
  have hp := pre_blk m c t
  pointwise [k0_pay2]
  simp only [hp, blk_g, blk_s]
  rfl

theorem final_pre : (dats m 0 c).arrAt 6 cfg0.N = preArr (x m c) (h m c) (w m c) (b m c) := by
  refine (dats m 0 c).arrAt_eq_of_covers 6 _ (by decide +kernel) fun t hf y => ?_
  blk_simp
  rw [after0_6]
  frame_out
  idx_vars y
  rw [emb6]
  exact pre_blk m c t _ _

theorem final_norm : (dats m 0 c).arrAt 7 cfg0.N = normArr (x m c) (h m c) (w m c) (b m c) (g m c) (s m c) := by
  refine (dats m 0 c).arrAt_eq_of_covers 7 _ (by decide +kernel) fun t hf y => ?_
  blk_simp
  rw [after0_7]
  frame_out
  idx_vars y
  rw [emb7]
  exact norm_blk m c t _ _

end Cert.Out.Kernel

end
-- ==== Proof.Out.Reference.lean ====
/-
  What the reference of the output projection with the residual computes.
-/
module

public import proofs.«01_k».proof.Proof.Gen.OutRIdeal.Read
public import proofs.«01_k».proof.Proof.Residual
public import Idealize.ShloMosaic.Lib.Pointwise

@[expose] public section

set_option maxRecDepth 16384

noncomputable section

namespace Cert.Out.Reference

open Idealize.ShloMosaic Cert.OutRIdeal Cert.OutRIdeal.Gen Cert.OutRIdeal.Read
open Cert.Residual

variable (x0 : FVec Ideal ⟨2, ![8192, 1024]⟩ .f32) (x1 : Wide) (x2 : FVec Ideal ⟨2, ![1024, 1024]⟩ .f32) (x3 x4 x5 : Row)

theorem pre_at (r : Fin 8192) (j : Fin 1024) : val_main_v6 (F := Ideal) x0 x1 x2 x3 (ix2 r j) = pre x0 x1 x2 x3 r j := by
  pointwise [val_main_v6, val_main_v5, val_main_v4, val_main_v3, val_main_v2, val_main_v1, val_main_v0, val_main_cst]
  rfl

theorem mean_at (r : Fin 8192) : val_main_v10 (F := Ideal) x0 x1 x2 x3 (ix2 r 0) = mean (pre x0 x1 x2 x3 r) := by
  pointwise [val_main_v10, val_main_v9, val_main_v8, val_main_v7, val_main_cst_0, val_main_cst_1]
  simp only [pre_at]
  rfl

theorem cen_at (r : Fin 8192) (j : Fin 1024) : val_main_v12 (F := Ideal) x0 x1 x2 x3 (ix2 r j) = cen (pre x0 x1 x2 x3 r) j := by
  pointwise [val_main_v12, val_main_v11]
  rw [pre_at, mean_at]
  rfl

theorem pre_eq : val_main_v6 (F := Ideal) x0 x1 x2 x3 = preArr x0 x1 x2 x3 := by
  funext i
  idx_vars i
  exact pre_at ..

theorem norm_eq : val_main_v30 (F := Ideal) x0 x1 x2 x3 x4 x5 = normArr x0 x1 x2 x3 x4 x5 := by
  funext i
  idx_vars i
  pointwise [val_main_v30, val_main_v29, val_main_v28, val_main_v27, val_main_v26, val_main_v25, val_main_v24, val_main_v23,
    val_main_v22, val_main_v21, val_main_v20, val_main_v19, val_main_v18, val_main_v17, val_main_v16, val_main_v15,
    val_main_v14, val_main_v13, val_main_cst_2, val_main_cst_3, val_main_cst_4]
  simp only [pre_at, mean_at, cen_at]
  rfl

end Cert.Out.Reference

end
-- ==== Proof.Out.Claims.lean ====
/-
  The claims about the output projection with the residual: its runs end quietly with the arguments unchanged, and on all arguments it returns the sum with
  the residual and its layer norm.
-/
module

public import proofs.«01_k».proof.Defs
public import proofs.«01_k».proof.Proof.Gen.OutK.Frame
public import proofs.«01_k».proof.Proof.Gen.OutRIdeal.Run
public import proofs.«01_k».proof.Proof.Out.Kernel
public import proofs.«01_k».proof.Proof.Out.Reference
public import Idealize.ShloMosaic.Lib.Quiescent

@[expose] public section

set_option maxRecDepth 16384

noncomputable section

namespace Cert.Out.Claims

open Idealize.ShloMosaic Idealize.SL.Sem Cert.Residual

theorem frame_kernel : Cert.quiescent_OutK := fun m ρ _ => Cert.OutK.Gen.frame m ρ
theorem frame_ideal : Cert.quiescent_OutKIdeal := fun m ρ _ => Cert.OutKIdeal.Gen.frame m ρ
theorem frame_reference : Cert.quiescent_OutRIdeal := fun m ρ _ =>
  (θ_run Cert.OutRIdeal.defs _ _).mono (fun r h => ⟨fun c => (h c).2.2, sem_eq_zero_of_no_sems (by decide) r.2⟩)
    (Cert.OutRIdeal.Value.run (F := Ideal) m ρ)
theorem preserves : Cert.preserves_OutK_OutKIdeal := trivial

theorem algebraic : Cert.algebraic_OutKIdeal_OutRIdeal := by
  intro m ρ m' ρ' _ hagree
  refine ⟨fun c => preArr (Kernel.x m c) (Kernel.h m c) (Kernel.w m c) (Kernel.b m c),
    fun c => normArr (Kernel.x m c) (Kernel.h m c) (Kernel.w m c) (Kernel.b m c) (Kernel.g m c) (Kernel.s m c), ?_, ?_⟩
  · exact (θ_run Cert.OutKIdeal.defs _ _).mono
      (fun r h c => ⟨(h c).1.trans (Kernel.final_pre m c), (h c).2.1.trans (Kernel.final_norm m c), (h c).2.2⟩)
      (Cert.OutKIdeal.Value.run_blocks (F := Ideal) m ρ)
  · refine (θ_run Cert.OutRIdeal.defs _ _).mono (fun r h c => ?_)
      (Cert.OutRIdeal.Value.run (F := Ideal) m' ρ')
    obtain ⟨e0, e1, e2, e3, e4, e5⟩ := hagree c
    refine ⟨((h c).1.trans (Cert.OutRIdeal.Read.val_main_v6_eq _ _ _ _)).trans ((Reference.pre_eq _ _ _ _).trans ?_),
      ((h c).2.1.trans (Cert.OutRIdeal.Read.val_main_v30_eq _ _)).trans ((Reference.norm_eq _ _ _ _ _ _).trans ?_), (h c).2.2⟩
    · exact congr (congr (congrArg₂ preArr e0 e1) e2) e3
    · exact congr (congr (congr (congr (congrArg₂ normArr e0 e1) e2) e3) e4) e5

end Cert.Out.Claims

end
-- ==== Proof.Join.Spec.lean ====
/-
  The mixer's two halves: the attention's rows, and the convolution's rows through the smooth unit and its gate, each
  normed by its root mean square and scaled. Stated on the extended reals, so that it needs no finiteness.
-/
module

public import proofs.«01_k».proof.Proof.Reals

@[expose] public section

noncomputable section

namespace Cert.Join

open Idealize.ShloMosaic

abbrev Half := FVec Ideal ⟨2, ![8192, 512]⟩ .f32
abbrev Weight := FVec Ideal ⟨2, ![512, 512]⟩ .f32
abbrev Row := FVec Ideal ⟨1, ![512]⟩ .f32

/-- The smooth unit, on the floats every program writes. -/
def unit (y : EReal) : EReal :=
  Ideal.ofBits .f32 0x3F000000#32 * y
    * (1 + Ideal.tanh (Ideal.ofBits .f32 0x3F4C422A#32 * (y + Ideal.ofBits .f32 0x3D372713#32 * (y * y * y))))

/-- The gated unit at row `r`, column `j`. -/
def gated (y : Half) (w : Weight) (b : Row) (r : Fin 8192) (j : Fin 512) : EReal :=
  unit (y (ix2 r j)) * Ideal.logistic ((∑ k, unit (y (ix2 r k)) * w (ix2 k j)) + b (ix1 j))

/-- A row over its root mean square, scaled. -/
def norm (p g : Fin 512 → EReal) (j : Fin 512) : EReal :=
  p j * Ideal.rsqrt (Ideal.div (∑ k, p k * p k) (Ideal.ofBits .f32 0x44000000#32) + Ideal.ofBits .f32 0x358637BD#32) * g j

/-- The two halves side by side. -/
def at' (x y : Half) (w : Weight) (b ga gs : Row) (r : Fin 8192) (j : Fin 1024) : EReal :=
  if h : j.val < 512 then norm (fun k => x (ix2 r k)) (fun k => ga (ix1 k)) ⟨j.val, h⟩
  else norm (gated y w b r) (fun k => gs (ix1 k)) ⟨j.val - 512, by omega⟩
def joinArr (x y : Half) (w : Weight) (b ga gs : Row) : FVec Ideal ⟨2, ![8192, 1024]⟩ .bf16 := fun i => at' x y w b ga gs (i 0) (i 1)

end Cert.Join

end
-- ==== Proof.Join.Kernel.lean ====
/-
  What the kernel of the mixer's two halves leaves in its result: each grid point takes 1024 rows.
-/
module

public import proofs.«01_k».proof.Proof.Gen.JoinKIdeal.Value
public import proofs.«01_k».proof.Proof.Join.Spec
public import proofs.«01_k».proof.Proof.Rows
public import Idealize.ShloMosaic.Lib.Pipeline.ValueKit
public import Idealize.ShloMosaic.Lib.StableHlo.ReadAt

@[expose] public section

set_option maxRecDepth 16384

noncomputable section

namespace Cert.Join.Kernel

open Idealize.ShloMosaic Idealize.SL.Sem Cert.JoinKIdeal Cert.JoinKIdeal.Gen
open Idealize.ShloMosaic.TcCoe
open Idealize.ShloMosaic.Pipeline (Dat)

variable (m : (ℓ : Loc nD τ sig) → Buf (Elt Ideal) ℓ) (c : Dev nD)

/-- The program's arguments on this device. -/
abbrev x : Half := m (c, Proc.tc.devRef main_arg0)
abbrev y : Half := m (c, Proc.tc.devRef main_arg1)
abbrev w : Weight := m (c, Proc.tc.devRef main_arg2)
abbrev b : Row := m (c, Proc.tc.devRef main_arg3)
abbrev ga : Row := m (c, Proc.tc.devRef main_arg4)
abbrev gs : Row := m (c, Proc.tc.devRef main_arg5)

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- Row `i` of block `t` of the arrays. -/
abbrev row (t : Fin cfg0.N) (i : Fin 1024) : Fin 8192 := Rows.row (N := cfg0.N) (S := 1024) rfl t i

theorem emb6 (t : Fin cfg0.N) (i : Fin 1024) (j : Fin 1024) :
    ((View.whole main_v4).slice (win0_6.rect t)).emb (ix2 i j) = ix2 (row t i) j := by
  blk_ext [idx t, row, Rows.row]

theorem blk_x (t : Fin cfg0.N) (i : Fin 1024) (j : Fin 512) : iblk m c 0 t (ix2 i j) = x m c (ix2 (row t i) j) := by
  have e : V m c main_arg0 (ix2 (row t i) j) = x m c (ix2 (row t i) j) := by unfold V; after_reads_at
  rw [← e]; blk_ext [iblk, idx t, row, Rows.row]
theorem blk_y (t : Fin cfg0.N) (i : Fin 1024) (j : Fin 512) : iblk m c 1 t (ix2 i j) = y m c (ix2 (row t i) j) := by
  have e : V m c main_arg1 (ix2 (row t i) j) = y m c (ix2 (row t i) j) := by unfold V; after_reads_at
  rw [← e]; blk_ext [iblk, idx t, row, Rows.row]
theorem blk_w (t : Fin cfg0.N) (i : Fin 512) (j : Fin 512) : iblk m c 2 t (ix2 i j) = w m c (ix2 i j) := by
  have e : V m c main_v0 (ix2 i j) = w m c (ix2 i j) := by unfold V; after_reads_at
  rw [← e]; blk_ext [iblk, idx t]
theorem blk_b (t : Fin cfg0.N) (j : Fin 512) : iblk m c 3 t (ix2 0 j) = b m c (ix1 j) := by
  have e : V m c main_v1 (ix2 0 j) = b m c (ix1 j) := by unfold V; after_reads_at
  rw [← e]; blk_ext [iblk, idx t]
theorem blk_ga (t : Fin cfg0.N) (j : Fin 512) : iblk m c 4 t (ix2 0 j) = ga m c (ix1 j) := by
  have e : V m c main_v2 (ix2 0 j) = ga m c (ix1 j) := by unfold V; after_reads_at
  rw [← e]; blk_ext [iblk, idx t]
theorem blk_gs (t : Fin cfg0.N) (j : Fin 512) : iblk m c 5 t (ix2 0 j) = gs m c (ix1 j) := by
  have e : V m c main_v3 (ix2 0 j) = gs m c (ix1 j) := by unfold V; after_reads_at
  rw [← e]; blk_ext [iblk, idx t]

theorem unit_eq (y : EReal) : Ideal.ofBits .f32 0x3F000000#32 * y
    * (1 + Ideal.tanh (Ideal.ofBits .f32 0x3F4C422A#32 * (y + Ideal.ofBits .f32 0x3D372713#32 * (y * y * y)))) = unit y := rfl

theorem gated_blk (t : Fin cfg0.N) (i : Fin 1024) (j : Fin 512) :
    k0_pay2 (iblk m c 1 t) (iblk m c 2 t) (iblk m c 3 t) (ix2 i j) = gated (y m c) (w m c) (b m c) (row t i) j := by
  have hy := blk_y m c t
  have hw := blk_w m c t
  have hb := blk_b m c t
  generalize iblk m c 1 t = b1 at hy ⊢
  generalize iblk m c 2 t = b2 at hw ⊢
  generalize iblk m c 3 t = b3 at hb ⊢
  pointwise [k0_pay2]
  simp only [hy, hw, hb, unit_eq]
  rfl

theorem attention_blk (t : Fin cfg0.N) (i : Fin 1024) (j : Fin 512) : k0_pay3 (iblk m c 0 t) (iblk m c 4 t) (ix2 i j)
    = norm (fun k => x m c (ix2 (row t i) k)) (fun k => ga m c (ix1 k)) j := by
  have hx := blk_x m c t
  have hg := blk_ga m c t
  generalize iblk m c 0 t = b0 at hx ⊢
  generalize iblk m c 4 t = b4 at hg ⊢
  pointwise [k0_pay3]
  simp only [hx, hg]
  rfl

theorem join_blk (t : Fin cfg0.N) (i j : Fin 1024) :
    k0_pay1 (k0_pay2 (iblk m c 1 t) (iblk m c 2 t) (iblk m c 3 t)) (k0_pay3 (iblk m c 0 t) (iblk m c 4 t)) (iblk m c 5 t) (ix2 i j)
      = at' (x m c) (y m c) (w m c) (b m c) (ga m c) (gs m c) (row t i) j := by
  have hu := gated_blk m c t
  have ha := attention_blk m c t
  have hg := blk_gs m c t
  generalize k0_pay2 (iblk m c 1 t) (iblk m c 2 t) (iblk m c 3 t) = u at hu ⊢
  generalize k0_pay3 (iblk m c 0 t) (iblk m c 4 t) = v at ha ⊢
  generalize iblk m c 5 t = b5 at hg ⊢
  pointwise [k0_pay1]
  simp only [hu, ha, hg]
  unfold at'
  split_ifs
  all_goals first
    | exact absurd rfl ‹_›
    | rfl

theorem final : (dats m 0 c).arrAt 6 cfg0.N = joinArr (x m c) (y m c) (w m c) (b m c) (ga m c) (gs m c) := by
  refine (dats m 0 c).arrAt_eq_of_covers 6 _ (by decide +kernel) fun t hf y => ?_
  blk_simp
  rw [after0_6]
  frame_out
  idx_vars y
  rw [emb6]
  exact join_blk m c t _ _

end Cert.Join.Kernel

end
-- ==== Proof.Join.Reference.lean ====
/-
  What the reference of the mixer's two halves computes.
-/
module

public import proofs.«01_k».proof.Proof.Gen.JoinRIdeal.Read
public import proofs.«01_k».proof.Proof.Join.Spec
public import Idealize.ShloMosaic.Lib.Pointwise

@[expose] public section

set_option maxRecDepth 16384

noncomputable section

namespace Cert.Join.Reference

open Idealize.ShloMosaic Cert.JoinRIdeal Cert.JoinRIdeal.Gen Cert.JoinRIdeal.Read

variable (x0 x1 : Half) (x2 : Weight) (x3 x4 x5 : Row)

theorem unit_eq (y : EReal) : y * (Ideal.ofBits .f32 0x3F000000#32
    * (1 + Ideal.tanh (Ideal.ofBits .f32 0x3F4C422A#32 * (y + Ideal.ofBits .f32 0x3D372713#32 * (y * y * y))))) = unit y := by
  unfold unit
  rw [← mul_assoc, mul_comm y (Ideal.ofBits .f32 0x3F000000#32)]

theorem unit_at (r : Fin 8192) (j : Fin 512) : val_main_v12 (F := Ideal) x1 (ix2 r j) = unit (x1 (ix2 r j)) := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2]
  exact unit_eq _

theorem gated_at (r : Fin 8192) (j : Fin 512) : val_main_v23 (F := Ideal) x1 x2 x3 (ix2 r j) = gated x1 x2 x3 r j := by
  pointwise [val_main_v23, val_main_v22, val_main_v21, val_main_v20, val_main_v19, val_main_v18, val_main_v17, val_main_v16,
    val_main_v15, val_main_v14, val_main_v13, val_main_cst_3, val_main_cst_4]
  simp only [unit_at]
  rfl

theorem attention_at (r : Fin 8192) (j : Fin 512) : val_main_v36 (F := Ideal) x0 x4 (ix2 r j)
    = norm (fun k => x0 (ix2 r k)) (fun k => x4 (ix1 k)) j := by
  pointwise [val_main_v36, val_main_v35, val_main_v34, val_main_v33, val_main_v32, val_main_v31, val_main_v30, val_main_v29,
    val_main_v28, val_main_v27, val_main_v26, val_main_v25, val_main_v24, val_main_cst_5, val_main_cst_6, val_main_cst_7]
  rfl

theorem convolution_at (r : Fin 8192) (j : Fin 512) : val_main_v49 (F := Ideal) x1 x2 x3 x5 (ix2 r j)
    = norm (gated x1 x2 x3 r) (fun k => x5 (ix1 k)) j := by
  pointwise [val_main_v49, val_main_v48, val_main_v47, val_main_v46, val_main_v45, val_main_v44, val_main_v43, val_main_v42,
    val_main_v41, val_main_v40, val_main_v39, val_main_v38, val_main_v37, val_main_cst_8, val_main_cst_9, val_main_cst_10]
  simp only [gated_at]
  rfl

theorem join_eq : val_main_v51 (F := Ideal) x0 x1 x2 x3 x4 x5 = joinArr x0 x1 x2 x3 x4 x5 := by
  funext i
  idx_vars i
  pointwise [joinArr, val_main_v51, val_main_v50]
  simp only [attention_at, convolution_at]
  rfl

end Cert.Join.Reference

end
-- ==== Proof.Join.Claims.lean ====
/-
  The claims about the mixer's two halves: its runs end quietly with the arguments unchanged, and on all arguments it
  returns the normed halves.
-/
module

public import proofs.«01_k».proof.Defs
public import proofs.«01_k».proof.Proof.Gen.JoinK.Frame
public import proofs.«01_k».proof.Proof.Gen.JoinRIdeal.Run
public import proofs.«01_k».proof.Proof.Join.Kernel
public import proofs.«01_k».proof.Proof.Join.Reference
public import Idealize.ShloMosaic.Lib.Quiescent

@[expose] public section

set_option maxRecDepth 16384

noncomputable section

namespace Cert.Join.Claims

open Idealize.ShloMosaic Idealize.SL.Sem

theorem frame_kernel : Cert.quiescent_JoinK := fun m ρ _ => Cert.JoinK.Gen.frame m ρ
theorem frame_ideal : Cert.quiescent_JoinKIdeal := fun m ρ _ => Cert.JoinKIdeal.Gen.frame m ρ
theorem frame_reference : Cert.quiescent_JoinRIdeal := fun m ρ _ =>
  (θ_run Cert.JoinRIdeal.defs _ _).mono (fun r h => ⟨fun c => (h c).2, sem_eq_zero_of_no_sems (by decide) r.2⟩)
    (Cert.JoinRIdeal.Value.run (F := Ideal) m ρ)
theorem preserves : Cert.preserves_JoinK_JoinKIdeal := trivial

theorem algebraic : Cert.algebraic_JoinKIdeal_JoinRIdeal := by
  intro m ρ m' ρ' _ hagree
  refine ⟨fun c => joinArr (Kernel.x m c) (Kernel.y m c) (Kernel.w m c) (Kernel.b m c) (Kernel.ga m c) (Kernel.gs m c), ?_, ?_⟩
  · exact (θ_run Cert.JoinKIdeal.defs _ _).mono
      (fun r h c => ⟨(h c).1.trans (Kernel.final m c), (h c).2⟩)
      (Cert.JoinKIdeal.Value.run_blocks (F := Ideal) m ρ)
  · refine (θ_run Cert.JoinRIdeal.defs _ _).mono (fun r h c => ⟨?_, (h c).2⟩)
      (Cert.JoinRIdeal.Value.run (F := Ideal) m' ρ')
    obtain ⟨e0, e1, e2, e3, e4, e5⟩ := hagree c
    refine ((h c).1.trans (Cert.JoinRIdeal.Read.val_main_v51_eq _ _)).trans ((Reference.join_eq _ _ _ _ _ _).trans ?_)
    exact congr (congr (congr (congr (congrArg₂ joinArr e0 e1) e2) e3) e4) e5

end Cert.Join.Claims

end
-- ==== Proof.First.Spec.lean ====
/-
  The gradient through the input projection and the residual beside it: the four parts `dq | dk | dv | du` side by side
  times the transposed weight, added to the scaled gradient of the residual. Stated on the extended reals, so that it needs
  no finiteness.
-/
module

public import proofs.«01_k».proof.Proof.Reals

@[expose] public section

noncomputable section

namespace Cert.First

open Idealize.ShloMosaic

abbrev Wide := FVec Ideal ⟨2, ![8192, 1024]⟩ .f32
abbrev Weight := FVec Ideal ⟨2, ![1024, 2048]⟩ .f32
abbrev Part := FVec Ideal ⟨2, ![8192, 512]⟩ .f32

/-- One row of the four parts side by side. -/
def join (q k v u : Fin 512 → EReal) (j : Fin 2048) : EReal :=
  if h0 : j.val < 512 then q ⟨j.val, h0⟩
  else if h1 : j.val - 512 < 512 then k ⟨j.val - 512, h1⟩
  else if h2 : j.val - 512 - 512 < 512 then v ⟨j.val - 512 - 512, h2⟩
  else u ⟨j.val - 512 - 512 - 512, by omega⟩

def proj (dq dk dv du : Part) (r : Fin 8192) : Fin 2048 → EReal :=
  join (fun j => dq (ix2 r j)) (fun j => dk (ix2 r j)) (fun j => dv (ix2 r j)) (fun j => du (ix2 r j))

/-- The gradient at row `r`, column `j`. -/
def at' (w : Weight) (dq dk dv du : Part) (dr : Wide) (r : Fin 8192) (j : Fin 1024) : EReal :=
  Ideal.ofBits .f32 0x3FD744FD#32 * dr (ix2 r j) + ∑ k, proj dq dk dv du r k * w (ix2 j k)
def gradArr (w : Weight) (dq dk dv du : Part) (dr : Wide) : Wide := fun i => at' w dq dk dv du dr (i 0) (i 1)

end Cert.First

end
-- ==== Proof.First.Kernel.lean ====
/-
  What the kernel of the gradient through the input projection and the residual leaves in its result: each grid point takes
  1024 rows; the product runs over eight column blocks of 256.
-/
module

public import proofs.«01_k».proof.Proof.Gen.FirstKIdeal.Value
public import proofs.«01_k».proof.Proof.First.Spec
public import proofs.«01_k».proof.Proof.Rows
public import Idealize.ShloMosaic.Lib.Pipeline.ValueKit
public import Idealize.ShloMosaic.Lib.StableHlo.ReadAt

@[expose] public section

set_option maxRecDepth 16384

noncomputable section

namespace Cert.First.Kernel

open Idealize.ShloMosaic Idealize.SL.Sem Cert.FirstKIdeal Cert.FirstKIdeal.Gen
open Idealize.ShloMosaic.TcCoe
open Idealize.ShloMosaic.Pipeline (Dat)

variable (m : (ℓ : Loc nD τ sig) → Buf (Elt Ideal) ℓ) (c : Dev nD)

/-- The program's arguments on this device. -/
abbrev w : Weight := m (c, Proc.tc.devRef main_arg0)
abbrev dq : Part := m (c, Proc.tc.devRef main_arg1)
abbrev dk : Part := m (c, Proc.tc.devRef main_arg2)
abbrev dv : Part := m (c, Proc.tc.devRef main_arg3)
abbrev du : Part := m (c, Proc.tc.devRef main_arg4)
abbrev dr : Wide := m (c, Proc.tc.devRef main_arg5)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0, 0] ∧ win0_6.index t = ![t.val, 0] :=
  (by decide +kernel : ∀ t : Fin grid0.N, _)

/-- Row `i` of block `t` of the arrays. -/
abbrev row (t : Fin cfg0.N) (i : Fin 1024) : Fin 8192 := Rows.row (N := cfg0.N) (S := 1024) rfl t i
/-- Column `k` of column block `d`. -/
abbrev col (d : Fin 8) (k : Fin 256) : Fin 2048 := Rows.row (N := 8) (S := 256) rfl d k

theorem emb6 (t : Fin cfg0.N) (i : Fin 1024) (j : Fin 1024) :
    ((View.whole main_v7).slice (win0_6.rect t)).emb (ix2 i j) = ix2 (row t i) j := by
  blk_ext [idx t, row, Rows.row]

theorem blk_dq (t : Fin cfg0.N) (i : Fin 1024) (j : Fin 512) : iblk m c 0 t (ix2 i j) = dq m c (ix2 (row t i) j) := by
  have e : V m c main_v3 (ix2 (row t i) j) = dq m c (ix2 (row t i) j) := by unfold V; after_reads_at
  rw [← e]; blk_ext [iblk, idx t, row, Rows.row]
theorem blk_dk (t : Fin cfg0.N) (i : Fin 1024) (j : Fin 512) : iblk m c 1 t (ix2 i j) = dk m c (ix2 (row t i) j) := by
  have e : V m c main_v4 (ix2 (row t i) j) = dk m c (ix2 (row t i) j) := by unfold V; after_reads_at
  rw [← e]; blk_ext [iblk, idx t, row, Rows.row]
theorem blk_dv (t : Fin cfg0.N) (i : Fin 1024) (j : Fin 512) : iblk m c 2 t (ix2 i j) = dv m c (ix2 (row t i) j) := by
  have e : V m c main_v5 (ix2 (row t i) j) = dv m c (ix2 (row t i) j) := by unfold V; after_reads_at
  rw [← e]; blk_ext [iblk, idx t, row, Rows.row]
theorem blk_du (t : Fin cfg0.N) (i : Fin 1024) (j : Fin 512) : iblk m c 3 t (ix2 i j) = du m c (ix2 (row t i) j) := by
  have e : V m c main_v6 (ix2 (row t i) j) = du m c (ix2 (row t i) j) := by unfold V; after_reads_at
  rw [← e]; blk_ext [iblk, idx t, row, Rows.row]
theorem blk_dr (t : Fin cfg0.N) (i : Fin 1024) (j : Fin 1024) : iblk m c 4 t (ix2 i j) = dr m c (ix2 (row t i) j) := by
  have e : V m c main_arg5 (ix2 (row t i) j) = dr m c (ix2 (row t i) j) := by unfold V; after_reads_at
  rw [← e]; blk_ext [iblk, idx t, row, Rows.row]
theorem blk_w (t : Fin cfg0.N) (d : Fin 8) (q : Fin 1024) (k : Fin 256) : iblk m c 5 t (ix3 d q k) = w m c (ix2 q (col d k)) := by
  have e : V m c main_v2 (ix3 d q k) = w m c (ix2 q (col d k)) := by unfold V; after_reads_at; rfl
  rw [← e]; blk_ext [iblk, idx t]

/-- Slice `d` of the weight's blocks. -/
abbrev ld (t : Fin cfg0.N) (d : Nat)
    (hd : ∀ k : Fin 3, (![d, 0, 0] : Fin 3 → Nat) k + (![1, 1024, 256] : Fin 3 → Nat) k ≤ (![8, 1024, 256] : Fin 3 → Nat) k) :=
  View.ld (iblk m c 5 t) (Rect.unit (s := S8x1024x256) ![d, 0, 0] ![1, 1024, 256] hd)

theorem ld_w (t : Fin cfg0.N) (d : Nat) (hd) (q : Fin 1024) (k : Fin 256) (h8 : d < 8) :
    ld m c t d hd (ix3 0 q k) = w m c (ix2 q (col ⟨d, h8⟩ k)) := by
  rw [← blk_w m c t]
  unfold ld
  pointwise

theorem join_at (b0 b1 b2 b3 : FVec Ideal S1024x512 .bf16) (i : Fin 1024) (k : Fin 2048) :
    k0_pay2 (F := Ideal) b0 b1 b2 b3 (ix2 i k)
      = join (fun j => b0 (ix2 i j)) (fun j => b1 (ix2 i j)) (fun j => b2 (ix2 i j)) (fun j => b3 (ix2 i j)) k := by
  pointwise [k0_pay2]
  unfold join
  split_ifs
  all_goals first
    | exact absurd rfl ‹_›
    | rfl

/-- The eight blocks' products one after another, on top of the residual's gradient. -/
theorem in_turn (P : FVec Ideal S1024x2048 .bf16) (b0 b1 b2 b3 : FVec Ideal S1024x512 .bf16) (hP : k0_pay2 (F := Ideal) b0 b1 b2 b3 = P)
    (r : FVec Ideal S1024x1024 .f32) (s0 s1 s2 s3 s4 s5 s6 s7 : FVec Ideal S1x1024x256 .bf16) (i j : Fin 1024)
    (W : Fin 1024 → Fin 2048 → EReal)
    (h0 : ∀ q k, s0 (ix3 0 q k) = W q (col 0 k)) (h1 : ∀ q k, s1 (ix3 0 q k) = W q (col 1 k))
    (h2 : ∀ q k, s2 (ix3 0 q k) = W q (col 2 k)) (h3 : ∀ q k, s3 (ix3 0 q k) = W q (col 3 k))
    (h4 : ∀ q k, s4 (ix3 0 q k) = W q (col 4 k)) (h5 : ∀ q k, s5 (ix3 0 q k) = W q (col 5 k))
    (h6 : ∀ q k, s6 (ix3 0 q k) = W q (col 6 k)) (h7 : ∀ q k, s7 (ix3 0 q k) = W q (col 7 k)) :
    k0_pay1 (F := Ideal) P (k0_pay3 b0 b1 b2 b3 r s0 s1 s2 s3) s4 s5 s6 s7 (ix2 i j)
      = Ideal.ofBits .f32 0x3FD744FD#32 * r (ix2 i j) + ∑ k, P (ix2 i k) * W j k := by
  have e0 : ∀ (k : Fin 256) (hk : k.val < 2048), (⟨k.val, hk⟩ : Fin 2048) = col 0 k := fun k hk => Fin.ext (by simp [col, Rows.row])
  rw [← Reals.sum_blocks (N := 8) (S := 256) rfl (fun k => P (ix2 i k) * W j k) col fun _ _ => rfl, Fin.sum_univ_eight]
  pointwise [k0_pay1, k0_pay3]
  rw [hP]
  simp only [h0, h1, h2, h3, h4, h5, h6, h7, e0, ← add_assoc]
  rfl

theorem grad_blk (t : Fin cfg0.N) (i j : Fin 1024) (s) (hs : s = at' (w m c) (dq m c) (dk m c) (dv m c) (du m c) (dr m c) (row t i) j) :
    k0_pay1 (k0_pay2 (iblk m c 0 t) (iblk m c 1 t) (iblk m c 2 t) (iblk m c 3 t))
      (k0_pay3 (iblk m c 0 t) (iblk m c 1 t) (iblk m c 2 t) (iblk m c 3 t) (iblk m c 4 t)
        (ld m c t 0 inb_S8x1024x256_S1x1024x256_0_0_0) (ld m c t 1 inb_S8x1024x256_S1x1024x256_1_0_0)
        (ld m c t 2 inb_S8x1024x256_S1x1024x256_2_0_0) (ld m c t 3 inb_S8x1024x256_S1x1024x256_3_0_0))
      (ld m c t 4 inb_S8x1024x256_S1x1024x256_4_0_0) (ld m c t 5 inb_S8x1024x256_S1x1024x256_5_0_0)
      (ld m c t 6 inb_S8x1024x256_S1x1024x256_6_0_0) (ld m c t 7 inb_S8x1024x256_S1x1024x256_7_0_0) (ix2 i j) = s := by
  refine (in_turn _ _ _ _ _ rfl _ _ _ _ _ _ _ _ _ _ _ (fun q k => w m c (ix2 q k))
    (ld_w m c t 0 _ · · (by decide)) (ld_w m c t 1 _ · · (by decide)) (ld_w m c t 2 _ · · (by decide))
    (ld_w m c t 3 _ · · (by decide)) (ld_w m c t 4 _ · · (by decide)) (ld_w m c t 5 _ · · (by decide))
    (ld_w m c t 6 _ · · (by decide)) (ld_w m c t 7 _ · · (by decide))).trans ?_
  simp only [join_at, blk_dq, blk_dk, blk_dv, blk_du, blk_dr]
  rw [hs]
  rfl

theorem final : (dats m 0 c).arrAt 6 cfg0.N = gradArr (w m c) (dq m c) (dk m c) (dv m c) (du m c) (dr m c) := by
  refine (dats m 0 c).arrAt_eq_of_covers 6 _ (by decide +kernel) fun t hf y => ?_
  blk_simp
  rw [after0_6]
  frame_out
  idx_vars y
  rw [emb6]
  exact grad_blk m c t _ _ _ rfl

end Cert.First.Kernel

end
-- ==== Proof.First.Reference.lean ====
/-
  What differentiating the input projection and the residual computes.
-/
module

public import proofs.«01_k».proof.Proof.Gen.FirstRIdeal.Read
public import proofs.«01_k».proof.Proof.First.Spec
public import Idealize.ShloMosaic.Lib.Pointwise

@[expose] public section

set_option maxRecDepth 16384

noncomputable section

namespace Cert.First.Reference

open Idealize.ShloMosaic Cert.FirstRIdeal Cert.FirstRIdeal.Gen Cert.FirstRIdeal.Read

variable (x0 : Weight) (x1 x2 x3 x4 : Part) (x5 : Wide)

theorem proj_at (r : Fin 8192) (k : Fin 2048) : val_main_v16 (F := Ideal) x1 x2 x3 x4 (ix2 r k) = proj x1 x2 x3 x4 r k := by
  have hk := k.isLt
  pointwise [val_main_v16, val_main_v15, val_main_v14, val_main_v13, val_main_v12, val_main_v11, val_main_v10,
    val_main_cst_2, val_main_cst_3, val_main_cst_4, val_main_cst_5]
  unfold proj join
  split_ifs <;> first
    | omega
    | simp only [zero_add, add_zero] <;> first
        | rfl
        | exact congrArg _ (congrArg (ix2 r) (Fin.ext (by simp; omega)))

theorem grad_eq : val_main_v18 (F := Ideal) x0 x1 x2 x3 x4 x5 = gradArr x0 x1 x2 x3 x4 x5 := by
  funext i
  idx_vars i
  pointwise [gradArr, val_main_v18, val_main_v17, val_main_v9, val_main_v8, val_main_cst_1]
  simp only [proj_at]
  rfl

end Cert.First.Reference

end
-- ==== Proof.First.Claims.lean ====
/-
  The claims about the input projection's backward call without a layer norm: its runs end quietly with the arguments
  unchanged, and on all arguments it returns the gradient that differentiating the projection and the residual gives.
-/
module

public import proofs.«01_k».proof.Defs
public import proofs.«01_k».proof.Proof.Gen.FirstK.Frame
public import proofs.«01_k».proof.Proof.Gen.FirstRIdeal.Run
public import proofs.«01_k».proof.Proof.First.Kernel
public import proofs.«01_k».proof.Proof.First.Reference
public import Idealize.ShloMosaic.Lib.Quiescent

@[expose] public section

set_option maxRecDepth 16384

noncomputable section

namespace Cert.First.Claims

open Idealize.ShloMosaic Idealize.SL.Sem

theorem frame_kernel : Cert.quiescent_FirstK := fun m ρ _ => Cert.FirstK.Gen.frame m ρ
theorem frame_ideal : Cert.quiescent_FirstKIdeal := fun m ρ _ => Cert.FirstKIdeal.Gen.frame m ρ
theorem frame_reference : Cert.quiescent_FirstRIdeal := fun m ρ _ =>
  (θ_run Cert.FirstRIdeal.defs _ _).mono (fun r h => ⟨fun c => (h c).2, sem_eq_zero_of_no_sems (by decide) r.2⟩)
    (Cert.FirstRIdeal.Value.run (F := Ideal) m ρ)
theorem preserves : Cert.preserves_FirstK_FirstKIdeal := trivial

theorem algebraic : Cert.algebraic_FirstKIdeal_FirstRIdeal := by
  intro m ρ m' ρ' _ hagree
  refine ⟨fun c => gradArr (Kernel.w m c) (Kernel.dq m c) (Kernel.dk m c) (Kernel.dv m c) (Kernel.du m c) (Kernel.dr m c), ?_, ?_⟩
  · exact (θ_run Cert.FirstKIdeal.defs _ _).mono
      (fun r h c => ⟨(h c).1.trans (Kernel.final m c), (h c).2⟩)
      (Cert.FirstKIdeal.Value.run_blocks (F := Ideal) m ρ)
  · refine (θ_run Cert.FirstRIdeal.defs _ _).mono (fun r h c => ⟨?_, (h c).2⟩)
      (Cert.FirstRIdeal.Value.run (F := Ideal) m' ρ')
    obtain ⟨e0, e1, e2, e3, e4, e5⟩ := hagree c
    refine ((h c).1.trans (Cert.FirstRIdeal.Read.val_main_v18_eq _ _ _ _ _ _)).trans ((Reference.grad_eq _ _ _ _ _ _).trans ?_)
    exact congr (congr (congr (congr (congrArg₂ gradArr e0 e1) e2) e3) e4) e5

end Cert.First.Claims

end
-- ==== Proof.Params.Spec.lean ====
/-
  The state space's discretisation, one state of one group at a time: the discretised eigenvalue and input matrix. Stated on
  the extended reals, so that it needs no finiteness.
-/
module

public import proofs.«01_k».proof.Proof.Reals

@[expose] public section

noncomputable section

namespace Cert.Params

open Idealize.ShloMosaic

/-- The parameters of 32 groups of 64 states of 16 channels. -/
structure Args where
  ar : FVec Ideal ⟨2, ![32, 64]⟩ .f32
  ai : FVec Ideal ⟨2, ![32, 64]⟩ .f32
  ld : FVec Ideal ⟨1, ![32]⟩ .f32
  br : FVec Ideal ⟨3, ![32, 64, 16]⟩ .f32
  bi : FVec Ideal ⟨3, ![32, 64, 16]⟩ .f32

namespace Args
variable (a : Args) (g : Fin 32) (p : Fin 64) (k : Fin 16)

/-- The eigenvalue's modulus and angle after one step. -/
def mag : EReal := Ideal.exp (a.ar (ix2 g p) * Ideal.exp (a.ld (ix1 g)))
def ang : EReal := a.ai (ix2 g p) * Ideal.exp (a.ld (ix1 g))
/-- The discretised eigenvalue. -/
def re : EReal := a.mag g p * Ideal.cos (a.ang g p)
def im : EReal := a.mag g p * Ideal.sin (a.ang g p)
/-- The quotient of its step, `re - 1 + i im`, and the eigenvalue. -/
def den : EReal := a.ar (ix2 g p) * a.ar (ix2 g p) + a.ai (ix2 g p) * a.ai (ix2 g p)
def quotRe : EReal := Ideal.div ((a.re g p - 1) * a.ar (ix2 g p) + a.im g p * a.ai (ix2 g p)) (a.den g p)
def quotIm : EReal := Ideal.div (a.im g p * a.ar (ix2 g p) - (a.re g p - 1) * a.ai (ix2 g p)) (a.den g p)
/-- The discretised input matrix. -/
def inRe : EReal := a.quotRe g p * a.br (ix3 g p k) - a.quotIm g p * a.bi (ix3 g p k)
def inIm : EReal := a.quotRe g p * a.bi (ix3 g p k) + a.quotIm g p * a.br (ix3 g p k)

def reArr : FVec Ideal ⟨3, ![32, 1, 64]⟩ .f32 := fun i => a.re (i 0) (i 2)
def imArr : FVec Ideal ⟨3, ![32, 1, 64]⟩ .f32 := fun i => a.im (i 0) (i 2)
def inReArr : FVec Ideal ⟨3, ![32, 16, 64]⟩ .f32 := fun i => a.inRe (i 0) (i 2) (i 1)
def inImArr : FVec Ideal ⟨3, ![32, 16, 64]⟩ .f32 := fun i => a.inIm (i 0) (i 2) (i 1)

end Args

end Cert.Params

end
-- ==== Proof.Params.Kernel.lean ====
/-
  What the kernel of the discretisation leaves in its four results: the host lays a group's states along the lanes, and the
  one point of the call holds whole arrays.
-/
module

public import proofs.«01_k».proof.Proof.Gen.ParamsKIdeal.Frame
public import proofs.«01_k».proof.Proof.Params.Spec
public import Idealize.ShloMosaic.Lib.Pipeline.ValueKit
public import Idealize.ShloMosaic.Lib.StableHlo.ReadAt
public import Idealize.ShloMosaic.Lib.Pipeline.ReadBack

@[expose] public section

set_option maxRecDepth 16384

noncomputable section

namespace Cert.Params.Kernel

open Idealize.ShloMosaic Idealize.SL.Sem Cert.ParamsKIdeal Cert.ParamsKIdeal.Gen
open Idealize.ShloMosaic.TcCoe
open Idealize.ShloMosaic.Pipeline (Dat)

/-! A load of a whole block is the block. -/

theorem ld_row (x : Vec Ideal S32x1x64 .f32) : View.ld x r0_0 = x := View.ld_unit_lit _ _ (by decide)
theorem ld_one (x : Vec Ideal S32x1x1 .f32) : View.ld x r0_1 = x := View.ld_unit_lit _ _ (by decide)
theorem ld_mat (x : Vec Ideal S32x16x64 .f32) : View.ld x r0_2 = x := View.ld_unit_lit _ _ (by decide)

/-- The kernel's five blocks hold the arguments. -/
structure Holds (x0 x1 : Vec Ideal S32x1x64 .f32) (x2 : Vec Ideal S32x1x1 .f32) (x3 x4 : Vec Ideal S32x16x64 .f32) (a : Args) : Prop where
  ar : ∀ g p, x0 (ix3 g 0 p) = a.ar (ix2 g p)
  ai : ∀ g p, x1 (ix3 g 0 p) = a.ai (ix2 g p)
  ld : ∀ g, x2 (ix3 g 0 0) = a.ld (ix1 g)
  br : ∀ g p k, x3 (ix3 g k p) = a.br (ix3 g p k)
  bi : ∀ g p k, x4 (ix3 g k p) = a.bi (ix3 g p k)

section Block
variable {x0 x1 : Vec Ideal S32x1x64 .f32} {x2 : Vec Ideal S32x1x1 .f32} {x3 x4 : Vec Ideal S32x16x64 .f32} {a : Args}
  (h : Holds x0 x1 x2 x3 x4 a) (g : Fin 32) (p : Fin 64) (k : Fin 16)
include h

theorem re_eq : k0_pay8 (F := Ideal) x0 x1 x2 (ix3 g 0 p) = a.re g p := by
  pointwise [k0_pay8, k0_pay7, k0_pay6, k0_pay5, k0_pay2, k0_pay1, h.ar, h.ai, h.ld]
  rfl

theorem im_eq : k0_pay9 (F := Ideal) x0 x1 x2 (ix3 g 0 p) = a.im g p := by
  pointwise [k0_pay9, k0_pay7, k0_pay6, k0_pay5, k0_pay2, k0_pay1, h.ar, h.ai, h.ld]
  rfl

theorem quotRe_eq : k0_pay12 (F := Ideal) x0 x1 x2 (ix3 g 0 p) = a.quotRe g p := by
  pointwise [k0_pay12, k0_pay11, k0_pay10, k0_pay2, k0_pay1, h.ar, h.ai, re_eq h, im_eq h]
  rfl

theorem quotIm_eq : k0_pay13 (F := Ideal) x0 x1 x2 (ix3 g 0 p) = a.quotIm g p := by
  pointwise [k0_pay13, k0_pay11, k0_pay10, k0_pay2, k0_pay1, h.ar, h.ai, re_eq h, im_eq h]
  rfl

theorem inRe_eq : k0_pay14 (F := Ideal) x0 x1 x2 x3 x4 (ix3 g k p) = a.inRe g p k := by
  pointwise [k0_pay14, k0_pay4, k0_pay3, h.br, h.bi, quotRe_eq h, quotIm_eq h]
  rfl

theorem inIm_eq : k0_pay15 (F := Ideal) x0 x1 x2 x3 x4 (ix3 g k p) = a.inIm g p k := by
  pointwise [k0_pay15, k0_pay4, k0_pay3, h.br, h.bi, quotRe_eq h, quotIm_eq h]
  rfl

end Block

variable (m : (ℓ : Loc nD τ sig) → Buf (Elt Ideal) ℓ) (ρ : Dev nD → PrngReg) (c : Dev nD)

/-- The program's arguments on this device. -/
abbrev given : Args := ⟨m (c, Proc.tc.devRef main_arg0), m (c, Proc.tc.devRef main_arg1), m (c, Proc.tc.devRef main_arg2),
  m (c, Proc.tc.devRef main_arg3), m (c, Proc.tc.devRef main_arg4)⟩

theorem idx : ∀ t : Fin cfg0.N, win0_0.index t = ![0, 0, 0] ∧ win0_1.index t = ![0, 0, 0] ∧ win0_2.index t = ![0, 0, 0] ∧ win0_3.index t = ![0, 0, 0] ∧ win0_4.index t = ![0, 0, 0]
      ∧ win0_5.index t = ![0, 0, 0] ∧ win0_6.index t = ![0, 0, 0] ∧ win0_7.index t = ![0, 0, 0] ∧ win0_8.index t = ![0, 0, 0] :=
  (by decide +kernel : ∀ t : Fin grid0.N, _)

theorem emb5 (t : Fin cfg0.N) (g : Fin 32) (p : Fin 64) :
    ((View.whole main_v5_0).slice (win0_5.rect t)).emb (ix3 g 0 p) = ix3 g 0 p := by
  blk_ext [idx t]
theorem emb6 (t : Fin cfg0.N) (g : Fin 32) (p : Fin 64) :
    ((View.whole main_v5_1).slice (win0_6.rect t)).emb (ix3 g 0 p) = ix3 g 0 p := by
  blk_ext [idx t]
theorem emb7 (t : Fin cfg0.N) (g : Fin 32) (p : Fin 64) (k : Fin 16) :
    ((View.whole main_v5_2).slice (win0_7.rect t)).emb (ix3 g k p) = ix3 g k p := by
  blk_ext [idx t]
theorem emb8 (t : Fin cfg0.N) (g : Fin 32) (p : Fin 64) (k : Fin 16) :
    ((View.whole main_v5_3).slice (win0_8.rect t)).emb (ix3 g k p) = ix3 g k p := by
  blk_ext [idx t]

/-- The kernel's blocks hold the arguments. -/
theorem holds (t : Fin cfg0.N) : Holds (iblk m c 0 t) (iblk m c 1 t) (iblk m c 2 t) (iblk m c 3 t) (iblk m c 4 t) (given m c) where
  ar g p := by
    have e : V m c main_v0 (ix3 g 0 p) = (given m c).ar (ix2 g p) := by unfold V; after_reads_at
    rw [← e]; blk_ext [iblk, idx t]
  ai g p := by
    have e : V m c main_v1 (ix3 g 0 p) = (given m c).ai (ix2 g p) := by unfold V; after_reads_at
    rw [← e]; blk_ext [iblk, idx t]
  ld g := by
    have e : V m c main_v2 (ix3 g 0 0) = (given m c).ld (ix1 g) := by unfold V; after_reads_at
    rw [← e]; blk_ext [iblk, idx t]
  br g p k := by
    have e : V m c main_v3 (ix3 g k p) = (given m c).br (ix3 g p k) := by unfold V; after_reads_at
    rw [← e]; blk_ext [iblk, idx t]
  bi g p k := by
    have e : V m c main_v4 (ix3 g k p) = (given m c).bi (ix3 g p k) := by unfold V; after_reads_at
    rw [← e]; blk_ext [iblk, idx t]

/-! The four results. -/

theorem final_re : (dats m 0 c).arrAt 5 cfg0.N = (given m c).reArr := by
  refine (dats m 0 c).arrAt_eq_of_covers 5 _ (by decide +kernel) fun t hf y => ?_
  blk_simp
  rw [after0_5, out0_5, View.canon_cons_unit_lit _ _ _ (by decide)]
  idx_vars y
  obtain rfl : y1 = 0 := Subsingleton.elim _ _
  simp only [ld_row, ld_one]
  rw [emb5]
  exact re_eq (holds m c t) y0 y2

theorem final_im : (dats m 0 c).arrAt 6 cfg0.N = (given m c).imArr := by
  refine (dats m 0 c).arrAt_eq_of_covers 6 _ (by decide +kernel) fun t hf y => ?_
  blk_simp
  rw [after0_6, out0_6, View.canon_cons_unit_lit _ _ _ (by decide)]
  idx_vars y
  obtain rfl : y1 = 0 := Subsingleton.elim _ _
  simp only [ld_row, ld_one]
  rw [emb6]
  exact im_eq (holds m c t) y0 y2

theorem final_inRe : (dats m 0 c).arrAt 7 cfg0.N = (given m c).inReArr := by
  refine (dats m 0 c).arrAt_eq_of_covers 7 _ (by decide +kernel) fun t hf y => ?_
  blk_simp
  rw [after0_7, out0_7, View.canon_cons_unit_lit _ _ _ (by decide)]
  idx_vars y
  simp only [ld_row, ld_one, ld_mat]
  rw [emb7]
  exact inRe_eq (holds m c t) y0 y2 y1

theorem final_inIm : (dats m 0 c).arrAt 8 cfg0.N = (given m c).inImArr := by
  refine (dats m 0 c).arrAt_eq_of_covers 8 _ (by decide +kernel) fun t hf y => ?_
  blk_simp
  rw [after0_8, out0_8, View.canon_cons_unit_lit _ _ _ (by decide)]
  idx_vars y
  simp only [ld_row, ld_one, ld_mat]
  rw [emb8]
  exact inIm_eq (holds m c t) y0 y2 y1

/-- The call's run: the four results' arrays, and the arguments as given. -/
theorem run_arrays : θ_run defs (onTc (τ := τ) (main (F := Ideal))) ⟨m, fun _ => 0, ρ⟩ fun r => ∀ c : Dev nD,
      r.2.mem ((c : Thread nD τ).loc main_v5_0) = (dats m 0 c).arrAt 5 cfg0.N
      ∧ r.2.mem ((c : Thread nD τ).loc main_v5_1) = (dats m 0 c).arrAt 6 cfg0.N
      ∧ r.2.mem ((c : Thread nD τ).loc main_v5_2) = (dats m 0 c).arrAt 7 cfg0.N
      ∧ r.2.mem ((c : Thread nD τ).loc main_v5_3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨(h c).1 5, (h c).1 6, (h c).1 7, (h c).1 8,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main (F := Ideal) m ρ)

end Cert.Params.Kernel

end
-- ==== Proof.Params.Reference.lean ====
/-
  What the reference of the discretisation computes.
-/
module

public import proofs.«01_k».proof.Proof.Gen.ParamsRIdeal.Read
public import proofs.«01_k».proof.Proof.Params.Spec
public import Idealize.ShloMosaic.Lib.Pointwise

@[expose] public section

set_option maxRecDepth 16384

noncomputable section

namespace Cert.Params.Reference

open Idealize.ShloMosaic Cert.ParamsRIdeal Cert.ParamsRIdeal.Gen Cert.ParamsRIdeal.Read

variable (a : Args) (g : Fin 32) (p : Fin 64)

theorem mag_eq : val_main_v4 (F := Ideal) a.ar a.ld (ix2 g p) = a.mag g p := by
  pointwise [val_main_v4, val_main_v3, val_main_v2, val_main_v1, val_main_v0]
  rfl

theorem re_eq : val_main_v8 (F := Ideal) a.ar a.ai a.ld (ix2 g p) = a.re g p := by
  pointwise [val_main_v8, val_main_v7, val_main_v6, val_main_v5, val_main_v1, val_main_v0, mag_eq]
  rfl

theorem im_eq : val_main_v10 (F := Ideal) a.ar a.ai a.ld (ix2 g p) = a.im g p := by
  pointwise [val_main_v10, val_main_v9, val_main_v6, val_main_v5, val_main_v1, val_main_v0, mag_eq]
  rfl

theorem quotRe_eq : val_main_v19 (F := Ideal) a.ar a.ai a.ld (ix2 g p) = a.quotRe g p := by
  pointwise [val_main_v19, val_main_v18, val_main_v17, val_main_v16, val_main_v15, val_main_v14, val_main_cst, val_main_v13, val_main_v12,
    val_main_v11, re_eq, im_eq]
  rfl

theorem quotIm_eq : val_main_v23 (F := Ideal) a.ar a.ai a.ld (ix2 g p) = a.quotIm g p := by
  pointwise [val_main_v23, val_main_v22, val_main_v21, val_main_v20, val_main_v15, val_main_v14, val_main_cst, val_main_v13, val_main_v12,
    val_main_v11, re_eq, im_eq]
  rfl

/-! The four results. -/

theorem re_result : val_main_v38 (F := Ideal) a.ar a.ai a.ld = a.reArr := by
  funext i
  idx_vars i
  pointwise [Args.reArr, val_main_v38, re_eq]

theorem im_result : val_main_v39 (F := Ideal) a.ar a.ai a.ld = a.imArr := by
  funext i
  idx_vars i
  pointwise [Args.imArr, val_main_v39, im_eq]

theorem inRe_result : val_main_v40 (F := Ideal) a.ar a.ai a.ld a.br a.bi = a.inReArr := by
  funext i
  idx_vars i
  pointwise [Args.inReArr, val_main_v40, val_main_v30, val_main_v29, val_main_v28, val_main_v27, val_main_v26, val_main_v25, val_main_v24,
    quotRe_eq, quotIm_eq]
  rfl

theorem inIm_result : val_main_v41 (F := Ideal) a.ar a.ai a.ld a.br a.bi = a.inImArr := by
  funext i
  idx_vars i
  pointwise [Args.inImArr, val_main_v41, val_main_v37, val_main_v36, val_main_v35, val_main_v34, val_main_v33, val_main_v32, val_main_v31,
    quotRe_eq, quotIm_eq]
  rfl

end Cert.Params.Reference

end
-- ==== Proof.Params.Claims.lean ====
/-
  The claims about the state space's discretisation: its runs end quietly with the arguments unchanged, and
  on all arguments it returns the discretised eigenvalue and input matrix.
-/
module

public import proofs.«01_k».proof.Defs
public import proofs.«01_k».proof.Proof.Gen.ParamsK.Frame
public import proofs.«01_k».proof.Proof.Gen.ParamsRIdeal.Run
public import proofs.«01_k».proof.Proof.Params.Kernel
public import proofs.«01_k».proof.Proof.Params.Reference
public import Idealize.ShloMosaic.Lib.Quiescent

@[expose] public section

set_option maxRecDepth 16384

noncomputable section

namespace Cert.Params.Claims

open Idealize.ShloMosaic Idealize.SL.Sem

theorem frame_kernel : Cert.quiescent_ParamsK := fun m ρ _ => Cert.ParamsK.Gen.frame m ρ
theorem frame_ideal : Cert.quiescent_ParamsKIdeal := fun m ρ _ => Cert.ParamsKIdeal.Gen.frame m ρ
theorem frame_reference : Cert.quiescent_ParamsRIdeal := fun m ρ _ =>
  (θ_run Cert.ParamsRIdeal.defs _ _).mono
    (fun r h => ⟨fun c => (h c).2.2.2.2, sem_eq_zero_of_no_sems (by decide) r.2⟩)
    (Cert.ParamsRIdeal.Value.run (F := Ideal) m ρ)
theorem preserves : Cert.preserves_ParamsK_ParamsKIdeal := trivial

theorem algebraic : Cert.algebraic_ParamsKIdeal_ParamsRIdeal := by
  intro m ρ m' ρ' _ hagree
  refine ⟨fun c => (Kernel.given m c).reArr, fun c => (Kernel.given m c).imArr, fun c => (Kernel.given m c).inReArr,
    fun c => (Kernel.given m c).inImArr, ?_, ?_⟩
  · exact (θ_run Cert.ParamsKIdeal.defs _ _).mono
      (fun r h c => ⟨(h c).1.trans (Kernel.final_re m c), (h c).2.1.trans (Kernel.final_im m c),
        (h c).2.2.1.trans (Kernel.final_inRe m c), (h c).2.2.2.1.trans (Kernel.final_inIm m c), (h c).2.2.2.2⟩)
      (Kernel.run_arrays m ρ)
  · refine (θ_run Cert.ParamsRIdeal.defs _ _).mono (fun r h c => ?_) (Cert.ParamsRIdeal.Value.run (F := Ideal) m' ρ')
    obtain ⟨e0, e1, e2, e3, e4⟩ := hagree c
    have e : Args.mk (m' (c, Proc.tc.devRef Cert.ParamsRIdeal.main_arg0)) (m' (c, Proc.tc.devRef Cert.ParamsRIdeal.main_arg1))
        (m' (c, Proc.tc.devRef Cert.ParamsRIdeal.main_arg2)) (m' (c, Proc.tc.devRef Cert.ParamsRIdeal.main_arg3))
        (m' (c, Proc.tc.devRef Cert.ParamsRIdeal.main_arg4)) = Kernel.given m c := by
      show _ = Args.mk _ _ _ _ _
      rw [e0, e1, e2, e3, e4]
    exact ⟨((h c).1.trans (Cert.ParamsRIdeal.Read.val_main_v38_eq _ _ _)).trans
        ((Reference.re_result ⟨_, _, _, _, _⟩).trans (congrArg Args.reArr e)),
      ((h c).2.1.trans (Cert.ParamsRIdeal.Read.val_main_v39_eq _ _ _)).trans
        ((Reference.im_result ⟨_, _, _, _, _⟩).trans (congrArg Args.imArr e)),
      ((h c).2.2.1.trans (Cert.ParamsRIdeal.Read.val_main_v40_eq _ _ _ _ _)).trans
        ((Reference.inRe_result ⟨_, _, _, _, _⟩).trans (congrArg Args.inReArr e)),
      ((h c).2.2.2.1.trans (Cert.ParamsRIdeal.Read.val_main_v41_eq _ _ _ _ _)).trans
        ((Reference.inIm_result ⟨_, _, _, _, _⟩).trans (congrArg Args.inImArr e)),
      (h c).2.2.2.2⟩

end Cert.Params.Claims

end
-- ==== Proof.Proj.Spec.lean ====
/-
  The input projection: the product of the rows and the weight. Stated on the extended reals, so that it needs no finiteness.
-/
module

public import proofs.«01_k».proof.Proof.Reals

@[expose] public section

noncomputable section

namespace Cert.Proj

open Idealize.ShloMosaic

abbrev Wide := FVec Ideal ⟨2, ![8192, 1024]⟩ .f32
abbrev Weight := FVec Ideal ⟨2, ![1024, 2048]⟩ .f32

/-- The product at row `r`, column `j`. -/
def at' (h : Wide) (w : Weight) (r : Fin 8192) (j : Fin 2048) : EReal := ∑ k, h (ix2 r k) * w (ix2 k j)
def projArr (h : Wide) (w : Weight) : FVec Ideal ⟨2, ![8192, 2048]⟩ .f32 := fun i => at' h w (i 0) (i 1)

end Cert.Proj

end
-- ==== Proof.Proj.Kernel.lean ====
/-
  What the kernel of the input projection leaves in its result: each grid point takes 1024 rows and lays eight column blocks
  of 256 side by side.
-/
module

public import proofs.«01_k».proof.Proof.Gen.ProjKIdeal.Value
public import proofs.«01_k».proof.Proof.Proj.Spec
public import proofs.«01_k».proof.Proof.Rows
public import Idealize.ShloMosaic.Lib.Pipeline.ValueKit
public import Idealize.ShloMosaic.Lib.StableHlo.ReadAt

@[expose] public section

set_option maxRecDepth 16384

noncomputable section

namespace Cert.Proj.Kernel

open Idealize.ShloMosaic Idealize.SL.Sem Cert.ProjKIdeal Cert.ProjKIdeal.Gen
open Idealize.ShloMosaic.TcCoe
open Idealize.ShloMosaic.Pipeline (Dat)

variable (m : (ℓ : Loc nD τ sig) → Buf (Elt Ideal) ℓ) (c : Dev nD)

/-- The program's arguments on this device. -/
abbrev h : Wide := m (c, Proc.tc.devRef main_arg0)
abbrev w : Weight := m (c, Proc.tc.devRef main_arg1)

theorem idx : ∀ t : Fin cfg0.N, win0_0.index t = ![t.val, 0] ∧ win0_1.index t = ![0, 0, 0] ∧ win0_2.index t = ![t.val, 0] :=
  (by decide +kernel : ∀ t : Fin grid0.N, _)

/-- Row `i` of block `t` of the arrays. -/
abbrev row (t : Fin cfg0.N) (i : Fin 1024) : Fin 8192 := Rows.row (N := cfg0.N) (S := 1024) rfl t i
/-- Column `k` of column block `d`. -/
abbrev col (d : Fin 8) (k : Fin 256) : Fin 2048 := Rows.row (N := 8) (S := 256) rfl d k

theorem emb2 (t : Fin cfg0.N) (i : Fin 1024) (j : Fin 2048) :
    ((View.whole main_v3).slice (win0_2.rect t)).emb (ix2 i j) = ix2 (row t i) j := by
  blk_ext [idx t, row, Rows.row]

theorem blk_h (t : Fin cfg0.N) (i : Fin 1024) (j : Fin 1024) : iblk m c 0 t (ix2 i j) = h m c (ix2 (row t i) j) := by
  have e : V m c main_arg0 (ix2 (row t i) j) = h m c (ix2 (row t i) j) := by unfold V; after_reads_at
  rw [← e]; blk_ext [iblk, idx t, row, Rows.row]
theorem blk_w (t : Fin cfg0.N) (d : Fin 8) (q : Fin 1024) (k : Fin 256) : iblk m c 1 t (ix3 d q k) = w m c (ix2 q (col d k)) := by
  have e : V m c main_v2 (ix3 d q k) = w m c (ix2 q (col d k)) := by unfold V; after_reads_at; rfl
  rw [← e]; blk_ext [iblk, idx t]

/-- Slice `d` of the weight's blocks. -/
abbrev ld (t : Fin cfg0.N) (d : Nat)
    (hd : ∀ k : Fin 3, (![d, 0, 0] : Fin 3 → Nat) k + (![1, 1024, 256] : Fin 3 → Nat) k ≤ (![8, 1024, 256] : Fin 3 → Nat) k) :=
  View.ld (iblk m c 1 t) (Rect.unit (s := S8x1024x256) ![d, 0, 0] ![1, 1024, 256] hd)

theorem ld_w (t : Fin cfg0.N) (d : Nat) (hd) (q : Fin 1024) (k : Fin 256) (h8 : d < 8) :
    ld m c t d hd (ix3 0 q k) = w m c (ix2 q (col ⟨d, h8⟩ k)) := by
  rw [← blk_w m c t]
  unfold ld
  pointwise

/-- The eight blocks' products side by side. -/
theorem side_by_side (x : FVec Ideal S1024x1024 .f32) (s0 s1 s2 s3 s4 s5 s6 s7 : FVec Ideal S1x1024x256 .bf16) (i : Fin 1024) (j : Fin 2048) (W : Fin 1024 → Fin 2048 → EReal)
    (h0 : ∀ q k, s0 (ix3 0 q k) = W q (col 0 k)) (h1 : ∀ q k, s1 (ix3 0 q k) = W q (col 1 k))
    (h2 : ∀ q k, s2 (ix3 0 q k) = W q (col 2 k)) (h3 : ∀ q k, s3 (ix3 0 q k) = W q (col 3 k))
    (h4 : ∀ q k, s4 (ix3 0 q k) = W q (col 4 k)) (h5 : ∀ q k, s5 (ix3 0 q k) = W q (col 5 k))
    (h6 : ∀ q k, s6 (ix3 0 q k) = W q (col 6 k)) (h7 : ∀ q k, s7 (ix3 0 q k) = W q (col 7 k)) :
    k0_pay1 (F := Ideal) x (k0_pay2 x s0) (k0_pay3 x s1) (k0_pay4 x s2) (k0_pay5 x s3) (k0_pay6 x s4) (k0_pay7 x s5)
      (k0_pay8 x s6) s7 (ix2 i j) = ∑ q, x (ix2 i q) * W q j := by
  have hj := j.isLt
  have at_col : ∀ (d : Fin 8) (k : Fin 256), col d k = j → ∀ (s : FVec Ideal S1x1024x256 .bf16),
      (∀ q k, s (ix3 0 q k) = W q (col d k)) → (∑ q, x (ix2 i q) * s (ix3 0 q k)) = ∑ q, x (ix2 i q) * W q j :=
    fun d k e s hs => Finset.sum_congr rfl fun q _ => by rw [hs, e]
  pointwise [k0_pay1, k0_pay2, k0_pay3, k0_pay4, k0_pay5, k0_pay6, k0_pay7, k0_pay8]
  split_ifs
  all_goals first
    | exact absurd rfl ‹_›
    | exact at_col 0 _ (Fin.ext (by simp [col, Rows.row])) s0 h0
    | exact at_col 1 _ (Fin.ext (by simp [col, Rows.row]; omega)) s1 h1
    | exact at_col 2 _ (Fin.ext (by simp [col, Rows.row]; omega)) s2 h2
    | exact at_col 3 _ (Fin.ext (by simp [col, Rows.row]; omega)) s3 h3
    | exact at_col 4 _ (Fin.ext (by simp [col, Rows.row]; omega)) s4 h4
    | exact at_col 5 _ (Fin.ext (by simp [col, Rows.row]; omega)) s5 h5
    | exact at_col 6 _ (Fin.ext (by simp [col, Rows.row]; omega)) s6 h6
    | exact at_col 7 _ (Fin.ext (by simp [col, Rows.row]; omega)) s7 h7

theorem final : (dats m 0 c).arrAt 2 cfg0.N = projArr (h m c) (w m c) := by
  refine (dats m 0 c).arrAt_eq_of_covers 2 _ (by decide +kernel) fun t hf y => ?_
  blk_simp
  rw [after0_2]
  frame_out
  idx_vars y
  rw [emb2]
  refine (side_by_side _ _ _ _ _ _ _ _ _ _ _ (fun q k => w m c (ix2 q k))
    (ld_w m c t 0 _ · · (by decide)) (ld_w m c t 1 _ · · (by decide)) (ld_w m c t 2 _ · · (by decide))
    (ld_w m c t 3 _ · · (by decide)) (ld_w m c t 4 _ · · (by decide)) (ld_w m c t 5 _ · · (by decide))
    (ld_w m c t 6 _ · · (by decide)) (ld_w m c t 7 _ · · (by decide))).trans ?_
  simp only [blk_h]
  rfl

end Cert.Proj.Kernel

end
-- ==== Proof.Proj.Reference.lean ====
/-
  What the reference of the input projection computes.
-/
module

public import proofs.«01_k».proof.Proof.Gen.ProjRIdeal.Read
public import proofs.«01_k».proof.Proof.Proj.Spec
public import Idealize.ShloMosaic.Lib.Pointwise

@[expose] public section

set_option maxRecDepth 16384

noncomputable section

namespace Cert.Proj.Reference

open Idealize.ShloMosaic Cert.ProjRIdeal Cert.ProjRIdeal.Gen Cert.ProjRIdeal.Read

theorem proj_eq (x0 : Wide) (x1 : Weight) : val_main_v0 (F := Ideal) x0 x1 = projArr x0 x1 := by
  funext i
  idx_vars i
  pointwise [projArr, val_main_v0]
  rfl

end Cert.Proj.Reference

end
-- ==== Proof.Proj.Claims.lean ====
/-
  The claims about the input projection: its runs end quietly with the arguments unchanged, and on all arguments it returns
  the product.
-/
module

public import proofs.«01_k».proof.Defs
public import proofs.«01_k».proof.Proof.Gen.ProjK.Frame
public import proofs.«01_k».proof.Proof.Gen.ProjRIdeal.Run
public import proofs.«01_k».proof.Proof.Proj.Kernel
public import proofs.«01_k».proof.Proof.Proj.Reference
public import Idealize.ShloMosaic.Lib.Quiescent

@[expose] public section

set_option maxRecDepth 16384

noncomputable section

namespace Cert.Proj.Claims

open Idealize.ShloMosaic Idealize.SL.Sem

theorem frame_kernel : Cert.quiescent_ProjK := fun m ρ _ => Cert.ProjK.Gen.frame m ρ
theorem frame_ideal : Cert.quiescent_ProjKIdeal := fun m ρ _ => Cert.ProjKIdeal.Gen.frame m ρ
theorem frame_reference : Cert.quiescent_ProjRIdeal := fun m ρ _ =>
  (θ_run Cert.ProjRIdeal.defs _ _).mono (fun r h => ⟨fun c => (h c).2, sem_eq_zero_of_no_sems (by decide) r.2⟩)
    (Cert.ProjRIdeal.Value.run (F := Ideal) m ρ)
theorem preserves : Cert.preserves_ProjK_ProjKIdeal := trivial

theorem algebraic : Cert.algebraic_ProjKIdeal_ProjRIdeal := by
  intro m ρ m' ρ' _ hagree
  refine ⟨fun c => projArr (Kernel.h m c) (Kernel.w m c), ?_, ?_⟩
  · exact (θ_run Cert.ProjKIdeal.defs _ _).mono
      (fun r h c => ⟨(h c).1.trans (Kernel.final m c), (h c).2⟩)
      (Cert.ProjKIdeal.Value.run_blocks (F := Ideal) m ρ)
  · refine (θ_run Cert.ProjRIdeal.defs _ _).mono (fun r h c => ⟨?_, (h c).2⟩)
      (Cert.ProjRIdeal.Value.run (F := Ideal) m' ρ')
    obtain ⟨e0, e1⟩ := hagree c
    refine ((h c).1.trans (Cert.ProjRIdeal.Read.val_main_v0_eq _ _)).trans ((Reference.proj_eq _ _).trans ?_)
    exact congrArg₂ projArr e0 e1

end Cert.Proj.Claims

end
-- ==== Proof.lean ====
module

public import proofs.«01_k».proof.Defs
public import proofs.«01_k».proof.Proof.Gen.LossK
public import proofs.«01_k».proof.Proof.Gen.LossK.Skeleton
public import proofs.«01_k».proof.Proof.Gen.LossK.Launch
public import proofs.«01_k».proof.Proof.Gen.LossK.Points
public import proofs.«01_k».proof.Proof.Gen.LossK.Frame
public import proofs.«01_k».proof.Proof.Gen.LossKIdeal
public import proofs.«01_k».proof.Proof.Gen.LossKIdeal.Skeleton
public import proofs.«01_k».proof.Proof.Gen.LossKIdeal.Launch
public import proofs.«01_k».proof.Proof.Gen.LossKIdeal.Points
public import proofs.«01_k».proof.Proof.Gen.LossKIdeal.Frame
public import proofs.«01_k».proof.Proof.Gen.LossRIdeal
public import proofs.«01_k».proof.Proof.Gen.Pre_loss_finite
public import proofs.«01_k».proof.Proof.Gen.LossKIdeal.Value
public import proofs.«01_k».proof.Proof.Gen.LossRIdeal.Run
public import proofs.«01_k».proof.Proof.Gen.LossRIdeal.Read
public import proofs.«01_k».proof.Proof.Gen.ReluK.Frame
public import proofs.«01_k».proof.Proof.Gen.ReluKIdeal.Value
public import proofs.«01_k».proof.Proof.Gen.ReluRIdeal.Run
public import proofs.«01_k».proof.Proof.Gen.ReluRIdeal.Read
public import proofs.«01_k».proof.Proof.Gen.NormK.Frame
public import proofs.«01_k».proof.Proof.Gen.NormKIdeal.Value
public import proofs.«01_k».proof.Proof.Gen.NormRIdeal.Run
public import proofs.«01_k».proof.Proof.Gen.NormRIdeal.Read
public import proofs.«01_k».proof.Proof.Gen.InK.Frame
public import proofs.«01_k».proof.Proof.Gen.InKIdeal.Value
public import proofs.«01_k».proof.Proof.Gen.InRIdeal.Run
public import proofs.«01_k».proof.Proof.Gen.InRIdeal.Read
public import proofs.«01_k».proof.Proof.Gen.MixK.Frame
public import proofs.«01_k».proof.Proof.Gen.MixKIdeal.Value
public import proofs.«01_k».proof.Proof.Gen.MixRIdeal.Value
public import proofs.«01_k».proof.Proof.Gen.GateK.Frame
public import proofs.«01_k».proof.Proof.Gen.GateKIdeal.Value
public import proofs.«01_k».proof.Proof.Gen.GateRIdeal.Run
public import proofs.«01_k».proof.Proof.Gen.GateRIdeal.Read
public import proofs.«01_k».proof.Proof.Gen.Pre_ff2_finite
public import proofs.«01_k».proof.Proof.Gen.Pre_ff1_finite
public import proofs.«01_k».proof.Proof.Gen.Pre_in_finite
public import proofs.«01_k».proof.Proof.Gen.Pre_mix_finite
public import proofs.«01_k».proof.Proof.Loss.Claims
public import proofs.«01_k».proof.Proof.Relu.Claims
public import proofs.«01_k».proof.Proof.Norm.Claims
public import proofs.«01_k».proof.Proof.In.Claims
public import proofs.«01_k».proof.Proof.Mix.Claims
public import proofs.«01_k».proof.Proof.Gate.Claims
public import proofs.«01_k».proof.Proof.Attn.Claims
public import proofs.«01_k».proof.Proof.Disc.Claims
public import proofs.«01_k».proof.Proof.Attend.Claims
public import proofs.«01_k».proof.Proof.Act.Claims
public import proofs.«01_k».proof.Proof.Post.Claims
public import proofs.«01_k».proof.Proof.Out.Claims
public import proofs.«01_k».proof.Proof.Join.Claims
public import proofs.«01_k».proof.Proof.First.Claims
public import proofs.«01_k».proof.Proof.Params.Claims
public import proofs.«01_k».proof.Proof.Proj.Claims
public import Idealize.ShloMosaic.Adequacy
public import Idealize.ShloMosaic.Init

@[expose] public section

noncomputable section

namespace Cert.Proof

open Idealize.ShloMosaic Idealize.SL.Sem Cert.LossK

theorem claim : Cert.Claim :=
  ⟨Cert.LossK.Gen.facts, Cert.LossKIdeal.Gen.facts, Cert.LossRIdeal.Gen.facts,
    Cert.ReluK.Gen.facts, Cert.ReluKIdeal.Gen.facts, Cert.ReluRIdeal.Gen.facts,
    Cert.NormK.Gen.facts, Cert.NormKIdeal.Gen.facts, Cert.NormRIdeal.Gen.facts,
    Cert.InK.Gen.facts, Cert.InKIdeal.Gen.facts, Cert.InRIdeal.Gen.facts,
    Cert.MixK.Gen.facts, Cert.MixKIdeal.Gen.facts, Cert.MixRIdeal.Gen.facts,
    Cert.GateK.Gen.facts, Cert.GateKIdeal.Gen.facts, Cert.GateRIdeal.Gen.facts,
    Cert.AttnK.Gen.facts, Cert.AttnKIdeal.Gen.facts, Cert.AttnRIdeal.Gen.facts,
    Cert.DiscK.Gen.facts, Cert.DiscKIdeal.Gen.facts, Cert.DiscRIdeal.Gen.facts,
    Cert.AttendK.Gen.facts, Cert.AttendKIdeal.Gen.facts, Cert.AttendRIdeal.Gen.facts,
    Cert.ActK.Gen.facts, Cert.ActKIdeal.Gen.facts, Cert.ActRIdeal.Gen.facts,
    Cert.PostK.Gen.facts, Cert.PostKIdeal.Gen.facts, Cert.PostRIdeal.Gen.facts,
    Cert.OutK.Gen.facts, Cert.OutKIdeal.Gen.facts, Cert.OutRIdeal.Gen.facts,
    Cert.JoinK.Gen.facts, Cert.JoinKIdeal.Gen.facts, Cert.JoinRIdeal.Gen.facts,
    Cert.FirstK.Gen.facts, Cert.FirstKIdeal.Gen.facts, Cert.FirstRIdeal.Gen.facts,
    Cert.ParamsK.Gen.facts, Cert.ParamsKIdeal.Gen.facts, Cert.ParamsRIdeal.Gen.facts,
    Cert.ProjK.Gen.facts, Cert.ProjKIdeal.Gen.facts, Cert.ProjRIdeal.Gen.facts,
    Cert.Pre_loss_finite.Gen.facts, Cert.Pre_ff2_finite.Gen.facts, Cert.Pre_ff1_finite.Gen.facts, Cert.Pre_in_finite.Gen.facts, Cert.Pre_mix_finite.Gen.facts, Cert.Pre_attn_finite.Gen.facts, Cert.Pre_attend_finite.Gen.facts,
    Loss.Claims.frame_kernel, Loss.Claims.frame_ideal, Loss.Claims.frame_ideal_pre, Loss.Claims.frame_reference, Loss.Claims.frame_reference_pre,
    Relu.Claims.frame_kernel, Relu.Claims.frame_ideal, Relu.Claims.frame_ideal_pre, Relu.Claims.frame_reference, Relu.Claims.frame_reference_pre,
    Norm.Claims.frame_kernel, Norm.Claims.frame_ideal, Norm.Claims.frame_ideal_pre, Norm.Claims.frame_reference, Norm.Claims.frame_reference_pre,
    In.Claims.frame_kernel, In.Claims.frame_ideal, In.Claims.frame_ideal_pre, In.Claims.frame_reference, In.Claims.frame_reference_pre,
    Mix.Claims.frame_kernel, Mix.Claims.frame_ideal, Mix.Claims.frame_ideal_pre, Mix.Claims.frame_reference, Mix.Claims.frame_reference_pre,
    Gate.Claims.frame_kernel, Gate.Claims.frame_ideal, Gate.Claims.frame_reference,
    Attn.Claims.frame_kernel, Attn.Claims.frame_ideal, Attn.Claims.frame_ideal_pre, Attn.Claims.frame_reference, Attn.Claims.frame_reference_pre,
    Disc.Claims.frame_kernel, Disc.Claims.frame_ideal, Disc.Claims.frame_reference,
    Attend.Claims.frame_kernel, Attend.Claims.frame_ideal, Attend.Claims.frame_ideal_pre, Attend.Claims.frame_reference, Attend.Claims.frame_reference_pre,
    Act.Claims.frame_kernel, Act.Claims.frame_ideal, Act.Claims.frame_reference,
    Post.Claims.frame_kernel, Post.Claims.frame_ideal, Post.Claims.frame_reference,
    Out.Claims.frame_kernel, Out.Claims.frame_ideal, Out.Claims.frame_reference,
    Join.Claims.frame_kernel, Join.Claims.frame_ideal, Join.Claims.frame_reference,
    First.Claims.frame_kernel, First.Claims.frame_ideal, First.Claims.frame_reference,
    Params.Claims.frame_kernel, Params.Claims.frame_ideal, Params.Claims.frame_reference,
    Proj.Claims.frame_kernel, Proj.Claims.frame_ideal, Proj.Claims.frame_reference,
    Loss.Claims.preserves, Loss.Claims.algebraic,
    Relu.Claims.preserves, Relu.Claims.algebraic,
    Norm.Claims.preserves, Norm.Claims.algebraic,
    In.Claims.preserves, In.Claims.algebraic,
    Mix.Claims.preserves, Mix.Claims.algebraic,
    Gate.Claims.preserves, Gate.Claims.algebraic,
    Attn.Claims.preserves, Attn.Claims.algebraic,
    Disc.Claims.preserves, Disc.Claims.algebraic,
    Attend.Claims.preserves, Attend.Claims.algebraic,
    Act.Claims.preserves, Act.Claims.algebraic,
    Post.Claims.preserves, Post.Claims.algebraic,
    Out.Claims.preserves, Out.Claims.algebraic,
    Join.Claims.preserves, Join.Claims.algebraic,
    First.Claims.preserves, First.Claims.algebraic,
    Params.Claims.preserves, Params.Claims.algebraic,
    Proj.Claims.preserves, Proj.Claims.algebraic⟩

end Cert.Proof

end
